-- ==== Defs.lean ====
def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnDx (m : (ℓ : Loc Cert.FfnDx.nD Cert.FfnDx.τ Cert.FfnDx.sig) → Buf (Elt Bits) ℓ) : Prop :=
  True

def Pre_FfnDxIdeal (m : (ℓ : Loc Cert.FfnDxIdeal.nD Cert.FfnDxIdeal.τ Cert.FfnDxIdeal.sig) → Buf (Elt Ideal) ℓ) : Prop :=
  True

def Pre_FfnDxRefIdeal (m : (ℓ : Loc Cert.FfnDxRefIdeal.nD Cert.FfnDxRefIdeal.τ Cert.FfnDxRefIdeal.sig) → Buf (Elt Ideal) ℓ) : Prop :=
  True

def Pre_GateDx (m : (ℓ : Loc Cert.GateDx.nD Cert.GateDx.τ Cert.GateDx.sig) → Buf (Elt Bits) ℓ) : Prop :=
  True

def Pre_GateDxIdeal (m : (ℓ : Loc Cert.GateDxIdeal.nD Cert.GateDxIdeal.τ Cert.GateDxIdeal.sig) → Buf (Elt Ideal) ℓ) : Prop :=
  True

def Pre_GateDxRefIdeal (m : (ℓ : Loc Cert.GateDxRefIdeal.nD Cert.GateDxRefIdeal.τ Cert.GateDxRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_ProjDw (m : (ℓ : Loc Cert.ProjDw.nD Cert.ProjDw.τ Cert.ProjDw.sig) → Buf (Elt Bits) ℓ) : Prop :=
  True

def Pre_ProjDwIdeal (m : (ℓ : Loc Cert.ProjDwIdeal.nD Cert.ProjDwIdeal.τ Cert.ProjDwIdeal.sig) → Buf (Elt Ideal) ℓ) : Prop :=
  True

def Pre_ProjDwRefIdeal (m : (ℓ : Loc Cert.ProjDwRefIdeal.nD Cert.ProjDwRefIdeal.τ Cert.ProjDwRefIdeal.sig) → Buf (Elt Ideal) ℓ) : Prop :=
  True

def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RmsBwdRefIdeal (m : (ℓ : Loc Cert.RmsBwdRefIdeal.nD Cert.RmsBwdRefIdeal.τ Cert.RmsBwdRefIdeal.sig) → Buf (Elt Ideal) ℓ) : Prop :=
  True

def Pre_MemAttn (m : (ℓ : Loc Cert.MemAttn.nD Cert.MemAttn.τ Cert.MemAttn.sig) → Buf (Elt Bits) ℓ) : Prop :=
  True

def Pre_MemAttnIdeal (m : (ℓ : Loc Cert.MemAttnIdeal.nD Cert.MemAttnIdeal.τ Cert.MemAttnIdeal.sig) → Buf (Elt Ideal) ℓ) : Prop :=
  True

def Pre_MemAttnRefIdeal (m : (ℓ : Loc Cert.MemAttnRefIdeal.nD Cert.MemAttnRefIdeal.τ Cert.MemAttnRefIdeal.sig) → Buf (Elt Ideal) ℓ) : Prop :=
  True

def Pre_Ret (m : (ℓ : Loc Cert.Ret.nD Cert.Ret.τ Cert.Ret.sig) → Buf (Elt Bits) ℓ) : Prop :=
  True

def Pre_RetIdeal (m : (ℓ : Loc Cert.RetIdeal.nD Cert.RetIdeal.τ Cert.RetIdeal.sig) → Buf (Elt Ideal) ℓ) : Prop :=
  True

def Pre_RetRefIdeal (m : (ℓ : Loc Cert.RetRefIdeal.nD Cert.RetRefIdeal.τ Cert.RetRefIdeal.sig) → Buf (Elt Ideal) ℓ) : Prop :=
  True

def Pre_MemProj (m : (ℓ : Loc Cert.MemProj.nD Cert.MemProj.τ Cert.MemProj.sig) → Buf (Elt Bits) ℓ) : Prop :=
  True

def Pre_MemProjIdeal (m : (ℓ : Loc Cert.MemProjIdeal.nD Cert.MemProjIdeal.τ Cert.MemProjIdeal.sig) → Buf (Elt Ideal) ℓ) : Prop :=
  True

def Pre_MemProjRefIdeal (m : (ℓ : Loc Cert.MemProjRefIdeal.nD Cert.MemProjRefIdeal.τ Cert.MemProjRefIdeal.sig) → Buf (Elt Ideal) ℓ) : Prop :=
  True

def Pre_RmsFfn (m : (ℓ : Loc Cert.RmsFfn.nD Cert.RmsFfn.τ Cert.RmsFfn.sig) → Buf (Elt Bits) ℓ) : Prop :=
  True

def Pre_RmsFfnIdeal (m : (ℓ : Loc Cert.RmsFfnIdeal.nD Cert.RmsFfnIdeal.τ Cert.RmsFfnIdeal.sig) → Buf (Elt Ideal) ℓ) : Prop :=
  True

def Pre_RmsFfnRefIdeal (m : (ℓ : Loc Cert.RmsFfnRefIdeal.nD Cert.RmsFfnRefIdeal.τ Cert.RmsFfnRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallRefIdeal (m : (ℓ : Loc Cert.SmallRefIdeal.nD Cert.SmallRefIdeal.τ Cert.SmallRefIdeal.sig) → Buf (Elt Ideal) ℓ) : Prop :=
  True

def Pre_AdamFfnIn (m : (ℓ : Loc Cert.AdamFfnIn.nD Cert.AdamFfnIn.τ Cert.AdamFfnIn.sig) → Buf (Elt Bits) ℓ) : Prop :=
  True

def Pre_AdamFfnInIdeal (m : (ℓ : Loc Cert.AdamFfnInIdeal.nD Cert.AdamFfnInIdeal.τ Cert.AdamFfnInIdeal.sig) → Buf (Elt Ideal) ℓ) : Prop :=
  True

def Pre_AdamFfnInRefIdeal (m : (ℓ : Loc Cert.AdamFfnInRefIdeal.nD Cert.AdamFfnInRefIdeal.τ Cert.AdamFfnInRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamGate (m : (ℓ : Loc Cert.AdamGate.nD Cert.AdamGate.τ Cert.AdamGate.sig) → Buf (Elt Bits) ℓ) : Prop :=
  True

def Pre_AdamGateIdeal (m : (ℓ : Loc Cert.AdamGateIdeal.nD Cert.AdamGateIdeal.τ Cert.AdamGateIdeal.sig) → Buf (Elt Ideal) ℓ) : Prop :=
  True

def Pre_AdamGateRefIdeal (m : (ℓ : Loc Cert.AdamGateRefIdeal.nD Cert.AdamGateRefIdeal.τ Cert.AdamGateRefIdeal.sig) → Buf (Elt Ideal) ℓ) : Prop :=
  True

def Pre_AdamMemKv (m : (ℓ : Loc Cert.AdamMemKv.nD Cert.AdamMemKv.τ Cert.AdamMemKv.sig) → Buf (Elt Bits) ℓ) : Prop :=
  True

def Pre_AdamMemKvIdeal (m : (ℓ : Loc Cert.AdamMemKvIdeal.nD Cert.AdamMemKvIdeal.τ Cert.AdamMemKvIdeal.sig) → Buf (Elt Ideal) ℓ) : Prop :=
  True

def Pre_AdamMemKvRefIdeal (m : (ℓ : Loc Cert.AdamMemKvRefIdeal.nD Cert.AdamMemKvRefIdeal.τ Cert.AdamMemKvRefIdeal.sig) → Buf (Elt Ideal) ℓ) : Prop :=
  True

def Pre_AdamBranch (m : (ℓ : Loc Cert.AdamBranch.nD Cert.AdamBranch.τ Cert.AdamBranch.sig) → Buf (Elt Bits) ℓ) : Prop :=
  True

def Pre_AdamBranchIdeal (m : (ℓ : Loc Cert.AdamBranchIdeal.nD Cert.AdamBranchIdeal.τ Cert.AdamBranchIdeal.sig) → Buf (Elt Ideal) ℓ) : Prop :=
  True

def Pre_AdamBranchRefIdeal (m : (ℓ : Loc Cert.AdamBranchRefIdeal.nD Cert.AdamBranchRefIdeal.τ Cert.AdamBranchRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamFfnOut (m : (ℓ : Loc Cert.AdamFfnOut.nD Cert.AdamFfnOut.τ Cert.AdamFfnOut.sig) → Buf (Elt Bits) ℓ) : Prop :=
  True

def Pre_AdamFfnOutIdeal (m : (ℓ : Loc Cert.AdamFfnOutIdeal.nD Cert.AdamFfnOutIdeal.τ Cert.AdamFfnOutIdeal.sig) → Buf (Elt Ideal) ℓ) : Prop :=
  True

def Pre_AdamFfnOutRefIdeal (m : (ℓ : Loc Cert.AdamFfnOutRefIdeal.nD Cert.AdamFfnOutRefIdeal.τ Cert.AdamFfnOutRefIdeal.sig) → Buf (Elt Ideal) ℓ) : Prop :=
  True

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4)
      ∧ r.2.mem ((c.tc : Thread Cert.Gate.nD Cert.Gate.τ).loc Cert.Gate.main_arg5) = m ((c.tc : Thread Cert.Gate.nD Cert.Gate.τ).loc Cert.Gate.main_arg5)
      ∧ r.2.mem ((c.tc : Thread Cert.Gate.nD Cert.Gate.τ).loc Cert.Gate.main_arg6) = m ((c.tc : Thread Cert.Gate.nD Cert.Gate.τ).loc Cert.Gate.main_arg6))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5)
      ∧ r.2.mem ((c.tc : Thread Cert.GateIdeal.nD Cert.GateIdeal.τ).loc Cert.GateIdeal.main_arg6) = m ((c.tc : Thread Cert.GateIdeal.nD Cert.GateIdeal.τ).loc Cert.GateIdeal.main_arg6))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4)
      ∧ r.2.mem ((c.tc : Thread Cert.GateRefIdeal.nD Cert.GateRefIdeal.τ).loc Cert.GateRefIdeal.main_arg5) = m ((c.tc : Thread Cert.GateRefIdeal.nD Cert.GateRefIdeal.τ).loc Cert.GateRefIdeal.main_arg5)
      ∧ r.2.mem ((c.tc : Thread Cert.GateRefIdeal.nD Cert.GateRefIdeal.τ).loc Cert.GateRefIdeal.main_arg6) = m ((c.tc : Thread Cert.GateRefIdeal.nD Cert.GateRefIdeal.τ).loc Cert.GateRefIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnDx [hFfnDx : Cert.FfnDx.Facts] : Prop :=
  ∀ (m : (ℓ : Loc Cert.FfnDx.nD Cert.FfnDx.τ Cert.FfnDx.sig) → Buf (Elt Bits) ℓ) (g : Dev Cert.FfnDx.nD → PrngReg), Pre_FfnDx m →
    θ_run (Cert.FfnDx.defs (F := Bits)) (onTc (τ := Cert.FfnDx.τ) (Cert.FfnDx.main (F := Bits))) ⟨m, fun _ => 0, g⟩ (fun r => (∀ c : Dev Cert.FfnDx.nD,
      r.2.mem ((c.tc : Thread Cert.FfnDx.nD Cert.FfnDx.τ).loc Cert.FfnDx.main_arg0) = m ((c.tc : Thread Cert.FfnDx.nD Cert.FfnDx.τ).loc Cert.FfnDx.main_arg0)
      ∧ r.2.mem ((c.tc : Thread Cert.FfnDx.nD Cert.FfnDx.τ).loc Cert.FfnDx.main_arg1) = m ((c.tc : Thread Cert.FfnDx.nD Cert.FfnDx.τ).loc Cert.FfnDx.main_arg1))
      ∧ r.2.sem = fun _ => 0)

def quiescent_FfnDxIdeal [hFfnDxIdeal : Cert.FfnDxIdeal.Facts] : Prop :=
  ∀ (m : (ℓ : Loc Cert.FfnDxIdeal.nD Cert.FfnDxIdeal.τ Cert.FfnDxIdeal.sig) → Buf (Elt Ideal) ℓ) (g : Dev Cert.FfnDxIdeal.nD → PrngReg), Pre_FfnDxIdeal m →
    θ_run (Cert.FfnDxIdeal.defs (F := Ideal)) (onTc (τ := Cert.FfnDxIdeal.τ) (Cert.FfnDxIdeal.main (F := Ideal))) ⟨m, fun _ => 0, g⟩ (fun r => (∀ c : Dev Cert.FfnDxIdeal.nD,
      r.2.mem ((c.tc : Thread Cert.FfnDxIdeal.nD Cert.FfnDxIdeal.τ).loc Cert.FfnDxIdeal.main_arg0) = m ((c.tc : Thread Cert.FfnDxIdeal.nD Cert.FfnDxIdeal.τ).loc Cert.FfnDxIdeal.main_arg0)
      ∧ r.2.mem ((c.tc : Thread Cert.FfnDxIdeal.nD Cert.FfnDxIdeal.τ).loc Cert.FfnDxIdeal.main_arg1) = m ((c.tc : Thread Cert.FfnDxIdeal.nD Cert.FfnDxIdeal.τ).loc Cert.FfnDxIdeal.main_arg1))
      ∧ r.2.sem = fun _ => 0)

def quiescent_FfnDxRefIdeal [hFfnDxRefIdeal : Cert.FfnDxRefIdeal.Facts] : Prop :=
  ∀ (m : (ℓ : Loc Cert.FfnDxRefIdeal.nD Cert.FfnDxRefIdeal.τ Cert.FfnDxRefIdeal.sig) → Buf (Elt Ideal) ℓ) (g : Dev Cert.FfnDxRefIdeal.nD → PrngReg), Pre_FfnDxRefIdeal m →
    θ_run (Cert.FfnDxRefIdeal.defs (F := Ideal)) (onTc (τ := Cert.FfnDxRefIdeal.τ) (Cert.FfnDxRefIdeal.main (F := Ideal))) ⟨m, fun _ => 0, g⟩ (fun r => (∀ c : Dev Cert.FfnDxRefIdeal.nD,
      r.2.mem ((c.tc : Thread Cert.FfnDxRefIdeal.nD Cert.FfnDxRefIdeal.τ).loc Cert.FfnDxRefIdeal.main_arg0) = m ((c.tc : Thread Cert.FfnDxRefIdeal.nD Cert.FfnDxRefIdeal.τ).loc Cert.FfnDxRefIdeal.main_arg0)
      ∧ r.2.mem ((c.tc : Thread Cert.FfnDxRefIdeal.nD Cert.FfnDxRefIdeal.τ).loc Cert.FfnDxRefIdeal.main_arg1) = m ((c.tc : Thread Cert.FfnDxRefIdeal.nD Cert.FfnDxRefIdeal.τ).loc Cert.FfnDxRefIdeal.main_arg1))
      ∧ r.2.sem = fun _ => 0)

def quiescent_GateDx [hGateDx : Cert.GateDx.Facts] : Prop :=
  ∀ (m : (ℓ : Loc Cert.GateDx.nD Cert.GateDx.τ Cert.GateDx.sig) → Buf (Elt Bits) ℓ) (g : Dev Cert.GateDx.nD → PrngReg), Pre_GateDx m →
    θ_run (Cert.GateDx.defs (F := Bits)) (onTc (τ := Cert.GateDx.τ) (Cert.GateDx.main (F := Bits))) ⟨m, fun _ => 0, g⟩ (fun r => (∀ c : Dev Cert.GateDx.nD,
      r.2.mem ((c.tc : Thread Cert.GateDx.nD Cert.GateDx.τ).loc Cert.GateDx.main_arg0) = m ((c.tc : Thread Cert.GateDx.nD Cert.GateDx.τ).loc Cert.GateDx.main_arg0)
      ∧ r.2.mem ((c.tc : Thread Cert.GateDx.nD Cert.GateDx.τ).loc Cert.GateDx.main_arg1) = m ((c.tc : Thread Cert.GateDx.nD Cert.GateDx.τ).loc Cert.GateDx.main_arg1))
      ∧ r.2.sem = fun _ => 0)

def quiescent_GateDxIdeal [hGateDxIdeal : Cert.GateDxIdeal.Facts] : Prop :=
  ∀ (m : (ℓ : Loc Cert.GateDxIdeal.nD Cert.GateDxIdeal.τ Cert.GateDxIdeal.sig) → Buf (Elt Ideal) ℓ) (g : Dev Cert.GateDxIdeal.nD → PrngReg), Pre_GateDxIdeal m →
    θ_run (Cert.GateDxIdeal.defs (F := Ideal)) (onTc (τ := Cert.GateDxIdeal.τ) (Cert.GateDxIdeal.main (F := Ideal))) ⟨m, fun _ => 0, g⟩ (fun r => (∀ c : Dev Cert.GateDxIdeal.nD,
      r.2.mem ((c.tc : Thread Cert.GateDxIdeal.nD Cert.GateDxIdeal.τ).loc Cert.GateDxIdeal.main_arg0) = m ((c.tc : Thread Cert.GateDxIdeal.nD Cert.GateDxIdeal.τ).loc Cert.GateDxIdeal.main_arg0)
      ∧ r.2.mem ((c.tc : Thread Cert.GateDxIdeal.nD Cert.GateDxIdeal.τ).loc Cert.GateDxIdeal.main_arg1) = m ((c.tc : Thread Cert.GateDxIdeal.nD Cert.GateDxIdeal.τ).loc Cert.GateDxIdeal.main_arg1))
      ∧ r.2.sem = fun _ => 0)

def quiescent_GateDxRefIdeal [hGateDxRefIdeal : Cert.GateDxRefIdeal.Facts] : Prop :=
  ∀ (m : (ℓ : Loc Cert.GateDxRefIdeal.nD Cert.GateDxRefIdeal.τ Cert.GateDxRefIdeal.sig) → Buf (Elt Ideal) ℓ) (g : Dev Cert.GateDxRefIdeal.nD → PrngReg), Pre_GateDxRefIdeal m →
    θ_run (Cert.GateDxRefIdeal.defs (F := Ideal)) (onTc (τ := Cert.GateDxRefIdeal.τ) (Cert.GateDxRefIdeal.main (F := Ideal))) ⟨m, fun _ => 0, g⟩ (fun r => (∀ c : Dev Cert.GateDxRefIdeal.nD,
      r.2.mem ((c.tc : Thread Cert.GateDxRefIdeal.nD Cert.GateDxRefIdeal.τ).loc Cert.GateDxRefIdeal.main_arg0) = m ((c.tc : Thread Cert.GateDxRefIdeal.nD Cert.GateDxRefIdeal.τ).loc Cert.GateDxRefIdeal.main_arg0)
      ∧ r.2.mem ((c.tc : Thread Cert.GateDxRefIdeal.nD Cert.GateDxRefIdeal.τ).loc Cert.GateDxRefIdeal.main_arg1) = m ((c.tc : Thread Cert.GateDxRefIdeal.nD Cert.GateDxRefIdeal.τ).loc Cert.GateDxRefIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10))
      ∧ r.2.sem = fun _ => 0)

def quiescent_ProjDw [hProjDw : Cert.ProjDw.Facts] : Prop :=
  ∀ (m : (ℓ : Loc Cert.ProjDw.nD Cert.ProjDw.τ Cert.ProjDw.sig) → Buf (Elt Bits) ℓ) (g : Dev Cert.ProjDw.nD → PrngReg), Pre_ProjDw m →
    θ_run (Cert.ProjDw.defs (F := Bits)) (onTc (τ := Cert.ProjDw.τ) (Cert.ProjDw.main (F := Bits))) ⟨m, fun _ => 0, g⟩ (fun r => (∀ c : Dev Cert.ProjDw.nD,
      r.2.mem ((c.tc : Thread Cert.ProjDw.nD Cert.ProjDw.τ).loc Cert.ProjDw.main_arg0) = m ((c.tc : Thread Cert.ProjDw.nD Cert.ProjDw.τ).loc Cert.ProjDw.main_arg0)
      ∧ r.2.mem ((c.tc : Thread Cert.ProjDw.nD Cert.ProjDw.τ).loc Cert.ProjDw.main_arg1) = m ((c.tc : Thread Cert.ProjDw.nD Cert.ProjDw.τ).loc Cert.ProjDw.main_arg1)
      ∧ r.2.mem ((c.tc : Thread Cert.ProjDw.nD Cert.ProjDw.τ).loc Cert.ProjDw.main_arg2) = m ((c.tc : Thread Cert.ProjDw.nD Cert.ProjDw.τ).loc Cert.ProjDw.main_arg2)
      ∧ r.2.mem ((c.tc : Thread Cert.ProjDw.nD Cert.ProjDw.τ).loc Cert.ProjDw.main_arg3) = m ((c.tc : Thread Cert.ProjDw.nD Cert.ProjDw.τ).loc Cert.ProjDw.main_arg3))
      ∧ r.2.sem = fun _ => 0)

def quiescent_ProjDwIdeal [hProjDwIdeal : Cert.ProjDwIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg), Pre_ProjDwIdeal m →
    θ_run (Cert.ProjDwIdeal.defs (F := Ideal)) (onTc (τ := Cert.ProjDwIdeal.τ) (Cert.ProjDwIdeal.main (F := Ideal))) ⟨m, fun _ => 0, g⟩ (fun r => (∀ c : Dev Cert.ProjDwIdeal.nD,
      r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
      ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1)
      ∧ r.2.mem ((c.tc : Thread Cert.ProjDwIdeal.nD Cert.ProjDwIdeal.τ).loc Cert.ProjDwIdeal.main_arg2) = m ((c.tc : Thread Cert.ProjDwIdeal.nD Cert.ProjDwIdeal.τ).loc Cert.ProjDwIdeal.main_arg2)
      ∧ r.2.mem ((c.tc : Thread Cert.ProjDwIdeal.nD Cert.ProjDwIdeal.τ).loc Cert.ProjDwIdeal.main_arg3) = m ((c.tc : Thread Cert.ProjDwIdeal.nD Cert.ProjDwIdeal.τ).loc Cert.ProjDwIdeal.main_arg3))
      ∧ r.2.sem = fun _ => 0)

def quiescent_ProjDwRefIdeal [hProjDwRefIdeal : Cert.ProjDwRefIdeal.Facts] : Prop :=
  ∀ (m : (ℓ : Loc Cert.ProjDwRefIdeal.nD Cert.ProjDwRefIdeal.τ Cert.ProjDwRefIdeal.sig) → Buf (Elt Ideal) ℓ) (g : Dev Cert.ProjDwRefIdeal.nD → PrngReg), Pre_ProjDwRefIdeal m →
    θ_run (Cert.ProjDwRefIdeal.defs (F := Ideal)) (onTc (τ := Cert.ProjDwRefIdeal.τ) (Cert.ProjDwRefIdeal.main (F := Ideal))) ⟨m, fun _ => 0, g⟩ (fun r => (∀ c : Dev Cert.ProjDwRefIdeal.nD,
      r.2.mem ((c.tc : Thread Cert.ProjDwRefIdeal.nD Cert.ProjDwRefIdeal.τ).loc Cert.ProjDwRefIdeal.main_arg0) = m ((c.tc : Thread Cert.ProjDwRefIdeal.nD Cert.ProjDwRefIdeal.τ).loc Cert.ProjDwRefIdeal.main_arg0)
      ∧ r.2.mem ((c.tc : Thread Cert.ProjDwRefIdeal.nD Cert.ProjDwRefIdeal.τ).loc Cert.ProjDwRefIdeal.main_arg1) = m ((c.tc : Thread Cert.ProjDwRefIdeal.nD Cert.ProjDwRefIdeal.τ).loc Cert.ProjDwRefIdeal.main_arg1)
      ∧ r.2.mem ((c.tc : Thread Cert.ProjDwRefIdeal.nD Cert.ProjDwRefIdeal.τ).loc Cert.ProjDwRefIdeal.main_arg2) = m ((c.tc : Thread Cert.ProjDwRefIdeal.nD Cert.ProjDwRefIdeal.τ).loc Cert.ProjDwRefIdeal.main_arg2)
      ∧ r.2.mem ((c.tc : Thread Cert.ProjDwRefIdeal.nD Cert.ProjDwRefIdeal.τ).loc Cert.ProjDwRefIdeal.main_arg3) = m ((c.tc : Thread Cert.ProjDwRefIdeal.nD Cert.ProjDwRefIdeal.τ).loc Cert.ProjDwRefIdeal.main_arg3))
      ∧ r.2.sem = fun _ => 0)

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3)
      ∧ r.2.mem ((c.tc : Thread Cert.RmsBwd.nD Cert.RmsBwd.τ).loc Cert.RmsBwd.main_arg4) = m ((c.tc : Thread Cert.RmsBwd.nD Cert.RmsBwd.τ).loc Cert.RmsBwd.main_arg4))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3)
      ∧ r.2.mem ((c.tc : Thread Cert.RmsBwdIdeal.nD Cert.RmsBwdIdeal.τ).loc Cert.RmsBwdIdeal.main_arg4) = m ((c.tc : Thread Cert.RmsBwdIdeal.nD Cert.RmsBwdIdeal.τ).loc Cert.RmsBwdIdeal.main_arg4))
      ∧ r.2.sem = fun _ => 0)

def quiescent_RmsBwdRefIdeal [hRmsBwdRefIdeal : Cert.RmsBwdRefIdeal.Facts] : Prop :=
  ∀ (m : (ℓ : Loc Cert.RmsBwdRefIdeal.nD Cert.RmsBwdRefIdeal.τ Cert.RmsBwdRefIdeal.sig) → Buf (Elt Ideal) ℓ) (g : Dev Cert.RmsBwdRefIdeal.nD → PrngReg), Pre_RmsBwdRefIdeal m →
    θ_run (Cert.RmsBwdRefIdeal.defs (F := Ideal)) (onTc (τ := Cert.RmsBwdRefIdeal.τ) (Cert.RmsBwdRefIdeal.main (F := Ideal))) ⟨m, fun _ => 0, g⟩ (fun r => (∀ c : Dev Cert.RmsBwdRefIdeal.nD,
      r.2.mem ((c.tc : Thread Cert.RmsBwdRefIdeal.nD Cert.RmsBwdRefIdeal.τ).loc Cert.RmsBwdRefIdeal.main_arg0) = m ((c.tc : Thread Cert.RmsBwdRefIdeal.nD Cert.RmsBwdRefIdeal.τ).loc Cert.RmsBwdRefIdeal.main_arg0)
      ∧ r.2.mem ((c.tc : Thread Cert.RmsBwdRefIdeal.nD Cert.RmsBwdRefIdeal.τ).loc Cert.RmsBwdRefIdeal.main_arg1) = m ((c.tc : Thread Cert.RmsBwdRefIdeal.nD Cert.RmsBwdRefIdeal.τ).loc Cert.RmsBwdRefIdeal.main_arg1)
      ∧ r.2.mem ((c.tc : Thread Cert.RmsBwdRefIdeal.nD Cert.RmsBwdRefIdeal.τ).loc Cert.RmsBwdRefIdeal.main_arg2) = m ((c.tc : Thread Cert.RmsBwdRefIdeal.nD Cert.RmsBwdRefIdeal.τ).loc Cert.RmsBwdRefIdeal.main_arg2)
      ∧ r.2.mem ((c.tc : Thread Cert.RmsBwdRefIdeal.nD Cert.RmsBwdRefIdeal.τ).loc Cert.RmsBwdRefIdeal.main_arg3) = m ((c.tc : Thread Cert.RmsBwdRefIdeal.nD Cert.RmsBwdRefIdeal.τ).loc Cert.RmsBwdRefIdeal.main_arg3)
      ∧ r.2.mem ((c.tc : Thread Cert.RmsBwdRefIdeal.nD Cert.RmsBwdRefIdeal.τ).loc Cert.RmsBwdRefIdeal.main_arg4) = m ((c.tc : Thread Cert.RmsBwdRefIdeal.nD Cert.RmsBwdRefIdeal.τ).loc Cert.RmsBwdRefIdeal.main_arg4))
      ∧ r.2.sem = fun _ => 0)

def quiescent_MemAttn [hMemAttn : Cert.MemAttn.Facts] : Prop :=
  ∀ (m : (ℓ : Loc Cert.MemAttn.nD Cert.MemAttn.τ Cert.MemAttn.sig) → Buf (Elt Bits) ℓ) (g : Dev Cert.MemAttn.nD → PrngReg), Pre_MemAttn m →
    θ_run (Cert.MemAttn.defs (F := Bits)) (onTc (τ := Cert.MemAttn.τ) (Cert.MemAttn.main (F := Bits))) ⟨m, fun _ => 0, g⟩ (fun r => (∀ c : Dev Cert.MemAttn.nD,
      r.2.mem ((c.tc : Thread Cert.MemAttn.nD Cert.MemAttn.τ).loc Cert.MemAttn.main_arg0) = m ((c.tc : Thread Cert.MemAttn.nD Cert.MemAttn.τ).loc Cert.MemAttn.main_arg0)
      ∧ r.2.mem ((c.tc : Thread Cert.MemAttn.nD Cert.MemAttn.τ).loc Cert.MemAttn.main_arg1) = m ((c.tc : Thread Cert.MemAttn.nD Cert.MemAttn.τ).loc Cert.MemAttn.main_arg1)
      ∧ r.2.mem ((c.tc : Thread Cert.MemAttn.nD Cert.MemAttn.τ).loc Cert.MemAttn.main_arg2) = m ((c.tc : Thread Cert.MemAttn.nD Cert.MemAttn.τ).loc Cert.MemAttn.main_arg2)
      ∧ r.2.mem ((c.tc : Thread Cert.MemAttn.nD Cert.MemAttn.τ).loc Cert.MemAttn.main_arg3) = m ((c.tc : Thread Cert.MemAttn.nD Cert.MemAttn.τ).loc Cert.MemAttn.main_arg3)
      ∧ r.2.mem ((c.tc : Thread Cert.MemAttn.nD Cert.MemAttn.τ).loc Cert.MemAttn.main_arg4) = m ((c.tc : Thread Cert.MemAttn.nD Cert.MemAttn.τ).loc Cert.MemAttn.main_arg4))
      ∧ r.2.sem = fun _ => 0)

def quiescent_MemAttnIdeal [hMemAttnIdeal : Cert.MemAttnIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
      ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2)
      ∧ r.2.mem ((c.tc : Thread Cert.MemAttnIdeal.nD Cert.MemAttnIdeal.τ).loc Cert.MemAttnIdeal.main_arg3) = m ((c.tc : Thread Cert.MemAttnIdeal.nD Cert.MemAttnIdeal.τ).loc Cert.MemAttnIdeal.main_arg3)
      ∧ r.2.mem ((c.tc : Thread Cert.MemAttnIdeal.nD Cert.MemAttnIdeal.τ).loc Cert.MemAttnIdeal.main_arg4) = m ((c.tc : Thread Cert.MemAttnIdeal.nD Cert.MemAttnIdeal.τ).loc Cert.MemAttnIdeal.main_arg4))
      ∧ r.2.sem = fun _ => 0)

def quiescent_MemAttnRefIdeal [hMemAttnRefIdeal : Cert.MemAttnRefIdeal.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1)
      ∧ r.2.mem ((c.tc : Thread Cert.MemAttnRefIdeal.nD Cert.MemAttnRefIdeal.τ).loc Cert.MemAttnRefIdeal.main_arg2) = m ((c.tc : Thread Cert.MemAttnRefIdeal.nD Cert.MemAttnRefIdeal.τ).loc Cert.MemAttnRefIdeal.main_arg2)
      ∧ r.2.mem ((c.tc : Thread Cert.MemAttnRefIdeal.nD Cert.MemAttnRefIdeal.τ).loc Cert.MemAttnRefIdeal.main_arg3) = m ((c.tc : Thread Cert.MemAttnRefIdeal.nD Cert.MemAttnRefIdeal.τ).loc Cert.MemAttnRefIdeal.main_arg3)
      ∧ r.2.mem ((c.tc : Thread Cert.MemAttnRefIdeal.nD Cert.MemAttnRefIdeal.τ).loc Cert.MemAttnRefIdeal.main_arg4) = m ((c.tc : Thread Cert.MemAttnRefIdeal.nD Cert.MemAttnRefIdeal.τ).loc Cert.MemAttnRefIdeal.main_arg4))
      ∧ r.2.sem = fun _ => 0)

def quiescent_Ret [hRet : Cert.Ret.Facts] : Prop :=
  ∀ (m : (ℓ : Loc Cert.Ret.nD Cert.Ret.τ Cert.Ret.sig) → Buf (Elt Bits) ℓ) (g : Dev Cert.Ret.nD → PrngReg), Pre_Ret m →
    θ_run (Cert.Ret.defs (F := Bits)) (onTc (τ := Cert.Ret.τ) (Cert.Ret.main (F := Bits))) ⟨m, fun _ => 0, g⟩ (fun r => (∀ c : Dev Cert.Ret.nD,
      r.2.mem ((c.tc : Thread Cert.Ret.nD Cert.Ret.τ).loc Cert.Ret.main_arg0) = m ((c.tc : Thread Cert.Ret.nD Cert.Ret.τ).loc Cert.Ret.main_arg0)
      ∧ r.2.mem ((c.tc : Thread Cert.Ret.nD Cert.Ret.τ).loc Cert.Ret.main_arg1) = m ((c.tc : Thread Cert.Ret.nD Cert.Ret.τ).loc Cert.Ret.main_arg1)
      ∧ r.2.mem ((c.tc : Thread Cert.Ret.nD Cert.Ret.τ).loc Cert.Ret.main_arg2) = m ((c.tc : Thread Cert.Ret.nD Cert.Ret.τ).loc Cert.Ret.main_arg2)
      ∧ r.2.mem ((c.tc : Thread Cert.Ret.nD Cert.Ret.τ).loc Cert.Ret.main_arg3) = m ((c.tc : Thread Cert.Ret.nD Cert.Ret.τ).loc Cert.Ret.main_arg3))
      ∧ r.2.sem = fun _ => 0)

def quiescent_RetIdeal [hRetIdeal : Cert.RetIdeal.Facts] : Prop :=
  ∀ (m : (ℓ : Loc Cert.RetIdeal.nD Cert.RetIdeal.τ Cert.RetIdeal.sig) → Buf (Elt Ideal) ℓ) (g : Dev Cert.RetIdeal.nD → PrngReg), Pre_RetIdeal m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
      ∧ r.2.mem ((c.tc : Thread Cert.RetIdeal.nD Cert.RetIdeal.τ).loc Cert.RetIdeal.main_arg2) = m ((c.tc : Thread Cert.RetIdeal.nD Cert.RetIdeal.τ).loc Cert.RetIdeal.main_arg2)
      ∧ r.2.mem ((c.tc : Thread Cert.RetIdeal.nD Cert.RetIdeal.τ).loc Cert.RetIdeal.main_arg3) = m ((c.tc : Thread Cert.RetIdeal.nD Cert.RetIdeal.τ).loc Cert.RetIdeal.main_arg3))
      ∧ r.2.sem = fun _ => 0)

def quiescent_RetRefIdeal [hRetRefIdeal : Cert.RetRefIdeal.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1)
      ∧ r.2.mem ((c.tc : Thread Cert.RetRefIdeal.nD Cert.RetRefIdeal.τ).loc Cert.RetRefIdeal.main_arg2) = m ((c.tc : Thread Cert.RetRefIdeal.nD Cert.RetRefIdeal.τ).loc Cert.RetRefIdeal.main_arg2)
      ∧ r.2.mem ((c.tc : Thread Cert.RetRefIdeal.nD Cert.RetRefIdeal.τ).loc Cert.RetRefIdeal.main_arg3) = m ((c.tc : Thread Cert.RetRefIdeal.nD Cert.RetRefIdeal.τ).loc Cert.RetRefIdeal.main_arg3))
      ∧ r.2.sem = fun _ => 0)

def quiescent_MemProj [hMemProj : Cert.MemProj.Facts] : Prop :=
  ∀ (m : (ℓ : Loc Cert.MemProj.nD Cert.MemProj.τ Cert.MemProj.sig) → Buf (Elt Bits) ℓ) (g : Dev Cert.MemProj.nD → PrngReg), Pre_MemProj m →
    θ_run (Cert.MemProj.defs (F := Bits)) (onTc (τ := Cert.MemProj.τ) (Cert.MemProj.main (F := Bits))) ⟨m, fun _ => 0, g⟩ (fun r => (∀ c : Dev Cert.MemProj.nD,
      r.2.mem ((c.tc : Thread Cert.MemProj.nD Cert.MemProj.τ).loc Cert.MemProj.main_arg0) = m ((c.tc : Thread Cert.MemProj.nD Cert.MemProj.τ).loc Cert.MemProj.main_arg0)
      ∧ r.2.mem ((c.tc : Thread Cert.MemProj.nD Cert.MemProj.τ).loc Cert.MemProj.main_arg1) = m ((c.tc : Thread Cert.MemProj.nD Cert.MemProj.τ).loc Cert.MemProj.main_arg1)
      ∧ r.2.mem ((c.tc : Thread Cert.MemProj.nD Cert.MemProj.τ).loc Cert.MemProj.main_arg2) = m ((c.tc : Thread Cert.MemProj.nD Cert.MemProj.τ).loc Cert.MemProj.main_arg2)
      ∧ r.2.mem ((c.tc : Thread Cert.MemProj.nD Cert.MemProj.τ).loc Cert.MemProj.main_arg3) = m ((c.tc : Thread Cert.MemProj.nD Cert.MemProj.τ).loc Cert.MemProj.main_arg3))
      ∧ r.2.sem = fun _ => 0)

def quiescent_MemProjIdeal [hMemProjIdeal : Cert.MemProjIdeal.Facts] : Prop :=
  ∀ (m : (ℓ : Loc Cert.MemProjIdeal.nD Cert.MemProjIdeal.τ Cert.MemProjIdeal.sig) → Buf (Elt Ideal) ℓ) (g : Dev Cert.MemProjIdeal.nD → PrngReg), Pre_MemProjIdeal m →
    θ_run (Cert.MemProjIdeal.defs (F := Ideal)) (onTc (τ := Cert.MemProjIdeal.τ) (Cert.MemProjIdeal.main (F := Ideal))) ⟨m, fun _ => 0, g⟩ (fun r => (∀ c : Dev Cert.MemProjIdeal.nD,
      r.2.mem ((c.tc : Thread Cert.MemProjIdeal.nD Cert.MemProjIdeal.τ).loc Cert.MemProjIdeal.main_arg0) = m ((c.tc : Thread Cert.MemProjIdeal.nD Cert.MemProjIdeal.τ).loc Cert.MemProjIdeal.main_arg0)
      ∧ r.2.mem ((c.tc : Thread Cert.MemProjIdeal.nD Cert.MemProjIdeal.τ).loc Cert.MemProjIdeal.main_arg1) = m ((c.tc : Thread Cert.MemProjIdeal.nD Cert.MemProjIdeal.τ).loc Cert.MemProjIdeal.main_arg1)
      ∧ r.2.mem ((c.tc : Thread Cert.MemProjIdeal.nD Cert.MemProjIdeal.τ).loc Cert.MemProjIdeal.main_arg2) = m ((c.tc : Thread Cert.MemProjIdeal.nD Cert.MemProjIdeal.τ).loc Cert.MemProjIdeal.main_arg2)
      ∧ r.2.mem ((c.tc : Thread Cert.MemProjIdeal.nD Cert.MemProjIdeal.τ).loc Cert.MemProjIdeal.main_arg3) = m ((c.tc : Thread Cert.MemProjIdeal.nD Cert.MemProjIdeal.τ).loc Cert.MemProjIdeal.main_arg3))
      ∧ r.2.sem = fun _ => 0)

def quiescent_MemProjRefIdeal [hMemProjRefIdeal : Cert.MemProjRefIdeal.Facts] : Prop :=
  ∀ (m : (ℓ : Loc Cert.MemProjRefIdeal.nD Cert.MemProjRefIdeal.τ Cert.MemProjRefIdeal.sig) → Buf (Elt Ideal) ℓ) (g : Dev Cert.MemProjRefIdeal.nD → PrngReg), Pre_MemProjRefIdeal m →
    θ_run (Cert.MemProjRefIdeal.defs (F := Ideal)) (onTc (τ := Cert.MemProjRefIdeal.τ) (Cert.MemProjRefIdeal.main (F := Ideal))) ⟨m, fun _ => 0, g⟩ (fun r => (∀ c : Dev Cert.MemProjRefIdeal.nD,
      r.2.mem ((c.tc : Thread Cert.MemProjRefIdeal.nD Cert.MemProjRefIdeal.τ).loc Cert.MemProjRefIdeal.main_arg0) = m ((c.tc : Thread Cert.MemProjRefIdeal.nD Cert.MemProjRefIdeal.τ).loc Cert.MemProjRefIdeal.main_arg0)
      ∧ r.2.mem ((c.tc : Thread Cert.MemProjRefIdeal.nD Cert.MemProjRefIdeal.τ).loc Cert.MemProjRefIdeal.main_arg1) = m ((c.tc : Thread Cert.MemProjRefIdeal.nD Cert.MemProjRefIdeal.τ).loc Cert.MemProjRefIdeal.main_arg1)
      ∧ r.2.mem ((c.tc : Thread Cert.MemProjRefIdeal.nD Cert.MemProjRefIdeal.τ).loc Cert.MemProjRefIdeal.main_arg2) = m ((c.tc : Thread Cert.MemProjRefIdeal.nD Cert.MemProjRefIdeal.τ).loc Cert.MemProjRefIdeal.main_arg2)
      ∧ r.2.mem ((c.tc : Thread Cert.MemProjRefIdeal.nD Cert.MemProjRefIdeal.τ).loc Cert.MemProjRefIdeal.main_arg3) = m ((c.tc : Thread Cert.MemProjRefIdeal.nD Cert.MemProjRefIdeal.τ).loc Cert.MemProjRefIdeal.main_arg3))
      ∧ r.2.sem = fun _ => 0)

def quiescent_RmsFfn [hRmsFfn : Cert.RmsFfn.Facts] : Prop :=
  ∀ (m : (ℓ : Loc Cert.RmsFfn.nD Cert.RmsFfn.τ Cert.RmsFfn.sig) → Buf (Elt Bits) ℓ) (g : Dev Cert.RmsFfn.nD → PrngReg), Pre_RmsFfn m →
    θ_run (Cert.RmsFfn.defs (F := Bits)) (onTc (τ := Cert.RmsFfn.τ) (Cert.RmsFfn.main (F := Bits))) ⟨m, fun _ => 0, g⟩ (fun r => (∀ c : Dev Cert.RmsFfn.nD,
      r.2.mem ((c.tc : Thread Cert.RmsFfn.nD Cert.RmsFfn.τ).loc Cert.RmsFfn.main_arg0) = m ((c.tc : Thread Cert.RmsFfn.nD Cert.RmsFfn.τ).loc Cert.RmsFfn.main_arg0)
      ∧ r.2.mem ((c.tc : Thread Cert.RmsFfn.nD Cert.RmsFfn.τ).loc Cert.RmsFfn.main_arg1) = m ((c.tc : Thread Cert.RmsFfn.nD Cert.RmsFfn.τ).loc Cert.RmsFfn.main_arg1)
      ∧ r.2.mem ((c.tc : Thread Cert.RmsFfn.nD Cert.RmsFfn.τ).loc Cert.RmsFfn.main_arg2) = m ((c.tc : Thread Cert.RmsFfn.nD Cert.RmsFfn.τ).loc Cert.RmsFfn.main_arg2)
      ∧ r.2.mem ((c.tc : Thread Cert.RmsFfn.nD Cert.RmsFfn.τ).loc Cert.RmsFfn.main_arg3) = m ((c.tc : Thread Cert.RmsFfn.nD Cert.RmsFfn.τ).loc Cert.RmsFfn.main_arg3))
      ∧ r.2.sem = fun _ => 0)

def quiescent_RmsFfnIdeal [hRmsFfnIdeal : Cert.RmsFfnIdeal.Facts] : Prop :=
  ∀ (m : (ℓ : Loc Cert.RmsFfnIdeal.nD Cert.RmsFfnIdeal.τ Cert.RmsFfnIdeal.sig) → Buf (Elt Ideal) ℓ) (g : Dev Cert.RmsFfnIdeal.nD → PrngReg), Pre_RmsFfnIdeal m →
    θ_run (Cert.RmsFfnIdeal.defs (F := Ideal)) (onTc (τ := Cert.RmsFfnIdeal.τ) (Cert.RmsFfnIdeal.main (F := Ideal))) ⟨m, fun _ => 0, g⟩ (fun r => (∀ c : Dev Cert.RmsFfnIdeal.nD,
      r.2.mem ((c.tc : Thread Cert.RmsFfnIdeal.nD Cert.RmsFfnIdeal.τ).loc Cert.RmsFfnIdeal.main_arg0) = m ((c.tc : Thread Cert.RmsFfnIdeal.nD Cert.RmsFfnIdeal.τ).loc Cert.RmsFfnIdeal.main_arg0)
      ∧ r.2.mem ((c.tc : Thread Cert.RmsFfnIdeal.nD Cert.RmsFfnIdeal.τ).loc Cert.RmsFfnIdeal.main_arg1) = m ((c.tc : Thread Cert.RmsFfnIdeal.nD Cert.RmsFfnIdeal.τ).loc Cert.RmsFfnIdeal.main_arg1)
      ∧ r.2.mem ((c.tc : Thread Cert.RmsFfnIdeal.nD Cert.RmsFfnIdeal.τ).loc Cert.RmsFfnIdeal.main_arg2) = m ((c.tc : Thread Cert.RmsFfnIdeal.nD Cert.RmsFfnIdeal.τ).loc Cert.RmsFfnIdeal.main_arg2)
      ∧ r.2.mem ((c.tc : Thread Cert.RmsFfnIdeal.nD Cert.RmsFfnIdeal.τ).loc Cert.RmsFfnIdeal.main_arg3) = m ((c.tc : Thread Cert.RmsFfnIdeal.nD Cert.RmsFfnIdeal.τ).loc Cert.RmsFfnIdeal.main_arg3))
      ∧ r.2.sem = fun _ => 0)

def quiescent_RmsFfnRefIdeal [hRmsFfnRefIdeal : Cert.RmsFfnRefIdeal.Facts] : Prop :=
  ∀ (m : (ℓ : Loc Cert.RmsFfnRefIdeal.nD Cert.RmsFfnRefIdeal.τ Cert.RmsFfnRefIdeal.sig) → Buf (Elt Ideal) ℓ) (g : Dev Cert.RmsFfnRefIdeal.nD → PrngReg), Pre_RmsFfnRefIdeal m →
    θ_run (Cert.RmsFfnRefIdeal.defs (F := Ideal)) (onTc (τ := Cert.RmsFfnRefIdeal.τ) (Cert.RmsFfnRefIdeal.main (F := Ideal))) ⟨m, fun _ => 0, g⟩ (fun r => (∀ c : Dev Cert.RmsFfnRefIdeal.nD,
      r.2.mem ((c.tc : Thread Cert.RmsFfnRefIdeal.nD Cert.RmsFfnRefIdeal.τ).loc Cert.RmsFfnRefIdeal.main_arg0) = m ((c.tc : Thread Cert.RmsFfnRefIdeal.nD Cert.RmsFfnRefIdeal.τ).loc Cert.RmsFfnRefIdeal.main_arg0)
      ∧ r.2.mem ((c.tc : Thread Cert.RmsFfnRefIdeal.nD Cert.RmsFfnRefIdeal.τ).loc Cert.RmsFfnRefIdeal.main_arg1) = m ((c.tc : Thread Cert.RmsFfnRefIdeal.nD Cert.RmsFfnRefIdeal.τ).loc Cert.RmsFfnRefIdeal.main_arg1)
      ∧ r.2.mem ((c.tc : Thread Cert.RmsFfnRefIdeal.nD Cert.RmsFfnRefIdeal.τ).loc Cert.RmsFfnRefIdeal.main_arg2) = m ((c.tc : Thread Cert.RmsFfnRefIdeal.nD Cert.RmsFfnRefIdeal.τ).loc Cert.RmsFfnRefIdeal.main_arg2)
      ∧ r.2.mem ((c.tc : Thread Cert.RmsFfnRefIdeal.nD Cert.RmsFfnRefIdeal.τ).loc Cert.RmsFfnRefIdeal.main_arg3) = m ((c.tc : Thread Cert.RmsFfnRefIdeal.nD Cert.RmsFfnRefIdeal.τ).loc Cert.RmsFfnRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1)
      ∧ r.2.mem ((c.tc : Thread Cert.Small.nD Cert.Small.τ).loc Cert.Small.main_arg2) = m ((c.tc : Thread Cert.Small.nD Cert.Small.τ).loc Cert.Small.main_arg2)
      ∧ r.2.mem ((c.tc : Thread Cert.Small.nD Cert.Small.τ).loc Cert.Small.main_arg3) = m ((c.tc : Thread Cert.Small.nD Cert.Small.τ).loc Cert.Small.main_arg3))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
      ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
      ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0)
      ∧ r.2.mem ((c.tc : Thread Cert.SmallRefIdeal.nD Cert.SmallRefIdeal.τ).loc Cert.SmallRefIdeal.main_arg1) = m ((c.tc : Thread Cert.SmallRefIdeal.nD Cert.SmallRefIdeal.τ).loc Cert.SmallRefIdeal.main_arg1)
      ∧ r.2.mem ((c.tc : Thread Cert.SmallRefIdeal.nD Cert.SmallRefIdeal.τ).loc Cert.SmallRefIdeal.main_arg2) = m ((c.tc : Thread Cert.SmallRefIdeal.nD Cert.SmallRefIdeal.τ).loc Cert.SmallRefIdeal.main_arg2)
      ∧ r.2.mem ((c.tc : Thread Cert.SmallRefIdeal.nD Cert.SmallRefIdeal.τ).loc Cert.SmallRefIdeal.main_arg3) = m ((c.tc : Thread Cert.SmallRefIdeal.nD Cert.SmallRefIdeal.τ).loc Cert.SmallRefIdeal.main_arg3))
      ∧ r.2.sem = fun _ => 0)

def quiescent_AdamFfnIn [hAdamFfnIn : Cert.AdamFfnIn.Facts] : Prop :=
  ∀ (m : (ℓ : Loc Cert.AdamFfnIn.nD Cert.AdamFfnIn.τ Cert.AdamFfnIn.sig) → Buf (Elt Bits) ℓ) (g : Dev Cert.AdamFfnIn.nD → PrngReg), Pre_AdamFfnIn m →
    θ_run (Cert.AdamFfnIn.defs (F := Bits)) (onTc (τ := Cert.AdamFfnIn.τ) (Cert.AdamFfnIn.main (F := Bits))) ⟨m, fun _ => 0, g⟩ (fun r => (∀ c : Dev Cert.AdamFfnIn.nD,
      r.2.mem ((c.tc : Thread Cert.AdamFfnIn.nD Cert.AdamFfnIn.τ).loc Cert.AdamFfnIn.main_arg0) = m ((c.tc : Thread Cert.AdamFfnIn.nD Cert.AdamFfnIn.τ).loc Cert.AdamFfnIn.main_arg0)
      ∧ r.2.mem ((c.tc : Thread Cert.AdamFfnIn.nD Cert.AdamFfnIn.τ).loc Cert.AdamFfnIn.main_arg1) = m ((c.tc : Thread Cert.AdamFfnIn.nD Cert.AdamFfnIn.τ).loc Cert.AdamFfnIn.main_arg1)
      ∧ r.2.mem ((c.tc : Thread Cert.AdamFfnIn.nD Cert.AdamFfnIn.τ).loc Cert.AdamFfnIn.main_arg2) = m ((c.tc : Thread Cert.AdamFfnIn.nD Cert.AdamFfnIn.τ).loc Cert.AdamFfnIn.main_arg2)
      ∧ r.2.mem ((c.tc : Thread Cert.AdamFfnIn.nD Cert.AdamFfnIn.τ).loc Cert.AdamFfnIn.main_arg3) = m ((c.tc : Thread Cert.AdamFfnIn.nD Cert.AdamFfnIn.τ).loc Cert.AdamFfnIn.main_arg3)
      ∧ r.2.mem ((c.tc : Thread Cert.AdamFfnIn.nD Cert.AdamFfnIn.τ).loc Cert.AdamFfnIn.main_arg4) = m ((c.tc : Thread Cert.AdamFfnIn.nD Cert.AdamFfnIn.τ).loc Cert.AdamFfnIn.main_arg4)
      ∧ r.2.mem ((c.tc : Thread Cert.AdamFfnIn.nD Cert.AdamFfnIn.τ).loc Cert.AdamFfnIn.main_arg5) = m ((c.tc : Thread Cert.AdamFfnIn.nD Cert.AdamFfnIn.τ).loc Cert.AdamFfnIn.main_arg5)
      ∧ r.2.mem ((c.tc : Thread Cert.AdamFfnIn.nD Cert.AdamFfnIn.τ).loc Cert.AdamFfnIn.main_arg6) = m ((c.tc : Thread Cert.AdamFfnIn.nD Cert.AdamFfnIn.τ).loc Cert.AdamFfnIn.main_arg6)
      ∧ r.2.mem ((c.tc : Thread Cert.AdamFfnIn.nD Cert.AdamFfnIn.τ).loc Cert.AdamFfnIn.main_arg7) = m ((c.tc : Thread Cert.AdamFfnIn.nD Cert.AdamFfnIn.τ).loc Cert.AdamFfnIn.main_arg7))
      ∧ r.2.sem = fun _ => 0)

def quiescent_AdamFfnInIdeal [hAdamFfnInIdeal : Cert.AdamFfnInIdeal.Facts] : Prop :=
  ∀ (m : (ℓ : Loc Cert.AdamFfnInIdeal.nD Cert.AdamFfnInIdeal.τ Cert.AdamFfnInIdeal.sig) → Buf (Elt Ideal) ℓ) (g : Dev Cert.AdamFfnInIdeal.nD → PrngReg), Pre_AdamFfnInIdeal m →
    θ_run (Cert.AdamFfnInIdeal.defs (F := Ideal)) (onTc (τ := Cert.AdamFfnInIdeal.τ) (Cert.AdamFfnInIdeal.main (F := Ideal))) ⟨m, fun _ => 0, g⟩ (fun r => (∀ c : Dev Cert.AdamFfnInIdeal.nD,
      r.2.mem ((c.tc : Thread Cert.AdamFfnInIdeal.nD Cert.AdamFfnInIdeal.τ).loc Cert.AdamFfnInIdeal.main_arg0) = m ((c.tc : Thread Cert.AdamFfnInIdeal.nD Cert.AdamFfnInIdeal.τ).loc Cert.AdamFfnInIdeal.main_arg0)
      ∧ r.2.mem ((c.tc : Thread Cert.AdamFfnInIdeal.nD Cert.AdamFfnInIdeal.τ).loc Cert.AdamFfnInIdeal.main_arg1) = m ((c.tc : Thread Cert.AdamFfnInIdeal.nD Cert.AdamFfnInIdeal.τ).loc Cert.AdamFfnInIdeal.main_arg1)
      ∧ r.2.mem ((c.tc : Thread Cert.AdamFfnInIdeal.nD Cert.AdamFfnInIdeal.τ).loc Cert.AdamFfnInIdeal.main_arg2) = m ((c.tc : Thread Cert.AdamFfnInIdeal.nD Cert.AdamFfnInIdeal.τ).loc Cert.AdamFfnInIdeal.main_arg2)
      ∧ r.2.mem ((c.tc : Thread Cert.AdamFfnInIdeal.nD Cert.AdamFfnInIdeal.τ).loc Cert.AdamFfnInIdeal.main_arg3) = m ((c.tc : Thread Cert.AdamFfnInIdeal.nD Cert.AdamFfnInIdeal.τ).loc Cert.AdamFfnInIdeal.main_arg3)
      ∧ r.2.mem ((c.tc : Thread Cert.AdamFfnInIdeal.nD Cert.AdamFfnInIdeal.τ).loc Cert.AdamFfnInIdeal.main_arg4) = m ((c.tc : Thread Cert.AdamFfnInIdeal.nD Cert.AdamFfnInIdeal.τ).loc Cert.AdamFfnInIdeal.main_arg4)
      ∧ r.2.mem ((c.tc : Thread Cert.AdamFfnInIdeal.nD Cert.AdamFfnInIdeal.τ).loc Cert.AdamFfnInIdeal.main_arg5) = m ((c.tc : Thread Cert.AdamFfnInIdeal.nD Cert.AdamFfnInIdeal.τ).loc Cert.AdamFfnInIdeal.main_arg5)
      ∧ r.2.mem ((c.tc : Thread Cert.AdamFfnInIdeal.nD Cert.AdamFfnInIdeal.τ).loc Cert.AdamFfnInIdeal.main_arg6) = m ((c.tc : Thread Cert.AdamFfnInIdeal.nD Cert.AdamFfnInIdeal.τ).loc Cert.AdamFfnInIdeal.main_arg6)
      ∧ r.2.mem ((c.tc : Thread Cert.AdamFfnInIdeal.nD Cert.AdamFfnInIdeal.τ).loc Cert.AdamFfnInIdeal.main_arg7) = m ((c.tc : Thread Cert.AdamFfnInIdeal.nD Cert.AdamFfnInIdeal.τ).loc Cert.AdamFfnInIdeal.main_arg7))
      ∧ r.2.sem = fun _ => 0)

def quiescent_AdamFfnInRefIdeal [hAdamFfnInRefIdeal : Cert.AdamFfnInRefIdeal.Facts] : Prop :=
  ∀ (m : (ℓ : Loc Cert.AdamFfnInRefIdeal.nD Cert.AdamFfnInRefIdeal.τ Cert.AdamFfnInRefIdeal.sig) → Buf (Elt Ideal) ℓ) (g : Dev Cert.AdamFfnInRefIdeal.nD → PrngReg), Pre_AdamFfnInRefIdeal m →
    θ_run (Cert.AdamFfnInRefIdeal.defs (F := Ideal)) (onTc (τ := Cert.AdamFfnInRefIdeal.τ) (Cert.AdamFfnInRefIdeal.main (F := Ideal))) ⟨m, fun _ => 0, g⟩ (fun r => (∀ c : Dev Cert.AdamFfnInRefIdeal.nD,
      r.2.mem ((c.tc : Thread Cert.AdamFfnInRefIdeal.nD Cert.AdamFfnInRefIdeal.τ).loc Cert.AdamFfnInRefIdeal.main_arg0) = m ((c.tc : Thread Cert.AdamFfnInRefIdeal.nD Cert.AdamFfnInRefIdeal.τ).loc Cert.AdamFfnInRefIdeal.main_arg0)
      ∧ r.2.mem ((c.tc : Thread Cert.AdamFfnInRefIdeal.nD Cert.AdamFfnInRefIdeal.τ).loc Cert.AdamFfnInRefIdeal.main_arg1) = m ((c.tc : Thread Cert.AdamFfnInRefIdeal.nD Cert.AdamFfnInRefIdeal.τ).loc Cert.AdamFfnInRefIdeal.main_arg1)
      ∧ r.2.mem ((c.tc : Thread Cert.AdamFfnInRefIdeal.nD Cert.AdamFfnInRefIdeal.τ).loc Cert.AdamFfnInRefIdeal.main_arg2) = m ((c.tc : Thread Cert.AdamFfnInRefIdeal.nD Cert.AdamFfnInRefIdeal.τ).loc Cert.AdamFfnInRefIdeal.main_arg2)
      ∧ r.2.mem ((c.tc : Thread Cert.AdamFfnInRefIdeal.nD Cert.AdamFfnInRefIdeal.τ).loc Cert.AdamFfnInRefIdeal.main_arg3) = m ((c.tc : Thread Cert.AdamFfnInRefIdeal.nD Cert.AdamFfnInRefIdeal.τ).loc Cert.AdamFfnInRefIdeal.main_arg3)
      ∧ r.2.mem ((c.tc : Thread Cert.AdamFfnInRefIdeal.nD Cert.AdamFfnInRefIdeal.τ).loc Cert.AdamFfnInRefIdeal.main_arg4) = m ((c.tc : Thread Cert.AdamFfnInRefIdeal.nD Cert.AdamFfnInRefIdeal.τ).loc Cert.AdamFfnInRefIdeal.main_arg4)
      ∧ r.2.mem ((c.tc : Thread Cert.AdamFfnInRefIdeal.nD Cert.AdamFfnInRefIdeal.τ).loc Cert.AdamFfnInRefIdeal.main_arg5) = m ((c.tc : Thread Cert.AdamFfnInRefIdeal.nD Cert.AdamFfnInRefIdeal.τ).loc Cert.AdamFfnInRefIdeal.main_arg5)
      ∧ r.2.mem ((c.tc : Thread Cert.AdamFfnInRefIdeal.nD Cert.AdamFfnInRefIdeal.τ).loc Cert.AdamFfnInRefIdeal.main_arg6) = m ((c.tc : Thread Cert.AdamFfnInRefIdeal.nD Cert.AdamFfnInRefIdeal.τ).loc Cert.AdamFfnInRefIdeal.main_arg6)
      ∧ r.2.mem ((c.tc : Thread Cert.AdamFfnInRefIdeal.nD Cert.AdamFfnInRefIdeal.τ).loc Cert.AdamFfnInRefIdeal.main_arg7) = m ((c.tc : Thread Cert.AdamFfnInRefIdeal.nD Cert.AdamFfnInRefIdeal.τ).loc Cert.AdamFfnInRefIdeal.main_arg7))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4)
      ∧ r.2.mem ((c.tc : Thread Cert.AdamIn.nD Cert.AdamIn.τ).loc Cert.AdamIn.main_arg5) = m ((c.tc : Thread Cert.AdamIn.nD Cert.AdamIn.τ).loc Cert.AdamIn.main_arg5)
      ∧ r.2.mem ((c.tc : Thread Cert.AdamIn.nD Cert.AdamIn.τ).loc Cert.AdamIn.main_arg6) = m ((c.tc : Thread Cert.AdamIn.nD Cert.AdamIn.τ).loc Cert.AdamIn.main_arg6)
      ∧ r.2.mem ((c.tc : Thread Cert.AdamIn.nD Cert.AdamIn.τ).loc Cert.AdamIn.main_arg7) = m ((c.tc : Thread Cert.AdamIn.nD Cert.AdamIn.τ).loc Cert.AdamIn.main_arg7))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
      ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5)
      ∧ r.2.mem ((c.tc : Thread Cert.AdamInIdeal.nD Cert.AdamInIdeal.τ).loc Cert.AdamInIdeal.main_arg6) = m ((c.tc : Thread Cert.AdamInIdeal.nD Cert.AdamInIdeal.τ).loc Cert.AdamInIdeal.main_arg6)
      ∧ r.2.mem ((c.tc : Thread Cert.AdamInIdeal.nD Cert.AdamInIdeal.τ).loc Cert.AdamInIdeal.main_arg7) = m ((c.tc : Thread Cert.AdamInIdeal.nD Cert.AdamInIdeal.τ).loc Cert.AdamInIdeal.main_arg7))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4)
      ∧ r.2.mem ((c.tc : Thread Cert.AdamInRefIdeal.nD Cert.AdamInRefIdeal.τ).loc Cert.AdamInRefIdeal.main_arg5) = m ((c.tc : Thread Cert.AdamInRefIdeal.nD Cert.AdamInRefIdeal.τ).loc Cert.AdamInRefIdeal.main_arg5)
      ∧ r.2.mem ((c.tc : Thread Cert.AdamInRefIdeal.nD Cert.AdamInRefIdeal.τ).loc Cert.AdamInRefIdeal.main_arg6) = m ((c.tc : Thread Cert.AdamInRefIdeal.nD Cert.AdamInRefIdeal.τ).loc Cert.AdamInRefIdeal.main_arg6)
      ∧ r.2.mem ((c.tc : Thread Cert.AdamInRefIdeal.nD Cert.AdamInRefIdeal.τ).loc Cert.AdamInRefIdeal.main_arg7) = m ((c.tc : Thread Cert.AdamInRefIdeal.nD Cert.AdamInRefIdeal.τ).loc Cert.AdamInRefIdeal.main_arg7))
      ∧ r.2.sem = fun _ => 0)

def quiescent_AdamGate [hAdamGate : Cert.AdamGate.Facts] : Prop :=
  ∀ (m : (ℓ : Loc Cert.AdamGate.nD Cert.AdamGate.τ Cert.AdamGate.sig) → Buf (Elt Bits) ℓ) (g : Dev Cert.AdamGate.nD → PrngReg), Pre_AdamGate m →
    θ_run (Cert.AdamGate.defs (F := Bits)) (onTc (τ := Cert.AdamGate.τ) (Cert.AdamGate.main (F := Bits))) ⟨m, fun _ => 0, g⟩ (fun r => (∀ c : Dev Cert.AdamGate.nD,
      r.2.mem ((c.tc : Thread Cert.AdamGate.nD Cert.AdamGate.τ).loc Cert.AdamGate.main_arg0) = m ((c.tc : Thread Cert.AdamGate.nD Cert.AdamGate.τ).loc Cert.AdamGate.main_arg0)
      ∧ r.2.mem ((c.tc : Thread Cert.AdamGate.nD Cert.AdamGate.τ).loc Cert.AdamGate.main_arg1) = m ((c.tc : Thread Cert.AdamGate.nD Cert.AdamGate.τ).loc Cert.AdamGate.main_arg1)
      ∧ r.2.mem ((c.tc : Thread Cert.AdamGate.nD Cert.AdamGate.τ).loc Cert.AdamGate.main_arg2) = m ((c.tc : Thread Cert.AdamGate.nD Cert.AdamGate.τ).loc Cert.AdamGate.main_arg2)
      ∧ r.2.mem ((c.tc : Thread Cert.AdamGate.nD Cert.AdamGate.τ).loc Cert.AdamGate.main_arg3) = m ((c.tc : Thread Cert.AdamGate.nD Cert.AdamGate.τ).loc Cert.AdamGate.main_arg3)
      ∧ r.2.mem ((c.tc : Thread Cert.AdamGate.nD Cert.AdamGate.τ).loc Cert.AdamGate.main_arg4) = m ((c.tc : Thread Cert.AdamGate.nD Cert.AdamGate.τ).loc Cert.AdamGate.main_arg4)
      ∧ r.2.mem ((c.tc : Thread Cert.AdamGate.nD Cert.AdamGate.τ).loc Cert.AdamGate.main_arg5) = m ((c.tc : Thread Cert.AdamGate.nD Cert.AdamGate.τ).loc Cert.AdamGate.main_arg5)
      ∧ r.2.mem ((c.tc : Thread Cert.AdamGate.nD Cert.AdamGate.τ).loc Cert.AdamGate.main_arg6) = m ((c.tc : Thread Cert.AdamGate.nD Cert.AdamGate.τ).loc Cert.AdamGate.main_arg6)
      ∧ r.2.mem ((c.tc : Thread Cert.AdamGate.nD Cert.AdamGate.τ).loc Cert.AdamGate.main_arg7) = m ((c.tc : Thread Cert.AdamGate.nD Cert.AdamGate.τ).loc Cert.AdamGate.main_arg7))
      ∧ r.2.sem = fun _ => 0)

def quiescent_AdamGateIdeal [hAdamGateIdeal : Cert.AdamGateIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg), Pre_AdamGateIdeal m →
    θ_run (Cert.AdamGateIdeal.defs (F := Ideal)) (onTc (τ := Cert.AdamGateIdeal.τ) (Cert.AdamGateIdeal.main (F := Ideal))) ⟨m, fun _ => 0, g⟩ (fun r => (∀ c : Dev Cert.AdamGateIdeal.nD,
      r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
      ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
      ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
      ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3)
      ∧ r.2.mem ((c.tc : Thread Cert.AdamGateIdeal.nD Cert.AdamGateIdeal.τ).loc Cert.AdamGateIdeal.main_arg4) = m ((c.tc : Thread Cert.AdamGateIdeal.nD Cert.AdamGateIdeal.τ).loc Cert.AdamGateIdeal.main_arg4)
      ∧ r.2.mem ((c.tc : Thread Cert.AdamGateIdeal.nD Cert.AdamGateIdeal.τ).loc Cert.AdamGateIdeal.main_arg5) = m ((c.tc : Thread Cert.AdamGateIdeal.nD Cert.AdamGateIdeal.τ).loc Cert.AdamGateIdeal.main_arg5)
      ∧ r.2.mem ((c.tc : Thread Cert.AdamGateIdeal.nD Cert.AdamGateIdeal.τ).loc Cert.AdamGateIdeal.main_arg6) = m ((c.tc : Thread Cert.AdamGateIdeal.nD Cert.AdamGateIdeal.τ).loc Cert.AdamGateIdeal.main_arg6)
      ∧ r.2.mem ((c.tc : Thread Cert.AdamGateIdeal.nD Cert.AdamGateIdeal.τ).loc Cert.AdamGateIdeal.main_arg7) = m ((c.tc : Thread Cert.AdamGateIdeal.nD Cert.AdamGateIdeal.τ).loc Cert.AdamGateIdeal.main_arg7))
      ∧ r.2.sem = fun _ => 0)

def quiescent_AdamGateRefIdeal [hAdamGateRefIdeal : Cert.AdamGateRefIdeal.Facts] : Prop :=
  ∀ (m : (ℓ : Loc Cert.AdamGateRefIdeal.nD Cert.AdamGateRefIdeal.τ Cert.AdamGateRefIdeal.sig) → Buf (Elt Ideal) ℓ) (g : Dev Cert.AdamGateRefIdeal.nD → PrngReg), Pre_AdamGateRefIdeal m →
    θ_run (Cert.AdamGateRefIdeal.defs (F := Ideal)) (onTc (τ := Cert.AdamGateRefIdeal.τ) (Cert.AdamGateRefIdeal.main (F := Ideal))) ⟨m, fun _ => 0, g⟩ (fun r => (∀ c : Dev Cert.AdamGateRefIdeal.nD,
      r.2.mem ((c.tc : Thread Cert.AdamGateRefIdeal.nD Cert.AdamGateRefIdeal.τ).loc Cert.AdamGateRefIdeal.main_arg0) = m ((c.tc : Thread Cert.AdamGateRefIdeal.nD Cert.AdamGateRefIdeal.τ).loc Cert.AdamGateRefIdeal.main_arg0)
      ∧ r.2.mem ((c.tc : Thread Cert.AdamGateRefIdeal.nD Cert.AdamGateRefIdeal.τ).loc Cert.AdamGateRefIdeal.main_arg1) = m ((c.tc : Thread Cert.AdamGateRefIdeal.nD Cert.AdamGateRefIdeal.τ).loc Cert.AdamGateRefIdeal.main_arg1)
      ∧ r.2.mem ((c.tc : Thread Cert.AdamGateRefIdeal.nD Cert.AdamGateRefIdeal.τ).loc Cert.AdamGateRefIdeal.main_arg2) = m ((c.tc : Thread Cert.AdamGateRefIdeal.nD Cert.AdamGateRefIdeal.τ).loc Cert.AdamGateRefIdeal.main_arg2)
      ∧ r.2.mem ((c.tc : Thread Cert.AdamGateRefIdeal.nD Cert.AdamGateRefIdeal.τ).loc Cert.AdamGateRefIdeal.main_arg3) = m ((c.tc : Thread Cert.AdamGateRefIdeal.nD Cert.AdamGateRefIdeal.τ).loc Cert.AdamGateRefIdeal.main_arg3)
      ∧ r.2.mem ((c.tc : Thread Cert.AdamGateRefIdeal.nD Cert.AdamGateRefIdeal.τ).loc Cert.AdamGateRefIdeal.main_arg4) = m ((c.tc : Thread Cert.AdamGateRefIdeal.nD Cert.AdamGateRefIdeal.τ).loc Cert.AdamGateRefIdeal.main_arg4)
      ∧ r.2.mem ((c.tc : Thread Cert.AdamGateRefIdeal.nD Cert.AdamGateRefIdeal.τ).loc Cert.AdamGateRefIdeal.main_arg5) = m ((c.tc : Thread Cert.AdamGateRefIdeal.nD Cert.AdamGateRefIdeal.τ).loc Cert.AdamGateRefIdeal.main_arg5)
      ∧ r.2.mem ((c.tc : Thread Cert.AdamGateRefIdeal.nD Cert.AdamGateRefIdeal.τ).loc Cert.AdamGateRefIdeal.main_arg6) = m ((c.tc : Thread Cert.AdamGateRefIdeal.nD Cert.AdamGateRefIdeal.τ).loc Cert.AdamGateRefIdeal.main_arg6)
      ∧ r.2.mem ((c.tc : Thread Cert.AdamGateRefIdeal.nD Cert.AdamGateRefIdeal.τ).loc Cert.AdamGateRefIdeal.main_arg7) = m ((c.tc : Thread Cert.AdamGateRefIdeal.nD Cert.AdamGateRefIdeal.τ).loc Cert.AdamGateRefIdeal.main_arg7))
      ∧ r.2.sem = fun _ => 0)

def quiescent_AdamMemKv [hAdamMemKv : Cert.AdamMemKv.Facts] : Prop :=
  ∀ (m : (ℓ : Loc Cert.AdamMemKv.nD Cert.AdamMemKv.τ Cert.AdamMemKv.sig) → Buf (Elt Bits) ℓ) (g : Dev Cert.AdamMemKv.nD → PrngReg), Pre_AdamMemKv m →
    θ_run (Cert.AdamMemKv.defs (F := Bits)) (onTc (τ := Cert.AdamMemKv.τ) (Cert.AdamMemKv.main (F := Bits))) ⟨m, fun _ => 0, g⟩ (fun r => (∀ c : Dev Cert.AdamMemKv.nD,
      r.2.mem ((c.tc : Thread Cert.AdamMemKv.nD Cert.AdamMemKv.τ).loc Cert.AdamMemKv.main_arg0) = m ((c.tc : Thread Cert.AdamMemKv.nD Cert.AdamMemKv.τ).loc Cert.AdamMemKv.main_arg0)
      ∧ r.2.mem ((c.tc : Thread Cert.AdamMemKv.nD Cert.AdamMemKv.τ).loc Cert.AdamMemKv.main_arg1) = m ((c.tc : Thread Cert.AdamMemKv.nD Cert.AdamMemKv.τ).loc Cert.AdamMemKv.main_arg1)
      ∧ r.2.mem ((c.tc : Thread Cert.AdamMemKv.nD Cert.AdamMemKv.τ).loc Cert.AdamMemKv.main_arg2) = m ((c.tc : Thread Cert.AdamMemKv.nD Cert.AdamMemKv.τ).loc Cert.AdamMemKv.main_arg2)
      ∧ r.2.mem ((c.tc : Thread Cert.AdamMemKv.nD Cert.AdamMemKv.τ).loc Cert.AdamMemKv.main_arg3) = m ((c.tc : Thread Cert.AdamMemKv.nD Cert.AdamMemKv.τ).loc Cert.AdamMemKv.main_arg3)
      ∧ r.2.mem ((c.tc : Thread Cert.AdamMemKv.nD Cert.AdamMemKv.τ).loc Cert.AdamMemKv.main_arg4) = m ((c.tc : Thread Cert.AdamMemKv.nD Cert.AdamMemKv.τ).loc Cert.AdamMemKv.main_arg4)
      ∧ r.2.mem ((c.tc : Thread Cert.AdamMemKv.nD Cert.AdamMemKv.τ).loc Cert.AdamMemKv.main_arg5) = m ((c.tc : Thread Cert.AdamMemKv.nD Cert.AdamMemKv.τ).loc Cert.AdamMemKv.main_arg5)
      ∧ r.2.mem ((c.tc : Thread Cert.AdamMemKv.nD Cert.AdamMemKv.τ).loc Cert.AdamMemKv.main_arg6) = m ((c.tc : Thread Cert.AdamMemKv.nD Cert.AdamMemKv.τ).loc Cert.AdamMemKv.main_arg6)
      ∧ r.2.mem ((c.tc : Thread Cert.AdamMemKv.nD Cert.AdamMemKv.τ).loc Cert.AdamMemKv.main_arg7) = m ((c.tc : Thread Cert.AdamMemKv.nD Cert.AdamMemKv.τ).loc Cert.AdamMemKv.main_arg7))
      ∧ r.2.sem = fun _ => 0)

def quiescent_AdamMemKvIdeal [hAdamMemKvIdeal : Cert.AdamMemKvIdeal.Facts] : Prop :=
  ∀ (m : (ℓ : Loc Cert.AdamMemKvIdeal.nD Cert.AdamMemKvIdeal.τ Cert.AdamMemKvIdeal.sig) → Buf (Elt Ideal) ℓ) (g : Dev Cert.AdamMemKvIdeal.nD → PrngReg), Pre_AdamMemKvIdeal m →
    θ_run (Cert.AdamMemKvIdeal.defs (F := Ideal)) (onTc (τ := Cert.AdamMemKvIdeal.τ) (Cert.AdamMemKvIdeal.main (F := Ideal))) ⟨m, fun _ => 0, g⟩ (fun r => (∀ c : Dev Cert.AdamMemKvIdeal.nD,
      r.2.mem ((c.tc : Thread Cert.AdamMemKvIdeal.nD Cert.AdamMemKvIdeal.τ).loc Cert.AdamMemKvIdeal.main_arg0) = m ((c.tc : Thread Cert.AdamMemKvIdeal.nD Cert.AdamMemKvIdeal.τ).loc Cert.AdamMemKvIdeal.main_arg0)
      ∧ r.2.mem ((c.tc : Thread Cert.AdamMemKvIdeal.nD Cert.AdamMemKvIdeal.τ).loc Cert.AdamMemKvIdeal.main_arg1) = m ((c.tc : Thread Cert.AdamMemKvIdeal.nD Cert.AdamMemKvIdeal.τ).loc Cert.AdamMemKvIdeal.main_arg1)
      ∧ r.2.mem ((c.tc : Thread Cert.AdamMemKvIdeal.nD Cert.AdamMemKvIdeal.τ).loc Cert.AdamMemKvIdeal.main_arg2) = m ((c.tc : Thread Cert.AdamMemKvIdeal.nD Cert.AdamMemKvIdeal.τ).loc Cert.AdamMemKvIdeal.main_arg2)
      ∧ r.2.mem ((c.tc : Thread Cert.AdamMemKvIdeal.nD Cert.AdamMemKvIdeal.τ).loc Cert.AdamMemKvIdeal.main_arg3) = m ((c.tc : Thread Cert.AdamMemKvIdeal.nD Cert.AdamMemKvIdeal.τ).loc Cert.AdamMemKvIdeal.main_arg3)
      ∧ r.2.mem ((c.tc : Thread Cert.AdamMemKvIdeal.nD Cert.AdamMemKvIdeal.τ).loc Cert.AdamMemKvIdeal.main_arg4) = m ((c.tc : Thread Cert.AdamMemKvIdeal.nD Cert.AdamMemKvIdeal.τ).loc Cert.AdamMemKvIdeal.main_arg4)
      ∧ r.2.mem ((c.tc : Thread Cert.AdamMemKvIdeal.nD Cert.AdamMemKvIdeal.τ).loc Cert.AdamMemKvIdeal.main_arg5) = m ((c.tc : Thread Cert.AdamMemKvIdeal.nD Cert.AdamMemKvIdeal.τ).loc Cert.AdamMemKvIdeal.main_arg5)
      ∧ r.2.mem ((c.tc : Thread Cert.AdamMemKvIdeal.nD Cert.AdamMemKvIdeal.τ).loc Cert.AdamMemKvIdeal.main_arg6) = m ((c.tc : Thread Cert.AdamMemKvIdeal.nD Cert.AdamMemKvIdeal.τ).loc Cert.AdamMemKvIdeal.main_arg6)
      ∧ r.2.mem ((c.tc : Thread Cert.AdamMemKvIdeal.nD Cert.AdamMemKvIdeal.τ).loc Cert.AdamMemKvIdeal.main_arg7) = m ((c.tc : Thread Cert.AdamMemKvIdeal.nD Cert.AdamMemKvIdeal.τ).loc Cert.AdamMemKvIdeal.main_arg7))
      ∧ r.2.sem = fun _ => 0)

def quiescent_AdamMemKvRefIdeal [hAdamMemKvRefIdeal : Cert.AdamMemKvRefIdeal.Facts] : Prop :=
  ∀ (m : (ℓ : Loc Cert.AdamMemKvRefIdeal.nD Cert.AdamMemKvRefIdeal.τ Cert.AdamMemKvRefIdeal.sig) → Buf (Elt Ideal) ℓ) (g : Dev Cert.AdamMemKvRefIdeal.nD → PrngReg), Pre_AdamMemKvRefIdeal m →
    θ_run (Cert.AdamMemKvRefIdeal.defs (F := Ideal)) (onTc (τ := Cert.AdamMemKvRefIdeal.τ) (Cert.AdamMemKvRefIdeal.main (F := Ideal))) ⟨m, fun _ => 0, g⟩ (fun r => (∀ c : Dev Cert.AdamMemKvRefIdeal.nD,
      r.2.mem ((c.tc : Thread Cert.AdamMemKvRefIdeal.nD Cert.AdamMemKvRefIdeal.τ).loc Cert.AdamMemKvRefIdeal.main_arg0) = m ((c.tc : Thread Cert.AdamMemKvRefIdeal.nD Cert.AdamMemKvRefIdeal.τ).loc Cert.AdamMemKvRefIdeal.main_arg0)
      ∧ r.2.mem ((c.tc : Thread Cert.AdamMemKvRefIdeal.nD Cert.AdamMemKvRefIdeal.τ).loc Cert.AdamMemKvRefIdeal.main_arg1) = m ((c.tc : Thread Cert.AdamMemKvRefIdeal.nD Cert.AdamMemKvRefIdeal.τ).loc Cert.AdamMemKvRefIdeal.main_arg1)
      ∧ r.2.mem ((c.tc : Thread Cert.AdamMemKvRefIdeal.nD Cert.AdamMemKvRefIdeal.τ).loc Cert.AdamMemKvRefIdeal.main_arg2) = m ((c.tc : Thread Cert.AdamMemKvRefIdeal.nD Cert.AdamMemKvRefIdeal.τ).loc Cert.AdamMemKvRefIdeal.main_arg2)
      ∧ r.2.mem ((c.tc : Thread Cert.AdamMemKvRefIdeal.nD Cert.AdamMemKvRefIdeal.τ).loc Cert.AdamMemKvRefIdeal.main_arg3) = m ((c.tc : Thread Cert.AdamMemKvRefIdeal.nD Cert.AdamMemKvRefIdeal.τ).loc Cert.AdamMemKvRefIdeal.main_arg3)
      ∧ r.2.mem ((c.tc : Thread Cert.AdamMemKvRefIdeal.nD Cert.AdamMemKvRefIdeal.τ).loc Cert.AdamMemKvRefIdeal.main_arg4) = m ((c.tc : Thread Cert.AdamMemKvRefIdeal.nD Cert.AdamMemKvRefIdeal.τ).loc Cert.AdamMemKvRefIdeal.main_arg4)
      ∧ r.2.mem ((c.tc : Thread Cert.AdamMemKvRefIdeal.nD Cert.AdamMemKvRefIdeal.τ).loc Cert.AdamMemKvRefIdeal.main_arg5) = m ((c.tc : Thread Cert.AdamMemKvRefIdeal.nD Cert.AdamMemKvRefIdeal.τ).loc Cert.AdamMemKvRefIdeal.main_arg5)
      ∧ r.2.mem ((c.tc : Thread Cert.AdamMemKvRefIdeal.nD Cert.AdamMemKvRefIdeal.τ).loc Cert.AdamMemKvRefIdeal.main_arg6) = m ((c.tc : Thread Cert.AdamMemKvRefIdeal.nD Cert.AdamMemKvRefIdeal.τ).loc Cert.AdamMemKvRefIdeal.main_arg6)
      ∧ r.2.mem ((c.tc : Thread Cert.AdamMemKvRefIdeal.nD Cert.AdamMemKvRefIdeal.τ).loc Cert.AdamMemKvRefIdeal.main_arg7) = m ((c.tc : Thread Cert.AdamMemKvRefIdeal.nD Cert.AdamMemKvRefIdeal.τ).loc Cert.AdamMemKvRefIdeal.main_arg7))
      ∧ r.2.sem = fun _ => 0)

def quiescent_AdamBranch [hAdamBranch : Cert.AdamBranch.Facts] : Prop :=
  ∀ (m : (ℓ : Loc Cert.AdamBranch.nD Cert.AdamBranch.τ Cert.AdamBranch.sig) → Buf (Elt Bits) ℓ) (g : Dev Cert.AdamBranch.nD → PrngReg), Pre_AdamBranch m →
    θ_run (Cert.AdamBranch.defs (F := Bits)) (onTc (τ := Cert.AdamBranch.τ) (Cert.AdamBranch.main (F := Bits))) ⟨m, fun _ => 0, g⟩ (fun r => (∀ c : Dev Cert.AdamBranch.nD,
      r.2.mem ((c.tc : Thread Cert.AdamBranch.nD Cert.AdamBranch.τ).loc Cert.AdamBranch.main_arg0) = m ((c.tc : Thread Cert.AdamBranch.nD Cert.AdamBranch.τ).loc Cert.AdamBranch.main_arg0)
      ∧ r.2.mem ((c.tc : Thread Cert.AdamBranch.nD Cert.AdamBranch.τ).loc Cert.AdamBranch.main_arg1) = m ((c.tc : Thread Cert.AdamBranch.nD Cert.AdamBranch.τ).loc Cert.AdamBranch.main_arg1)
      ∧ r.2.mem ((c.tc : Thread Cert.AdamBranch.nD Cert.AdamBranch.τ).loc Cert.AdamBranch.main_arg2) = m ((c.tc : Thread Cert.AdamBranch.nD Cert.AdamBranch.τ).loc Cert.AdamBranch.main_arg2)
      ∧ r.2.mem ((c.tc : Thread Cert.AdamBranch.nD Cert.AdamBranch.τ).loc Cert.AdamBranch.main_arg3) = m ((c.tc : Thread Cert.AdamBranch.nD Cert.AdamBranch.τ).loc Cert.AdamBranch.main_arg3)
      ∧ r.2.mem ((c.tc : Thread Cert.AdamBranch.nD Cert.AdamBranch.τ).loc Cert.AdamBranch.main_arg4) = m ((c.tc : Thread Cert.AdamBranch.nD Cert.AdamBranch.τ).loc Cert.AdamBranch.main_arg4)
      ∧ r.2.mem ((c.tc : Thread Cert.AdamBranch.nD Cert.AdamBranch.τ).loc Cert.AdamBranch.main_arg5) = m ((c.tc : Thread Cert.AdamBranch.nD Cert.AdamBranch.τ).loc Cert.AdamBranch.main_arg5)
      ∧ r.2.mem ((c.tc : Thread Cert.AdamBranch.nD Cert.AdamBranch.τ).loc Cert.AdamBranch.main_arg6) = m ((c.tc : Thread Cert.AdamBranch.nD Cert.AdamBranch.τ).loc Cert.AdamBranch.main_arg6)
      ∧ r.2.mem ((c.tc : Thread Cert.AdamBranch.nD Cert.AdamBranch.τ).loc Cert.AdamBranch.main_arg7) = m ((c.tc : Thread Cert.AdamBranch.nD Cert.AdamBranch.τ).loc Cert.AdamBranch.main_arg7))
      ∧ r.2.sem = fun _ => 0)

def quiescent_AdamBranchIdeal [hAdamBranchIdeal : Cert.AdamBranchIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg), Pre_AdamBranchIdeal m →
    θ_run (Cert.AdamBranchIdeal.defs (F := Ideal)) (onTc (τ := Cert.AdamBranchIdeal.τ) (Cert.AdamBranchIdeal.main (F := Ideal))) ⟨m, fun _ => 0, g⟩ (fun r => (∀ c : Dev Cert.AdamBranchIdeal.nD,
      r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
      ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
      ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
      ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3)
      ∧ r.2.mem ((c.tc : Thread Cert.AdamBranchIdeal.nD Cert.AdamBranchIdeal.τ).loc Cert.AdamBranchIdeal.main_arg4) = m ((c.tc : Thread Cert.AdamBranchIdeal.nD Cert.AdamBranchIdeal.τ).loc Cert.AdamBranchIdeal.main_arg4)
      ∧ r.2.mem ((c.tc : Thread Cert.AdamBranchIdeal.nD Cert.AdamBranchIdeal.τ).loc Cert.AdamBranchIdeal.main_arg5) = m ((c.tc : Thread Cert.AdamBranchIdeal.nD Cert.AdamBranchIdeal.τ).loc Cert.AdamBranchIdeal.main_arg5)
      ∧ r.2.mem ((c.tc : Thread Cert.AdamBranchIdeal.nD Cert.AdamBranchIdeal.τ).loc Cert.AdamBranchIdeal.main_arg6) = m ((c.tc : Thread Cert.AdamBranchIdeal.nD Cert.AdamBranchIdeal.τ).loc Cert.AdamBranchIdeal.main_arg6)
      ∧ r.2.mem ((c.tc : Thread Cert.AdamBranchIdeal.nD Cert.AdamBranchIdeal.τ).loc Cert.AdamBranchIdeal.main_arg7) = m ((c.tc : Thread Cert.AdamBranchIdeal.nD Cert.AdamBranchIdeal.τ).loc Cert.AdamBranchIdeal.main_arg7))
      ∧ r.2.sem = fun _ => 0)

def quiescent_AdamBranchRefIdeal [hAdamBranchRefIdeal : Cert.AdamBranchRefIdeal.Facts] : Prop :=
  ∀ (m : (ℓ : Loc Cert.AdamBranchRefIdeal.nD Cert.AdamBranchRefIdeal.τ Cert.AdamBranchRefIdeal.sig) → Buf (Elt Ideal) ℓ) (g : Dev Cert.AdamBranchRefIdeal.nD → PrngReg), Pre_AdamBranchRefIdeal m →
    θ_run (Cert.AdamBranchRefIdeal.defs (F := Ideal)) (onTc (τ := Cert.AdamBranchRefIdeal.τ) (Cert.AdamBranchRefIdeal.main (F := Ideal))) ⟨m, fun _ => 0, g⟩ (fun r => (∀ c : Dev Cert.AdamBranchRefIdeal.nD,
      r.2.mem ((c.tc : Thread Cert.AdamBranchRefIdeal.nD Cert.AdamBranchRefIdeal.τ).loc Cert.AdamBranchRefIdeal.main_arg0) = m ((c.tc : Thread Cert.AdamBranchRefIdeal.nD Cert.AdamBranchRefIdeal.τ).loc Cert.AdamBranchRefIdeal.main_arg0)
      ∧ r.2.mem ((c.tc : Thread Cert.AdamBranchRefIdeal.nD Cert.AdamBranchRefIdeal.τ).loc Cert.AdamBranchRefIdeal.main_arg1) = m ((c.tc : Thread Cert.AdamBranchRefIdeal.nD Cert.AdamBranchRefIdeal.τ).loc Cert.AdamBranchRefIdeal.main_arg1)
      ∧ r.2.mem ((c.tc : Thread Cert.AdamBranchRefIdeal.nD Cert.AdamBranchRefIdeal.τ).loc Cert.AdamBranchRefIdeal.main_arg2) = m ((c.tc : Thread Cert.AdamBranchRefIdeal.nD Cert.AdamBranchRefIdeal.τ).loc Cert.AdamBranchRefIdeal.main_arg2)
      ∧ r.2.mem ((c.tc : Thread Cert.AdamBranchRefIdeal.nD Cert.AdamBranchRefIdeal.τ).loc Cert.AdamBranchRefIdeal.main_arg3) = m ((c.tc : Thread Cert.AdamBranchRefIdeal.nD Cert.AdamBranchRefIdeal.τ).loc Cert.AdamBranchRefIdeal.main_arg3)
      ∧ r.2.mem ((c.tc : Thread Cert.AdamBranchRefIdeal.nD Cert.AdamBranchRefIdeal.τ).loc Cert.AdamBranchRefIdeal.main_arg4) = m ((c.tc : Thread Cert.AdamBranchRefIdeal.nD Cert.AdamBranchRefIdeal.τ).loc Cert.AdamBranchRefIdeal.main_arg4)
      ∧ r.2.mem ((c.tc : Thread Cert.AdamBranchRefIdeal.nD Cert.AdamBranchRefIdeal.τ).loc Cert.AdamBranchRefIdeal.main_arg5) = m ((c.tc : Thread Cert.AdamBranchRefIdeal.nD Cert.AdamBranchRefIdeal.τ).loc Cert.AdamBranchRefIdeal.main_arg5)
      ∧ r.2.mem ((c.tc : Thread Cert.AdamBranchRefIdeal.nD Cert.AdamBranchRefIdeal.τ).loc Cert.AdamBranchRefIdeal.main_arg6) = m ((c.tc : Thread Cert.AdamBranchRefIdeal.nD Cert.AdamBranchRefIdeal.τ).loc Cert.AdamBranchRefIdeal.main_arg6)
      ∧ r.2.mem ((c.tc : Thread Cert.AdamBranchRefIdeal.nD Cert.AdamBranchRefIdeal.τ).loc Cert.AdamBranchRefIdeal.main_arg7) = m ((c.tc : Thread Cert.AdamBranchRefIdeal.nD Cert.AdamBranchRefIdeal.τ).loc Cert.AdamBranchRefIdeal.main_arg7))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4)
      ∧ r.2.mem ((c.tc : Thread Cert.AdamOut.nD Cert.AdamOut.τ).loc Cert.AdamOut.main_arg5) = m ((c.tc : Thread Cert.AdamOut.nD Cert.AdamOut.τ).loc Cert.AdamOut.main_arg5)
      ∧ r.2.mem ((c.tc : Thread Cert.AdamOut.nD Cert.AdamOut.τ).loc Cert.AdamOut.main_arg6) = m ((c.tc : Thread Cert.AdamOut.nD Cert.AdamOut.τ).loc Cert.AdamOut.main_arg6)
      ∧ r.2.mem ((c.tc : Thread Cert.AdamOut.nD Cert.AdamOut.τ).loc Cert.AdamOut.main_arg7) = m ((c.tc : Thread Cert.AdamOut.nD Cert.AdamOut.τ).loc Cert.AdamOut.main_arg7))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
      ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5)
      ∧ r.2.mem ((c.tc : Thread Cert.AdamOutIdeal.nD Cert.AdamOutIdeal.τ).loc Cert.AdamOutIdeal.main_arg6) = m ((c.tc : Thread Cert.AdamOutIdeal.nD Cert.AdamOutIdeal.τ).loc Cert.AdamOutIdeal.main_arg6)
      ∧ r.2.mem ((c.tc : Thread Cert.AdamOutIdeal.nD Cert.AdamOutIdeal.τ).loc Cert.AdamOutIdeal.main_arg7) = m ((c.tc : Thread Cert.AdamOutIdeal.nD Cert.AdamOutIdeal.τ).loc Cert.AdamOutIdeal.main_arg7))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4)
      ∧ r.2.mem ((c.tc : Thread Cert.AdamOutRefIdeal.nD Cert.AdamOutRefIdeal.τ).loc Cert.AdamOutRefIdeal.main_arg5) = m ((c.tc : Thread Cert.AdamOutRefIdeal.nD Cert.AdamOutRefIdeal.τ).loc Cert.AdamOutRefIdeal.main_arg5)
      ∧ r.2.mem ((c.tc : Thread Cert.AdamOutRefIdeal.nD Cert.AdamOutRefIdeal.τ).loc Cert.AdamOutRefIdeal.main_arg6) = m ((c.tc : Thread Cert.AdamOutRefIdeal.nD Cert.AdamOutRefIdeal.τ).loc Cert.AdamOutRefIdeal.main_arg6)
      ∧ r.2.mem ((c.tc : Thread Cert.AdamOutRefIdeal.nD Cert.AdamOutRefIdeal.τ).loc Cert.AdamOutRefIdeal.main_arg7) = m ((c.tc : Thread Cert.AdamOutRefIdeal.nD Cert.AdamOutRefIdeal.τ).loc Cert.AdamOutRefIdeal.main_arg7))
      ∧ r.2.sem = fun _ => 0)

def quiescent_AdamFfnOut [hAdamFfnOut : Cert.AdamFfnOut.Facts] : Prop :=
  ∀ (m : (ℓ : Loc Cert.AdamFfnOut.nD Cert.AdamFfnOut.τ Cert.AdamFfnOut.sig) → Buf (Elt Bits) ℓ) (g : Dev Cert.AdamFfnOut.nD → PrngReg), Pre_AdamFfnOut m →
    θ_run (Cert.AdamFfnOut.defs (F := Bits)) (onTc (τ := Cert.AdamFfnOut.τ) (Cert.AdamFfnOut.main (F := Bits))) ⟨m, fun _ => 0, g⟩ (fun r => (∀ c : Dev Cert.AdamFfnOut.nD,
      r.2.mem ((c.tc : Thread Cert.AdamFfnOut.nD Cert.AdamFfnOut.τ).loc Cert.AdamFfnOut.main_arg0) = m ((c.tc : Thread Cert.AdamFfnOut.nD Cert.AdamFfnOut.τ).loc Cert.AdamFfnOut.main_arg0)
      ∧ r.2.mem ((c.tc : Thread Cert.AdamFfnOut.nD Cert.AdamFfnOut.τ).loc Cert.AdamFfnOut.main_arg1) = m ((c.tc : Thread Cert.AdamFfnOut.nD Cert.AdamFfnOut.τ).loc Cert.AdamFfnOut.main_arg1)
      ∧ r.2.mem ((c.tc : Thread Cert.AdamFfnOut.nD Cert.AdamFfnOut.τ).loc Cert.AdamFfnOut.main_arg2) = m ((c.tc : Thread Cert.AdamFfnOut.nD Cert.AdamFfnOut.τ).loc Cert.AdamFfnOut.main_arg2)
      ∧ r.2.mem ((c.tc : Thread Cert.AdamFfnOut.nD Cert.AdamFfnOut.τ).loc Cert.AdamFfnOut.main_arg3) = m ((c.tc : Thread Cert.AdamFfnOut.nD Cert.AdamFfnOut.τ).loc Cert.AdamFfnOut.main_arg3)
      ∧ r.2.mem ((c.tc : Thread Cert.AdamFfnOut.nD Cert.AdamFfnOut.τ).loc Cert.AdamFfnOut.main_arg4) = m ((c.tc : Thread Cert.AdamFfnOut.nD Cert.AdamFfnOut.τ).loc Cert.AdamFfnOut.main_arg4)
      ∧ r.2.mem ((c.tc : Thread Cert.AdamFfnOut.nD Cert.AdamFfnOut.τ).loc Cert.AdamFfnOut.main_arg5) = m ((c.tc : Thread Cert.AdamFfnOut.nD Cert.AdamFfnOut.τ).loc Cert.AdamFfnOut.main_arg5)
      ∧ r.2.mem ((c.tc : Thread Cert.AdamFfnOut.nD Cert.AdamFfnOut.τ).loc Cert.AdamFfnOut.main_arg6) = m ((c.tc : Thread Cert.AdamFfnOut.nD Cert.AdamFfnOut.τ).loc Cert.AdamFfnOut.main_arg6)
      ∧ r.2.mem ((c.tc : Thread Cert.AdamFfnOut.nD Cert.AdamFfnOut.τ).loc Cert.AdamFfnOut.main_arg7) = m ((c.tc : Thread Cert.AdamFfnOut.nD Cert.AdamFfnOut.τ).loc Cert.AdamFfnOut.main_arg7))
      ∧ r.2.sem = fun _ => 0)

def quiescent_AdamFfnOutIdeal [hAdamFfnOutIdeal : Cert.AdamFfnOutIdeal.Facts] : Prop :=
  ∀ (m : (ℓ : Loc Cert.AdamFfnOutIdeal.nD Cert.AdamFfnOutIdeal.τ Cert.AdamFfnOutIdeal.sig) → Buf (Elt Ideal) ℓ) (g : Dev Cert.AdamFfnOutIdeal.nD → PrngReg), Pre_AdamFfnOutIdeal m →
    θ_run (Cert.AdamFfnOutIdeal.defs (F := Ideal)) (onTc (τ := Cert.AdamFfnOutIdeal.τ) (Cert.AdamFfnOutIdeal.main (F := Ideal))) ⟨m, fun _ => 0, g⟩ (fun r => (∀ c : Dev Cert.AdamFfnOutIdeal.nD,
      r.2.mem ((c.tc : Thread Cert.AdamFfnOutIdeal.nD Cert.AdamFfnOutIdeal.τ).loc Cert.AdamFfnOutIdeal.main_arg0) = m ((c.tc : Thread Cert.AdamFfnOutIdeal.nD Cert.AdamFfnOutIdeal.τ).loc Cert.AdamFfnOutIdeal.main_arg0)
      ∧ r.2.mem ((c.tc : Thread Cert.AdamFfnOutIdeal.nD Cert.AdamFfnOutIdeal.τ).loc Cert.AdamFfnOutIdeal.main_arg1) = m ((c.tc : Thread Cert.AdamFfnOutIdeal.nD Cert.AdamFfnOutIdeal.τ).loc Cert.AdamFfnOutIdeal.main_arg1)
      ∧ r.2.mem ((c.tc : Thread Cert.AdamFfnOutIdeal.nD Cert.AdamFfnOutIdeal.τ).loc Cert.AdamFfnOutIdeal.main_arg2) = m ((c.tc : Thread Cert.AdamFfnOutIdeal.nD Cert.AdamFfnOutIdeal.τ).loc Cert.AdamFfnOutIdeal.main_arg2)
      ∧ r.2.mem ((c.tc : Thread Cert.AdamFfnOutIdeal.nD Cert.AdamFfnOutIdeal.τ).loc Cert.AdamFfnOutIdeal.main_arg3) = m ((c.tc : Thread Cert.AdamFfnOutIdeal.nD Cert.AdamFfnOutIdeal.τ).loc Cert.AdamFfnOutIdeal.main_arg3)
      ∧ r.2.mem ((c.tc : Thread Cert.AdamFfnOutIdeal.nD Cert.AdamFfnOutIdeal.τ).loc Cert.AdamFfnOutIdeal.main_arg4) = m ((c.tc : Thread Cert.AdamFfnOutIdeal.nD Cert.AdamFfnOutIdeal.τ).loc Cert.AdamFfnOutIdeal.main_arg4)
      ∧ r.2.mem ((c.tc : Thread Cert.AdamFfnOutIdeal.nD Cert.AdamFfnOutIdeal.τ).loc Cert.AdamFfnOutIdeal.main_arg5) = m ((c.tc : Thread Cert.AdamFfnOutIdeal.nD Cert.AdamFfnOutIdeal.τ).loc Cert.AdamFfnOutIdeal.main_arg5)
      ∧ r.2.mem ((c.tc : Thread Cert.AdamFfnOutIdeal.nD Cert.AdamFfnOutIdeal.τ).loc Cert.AdamFfnOutIdeal.main_arg6) = m ((c.tc : Thread Cert.AdamFfnOutIdeal.nD Cert.AdamFfnOutIdeal.τ).loc Cert.AdamFfnOutIdeal.main_arg6)
      ∧ r.2.mem ((c.tc : Thread Cert.AdamFfnOutIdeal.nD Cert.AdamFfnOutIdeal.τ).loc Cert.AdamFfnOutIdeal.main_arg7) = m ((c.tc : Thread Cert.AdamFfnOutIdeal.nD Cert.AdamFfnOutIdeal.τ).loc Cert.AdamFfnOutIdeal.main_arg7))
      ∧ r.2.sem = fun _ => 0)

def quiescent_AdamFfnOutRefIdeal [hAdamFfnOutRefIdeal : Cert.AdamFfnOutRefIdeal.Facts] : Prop :=
  ∀ (m : (ℓ : Loc Cert.AdamFfnOutRefIdeal.nD Cert.AdamFfnOutRefIdeal.τ Cert.AdamFfnOutRefIdeal.sig) → Buf (Elt Ideal) ℓ) (g : Dev Cert.AdamFfnOutRefIdeal.nD → PrngReg), Pre_AdamFfnOutRefIdeal m →
    θ_run (Cert.AdamFfnOutRefIdeal.defs (F := Ideal)) (onTc (τ := Cert.AdamFfnOutRefIdeal.τ) (Cert.AdamFfnOutRefIdeal.main (F := Ideal))) ⟨m, fun _ => 0, g⟩ (fun r => (∀ c : Dev Cert.AdamFfnOutRefIdeal.nD,
      r.2.mem ((c.tc : Thread Cert.AdamFfnOutRefIdeal.nD Cert.AdamFfnOutRefIdeal.τ).loc Cert.AdamFfnOutRefIdeal.main_arg0) = m ((c.tc : Thread Cert.AdamFfnOutRefIdeal.nD Cert.AdamFfnOutRefIdeal.τ).loc Cert.AdamFfnOutRefIdeal.main_arg0)
      ∧ r.2.mem ((c.tc : Thread Cert.AdamFfnOutRefIdeal.nD Cert.AdamFfnOutRefIdeal.τ).loc Cert.AdamFfnOutRefIdeal.main_arg1) = m ((c.tc : Thread Cert.AdamFfnOutRefIdeal.nD Cert.AdamFfnOutRefIdeal.τ).loc Cert.AdamFfnOutRefIdeal.main_arg1)
      ∧ r.2.mem ((c.tc : Thread Cert.AdamFfnOutRefIdeal.nD Cert.AdamFfnOutRefIdeal.τ).loc Cert.AdamFfnOutRefIdeal.main_arg2) = m ((c.tc : Thread Cert.AdamFfnOutRefIdeal.nD Cert.AdamFfnOutRefIdeal.τ).loc Cert.AdamFfnOutRefIdeal.main_arg2)
      ∧ r.2.mem ((c.tc : Thread Cert.AdamFfnOutRefIdeal.nD Cert.AdamFfnOutRefIdeal.τ).loc Cert.AdamFfnOutRefIdeal.main_arg3) = m ((c.tc : Thread Cert.AdamFfnOutRefIdeal.nD Cert.AdamFfnOutRefIdeal.τ).loc Cert.AdamFfnOutRefIdeal.main_arg3)
      ∧ r.2.mem ((c.tc : Thread Cert.AdamFfnOutRefIdeal.nD Cert.AdamFfnOutRefIdeal.τ).loc Cert.AdamFfnOutRefIdeal.main_arg4) = m ((c.tc : Thread Cert.AdamFfnOutRefIdeal.nD Cert.AdamFfnOutRefIdeal.τ).loc Cert.AdamFfnOutRefIdeal.main_arg4)
      ∧ r.2.mem ((c.tc : Thread Cert.AdamFfnOutRefIdeal.nD Cert.AdamFfnOutRefIdeal.τ).loc Cert.AdamFfnOutRefIdeal.main_arg5) = m ((c.tc : Thread Cert.AdamFfnOutRefIdeal.nD Cert.AdamFfnOutRefIdeal.τ).loc Cert.AdamFfnOutRefIdeal.main_arg5)
      ∧ r.2.mem ((c.tc : Thread Cert.AdamFfnOutRefIdeal.nD Cert.AdamFfnOutRefIdeal.τ).loc Cert.AdamFfnOutRefIdeal.main_arg6) = m ((c.tc : Thread Cert.AdamFfnOutRefIdeal.nD Cert.AdamFfnOutRefIdeal.τ).loc Cert.AdamFfnOutRefIdeal.main_arg6)
      ∧ r.2.mem ((c.tc : Thread Cert.AdamFfnOutRefIdeal.nD Cert.AdamFfnOutRefIdeal.τ).loc Cert.AdamFfnOutRefIdeal.main_arg7) = m ((c.tc : Thread Cert.AdamFfnOutRefIdeal.nD Cert.AdamFfnOutRefIdeal.τ).loc Cert.AdamFfnOutRefIdeal.main_arg7))
      ∧ r.2.sem = fun _ => 0)

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)
      ∧ m' ((c.tc : Thread Cert.GateRefIdeal.nD Cert.GateRefIdeal.τ).loc Cert.GateRefIdeal.main_arg5) = m ((c.tc : Thread Cert.GateIdeal.nD Cert.GateIdeal.τ).loc Cert.GateIdeal.main_arg5)
      ∧ m' ((c.tc : Thread Cert.GateRefIdeal.nD Cert.GateRefIdeal.τ).loc Cert.GateRefIdeal.main_arg6) = m ((c.tc : Thread Cert.GateIdeal.nD Cert.GateIdeal.τ).loc Cert.GateIdeal.main_arg6)) →
    ∃ (v0 : (c : Dev Cert.GateIdeal.nD) → Buf (Elt Ideal) ((c.tc : Thread Cert.GateIdeal.nD Cert.GateIdeal.τ).loc Cert.GateIdeal.main_v6_0)) (v1 : (c : Dev Cert.GateIdeal.nD) → Buf (Elt Ideal) ((c.tc : Thread Cert.GateIdeal.nD Cert.GateIdeal.τ).loc Cert.GateIdeal.main_v6_1)) (v2 : (c : Dev Cert.GateIdeal.nD) → Buf (Elt Ideal) ((c.tc : Thread Cert.GateIdeal.nD Cert.GateIdeal.τ).loc Cert.GateIdeal.main_v6_2)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v6_0) = v0 c
          ∧ r.2.mem ((c.tc : Thread Cert.GateIdeal.nD Cert.GateIdeal.τ).loc Cert.GateIdeal.main_v6_1) = v1 c
          ∧ r.2.mem ((c.tc : Thread Cert.GateIdeal.nD Cert.GateIdeal.τ).loc Cert.GateIdeal.main_v6_2) = v2 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
          ∧ r.2.mem ((c.tc : Thread Cert.GateIdeal.nD Cert.GateIdeal.τ).loc Cert.GateIdeal.main_arg5) = m ((c.tc : Thread Cert.GateIdeal.nD Cert.GateIdeal.τ).loc Cert.GateIdeal.main_arg5)
          ∧ r.2.mem ((c.tc : Thread Cert.GateIdeal.nD Cert.GateIdeal.τ).loc Cert.GateIdeal.main_arg6) = m ((c.tc : Thread Cert.GateIdeal.nD Cert.GateIdeal.τ).loc Cert.GateIdeal.main_arg6))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v41) = v0 c
          ∧ r.2.mem ((c.tc : Thread Cert.GateRefIdeal.nD Cert.GateRefIdeal.τ).loc Cert.GateRefIdeal.main_v42) = v1 c
          ∧ r.2.mem ((c.tc : Thread Cert.GateRefIdeal.nD Cert.GateRefIdeal.τ).loc Cert.GateRefIdeal.main_v44) = v2 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4)
          ∧ r.2.mem ((c.tc : Thread Cert.GateRefIdeal.nD Cert.GateRefIdeal.τ).loc Cert.GateRefIdeal.main_arg5) = m' ((c.tc : Thread Cert.GateRefIdeal.nD Cert.GateRefIdeal.τ).loc Cert.GateRefIdeal.main_arg5)
          ∧ r.2.mem ((c.tc : Thread Cert.GateRefIdeal.nD Cert.GateRefIdeal.τ).loc Cert.GateRefIdeal.main_arg6) = m' ((c.tc : Thread Cert.GateRefIdeal.nD Cert.GateRefIdeal.τ).loc Cert.GateRefIdeal.main_arg6))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v8)) (v1 : (c : Dev Cert.FfnIdeal.nD) → Buf (Elt Ideal) ((c.tc : Thread Cert.FfnIdeal.nD Cert.FfnIdeal.τ).loc Cert.FfnIdeal.main_v9)) (v2 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8) = v0 c
          ∧ r.2.mem ((c.tc : Thread Cert.FfnIdeal.nD Cert.FfnIdeal.τ).loc Cert.FfnIdeal.main_v9) = v1 c
          ∧ r.2.mem ((c.tc : Thread Cert.FfnIdeal.nD Cert.FfnIdeal.τ).loc Cert.FfnIdeal.main_v6) = v2 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v33) = v0 c
          ∧ r.2.mem ((c.tc : Thread Cert.FfnRefIdeal.nD Cert.FfnRefIdeal.τ).loc Cert.FfnRefIdeal.main_v35) = v1 c
          ∧ r.2.mem ((c.tc : Thread Cert.FfnRefIdeal.nD Cert.FfnRefIdeal.τ).loc Cert.FfnRefIdeal.main_v36) = v2 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_FfnDx_FfnDxIdeal : Prop :=
  True

def algebraic_FfnDxIdeal_FfnDxRefIdeal [hFfnDxIdeal : Cert.FfnDxIdeal.Facts] [hFfnDxRefIdeal : Cert.FfnDxRefIdeal.Facts] : Prop :=
  ∀ (m : (ℓ : Loc Cert.FfnDxIdeal.nD Cert.FfnDxIdeal.τ Cert.FfnDxIdeal.sig) → Buf (Elt Ideal) ℓ) (g : Dev Cert.FfnDxIdeal.nD → PrngReg)
    (m' : (ℓ : Loc Cert.FfnDxRefIdeal.nD Cert.FfnDxRefIdeal.τ Cert.FfnDxRefIdeal.sig) → Buf (Elt Ideal) ℓ) (g' : Dev Cert.FfnDxRefIdeal.nD → PrngReg), Pre_FfnDxIdeal m →
    (∀ c : Dev Cert.FfnDxIdeal.nD,
      m' ((c.tc : Thread Cert.FfnDxRefIdeal.nD Cert.FfnDxRefIdeal.τ).loc Cert.FfnDxRefIdeal.main_arg0) = m ((c.tc : Thread Cert.FfnDxIdeal.nD Cert.FfnDxIdeal.τ).loc Cert.FfnDxIdeal.main_arg0)
      ∧ m' ((c.tc : Thread Cert.FfnDxRefIdeal.nD Cert.FfnDxRefIdeal.τ).loc Cert.FfnDxRefIdeal.main_arg1) = m ((c.tc : Thread Cert.FfnDxIdeal.nD Cert.FfnDxIdeal.τ).loc Cert.FfnDxIdeal.main_arg1)) →
    ∃ (v0 : (c : Dev Cert.FfnDxIdeal.nD) → Buf (Elt Ideal) ((c.tc : Thread Cert.FfnDxIdeal.nD Cert.FfnDxIdeal.τ).loc Cert.FfnDxIdeal.main_v1)),
      θ_run (Cert.FfnDxIdeal.defs (F := Ideal)) (onTc (τ := Cert.FfnDxIdeal.τ) (Cert.FfnDxIdeal.main (F := Ideal))) ⟨m, fun _ => 0, g⟩ (fun r => ∀ c : Dev Cert.FfnDxIdeal.nD,
          r.2.mem ((c.tc : Thread Cert.FfnDxIdeal.nD Cert.FfnDxIdeal.τ).loc Cert.FfnDxIdeal.main_v1) = v0 c
          ∧ r.2.mem ((c.tc : Thread Cert.FfnDxIdeal.nD Cert.FfnDxIdeal.τ).loc Cert.FfnDxIdeal.main_arg0) = m ((c.tc : Thread Cert.FfnDxIdeal.nD Cert.FfnDxIdeal.τ).loc Cert.FfnDxIdeal.main_arg0)
          ∧ r.2.mem ((c.tc : Thread Cert.FfnDxIdeal.nD Cert.FfnDxIdeal.τ).loc Cert.FfnDxIdeal.main_arg1) = m ((c.tc : Thread Cert.FfnDxIdeal.nD Cert.FfnDxIdeal.τ).loc Cert.FfnDxIdeal.main_arg1))
      ∧ θ_run (Cert.FfnDxRefIdeal.defs (F := Ideal)) (onTc (τ := Cert.FfnDxRefIdeal.τ) (Cert.FfnDxRefIdeal.main (F := Ideal))) ⟨m', fun _ => 0, g'⟩ (fun r => ∀ c : Dev Cert.FfnDxRefIdeal.nD,
          r.2.mem ((c.tc : Thread Cert.FfnDxRefIdeal.nD Cert.FfnDxRefIdeal.τ).loc Cert.FfnDxRefIdeal.main_v7) = v0 c
          ∧ r.2.mem ((c.tc : Thread Cert.FfnDxRefIdeal.nD Cert.FfnDxRefIdeal.τ).loc Cert.FfnDxRefIdeal.main_arg0) = m' ((c.tc : Thread Cert.FfnDxRefIdeal.nD Cert.FfnDxRefIdeal.τ).loc Cert.FfnDxRefIdeal.main_arg0)
          ∧ r.2.mem ((c.tc : Thread Cert.FfnDxRefIdeal.nD Cert.FfnDxRefIdeal.τ).loc Cert.FfnDxRefIdeal.main_arg1) = m' ((c.tc : Thread Cert.FfnDxRefIdeal.nD Cert.FfnDxRefIdeal.τ).loc Cert.FfnDxRefIdeal.main_arg1))

def preserves_GateDx_GateDxIdeal : Prop :=
  True

def algebraic_GateDxIdeal_GateDxRefIdeal [hGateDxIdeal : Cert.GateDxIdeal.Facts] [hGateDxRefIdeal : Cert.GateDxRefIdeal.Facts] : Prop :=
  ∀ (m : (ℓ : Loc Cert.GateDxIdeal.nD Cert.GateDxIdeal.τ Cert.GateDxIdeal.sig) → Buf (Elt Ideal) ℓ) (g : Dev Cert.GateDxIdeal.nD → PrngReg)
    (m' : (ℓ : Loc Cert.GateDxRefIdeal.nD Cert.GateDxRefIdeal.τ Cert.GateDxRefIdeal.sig) → Buf (Elt Ideal) ℓ) (g' : Dev Cert.GateDxRefIdeal.nD → PrngReg), Pre_GateDxIdeal m →
    (∀ c : Dev Cert.GateDxIdeal.nD,
      m' ((c.tc : Thread Cert.GateDxRefIdeal.nD Cert.GateDxRefIdeal.τ).loc Cert.GateDxRefIdeal.main_arg0) = m ((c.tc : Thread Cert.GateDxIdeal.nD Cert.GateDxIdeal.τ).loc Cert.GateDxIdeal.main_arg0)
      ∧ m' ((c.tc : Thread Cert.GateDxRefIdeal.nD Cert.GateDxRefIdeal.τ).loc Cert.GateDxRefIdeal.main_arg1) = m ((c.tc : Thread Cert.GateDxIdeal.nD Cert.GateDxIdeal.τ).loc Cert.GateDxIdeal.main_arg1)) →
    ∃ (v0 : (c : Dev Cert.GateDxIdeal.nD) → Buf (Elt Ideal) ((c.tc : Thread Cert.GateDxIdeal.nD Cert.GateDxIdeal.τ).loc Cert.GateDxIdeal.main_v1)),
      θ_run (Cert.GateDxIdeal.defs (F := Ideal)) (onTc (τ := Cert.GateDxIdeal.τ) (Cert.GateDxIdeal.main (F := Ideal))) ⟨m, fun _ => 0, g⟩ (fun r => ∀ c : Dev Cert.GateDxIdeal.nD,
          r.2.mem ((c.tc : Thread Cert.GateDxIdeal.nD Cert.GateDxIdeal.τ).loc Cert.GateDxIdeal.main_v1) = v0 c
          ∧ r.2.mem ((c.tc : Thread Cert.GateDxIdeal.nD Cert.GateDxIdeal.τ).loc Cert.GateDxIdeal.main_arg0) = m ((c.tc : Thread Cert.GateDxIdeal.nD Cert.GateDxIdeal.τ).loc Cert.GateDxIdeal.main_arg0)
          ∧ r.2.mem ((c.tc : Thread Cert.GateDxIdeal.nD Cert.GateDxIdeal.τ).loc Cert.GateDxIdeal.main_arg1) = m ((c.tc : Thread Cert.GateDxIdeal.nD Cert.GateDxIdeal.τ).loc Cert.GateDxIdeal.main_arg1))
      ∧ θ_run (Cert.GateDxRefIdeal.defs (F := Ideal)) (onTc (τ := Cert.GateDxRefIdeal.τ) (Cert.GateDxRefIdeal.main (F := Ideal))) ⟨m', fun _ => 0, g'⟩ (fun r => ∀ c : Dev Cert.GateDxRefIdeal.nD,
          r.2.mem ((c.tc : Thread Cert.GateDxRefIdeal.nD Cert.GateDxRefIdeal.τ).loc Cert.GateDxRefIdeal.main_v7) = v0 c
          ∧ r.2.mem ((c.tc : Thread Cert.GateDxRefIdeal.nD Cert.GateDxRefIdeal.τ).loc Cert.GateDxRefIdeal.main_arg0) = m' ((c.tc : Thread Cert.GateDxRefIdeal.nD Cert.GateDxRefIdeal.τ).loc Cert.GateDxRefIdeal.main_arg0)
          ∧ r.2.mem ((c.tc : Thread Cert.GateDxRefIdeal.nD Cert.GateDxRefIdeal.τ).loc Cert.GateDxRefIdeal.main_arg1) = m' ((c.tc : Thread Cert.GateDxRefIdeal.nD Cert.GateDxRefIdeal.τ).loc Cert.GateDxRefIdeal.main_arg1))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v2)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v2) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v5) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)
      ∧ m' ((c.tc : Thread Cert.FfnOutRefIdeal.nD Cert.FfnOutRefIdeal.τ).loc Cert.FfnOutRefIdeal.main_arg2) = m ((c.tc : Thread Cert.FfnOutIdeal.nD Cert.FfnOutIdeal.τ).loc Cert.FfnOutIdeal.main_arg2)) →
    ∃ (v0 : (c : Dev Cert.FfnOutIdeal.nD) → Buf (Elt Ideal) ((c.tc : Thread Cert.FfnOutIdeal.nD Cert.FfnOutIdeal.τ).loc Cert.FfnOutIdeal.main_v1)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v1) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v3) = v0 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1)
          ∧ r.2.mem ((c.tc : Thread Cert.FfnOutRefIdeal.nD Cert.FfnOutRefIdeal.τ).loc Cert.FfnOutRefIdeal.main_arg2) = m' ((c.tc : Thread Cert.FfnOutRefIdeal.nD Cert.FfnOutRefIdeal.τ).loc Cert.FfnOutRefIdeal.main_arg2))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)) →
    ∃ (v0 : (c : Dev Cert.MixIdeal.nD) → Buf (Elt Ideal) ((c.tc : Thread Cert.MixIdeal.nD Cert.MixIdeal.τ).loc Cert.MixIdeal.main_v6)) (v1 : (c : Dev Cert.MixIdeal.nD) → Buf (Elt Ideal) ((c.tc : Thread Cert.MixIdeal.nD Cert.MixIdeal.τ).loc Cert.MixIdeal.main_v14)) (v2 : (c : Dev Cert.MixIdeal.nD) → Buf (Elt Ideal) ((c.tc : Thread Cert.MixIdeal.nD Cert.MixIdeal.τ).loc Cert.MixIdeal.main_v15)) (v3 : (c : Dev Cert.MixIdeal.nD) → Buf (Elt Ideal) ((c.tc : Thread Cert.MixIdeal.nD Cert.MixIdeal.τ).loc Cert.MixIdeal.main_v16)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v6) = v0 c
          ∧ r.2.mem ((c.tc : Thread Cert.MixIdeal.nD Cert.MixIdeal.τ).loc Cert.MixIdeal.main_v14) = v1 c
          ∧ r.2.mem ((c.tc : Thread Cert.MixIdeal.nD Cert.MixIdeal.τ).loc Cert.MixIdeal.main_v15) = v2 c
          ∧ r.2.mem ((c.tc : Thread Cert.MixIdeal.nD Cert.MixIdeal.τ).loc Cert.MixIdeal.main_v16) = v3 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v15) = v0 c
          ∧ r.2.mem ((c.tc : Thread Cert.MixRefIdeal.nD Cert.MixRefIdeal.τ).loc Cert.MixRefIdeal.main_v46) = v1 c
          ∧ r.2.mem ((c.tc : Thread Cert.MixRefIdeal.nD Cert.MixRefIdeal.τ).loc Cert.MixRefIdeal.main_v49) = v2 c
          ∧ r.2.mem ((c.tc : Thread Cert.MixRefIdeal.nD Cert.MixRefIdeal.τ).loc Cert.MixRefIdeal.main_v50) = v3 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10))

def preserves_ProjDw_ProjDwIdeal : Prop :=
  True

def algebraic_ProjDwIdeal_ProjDwRefIdeal [hProjDwIdeal : Cert.ProjDwIdeal.Facts] [hProjDwRefIdeal : Cert.ProjDwRefIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg)
    (m' : (ℓ : Loc Cert.ProjDwRefIdeal.nD Cert.ProjDwRefIdeal.τ Cert.ProjDwRefIdeal.sig) → Buf (Elt Ideal) ℓ) (g' : Dev Cert.ProjDwRefIdeal.nD → PrngReg), Pre_ProjDwIdeal m →
    (∀ c : Dev Cert.ProjDwIdeal.nD,
      m' ((c.tc : Thread Cert.ProjDwRefIdeal.nD Cert.ProjDwRefIdeal.τ).loc Cert.ProjDwRefIdeal.main_arg0) = m ((c.tc : Thread Cert.ProjDwIdeal.nD Cert.ProjDwIdeal.τ).loc Cert.ProjDwIdeal.main_arg0)
      ∧ m' ((c.tc : Thread Cert.ProjDwRefIdeal.nD Cert.ProjDwRefIdeal.τ).loc Cert.ProjDwRefIdeal.main_arg1) = m ((c.tc : Thread Cert.ProjDwIdeal.nD Cert.ProjDwIdeal.τ).loc Cert.ProjDwIdeal.main_arg1)
      ∧ m' ((c.tc : Thread Cert.ProjDwRefIdeal.nD Cert.ProjDwRefIdeal.τ).loc Cert.ProjDwRefIdeal.main_arg2) = m ((c.tc : Thread Cert.ProjDwIdeal.nD Cert.ProjDwIdeal.τ).loc Cert.ProjDwIdeal.main_arg2)
      ∧ m' ((c.tc : Thread Cert.ProjDwRefIdeal.nD Cert.ProjDwRefIdeal.τ).loc Cert.ProjDwRefIdeal.main_arg3) = m ((c.tc : Thread Cert.ProjDwIdeal.nD Cert.ProjDwIdeal.τ).loc Cert.ProjDwIdeal.main_arg3)) →
    ∃ (v0 : (c : Dev Cert.ProjDwIdeal.nD) → Buf (Elt Ideal) ((c.tc : Thread Cert.ProjDwIdeal.nD Cert.ProjDwIdeal.τ).loc Cert.ProjDwIdeal.main_v1)) (v1 : (c : Dev Cert.ProjDwIdeal.nD) → Buf (Elt Ideal) ((c.tc : Thread Cert.ProjDwIdeal.nD Cert.ProjDwIdeal.τ).loc Cert.ProjDwIdeal.main_v2)),
      θ_run (Cert.ProjDwIdeal.defs (F := Ideal)) (onTc (τ := Cert.ProjDwIdeal.τ) (Cert.ProjDwIdeal.main (F := Ideal))) ⟨m, fun _ => 0, g⟩ (fun r => ∀ c : Dev Cert.ProjDwIdeal.nD,
          r.2.mem ((c.tc : Thread Cert.ProjDwIdeal.nD Cert.ProjDwIdeal.τ).loc Cert.ProjDwIdeal.main_v1) = v0 c
          ∧ r.2.mem ((c.tc : Thread Cert.ProjDwIdeal.nD Cert.ProjDwIdeal.τ).loc Cert.ProjDwIdeal.main_v2) = v1 c
          ∧ r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
          ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1)
          ∧ r.2.mem ((c.tc : Thread Cert.ProjDwIdeal.nD Cert.ProjDwIdeal.τ).loc Cert.ProjDwIdeal.main_arg2) = m ((c.tc : Thread Cert.ProjDwIdeal.nD Cert.ProjDwIdeal.τ).loc Cert.ProjDwIdeal.main_arg2)
          ∧ r.2.mem ((c.tc : Thread Cert.ProjDwIdeal.nD Cert.ProjDwIdeal.τ).loc Cert.ProjDwIdeal.main_arg3) = m ((c.tc : Thread Cert.ProjDwIdeal.nD Cert.ProjDwIdeal.τ).loc Cert.ProjDwIdeal.main_arg3))
      ∧ θ_run (Cert.ProjDwRefIdeal.defs (F := Ideal)) (onTc (τ := Cert.ProjDwRefIdeal.τ) (Cert.ProjDwRefIdeal.main (F := Ideal))) ⟨m', fun _ => 0, g'⟩ (fun r => ∀ c : Dev Cert.ProjDwRefIdeal.nD,
          r.2.mem ((c.tc : Thread Cert.ProjDwRefIdeal.nD Cert.ProjDwRefIdeal.τ).loc Cert.ProjDwRefIdeal.main_v21) = v0 c
          ∧ r.2.mem ((c.tc : Thread Cert.ProjDwRefIdeal.nD Cert.ProjDwRefIdeal.τ).loc Cert.ProjDwRefIdeal.main_v23) = v1 c
          ∧ r.2.mem ((c.tc : Thread Cert.ProjDwRefIdeal.nD Cert.ProjDwRefIdeal.τ).loc Cert.ProjDwRefIdeal.main_arg0) = m' ((c.tc : Thread Cert.ProjDwRefIdeal.nD Cert.ProjDwRefIdeal.τ).loc Cert.ProjDwRefIdeal.main_arg0)
          ∧ r.2.mem ((c.tc : Thread Cert.ProjDwRefIdeal.nD Cert.ProjDwRefIdeal.τ).loc Cert.ProjDwRefIdeal.main_arg1) = m' ((c.tc : Thread Cert.ProjDwRefIdeal.nD Cert.ProjDwRefIdeal.τ).loc Cert.ProjDwRefIdeal.main_arg1)
          ∧ r.2.mem ((c.tc : Thread Cert.ProjDwRefIdeal.nD Cert.ProjDwRefIdeal.τ).loc Cert.ProjDwRefIdeal.main_arg2) = m' ((c.tc : Thread Cert.ProjDwRefIdeal.nD Cert.ProjDwRefIdeal.τ).loc Cert.ProjDwRefIdeal.main_arg2)
          ∧ r.2.mem ((c.tc : Thread Cert.ProjDwRefIdeal.nD Cert.ProjDwRefIdeal.τ).loc Cert.ProjDwRefIdeal.main_arg3) = m' ((c.tc : Thread Cert.ProjDwRefIdeal.nD Cert.ProjDwRefIdeal.τ).loc Cert.ProjDwRefIdeal.main_arg3))

def preserves_RmsBwd_RmsBwdIdeal : Prop :=
  True

def algebraic_RmsBwdIdeal_RmsBwdRefIdeal [hRmsBwdIdeal : Cert.RmsBwdIdeal.Facts] [hRmsBwdRefIdeal : Cert.RmsBwdRefIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RmsBwdRefIdeal.nD Cert.RmsBwdRefIdeal.τ Cert.RmsBwdRefIdeal.sig) → Buf (Elt Ideal) ℓ) (g' : Dev Cert.RmsBwdRefIdeal.nD → PrngReg), Pre_RmsBwdIdeal m →
    (∀ c : Dev Cert.RmsBwdIdeal.nD,
      m' ((c.tc : Thread Cert.RmsBwdRefIdeal.nD Cert.RmsBwdRefIdeal.τ).loc Cert.RmsBwdRefIdeal.main_arg0) = m ((c.tc : Thread Cert.RmsBwdIdeal.nD Cert.RmsBwdIdeal.τ).loc Cert.RmsBwdIdeal.main_arg0)
      ∧ m' ((c.tc : Thread Cert.RmsBwdRefIdeal.nD Cert.RmsBwdRefIdeal.τ).loc Cert.RmsBwdRefIdeal.main_arg1) = m ((c.tc : Thread Cert.RmsBwdIdeal.nD Cert.RmsBwdIdeal.τ).loc Cert.RmsBwdIdeal.main_arg1)
      ∧ m' ((c.tc : Thread Cert.RmsBwdRefIdeal.nD Cert.RmsBwdRefIdeal.τ).loc Cert.RmsBwdRefIdeal.main_arg2) = m ((c.tc : Thread Cert.RmsBwdIdeal.nD Cert.RmsBwdIdeal.τ).loc Cert.RmsBwdIdeal.main_arg2)
      ∧ m' ((c.tc : Thread Cert.RmsBwdRefIdeal.nD Cert.RmsBwdRefIdeal.τ).loc Cert.RmsBwdRefIdeal.main_arg3) = m ((c.tc : Thread Cert.RmsBwdIdeal.nD Cert.RmsBwdIdeal.τ).loc Cert.RmsBwdIdeal.main_arg3)
      ∧ m' ((c.tc : Thread Cert.RmsBwdRefIdeal.nD Cert.RmsBwdRefIdeal.τ).loc Cert.RmsBwdRefIdeal.main_arg4) = m ((c.tc : Thread Cert.RmsBwdIdeal.nD Cert.RmsBwdIdeal.τ).loc Cert.RmsBwdIdeal.main_arg4)) →
    ∃ (v0 : (c : Dev Cert.RmsBwdIdeal.nD) → Buf (Elt Ideal) ((c.tc : Thread Cert.RmsBwdIdeal.nD Cert.RmsBwdIdeal.τ).loc Cert.RmsBwdIdeal.main_v0_0)) (v1 : (c : Dev Cert.RmsBwdIdeal.nD) → Buf (Elt Ideal) ((c.tc : Thread Cert.RmsBwdIdeal.nD Cert.RmsBwdIdeal.τ).loc Cert.RmsBwdIdeal.main_v0_1)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v0_0) = v0 c
          ∧ r.2.mem ((c.tc : Thread Cert.RmsBwdIdeal.nD Cert.RmsBwdIdeal.τ).loc Cert.RmsBwdIdeal.main_v0_1) = v1 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3)
          ∧ r.2.mem ((c.tc : Thread Cert.RmsBwdIdeal.nD Cert.RmsBwdIdeal.τ).loc Cert.RmsBwdIdeal.main_arg4) = m ((c.tc : Thread Cert.RmsBwdIdeal.nD Cert.RmsBwdIdeal.τ).loc Cert.RmsBwdIdeal.main_arg4))
      ∧ θ_run (Cert.RmsBwdRefIdeal.defs (F := Ideal)) (onTc (τ := Cert.RmsBwdRefIdeal.τ) (Cert.RmsBwdRefIdeal.main (F := Ideal))) ⟨m', fun _ => 0, g'⟩ (fun r => ∀ c : Dev Cert.RmsBwdRefIdeal.nD,
          r.2.mem ((c.tc : Thread Cert.RmsBwdRefIdeal.nD Cert.RmsBwdRefIdeal.τ).loc Cert.RmsBwdRefIdeal.main_v35) = v0 c
          ∧ r.2.mem ((c.tc : Thread Cert.RmsBwdRefIdeal.nD Cert.RmsBwdRefIdeal.τ).loc Cert.RmsBwdRefIdeal.main_v18) = v1 c
          ∧ r.2.mem ((c.tc : Thread Cert.RmsBwdRefIdeal.nD Cert.RmsBwdRefIdeal.τ).loc Cert.RmsBwdRefIdeal.main_arg0) = m' ((c.tc : Thread Cert.RmsBwdRefIdeal.nD Cert.RmsBwdRefIdeal.τ).loc Cert.RmsBwdRefIdeal.main_arg0)
          ∧ r.2.mem ((c.tc : Thread Cert.RmsBwdRefIdeal.nD Cert.RmsBwdRefIdeal.τ).loc Cert.RmsBwdRefIdeal.main_arg1) = m' ((c.tc : Thread Cert.RmsBwdRefIdeal.nD Cert.RmsBwdRefIdeal.τ).loc Cert.RmsBwdRefIdeal.main_arg1)
          ∧ r.2.mem ((c.tc : Thread Cert.RmsBwdRefIdeal.nD Cert.RmsBwdRefIdeal.τ).loc Cert.RmsBwdRefIdeal.main_arg2) = m' ((c.tc : Thread Cert.RmsBwdRefIdeal.nD Cert.RmsBwdRefIdeal.τ).loc Cert.RmsBwdRefIdeal.main_arg2)
          ∧ r.2.mem ((c.tc : Thread Cert.RmsBwdRefIdeal.nD Cert.RmsBwdRefIdeal.τ).loc Cert.RmsBwdRefIdeal.main_arg3) = m' ((c.tc : Thread Cert.RmsBwdRefIdeal.nD Cert.RmsBwdRefIdeal.τ).loc Cert.RmsBwdRefIdeal.main_arg3)
          ∧ r.2.mem ((c.tc : Thread Cert.RmsBwdRefIdeal.nD Cert.RmsBwdRefIdeal.τ).loc Cert.RmsBwdRefIdeal.main_arg4) = m' ((c.tc : Thread Cert.RmsBwdRefIdeal.nD Cert.RmsBwdRefIdeal.τ).loc Cert.RmsBwdRefIdeal.main_arg4))

def preserves_MemAttn_MemAttnIdeal : Prop :=
  True

def algebraic_MemAttnIdeal_MemAttnRefIdeal [hMemAttnIdeal : Cert.MemAttnIdeal.Facts] [hMemAttnRefIdeal : Cert.MemAttnRefIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg)
    (m' : (ℓ : Loc Cert.MemAttnRefIdeal.nD Cert.MemAttnRefIdeal.τ Cert.MemAttnRefIdeal.sig) → Buf (Elt Ideal) ℓ) (g' : Dev Cert.MemAttnRefIdeal.nD → PrngReg), Pre_MemAttnIdeal m →
    (∀ c : Dev Cert.MemAttnIdeal.nD,
      m' ((c.tc : Thread Cert.MemAttnRefIdeal.nD Cert.MemAttnRefIdeal.τ).loc Cert.MemAttnRefIdeal.main_arg0) = m ((c.tc : Thread Cert.MemAttnIdeal.nD Cert.MemAttnIdeal.τ).loc Cert.MemAttnIdeal.main_arg0)
      ∧ m' ((c.tc : Thread Cert.MemAttnRefIdeal.nD Cert.MemAttnRefIdeal.τ).loc Cert.MemAttnRefIdeal.main_arg1) = m ((c.tc : Thread Cert.MemAttnIdeal.nD Cert.MemAttnIdeal.τ).loc Cert.MemAttnIdeal.main_arg1)
      ∧ m' ((c.tc : Thread Cert.MemAttnRefIdeal.nD Cert.MemAttnRefIdeal.τ).loc Cert.MemAttnRefIdeal.main_arg2) = m ((c.tc : Thread Cert.MemAttnIdeal.nD Cert.MemAttnIdeal.τ).loc Cert.MemAttnIdeal.main_arg2)
      ∧ m' ((c.tc : Thread Cert.MemAttnRefIdeal.nD Cert.MemAttnRefIdeal.τ).loc Cert.MemAttnRefIdeal.main_arg3) = m ((c.tc : Thread Cert.MemAttnIdeal.nD Cert.MemAttnIdeal.τ).loc Cert.MemAttnIdeal.main_arg3)
      ∧ m' ((c.tc : Thread Cert.MemAttnRefIdeal.nD Cert.MemAttnRefIdeal.τ).loc Cert.MemAttnRefIdeal.main_arg4) = m ((c.tc : Thread Cert.MemAttnIdeal.nD Cert.MemAttnIdeal.τ).loc Cert.MemAttnIdeal.main_arg4)) →
    ∃ (v0 : (c : Dev Cert.MemAttnIdeal.nD) → Buf (Elt Ideal) ((c.tc : Thread Cert.MemAttnIdeal.nD Cert.MemAttnIdeal.τ).loc Cert.MemAttnIdeal.main_v8)) (v1 : (c : Dev Cert.MemAttnIdeal.nD) → Buf (Elt Ideal) ((c.tc : Thread Cert.MemAttnIdeal.nD Cert.MemAttnIdeal.τ).loc Cert.MemAttnIdeal.main_v9_0)) (v2 : (c : Dev Cert.MemAttnIdeal.nD) → Buf (Elt Ideal) ((c.tc : Thread Cert.MemAttnIdeal.nD Cert.MemAttnIdeal.τ).loc Cert.MemAttnIdeal.main_v11)) (v3 : (c : Dev Cert.MemAttnIdeal.nD) → Buf (Elt Ideal) ((c.tc : Thread Cert.MemAttnIdeal.nD Cert.MemAttnIdeal.τ).loc Cert.MemAttnIdeal.main_v13)),
      θ_run (Cert.MemAttnIdeal.defs (F := Ideal)) (onTc (τ := Cert.MemAttnIdeal.τ) (Cert.MemAttnIdeal.main (F := Ideal))) ⟨m, fun _ => 0, g⟩ (fun r => ∀ c : Dev Cert.MemAttnIdeal.nD,
          r.2.mem ((c.tc : Thread Cert.MemAttnIdeal.nD Cert.MemAttnIdeal.τ).loc Cert.MemAttnIdeal.main_v8) = v0 c
          ∧ r.2.mem ((c.tc : Thread Cert.MemAttnIdeal.nD Cert.MemAttnIdeal.τ).loc Cert.MemAttnIdeal.main_v9_0) = v1 c
          ∧ r.2.mem ((c.tc : Thread Cert.MemAttnIdeal.nD Cert.MemAttnIdeal.τ).loc Cert.MemAttnIdeal.main_v11) = v2 c
          ∧ r.2.mem ((c.tc : Thread Cert.MemAttnIdeal.nD Cert.MemAttnIdeal.τ).loc Cert.MemAttnIdeal.main_v13) = v3 c
          ∧ r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
          ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
          ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2)
          ∧ r.2.mem ((c.tc : Thread Cert.MemAttnIdeal.nD Cert.MemAttnIdeal.τ).loc Cert.MemAttnIdeal.main_arg3) = m ((c.tc : Thread Cert.MemAttnIdeal.nD Cert.MemAttnIdeal.τ).loc Cert.MemAttnIdeal.main_arg3)
          ∧ r.2.mem ((c.tc : Thread Cert.MemAttnIdeal.nD Cert.MemAttnIdeal.τ).loc Cert.MemAttnIdeal.main_arg4) = m ((c.tc : Thread Cert.MemAttnIdeal.nD Cert.MemAttnIdeal.τ).loc Cert.MemAttnIdeal.main_arg4))
      ∧ θ_run (Cert.MemAttnRefIdeal.defs (F := Ideal)) (onTc (τ := Cert.MemAttnRefIdeal.τ) (Cert.MemAttnRefIdeal.main (F := Ideal))) ⟨m', fun _ => 0, g'⟩ (fun r => ∀ c : Dev Cert.MemAttnRefIdeal.nD,
          r.2.mem ((c.tc : Thread Cert.MemAttnRefIdeal.nD Cert.MemAttnRefIdeal.τ).loc Cert.MemAttnRefIdeal.main_v105) = v0 c
          ∧ r.2.mem ((c.tc : Thread Cert.MemAttnRefIdeal.nD Cert.MemAttnRefIdeal.τ).loc Cert.MemAttnRefIdeal.main_v106) = v1 c
          ∧ r.2.mem ((c.tc : Thread Cert.MemAttnRefIdeal.nD Cert.MemAttnRefIdeal.τ).loc Cert.MemAttnRefIdeal.main_v67) = v2 c
          ∧ r.2.mem ((c.tc : Thread Cert.MemAttnRefIdeal.nD Cert.MemAttnRefIdeal.τ).loc Cert.MemAttnRefIdeal.main_v88) = v3 c
          ∧ r.2.mem ((c.tc : Thread Cert.MemAttnRefIdeal.nD Cert.MemAttnRefIdeal.τ).loc Cert.MemAttnRefIdeal.main_arg0) = m' ((c.tc : Thread Cert.MemAttnRefIdeal.nD Cert.MemAttnRefIdeal.τ).loc Cert.MemAttnRefIdeal.main_arg0)
          ∧ r.2.mem ((c.tc : Thread Cert.MemAttnRefIdeal.nD Cert.MemAttnRefIdeal.τ).loc Cert.MemAttnRefIdeal.main_arg1) = m' ((c.tc : Thread Cert.MemAttnRefIdeal.nD Cert.MemAttnRefIdeal.τ).loc Cert.MemAttnRefIdeal.main_arg1)
          ∧ r.2.mem ((c.tc : Thread Cert.MemAttnRefIdeal.nD Cert.MemAttnRefIdeal.τ).loc Cert.MemAttnRefIdeal.main_arg2) = m' ((c.tc : Thread Cert.MemAttnRefIdeal.nD Cert.MemAttnRefIdeal.τ).loc Cert.MemAttnRefIdeal.main_arg2)
          ∧ r.2.mem ((c.tc : Thread Cert.MemAttnRefIdeal.nD Cert.MemAttnRefIdeal.τ).loc Cert.MemAttnRefIdeal.main_arg3) = m' ((c.tc : Thread Cert.MemAttnRefIdeal.nD Cert.MemAttnRefIdeal.τ).loc Cert.MemAttnRefIdeal.main_arg3)
          ∧ r.2.mem ((c.tc : Thread Cert.MemAttnRefIdeal.nD Cert.MemAttnRefIdeal.τ).loc Cert.MemAttnRefIdeal.main_arg4) = m' ((c.tc : Thread Cert.MemAttnRefIdeal.nD Cert.MemAttnRefIdeal.τ).loc Cert.MemAttnRefIdeal.main_arg4))

def preserves_Ret_RetIdeal : Prop :=
  True

def algebraic_RetIdeal_RetRefIdeal [hRetIdeal : Cert.RetIdeal.Facts] [hRetRefIdeal : Cert.RetRefIdeal.Facts] : Prop :=
  ∀ (m : (ℓ : Loc Cert.RetIdeal.nD Cert.RetIdeal.τ Cert.RetIdeal.sig) → Buf (Elt Ideal) ℓ) (g : Dev Cert.RetIdeal.nD → PrngReg)
    (m' : (ℓ : Loc Cert.RetRefIdeal.nD Cert.RetRefIdeal.τ Cert.RetRefIdeal.sig) → Buf (Elt Ideal) ℓ) (g' : Dev Cert.RetRefIdeal.nD → PrngReg), Pre_RetIdeal m →
    (∀ c : Dev Cert.RetIdeal.nD,
      m' ((c.tc : Thread Cert.RetRefIdeal.nD Cert.RetRefIdeal.τ).loc Cert.RetRefIdeal.main_arg0) = m ((c.tc : Thread Cert.RetIdeal.nD Cert.RetIdeal.τ).loc Cert.RetIdeal.main_arg0)
      ∧ m' ((c.tc : Thread Cert.RetRefIdeal.nD Cert.RetRefIdeal.τ).loc Cert.RetRefIdeal.main_arg1) = m ((c.tc : Thread Cert.RetIdeal.nD Cert.RetIdeal.τ).loc Cert.RetIdeal.main_arg1)
      ∧ m' ((c.tc : Thread Cert.RetRefIdeal.nD Cert.RetRefIdeal.τ).loc Cert.RetRefIdeal.main_arg2) = m ((c.tc : Thread Cert.RetIdeal.nD Cert.RetIdeal.τ).loc Cert.RetIdeal.main_arg2)
      ∧ m' ((c.tc : Thread Cert.RetRefIdeal.nD Cert.RetRefIdeal.τ).loc Cert.RetRefIdeal.main_arg3) = m ((c.tc : Thread Cert.RetIdeal.nD Cert.RetIdeal.τ).loc Cert.RetIdeal.main_arg3)) →
    ∃ (v0 : (c : Dev Cert.RetIdeal.nD) → Buf (Elt Ideal) ((c.tc : Thread Cert.RetIdeal.nD Cert.RetIdeal.τ).loc Cert.RetIdeal.main_v32)),
      θ_run (Cert.RetIdeal.defs (F := Ideal)) (onTc (τ := Cert.RetIdeal.τ) (Cert.RetIdeal.main (F := Ideal))) ⟨m, fun _ => 0, g⟩ (fun r => ∀ c : Dev Cert.RetIdeal.nD,
          r.2.mem ((c.tc : Thread Cert.RetIdeal.nD Cert.RetIdeal.τ).loc Cert.RetIdeal.main_v32) = v0 c
          ∧ r.2.mem ((c.tc : Thread Cert.RetIdeal.nD Cert.RetIdeal.τ).loc Cert.RetIdeal.main_arg0) = m ((c.tc : Thread Cert.RetIdeal.nD Cert.RetIdeal.τ).loc Cert.RetIdeal.main_arg0)
          ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
          ∧ r.2.mem ((c.tc : Thread Cert.RetIdeal.nD Cert.RetIdeal.τ).loc Cert.RetIdeal.main_arg2) = m ((c.tc : Thread Cert.RetIdeal.nD Cert.RetIdeal.τ).loc Cert.RetIdeal.main_arg2)
          ∧ r.2.mem ((c.tc : Thread Cert.RetIdeal.nD Cert.RetIdeal.τ).loc Cert.RetIdeal.main_arg3) = m ((c.tc : Thread Cert.RetIdeal.nD Cert.RetIdeal.τ).loc Cert.RetIdeal.main_arg3))
      ∧ θ_run (Cert.RetRefIdeal.defs (F := Ideal)) (onTc (τ := Cert.RetRefIdeal.τ) (Cert.RetRefIdeal.main (F := Ideal))) ⟨m', fun _ => 0, g'⟩ (fun r => ∀ c : Dev Cert.RetRefIdeal.nD,
          r.2.mem ((c.tc : Thread Cert.RetRefIdeal.nD Cert.RetRefIdeal.τ).loc Cert.RetRefIdeal.main_v400) = v0 c
          ∧ r.2.mem ((c.tc : Thread Cert.RetRefIdeal.nD Cert.RetRefIdeal.τ).loc Cert.RetRefIdeal.main_arg0) = m' ((c.tc : Thread Cert.RetRefIdeal.nD Cert.RetRefIdeal.τ).loc Cert.RetRefIdeal.main_arg0)
          ∧ r.2.mem ((c.tc : Thread Cert.RetRefIdeal.nD Cert.RetRefIdeal.τ).loc Cert.RetRefIdeal.main_arg1) = m' ((c.tc : Thread Cert.RetRefIdeal.nD Cert.RetRefIdeal.τ).loc Cert.RetRefIdeal.main_arg1)
          ∧ r.2.mem ((c.tc : Thread Cert.RetRefIdeal.nD Cert.RetRefIdeal.τ).loc Cert.RetRefIdeal.main_arg2) = m' ((c.tc : Thread Cert.RetRefIdeal.nD Cert.RetRefIdeal.τ).loc Cert.RetRefIdeal.main_arg2)
          ∧ r.2.mem ((c.tc : Thread Cert.RetRefIdeal.nD Cert.RetRefIdeal.τ).loc Cert.RetRefIdeal.main_arg3) = m' ((c.tc : Thread Cert.RetRefIdeal.nD Cert.RetRefIdeal.τ).loc Cert.RetRefIdeal.main_arg3))

def preserves_MemProj_MemProjIdeal : Prop :=
  True

def algebraic_MemProjIdeal_MemProjRefIdeal [hMemProjIdeal : Cert.MemProjIdeal.Facts] [hMemProjRefIdeal : Cert.MemProjRefIdeal.Facts] : Prop :=
  ∀ (m : (ℓ : Loc Cert.MemProjIdeal.nD Cert.MemProjIdeal.τ Cert.MemProjIdeal.sig) → Buf (Elt Ideal) ℓ) (g : Dev Cert.MemProjIdeal.nD → PrngReg)
    (m' : (ℓ : Loc Cert.MemProjRefIdeal.nD Cert.MemProjRefIdeal.τ Cert.MemProjRefIdeal.sig) → Buf (Elt Ideal) ℓ) (g' : Dev Cert.MemProjRefIdeal.nD → PrngReg), Pre_MemProjIdeal m →
    (∀ c : Dev Cert.MemProjIdeal.nD,
      m' ((c.tc : Thread Cert.MemProjRefIdeal.nD Cert.MemProjRefIdeal.τ).loc Cert.MemProjRefIdeal.main_arg0) = m ((c.tc : Thread Cert.MemProjIdeal.nD Cert.MemProjIdeal.τ).loc Cert.MemProjIdeal.main_arg0)
      ∧ m' ((c.tc : Thread Cert.MemProjRefIdeal.nD Cert.MemProjRefIdeal.τ).loc Cert.MemProjRefIdeal.main_arg1) = m ((c.tc : Thread Cert.MemProjIdeal.nD Cert.MemProjIdeal.τ).loc Cert.MemProjIdeal.main_arg1)
      ∧ m' ((c.tc : Thread Cert.MemProjRefIdeal.nD Cert.MemProjRefIdeal.τ).loc Cert.MemProjRefIdeal.main_arg2) = m ((c.tc : Thread Cert.MemProjIdeal.nD Cert.MemProjIdeal.τ).loc Cert.MemProjIdeal.main_arg2)
      ∧ m' ((c.tc : Thread Cert.MemProjRefIdeal.nD Cert.MemProjRefIdeal.τ).loc Cert.MemProjRefIdeal.main_arg3) = m ((c.tc : Thread Cert.MemProjIdeal.nD Cert.MemProjIdeal.τ).loc Cert.MemProjIdeal.main_arg3)) →
    ∃ (v0 : (c : Dev Cert.MemProjIdeal.nD) → Buf (Elt Ideal) ((c.tc : Thread Cert.MemProjIdeal.nD Cert.MemProjIdeal.τ).loc Cert.MemProjIdeal.main_v2)) (v1 : (c : Dev Cert.MemProjIdeal.nD) → Buf (Elt Ideal) ((c.tc : Thread Cert.MemProjIdeal.nD Cert.MemProjIdeal.τ).loc Cert.MemProjIdeal.main_v3)) (v2 : (c : Dev Cert.MemProjIdeal.nD) → Buf (Elt Ideal) ((c.tc : Thread Cert.MemProjIdeal.nD Cert.MemProjIdeal.τ).loc Cert.MemProjIdeal.main_v5_1)),
      θ_run (Cert.MemProjIdeal.defs (F := Ideal)) (onTc (τ := Cert.MemProjIdeal.τ) (Cert.MemProjIdeal.main (F := Ideal))) ⟨m, fun _ => 0, g⟩ (fun r => ∀ c : Dev Cert.MemProjIdeal.nD,
          r.2.mem ((c.tc : Thread Cert.MemProjIdeal.nD Cert.MemProjIdeal.τ).loc Cert.MemProjIdeal.main_v2) = v0 c
          ∧ r.2.mem ((c.tc : Thread Cert.MemProjIdeal.nD Cert.MemProjIdeal.τ).loc Cert.MemProjIdeal.main_v3) = v1 c
          ∧ r.2.mem ((c.tc : Thread Cert.MemProjIdeal.nD Cert.MemProjIdeal.τ).loc Cert.MemProjIdeal.main_v5_1) = v2 c
          ∧ r.2.mem ((c.tc : Thread Cert.MemProjIdeal.nD Cert.MemProjIdeal.τ).loc Cert.MemProjIdeal.main_arg0) = m ((c.tc : Thread Cert.MemProjIdeal.nD Cert.MemProjIdeal.τ).loc Cert.MemProjIdeal.main_arg0)
          ∧ r.2.mem ((c.tc : Thread Cert.MemProjIdeal.nD Cert.MemProjIdeal.τ).loc Cert.MemProjIdeal.main_arg1) = m ((c.tc : Thread Cert.MemProjIdeal.nD Cert.MemProjIdeal.τ).loc Cert.MemProjIdeal.main_arg1)
          ∧ r.2.mem ((c.tc : Thread Cert.MemProjIdeal.nD Cert.MemProjIdeal.τ).loc Cert.MemProjIdeal.main_arg2) = m ((c.tc : Thread Cert.MemProjIdeal.nD Cert.MemProjIdeal.τ).loc Cert.MemProjIdeal.main_arg2)
          ∧ r.2.mem ((c.tc : Thread Cert.MemProjIdeal.nD Cert.MemProjIdeal.τ).loc Cert.MemProjIdeal.main_arg3) = m ((c.tc : Thread Cert.MemProjIdeal.nD Cert.MemProjIdeal.τ).loc Cert.MemProjIdeal.main_arg3))
      ∧ θ_run (Cert.MemProjRefIdeal.defs (F := Ideal)) (onTc (τ := Cert.MemProjRefIdeal.τ) (Cert.MemProjRefIdeal.main (F := Ideal))) ⟨m', fun _ => 0, g'⟩ (fun r => ∀ c : Dev Cert.MemProjRefIdeal.nD,
          r.2.mem ((c.tc : Thread Cert.MemProjRefIdeal.nD Cert.MemProjRefIdeal.τ).loc Cert.MemProjRefIdeal.main_v14) = v0 c
          ∧ r.2.mem ((c.tc : Thread Cert.MemProjRefIdeal.nD Cert.MemProjRefIdeal.τ).loc Cert.MemProjRefIdeal.main_v21) = v1 c
          ∧ r.2.mem ((c.tc : Thread Cert.MemProjRefIdeal.nD Cert.MemProjRefIdeal.τ).loc Cert.MemProjRefIdeal.main_v20) = v2 c
          ∧ r.2.mem ((c.tc : Thread Cert.MemProjRefIdeal.nD Cert.MemProjRefIdeal.τ).loc Cert.MemProjRefIdeal.main_arg0) = m' ((c.tc : Thread Cert.MemProjRefIdeal.nD Cert.MemProjRefIdeal.τ).loc Cert.MemProjRefIdeal.main_arg0)
          ∧ r.2.mem ((c.tc : Thread Cert.MemProjRefIdeal.nD Cert.MemProjRefIdeal.τ).loc Cert.MemProjRefIdeal.main_arg1) = m' ((c.tc : Thread Cert.MemProjRefIdeal.nD Cert.MemProjRefIdeal.τ).loc Cert.MemProjRefIdeal.main_arg1)
          ∧ r.2.mem ((c.tc : Thread Cert.MemProjRefIdeal.nD Cert.MemProjRefIdeal.τ).loc Cert.MemProjRefIdeal.main_arg2) = m' ((c.tc : Thread Cert.MemProjRefIdeal.nD Cert.MemProjRefIdeal.τ).loc Cert.MemProjRefIdeal.main_arg2)
          ∧ r.2.mem ((c.tc : Thread Cert.MemProjRefIdeal.nD Cert.MemProjRefIdeal.τ).loc Cert.MemProjRefIdeal.main_arg3) = m' ((c.tc : Thread Cert.MemProjRefIdeal.nD Cert.MemProjRefIdeal.τ).loc Cert.MemProjRefIdeal.main_arg3))

def preserves_RmsFfn_RmsFfnIdeal : Prop :=
  True

def algebraic_RmsFfnIdeal_RmsFfnRefIdeal [hRmsFfnIdeal : Cert.RmsFfnIdeal.Facts] [hRmsFfnRefIdeal : Cert.RmsFfnRefIdeal.Facts] : Prop :=
  ∀ (m : (ℓ : Loc Cert.RmsFfnIdeal.nD Cert.RmsFfnIdeal.τ Cert.RmsFfnIdeal.sig) → Buf (Elt Ideal) ℓ) (g : Dev Cert.RmsFfnIdeal.nD → PrngReg)
    (m' : (ℓ : Loc Cert.RmsFfnRefIdeal.nD Cert.RmsFfnRefIdeal.τ Cert.RmsFfnRefIdeal.sig) → Buf (Elt Ideal) ℓ) (g' : Dev Cert.RmsFfnRefIdeal.nD → PrngReg), Pre_RmsFfnIdeal m →
    (∀ c : Dev Cert.RmsFfnIdeal.nD,
      m' ((c.tc : Thread Cert.RmsFfnRefIdeal.nD Cert.RmsFfnRefIdeal.τ).loc Cert.RmsFfnRefIdeal.main_arg0) = m ((c.tc : Thread Cert.RmsFfnIdeal.nD Cert.RmsFfnIdeal.τ).loc Cert.RmsFfnIdeal.main_arg0)
      ∧ m' ((c.tc : Thread Cert.RmsFfnRefIdeal.nD Cert.RmsFfnRefIdeal.τ).loc Cert.RmsFfnRefIdeal.main_arg1) = m ((c.tc : Thread Cert.RmsFfnIdeal.nD Cert.RmsFfnIdeal.τ).loc Cert.RmsFfnIdeal.main_arg1)
      ∧ m' ((c.tc : Thread Cert.RmsFfnRefIdeal.nD Cert.RmsFfnRefIdeal.τ).loc Cert.RmsFfnRefIdeal.main_arg2) = m ((c.tc : Thread Cert.RmsFfnIdeal.nD Cert.RmsFfnIdeal.τ).loc Cert.RmsFfnIdeal.main_arg2)
      ∧ m' ((c.tc : Thread Cert.RmsFfnRefIdeal.nD Cert.RmsFfnRefIdeal.τ).loc Cert.RmsFfnRefIdeal.main_arg3) = m ((c.tc : Thread Cert.RmsFfnIdeal.nD Cert.RmsFfnIdeal.τ).loc Cert.RmsFfnIdeal.main_arg3)) →
    ∃ (v0 : (c : Dev Cert.RmsFfnIdeal.nD) → Buf (Elt Ideal) ((c.tc : Thread Cert.RmsFfnIdeal.nD Cert.RmsFfnIdeal.τ).loc Cert.RmsFfnIdeal.main_v0_0)) (v1 : (c : Dev Cert.RmsFfnIdeal.nD) → Buf (Elt Ideal) ((c.tc : Thread Cert.RmsFfnIdeal.nD Cert.RmsFfnIdeal.τ).loc Cert.RmsFfnIdeal.main_v0_1)),
      θ_run (Cert.RmsFfnIdeal.defs (F := Ideal)) (onTc (τ := Cert.RmsFfnIdeal.τ) (Cert.RmsFfnIdeal.main (F := Ideal))) ⟨m, fun _ => 0, g⟩ (fun r => ∀ c : Dev Cert.RmsFfnIdeal.nD,
          r.2.mem ((c.tc : Thread Cert.RmsFfnIdeal.nD Cert.RmsFfnIdeal.τ).loc Cert.RmsFfnIdeal.main_v0_0) = v0 c
          ∧ r.2.mem ((c.tc : Thread Cert.RmsFfnIdeal.nD Cert.RmsFfnIdeal.τ).loc Cert.RmsFfnIdeal.main_v0_1) = v1 c
          ∧ r.2.mem ((c.tc : Thread Cert.RmsFfnIdeal.nD Cert.RmsFfnIdeal.τ).loc Cert.RmsFfnIdeal.main_arg0) = m ((c.tc : Thread Cert.RmsFfnIdeal.nD Cert.RmsFfnIdeal.τ).loc Cert.RmsFfnIdeal.main_arg0)
          ∧ r.2.mem ((c.tc : Thread Cert.RmsFfnIdeal.nD Cert.RmsFfnIdeal.τ).loc Cert.RmsFfnIdeal.main_arg1) = m ((c.tc : Thread Cert.RmsFfnIdeal.nD Cert.RmsFfnIdeal.τ).loc Cert.RmsFfnIdeal.main_arg1)
          ∧ r.2.mem ((c.tc : Thread Cert.RmsFfnIdeal.nD Cert.RmsFfnIdeal.τ).loc Cert.RmsFfnIdeal.main_arg2) = m ((c.tc : Thread Cert.RmsFfnIdeal.nD Cert.RmsFfnIdeal.τ).loc Cert.RmsFfnIdeal.main_arg2)
          ∧ r.2.mem ((c.tc : Thread Cert.RmsFfnIdeal.nD Cert.RmsFfnIdeal.τ).loc Cert.RmsFfnIdeal.main_arg3) = m ((c.tc : Thread Cert.RmsFfnIdeal.nD Cert.RmsFfnIdeal.τ).loc Cert.RmsFfnIdeal.main_arg3))
      ∧ θ_run (Cert.RmsFfnRefIdeal.defs (F := Ideal)) (onTc (τ := Cert.RmsFfnRefIdeal.τ) (Cert.RmsFfnRefIdeal.main (F := Ideal))) ⟨m', fun _ => 0, g'⟩ (fun r => ∀ c : Dev Cert.RmsFfnRefIdeal.nD,
          r.2.mem ((c.tc : Thread Cert.RmsFfnRefIdeal.nD Cert.RmsFfnRefIdeal.τ).loc Cert.RmsFfnRefIdeal.main_v34) = v0 c
          ∧ r.2.mem ((c.tc : Thread Cert.RmsFfnRefIdeal.nD Cert.RmsFfnRefIdeal.τ).loc Cert.RmsFfnRefIdeal.main_v17) = v1 c
          ∧ r.2.mem ((c.tc : Thread Cert.RmsFfnRefIdeal.nD Cert.RmsFfnRefIdeal.τ).loc Cert.RmsFfnRefIdeal.main_arg0) = m' ((c.tc : Thread Cert.RmsFfnRefIdeal.nD Cert.RmsFfnRefIdeal.τ).loc Cert.RmsFfnRefIdeal.main_arg0)
          ∧ r.2.mem ((c.tc : Thread Cert.RmsFfnRefIdeal.nD Cert.RmsFfnRefIdeal.τ).loc Cert.RmsFfnRefIdeal.main_arg1) = m' ((c.tc : Thread Cert.RmsFfnRefIdeal.nD Cert.RmsFfnRefIdeal.τ).loc Cert.RmsFfnRefIdeal.main_arg1)
          ∧ r.2.mem ((c.tc : Thread Cert.RmsFfnRefIdeal.nD Cert.RmsFfnRefIdeal.τ).loc Cert.RmsFfnRefIdeal.main_arg2) = m' ((c.tc : Thread Cert.RmsFfnRefIdeal.nD Cert.RmsFfnRefIdeal.τ).loc Cert.RmsFfnRefIdeal.main_arg2)
          ∧ r.2.mem ((c.tc : Thread Cert.RmsFfnRefIdeal.nD Cert.RmsFfnRefIdeal.τ).loc Cert.RmsFfnRefIdeal.main_arg3) = m' ((c.tc : Thread Cert.RmsFfnRefIdeal.nD Cert.RmsFfnRefIdeal.τ).loc Cert.RmsFfnRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v15) = v0 c
          ∧ r.2.mem ((c.tc : Thread Cert.LossRefIdeal.nD Cert.LossRefIdeal.τ).loc Cert.LossRefIdeal.main_v14) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_Small_SmallIdeal : Prop :=
  True

def algebraic_SmallIdeal_SmallRefIdeal [hSmallIdeal : Cert.SmallIdeal.Facts] [hSmallRefIdeal : Cert.SmallRefIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal m →
    (∀ c : Dev Cert.SmallIdeal.nD,
      m' ((c.tc : Thread Cert.SmallRefIdeal.nD Cert.SmallRefIdeal.τ).loc Cert.SmallRefIdeal.main_arg0) = m ((c.tc : Thread Cert.SmallIdeal.nD Cert.SmallIdeal.τ).loc Cert.SmallIdeal.main_arg0)
      ∧ m' ((c.tc : Thread Cert.SmallRefIdeal.nD Cert.SmallRefIdeal.τ).loc Cert.SmallRefIdeal.main_arg1) = m ((c.tc : Thread Cert.SmallIdeal.nD Cert.SmallIdeal.τ).loc Cert.SmallIdeal.main_arg1)
      ∧ m' ((c.tc : Thread Cert.SmallRefIdeal.nD Cert.SmallRefIdeal.τ).loc Cert.SmallRefIdeal.main_arg2) = m ((c.tc : Thread Cert.SmallIdeal.nD Cert.SmallIdeal.τ).loc Cert.SmallIdeal.main_arg2)
      ∧ m' ((c.tc : Thread Cert.SmallRefIdeal.nD Cert.SmallRefIdeal.τ).loc Cert.SmallRefIdeal.main_arg3) = m ((c.tc : Thread Cert.SmallIdeal.nD Cert.SmallIdeal.τ).loc Cert.SmallIdeal.main_arg3)) →
    ∃ (v0 : (c : Dev Cert.SmallIdeal.nD) → Buf (Elt Ideal) ((c.tc : Thread Cert.SmallIdeal.nD Cert.SmallIdeal.τ).loc Cert.SmallIdeal.main_v0_0)) (v1 : (c : Dev Cert.SmallIdeal.nD) → Buf (Elt Ideal) ((c.tc : Thread Cert.SmallIdeal.nD Cert.SmallIdeal.τ).loc Cert.SmallIdeal.main_v0_1)) (v2 : (c : Dev Cert.SmallIdeal.nD) → Buf (Elt Ideal) ((c.tc : Thread Cert.SmallIdeal.nD Cert.SmallIdeal.τ).loc Cert.SmallIdeal.main_v0_2)) (v3 : (c : Dev Cert.SmallIdeal.nD) → Buf (Elt Ideal) ((c.tc : Thread Cert.SmallIdeal.nD Cert.SmallIdeal.τ).loc Cert.SmallIdeal.main_v0_3)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v0_0) = v0 c
          ∧ r.2.mem ((c.tc : Thread Cert.SmallIdeal.nD Cert.SmallIdeal.τ).loc Cert.SmallIdeal.main_v0_1) = v1 c
          ∧ r.2.mem ((c.tc : Thread Cert.SmallIdeal.nD Cert.SmallIdeal.τ).loc Cert.SmallIdeal.main_v0_2) = v2 c
          ∧ r.2.mem ((c.tc : Thread Cert.SmallIdeal.nD Cert.SmallIdeal.τ).loc Cert.SmallIdeal.main_v0_3) = v3 c
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
          ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
          ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3))
      ∧ θ_run (Cert.SmallRefIdeal.defs (F := Ideal)) (onTc (τ := Cert.SmallRefIdeal.τ) (Cert.SmallRefIdeal.main (F := Ideal))) ⟨m', fun _ => 0, g'⟩ (fun r => ∀ c : Dev Cert.SmallRefIdeal.nD,
          r.2.mem ((c.tc : Thread Cert.SmallRefIdeal.nD Cert.SmallRefIdeal.τ).loc Cert.SmallRefIdeal.main_v0) = v0 c
          ∧ r.2.mem ((c.tc : Thread Cert.SmallRefIdeal.nD Cert.SmallRefIdeal.τ).loc Cert.SmallRefIdeal.main_v24) = v1 c
          ∧ r.2.mem ((c.tc : Thread Cert.SmallRefIdeal.nD Cert.SmallRefIdeal.τ).loc Cert.SmallRefIdeal.main_v5) = v2 c
          ∧ r.2.mem ((c.tc : Thread Cert.SmallRefIdeal.nD Cert.SmallRefIdeal.τ).loc Cert.SmallRefIdeal.main_v11) = v3 c
          ∧ r.2.mem ((c.tc : Thread Cert.SmallRefIdeal.nD Cert.SmallRefIdeal.τ).loc Cert.SmallRefIdeal.main_arg0) = m' ((c.tc : Thread Cert.SmallRefIdeal.nD Cert.SmallRefIdeal.τ).loc Cert.SmallRefIdeal.main_arg0)
          ∧ r.2.mem ((c.tc : Thread Cert.SmallRefIdeal.nD Cert.SmallRefIdeal.τ).loc Cert.SmallRefIdeal.main_arg1) = m' ((c.tc : Thread Cert.SmallRefIdeal.nD Cert.SmallRefIdeal.τ).loc Cert.SmallRefIdeal.main_arg1)
          ∧ r.2.mem ((c.tc : Thread Cert.SmallRefIdeal.nD Cert.SmallRefIdeal.τ).loc Cert.SmallRefIdeal.main_arg2) = m' ((c.tc : Thread Cert.SmallRefIdeal.nD Cert.SmallRefIdeal.τ).loc Cert.SmallRefIdeal.main_arg2)
          ∧ r.2.mem ((c.tc : Thread Cert.SmallRefIdeal.nD Cert.SmallRefIdeal.τ).loc Cert.SmallRefIdeal.main_arg3) = m' ((c.tc : Thread Cert.SmallRefIdeal.nD Cert.SmallRefIdeal.τ).loc Cert.SmallRefIdeal.main_arg3))

def preserves_AdamFfnIn_AdamFfnInIdeal : Prop :=
  True

def algebraic_AdamFfnInIdeal_AdamFfnInRefIdeal [hAdamFfnInIdeal : Cert.AdamFfnInIdeal.Facts] [hAdamFfnInRefIdeal : Cert.AdamFfnInRefIdeal.Facts] : Prop :=
  ∀ (m : (ℓ : Loc Cert.AdamFfnInIdeal.nD Cert.AdamFfnInIdeal.τ Cert.AdamFfnInIdeal.sig) → Buf (Elt Ideal) ℓ) (g : Dev Cert.AdamFfnInIdeal.nD → PrngReg)
    (m' : (ℓ : Loc Cert.AdamFfnInRefIdeal.nD Cert.AdamFfnInRefIdeal.τ Cert.AdamFfnInRefIdeal.sig) → Buf (Elt Ideal) ℓ) (g' : Dev Cert.AdamFfnInRefIdeal.nD → PrngReg), Pre_AdamFfnInIdeal m →
    (∀ c : Dev Cert.AdamFfnInIdeal.nD,
      m' ((c.tc : Thread Cert.AdamFfnInRefIdeal.nD Cert.AdamFfnInRefIdeal.τ).loc Cert.AdamFfnInRefIdeal.main_arg0) = m ((c.tc : Thread Cert.AdamFfnInIdeal.nD Cert.AdamFfnInIdeal.τ).loc Cert.AdamFfnInIdeal.main_arg0)
      ∧ m' ((c.tc : Thread Cert.AdamFfnInRefIdeal.nD Cert.AdamFfnInRefIdeal.τ).loc Cert.AdamFfnInRefIdeal.main_arg1) = m ((c.tc : Thread Cert.AdamFfnInIdeal.nD Cert.AdamFfnInIdeal.τ).loc Cert.AdamFfnInIdeal.main_arg1)
      ∧ m' ((c.tc : Thread Cert.AdamFfnInRefIdeal.nD Cert.AdamFfnInRefIdeal.τ).loc Cert.AdamFfnInRefIdeal.main_arg2) = m ((c.tc : Thread Cert.AdamFfnInIdeal.nD Cert.AdamFfnInIdeal.τ).loc Cert.AdamFfnInIdeal.main_arg2)
      ∧ m' ((c.tc : Thread Cert.AdamFfnInRefIdeal.nD Cert.AdamFfnInRefIdeal.τ).loc Cert.AdamFfnInRefIdeal.main_arg3) = m ((c.tc : Thread Cert.AdamFfnInIdeal.nD Cert.AdamFfnInIdeal.τ).loc Cert.AdamFfnInIdeal.main_arg3)
      ∧ m' ((c.tc : Thread Cert.AdamFfnInRefIdeal.nD Cert.AdamFfnInRefIdeal.τ).loc Cert.AdamFfnInRefIdeal.main_arg4) = m ((c.tc : Thread Cert.AdamFfnInIdeal.nD Cert.AdamFfnInIdeal.τ).loc Cert.AdamFfnInIdeal.main_arg4)
      ∧ m' ((c.tc : Thread Cert.AdamFfnInRefIdeal.nD Cert.AdamFfnInRefIdeal.τ).loc Cert.AdamFfnInRefIdeal.main_arg5) = m ((c.tc : Thread Cert.AdamFfnInIdeal.nD Cert.AdamFfnInIdeal.τ).loc Cert.AdamFfnInIdeal.main_arg5)
      ∧ m' ((c.tc : Thread Cert.AdamFfnInRefIdeal.nD Cert.AdamFfnInRefIdeal.τ).loc Cert.AdamFfnInRefIdeal.main_arg6) = m ((c.tc : Thread Cert.AdamFfnInIdeal.nD Cert.AdamFfnInIdeal.τ).loc Cert.AdamFfnInIdeal.main_arg6)
      ∧ m' ((c.tc : Thread Cert.AdamFfnInRefIdeal.nD Cert.AdamFfnInRefIdeal.τ).loc Cert.AdamFfnInRefIdeal.main_arg7) = m ((c.tc : Thread Cert.AdamFfnInIdeal.nD Cert.AdamFfnInIdeal.τ).loc Cert.AdamFfnInIdeal.main_arg7)) →
    ∃ (v0 : (c : Dev Cert.AdamFfnInIdeal.nD) → Buf (Elt Ideal) ((c.tc : Thread Cert.AdamFfnInIdeal.nD Cert.AdamFfnInIdeal.τ).loc Cert.AdamFfnInIdeal.main_v0_0)) (v1 : (c : Dev Cert.AdamFfnInIdeal.nD) → Buf (Elt Ideal) ((c.tc : Thread Cert.AdamFfnInIdeal.nD Cert.AdamFfnInIdeal.τ).loc Cert.AdamFfnInIdeal.main_v0_1)) (v2 : (c : Dev Cert.AdamFfnInIdeal.nD) → Buf (Elt Ideal) ((c.tc : Thread Cert.AdamFfnInIdeal.nD Cert.AdamFfnInIdeal.τ).loc Cert.AdamFfnInIdeal.main_v0_2)) (v3 : (c : Dev Cert.AdamFfnInIdeal.nD) → Buf (Elt Ideal) ((c.tc : Thread Cert.AdamFfnInIdeal.nD Cert.AdamFfnInIdeal.τ).loc Cert.AdamFfnInIdeal.main_v0_3)),
      θ_run (Cert.AdamFfnInIdeal.defs (F := Ideal)) (onTc (τ := Cert.AdamFfnInIdeal.τ) (Cert.AdamFfnInIdeal.main (F := Ideal))) ⟨m, fun _ => 0, g⟩ (fun r => ∀ c : Dev Cert.AdamFfnInIdeal.nD,
          r.2.mem ((c.tc : Thread Cert.AdamFfnInIdeal.nD Cert.AdamFfnInIdeal.τ).loc Cert.AdamFfnInIdeal.main_v0_0) = v0 c
          ∧ r.2.mem ((c.tc : Thread Cert.AdamFfnInIdeal.nD Cert.AdamFfnInIdeal.τ).loc Cert.AdamFfnInIdeal.main_v0_1) = v1 c
          ∧ r.2.mem ((c.tc : Thread Cert.AdamFfnInIdeal.nD Cert.AdamFfnInIdeal.τ).loc Cert.AdamFfnInIdeal.main_v0_2) = v2 c
          ∧ r.2.mem ((c.tc : Thread Cert.AdamFfnInIdeal.nD Cert.AdamFfnInIdeal.τ).loc Cert.AdamFfnInIdeal.main_v0_3) = v3 c
          ∧ r.2.mem ((c.tc : Thread Cert.AdamFfnInIdeal.nD Cert.AdamFfnInIdeal.τ).loc Cert.AdamFfnInIdeal.main_arg0) = m ((c.tc : Thread Cert.AdamFfnInIdeal.nD Cert.AdamFfnInIdeal.τ).loc Cert.AdamFfnInIdeal.main_arg0)
          ∧ r.2.mem ((c.tc : Thread Cert.AdamFfnInIdeal.nD Cert.AdamFfnInIdeal.τ).loc Cert.AdamFfnInIdeal.main_arg1) = m ((c.tc : Thread Cert.AdamFfnInIdeal.nD Cert.AdamFfnInIdeal.τ).loc Cert.AdamFfnInIdeal.main_arg1)
          ∧ r.2.mem ((c.tc : Thread Cert.AdamFfnInIdeal.nD Cert.AdamFfnInIdeal.τ).loc Cert.AdamFfnInIdeal.main_arg2) = m ((c.tc : Thread Cert.AdamFfnInIdeal.nD Cert.AdamFfnInIdeal.τ).loc Cert.AdamFfnInIdeal.main_arg2)
          ∧ r.2.mem ((c.tc : Thread Cert.AdamFfnInIdeal.nD Cert.AdamFfnInIdeal.τ).loc Cert.AdamFfnInIdeal.main_arg3) = m ((c.tc : Thread Cert.AdamFfnInIdeal.nD Cert.AdamFfnInIdeal.τ).loc Cert.AdamFfnInIdeal.main_arg3)
          ∧ r.2.mem ((c.tc : Thread Cert.AdamFfnInIdeal.nD Cert.AdamFfnInIdeal.τ).loc Cert.AdamFfnInIdeal.main_arg4) = m ((c.tc : Thread Cert.AdamFfnInIdeal.nD Cert.AdamFfnInIdeal.τ).loc Cert.AdamFfnInIdeal.main_arg4)
          ∧ r.2.mem ((c.tc : Thread Cert.AdamFfnInIdeal.nD Cert.AdamFfnInIdeal.τ).loc Cert.AdamFfnInIdeal.main_arg5) = m ((c.tc : Thread Cert.AdamFfnInIdeal.nD Cert.AdamFfnInIdeal.τ).loc Cert.AdamFfnInIdeal.main_arg5)
          ∧ r.2.mem ((c.tc : Thread Cert.AdamFfnInIdeal.nD Cert.AdamFfnInIdeal.τ).loc Cert.AdamFfnInIdeal.main_arg6) = m ((c.tc : Thread Cert.AdamFfnInIdeal.nD Cert.AdamFfnInIdeal.τ).loc Cert.AdamFfnInIdeal.main_arg6)
          ∧ r.2.mem ((c.tc : Thread Cert.AdamFfnInIdeal.nD Cert.AdamFfnInIdeal.τ).loc Cert.AdamFfnInIdeal.main_arg7) = m ((c.tc : Thread Cert.AdamFfnInIdeal.nD Cert.AdamFfnInIdeal.τ).loc Cert.AdamFfnInIdeal.main_arg7))
      ∧ θ_run (Cert.AdamFfnInRefIdeal.defs (F := Ideal)) (onTc (τ := Cert.AdamFfnInRefIdeal.τ) (Cert.AdamFfnInRefIdeal.main (F := Ideal))) ⟨m', fun _ => 0, g'⟩ (fun r => ∀ c : Dev Cert.AdamFfnInRefIdeal.nD,
          r.2.mem ((c.tc : Thread Cert.AdamFfnInRefIdeal.nD Cert.AdamFfnInRefIdeal.τ).loc Cert.AdamFfnInRefIdeal.main_v0) = v0 c
          ∧ r.2.mem ((c.tc : Thread Cert.AdamFfnInRefIdeal.nD Cert.AdamFfnInRefIdeal.τ).loc Cert.AdamFfnInRefIdeal.main_v25) = v1 c
          ∧ r.2.mem ((c.tc : Thread Cert.AdamFfnInRefIdeal.nD Cert.AdamFfnInRefIdeal.τ).loc Cert.AdamFfnInRefIdeal.main_v6) = v2 c
          ∧ r.2.mem ((c.tc : Thread Cert.AdamFfnInRefIdeal.nD Cert.AdamFfnInRefIdeal.τ).loc Cert.AdamFfnInRefIdeal.main_v12) = v3 c
          ∧ r.2.mem ((c.tc : Thread Cert.AdamFfnInRefIdeal.nD Cert.AdamFfnInRefIdeal.τ).loc Cert.AdamFfnInRefIdeal.main_arg0) = m' ((c.tc : Thread Cert.AdamFfnInRefIdeal.nD Cert.AdamFfnInRefIdeal.τ).loc Cert.AdamFfnInRefIdeal.main_arg0)
          ∧ r.2.mem ((c.tc : Thread Cert.AdamFfnInRefIdeal.nD Cert.AdamFfnInRefIdeal.τ).loc Cert.AdamFfnInRefIdeal.main_arg1) = m' ((c.tc : Thread Cert.AdamFfnInRefIdeal.nD Cert.AdamFfnInRefIdeal.τ).loc Cert.AdamFfnInRefIdeal.main_arg1)
          ∧ r.2.mem ((c.tc : Thread Cert.AdamFfnInRefIdeal.nD Cert.AdamFfnInRefIdeal.τ).loc Cert.AdamFfnInRefIdeal.main_arg2) = m' ((c.tc : Thread Cert.AdamFfnInRefIdeal.nD Cert.AdamFfnInRefIdeal.τ).loc Cert.AdamFfnInRefIdeal.main_arg2)
          ∧ r.2.mem ((c.tc : Thread Cert.AdamFfnInRefIdeal.nD Cert.AdamFfnInRefIdeal.τ).loc Cert.AdamFfnInRefIdeal.main_arg3) = m' ((c.tc : Thread Cert.AdamFfnInRefIdeal.nD Cert.AdamFfnInRefIdeal.τ).loc Cert.AdamFfnInRefIdeal.main_arg3)
          ∧ r.2.mem ((c.tc : Thread Cert.AdamFfnInRefIdeal.nD Cert.AdamFfnInRefIdeal.τ).loc Cert.AdamFfnInRefIdeal.main_arg4) = m' ((c.tc : Thread Cert.AdamFfnInRefIdeal.nD Cert.AdamFfnInRefIdeal.τ).loc Cert.AdamFfnInRefIdeal.main_arg4)
          ∧ r.2.mem ((c.tc : Thread Cert.AdamFfnInRefIdeal.nD Cert.AdamFfnInRefIdeal.τ).loc Cert.AdamFfnInRefIdeal.main_arg5) = m' ((c.tc : Thread Cert.AdamFfnInRefIdeal.nD Cert.AdamFfnInRefIdeal.τ).loc Cert.AdamFfnInRefIdeal.main_arg5)
          ∧ r.2.mem ((c.tc : Thread Cert.AdamFfnInRefIdeal.nD Cert.AdamFfnInRefIdeal.τ).loc Cert.AdamFfnInRefIdeal.main_arg6) = m' ((c.tc : Thread Cert.AdamFfnInRefIdeal.nD Cert.AdamFfnInRefIdeal.τ).loc Cert.AdamFfnInRefIdeal.main_arg6)
          ∧ r.2.mem ((c.tc : Thread Cert.AdamFfnInRefIdeal.nD Cert.AdamFfnInRefIdeal.τ).loc Cert.AdamFfnInRefIdeal.main_arg7) = m' ((c.tc : Thread Cert.AdamFfnInRefIdeal.nD Cert.AdamFfnInRefIdeal.τ).loc Cert.AdamFfnInRefIdeal.main_arg7))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)
      ∧ m' ((c.tc : Thread Cert.AdamInRefIdeal.nD Cert.AdamInRefIdeal.τ).loc Cert.AdamInRefIdeal.main_arg5) = m ((c.tc : Thread Cert.AdamInIdeal.nD Cert.AdamInIdeal.τ).loc Cert.AdamInIdeal.main_arg5)
      ∧ m' ((c.tc : Thread Cert.AdamInRefIdeal.nD Cert.AdamInRefIdeal.τ).loc Cert.AdamInRefIdeal.main_arg6) = m ((c.tc : Thread Cert.AdamInIdeal.nD Cert.AdamInIdeal.τ).loc Cert.AdamInIdeal.main_arg6)
      ∧ m' ((c.tc : Thread Cert.AdamInRefIdeal.nD Cert.AdamInRefIdeal.τ).loc Cert.AdamInRefIdeal.main_arg7) = m ((c.tc : Thread Cert.AdamInIdeal.nD Cert.AdamInIdeal.τ).loc Cert.AdamInIdeal.main_arg7)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
          ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5)
          ∧ r.2.mem ((c.tc : Thread Cert.AdamInIdeal.nD Cert.AdamInIdeal.τ).loc Cert.AdamInIdeal.main_arg6) = m ((c.tc : Thread Cert.AdamInIdeal.nD Cert.AdamInIdeal.τ).loc Cert.AdamInIdeal.main_arg6)
          ∧ r.2.mem ((c.tc : Thread Cert.AdamInIdeal.nD Cert.AdamInIdeal.τ).loc Cert.AdamInIdeal.main_arg7) = m ((c.tc : Thread Cert.AdamInIdeal.nD Cert.AdamInIdeal.τ).loc Cert.AdamInIdeal.main_arg7))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v0) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v6) = v2 c
          ∧ r.2.mem ((c.tc : Thread Cert.AdamInRefIdeal.nD Cert.AdamInRefIdeal.τ).loc Cert.AdamInRefIdeal.main_v12) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4)
          ∧ r.2.mem ((c.tc : Thread Cert.AdamInRefIdeal.nD Cert.AdamInRefIdeal.τ).loc Cert.AdamInRefIdeal.main_arg5) = m' ((c.tc : Thread Cert.AdamInRefIdeal.nD Cert.AdamInRefIdeal.τ).loc Cert.AdamInRefIdeal.main_arg5)
          ∧ r.2.mem ((c.tc : Thread Cert.AdamInRefIdeal.nD Cert.AdamInRefIdeal.τ).loc Cert.AdamInRefIdeal.main_arg6) = m' ((c.tc : Thread Cert.AdamInRefIdeal.nD Cert.AdamInRefIdeal.τ).loc Cert.AdamInRefIdeal.main_arg6)
          ∧ r.2.mem ((c.tc : Thread Cert.AdamInRefIdeal.nD Cert.AdamInRefIdeal.τ).loc Cert.AdamInRefIdeal.main_arg7) = m' ((c.tc : Thread Cert.AdamInRefIdeal.nD Cert.AdamInRefIdeal.τ).loc Cert.AdamInRefIdeal.main_arg7))

def preserves_AdamGate_AdamGateIdeal : Prop :=
  True

def algebraic_AdamGateIdeal_AdamGateRefIdeal [hAdamGateIdeal : Cert.AdamGateIdeal.Facts] [hAdamGateRefIdeal : Cert.AdamGateRefIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg)
    (m' : (ℓ : Loc Cert.AdamGateRefIdeal.nD Cert.AdamGateRefIdeal.τ Cert.AdamGateRefIdeal.sig) → Buf (Elt Ideal) ℓ) (g' : Dev Cert.AdamGateRefIdeal.nD → PrngReg), Pre_AdamGateIdeal m →
    (∀ c : Dev Cert.AdamGateIdeal.nD,
      m' ((c.tc : Thread Cert.AdamGateRefIdeal.nD Cert.AdamGateRefIdeal.τ).loc Cert.AdamGateRefIdeal.main_arg0) = m ((c.tc : Thread Cert.AdamGateIdeal.nD Cert.AdamGateIdeal.τ).loc Cert.AdamGateIdeal.main_arg0)
      ∧ m' ((c.tc : Thread Cert.AdamGateRefIdeal.nD Cert.AdamGateRefIdeal.τ).loc Cert.AdamGateRefIdeal.main_arg1) = m ((c.tc : Thread Cert.AdamGateIdeal.nD Cert.AdamGateIdeal.τ).loc Cert.AdamGateIdeal.main_arg1)
      ∧ m' ((c.tc : Thread Cert.AdamGateRefIdeal.nD Cert.AdamGateRefIdeal.τ).loc Cert.AdamGateRefIdeal.main_arg2) = m ((c.tc : Thread Cert.AdamGateIdeal.nD Cert.AdamGateIdeal.τ).loc Cert.AdamGateIdeal.main_arg2)
      ∧ m' ((c.tc : Thread Cert.AdamGateRefIdeal.nD Cert.AdamGateRefIdeal.τ).loc Cert.AdamGateRefIdeal.main_arg3) = m ((c.tc : Thread Cert.AdamGateIdeal.nD Cert.AdamGateIdeal.τ).loc Cert.AdamGateIdeal.main_arg3)
      ∧ m' ((c.tc : Thread Cert.AdamGateRefIdeal.nD Cert.AdamGateRefIdeal.τ).loc Cert.AdamGateRefIdeal.main_arg4) = m ((c.tc : Thread Cert.AdamGateIdeal.nD Cert.AdamGateIdeal.τ).loc Cert.AdamGateIdeal.main_arg4)
      ∧ m' ((c.tc : Thread Cert.AdamGateRefIdeal.nD Cert.AdamGateRefIdeal.τ).loc Cert.AdamGateRefIdeal.main_arg5) = m ((c.tc : Thread Cert.AdamGateIdeal.nD Cert.AdamGateIdeal.τ).loc Cert.AdamGateIdeal.main_arg5)
      ∧ m' ((c.tc : Thread Cert.AdamGateRefIdeal.nD Cert.AdamGateRefIdeal.τ).loc Cert.AdamGateRefIdeal.main_arg6) = m ((c.tc : Thread Cert.AdamGateIdeal.nD Cert.AdamGateIdeal.τ).loc Cert.AdamGateIdeal.main_arg6)
      ∧ m' ((c.tc : Thread Cert.AdamGateRefIdeal.nD Cert.AdamGateRefIdeal.τ).loc Cert.AdamGateRefIdeal.main_arg7) = m ((c.tc : Thread Cert.AdamGateIdeal.nD Cert.AdamGateIdeal.τ).loc Cert.AdamGateIdeal.main_arg7)) →
    ∃ (v0 : (c : Dev Cert.AdamGateIdeal.nD) → Buf (Elt Ideal) ((c.tc : Thread Cert.AdamGateIdeal.nD Cert.AdamGateIdeal.τ).loc Cert.AdamGateIdeal.main_v0_0)) (v1 : (c : Dev Cert.AdamGateIdeal.nD) → Buf (Elt Ideal) ((c.tc : Thread Cert.AdamGateIdeal.nD Cert.AdamGateIdeal.τ).loc Cert.AdamGateIdeal.main_v0_1)) (v2 : (c : Dev Cert.AdamGateIdeal.nD) → Buf (Elt Ideal) ((c.tc : Thread Cert.AdamGateIdeal.nD Cert.AdamGateIdeal.τ).loc Cert.AdamGateIdeal.main_v0_2)) (v3 : (c : Dev Cert.AdamGateIdeal.nD) → Buf (Elt Ideal) ((c.tc : Thread Cert.AdamGateIdeal.nD Cert.AdamGateIdeal.τ).loc Cert.AdamGateIdeal.main_v0_3)),
      θ_run (Cert.AdamGateIdeal.defs (F := Ideal)) (onTc (τ := Cert.AdamGateIdeal.τ) (Cert.AdamGateIdeal.main (F := Ideal))) ⟨m, fun _ => 0, g⟩ (fun r => ∀ c : Dev Cert.AdamGateIdeal.nD,
          r.2.mem ((c.tc : Thread Cert.AdamGateIdeal.nD Cert.AdamGateIdeal.τ).loc Cert.AdamGateIdeal.main_v0_0) = v0 c
          ∧ r.2.mem ((c.tc : Thread Cert.AdamGateIdeal.nD Cert.AdamGateIdeal.τ).loc Cert.AdamGateIdeal.main_v0_1) = v1 c
          ∧ r.2.mem ((c.tc : Thread Cert.AdamGateIdeal.nD Cert.AdamGateIdeal.τ).loc Cert.AdamGateIdeal.main_v0_2) = v2 c
          ∧ r.2.mem ((c.tc : Thread Cert.AdamGateIdeal.nD Cert.AdamGateIdeal.τ).loc Cert.AdamGateIdeal.main_v0_3) = v3 c
          ∧ r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
          ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
          ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
          ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3)
          ∧ r.2.mem ((c.tc : Thread Cert.AdamGateIdeal.nD Cert.AdamGateIdeal.τ).loc Cert.AdamGateIdeal.main_arg4) = m ((c.tc : Thread Cert.AdamGateIdeal.nD Cert.AdamGateIdeal.τ).loc Cert.AdamGateIdeal.main_arg4)
          ∧ r.2.mem ((c.tc : Thread Cert.AdamGateIdeal.nD Cert.AdamGateIdeal.τ).loc Cert.AdamGateIdeal.main_arg5) = m ((c.tc : Thread Cert.AdamGateIdeal.nD Cert.AdamGateIdeal.τ).loc Cert.AdamGateIdeal.main_arg5)
          ∧ r.2.mem ((c.tc : Thread Cert.AdamGateIdeal.nD Cert.AdamGateIdeal.τ).loc Cert.AdamGateIdeal.main_arg6) = m ((c.tc : Thread Cert.AdamGateIdeal.nD Cert.AdamGateIdeal.τ).loc Cert.AdamGateIdeal.main_arg6)
          ∧ r.2.mem ((c.tc : Thread Cert.AdamGateIdeal.nD Cert.AdamGateIdeal.τ).loc Cert.AdamGateIdeal.main_arg7) = m ((c.tc : Thread Cert.AdamGateIdeal.nD Cert.AdamGateIdeal.τ).loc Cert.AdamGateIdeal.main_arg7))
      ∧ θ_run (Cert.AdamGateRefIdeal.defs (F := Ideal)) (onTc (τ := Cert.AdamGateRefIdeal.τ) (Cert.AdamGateRefIdeal.main (F := Ideal))) ⟨m', fun _ => 0, g'⟩ (fun r => ∀ c : Dev Cert.AdamGateRefIdeal.nD,
          r.2.mem ((c.tc : Thread Cert.AdamGateRefIdeal.nD Cert.AdamGateRefIdeal.τ).loc Cert.AdamGateRefIdeal.main_v0) = v0 c
          ∧ r.2.mem ((c.tc : Thread Cert.AdamGateRefIdeal.nD Cert.AdamGateRefIdeal.τ).loc Cert.AdamGateRefIdeal.main_v25) = v1 c
          ∧ r.2.mem ((c.tc : Thread Cert.AdamGateRefIdeal.nD Cert.AdamGateRefIdeal.τ).loc Cert.AdamGateRefIdeal.main_v6) = v2 c
          ∧ r.2.mem ((c.tc : Thread Cert.AdamGateRefIdeal.nD Cert.AdamGateRefIdeal.τ).loc Cert.AdamGateRefIdeal.main_v12) = v3 c
          ∧ r.2.mem ((c.tc : Thread Cert.AdamGateRefIdeal.nD Cert.AdamGateRefIdeal.τ).loc Cert.AdamGateRefIdeal.main_arg0) = m' ((c.tc : Thread Cert.AdamGateRefIdeal.nD Cert.AdamGateRefIdeal.τ).loc Cert.AdamGateRefIdeal.main_arg0)
          ∧ r.2.mem ((c.tc : Thread Cert.AdamGateRefIdeal.nD Cert.AdamGateRefIdeal.τ).loc Cert.AdamGateRefIdeal.main_arg1) = m' ((c.tc : Thread Cert.AdamGateRefIdeal.nD Cert.AdamGateRefIdeal.τ).loc Cert.AdamGateRefIdeal.main_arg1)
          ∧ r.2.mem ((c.tc : Thread Cert.AdamGateRefIdeal.nD Cert.AdamGateRefIdeal.τ).loc Cert.AdamGateRefIdeal.main_arg2) = m' ((c.tc : Thread Cert.AdamGateRefIdeal.nD Cert.AdamGateRefIdeal.τ).loc Cert.AdamGateRefIdeal.main_arg2)
          ∧ r.2.mem ((c.tc : Thread Cert.AdamGateRefIdeal.nD Cert.AdamGateRefIdeal.τ).loc Cert.AdamGateRefIdeal.main_arg3) = m' ((c.tc : Thread Cert.AdamGateRefIdeal.nD Cert.AdamGateRefIdeal.τ).loc Cert.AdamGateRefIdeal.main_arg3)
          ∧ r.2.mem ((c.tc : Thread Cert.AdamGateRefIdeal.nD Cert.AdamGateRefIdeal.τ).loc Cert.AdamGateRefIdeal.main_arg4) = m' ((c.tc : Thread Cert.AdamGateRefIdeal.nD Cert.AdamGateRefIdeal.τ).loc Cert.AdamGateRefIdeal.main_arg4)
          ∧ r.2.mem ((c.tc : Thread Cert.AdamGateRefIdeal.nD Cert.AdamGateRefIdeal.τ).loc Cert.AdamGateRefIdeal.main_arg5) = m' ((c.tc : Thread Cert.AdamGateRefIdeal.nD Cert.AdamGateRefIdeal.τ).loc Cert.AdamGateRefIdeal.main_arg5)
          ∧ r.2.mem ((c.tc : Thread Cert.AdamGateRefIdeal.nD Cert.AdamGateRefIdeal.τ).loc Cert.AdamGateRefIdeal.main_arg6) = m' ((c.tc : Thread Cert.AdamGateRefIdeal.nD Cert.AdamGateRefIdeal.τ).loc Cert.AdamGateRefIdeal.main_arg6)
          ∧ r.2.mem ((c.tc : Thread Cert.AdamGateRefIdeal.nD Cert.AdamGateRefIdeal.τ).loc Cert.AdamGateRefIdeal.main_arg7) = m' ((c.tc : Thread Cert.AdamGateRefIdeal.nD Cert.AdamGateRefIdeal.τ).loc Cert.AdamGateRefIdeal.main_arg7))

def preserves_AdamMemKv_AdamMemKvIdeal : Prop :=
  True

def algebraic_AdamMemKvIdeal_AdamMemKvRefIdeal [hAdamMemKvIdeal : Cert.AdamMemKvIdeal.Facts] [hAdamMemKvRefIdeal : Cert.AdamMemKvRefIdeal.Facts] : Prop :=
  ∀ (m : (ℓ : Loc Cert.AdamMemKvIdeal.nD Cert.AdamMemKvIdeal.τ Cert.AdamMemKvIdeal.sig) → Buf (Elt Ideal) ℓ) (g : Dev Cert.AdamMemKvIdeal.nD → PrngReg)
    (m' : (ℓ : Loc Cert.AdamMemKvRefIdeal.nD Cert.AdamMemKvRefIdeal.τ Cert.AdamMemKvRefIdeal.sig) → Buf (Elt Ideal) ℓ) (g' : Dev Cert.AdamMemKvRefIdeal.nD → PrngReg), Pre_AdamMemKvIdeal m →
    (∀ c : Dev Cert.AdamMemKvIdeal.nD,
      m' ((c.tc : Thread Cert.AdamMemKvRefIdeal.nD Cert.AdamMemKvRefIdeal.τ).loc Cert.AdamMemKvRefIdeal.main_arg0) = m ((c.tc : Thread Cert.AdamMemKvIdeal.nD Cert.AdamMemKvIdeal.τ).loc Cert.AdamMemKvIdeal.main_arg0)
      ∧ m' ((c.tc : Thread Cert.AdamMemKvRefIdeal.nD Cert.AdamMemKvRefIdeal.τ).loc Cert.AdamMemKvRefIdeal.main_arg1) = m ((c.tc : Thread Cert.AdamMemKvIdeal.nD Cert.AdamMemKvIdeal.τ).loc Cert.AdamMemKvIdeal.main_arg1)
      ∧ m' ((c.tc : Thread Cert.AdamMemKvRefIdeal.nD Cert.AdamMemKvRefIdeal.τ).loc Cert.AdamMemKvRefIdeal.main_arg2) = m ((c.tc : Thread Cert.AdamMemKvIdeal.nD Cert.AdamMemKvIdeal.τ).loc Cert.AdamMemKvIdeal.main_arg2)
      ∧ m' ((c.tc : Thread Cert.AdamMemKvRefIdeal.nD Cert.AdamMemKvRefIdeal.τ).loc Cert.AdamMemKvRefIdeal.main_arg3) = m ((c.tc : Thread Cert.AdamMemKvIdeal.nD Cert.AdamMemKvIdeal.τ).loc Cert.AdamMemKvIdeal.main_arg3)
      ∧ m' ((c.tc : Thread Cert.AdamMemKvRefIdeal.nD Cert.AdamMemKvRefIdeal.τ).loc Cert.AdamMemKvRefIdeal.main_arg4) = m ((c.tc : Thread Cert.AdamMemKvIdeal.nD Cert.AdamMemKvIdeal.τ).loc Cert.AdamMemKvIdeal.main_arg4)
      ∧ m' ((c.tc : Thread Cert.AdamMemKvRefIdeal.nD Cert.AdamMemKvRefIdeal.τ).loc Cert.AdamMemKvRefIdeal.main_arg5) = m ((c.tc : Thread Cert.AdamMemKvIdeal.nD Cert.AdamMemKvIdeal.τ).loc Cert.AdamMemKvIdeal.main_arg5)
      ∧ m' ((c.tc : Thread Cert.AdamMemKvRefIdeal.nD Cert.AdamMemKvRefIdeal.τ).loc Cert.AdamMemKvRefIdeal.main_arg6) = m ((c.tc : Thread Cert.AdamMemKvIdeal.nD Cert.AdamMemKvIdeal.τ).loc Cert.AdamMemKvIdeal.main_arg6)
      ∧ m' ((c.tc : Thread Cert.AdamMemKvRefIdeal.nD Cert.AdamMemKvRefIdeal.τ).loc Cert.AdamMemKvRefIdeal.main_arg7) = m ((c.tc : Thread Cert.AdamMemKvIdeal.nD Cert.AdamMemKvIdeal.τ).loc Cert.AdamMemKvIdeal.main_arg7)) →
    ∃ (v0 : (c : Dev Cert.AdamMemKvIdeal.nD) → Buf (Elt Ideal) ((c.tc : Thread Cert.AdamMemKvIdeal.nD Cert.AdamMemKvIdeal.τ).loc Cert.AdamMemKvIdeal.main_v0_0)) (v1 : (c : Dev Cert.AdamMemKvIdeal.nD) → Buf (Elt Ideal) ((c.tc : Thread Cert.AdamMemKvIdeal.nD Cert.AdamMemKvIdeal.τ).loc Cert.AdamMemKvIdeal.main_v0_1)) (v2 : (c : Dev Cert.AdamMemKvIdeal.nD) → Buf (Elt Ideal) ((c.tc : Thread Cert.AdamMemKvIdeal.nD Cert.AdamMemKvIdeal.τ).loc Cert.AdamMemKvIdeal.main_v0_2)) (v3 : (c : Dev Cert.AdamMemKvIdeal.nD) → Buf (Elt Ideal) ((c.tc : Thread Cert.AdamMemKvIdeal.nD Cert.AdamMemKvIdeal.τ).loc Cert.AdamMemKvIdeal.main_v0_3)),
      θ_run (Cert.AdamMemKvIdeal.defs (F := Ideal)) (onTc (τ := Cert.AdamMemKvIdeal.τ) (Cert.AdamMemKvIdeal.main (F := Ideal))) ⟨m, fun _ => 0, g⟩ (fun r => ∀ c : Dev Cert.AdamMemKvIdeal.nD,
          r.2.mem ((c.tc : Thread Cert.AdamMemKvIdeal.nD Cert.AdamMemKvIdeal.τ).loc Cert.AdamMemKvIdeal.main_v0_0) = v0 c
          ∧ r.2.mem ((c.tc : Thread Cert.AdamMemKvIdeal.nD Cert.AdamMemKvIdeal.τ).loc Cert.AdamMemKvIdeal.main_v0_1) = v1 c
          ∧ r.2.mem ((c.tc : Thread Cert.AdamMemKvIdeal.nD Cert.AdamMemKvIdeal.τ).loc Cert.AdamMemKvIdeal.main_v0_2) = v2 c
          ∧ r.2.mem ((c.tc : Thread Cert.AdamMemKvIdeal.nD Cert.AdamMemKvIdeal.τ).loc Cert.AdamMemKvIdeal.main_v0_3) = v3 c
          ∧ r.2.mem ((c.tc : Thread Cert.AdamMemKvIdeal.nD Cert.AdamMemKvIdeal.τ).loc Cert.AdamMemKvIdeal.main_arg0) = m ((c.tc : Thread Cert.AdamMemKvIdeal.nD Cert.AdamMemKvIdeal.τ).loc Cert.AdamMemKvIdeal.main_arg0)
          ∧ r.2.mem ((c.tc : Thread Cert.AdamMemKvIdeal.nD Cert.AdamMemKvIdeal.τ).loc Cert.AdamMemKvIdeal.main_arg1) = m ((c.tc : Thread Cert.AdamMemKvIdeal.nD Cert.AdamMemKvIdeal.τ).loc Cert.AdamMemKvIdeal.main_arg1)
          ∧ r.2.mem ((c.tc : Thread Cert.AdamMemKvIdeal.nD Cert.AdamMemKvIdeal.τ).loc Cert.AdamMemKvIdeal.main_arg2) = m ((c.tc : Thread Cert.AdamMemKvIdeal.nD Cert.AdamMemKvIdeal.τ).loc Cert.AdamMemKvIdeal.main_arg2)
          ∧ r.2.mem ((c.tc : Thread Cert.AdamMemKvIdeal.nD Cert.AdamMemKvIdeal.τ).loc Cert.AdamMemKvIdeal.main_arg3) = m ((c.tc : Thread Cert.AdamMemKvIdeal.nD Cert.AdamMemKvIdeal.τ).loc Cert.AdamMemKvIdeal.main_arg3)
          ∧ r.2.mem ((c.tc : Thread Cert.AdamMemKvIdeal.nD Cert.AdamMemKvIdeal.τ).loc Cert.AdamMemKvIdeal.main_arg4) = m ((c.tc : Thread Cert.AdamMemKvIdeal.nD Cert.AdamMemKvIdeal.τ).loc Cert.AdamMemKvIdeal.main_arg4)
          ∧ r.2.mem ((c.tc : Thread Cert.AdamMemKvIdeal.nD Cert.AdamMemKvIdeal.τ).loc Cert.AdamMemKvIdeal.main_arg5) = m ((c.tc : Thread Cert.AdamMemKvIdeal.nD Cert.AdamMemKvIdeal.τ).loc Cert.AdamMemKvIdeal.main_arg5)
          ∧ r.2.mem ((c.tc : Thread Cert.AdamMemKvIdeal.nD Cert.AdamMemKvIdeal.τ).loc Cert.AdamMemKvIdeal.main_arg6) = m ((c.tc : Thread Cert.AdamMemKvIdeal.nD Cert.AdamMemKvIdeal.τ).loc Cert.AdamMemKvIdeal.main_arg6)
          ∧ r.2.mem ((c.tc : Thread Cert.AdamMemKvIdeal.nD Cert.AdamMemKvIdeal.τ).loc Cert.AdamMemKvIdeal.main_arg7) = m ((c.tc : Thread Cert.AdamMemKvIdeal.nD Cert.AdamMemKvIdeal.τ).loc Cert.AdamMemKvIdeal.main_arg7))
      ∧ θ_run (Cert.AdamMemKvRefIdeal.defs (F := Ideal)) (onTc (τ := Cert.AdamMemKvRefIdeal.τ) (Cert.AdamMemKvRefIdeal.main (F := Ideal))) ⟨m', fun _ => 0, g'⟩ (fun r => ∀ c : Dev Cert.AdamMemKvRefIdeal.nD,
          r.2.mem ((c.tc : Thread Cert.AdamMemKvRefIdeal.nD Cert.AdamMemKvRefIdeal.τ).loc Cert.AdamMemKvRefIdeal.main_v0) = v0 c
          ∧ r.2.mem ((c.tc : Thread Cert.AdamMemKvRefIdeal.nD Cert.AdamMemKvRefIdeal.τ).loc Cert.AdamMemKvRefIdeal.main_v25) = v1 c
          ∧ r.2.mem ((c.tc : Thread Cert.AdamMemKvRefIdeal.nD Cert.AdamMemKvRefIdeal.τ).loc Cert.AdamMemKvRefIdeal.main_v6) = v2 c
          ∧ r.2.mem ((c.tc : Thread Cert.AdamMemKvRefIdeal.nD Cert.AdamMemKvRefIdeal.τ).loc Cert.AdamMemKvRefIdeal.main_v12) = v3 c
          ∧ r.2.mem ((c.tc : Thread Cert.AdamMemKvRefIdeal.nD Cert.AdamMemKvRefIdeal.τ).loc Cert.AdamMemKvRefIdeal.main_arg0) = m' ((c.tc : Thread Cert.AdamMemKvRefIdeal.nD Cert.AdamMemKvRefIdeal.τ).loc Cert.AdamMemKvRefIdeal.main_arg0)
          ∧ r.2.mem ((c.tc : Thread Cert.AdamMemKvRefIdeal.nD Cert.AdamMemKvRefIdeal.τ).loc Cert.AdamMemKvRefIdeal.main_arg1) = m' ((c.tc : Thread Cert.AdamMemKvRefIdeal.nD Cert.AdamMemKvRefIdeal.τ).loc Cert.AdamMemKvRefIdeal.main_arg1)
          ∧ r.2.mem ((c.tc : Thread Cert.AdamMemKvRefIdeal.nD Cert.AdamMemKvRefIdeal.τ).loc Cert.AdamMemKvRefIdeal.main_arg2) = m' ((c.tc : Thread Cert.AdamMemKvRefIdeal.nD Cert.AdamMemKvRefIdeal.τ).loc Cert.AdamMemKvRefIdeal.main_arg2)
          ∧ r.2.mem ((c.tc : Thread Cert.AdamMemKvRefIdeal.nD Cert.AdamMemKvRefIdeal.τ).loc Cert.AdamMemKvRefIdeal.main_arg3) = m' ((c.tc : Thread Cert.AdamMemKvRefIdeal.nD Cert.AdamMemKvRefIdeal.τ).loc Cert.AdamMemKvRefIdeal.main_arg3)
          ∧ r.2.mem ((c.tc : Thread Cert.AdamMemKvRefIdeal.nD Cert.AdamMemKvRefIdeal.τ).loc Cert.AdamMemKvRefIdeal.main_arg4) = m' ((c.tc : Thread Cert.AdamMemKvRefIdeal.nD Cert.AdamMemKvRefIdeal.τ).loc Cert.AdamMemKvRefIdeal.main_arg4)
          ∧ r.2.mem ((c.tc : Thread Cert.AdamMemKvRefIdeal.nD Cert.AdamMemKvRefIdeal.τ).loc Cert.AdamMemKvRefIdeal.main_arg5) = m' ((c.tc : Thread Cert.AdamMemKvRefIdeal.nD Cert.AdamMemKvRefIdeal.τ).loc Cert.AdamMemKvRefIdeal.main_arg5)
          ∧ r.2.mem ((c.tc : Thread Cert.AdamMemKvRefIdeal.nD Cert.AdamMemKvRefIdeal.τ).loc Cert.AdamMemKvRefIdeal.main_arg6) = m' ((c.tc : Thread Cert.AdamMemKvRefIdeal.nD Cert.AdamMemKvRefIdeal.τ).loc Cert.AdamMemKvRefIdeal.main_arg6)
          ∧ r.2.mem ((c.tc : Thread Cert.AdamMemKvRefIdeal.nD Cert.AdamMemKvRefIdeal.τ).loc Cert.AdamMemKvRefIdeal.main_arg7) = m' ((c.tc : Thread Cert.AdamMemKvRefIdeal.nD Cert.AdamMemKvRefIdeal.τ).loc Cert.AdamMemKvRefIdeal.main_arg7))

def preserves_AdamBranch_AdamBranchIdeal : Prop :=
  True

def algebraic_AdamBranchIdeal_AdamBranchRefIdeal [hAdamBranchIdeal : Cert.AdamBranchIdeal.Facts] [hAdamBranchRefIdeal : Cert.AdamBranchRefIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg)
    (m' : (ℓ : Loc Cert.AdamBranchRefIdeal.nD Cert.AdamBranchRefIdeal.τ Cert.AdamBranchRefIdeal.sig) → Buf (Elt Ideal) ℓ) (g' : Dev Cert.AdamBranchRefIdeal.nD → PrngReg), Pre_AdamBranchIdeal m →
    (∀ c : Dev Cert.AdamBranchIdeal.nD,
      m' ((c.tc : Thread Cert.AdamBranchRefIdeal.nD Cert.AdamBranchRefIdeal.τ).loc Cert.AdamBranchRefIdeal.main_arg0) = m ((c.tc : Thread Cert.AdamBranchIdeal.nD Cert.AdamBranchIdeal.τ).loc Cert.AdamBranchIdeal.main_arg0)
      ∧ m' ((c.tc : Thread Cert.AdamBranchRefIdeal.nD Cert.AdamBranchRefIdeal.τ).loc Cert.AdamBranchRefIdeal.main_arg1) = m ((c.tc : Thread Cert.AdamBranchIdeal.nD Cert.AdamBranchIdeal.τ).loc Cert.AdamBranchIdeal.main_arg1)
      ∧ m' ((c.tc : Thread Cert.AdamBranchRefIdeal.nD Cert.AdamBranchRefIdeal.τ).loc Cert.AdamBranchRefIdeal.main_arg2) = m ((c.tc : Thread Cert.AdamBranchIdeal.nD Cert.AdamBranchIdeal.τ).loc Cert.AdamBranchIdeal.main_arg2)
      ∧ m' ((c.tc : Thread Cert.AdamBranchRefIdeal.nD Cert.AdamBranchRefIdeal.τ).loc Cert.AdamBranchRefIdeal.main_arg3) = m ((c.tc : Thread Cert.AdamBranchIdeal.nD Cert.AdamBranchIdeal.τ).loc Cert.AdamBranchIdeal.main_arg3)
      ∧ m' ((c.tc : Thread Cert.AdamBranchRefIdeal.nD Cert.AdamBranchRefIdeal.τ).loc Cert.AdamBranchRefIdeal.main_arg4) = m ((c.tc : Thread Cert.AdamBranchIdeal.nD Cert.AdamBranchIdeal.τ).loc Cert.AdamBranchIdeal.main_arg4)
      ∧ m' ((c.tc : Thread Cert.AdamBranchRefIdeal.nD Cert.AdamBranchRefIdeal.τ).loc Cert.AdamBranchRefIdeal.main_arg5) = m ((c.tc : Thread Cert.AdamBranchIdeal.nD Cert.AdamBranchIdeal.τ).loc Cert.AdamBranchIdeal.main_arg5)
      ∧ m' ((c.tc : Thread Cert.AdamBranchRefIdeal.nD Cert.AdamBranchRefIdeal.τ).loc Cert.AdamBranchRefIdeal.main_arg6) = m ((c.tc : Thread Cert.AdamBranchIdeal.nD Cert.AdamBranchIdeal.τ).loc Cert.AdamBranchIdeal.main_arg6)
      ∧ m' ((c.tc : Thread Cert.AdamBranchRefIdeal.nD Cert.AdamBranchRefIdeal.τ).loc Cert.AdamBranchRefIdeal.main_arg7) = m ((c.tc : Thread Cert.AdamBranchIdeal.nD Cert.AdamBranchIdeal.τ).loc Cert.AdamBranchIdeal.main_arg7)) →
    ∃ (v0 : (c : Dev Cert.AdamBranchIdeal.nD) → Buf (Elt Ideal) ((c.tc : Thread Cert.AdamBranchIdeal.nD Cert.AdamBranchIdeal.τ).loc Cert.AdamBranchIdeal.main_v0_0)) (v1 : (c : Dev Cert.AdamBranchIdeal.nD) → Buf (Elt Ideal) ((c.tc : Thread Cert.AdamBranchIdeal.nD Cert.AdamBranchIdeal.τ).loc Cert.AdamBranchIdeal.main_v0_1)) (v2 : (c : Dev Cert.AdamBranchIdeal.nD) → Buf (Elt Ideal) ((c.tc : Thread Cert.AdamBranchIdeal.nD Cert.AdamBranchIdeal.τ).loc Cert.AdamBranchIdeal.main_v0_2)) (v3 : (c : Dev Cert.AdamBranchIdeal.nD) → Buf (Elt Ideal) ((c.tc : Thread Cert.AdamBranchIdeal.nD Cert.AdamBranchIdeal.τ).loc Cert.AdamBranchIdeal.main_v0_3)),
      θ_run (Cert.AdamBranchIdeal.defs (F := Ideal)) (onTc (τ := Cert.AdamBranchIdeal.τ) (Cert.AdamBranchIdeal.main (F := Ideal))) ⟨m, fun _ => 0, g⟩ (fun r => ∀ c : Dev Cert.AdamBranchIdeal.nD,
          r.2.mem ((c.tc : Thread Cert.AdamBranchIdeal.nD Cert.AdamBranchIdeal.τ).loc Cert.AdamBranchIdeal.main_v0_0) = v0 c
          ∧ r.2.mem ((c.tc : Thread Cert.AdamBranchIdeal.nD Cert.AdamBranchIdeal.τ).loc Cert.AdamBranchIdeal.main_v0_1) = v1 c
          ∧ r.2.mem ((c.tc : Thread Cert.AdamBranchIdeal.nD Cert.AdamBranchIdeal.τ).loc Cert.AdamBranchIdeal.main_v0_2) = v2 c
          ∧ r.2.mem ((c.tc : Thread Cert.AdamBranchIdeal.nD Cert.AdamBranchIdeal.τ).loc Cert.AdamBranchIdeal.main_v0_3) = v3 c
          ∧ r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
          ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
          ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
          ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3)
          ∧ r.2.mem ((c.tc : Thread Cert.AdamBranchIdeal.nD Cert.AdamBranchIdeal.τ).loc Cert.AdamBranchIdeal.main_arg4) = m ((c.tc : Thread Cert.AdamBranchIdeal.nD Cert.AdamBranchIdeal.τ).loc Cert.AdamBranchIdeal.main_arg4)
          ∧ r.2.mem ((c.tc : Thread Cert.AdamBranchIdeal.nD Cert.AdamBranchIdeal.τ).loc Cert.AdamBranchIdeal.main_arg5) = m ((c.tc : Thread Cert.AdamBranchIdeal.nD Cert.AdamBranchIdeal.τ).loc Cert.AdamBranchIdeal.main_arg5)
          ∧ r.2.mem ((c.tc : Thread Cert.AdamBranchIdeal.nD Cert.AdamBranchIdeal.τ).loc Cert.AdamBranchIdeal.main_arg6) = m ((c.tc : Thread Cert.AdamBranchIdeal.nD Cert.AdamBranchIdeal.τ).loc Cert.AdamBranchIdeal.main_arg6)
          ∧ r.2.mem ((c.tc : Thread Cert.AdamBranchIdeal.nD Cert.AdamBranchIdeal.τ).loc Cert.AdamBranchIdeal.main_arg7) = m ((c.tc : Thread Cert.AdamBranchIdeal.nD Cert.AdamBranchIdeal.τ).loc Cert.AdamBranchIdeal.main_arg7))
      ∧ θ_run (Cert.AdamBranchRefIdeal.defs (F := Ideal)) (onTc (τ := Cert.AdamBranchRefIdeal.τ) (Cert.AdamBranchRefIdeal.main (F := Ideal))) ⟨m', fun _ => 0, g'⟩ (fun r => ∀ c : Dev Cert.AdamBranchRefIdeal.nD,
          r.2.mem ((c.tc : Thread Cert.AdamBranchRefIdeal.nD Cert.AdamBranchRefIdeal.τ).loc Cert.AdamBranchRefIdeal.main_v0) = v0 c
          ∧ r.2.mem ((c.tc : Thread Cert.AdamBranchRefIdeal.nD Cert.AdamBranchRefIdeal.τ).loc Cert.AdamBranchRefIdeal.main_v25) = v1 c
          ∧ r.2.mem ((c.tc : Thread Cert.AdamBranchRefIdeal.nD Cert.AdamBranchRefIdeal.τ).loc Cert.AdamBranchRefIdeal.main_v6) = v2 c
          ∧ r.2.mem ((c.tc : Thread Cert.AdamBranchRefIdeal.nD Cert.AdamBranchRefIdeal.τ).loc Cert.AdamBranchRefIdeal.main_v12) = v3 c
          ∧ r.2.mem ((c.tc : Thread Cert.AdamBranchRefIdeal.nD Cert.AdamBranchRefIdeal.τ).loc Cert.AdamBranchRefIdeal.main_arg0) = m' ((c.tc : Thread Cert.AdamBranchRefIdeal.nD Cert.AdamBranchRefIdeal.τ).loc Cert.AdamBranchRefIdeal.main_arg0)
          ∧ r.2.mem ((c.tc : Thread Cert.AdamBranchRefIdeal.nD Cert.AdamBranchRefIdeal.τ).loc Cert.AdamBranchRefIdeal.main_arg1) = m' ((c.tc : Thread Cert.AdamBranchRefIdeal.nD Cert.AdamBranchRefIdeal.τ).loc Cert.AdamBranchRefIdeal.main_arg1)
          ∧ r.2.mem ((c.tc : Thread Cert.AdamBranchRefIdeal.nD Cert.AdamBranchRefIdeal.τ).loc Cert.AdamBranchRefIdeal.main_arg2) = m' ((c.tc : Thread Cert.AdamBranchRefIdeal.nD Cert.AdamBranchRefIdeal.τ).loc Cert.AdamBranchRefIdeal.main_arg2)
          ∧ r.2.mem ((c.tc : Thread Cert.AdamBranchRefIdeal.nD Cert.AdamBranchRefIdeal.τ).loc Cert.AdamBranchRefIdeal.main_arg3) = m' ((c.tc : Thread Cert.AdamBranchRefIdeal.nD Cert.AdamBranchRefIdeal.τ).loc Cert.AdamBranchRefIdeal.main_arg3)
          ∧ r.2.mem ((c.tc : Thread Cert.AdamBranchRefIdeal.nD Cert.AdamBranchRefIdeal.τ).loc Cert.AdamBranchRefIdeal.main_arg4) = m' ((c.tc : Thread Cert.AdamBranchRefIdeal.nD Cert.AdamBranchRefIdeal.τ).loc Cert.AdamBranchRefIdeal.main_arg4)
          ∧ r.2.mem ((c.tc : Thread Cert.AdamBranchRefIdeal.nD Cert.AdamBranchRefIdeal.τ).loc Cert.AdamBranchRefIdeal.main_arg5) = m' ((c.tc : Thread Cert.AdamBranchRefIdeal.nD Cert.AdamBranchRefIdeal.τ).loc Cert.AdamBranchRefIdeal.main_arg5)
          ∧ r.2.mem ((c.tc : Thread Cert.AdamBranchRefIdeal.nD Cert.AdamBranchRefIdeal.τ).loc Cert.AdamBranchRefIdeal.main_arg6) = m' ((c.tc : Thread Cert.AdamBranchRefIdeal.nD Cert.AdamBranchRefIdeal.τ).loc Cert.AdamBranchRefIdeal.main_arg6)
          ∧ r.2.mem ((c.tc : Thread Cert.AdamBranchRefIdeal.nD Cert.AdamBranchRefIdeal.τ).loc Cert.AdamBranchRefIdeal.main_arg7) = m' ((c.tc : Thread Cert.AdamBranchRefIdeal.nD Cert.AdamBranchRefIdeal.τ).loc Cert.AdamBranchRefIdeal.main_arg7))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)
      ∧ m' ((c.tc : Thread Cert.AdamOutRefIdeal.nD Cert.AdamOutRefIdeal.τ).loc Cert.AdamOutRefIdeal.main_arg5) = m ((c.tc : Thread Cert.AdamOutIdeal.nD Cert.AdamOutIdeal.τ).loc Cert.AdamOutIdeal.main_arg5)
      ∧ m' ((c.tc : Thread Cert.AdamOutRefIdeal.nD Cert.AdamOutRefIdeal.τ).loc Cert.AdamOutRefIdeal.main_arg6) = m ((c.tc : Thread Cert.AdamOutIdeal.nD Cert.AdamOutIdeal.τ).loc Cert.AdamOutIdeal.main_arg6)
      ∧ m' ((c.tc : Thread Cert.AdamOutRefIdeal.nD Cert.AdamOutRefIdeal.τ).loc Cert.AdamOutRefIdeal.main_arg7) = m ((c.tc : Thread Cert.AdamOutIdeal.nD Cert.AdamOutIdeal.τ).loc Cert.AdamOutIdeal.main_arg7)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
          ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5)
          ∧ r.2.mem ((c.tc : Thread Cert.AdamOutIdeal.nD Cert.AdamOutIdeal.τ).loc Cert.AdamOutIdeal.main_arg6) = m ((c.tc : Thread Cert.AdamOutIdeal.nD Cert.AdamOutIdeal.τ).loc Cert.AdamOutIdeal.main_arg6)
          ∧ r.2.mem ((c.tc : Thread Cert.AdamOutIdeal.nD Cert.AdamOutIdeal.τ).loc Cert.AdamOutIdeal.main_arg7) = m ((c.tc : Thread Cert.AdamOutIdeal.nD Cert.AdamOutIdeal.τ).loc Cert.AdamOutIdeal.main_arg7))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v0) = v0 c
          ∧ r.2.mem ((c.tc : Thread Cert.AdamOutRefIdeal.nD Cert.AdamOutRefIdeal.τ).loc Cert.AdamOutRefIdeal.main_v25) = v1 c
          ∧ r.2.mem ((c.tc : Thread Cert.AdamOutRefIdeal.nD Cert.AdamOutRefIdeal.τ).loc Cert.AdamOutRefIdeal.main_v6) = v2 c
          ∧ r.2.mem ((c.tc : Thread Cert.AdamOutRefIdeal.nD Cert.AdamOutRefIdeal.τ).loc Cert.AdamOutRefIdeal.main_v12) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4)
          ∧ r.2.mem ((c.tc : Thread Cert.AdamOutRefIdeal.nD Cert.AdamOutRefIdeal.τ).loc Cert.AdamOutRefIdeal.main_arg5) = m' ((c.tc : Thread Cert.AdamOutRefIdeal.nD Cert.AdamOutRefIdeal.τ).loc Cert.AdamOutRefIdeal.main_arg5)
          ∧ r.2.mem ((c.tc : Thread Cert.AdamOutRefIdeal.nD Cert.AdamOutRefIdeal.τ).loc Cert.AdamOutRefIdeal.main_arg6) = m' ((c.tc : Thread Cert.AdamOutRefIdeal.nD Cert.AdamOutRefIdeal.τ).loc Cert.AdamOutRefIdeal.main_arg6)
          ∧ r.2.mem ((c.tc : Thread Cert.AdamOutRefIdeal.nD Cert.AdamOutRefIdeal.τ).loc Cert.AdamOutRefIdeal.main_arg7) = m' ((c.tc : Thread Cert.AdamOutRefIdeal.nD Cert.AdamOutRefIdeal.τ).loc Cert.AdamOutRefIdeal.main_arg7))

def preserves_AdamFfnOut_AdamFfnOutIdeal : Prop :=
  True

def algebraic_AdamFfnOutIdeal_AdamFfnOutRefIdeal [hAdamFfnOutIdeal : Cert.AdamFfnOutIdeal.Facts] [hAdamFfnOutRefIdeal : Cert.AdamFfnOutRefIdeal.Facts] : Prop :=
  ∀ (m : (ℓ : Loc Cert.AdamFfnOutIdeal.nD Cert.AdamFfnOutIdeal.τ Cert.AdamFfnOutIdeal.sig) → Buf (Elt Ideal) ℓ) (g : Dev Cert.AdamFfnOutIdeal.nD → PrngReg)
    (m' : (ℓ : Loc Cert.AdamFfnOutRefIdeal.nD Cert.AdamFfnOutRefIdeal.τ Cert.AdamFfnOutRefIdeal.sig) → Buf (Elt Ideal) ℓ) (g' : Dev Cert.AdamFfnOutRefIdeal.nD → PrngReg), Pre_AdamFfnOutIdeal m →
    (∀ c : Dev Cert.AdamFfnOutIdeal.nD,
      m' ((c.tc : Thread Cert.AdamFfnOutRefIdeal.nD Cert.AdamFfnOutRefIdeal.τ).loc Cert.AdamFfnOutRefIdeal.main_arg0) = m ((c.tc : Thread Cert.AdamFfnOutIdeal.nD Cert.AdamFfnOutIdeal.τ).loc Cert.AdamFfnOutIdeal.main_arg0)
      ∧ m' ((c.tc : Thread Cert.AdamFfnOutRefIdeal.nD Cert.AdamFfnOutRefIdeal.τ).loc Cert.AdamFfnOutRefIdeal.main_arg1) = m ((c.tc : Thread Cert.AdamFfnOutIdeal.nD Cert.AdamFfnOutIdeal.τ).loc Cert.AdamFfnOutIdeal.main_arg1)
      ∧ m' ((c.tc : Thread Cert.AdamFfnOutRefIdeal.nD Cert.AdamFfnOutRefIdeal.τ).loc Cert.AdamFfnOutRefIdeal.main_arg2) = m ((c.tc : Thread Cert.AdamFfnOutIdeal.nD Cert.AdamFfnOutIdeal.τ).loc Cert.AdamFfnOutIdeal.main_arg2)
      ∧ m' ((c.tc : Thread Cert.AdamFfnOutRefIdeal.nD Cert.AdamFfnOutRefIdeal.τ).loc Cert.AdamFfnOutRefIdeal.main_arg3) = m ((c.tc : Thread Cert.AdamFfnOutIdeal.nD Cert.AdamFfnOutIdeal.τ).loc Cert.AdamFfnOutIdeal.main_arg3)
      ∧ m' ((c.tc : Thread Cert.AdamFfnOutRefIdeal.nD Cert.AdamFfnOutRefIdeal.τ).loc Cert.AdamFfnOutRefIdeal.main_arg4) = m ((c.tc : Thread Cert.AdamFfnOutIdeal.nD Cert.AdamFfnOutIdeal.τ).loc Cert.AdamFfnOutIdeal.main_arg4)
      ∧ m' ((c.tc : Thread Cert.AdamFfnOutRefIdeal.nD Cert.AdamFfnOutRefIdeal.τ).loc Cert.AdamFfnOutRefIdeal.main_arg5) = m ((c.tc : Thread Cert.AdamFfnOutIdeal.nD Cert.AdamFfnOutIdeal.τ).loc Cert.AdamFfnOutIdeal.main_arg5)
      ∧ m' ((c.tc : Thread Cert.AdamFfnOutRefIdeal.nD Cert.AdamFfnOutRefIdeal.τ).loc Cert.AdamFfnOutRefIdeal.main_arg6) = m ((c.tc : Thread Cert.AdamFfnOutIdeal.nD Cert.AdamFfnOutIdeal.τ).loc Cert.AdamFfnOutIdeal.main_arg6)
      ∧ m' ((c.tc : Thread Cert.AdamFfnOutRefIdeal.nD Cert.AdamFfnOutRefIdeal.τ).loc Cert.AdamFfnOutRefIdeal.main_arg7) = m ((c.tc : Thread Cert.AdamFfnOutIdeal.nD Cert.AdamFfnOutIdeal.τ).loc Cert.AdamFfnOutIdeal.main_arg7)) →
    ∃ (v0 : (c : Dev Cert.AdamFfnOutIdeal.nD) → Buf (Elt Ideal) ((c.tc : Thread Cert.AdamFfnOutIdeal.nD Cert.AdamFfnOutIdeal.τ).loc Cert.AdamFfnOutIdeal.main_v0_0)) (v1 : (c : Dev Cert.AdamFfnOutIdeal.nD) → Buf (Elt Ideal) ((c.tc : Thread Cert.AdamFfnOutIdeal.nD Cert.AdamFfnOutIdeal.τ).loc Cert.AdamFfnOutIdeal.main_v0_1)) (v2 : (c : Dev Cert.AdamFfnOutIdeal.nD) → Buf (Elt Ideal) ((c.tc : Thread Cert.AdamFfnOutIdeal.nD Cert.AdamFfnOutIdeal.τ).loc Cert.AdamFfnOutIdeal.main_v0_2)) (v3 : (c : Dev Cert.AdamFfnOutIdeal.nD) → Buf (Elt Ideal) ((c.tc : Thread Cert.AdamFfnOutIdeal.nD Cert.AdamFfnOutIdeal.τ).loc Cert.AdamFfnOutIdeal.main_v0_3)),
      θ_run (Cert.AdamFfnOutIdeal.defs (F := Ideal)) (onTc (τ := Cert.AdamFfnOutIdeal.τ) (Cert.AdamFfnOutIdeal.main (F := Ideal))) ⟨m, fun _ => 0, g⟩ (fun r => ∀ c : Dev Cert.AdamFfnOutIdeal.nD,
          r.2.mem ((c.tc : Thread Cert.AdamFfnOutIdeal.nD Cert.AdamFfnOutIdeal.τ).loc Cert.AdamFfnOutIdeal.main_v0_0) = v0 c
          ∧ r.2.mem ((c.tc : Thread Cert.AdamFfnOutIdeal.nD Cert.AdamFfnOutIdeal.τ).loc Cert.AdamFfnOutIdeal.main_v0_1) = v1 c
          ∧ r.2.mem ((c.tc : Thread Cert.AdamFfnOutIdeal.nD Cert.AdamFfnOutIdeal.τ).loc Cert.AdamFfnOutIdeal.main_v0_2) = v2 c
          ∧ r.2.mem ((c.tc : Thread Cert.AdamFfnOutIdeal.nD Cert.AdamFfnOutIdeal.τ).loc Cert.AdamFfnOutIdeal.main_v0_3) = v3 c
          ∧ r.2.mem ((c.tc : Thread Cert.AdamFfnOutIdeal.nD Cert.AdamFfnOutIdeal.τ).loc Cert.AdamFfnOutIdeal.main_arg0) = m ((c.tc : Thread Cert.AdamFfnOutIdeal.nD Cert.AdamFfnOutIdeal.τ).loc Cert.AdamFfnOutIdeal.main_arg0)
          ∧ r.2.mem ((c.tc : Thread Cert.AdamFfnOutIdeal.nD Cert.AdamFfnOutIdeal.τ).loc Cert.AdamFfnOutIdeal.main_arg1) = m ((c.tc : Thread Cert.AdamFfnOutIdeal.nD Cert.AdamFfnOutIdeal.τ).loc Cert.AdamFfnOutIdeal.main_arg1)
          ∧ r.2.mem ((c.tc : Thread Cert.AdamFfnOutIdeal.nD Cert.AdamFfnOutIdeal.τ).loc Cert.AdamFfnOutIdeal.main_arg2) = m ((c.tc : Thread Cert.AdamFfnOutIdeal.nD Cert.AdamFfnOutIdeal.τ).loc Cert.AdamFfnOutIdeal.main_arg2)
          ∧ r.2.mem ((c.tc : Thread Cert.AdamFfnOutIdeal.nD Cert.AdamFfnOutIdeal.τ).loc Cert.AdamFfnOutIdeal.main_arg3) = m ((c.tc : Thread Cert.AdamFfnOutIdeal.nD Cert.AdamFfnOutIdeal.τ).loc Cert.AdamFfnOutIdeal.main_arg3)
          ∧ r.2.mem ((c.tc : Thread Cert.AdamFfnOutIdeal.nD Cert.AdamFfnOutIdeal.τ).loc Cert.AdamFfnOutIdeal.main_arg4) = m ((c.tc : Thread Cert.AdamFfnOutIdeal.nD Cert.AdamFfnOutIdeal.τ).loc Cert.AdamFfnOutIdeal.main_arg4)
          ∧ r.2.mem ((c.tc : Thread Cert.AdamFfnOutIdeal.nD Cert.AdamFfnOutIdeal.τ).loc Cert.AdamFfnOutIdeal.main_arg5) = m ((c.tc : Thread Cert.AdamFfnOutIdeal.nD Cert.AdamFfnOutIdeal.τ).loc Cert.AdamFfnOutIdeal.main_arg5)
          ∧ r.2.mem ((c.tc : Thread Cert.AdamFfnOutIdeal.nD Cert.AdamFfnOutIdeal.τ).loc Cert.AdamFfnOutIdeal.main_arg6) = m ((c.tc : Thread Cert.AdamFfnOutIdeal.nD Cert.AdamFfnOutIdeal.τ).loc Cert.AdamFfnOutIdeal.main_arg6)
          ∧ r.2.mem ((c.tc : Thread Cert.AdamFfnOutIdeal.nD Cert.AdamFfnOutIdeal.τ).loc Cert.AdamFfnOutIdeal.main_arg7) = m ((c.tc : Thread Cert.AdamFfnOutIdeal.nD Cert.AdamFfnOutIdeal.τ).loc Cert.AdamFfnOutIdeal.main_arg7))
      ∧ θ_run (Cert.AdamFfnOutRefIdeal.defs (F := Ideal)) (onTc (τ := Cert.AdamFfnOutRefIdeal.τ) (Cert.AdamFfnOutRefIdeal.main (F := Ideal))) ⟨m', fun _ => 0, g'⟩ (fun r => ∀ c : Dev Cert.AdamFfnOutRefIdeal.nD,
          r.2.mem ((c.tc : Thread Cert.AdamFfnOutRefIdeal.nD Cert.AdamFfnOutRefIdeal.τ).loc Cert.AdamFfnOutRefIdeal.main_v0) = v0 c
          ∧ r.2.mem ((c.tc : Thread Cert.AdamFfnOutRefIdeal.nD Cert.AdamFfnOutRefIdeal.τ).loc Cert.AdamFfnOutRefIdeal.main_v25) = v1 c
          ∧ r.2.mem ((c.tc : Thread Cert.AdamFfnOutRefIdeal.nD Cert.AdamFfnOutRefIdeal.τ).loc Cert.AdamFfnOutRefIdeal.main_v6) = v2 c
          ∧ r.2.mem ((c.tc : Thread Cert.AdamFfnOutRefIdeal.nD Cert.AdamFfnOutRefIdeal.τ).loc Cert.AdamFfnOutRefIdeal.main_v12) = v3 c
          ∧ r.2.mem ((c.tc : Thread Cert.AdamFfnOutRefIdeal.nD Cert.AdamFfnOutRefIdeal.τ).loc Cert.AdamFfnOutRefIdeal.main_arg0) = m' ((c.tc : Thread Cert.AdamFfnOutRefIdeal.nD Cert.AdamFfnOutRefIdeal.τ).loc Cert.AdamFfnOutRefIdeal.main_arg0)
          ∧ r.2.mem ((c.tc : Thread Cert.AdamFfnOutRefIdeal.nD Cert.AdamFfnOutRefIdeal.τ).loc Cert.AdamFfnOutRefIdeal.main_arg1) = m' ((c.tc : Thread Cert.AdamFfnOutRefIdeal.nD Cert.AdamFfnOutRefIdeal.τ).loc Cert.AdamFfnOutRefIdeal.main_arg1)
          ∧ r.2.mem ((c.tc : Thread Cert.AdamFfnOutRefIdeal.nD Cert.AdamFfnOutRefIdeal.τ).loc Cert.AdamFfnOutRefIdeal.main_arg2) = m' ((c.tc : Thread Cert.AdamFfnOutRefIdeal.nD Cert.AdamFfnOutRefIdeal.τ).loc Cert.AdamFfnOutRefIdeal.main_arg2)
          ∧ r.2.mem ((c.tc : Thread Cert.AdamFfnOutRefIdeal.nD Cert.AdamFfnOutRefIdeal.τ).loc Cert.AdamFfnOutRefIdeal.main_arg3) = m' ((c.tc : Thread Cert.AdamFfnOutRefIdeal.nD Cert.AdamFfnOutRefIdeal.τ).loc Cert.AdamFfnOutRefIdeal.main_arg3)
          ∧ r.2.mem ((c.tc : Thread Cert.AdamFfnOutRefIdeal.nD Cert.AdamFfnOutRefIdeal.τ).loc Cert.AdamFfnOutRefIdeal.main_arg4) = m' ((c.tc : Thread Cert.AdamFfnOutRefIdeal.nD Cert.AdamFfnOutRefIdeal.τ).loc Cert.AdamFfnOutRefIdeal.main_arg4)
          ∧ r.2.mem ((c.tc : Thread Cert.AdamFfnOutRefIdeal.nD Cert.AdamFfnOutRefIdeal.τ).loc Cert.AdamFfnOutRefIdeal.main_arg5) = m' ((c.tc : Thread Cert.AdamFfnOutRefIdeal.nD Cert.AdamFfnOutRefIdeal.τ).loc Cert.AdamFfnOutRefIdeal.main_arg5)
          ∧ r.2.mem ((c.tc : Thread Cert.AdamFfnOutRefIdeal.nD Cert.AdamFfnOutRefIdeal.τ).loc Cert.AdamFfnOutRefIdeal.main_arg6) = m' ((c.tc : Thread Cert.AdamFfnOutRefIdeal.nD Cert.AdamFfnOutRefIdeal.τ).loc Cert.AdamFfnOutRefIdeal.main_arg6)
          ∧ r.2.mem ((c.tc : Thread Cert.AdamFfnOutRefIdeal.nD Cert.AdamFfnOutRefIdeal.τ).loc Cert.AdamFfnOutRefIdeal.main_arg7) = m' ((c.tc : Thread Cert.AdamFfnOutRefIdeal.nD Cert.AdamFfnOutRefIdeal.τ).loc Cert.AdamFfnOutRefIdeal.main_arg7))

def Claim : Prop :=
  ∃ (hGate : Cert.Gate.Facts) (hGateIdeal : Cert.GateIdeal.Facts) (hGateRefIdeal : Cert.GateRefIdeal.Facts) (hFfn : Cert.Ffn.Facts) (hFfnIdeal : Cert.FfnIdeal.Facts) (hFfnRefIdeal : Cert.FfnRefIdeal.Facts) (hFfnDx : Cert.FfnDx.Facts) (hFfnDxIdeal : Cert.FfnDxIdeal.Facts) (hFfnDxRefIdeal : Cert.FfnDxRefIdeal.Facts) (hGateDx : Cert.GateDx.Facts) (hGateDxIdeal : Cert.GateDxIdeal.Facts) (hGateDxRefIdeal : Cert.GateDxRefIdeal.Facts) (hInDx : Cert.InDx.Facts) (hInDxIdeal : Cert.InDxIdeal.Facts) (hInDxRefIdeal : Cert.InDxRefIdeal.Facts) (hFfnOut : Cert.FfnOut.Facts) (hFfnOutIdeal : Cert.FfnOutIdeal.Facts) (hFfnOutRefIdeal : Cert.FfnOutRefIdeal.Facts) (hMix : Cert.Mix.Facts) (hMixIdeal : Cert.MixIdeal.Facts) (hMixRefIdeal : Cert.MixRefIdeal.Facts) (hProjDw : Cert.ProjDw.Facts) (hProjDwIdeal : Cert.ProjDwIdeal.Facts) (hProjDwRefIdeal : Cert.ProjDwRefIdeal.Facts) (hRmsBwd : Cert.RmsBwd.Facts) (hRmsBwdIdeal : Cert.RmsBwdIdeal.Facts) (hRmsBwdRefIdeal : Cert.RmsBwdRefIdeal.Facts) (hMemAttn : Cert.MemAttn.Facts) (hMemAttnIdeal : Cert.MemAttnIdeal.Facts) (hMemAttnRefIdeal : Cert.MemAttnRefIdeal.Facts) (hRet : Cert.Ret.Facts) (hRetIdeal : Cert.RetIdeal.Facts) (hRetRefIdeal : Cert.RetRefIdeal.Facts) (hMemProj : Cert.MemProj.Facts) (hMemProjIdeal : Cert.MemProjIdeal.Facts) (hMemProjRefIdeal : Cert.MemProjRefIdeal.Facts) (hRmsFfn : Cert.RmsFfn.Facts) (hRmsFfnIdeal : Cert.RmsFfnIdeal.Facts) (hRmsFfnRefIdeal : Cert.RmsFfnRefIdeal.Facts) (hLoss : Cert.Loss.Facts) (hLossIdeal : Cert.LossIdeal.Facts) (hLossRefIdeal : Cert.LossRefIdeal.Facts) (hSmall : Cert.Small.Facts) (hSmallIdeal : Cert.SmallIdeal.Facts) (hSmallRefIdeal : Cert.SmallRefIdeal.Facts) (hAdamFfnIn : Cert.AdamFfnIn.Facts) (hAdamFfnInIdeal : Cert.AdamFfnInIdeal.Facts) (hAdamFfnInRefIdeal : Cert.AdamFfnInRefIdeal.Facts) (hAdamIn : Cert.AdamIn.Facts) (hAdamInIdeal : Cert.AdamInIdeal.Facts) (hAdamInRefIdeal : Cert.AdamInRefIdeal.Facts) (hAdamGate : Cert.AdamGate.Facts) (hAdamGateIdeal : Cert.AdamGateIdeal.Facts) (hAdamGateRefIdeal : Cert.AdamGateRefIdeal.Facts) (hAdamMemKv : Cert.AdamMemKv.Facts) (hAdamMemKvIdeal : Cert.AdamMemKvIdeal.Facts) (hAdamMemKvRefIdeal : Cert.AdamMemKvRefIdeal.Facts) (hAdamBranch : Cert.AdamBranch.Facts) (hAdamBranchIdeal : Cert.AdamBranchIdeal.Facts) (hAdamBranchRefIdeal : Cert.AdamBranchRefIdeal.Facts) (hAdamOut : Cert.AdamOut.Facts) (hAdamOutIdeal : Cert.AdamOutIdeal.Facts) (hAdamOutRefIdeal : Cert.AdamOutRefIdeal.Facts) (hAdamFfnOut : Cert.AdamFfnOut.Facts) (hAdamFfnOutIdeal : Cert.AdamFfnOutIdeal.Facts) (hAdamFfnOutRefIdeal : Cert.AdamFfnOutRefIdeal.Facts),
    quiescent_Gate (hGate := hGate)
    ∧ quiescent_GateIdeal (hGateIdeal := hGateIdeal)
    ∧ quiescent_GateRefIdeal (hGateRefIdeal := hGateRefIdeal)
    ∧ quiescent_Ffn (hFfn := hFfn)
    ∧ quiescent_FfnIdeal (hFfnIdeal := hFfnIdeal)
    ∧ quiescent_FfnRefIdeal (hFfnRefIdeal := hFfnRefIdeal)
    ∧ quiescent_FfnDx (hFfnDx := hFfnDx)
    ∧ quiescent_FfnDxIdeal (hFfnDxIdeal := hFfnDxIdeal)
    ∧ quiescent_FfnDxRefIdeal (hFfnDxRefIdeal := hFfnDxRefIdeal)
    ∧ quiescent_GateDx (hGateDx := hGateDx)
    ∧ quiescent_GateDxIdeal (hGateDxIdeal := hGateDxIdeal)
    ∧ quiescent_GateDxRefIdeal (hGateDxRefIdeal := hGateDxRefIdeal)
    ∧ quiescent_InDx (hInDx := hInDx)
    ∧ quiescent_InDxIdeal (hInDxIdeal := hInDxIdeal)
    ∧ quiescent_InDxRefIdeal (hInDxRefIdeal := hInDxRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_Mix (hMix := hMix)
    ∧ quiescent_MixIdeal (hMixIdeal := hMixIdeal)
    ∧ quiescent_MixRefIdeal (hMixRefIdeal := hMixRefIdeal)
    ∧ quiescent_ProjDw (hProjDw := hProjDw)
    ∧ quiescent_ProjDwIdeal (hProjDwIdeal := hProjDwIdeal)
    ∧ quiescent_ProjDwRefIdeal (hProjDwRefIdeal := hProjDwRefIdeal)
    ∧ quiescent_RmsBwd (hRmsBwd := hRmsBwd)
    ∧ quiescent_RmsBwdIdeal (hRmsBwdIdeal := hRmsBwdIdeal)
    ∧ quiescent_RmsBwdRefIdeal (hRmsBwdRefIdeal := hRmsBwdRefIdeal)
    ∧ quiescent_MemAttn (hMemAttn := hMemAttn)
    ∧ quiescent_MemAttnIdeal (hMemAttnIdeal := hMemAttnIdeal)
    ∧ quiescent_MemAttnRefIdeal (hMemAttnRefIdeal := hMemAttnRefIdeal)
    ∧ quiescent_Ret (hRet := hRet)
    ∧ quiescent_RetIdeal (hRetIdeal := hRetIdeal)
    ∧ quiescent_RetRefIdeal (hRetRefIdeal := hRetRefIdeal)
    ∧ quiescent_MemProj (hMemProj := hMemProj)
    ∧ quiescent_MemProjIdeal (hMemProjIdeal := hMemProjIdeal)
    ∧ quiescent_MemProjRefIdeal (hMemProjRefIdeal := hMemProjRefIdeal)
    ∧ quiescent_RmsFfn (hRmsFfn := hRmsFfn)
    ∧ quiescent_RmsFfnIdeal (hRmsFfnIdeal := hRmsFfnIdeal)
    ∧ quiescent_RmsFfnRefIdeal (hRmsFfnRefIdeal := hRmsFfnRefIdeal)
    ∧ quiescent_Loss (hLoss := hLoss)
    ∧ quiescent_LossIdeal (hLossIdeal := hLossIdeal)
    ∧ quiescent_LossRefIdeal (hLossRefIdeal := hLossRefIdeal)
    ∧ quiescent_Small (hSmall := hSmall)
    ∧ quiescent_SmallIdeal (hSmallIdeal := hSmallIdeal)
    ∧ quiescent_SmallRefIdeal (hSmallRefIdeal := hSmallRefIdeal)
    ∧ quiescent_AdamFfnIn (hAdamFfnIn := hAdamFfnIn)
    ∧ quiescent_AdamFfnInIdeal (hAdamFfnInIdeal := hAdamFfnInIdeal)
    ∧ quiescent_AdamFfnInRefIdeal (hAdamFfnInRefIdeal := hAdamFfnInRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamGate (hAdamGate := hAdamGate)
    ∧ quiescent_AdamGateIdeal (hAdamGateIdeal := hAdamGateIdeal)
    ∧ quiescent_AdamGateRefIdeal (hAdamGateRefIdeal := hAdamGateRefIdeal)
    ∧ quiescent_AdamMemKv (hAdamMemKv := hAdamMemKv)
    ∧ quiescent_AdamMemKvIdeal (hAdamMemKvIdeal := hAdamMemKvIdeal)
    ∧ quiescent_AdamMemKvRefIdeal (hAdamMemKvRefIdeal := hAdamMemKvRefIdeal)
    ∧ quiescent_AdamBranch (hAdamBranch := hAdamBranch)
    ∧ quiescent_AdamBranchIdeal (hAdamBranchIdeal := hAdamBranchIdeal)
    ∧ quiescent_AdamBranchRefIdeal (hAdamBranchRefIdeal := hAdamBranchRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamFfnOut (hAdamFfnOut := hAdamFfnOut)
    ∧ quiescent_AdamFfnOutIdeal (hAdamFfnOutIdeal := hAdamFfnOutIdeal)
    ∧ quiescent_AdamFfnOutRefIdeal (hAdamFfnOutRefIdeal := hAdamFfnOutRefIdeal)
    ∧ preserves_Gate_GateIdeal
    ∧ algebraic_GateIdeal_GateRefIdeal (hGateIdeal := hGateIdeal) (hGateRefIdeal := hGateRefIdeal)
    ∧ preserves_Ffn_FfnIdeal
    ∧ algebraic_FfnIdeal_FfnRefIdeal (hFfnIdeal := hFfnIdeal) (hFfnRefIdeal := hFfnRefIdeal)
    ∧ preserves_FfnDx_FfnDxIdeal
    ∧ algebraic_FfnDxIdeal_FfnDxRefIdeal (hFfnDxIdeal := hFfnDxIdeal) (hFfnDxRefIdeal := hFfnDxRefIdeal)
    ∧ preserves_GateDx_GateDxIdeal
    ∧ algebraic_GateDxIdeal_GateDxRefIdeal (hGateDxIdeal := hGateDxIdeal) (hGateDxRefIdeal := hGateDxRefIdeal)
    ∧ preserves_InDx_InDxIdeal
    ∧ algebraic_InDxIdeal_InDxRefIdeal (hInDxIdeal := hInDxIdeal) (hInDxRefIdeal := hInDxRefIdeal)
    ∧ preserves_FfnOut_FfnOutIdeal
    ∧ algebraic_FfnOutIdeal_FfnOutRefIdeal (hFfnOutIdeal := hFfnOutIdeal) (hFfnOutRefIdeal := hFfnOutRefIdeal)
    ∧ preserves_Mix_MixIdeal
    ∧ algebraic_MixIdeal_MixRefIdeal (hMixIdeal := hMixIdeal) (hMixRefIdeal := hMixRefIdeal)
    ∧ preserves_ProjDw_ProjDwIdeal
    ∧ algebraic_ProjDwIdeal_ProjDwRefIdeal (hProjDwIdeal := hProjDwIdeal) (hProjDwRefIdeal := hProjDwRefIdeal)
    ∧ preserves_RmsBwd_RmsBwdIdeal
    ∧ algebraic_RmsBwdIdeal_RmsBwdRefIdeal (hRmsBwdIdeal := hRmsBwdIdeal) (hRmsBwdRefIdeal := hRmsBwdRefIdeal)
    ∧ preserves_MemAttn_MemAttnIdeal
    ∧ algebraic_MemAttnIdeal_MemAttnRefIdeal (hMemAttnIdeal := hMemAttnIdeal) (hMemAttnRefIdeal := hMemAttnRefIdeal)
    ∧ preserves_Ret_RetIdeal
    ∧ algebraic_RetIdeal_RetRefIdeal (hRetIdeal := hRetIdeal) (hRetRefIdeal := hRetRefIdeal)
    ∧ preserves_MemProj_MemProjIdeal
    ∧ algebraic_MemProjIdeal_MemProjRefIdeal (hMemProjIdeal := hMemProjIdeal) (hMemProjRefIdeal := hMemProjRefIdeal)
    ∧ preserves_RmsFfn_RmsFfnIdeal
    ∧ algebraic_RmsFfnIdeal_RmsFfnRefIdeal (hRmsFfnIdeal := hRmsFfnIdeal) (hRmsFfnRefIdeal := hRmsFfnRefIdeal)
    ∧ preserves_Loss_LossIdeal
    ∧ algebraic_LossIdeal_LossRefIdeal (hLossIdeal := hLossIdeal) (hLossRefIdeal := hLossRefIdeal)
    ∧ preserves_Small_SmallIdeal
    ∧ algebraic_SmallIdeal_SmallRefIdeal (hSmallIdeal := hSmallIdeal) (hSmallRefIdeal := hSmallRefIdeal)
    ∧ preserves_AdamFfnIn_AdamFfnInIdeal
    ∧ algebraic_AdamFfnInIdeal_AdamFfnInRefIdeal (hAdamFfnInIdeal := hAdamFfnInIdeal) (hAdamFfnInRefIdeal := hAdamFfnInRefIdeal)
    ∧ preserves_AdamIn_AdamInIdeal
    ∧ algebraic_AdamInIdeal_AdamInRefIdeal (hAdamInIdeal := hAdamInIdeal) (hAdamInRefIdeal := hAdamInRefIdeal)
    ∧ preserves_AdamGate_AdamGateIdeal
    ∧ algebraic_AdamGateIdeal_AdamGateRefIdeal (hAdamGateIdeal := hAdamGateIdeal) (hAdamGateRefIdeal := hAdamGateRefIdeal)
    ∧ preserves_AdamMemKv_AdamMemKvIdeal
    ∧ algebraic_AdamMemKvIdeal_AdamMemKvRefIdeal (hAdamMemKvIdeal := hAdamMemKvIdeal) (hAdamMemKvRefIdeal := hAdamMemKvRefIdeal)
    ∧ preserves_AdamBranch_AdamBranchIdeal
    ∧ algebraic_AdamBranchIdeal_AdamBranchRefIdeal (hAdamBranchIdeal := hAdamBranchIdeal) (hAdamBranchRefIdeal := hAdamBranchRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamFfnOut_AdamFfnOutIdeal
    ∧ algebraic_AdamFfnOutIdeal_AdamFfnOutRefIdeal (hAdamFfnOutIdeal := hAdamFfnOutIdeal) (hAdamFfnOutRefIdeal := hAdamFfnOutRefIdeal)
-- ==== Gate.lean ====
abbrev S4x2048x1024 : Shape := ⟨3, ![4, 2048, 1024]⟩
abbrev S2048x256 : Shape := ⟨2, ![2048, 256]⟩
abbrev S4x1024x256 : Shape := ⟨3, ![4, 1024, 256]⟩
abbrev S2048x1024 : Shape := ⟨2, ![2048, 1024]⟩
abbrev S1x2048x256 : Shape := ⟨3, ![1, 2048, 256]⟩
abbrev S4x2048x256 : Shape := ⟨3, ![4, 2048, 256]⟩
abbrev S1x4x4x256x256 : Shape := ⟨5, ![1, 4, 4, 256, 256]⟩
abbrev S4x4x256x256 : Shape := ⟨4, ![4, 4, 256, 256]⟩
abbrev S4x512x256 : Shape := ⟨3, ![4, 512, 256]⟩
abbrev S1x1x4x256x256 : Shape := ⟨5, ![1, 1, 4, 256, 256]⟩
abbrev S512x256 : Shape := ⟨2, ![512, 256]⟩
abbrev S1x512x256 : Shape := ⟨3, ![1, 512, 256]⟩
abbrev S1x1x1x256x256 : Shape := ⟨5, ![1, 1, 1, 256, 256]⟩
abbrev S256x256 : Shape := ⟨2, ![256, 256]⟩
abbrev S1x1x256x256 : Shape := ⟨4, ![1, 1, 256, 256]⟩

abbrev nBuf : Space → Nat
  | .hbm => 16
  | .vmem => 13
  | .smem => 0
  | _ => 0

abbrev bufTy : (tb : Table) → Fin (tcTables nBuf tb) → BufTy
  | .hbm, ⟨0, _⟩ => ⟨S4x2048x1024, .f32⟩
  | .hbm, ⟨1, _⟩ => ⟨S2048x256, .bf16⟩
  | .hbm, ⟨2, _⟩ => ⟨S2048x256, .bf16⟩
  | .hbm, ⟨3, _⟩ => ⟨S2048x256, .bf16⟩
  | .hbm, ⟨4, _⟩ => ⟨S2048x256, .bf16⟩
  | .hbm, ⟨5, _⟩ => ⟨S4x1024x256, .bf16⟩
  | .hbm, ⟨6, _⟩ => ⟨S2048x1024, .f32⟩
  | .hbm, ⟨7, _⟩ => ⟨S1x2048x256, .bf16⟩
  | .hbm, ⟨8, _⟩ => ⟨S1x2048x256, .bf16⟩
  | .hbm, ⟨9, _⟩ => ⟨S1x2048x256, .bf16⟩
  | .hbm, ⟨10, _⟩ => ⟨S1x2048x256, .bf16⟩
  | .hbm, ⟨11, _⟩ => ⟨S4x2048x256, .bf16⟩
  | .hbm, ⟨12, _⟩ => ⟨S1x4x4x256x256, .bf16⟩
  | .hbm, ⟨13, _⟩ => ⟨S4x2048x1024, .bf16⟩
  | .hbm, ⟨14, _⟩ => ⟨S4x2048x256, .f32⟩
  | .hbm, ⟨15, _⟩ => ⟨S4x4x256x256, .f32⟩
  | .local _ .vmem, ⟨0, _⟩ => ⟨S4x512x256, .f32⟩
  | .local _ .vmem, ⟨1, _⟩ => ⟨S4x512x256, .f32⟩
  | .local _ .vmem, ⟨2, _⟩ => ⟨S4x512x256, .bf16⟩
  | .local _ .vmem, ⟨3, _⟩ => ⟨S4x512x256, .bf16⟩
  | .local _ .vmem, ⟨4, _⟩ => ⟨S1x1x4x256x256, .bf16⟩
  | .local _ .vmem, ⟨5, _⟩ => ⟨S1x1x4x256x256, .bf16⟩
  | .local _ .vmem, ⟨6, _⟩ => ⟨S512x256, .f32⟩
  | .local _ .vmem, ⟨7, _⟩ => ⟨S512x256, .f32⟩
  | .local _ .vmem, ⟨8, _⟩ => ⟨S4x512x256, .bf16⟩
  | .local _ .vmem, ⟨9, _⟩ => ⟨S4x512x256, .bf16⟩
  | .local _ .vmem, ⟨10, _⟩ => ⟨S4x512x256, .f32⟩
  | .local _ .vmem, ⟨11, _⟩ => ⟨S4x512x256, .f32⟩
  | .local _ .vmem, ⟨12, _⟩ => ⟨S4x4x256x256, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨2, ![4, 4], ![false, false]⟩

def k0_off1 (i : grid0.Coords) : Fin 4 → Nat :=
  let arg1 : BitVec 32 := BitVec.ofNat 32 (i 1).val
  let v117 : Index := Scalar.indexCast arg1
  let c0_70 : Index := 0#32
  let c0_71 : Index := 0#32
  let c0_72 : Index := 0#32
  ![v117.toNat, 0, 0, 0]
def k0_off2 (i : grid0.Coords) : Fin 4 → Nat :=
  let arg1 : BitVec 32 := BitVec.ofNat 32 (i 1).val
  let v135 : Index := Scalar.indexCast arg1
  let c1_85 : Index := 1#32
  let c0_86 : Index := 0#32
  let c0_87 : Index := 0#32
  ![v135.toNat, 1, 0, 0]
def k0_off3 (i : grid0.Coords) : Fin 4 → Nat :=
  let arg1 : BitVec 32 := BitVec.ofNat 32 (i 1).val
  let v153 : Index := Scalar.indexCast arg1
  let c2_100 : Index := 2#32
  let c0_101 : Index := 0#32
  let c0_102 : Index := 0#32
  ![v153.toNat, 2, 0, 0]
def k0_off4 (i : grid0.Coords) : Fin 4 → Nat :=
  let arg1 : BitVec 32 := BitVec.ofNat 32 (i 1).val
  let v171 : Index := Scalar.indexCast arg1
  let c3_115 : Index := 3#32
  let c0_116 : Index := 0#32
  let c0_117 : Index := 0#32
  ![v171.toNat, 3, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg1.toNat, c0_i32_0.toNat, c0_i32_1.toNat, c0_i32_2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S4x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x4x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S4x4x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== GateRefIdeal.lean ====
abbrev S4x2048x1024 : Shape := ⟨3, ![4, 2048, 1024]⟩
abbrev S2048x256 : Shape := ⟨2, ![2048, 256]⟩
abbrev S4x1024x256 : Shape := ⟨3, ![4, 1024, 256]⟩
abbrev S2048x1024 : Shape := ⟨2, ![2048, 1024]⟩
abbrev S4x4x256x256 : Shape := ⟨4, ![4, 4, 256, 256]⟩
abbrev S4x256x4x256 : Shape := ⟨4, ![4, 256, 4, 256]⟩
abbrev S4x256x1024 : Shape := ⟨3, ![4, 256, 1024]⟩
abbrev S2048x1x256 : Shape := ⟨3, ![2048, 1, 256]⟩
abbrev S2048x4x256 : Shape := ⟨3, ![2048, 4, 256]⟩
abbrev S2048x4x1024 : Shape := ⟨3, ![2048, 4, 1024]⟩
abbrev S2048x4096 : Shape := ⟨2, ![2048, 4096]⟩
abbrev S4x1024x2048 : Shape := ⟨3, ![4, 1024, 2048]⟩
abbrev S_ : Shape := ⟨0, ![]⟩
abbrev S4x2048x256 : Shape := ⟨3, ![4, 2048, 256]⟩

abbrev nBuf : Space → Nat
  | .hbm => 56
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S2048x256, .bf16⟩
  | .hbm, ⟨2, _⟩ => ⟨S2048x256, .bf16⟩
  | .hbm, ⟨3, _⟩ => ⟨S2048x256, .bf16⟩
  | .hbm, ⟨4, _⟩ => ⟨S2048x256, .bf16⟩
  | .hbm, ⟨5, _⟩ => ⟨S4x1024x256, .bf16⟩
  | .hbm, ⟨6, _⟩ => ⟨S2048x1024, .f32⟩
  | .hbm, ⟨7, _⟩ => ⟨S4x1024x256, .f32⟩
  | .hbm, ⟨8, _⟩ => ⟨S4x4x256x256, .f32⟩
  | .hbm, ⟨9, _⟩ => ⟨S4x256x4x256, .f32⟩
  | .hbm, ⟨10, _⟩ => ⟨S4x256x1024, .f32⟩
  | .hbm, ⟨11, _⟩ => ⟨S2048x256, .f32⟩
  | .hbm, ⟨12, _⟩ => ⟨S2048x256, .f32⟩
  | .hbm, ⟨13, _⟩ => ⟨S2048x256, .f32⟩
  | .hbm, ⟨14, _⟩ => ⟨S2048x256, .f32⟩
  | .hbm, ⟨15, _⟩ => ⟨S2048x1x256, .f32⟩
  | .hbm, ⟨16, _⟩ => ⟨S2048x1x256, .f32⟩
  | .hbm, ⟨17, _⟩ => ⟨S2048x1x256, .f32⟩
  | .hbm, ⟨18, _⟩ => ⟨S2048x1x256, .f32⟩
  | .hbm, ⟨19, _⟩ => ⟨S2048x4x256, .f32⟩
  | .hbm, ⟨20, _⟩ => ⟨S2048x4x1024, .f32⟩
  | .hbm, ⟨21, _⟩ => ⟨S2048x4096, .f32⟩
  | .hbm, ⟨22, _⟩ => ⟨S4x1024x2048, .f32⟩
  | .hbm, ⟨23, _⟩ => ⟨S2048x4x1024, .f32⟩
  | .hbm, ⟨24, _⟩ => ⟨S2048x4096, .f32⟩
  | .hbm, ⟨25, _⟩ => ⟨S2048x4096, .f32⟩
  | .hbm, ⟨26, _⟩ => ⟨S_, .f32⟩
  | .hbm, ⟨27, _⟩ => ⟨S2048x4096, .f32⟩
  | .hbm, ⟨28, _⟩ => ⟨S2048x4096, .f32⟩
  | .hbm, ⟨29, _⟩ => ⟨S_, .f32⟩
  | .hbm, ⟨30, _⟩ => ⟨S2048x4096, .f32⟩
  | .hbm, ⟨31, _⟩ => ⟨S2048x4096, .f32⟩
  | .hbm, ⟨32, _⟩ => ⟨S_, .f32⟩
  | .hbm, ⟨33, _⟩ => ⟨S2048x4096, .f32⟩
  | .hbm, ⟨34, _⟩ => ⟨S2048x4096, .f32⟩
  | .hbm, ⟨35, _⟩ => ⟨S2048x4096, .f32⟩
  | .hbm, ⟨36, _⟩ => ⟨S2048x4x1024, .f32⟩
  | .hbm, ⟨37, _⟩ => ⟨S2048x4x1024, .f32⟩
  | .hbm, ⟨38, _⟩ => ⟨S_, .f32⟩
  | .hbm, ⟨39, _⟩ => ⟨S2048x1024, .f32⟩
  | .hbm, ⟨40, _⟩ => ⟨S2048x4x1024, .f32⟩
  | .hbm, ⟨41, _⟩ => ⟨S2048x4x1024, .f32⟩
  | .hbm, ⟨42, _⟩ => ⟨S2048x4x1024, .f32⟩
  | .hbm, ⟨43, _⟩ => ⟨S2048x4096, .f32⟩
  | .hbm, ⟨44, _⟩ => ⟨S2048x4096, .f32⟩
  | .hbm, ⟨45, _⟩ => ⟨S4x1024x2048, .f32⟩
  | .hbm, ⟨46, _⟩ => ⟨S4x2048x256, .f32⟩
  | .hbm, ⟨47, _⟩ => ⟨S2048x4x256, .f32⟩
  | .hbm, ⟨48, _⟩ => ⟨S4x1024x256, .f32⟩
  | .hbm, ⟨49, _⟩ => ⟨S4x256x1024, .f32⟩
  | .hbm, ⟨50, _⟩ => ⟨S2048x4x1024, .f32⟩
  | .hbm, ⟨51, _⟩ => ⟨S4x2048x1024, .f32⟩
  | .hbm, ⟨52, _⟩ => ⟨S4x2048x1024, .bf16⟩
  | .hbm, ⟨53, _⟩ => ⟨S4x2048x256, .f32⟩
  | .hbm, ⟨54, _⟩ => ⟨S4x256x4x256, .f32⟩
  | .hbm, ⟨55, _⟩ => ⟨S4x4x256x256, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩

abbrev nD : Nat := 1
abbrev τ : Topo := Topo.v7x

variable {F : FTy → Type} [FloatOps F]
-- ==== Ffn.lean ====
abbrev S2048x1024 : Shape := ⟨2, ![2048, 1024]⟩
abbrev S1x1024 : Shape := ⟨2, ![1, 1024]⟩
abbrev S4x1024x1408 : Shape := ⟨3, ![4, 1024, 1408]⟩
abbrev S2816x1024 : Shape := ⟨2, ![2816, 1024]⟩
abbrev S1x4x1024x1408 : Shape := ⟨4, ![1, 4, 1024, 1408]⟩
abbrev S1x1x2816x1024 : Shape := ⟨4, ![1, 1, 2816, 1024]⟩
abbrev S512x1024 : Shape := ⟨2, ![512, 1024]⟩
abbrev S512 : Shape := ⟨1, ![512]⟩
abbrev S512x1 : Shape := ⟨2, ![512, 1]⟩
abbrev S4x2048x1408 : Shape := ⟨3, ![4, 2048, 1408]⟩
abbrev S1024x1024 : Shape := ⟨2, ![1024, 1024]⟩
abbrev S1x1x1024x1408 : Shape := ⟨4, ![1, 1, 1024, 1408]⟩
abbrev S1x1024x1408 : Shape := ⟨3, ![1, 1024, 1408]⟩
abbrev S1024x1408 : Shape := ⟨2, ![1024, 1408]⟩
abbrev S2048x2816 : Shape := ⟨2, ![2048, 2816]⟩
abbrev S1x512x1408 : Shape := ⟨3, ![1, 512, 1408]⟩
abbrev S512x1408 : Shape := ⟨2, ![512, 1408]⟩
abbrev S1x1x1408x1024 : Shape := ⟨4, ![1, 1, 1408, 1024]⟩
abbrev S1408x1024 : Shape := ⟨2, ![1408, 1024]⟩
abbrev S1x2816x1024 : Shape := ⟨3, ![1, 2816, 1024]⟩
abbrev S2048x1408 : Shape := ⟨2, ![2048, 1408]⟩
abbrev S1x1408x1024 : Shape := ⟨3, ![1, 1408, 1024]⟩
abbrev S2x2x2048x1408 : Shape := ⟨4, ![2, 2, 2048, 1408]⟩
abbrev S2x1x512x1408 : Shape := ⟨4, ![2, 1, 512, 1408]⟩
abbrev S1x1x512x1408 : Shape := ⟨4, ![1, 1, 512, 1408]⟩
abbrev S1x2048x1408 : Shape := ⟨3, ![1, 2048, 1408]⟩

abbrev nBuf : Space → Nat
  | .hbm => 15
  | .vmem => 41
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S4x1024x1408, .bf16⟩
  | .hbm, ⟨3, _⟩ => ⟨S2816x1024, .bf16⟩
  | .hbm, ⟨4, _⟩ => ⟨S2048x1024, .f32⟩
  | .hbm, ⟨5, _⟩ => ⟨S1x4x1024x1408, .bf16⟩
  | .hbm, ⟨6, _⟩ => ⟨S1x1x2816x1024, .bf16⟩
  | .hbm, ⟨7, _⟩ => ⟨S2048x1024, .bf16⟩
  | .hbm, ⟨8, _⟩ => ⟨S4x2048x1408, .f32⟩
  | .hbm, ⟨9, _⟩ => ⟨S2048x2816, .bf16⟩
  | .hbm, ⟨10, _⟩ => ⟨S2048x2816, .f32⟩
  | .hbm, ⟨11, _⟩ => ⟨S1x2816x1024, .f32⟩
  | .hbm, ⟨12, _⟩ => ⟨S2x2x2048x1408, .bf16⟩
  | .hbm, ⟨13, _⟩ => ⟨S4x2048x1408, .bf16⟩
  | .hbm, ⟨14, _⟩ => ⟨S4x1024x1408, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x1x1024x1408, .bf16⟩
  | .local _ .vmem, ⟨8, _⟩ => ⟨S1x1x1024x1408, .bf16⟩
  | .local _ .vmem, ⟨9, _⟩ => ⟨S1x1024x1408, .f32⟩
  | .local _ .vmem, ⟨10, _⟩ => ⟨S1x1024x1408, .f32⟩
  | .local _ .vmem, ⟨11, _⟩ => ⟨S1x512x1408, .f32⟩
  | .local _ .vmem, ⟨12, _⟩ => ⟨S1x512x1408, .f32⟩
  | .local _ .vmem, ⟨13, _⟩ => ⟨S1x512x1408, .f32⟩
  | .local _ .vmem, ⟨14, _⟩ => ⟨S1x512x1408, .f32⟩
  | .local _ .vmem, ⟨15, _⟩ => ⟨S512x1408, .bf16⟩
  | .local _ .vmem, ⟨16, _⟩ => ⟨S512x1408, .bf16⟩
  | .local _ .vmem, ⟨17, _⟩ => ⟨S1024x1024, .f32⟩
  | .local _ .vmem, ⟨18, _⟩ => ⟨S1024x1024, .f32⟩
  | .local _ .vmem, ⟨19, _⟩ => ⟨S1x1x1408x1024, .bf16⟩
  | .local _ .vmem, ⟨20, _⟩ => ⟨S1x1x1408x1024, .bf16⟩
  | .local _ .vmem, ⟨21, _⟩ => ⟨S1024x1408, .f32⟩
  | .local _ .vmem, ⟨22, _⟩ => ⟨S1024x1408, .f32⟩
  | .local _ .vmem, ⟨23, _⟩ => ⟨S2048x1408, .bf16⟩
  | .local _ .vmem, ⟨24, _⟩ => ⟨S2048x1408, .bf16⟩
  | .local _ .vmem, ⟨25, _⟩ => ⟨S2048x1024, .f32⟩
  | .local _ .vmem, ⟨26, _⟩ => ⟨S1x1408x1024, .f32⟩
  | .local _ .vmem, ⟨27, _⟩ => ⟨S1x1408x1024, .f32⟩
  | .local _ .vmem, ⟨28, _⟩ => ⟨S1x512x1408, .f32⟩
  | .local _ .vmem, ⟨29, _⟩ => ⟨S1x512x1408, .f32⟩
  | .local _ .vmem, ⟨30, _⟩ => ⟨S1x512x1408, .f32⟩
  | .local _ .vmem, ⟨31, _⟩ => ⟨S1x512x1408, .f32⟩
  | .local _ .vmem, ⟨32, _⟩ => ⟨S512x1408, .f32⟩
  | .local _ .vmem, ⟨33, _⟩ => ⟨S512x1408, .f32⟩
  | .local _ .vmem, ⟨34, _⟩ => ⟨S2x1x512x1408, .bf16⟩
  | .local _ .vmem, ⟨35, _⟩ => ⟨S2x1x512x1408, .bf16⟩
  | .local _ .vmem, ⟨36, _⟩ => ⟨S2048x1024, .bf16⟩
  | .local _ .vmem, ⟨37, _⟩ => ⟨S1x2048x1408, .bf16⟩
  | .local _ .vmem, ⟨38, _⟩ => ⟨S1x2048x1408, .bf16⟩
  | .local _ .vmem, ⟨39, _⟩ => ⟨S1x1024x1408, .f32⟩
  | .local _ .vmem, ⟨40, _⟩ => ⟨S1x1024x1408, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg1_1 : Ref sig .tc := ⟨.vmem, 31, rfl⟩
abbrev cc5_stg2_0 : Ref sig .tc := ⟨.vmem, 32, rfl⟩
abbrev cc5_stg2_1 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg1_0 : Ref sig .tc := ⟨.vmem, 37, rfl⟩
abbrev cc6_stg1_1 : Ref sig .tc := ⟨.vmem, 38, rfl⟩
abbrev cc6_stg2_0 : Ref sig .tc := ⟨.vmem, 39, rfl⟩
abbrev cc6_stg2_1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27
abbrev cc5_sem0_0 : DmaSem sig := 28
abbrev cc5_sem0_1 : DmaSem sig := 29
abbrev cc5_sem1_0 : DmaSem sig := 30
abbrev cc5_sem1_1 : DmaSem sig := 31
abbrev cc5_sem2_0 : DmaSem sig := 32
abbrev cc5_sem2_1 : DmaSem sig := 33
abbrev cc5_sem3_0 : DmaSem sig := 34
abbrev cc5_sem3_1 : DmaSem sig := 35
abbrev cc6_sem0_0 : DmaSem sig := 36
abbrev cc6_sem1_0 : DmaSem sig := 37
abbrev cc6_sem1_1 : DmaSem sig := 38
abbrev cc6_sem2_0 : DmaSem sig := 39
abbrev cc6_sem2_1 : DmaSem sig := 40

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨4, ![2, 4, 1, 1], ![false, false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat, arg3.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg0.toNat, arg2.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, false, true]

abbrev stage1_1 : Fin 2 → Memref sig .tc .vmem S1x1x1024x1408 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true, true]

abbrev stage1_2 : Fin 2 → Memref sig .tc .vmem S1x1024x1408 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true, false]

abbrev grid2 : Pipeline.Grid := ⟨2, ![4, 2], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc2_transform_1 (i : grid2.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![v0.toNat, arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1x512x1408 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x512x1408 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S512x1408 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨4, ![2, 2, 1, 1], ![false, false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg2 c1_i32
  let v1 : BitVec 32 := Scalar.addi v0 arg3
  let c0_i32 : BitVec 32 := 0#32
  ![arg0.toNat, v1.toNat]

def cc3_transform_1 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg2.toNat, arg1.toNat, arg3.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage3_0 : Fin 2 → Memref sig .tc .vmem S1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true, true]

abbrev stage3_1 : Fin 2 → Memref sig .tc .vmem S1x1x1408x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true, true]

abbrev stage3_2 : Fin 2 → Memref sig .tc .vmem S1024x1408 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false, false]

abbrev grid4 : Pipeline.Grid := ⟨4, ![1, 2, 1, 1], ![false, false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![arg3.toNat, v1.toNat]

def cc4_transform_2 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage4_0 : Fin 2 → Memref sig .tc .vmem S2048x1408 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true, false, true]

abbrev stage4_1 : Fin 1 → Memref sig .tc .vmem S2048x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true, false, true, true]

abbrev stage4_2 : Fin 2 → Memref sig .tc .vmem S1x1408x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, true, false]

abbrev grid5 : Pipeline.Grid := ⟨2, ![4, 2], ![false, false]⟩

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc5_transform_1 (i : grid5.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![v0.toNat, arg0.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_3 (i : grid5.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

abbrev stage5_0 : Fin 2 → Memref sig .tc .vmem S1x512x1408 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1x512x1408 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 2 → Memref sig .tc .vmem S512x1408 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 2 → Memref sig .tc .vmem S2x1x512x1408 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

abbrev grid6 : Pipeline.Grid := ⟨4, ![4, 1, 1, 1], ![false, false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc6_transform_1 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc6_transform_2 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage6_0 : Fin 1 → Memref sig .tc .vmem S2048x1024 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false, true, false, true]

abbrev stage6_1 : Fin 2 → Memref sig .tc .vmem S1x2048x1408 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false, true, true]

abbrev stage6_2 : Fin 2 → Memref sig .tc .vmem S1x1024x1408 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, true, false]
-- ==== FfnRefIdeal.lean ====
abbrev S2048x1024 : Shape := ⟨2, ![2048, 1024]⟩
abbrev S1x1024 : Shape := ⟨2, ![1, 1024]⟩
abbrev S4x1024x1408 : Shape := ⟨3, ![4, 1024, 1408]⟩
abbrev S2816x1024 : Shape := ⟨2, ![2816, 1024]⟩
abbrev S1024x4x1408 : Shape := ⟨3, ![1024, 4, 1408]⟩
abbrev S1024x5632 : Shape := ⟨2, ![1024, 5632]⟩
abbrev S_ : Shape := ⟨0, ![]⟩
abbrev S2048 : Shape := ⟨1, ![2048]⟩
abbrev S2048x1 : Shape := ⟨2, ![2048, 1]⟩
abbrev S2048x5632 : Shape := ⟨2, ![2048, 5632]⟩
abbrev S2048x2816 : Shape := ⟨2, ![2048, 2816]⟩
abbrev S1024x2816 : Shape := ⟨2, ![1024, 2816]⟩
abbrev S5632x1024 : Shape := ⟨2, ![5632, 1024]⟩
abbrev S2048x4x1408 : Shape := ⟨3, ![2048, 4, 1408]⟩
abbrev S4x2048x1408 : Shape := ⟨3, ![4, 2048, 1408]⟩
abbrev S1x2816x1024 : Shape := ⟨3, ![1, 2816, 1024]⟩

abbrev nBuf : Space → Nat
  | .hbm => 60
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S4x1024x1408, .bf16⟩
  | .hbm, ⟨3, _⟩ => ⟨S2816x1024, .bf16⟩
  | .hbm, ⟨4, _⟩ => ⟨S2048x1024, .f32⟩
  | .hbm, ⟨5, _⟩ => ⟨S4x1024x1408, .f32⟩
  | .hbm, ⟨6, _⟩ => ⟨S1024x4x1408, .f32⟩
  | .hbm, ⟨7, _⟩ => ⟨S1024x5632, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x5632, .f32⟩
  | .hbm, ⟨24, _⟩ => ⟨S2816x1024, .f32⟩
  | .hbm, ⟨25, _⟩ => ⟨S2048x2816, .f32⟩
  | .hbm, ⟨26, _⟩ => ⟨S2048x2816, .f32⟩
  | .hbm, ⟨27, _⟩ => ⟨S2048x2816, .f32⟩
  | .hbm, ⟨28, _⟩ => ⟨S2048x2816, .f32⟩
  | .hbm, ⟨29, _⟩ => ⟨S_, .f32⟩
  | .hbm, ⟨30, _⟩ => ⟨S2048x2816, .f32⟩
  | .hbm, ⟨31, _⟩ => ⟨S2048x2816, .f32⟩
  | .hbm, ⟨32, _⟩ => ⟨S_, .f32⟩
  | .hbm, ⟨33, _⟩ => ⟨S2048x2816, .f32⟩
  | .hbm, ⟨34, _⟩ => ⟨S2048x2816, .f32⟩
  | .hbm, ⟨35, _⟩ => ⟨S_, .f32⟩
  | .hbm, ⟨36, _⟩ => ⟨S2048x2816, .f32⟩
  | .hbm, ⟨37, _⟩ => ⟨S2048x2816, .f32⟩
  | .hbm, ⟨38, _⟩ => ⟨S2048x2816, .f32⟩
  | .hbm, ⟨39, _⟩ => ⟨S2048x2816, .f32⟩
  | .hbm, ⟨40, _⟩ => ⟨S2048x2816, .f32⟩
  | .hbm, ⟨41, _⟩ => ⟨S2048x1024, .f32⟩
  | .hbm, ⟨42, _⟩ => ⟨S1024x2816, .f32⟩
  | .hbm, ⟨43, _⟩ => ⟨S2816x1024, .f32⟩
  | .hbm, ⟨44, _⟩ => ⟨S2048x2816, .f32⟩
  | .hbm, ⟨45, _⟩ => ⟨S2048x2816, .f32⟩
  | .hbm, ⟨46, _⟩ => ⟨S2048x2816, .f32⟩
  | .hbm, ⟨47, _⟩ => ⟨S2048x2816, .f32⟩
  | .hbm, ⟨48, _⟩ => ⟨S2048x2816, .f32⟩
  | .hbm, ⟨49, _⟩ => ⟨S2048x2816, .f32⟩
  | .hbm, ⟨50, _⟩ => ⟨S2048x2816, .f32⟩
  | .hbm, ⟨51, _⟩ => ⟨S2048x5632, .f32⟩
  | .hbm, ⟨52, _⟩ => ⟨S5632x1024, .f32⟩
  | .hbm, ⟨53, _⟩ => ⟨S1024x5632, .f32⟩
  | .hbm, ⟨54, _⟩ => ⟨S2048x5632, .bf16⟩
  | .hbm, ⟨55, _⟩ => ⟨S2048x4x1408, .bf16⟩
  | .hbm, ⟨56, _⟩ => ⟨S4x2048x1408, .bf16⟩
  | .hbm, ⟨57, _⟩ => ⟨S1024x4x1408, .f32⟩
  | .hbm, ⟨58, _⟩ => ⟨S4x1024x1408, .f32⟩
  | .hbm, ⟨59, _⟩ => ⟨S1x2816x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v19_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v19_1 : Ref sig .tc := ⟨.hbm, 38, rfl⟩
abbrev main_v19_0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩

abbrev nD : Nat := 1
abbrev τ : Topo := Topo.v7x

variable {F : FTy → Type} [FloatOps F]
-- ==== FfnDx.lean ====
abbrev S4x2048x1408 : Shape := ⟨3, ![4, 2048, 1408]⟩
abbrev S4x1024x1408 : Shape := ⟨3, ![4, 1024, 1408]⟩
abbrev S1x4x1024x1408 : Shape := ⟨4, ![1, 4, 1024, 1408]⟩
abbrev S2048x1024 : Shape := ⟨2, ![2048, 1024]⟩
abbrev S1x1024x1408 : Shape := ⟨3, ![1, 1024, 1408]⟩
abbrev S1x1x1024x1408 : Shape := ⟨4, ![1, 1, 1024, 1408]⟩
abbrev S1024x1024 : Shape := ⟨2, ![1024, 1024]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S4x2048x1408, .bf16⟩
  | .hbm, ⟨1, _⟩ => ⟨S4x1024x1408, .bf16⟩
  | .hbm, ⟨2, _⟩ => ⟨S1x4x1024x1408, .bf16⟩
  | .hbm, ⟨3, _⟩ => ⟨S2048x1024, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x1x1024x1408, .bf16⟩
  | .local _ .vmem, ⟨3, _⟩ => ⟨S1x1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 1, 4, 1], ![false, false, false, false]⟩

def k0_cond3 (i : grid0.Coords) : BitVec 1 :=
  let arg3 : BitVec 32 := BitVec.ofNat 32 (i 3).val
  let c0_i32_1 : BitVec 32 := 0#32
  let v3 : BitVec 1 := Scalar.cmpi .eq arg3 c0_i32_1
  let arg2 : BitVec 32 := BitVec.ofNat 32 (i 2).val
  let c3_i32 : BitVec 32 := 3#32
  let v4 : BitVec 1 := Scalar.cmpi .eq arg2 c3_i32
  let v5 : BitVec 1 := Scalar.andi v3 v4
  let v18 : BitVec 32 := Scalar.extui v5
  let c0_i32_11 : BitVec 32 := 0#32
  let v19 : BitVec 1 := Scalar.cmpi .ne v18 c0_i32_11
  v19

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg0.toNat, arg3.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg2.toNat, arg1.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== FfnDxRefIdeal.lean ====
abbrev S4x2048x1408 : Shape := ⟨3, ![4, 2048, 1408]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S2048x4x1408 : Shape := ⟨3, ![2048, 4, 1408]⟩
abbrev S2048x5632 : Shape := ⟨2, ![2048, 5632]⟩
abbrev S5632x1024 : Shape := ⟨2, ![5632, 1024]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4x2048x1408, .bf16⟩
  | .hbm, ⟨1, _⟩ => ⟨S4x1024x1408, .bf16⟩
  | .hbm, ⟨2, _⟩ => ⟨S4x1024x1408, .f32⟩
  | .hbm, ⟨3, _⟩ => ⟨S1024x4x1408, .f32⟩
  | .hbm, ⟨4, _⟩ => ⟨S1024x5632, .f32⟩
  | .hbm, ⟨5, _⟩ => ⟨S4x2048x1408, .f32⟩
  | .hbm, ⟨6, _⟩ => ⟨S2048x4x1408, .f32⟩
  | .hbm, ⟨7, _⟩ => ⟨S2048x5632, .f32⟩
  | .hbm, ⟨8, _⟩ => ⟨S5632x1024, .f32⟩
  | .hbm, ⟨9, _⟩ => ⟨S2048x1024, .f32⟩
  | _, _ => ⟨S4x2048x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== GateDx.lean ====
abbrev S4x2048x1024 : Shape := ⟨3, ![4, 2048, 1024]⟩
abbrev S4x1024x1024 : Shape := ⟨3, ![4, 1024, 1024]⟩
abbrev S1x4x1024x1024 : Shape := ⟨4, ![1, 4, 1024, 1024]⟩
abbrev S2048x1024 : Shape := ⟨2, ![2048, 1024]⟩
abbrev S1x1024x1024 : Shape := ⟨3, ![1, 1024, 1024]⟩
abbrev S1x1x1024x1024 : Shape := ⟨4, ![1, 1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4x2048x1024, .bf16⟩
  | .hbm, ⟨1, _⟩ => ⟨S4x1024x1024, .bf16⟩
  | .hbm, ⟨2, _⟩ => ⟨S1x4x1024x1024, .bf16⟩
  | .hbm, ⟨3, _⟩ => ⟨S2048x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 1, 4, 1], ![false, false, false, false]⟩

def k0_cond3 (i : grid0.Coords) : BitVec 1 :=
  let arg3 : BitVec 32 := BitVec.ofNat 32 (i 3).val
  let c0_i32_1 : BitVec 32 := 0#32
  let v3 : BitVec 1 := Scalar.cmpi .eq arg3 c0_i32_1
  let arg2 : BitVec 32 := BitVec.ofNat 32 (i 2).val
  let c3_i32 : BitVec 32 := 3#32
  let v4 : BitVec 1 := Scalar.cmpi .eq arg2 c3_i32
  let v5 : BitVec 1 := Scalar.andi v3 v4
  let v18 : BitVec 32 := Scalar.extui v5
  let c0_i32_11 : BitVec 32 := 0#32
  let v19 : BitVec 1 := Scalar.cmpi .ne v18 c0_i32_11
  v19

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg0.toNat, arg3.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg2.toNat, arg1.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== GateDxRefIdeal.lean ====
abbrev S4x2048x1024 : Shape := ⟨3, ![4, 2048, 1024]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S2048x4x1024 : Shape := ⟨3, ![2048, 4, 1024]⟩
abbrev S2048x4096 : Shape := ⟨2, ![2048, 4096]⟩
abbrev S4096x1024 : Shape := ⟨2, ![4096, 1024]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S4x1024x1024, .bf16⟩
  | .hbm, ⟨2, _⟩ => ⟨S4x1024x1024, .f32⟩
  | .hbm, ⟨3, _⟩ => ⟨S1024x4x1024, .f32⟩
  | .hbm, ⟨4, _⟩ => ⟨S1024x4096, .f32⟩
  | .hbm, ⟨5, _⟩ => ⟨S4x2048x1024, .f32⟩
  | .hbm, ⟨6, _⟩ => ⟨S2048x4x1024, .f32⟩
  | .hbm, ⟨7, _⟩ => ⟨S2048x4096, .f32⟩
  | .hbm, ⟨8, _⟩ => ⟨S4096x1024, .f32⟩
  | .hbm, ⟨9, _⟩ => ⟨S2048x1024, .f32⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== InDx.lean ====
abbrev S2048x2304 : Shape := ⟨2, ![2048, 2304]⟩
abbrev S4x1024x576 : Shape := ⟨3, ![4, 1024, 576]⟩
abbrev S1024x4x576 : Shape := ⟨3, ![1024, 4, 576]⟩
abbrev S1x1x1024x2304 : Shape := ⟨4, ![1, 1, 1024, 2304]⟩
abbrev S2048x1024 : Shape := ⟨2, ![2048, 1024]⟩
abbrev S1024x1152 : Shape := ⟨2, ![1024, 1152]⟩
abbrev S1x1x1024x1152 : Shape := ⟨4, ![1, 1, 1024, 1152]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x2304, .bf16⟩
  | .hbm, ⟨1, _⟩ => ⟨S4x1024x576, .bf16⟩
  | .hbm, ⟨2, _⟩ => ⟨S1024x4x576, .bf16⟩
  | .hbm, ⟨3, _⟩ => ⟨S1x1x1024x2304, .bf16⟩
  | .hbm, ⟨4, _⟩ => ⟨S2048x1024, .f32⟩
  | .local _ .vmem, ⟨0, _⟩ => ⟨S1024x1152, .bf16⟩
  | .local _ .vmem, ⟨1, _⟩ => ⟨S1024x1152, .bf16⟩
  | .local _ .vmem, ⟨2, _⟩ => ⟨S1x1x1024x1152, .bf16⟩
  | .local _ .vmem, ⟨3, _⟩ => ⟨S1x1x1024x1152, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 1, 1, 2], ![false, false, false, false]⟩

def k0_cond3 (i : grid0.Coords) : BitVec 1 :=
  let arg3 : BitVec 32 := BitVec.ofNat 32 (i 3).val
  let c1_i32 : BitVec 32 := 1#32
  let v3 : BitVec 1 := Scalar.cmpi .eq arg3 c1_i32
  let arg2 : BitVec 32 := BitVec.ofNat 32 (i 2).val
  let c0_i32_1 : BitVec 32 := 0#32
  let v4 : BitVec 1 := Scalar.cmpi .eq arg2 c0_i32_1
  let v5 : BitVec 1 := Scalar.andi v3 v4
  let v17 : BitVec 32 := Scalar.extui v5
  let c0_i32_10 : BitVec 32 := 0#32
  let v18 : BitVec 1 := Scalar.cmpi .ne v17 c0_i32_10
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg2 c2_i32
  let v1 : BitVec 32 := Scalar.addi v0 arg3
  let c0_i32 : BitVec 32 := 0#32
  ![arg0.toNat, v1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg2.toNat, arg1.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S1x1x1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== InDxRefIdeal.lean ====
abbrev S2048x2304 : Shape := ⟨2, ![2048, 2304]⟩
abbrev S4x1024x576 : Shape := ⟨3, ![4, 1024, 576]⟩
abbrev S1024x4x576 : Shape := ⟨3, ![1024, 4, 576]⟩
abbrev S1024x2304 : Shape := ⟨2, ![1024, 2304]⟩
abbrev S2304x1024 : Shape := ⟨2, ![2304, 1024]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x2304, .bf16⟩
  | .hbm, ⟨1, _⟩ => ⟨S4x1024x576, .bf16⟩
  | .hbm, ⟨2, _⟩ => ⟨S2048x2304, .f32⟩
  | .hbm, ⟨3, _⟩ => ⟨S4x1024x576, .f32⟩
  | .hbm, ⟨4, _⟩ => ⟨S1024x4x576, .f32⟩
  | .hbm, ⟨5, _⟩ => ⟨S1024x2304, .f32⟩
  | .hbm, ⟨6, _⟩ => ⟨S2304x1024, .f32⟩
  | .hbm, ⟨7, _⟩ => ⟨S2048x1024, .f32⟩
  | _, _ => ⟨S2048x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== FfnOut.lean ====
abbrev S2048x2816 : Shape := ⟨2, ![2048, 2816]⟩
abbrev S2816x1024 : Shape := ⟨2, ![2816, 1024]⟩
abbrev S2048x1024 : Shape := ⟨2, ![2048, 1024]⟩
abbrev S1x1x2816x1024 : Shape := ⟨4, ![1, 1, 2816, 1024]⟩
abbrev S1024x1408 : Shape := ⟨2, ![1024, 1408]⟩
abbrev S1x1x1408x1024 : Shape := ⟨4, ![1, 1, 1408, 1024]⟩
abbrev S1024x1024 : Shape := ⟨2, ![1024, 1024]⟩
abbrev S1408x1024 : Shape := ⟨2, ![1408, 1024]⟩

abbrev nBuf : Space → Nat
  | .hbm => 5
  | .vmem => 9
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S1x1x2816x1024, .bf16⟩
  | .hbm, ⟨4, _⟩ => ⟨S2048x1024, .f32⟩
  | .local _ .vmem, ⟨0, _⟩ => ⟨S1024x1408, .bf16⟩
  | .local _ .vmem, ⟨1, _⟩ => ⟨S1024x1408, .bf16⟩
  | .local _ .vmem, ⟨2, _⟩ => ⟨S1x1x1408x1024, .bf16⟩
  | .local _ .vmem, ⟨3, _⟩ => ⟨S1x1x1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![2, 1, 1, 2], ![false, false, false, false]⟩

def k0_cond3 (i : grid0.Coords) : BitVec 1 :=
  let arg3 : BitVec 32 := BitVec.ofNat 32 (i 3).val
  let c1_i32 : BitVec 32 := 1#32
  let v1 : BitVec 1 := Scalar.cmpi .eq arg3 c1_i32
  let v13 : BitVec 32 := Scalar.extui v1
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S1x1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== FfnOutRefIdeal.lean ====
abbrev S2048x2816 : Shape := ⟨2, ![2048, 2816]⟩
abbrev S2816x1024 : Shape := ⟨2, ![2816, 1024]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S2048x2816, .f32⟩
  | .hbm, ⟨4, _⟩ => ⟨S2816x1024, .f32⟩
  | .hbm, ⟨5, _⟩ => ⟨S2048x1024, .f32⟩
  | .hbm, ⟨6, _⟩ => ⟨S2048x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Mix.lean ====
abbrev S2048x1024 : Shape := ⟨2, ![2048, 1024]⟩
abbrev S1x1024 : Shape := ⟨2, ![1, 1024]⟩
abbrev S4x1024x576 : Shape := ⟨3, ![4, 1024, 576]⟩
abbrev S4x1024x1024 : Shape := ⟨3, ![4, 1024, 1024]⟩
abbrev S2048x256 : Shape := ⟨2, ![2048, 256]⟩
abbrev S4x1024x256 : Shape := ⟨3, ![4, 1024, 256]⟩
abbrev S1024x1024 : Shape := ⟨2, ![1024, 1024]⟩
abbrev S1024x4x576 : Shape := ⟨3, ![1024, 4, 576]⟩
abbrev S1x1x1024x2304 : Shape := ⟨4, ![1, 1, 1024, 2304]⟩
abbrev S1x4x1024x1024 : Shape := ⟨4, ![1, 4, 1024, 1024]⟩
abbrev S1x4x4x256x256 : Shape := ⟨5, ![1, 4, 4, 256, 256]⟩
abbrev S1x1x1024x1024 : Shape := ⟨4, ![1, 1, 1024, 1024]⟩
abbrev S512x1024 : Shape := ⟨2, ![512, 1024]⟩
abbrev S512 : Shape := ⟨1, ![512]⟩
abbrev S512x1 : Shape := ⟨2, ![512, 1]⟩
abbrev S2048x2304 : Shape := ⟨2, ![2048, 2304]⟩
abbrev S1x1x1024x1152 : Shape := ⟨4, ![1, 1, 1024, 1152]⟩
abbrev S1024x1152 : Shape := ⟨2, ![1024, 1152]⟩
abbrev S4x2048x1024 : Shape := ⟨3, ![4, 2048, 1024]⟩
abbrev S1x1024x1024 : Shape := ⟨3, ![1, 1024, 1024]⟩
abbrev S1x2048x256 : Shape := ⟨3, ![1, 2048, 256]⟩
abbrev S4x2048x256 : Shape := ⟨3, ![4, 2048, 256]⟩
abbrev S1x1x4x256x256 : Shape := ⟨5, ![1, 1, 4, 256, 256]⟩
abbrev S1024x256 : Shape := ⟨2, ![1024, 256]⟩
abbrev S1x1024x256 : Shape := ⟨3, ![1, 1024, 256]⟩
abbrev S1x1x1x256x256 : Shape := ⟨5, ![1, 1, 1, 256, 256]⟩
abbrev S256x256 : Shape := ⟨2, ![256, 256]⟩

abbrev nBuf : Space → Nat
  | .hbm => 28
  | .vmem => 40
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S4x1024x576, .bf16⟩
  | .hbm, ⟨3, _⟩ => ⟨S4x1024x1024, .bf16⟩
  | .hbm, ⟨4, _⟩ => ⟨S2048x256, .bf16⟩
  | .hbm, ⟨5, _⟩ => ⟨S2048x256, .bf16⟩
  | .hbm, ⟨6, _⟩ => ⟨S2048x256, .bf16⟩
  | .hbm, ⟨7, _⟩ => ⟨S2048x256, .bf16⟩
  | .hbm, ⟨8, _⟩ => ⟨S4x1024x256, .bf16⟩
  | .hbm, ⟨9, _⟩ => ⟨S1024x1024, .bf16⟩
  | .hbm, ⟨10, _⟩ => ⟨S2048x1024, .f32⟩
  | .hbm, ⟨11, _⟩ => ⟨S1024x4x576, .bf16⟩
  | .hbm, ⟨12, _⟩ => ⟨S1x1x1024x2304, .bf16⟩
  | .hbm, ⟨13, _⟩ => ⟨S1x4x1024x1024, .bf16⟩
  | .hbm, ⟨14, _⟩ => ⟨S1x4x4x256x256, .bf16⟩
  | .hbm, ⟨15, _⟩ => ⟨S1x1x1024x1024, .bf16⟩
  | .hbm, ⟨16, _⟩ => ⟨S2048x1024, .bf16⟩
  | .hbm, ⟨17, _⟩ => ⟨S2048x2304, .f32⟩
  | .hbm, ⟨18, _⟩ => ⟨S4x2048x1024, .f32⟩
  | .hbm, ⟨19, _⟩ => ⟨S1x2048x256, .bf16⟩
  | .hbm, ⟨20, _⟩ => ⟨S1x2048x256, .bf16⟩
  | .hbm, ⟨21, _⟩ => ⟨S1x2048x256, .bf16⟩
  | .hbm, ⟨22, _⟩ => ⟨S1x2048x256, .bf16⟩
  | .hbm, ⟨23, _⟩ => ⟨S4x2048x256, .bf16⟩
  | .hbm, ⟨24, _⟩ => ⟨S2048x1024, .bf16⟩
  | .hbm, ⟨25, _⟩ => ⟨S2048x1024, .f32⟩
  | .hbm, ⟨26, _⟩ => ⟨S2048x1024, .f32⟩
  | .hbm, ⟨27, _⟩ => ⟨S1x1024x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x1x1024x1152, .bf16⟩
  | .local _ .vmem, ⟨8, _⟩ => ⟨S1x1x1024x1152, .bf16⟩
  | .local _ .vmem, ⟨9, _⟩ => ⟨S1024x1152, .f32⟩
  | .local _ .vmem, ⟨10, _⟩ => ⟨S1024x1152, .f32⟩
  | .local _ .vmem, ⟨11, _⟩ => ⟨S1024x1024, .bf16⟩
  | .local _ .vmem, ⟨12, _⟩ => ⟨S1024x1024, .bf16⟩
  | .local _ .vmem, ⟨13, _⟩ => ⟨S1x1x1024x1024, .bf16⟩
  | .local _ .vmem, ⟨14, _⟩ => ⟨S1x1x1024x1024, .bf16⟩
  | .local _ .vmem, ⟨15, _⟩ => ⟨S1x1024x1024, .f32⟩
  | .local _ .vmem, ⟨16, _⟩ => ⟨S1x1024x1024, .f32⟩
  | .local _ .vmem, ⟨17, _⟩ => ⟨S4x1024x256, .f32⟩
  | .local _ .vmem, ⟨18, _⟩ => ⟨S4x1024x256, .f32⟩
  | .local _ .vmem, ⟨19, _⟩ => ⟨S4x1024x256, .bf16⟩
  | .local _ .vmem, ⟨20, _⟩ => ⟨S4x1024x256, .bf16⟩
  | .local _ .vmem, ⟨21, _⟩ => ⟨S1x1x4x256x256, .bf16⟩
  | .local _ .vmem, ⟨22, _⟩ => ⟨S1x1x4x256x256, .bf16⟩
  | .local _ .vmem, ⟨23, _⟩ => ⟨S1024x256, .bf16⟩
  | .local _ .vmem, ⟨24, _⟩ => ⟨S1024x256, .bf16⟩
  | .local _ .vmem, ⟨25, _⟩ => ⟨S1024x1024, .bf16⟩
  | .local _ .vmem, ⟨26, _⟩ => ⟨S1024x1024, .bf16⟩
  | .local _ .vmem, ⟨27, _⟩ => ⟨S1x1x1024x1024, .bf16⟩
  | .local _ .vmem, ⟨28, _⟩ => ⟨S1024x1024, .f32⟩
  | .local _ .vmem, ⟨29, _⟩ => ⟨S1024x1024, .f32⟩
  | .local _ .vmem, ⟨30, _⟩ => ⟨S1024x1024, .f32⟩
  | .local _ .vmem, ⟨31, _⟩ => ⟨S1024x1024, .f32⟩
  | .local _ .vmem, ⟨32, _⟩ => ⟨S1024x1024, .f32⟩
  | .local _ .vmem, ⟨33, _⟩ => ⟨S1024x1024, .f32⟩
  | .local _ .vmem, ⟨34, _⟩ => ⟨S1x1x1024x1024, .bf16⟩
  | .local _ .vmem, ⟨35, _⟩ => ⟨S1024x1024, .f32⟩
  | .local _ .vmem, ⟨36, _⟩ => ⟨S1024x1024, .f32⟩
  | .local _ .vmem, ⟨37, _⟩ => ⟨S2048x1024, .bf16⟩
  | .local _ .vmem, ⟨38, _⟩ => ⟨S2048x1024, .f32⟩
  | .local _ .vmem, ⟨39, _⟩ => ⟨S1x1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc3_stg3_0 : Ref sig .tc := ⟨.vmem, 23, rfl⟩
abbrev cc3_stg3_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg2_1 : Ref sig .tc := ⟨.vmem, 29, rfl⟩
abbrev cc4_stg3_0 : Ref sig .tc := ⟨.vmem, 30, rfl⟩
abbrev cc4_stg3_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg2_1 : Ref sig .tc := ⟨.vmem, 36, rfl⟩
abbrev cc6_stg0_0 : Ref sig .tc := ⟨.vmem, 37, rfl⟩
abbrev cc6_stg1_0 : Ref sig .tc := ⟨.vmem, 38, rfl⟩
abbrev cc6_stg2_0 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc3_sem3_0 : DmaSem sig := 23
abbrev cc3_sem3_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem2_1 : DmaSem sig := 29
abbrev cc4_sem3_0 : DmaSem sig := 30
abbrev cc4_sem3_1 : DmaSem sig := 31
abbrev cc5_sem0_0 : DmaSem sig := 32
abbrev cc5_sem0_1 : DmaSem sig := 33
abbrev cc5_sem1_0 : DmaSem sig := 34
abbrev cc5_sem2_0 : DmaSem sig := 35
abbrev cc5_sem2_1 : DmaSem sig := 36
abbrev cc6_sem0_0 : DmaSem sig := 37
abbrev cc6_sem1_0 : DmaSem sig := 38
abbrev cc6_sem2_0 : DmaSem sig := 39

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨4, ![2, 1, 2, 1], ![false, false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat, arg3.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let v1 : BitVec 32 := Scalar.addi v0 arg2
  let c0_i32 : BitVec 32 := 0#32
  ![arg0.toNat, v1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, false, true]

abbrev stage1_1 : Fin 2 → Memref sig .tc .vmem S1x1x1024x1152 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true, true]

abbrev stage1_2 : Fin 2 → Memref sig .tc .vmem S1024x1152 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true, false]

abbrev grid2 : Pipeline.Grid := ⟨4, ![2, 4, 1, 1], ![false, false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc2_transform_1 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat, arg3.toNat, arg2.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg0.toNat, arg2.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, false, true]

abbrev stage2_1 : Fin 2 → Memref sig .tc .vmem S1x1x1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true, true]

abbrev stage2_2 : Fin 2 → Memref sig .tc .vmem S1x1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, true, false]

abbrev grid3 : Pipeline.Grid := ⟨2, ![2, 4], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc3_transform_2 (i : grid3.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg1.toNat, c0_i32_0.toNat, c0_i32_1.toNat, c0_i32_2.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S4x1024x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S4x1024x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x1x4x256x256 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S1024x256 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨4, ![2, 1, 1, 1], ![false, false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc4_transform_1 (i : grid4.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat, arg3.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, false, true]

abbrev stage4_1 : Fin 1 → Memref sig .tc .vmem S1x1x1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, true, false]

abbrev stage4_3 : Fin 2 → Memref sig .tc .vmem S1024x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true, true, false]

abbrev grid5 : Pipeline.Grid := ⟨4, ![2, 1, 1, 1], ![false, false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg2 c1_i32
  let v1 : BitVec 32 := Scalar.addi v0 arg3
  let c0_i32 : BitVec 32 := 0#32
  ![arg0.toNat, v1.toNat]

def cc5_transform_1 (i : grid5.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg2.toNat, arg1.toNat, arg3.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage5_0 : Fin 2 → Memref sig .tc .vmem S1024x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true, true]

abbrev stage5_1 : Fin 1 → Memref sig .tc .vmem S1x1x1024x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true, true]

abbrev stage5_2 : Fin 2 → Memref sig .tc .vmem S1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false, false]

abbrev grid6 : Pipeline.Grid := ⟨4, ![1, 1, 1, 1], ![false, false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![arg3.toNat, v1.toNat]

def cc6_transform_2 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage6_0 : Fin 1 → Memref sig .tc .vmem S2048x1024 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false, true, false, true]

abbrev stage6_1 : Fin 1 → Memref sig .tc .vmem S2048x1024 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![true, false, true, true]

abbrev stage6_2 : Fin 1 → Memref sig .tc .vmem S1x1024x1024 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true, true, true, false]
-- ==== MixRefIdeal.lean ====
abbrev S2048x1024 : Shape := ⟨2, ![2048, 1024]⟩
abbrev S1x1024 : Shape := ⟨2, ![1, 1024]⟩
abbrev S4x1024x576 : Shape := ⟨3, ![4, 1024, 576]⟩
abbrev S4x1024x1024 : Shape := ⟨3, ![4, 1024, 1024]⟩
abbrev S2048x256 : Shape := ⟨2, ![2048, 256]⟩
abbrev S4x1024x256 : Shape := ⟨3, ![4, 1024, 256]⟩
abbrev S1024x1024 : Shape := ⟨2, ![1024, 1024]⟩
abbrev S_ : Shape := ⟨0, ![]⟩
abbrev S2048 : Shape := ⟨1, ![2048]⟩
abbrev S2048x1 : Shape := ⟨2, ![2048, 1]⟩
abbrev S1024x4x576 : Shape := ⟨3, ![1024, 4, 576]⟩
abbrev S1024x2304 : Shape := ⟨2, ![1024, 2304]⟩
abbrev S2048x2304 : Shape := ⟨2, ![2048, 2304]⟩
abbrev S2048x1x256 : Shape := ⟨3, ![2048, 1, 256]⟩
abbrev S2048x4x256 : Shape := ⟨3, ![2048, 4, 256]⟩
abbrev S4x4x256x256 : Shape := ⟨4, ![4, 4, 256, 256]⟩
abbrev S4x256x4x256 : Shape := ⟨4, ![4, 256, 4, 256]⟩
abbrev S4x256x1024 : Shape := ⟨3, ![4, 256, 1024]⟩
abbrev S4x1024x2048 : Shape := ⟨3, ![4, 1024, 2048]⟩
abbrev S2048x4x1024 : Shape := ⟨3, ![2048, 4, 1024]⟩
abbrev S1024x4x1024 : Shape := ⟨3, ![1024, 4, 1024]⟩
abbrev S1024x4096 : Shape := ⟨2, ![1024, 4096]⟩
abbrev S2048x4096 : Shape := ⟨2, ![2048, 4096]⟩
abbrev S1x1024x1024 : Shape := ⟨3, ![1, 1024, 1024]⟩

abbrev nBuf : Space → Nat
  | .hbm => 68
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S4x1024x576, .bf16⟩
  | .hbm, ⟨3, _⟩ => ⟨S4x1024x1024, .bf16⟩
  | .hbm, ⟨4, _⟩ => ⟨S2048x256, .bf16⟩
  | .hbm, ⟨5, _⟩ => ⟨S2048x256, .bf16⟩
  | .hbm, ⟨6, _⟩ => ⟨S2048x256, .bf16⟩
  | .hbm, ⟨7, _⟩ => ⟨S2048x256, .bf16⟩
  | .hbm, ⟨8, _⟩ => ⟨S4x1024x256, .bf16⟩
  | .hbm, ⟨9, _⟩ => ⟨S1024x1024, .bf16⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S4x1024x576, .f32⟩
  | .hbm, ⟨27, _⟩ => ⟨S1024x4x576, .f32⟩
  | .hbm, ⟨28, _⟩ => ⟨S1024x2304, .f32⟩
  | .hbm, ⟨29, _⟩ => ⟨S2048x2304, .f32⟩
  | .hbm, ⟨30, _⟩ => ⟨S2048x256, .f32⟩
  | .hbm, ⟨31, _⟩ => ⟨S2048x256, .f32⟩
  | .hbm, ⟨32, _⟩ => ⟨S2048x256, .f32⟩
  | .hbm, ⟨33, _⟩ => ⟨S2048x256, .f32⟩
  | .hbm, ⟨34, _⟩ => ⟨S2048x1x256, .f32⟩
  | .hbm, ⟨35, _⟩ => ⟨S2048x1x256, .f32⟩
  | .hbm, ⟨36, _⟩ => ⟨S2048x1x256, .f32⟩
  | .hbm, ⟨37, _⟩ => ⟨S2048x1x256, .f32⟩
  | .hbm, ⟨38, _⟩ => ⟨S2048x4x256, .f32⟩
  | .hbm, ⟨39, _⟩ => ⟨S4x1024x256, .f32⟩
  | .hbm, ⟨40, _⟩ => ⟨S4x4x256x256, .f32⟩
  | .hbm, ⟨41, _⟩ => ⟨S4x256x4x256, .f32⟩
  | .hbm, ⟨42, _⟩ => ⟨S4x256x1024, .f32⟩
  | .hbm, ⟨43, _⟩ => ⟨S4x1024x2048, .f32⟩
  | .hbm, ⟨44, _⟩ => ⟨S2048x4x1024, .f32⟩
  | .hbm, ⟨45, _⟩ => ⟨S4x1024x1024, .f32⟩
  | .hbm, ⟨46, _⟩ => ⟨S1024x4x1024, .f32⟩
  | .hbm, ⟨47, _⟩ => ⟨S1024x4096, .f32⟩
  | .hbm, ⟨48, _⟩ => ⟨S2048x4096, .f32⟩
  | .hbm, ⟨49, _⟩ => ⟨S2048x4096, .f32⟩
  | .hbm, ⟨50, _⟩ => ⟨S2048x4096, .f32⟩
  | .hbm, ⟨51, _⟩ => ⟨S_, .f32⟩
  | .hbm, ⟨52, _⟩ => ⟨S2048x4096, .f32⟩
  | .hbm, ⟨53, _⟩ => ⟨S2048x4096, .f32⟩
  | .hbm, ⟨54, _⟩ => ⟨S_, .f32⟩
  | .hbm, ⟨55, _⟩ => ⟨S2048x4096, .f32⟩
  | .hbm, ⟨56, _⟩ => ⟨S2048x4096, .f32⟩
  | .hbm, ⟨57, _⟩ => ⟨S2048x4x1024, .f32⟩
  | .hbm, ⟨58, _⟩ => ⟨S2048x4x1024, .f32⟩
  | .hbm, ⟨59, _⟩ => ⟨S_, .f32⟩
  | .hbm, ⟨60, _⟩ => ⟨S2048x1024, .f32⟩
  | .hbm, ⟨61, _⟩ => ⟨S1024x1024, .f32⟩
  | .hbm, ⟨62, _⟩ => ⟨S2048x1024, .f32⟩
  | .hbm, ⟨63, _⟩ => ⟨S2048x1024, .f32⟩
  | .hbm, ⟨64, _⟩ => ⟨S1024x1024, .f32⟩
  | .hbm, ⟨65, _⟩ => ⟨S1024x1024, .f32⟩
  | .hbm, ⟨66, _⟩ => ⟨S2048x1024, .f32⟩
  | .hbm, ⟨67, _⟩ => ⟨S1x1024x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_2 : Ref sig .tc := ⟨.hbm, 51, rfl⟩
abbrev main_v37 : Ref sig .tc := ⟨.hbm, 52, rfl⟩
abbrev main_v38 : Ref sig .tc := ⟨.hbm, 53, rfl⟩
abbrev main_cst_3 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_4 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩

abbrev nD : Nat := 1
abbrev τ : Topo := Topo.v7x

variable {F : FTy → Type} [FloatOps F]
-- ==== ProjDw.lean ====
abbrev S2048x1024 : Shape := ⟨2, ![2048, 1024]⟩
abbrev S1x1024 : Shape := ⟨2, ![1, 1024]⟩
abbrev S4x2048x1024 : Shape := ⟨3, ![4, 2048, 1024]⟩
abbrev S2048x2304 : Shape := ⟨2, ![2048, 2304]⟩
abbrev S512x1024 : Shape := ⟨2, ![512, 1024]⟩
abbrev S512 : Shape := ⟨1, ![512]⟩
abbrev S512x1 : Shape := ⟨2, ![512, 1]⟩
abbrev S4x1024x1024 : Shape := ⟨3, ![4, 1024, 1024]⟩
abbrev S1x2048x1024 : Shape := ⟨3, ![1, 2048, 1024]⟩
abbrev S1x1024x1024 : Shape := ⟨3, ![1, 1024, 1024]⟩
abbrev S1024x1024 : Shape := ⟨2, ![1024, 1024]⟩
abbrev S1x2304x1024 : Shape := ⟨3, ![1, 2304, 1024]⟩
abbrev S2048x768 : Shape := ⟨2, ![2048, 768]⟩
abbrev S1x768x1024 : Shape := ⟨3, ![1, 768, 1024]⟩
abbrev S768x1024 : Shape := ⟨2, ![768, 1024]⟩

abbrev nBuf : Space → Nat
  | .hbm => 7
  | .vmem => 15
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S4x2048x1024, .bf16⟩
  | .hbm, ⟨3, _⟩ => ⟨S2048x2304, .bf16⟩
  | .hbm, ⟨4, _⟩ => ⟨S2048x1024, .bf16⟩
  | .hbm, ⟨5, _⟩ => ⟨S4x1024x1024, .f32⟩
  | .hbm, ⟨6, _⟩ => ⟨S1x2304x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S2048x1024, .bf16⟩
  | .local _ .vmem, ⟨6, _⟩ => ⟨S1x2048x1024, .bf16⟩
  | .local _ .vmem, ⟨7, _⟩ => ⟨S1x2048x1024, .bf16⟩
  | .local _ .vmem, ⟨8, _⟩ => ⟨S1x1024x1024, .f32⟩
  | .local _ .vmem, ⟨9, _⟩ => ⟨S1x1024x1024, .f32⟩
  | .local _ .vmem, ⟨10, _⟩ => ⟨S2048x768, .bf16⟩
  | .local _ .vmem, ⟨11, _⟩ => ⟨S2048x768, .bf16⟩
  | .local _ .vmem, ⟨12, _⟩ => ⟨S2048x1024, .bf16⟩
  | .local _ .vmem, ⟨13, _⟩ => ⟨S1x768x1024, .f32⟩
  | .local _ .vmem, ⟨14, _⟩ => ⟨S1x768x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨4, ![4, 1, 1, 1], ![false, false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage1_0 : Fin 1 → Memref sig .tc .vmem S2048x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, true, false, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true, true]

abbrev stage1_2 : Fin 2 → Memref sig .tc .vmem S1x1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true, false]

abbrev grid2 : Pipeline.Grid := ⟨4, ![1, 3, 1, 1], ![false, false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![arg3.toNat, v1.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage2_0 : Fin 2 → Memref sig .tc .vmem S2048x768 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true, false, true]

abbrev stage2_1 : Fin 1 → Memref sig .tc .vmem S2048x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false, true, true]

abbrev stage2_2 : Fin 2 → Memref sig .tc .vmem S1x768x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, true, false]
-- ==== ProjDwRefIdeal.lean ====
abbrev S2048x1024 : Shape := ⟨2, ![2048, 1024]⟩
abbrev S1x1024 : Shape := ⟨2, ![1, 1024]⟩
abbrev S4x2048x1024 : Shape := ⟨3, ![4, 2048, 1024]⟩
abbrev S2048x2304 : Shape := ⟨2, ![2048, 2304]⟩
abbrev S_ : Shape := ⟨0, ![]⟩
abbrev S2048 : Shape := ⟨1, ![2048]⟩
abbrev S2048x1 : Shape := ⟨2, ![2048, 1]⟩
abbrev S2048x4x1024 : Shape := ⟨3, ![2048, 4, 1024]⟩
abbrev S2048x4096 : Shape := ⟨2, ![2048, 4096]⟩
abbrev S1024x2048 : Shape := ⟨2, ![1024, 2048]⟩
abbrev S1024x4096 : Shape := ⟨2, ![1024, 4096]⟩
abbrev S1024x2304 : Shape := ⟨2, ![1024, 2304]⟩
abbrev S1024x4x1024 : Shape := ⟨3, ![1024, 4, 1024]⟩
abbrev S4x1024x1024 : Shape := ⟨3, ![4, 1024, 1024]⟩
abbrev S2304x1024 : Shape := ⟨2, ![2304, 1024]⟩
abbrev S1x2304x1024 : Shape := ⟨3, ![1, 2304, 1024]⟩

abbrev nBuf : Space → Nat
  | .hbm => 31
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S4x2048x1024, .bf16⟩
  | .hbm, ⟨3, _⟩ => ⟨S2048x2304, .bf16⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S4x2048x1024, .f32⟩
  | .hbm, ⟨20, _⟩ => ⟨S2048x4x1024, .f32⟩
  | .hbm, ⟨21, _⟩ => ⟨S2048x4096, .f32⟩
  | .hbm, ⟨22, _⟩ => ⟨S1024x2048, .f32⟩
  | .hbm, ⟨23, _⟩ => ⟨S1024x4096, .f32⟩
  | .hbm, ⟨24, _⟩ => ⟨S1024x2048, .f32⟩
  | .hbm, ⟨25, _⟩ => ⟨S2048x2304, .f32⟩
  | .hbm, ⟨26, _⟩ => ⟨S1024x2304, .f32⟩
  | .hbm, ⟨27, _⟩ => ⟨S1024x4x1024, .f32⟩
  | .hbm, ⟨28, _⟩ => ⟨S4x1024x1024, .f32⟩
  | .hbm, ⟨29, _⟩ => ⟨S2304x1024, .f32⟩
  | .hbm, ⟨30, _⟩ => ⟨S1x2304x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== RmsBwd.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RmsBwdRefIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 49
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048, .f32⟩
  | .hbm, ⟨34, _⟩ => ⟨S2048x1, .f32⟩
  | .hbm, ⟨35, _⟩ => ⟨S2048x1024, .f32⟩
  | .hbm, ⟨36, _⟩ => ⟨S2048x1024, .f32⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S_, .f32⟩
  | .hbm, ⟨42, _⟩ => ⟨S2048, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== MemAttn.lean ====
abbrev S2048x2304 : Shape := ⟨2, ![2048, 2304]⟩
abbrev S256x512 : Shape := ⟨2, ![256, 512]⟩
abbrev S64 : Shape := ⟨1, ![64]⟩
abbrev S2048x256 : Shape := ⟨2, ![2048, 256]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S256x256 : Shape := ⟨2, ![256, 256]⟩
abbrev S256x1 : Shape := ⟨2, ![256, 1]⟩
abbrev S1024x256 : Shape := ⟨2, ![1024, 256]⟩
abbrev S1024 : Shape := ⟨1, ![1024]⟩
abbrev S1024x1 : Shape := ⟨2, ![1024, 1]⟩
abbrev S768x256 : Shape := ⟨2, ![768, 256]⟩
abbrev S512x256 : Shape := ⟨2, ![512, 256]⟩
abbrev S_ : Shape := ⟨0, ![]⟩

abbrev nBuf : Space → Nat
  | .hbm => 24
  | .vmem => 22
  | .smem => 0
  | _ => 0

abbrev bufTy : (tb : Table) → Fin (tcTables nBuf tb) → BufTy
  | .hbm, ⟨0, _⟩ => ⟨S2048x2304, .f32⟩
  | .hbm, ⟨1, _⟩ => ⟨S256x512, .f32⟩
  | .hbm, ⟨2, _⟩ => ⟨S64, .f32⟩
  | .hbm, ⟨3, _⟩ => ⟨S64, .f32⟩
  | .hbm, ⟨4, _⟩ => ⟨S2048x256, .f32⟩
  | .hbm, ⟨5, _⟩ => ⟨S1x64, .f32⟩
  | .hbm, ⟨6, _⟩ => ⟨S4x64, .f32⟩
  | .hbm, ⟨7, _⟩ => ⟨S256, .f32⟩
  | .hbm, ⟨8, _⟩ => ⟨S1x256, .f32⟩
  | .hbm, ⟨9, _⟩ => ⟨S1x64, .f32⟩
  | .hbm, ⟨10, _⟩ => ⟨S4x64, .f32⟩
  | .hbm, ⟨11, _⟩ => ⟨S256, .f32⟩
  | .hbm, ⟨12, _⟩ => ⟨S1x256, .f32⟩
  | .hbm, ⟨13, _⟩ => ⟨S2048x256, .bf16⟩
  | .hbm, ⟨14, _⟩ => ⟨S2048x256, .bf16⟩
  | .hbm, ⟨15, _⟩ => ⟨S256x256, .f32⟩
  | .hbm, ⟨16, _⟩ => ⟨S256x256, .f32⟩
  | .hbm, ⟨17, _⟩ => ⟨S1x256, .f32⟩
  | .hbm, ⟨18, _⟩ => ⟨S1x256, .f32⟩
  | .hbm, ⟨19, _⟩ => ⟨S256x512, .f32⟩
  | .hbm, ⟨20, _⟩ => ⟨S256x256, .f32⟩
  | .hbm, ⟨21, _⟩ => ⟨S4x64, .f32⟩
  | .hbm, ⟨22, _⟩ => ⟨S_, .f32⟩
  | .hbm, ⟨23, _⟩ => ⟨S64, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S1x256, .f32⟩
  | .local _ .vmem, ⟨5, _⟩ => ⟨S1x256, .f32⟩
  | .local _ .vmem, ⟨6, _⟩ => ⟨S256x256, .bf16⟩
  | .local _ .vmem, ⟨7, _⟩ => ⟨S256x256, .bf16⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S1x256, .f32⟩
  | .local _ .vmem, ⟨13, _⟩ => ⟨S1x256, .f32⟩
  | .local _ .vmem, ⟨14, _⟩ => ⟨S256x256, .f32⟩
  | .local _ .vmem, ⟨15, _⟩ => ⟨S256x256, .f32⟩
  | .local _ .vmem, ⟨16, _⟩ => ⟨S256x256, .bf16⟩
  | .local _ .vmem, ⟨17, _⟩ => ⟨S256x256, .bf16⟩
  | .local _ .vmem, ⟨18, _⟩ => ⟨S256x256, .f32⟩
  | .local _ .vmem, ⟨19, _⟩ => ⟨S256x256, .f32⟩
  | .local _ .vmem, ⟨20, _⟩ => ⟨S1x256, .f32⟩
  | .local _ .vmem, ⟨21, _⟩ => ⟨S1x256, .f32⟩
  | _, _ => ⟨S2048x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v9_3 : Ref sig .tc := ⟨.hbm, 17, rfl⟩
abbrev main_v9_4 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg10_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem8_0 : DmaSem sig := 19
abbrev cc1_sem9_0 : DmaSem sig := 20
abbrev cc1_sem10_0 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c8_i32 : BitVec 32 := 8#32
  let c0_i32 : BitVec 32 := 0#32
  ![arg0.toNat, c8_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S256x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]
-- ==== MemAttnRefIdeal.lean ====
abbrev S2048x2304 : Shape := ⟨2, ![2048, 2304]⟩
abbrev S256x512 : Shape := ⟨2, ![256, 512]⟩
abbrev S64 : Shape := ⟨1, ![64]⟩
abbrev S2048x256 : Shape := ⟨2, ![2048, 256]⟩
abbrev S256x256 : Shape := ⟨2, ![256, 256]⟩
abbrev S256x4x64 : Shape := ⟨3, ![256, 4, 64]⟩
abbrev S4x256x64 : Shape := ⟨3, ![4, 256, 64]⟩
abbrev S_ : Shape := ⟨0, ![]⟩
abbrev S4x256 : Shape := ⟨2, ![4, 256]⟩
abbrev S4x256x1 : Shape := ⟨3, ![4, 256, 1]⟩
abbrev S1x1x64 : Shape := ⟨3, ![1, 1, 64]⟩
abbrev S2048x4x64 : Shape := ⟨3, ![2048, 4, 64]⟩
abbrev S4x2048x64 : Shape := ⟨3, ![4, 2048, 64]⟩
abbrev S4x2048 : Shape := ⟨2, ![4, 2048]⟩
abbrev S4x2048x1 : Shape := ⟨3, ![4, 2048, 1]⟩
abbrev S4x2048x256 : Shape := ⟨3, ![4, 2048, 256]⟩
abbrev S4x64x256 : Shape := ⟨3, ![4, 64, 256]⟩

abbrev nBuf : Space → Nat
  | .hbm => 132
  | .vmem => 0
  | .smem => 0
  | _ => 0

abbrev hbmTy0_0 (i : Nat) : BufTy := match i % 128 with
  | 0 => ⟨S2048x2304, .f32⟩
  | 1 => ⟨S256x512, .f32⟩
  | 2 => ⟨S64, .f32⟩
  | 3 => ⟨S64, .f32⟩
  | 4 => ⟨S2048x256, .f32⟩
  | 5 => ⟨S256x256, .f32⟩
  | 6 => ⟨S256x4x64, .f32⟩
  | 7 => ⟨S4x256x64, .f32⟩
  | 8 => ⟨S4x256x64, .f32⟩
  | 9 => ⟨S_, .f32⟩
  | 10 => ⟨S4x256, .f32⟩
  | 11 => ⟨S4x256x1, .f32⟩
  | 12 => ⟨S_, .f32⟩
  | 13 => ⟨S4x256x1, .f32⟩
  | 14 => ⟨S4x256x1, .f32⟩
  | 15 => ⟨S_, .f32⟩
  | 16 => ⟨S4x256x1, .f32⟩
  | 17 => ⟨S4x256x1, .f32⟩
  | 18 => ⟨S4x256x1, .f32⟩
  | 19 => ⟨S4x256x64, .f32⟩
  | 20 => ⟨S4x256x64, .f32⟩
  | 21 => ⟨S1x1x64, .f32⟩
  | 22 => ⟨S4x256x64, .f32⟩
  | 23 => ⟨S4x256x64, .f32⟩
  | 24 => ⟨S2048x256, .f32⟩
  | 25 => ⟨S256x256, .f32⟩
  | 26 => ⟨S2048x4x64, .f32⟩
  | 27 => ⟨S4x2048x64, .f32⟩
  | 28 => ⟨S4x2048x64, .f32⟩
  | 29 => ⟨S_, .f32⟩
  | 30 => ⟨S4x2048, .f32⟩
  | 31 => ⟨S4x2048x1, .f32⟩
  | 32 => ⟨S_, .f32⟩
  | 33 => ⟨S4x2048x1, .f32⟩
  | 34 => ⟨S4x2048x1, .f32⟩
  | 35 => ⟨S_, .f32⟩
  | 36 => ⟨S4x2048x1, .f32⟩
  | 37 => ⟨S4x2048x1, .f32⟩
  | 38 => ⟨S4x2048x1, .f32⟩
  | 39 => ⟨S4x2048x1, .f32⟩
  | 40 => ⟨S_, .f32⟩
  | 41 => ⟨S4x2048x1, .f32⟩
  | 42 => ⟨S4x2048x1, .f32⟩
  | 43 => ⟨S4x2048x64, .f32⟩
  | 44 => ⟨S4x2048x64, .f32⟩
  | 45 => ⟨S1x1x64, .f32⟩
  | 46 => ⟨S4x2048x64, .f32⟩
  | 47 => ⟨S4x2048x64, .f32⟩
  | 48 => ⟨S4x2048x256, .f32⟩
  | 49 => ⟨S_, .f32⟩
  | 50 => ⟨S4x2048x256, .f32⟩
  | 51 => ⟨S4x2048x256, .f32⟩
  | 52 => ⟨S_, .f32⟩
  | 53 => ⟨S4x2048, .f32⟩
  | 54 => ⟨S4x2048x1, .f32⟩
  | 55 => ⟨S4x2048x256, .f32⟩
  | 56 => ⟨S4x2048x256, .i1⟩
  | 57 => ⟨S4x2048x256, .f32⟩
  | 58 => ⟨S_, .f32⟩
  | 59 => ⟨S4x2048, .f32⟩
  | 60 => ⟨S4x2048x1, .f32⟩
  | 61 => ⟨S4x2048x256, .f32⟩
  | 62 => ⟨S4x2048x256, .f32⟩
  | 63 => ⟨S4x2048x256, .f32⟩
  | 64 => ⟨S_, .f32⟩
  | 65 => ⟨S4x2048, .f32⟩
  | 66 => ⟨S4x2048x1, .f32⟩
  | 67 => ⟨S4x2048x256, .f32⟩
  | 68 => ⟨S4x2048x256, .f32⟩
  | 69 => ⟨S4x2048x1, .f32⟩
  | 70 => ⟨S_, .f32⟩
  | 71 => ⟨S4x2048x1, .f32⟩
  | 72 => ⟨S4x2048x1, .f32⟩
  | 73 => ⟨S256x4x64, .f32⟩
  | 74 => ⟨S4x256x64, .f32⟩
  | 75 => ⟨S4x2048x64, .f32⟩
  | 76 => ⟨S2048x4x64, .f32⟩
  | 77 => ⟨S2048x256, .f32⟩
  | 78 => ⟨S2048x4x64, .f32⟩
  | 79 => ⟨S4x2048x64, .f32⟩
  | 80 => ⟨S4x64x256, .f32⟩
  | 81 => ⟨S4x256x64, .f32⟩
  | 82 => ⟨S4x2048x256, .f32⟩
  | 83 => ⟨S256x4x64, .f32⟩
  | 84 => ⟨S256x256, .f32⟩
  | 85 => ⟨S4x2048x256, .f32⟩
  | 86 => ⟨S4x2048x256, .f32⟩
  | 87 => ⟨S4x2048x256, .f32⟩
  | 88 => ⟨S_, .f32⟩
  | 89 => ⟨S4x2048, .f32⟩
  | 90 => ⟨S4x2048x1, .f32⟩
  | 91 => ⟨S4x2048x1, .f32⟩
  | 92 => ⟨S4x2048x256, .f32⟩
  | 93 => ⟨S4x2048x256, .f32⟩
  | 94 => ⟨S_, .f32⟩
  | 95 => ⟨S4x2048, .f32⟩
  | 96 => ⟨S4x2048x256, .f32⟩
  | 97 => ⟨S4x2048x256, .f32⟩
  | 98 => ⟨S4x2048x256, .f32⟩
  | 99 => ⟨S_, .f32⟩
  | 100 => ⟨S4x2048x256, .f32⟩
  | 101 => ⟨S4x2048x256, .f32⟩
  | 102 => ⟨S4x2048x64, .f32⟩
  | 103 => ⟨S4x2048x64, .f32⟩
  | 104 => ⟨S_, .f32⟩
  | 105 => ⟨S64, .f32⟩
  | 106 => ⟨S1x1x64, .f32⟩
  | 107 => ⟨S4x2048x64, .f32⟩
  | 108 => ⟨S4x2048x64, .f32⟩
  | 109 => ⟨S_, .f32⟩
  | 110 => ⟨S64, .f32⟩
  | 111 => ⟨S4x2048x64, .f32⟩
  | 112 => ⟨S_, .f32⟩
  | 113 => ⟨S4x2048, .f32⟩
  | 114 => ⟨S4x2048x1, .f32⟩
  | 115 => ⟨S4x2048x64, .f32⟩
  | 116 => ⟨S4x2048x64, .f32⟩
  | 117 => ⟨S4x2048x1, .f32⟩
  | 118 => ⟨S_, .f32⟩
  | 119 => ⟨S4x2048x1, .f32⟩
  | 120 => ⟨S4x2048x1, .f32⟩
  | 121 => ⟨S_, .f32⟩
  | 122 => ⟨S4x2048, .f32⟩
  | 123 => ⟨S4x2048x64, .f32⟩
  | 124 => ⟨S4x2048x64, .f32⟩
  | 125 => ⟨S4x2048x64, .f32⟩
  | 126 => ⟨S4x2048x64, .f32⟩
  | 127 => ⟨S4x2048x64, .f32⟩
  | _ => ⟨S2048x2304, .f32⟩

abbrev hbmTy0_1 (i : Nat) : BufTy := match i % 128 with
  | 0 => ⟨S2048x4x64, .f32⟩
  | 1 => ⟨S2048x256, .f32⟩
  | 2 => ⟨S2048x256, .bf16⟩
  | 3 => ⟨S2048x256, .bf16⟩
  | _ => ⟨S2048x2304, .f32⟩

abbrev hbmTy (i : Nat) : BufTy := match i / 128 with
  | 0 => hbmTy0_0 i
  | 1 => hbmTy0_1 i
  | _ => ⟨S2048x2304, .f32⟩

abbrev bufTy : (tb : Table) → Fin (tcTables nBuf tb) → BufTy
  | .hbm, ⟨i, _⟩ => hbmTy i
  | _, _ => ⟨S2048x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_9 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_10 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_cst_11 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_cst_12 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_cst_13 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_cst_14 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_cst_15 : Ref sig .tc := ⟨.hbm, 109, rfl⟩
abbrev main_v88 : Ref sig .tc := ⟨.hbm, 110, rfl⟩
abbrev main_v89 : Ref sig .tc := ⟨.hbm, 111, rfl⟩
abbrev main_cst_16 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_cst_17 : Ref sig .tc := ⟨.hbm, 118, rfl⟩
abbrev main_v95 : Ref sig .tc := ⟨.hbm, 119, rfl⟩
abbrev main_v96 : Ref sig .tc := ⟨.hbm, 120, rfl⟩
abbrev main_cst_18 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩

abbrev nD : Nat := 1
abbrev τ : Topo := Topo.v7x

variable {F : FTy → Type} [FloatOps F]
-- ==== Ret.lean ====
abbrev S2048x2304 : Shape := ⟨2, ![2048, 2304]⟩
abbrev S4 : Shape := ⟨1, ![4]⟩
abbrev S256 : Shape := ⟨1, ![256]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x4x64 : Shape := ⟨4, ![1, 2048, 4, 64]⟩
abbrev S2048x256 : Shape := ⟨2, ![2048, 256]⟩
abbrev S4x64 : Shape := ⟨2, ![4, 64]⟩
abbrev S1x256 : Shape := ⟨2, ![1, 256]⟩
abbrev S16x256x256 : Shape := ⟨3, ![16, 256, 256]⟩
abbrev S128x256 : Shape := ⟨2, ![128, 256]⟩
abbrev S1x256x256 : Shape := ⟨3, ![1, 256, 256]⟩
abbrev S128x1 : Shape := ⟨2, ![128, 1]⟩
abbrev S256x256 : Shape := ⟨2, ![256, 256]⟩
abbrev S128x128 : Shape := ⟨2, ![128, 128]⟩
abbrev S1 : Shape := ⟨1, ![1]⟩
abbrev S1x1 : Shape := ⟨2, ![1, 1]⟩
abbrev S512x256 : Shape := ⟨2, ![512, 256]⟩
abbrev S512x128 : Shape := ⟨2, ![512, 128]⟩
abbrev S128 : Shape := ⟨1, ![128]⟩

abbrev nBuf : Space → Nat
  | .hbm => 41
  | .vmem => 41
  | .smem => 0
  | _ => 0

abbrev bufTy : (tb : Table) → Fin (tcTables nBuf tb) → BufTy
  | .hbm, ⟨0, _⟩ => ⟨S2048x2304, .f32⟩
  | .hbm, ⟨1, _⟩ => ⟨S4, .f32⟩
  | .hbm, ⟨2, _⟩ => ⟨S4, .f32⟩
  | .hbm, ⟨3, _⟩ => ⟨S256, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S2048, .f32⟩
  | .hbm, ⟨13, _⟩ => ⟨S2048x1, .f32⟩
  | .hbm, ⟨14, _⟩ => ⟨S1x32, .f32⟩
  | .hbm, ⟨15, _⟩ => ⟨S2048x32, .f32⟩
  | .hbm, ⟨16, _⟩ => ⟨S2048x32, .f32⟩
  | .hbm, ⟨17, _⟩ => ⟨S2048x32, .f32⟩
  | .hbm, ⟨18, _⟩ => ⟨S2048x32, .f32⟩
  | .hbm, ⟨19, _⟩ => ⟨S2048x32, .f32⟩
  | .hbm, ⟨20, _⟩ => ⟨S2048x64, .f32⟩
  | .hbm, ⟨21, _⟩ => ⟨S1x2048x1x64, .f32⟩
  | .hbm, ⟨22, _⟩ => ⟨S1x2048x4x64, .f32⟩
  | .hbm, ⟨23, _⟩ => ⟨S2048x256, .f32⟩
  | .hbm, ⟨24, _⟩ => ⟨S2048x32, .f32⟩
  | .hbm, ⟨25, _⟩ => ⟨S2048x64, .f32⟩
  | .hbm, ⟨26, _⟩ => ⟨S1x2048x1x64, .f32⟩
  | .hbm, ⟨27, _⟩ => ⟨S1x2048x4x64, .f32⟩
  | .hbm, ⟨28, _⟩ => ⟨S2048x256, .f32⟩
  | .hbm, ⟨29, _⟩ => ⟨S4x64, .f32⟩
  | .hbm, ⟨30, _⟩ => ⟨S256, .f32⟩
  | .hbm, ⟨31, _⟩ => ⟨S1x256, .f32⟩
  | .hbm, ⟨32, _⟩ => ⟨S4x64, .f32⟩
  | .hbm, ⟨33, _⟩ => ⟨S256, .f32⟩
  | .hbm, ⟨34, _⟩ => ⟨S1x256, .f32⟩
  | .hbm, ⟨35, _⟩ => ⟨S1x256, .f32⟩
  | .hbm, ⟨36, _⟩ => ⟨S16x256x256, .f32⟩
  | .hbm, ⟨37, _⟩ => ⟨S16x256x256, .f32⟩
  | .hbm, ⟨38, _⟩ => ⟨S16x256x256, .f32⟩
  | .hbm, ⟨39, _⟩ => ⟨S16x256x256, .f32⟩
  | .hbm, ⟨40, _⟩ => ⟨S2048x256, .bf16⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S1x256, .f32⟩
  | .local _ .vmem, ⟨9, _⟩ => ⟨S1x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S16x256x256, .f32⟩
  | .local _ .vmem, ⟨15, _⟩ => ⟨S16x256x256, .f32⟩
  | .local _ .vmem, ⟨16, _⟩ => ⟨S1x256, .f32⟩
  | .local _ .vmem, ⟨17, _⟩ => ⟨S1x256, .f32⟩
  | .local _ .vmem, ⟨18, _⟩ => ⟨S16x256x256, .f32⟩
  | .local _ .vmem, ⟨19, _⟩ => ⟨S16x256x256, .f32⟩
  | .local _ .vmem, ⟨20, _⟩ => ⟨S128x256, .f32⟩
  | .local _ .vmem, ⟨21, _⟩ => ⟨S128x256, .f32⟩
  | .local _ .vmem, ⟨22, _⟩ => ⟨S128x256, .f32⟩
  | .local _ .vmem, ⟨23, _⟩ => ⟨S128x256, .f32⟩
  | .local _ .vmem, ⟨24, _⟩ => ⟨S128x256, .f32⟩
  | .local _ .vmem, ⟨25, _⟩ => ⟨S128x256, .f32⟩
  | .local _ .vmem, ⟨26, _⟩ => ⟨S128x256, .f32⟩
  | .local _ .vmem, ⟨27, _⟩ => ⟨S128x256, .f32⟩
  | .local _ .vmem, ⟨28, _⟩ => ⟨S128x256, .f32⟩
  | .local _ .vmem, ⟨29, _⟩ => ⟨S128x256, .f32⟩
  | .local _ .vmem, ⟨30, _⟩ => ⟨S128x256, .f32⟩
  | .local _ .vmem, ⟨31, _⟩ => ⟨S128x256, .f32⟩
  | .local _ .vmem, ⟨32, _⟩ => ⟨S1x256x256, .f32⟩
  | .local _ .vmem, ⟨33, _⟩ => ⟨S1x256x256, .f32⟩
  | .local _ .vmem, ⟨34, _⟩ => ⟨S1x256x256, .f32⟩
  | .local _ .vmem, ⟨35, _⟩ => ⟨S1x256x256, .f32⟩
  | .local _ .vmem, ⟨36, _⟩ => ⟨S1x256, .f32⟩
  | .local _ .vmem, ⟨37, _⟩ => ⟨S1x256, .f32⟩
  | .local _ .vmem, ⟨38, _⟩ => ⟨S1x256, .f32⟩
  | .local _ .vmem, ⟨39, _⟩ => ⟨S128x256, .bf16⟩
  | .local _ .vmem, ⟨40, _⟩ => ⟨S128x256, .bf16⟩
  | _, _ => ⟨S2048x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30_0 : Ref sig .tc := ⟨.hbm, 36, rfl⟩
abbrev main_v30_1 : Ref sig .tc := ⟨.hbm, 37, rfl⟩
abbrev main_v31_0 : Ref sig .tc := ⟨.hbm, 38, rfl⟩
abbrev main_v31_1 : Ref sig .tc := ⟨.hbm, 39, rfl⟩
abbrev main_v32 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc2_stg5_0 : Ref sig .tc := ⟨.vmem, 30, rfl⟩
abbrev cc2_stg5_1 : Ref sig .tc := ⟨.vmem, 31, rfl⟩
abbrev cc2_stg6_0 : Ref sig .tc := ⟨.vmem, 32, rfl⟩
abbrev cc2_stg6_1 : Ref sig .tc := ⟨.vmem, 33, rfl⟩
abbrev cc2_stg7_0 : Ref sig .tc := ⟨.vmem, 34, rfl⟩
abbrev cc2_stg7_1 : Ref sig .tc := ⟨.vmem, 35, rfl⟩
abbrev cc2_stg8_0 : Ref sig .tc := ⟨.vmem, 36, rfl⟩
abbrev cc2_stg9_0 : Ref sig .tc := ⟨.vmem, 37, rfl⟩
abbrev cc2_stg10_0 : Ref sig .tc := ⟨.vmem, 38, rfl⟩
abbrev cc2_stg11_0 : Ref sig .tc := ⟨.vmem, 39, rfl⟩
abbrev cc2_stg11_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29
abbrev cc2_sem5_0 : DmaSem sig := 30
abbrev cc2_sem5_1 : DmaSem sig := 31
abbrev cc2_sem6_0 : DmaSem sig := 32
abbrev cc2_sem6_1 : DmaSem sig := 33
abbrev cc2_sem7_0 : DmaSem sig := 34
abbrev cc2_sem7_1 : DmaSem sig := 35
abbrev cc2_sem8_0 : DmaSem sig := 36
abbrev cc2_sem9_0 : DmaSem sig := 37
abbrev cc2_sem10_0 : DmaSem sig := 38
abbrev cc2_sem11_0 : DmaSem sig := 39
abbrev cc2_sem11_1 : DmaSem sig := 40

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := .none

abbrev stage1_0 : Fin 1 → Memref sig .tc .vmem S16x256x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S16x256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S16x256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S16x256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c1_i32 : BitVec 32 := 1#32
  let c0_i32 : BitVec 32 := 0#32
  ![arg0.toNat, c1_i32.toNat]

def cc2_transform_2 (i : grid2.Coords) : Fin 2 → Nat :=
  let arg0 : BitVec 32 := BitVec.ofNat 32 (i 0).val
  let c2_i32 : BitVec 32 := 2#32
  let c0_i32 : BitVec 32 := 0#32
  ![arg0.toNat, c2_i32.toNat]

def cc2_transform_3 (i : grid2.Coords) : Fin 2 → Nat :=
  let arg0 : BitVec 32 := BitVec.ofNat 32 (i 0).val
  let c3_i32 : BitVec 32 := 3#32
  let c0_i32 : BitVec 32 := 0#32
  ![arg0.toNat, c3_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S128x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S128x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S128x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S128x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x256x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x256x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .vmem S1x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x256 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x256 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S128x256 .bf16 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]
-- ==== RetRefIdeal.lean ====
abbrev S2048x2304 : Shape := ⟨2, ![2048, 2304]⟩
abbrev S4 : Shape := ⟨1, ![4]⟩
abbrev S256 : Shape := ⟨1, ![256]⟩
abbrev S2048x256 : Shape := ⟨2, ![2048, 256]⟩
abbrev S2048x4x64 : Shape := ⟨3, ![2048, 4, 64]⟩
abbrev S4x2048x64 : Shape := ⟨3, ![4, 2048, 64]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S4x2048x32 : Shape := ⟨3, ![4, 2048, 32]⟩
abbrev S1x2048x32 : Shape := ⟨3, ![1, 2048, 32]⟩
abbrev S4x16x128x64 : Shape := ⟨4, ![4, 16, 128, 64]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1 : Shape := ⟨2, ![4, 1]⟩
abbrev S1x128x128 : Shape := ⟨3, ![1, 128, 128]⟩
abbrev S4x1x1 : Shape := ⟨3, ![4, 1, 1]⟩
abbrev S4x128x128 : Shape := ⟨3, ![4, 128, 128]⟩
abbrev S4x16x128x128 : Shape := ⟨4, ![4, 16, 128, 128]⟩
abbrev S4x1x128x128 : Shape := ⟨4, ![4, 1, 128, 128]⟩
abbrev S4x128 : Shape := ⟨2, ![4, 128]⟩
abbrev S4x1x128x1 : Shape := ⟨4, ![4, 1, 128, 1]⟩
abbrev S16x4x64x64 : Shape := ⟨4, ![16, 4, 64, 64]⟩
abbrev S1x4x64x64 : Shape := ⟨4, ![1, 4, 64, 64]⟩
abbrev S4x64x64 : Shape := ⟨3, ![4, 64, 64]⟩
abbrev S15x4x64x64 : Shape := ⟨4, ![15, 4, 64, 64]⟩
abbrev S4x1x64 : Shape := ⟨3, ![4, 1, 64]⟩
abbrev S4x2048 : Shape := ⟨2, ![4, 2048]⟩
abbrev S4x2048x1 : Shape := ⟨3, ![4, 2048, 1]⟩

abbrev nBuf : Space → Nat
  | .hbm => 475
  | .vmem => 0
  | .smem => 0
  | _ => 0

abbrev hbmTy0_0 (i : Nat) : BufTy := match i % 128 with
  | 0 => ⟨S2048x2304, .f32⟩
  | 1 => ⟨S4, .f32⟩
  | 2 => ⟨S4, .f32⟩
  | 3 => ⟨S256, .f32⟩
  | 4 => ⟨S2048x256, .f32⟩
  | 5 => ⟨S2048x256, .f32⟩
  | 6 => ⟨S2048x256, .f32⟩
  | 7 => ⟨S2048x256, .f32⟩
  | 8 => ⟨S2048x4x64, .f32⟩
  | 9 => ⟨S4x2048x64, .f32⟩
  | 10 => ⟨S32, .f32⟩
  | 11 => ⟨S32, .f32⟩
  | 12 => ⟨S_, .f32⟩
  | 13 => ⟨S32, .f32⟩
  | 14 => ⟨S32, .f32⟩
  | 15 => ⟨S_, .f32⟩
  | 16 => ⟨S32, .f32⟩
  | 17 => ⟨S32, .f32⟩
  | 18 => ⟨S2048, .f32⟩
  | 19 => ⟨S2048x1, .f32⟩
  | 20 => ⟨S1x32, .f32⟩
  | 21 => ⟨S2048x32, .f32⟩
  | 22 => ⟨S2048x32, .f32⟩
  | 23 => ⟨S2048x32, .f32⟩
  | 24 => ⟨S2048x32, .f32⟩
  | 25 => ⟨S2048x32, .f32⟩
  | 26 => ⟨S4x2048x32, .f32⟩
  | 27 => ⟨S4x2048x32, .f32⟩
  | 28 => ⟨S1x2048x32, .f32⟩
  | 29 => ⟨S4x2048x32, .f32⟩
  | 30 => ⟨S4x2048x32, .f32⟩
  | 31 => ⟨S1x2048x32, .f32⟩
  | 32 => ⟨S4x2048x32, .f32⟩
  | 33 => ⟨S4x2048x32, .f32⟩
  | 34 => ⟨S4x2048x32, .f32⟩
  | 35 => ⟨S1x2048x32, .f32⟩
  | 36 => ⟨S4x2048x32, .f32⟩
  | 37 => ⟨S4x2048x32, .f32⟩
  | 38 => ⟨S1x2048x32, .f32⟩
  | 39 => ⟨S4x2048x32, .f32⟩
  | 40 => ⟨S4x2048x32, .f32⟩
  | 41 => ⟨S4x2048x32, .f32⟩
  | 42 => ⟨S4x2048x64, .f32⟩
  | 43 => ⟨S_, .f32⟩
  | 44 => ⟨S4x2048x64, .f32⟩
  | 45 => ⟨S4x2048x64, .f32⟩
  | 46 => ⟨S2048x4x64, .f32⟩
  | 47 => ⟨S4x2048x64, .f32⟩
  | 48 => ⟨S32, .f32⟩
  | 49 => ⟨S32, .f32⟩
  | 50 => ⟨S_, .f32⟩
  | 51 => ⟨S32, .f32⟩
  | 52 => ⟨S32, .f32⟩
  | 53 => ⟨S_, .f32⟩
  | 54 => ⟨S32, .f32⟩
  | 55 => ⟨S32, .f32⟩
  | 56 => ⟨S2048, .f32⟩
  | 57 => ⟨S2048x1, .f32⟩
  | 58 => ⟨S1x32, .f32⟩
  | 59 => ⟨S2048x32, .f32⟩
  | 60 => ⟨S2048x32, .f32⟩
  | 61 => ⟨S2048x32, .f32⟩
  | 62 => ⟨S2048x32, .f32⟩
  | 63 => ⟨S2048x32, .f32⟩
  | 64 => ⟨S4x2048x32, .f32⟩
  | 65 => ⟨S4x2048x32, .f32⟩
  | 66 => ⟨S1x2048x32, .f32⟩
  | 67 => ⟨S4x2048x32, .f32⟩
  | 68 => ⟨S4x2048x32, .f32⟩
  | 69 => ⟨S1x2048x32, .f32⟩
  | 70 => ⟨S4x2048x32, .f32⟩
  | 71 => ⟨S4x2048x32, .f32⟩
  | 72 => ⟨S4x2048x32, .f32⟩
  | 73 => ⟨S1x2048x32, .f32⟩
  | 74 => ⟨S4x2048x32, .f32⟩
  | 75 => ⟨S4x2048x32, .f32⟩
  | 76 => ⟨S1x2048x32, .f32⟩
  | 77 => ⟨S4x2048x32, .f32⟩
  | 78 => ⟨S4x2048x32, .f32⟩
  | 79 => ⟨S4x2048x32, .f32⟩
  | 80 => ⟨S4x2048x64, .f32⟩
  | 81 => ⟨S2048x4x64, .f32⟩
  | 82 => ⟨S4x2048x64, .f32⟩
  | 83 => ⟨S4, .f32⟩
  | 84 => ⟨S_, .f32⟩
  | 85 => ⟨S4, .f32⟩
  | 86 => ⟨S4, .f32⟩
  | 87 => ⟨S4, .f32⟩
  | 88 => ⟨S4, .f32⟩
  | 89 => ⟨S4, .i1⟩
  | 90 => ⟨S4, .f32⟩
  | 91 => ⟨S4, .f32⟩
  | 92 => ⟨S4, .f32⟩
  | 93 => ⟨S4, .f32⟩
  | 94 => ⟨S4, .f32⟩
  | 95 => ⟨S4, .f32⟩
  | 96 => ⟨S4, .f32⟩
  | 97 => ⟨S4, .f32⟩
  | 98 => ⟨S4, .f32⟩
  | 99 => ⟨S4x16x128x64, .f32⟩
  | 100 => ⟨S4x16x128x64, .f32⟩
  | 101 => ⟨S4x16x128x64, .f32⟩
  | 102 => ⟨S128, .f32⟩
  | 103 => ⟨S128x1, .f32⟩
  | 104 => ⟨S1x128, .f32⟩
  | 105 => ⟨S128x128, .f32⟩
  | 106 => ⟨S128x128, .f32⟩
  | 107 => ⟨S128x128, .f32⟩
  | 108 => ⟨S_, .f32⟩
  | 109 => ⟨S128x128, .f32⟩
  | 110 => ⟨S128x128, .i1⟩
  | 111 => ⟨S4x1, .f32⟩
  | 112 => ⟨S1x128x128, .i1⟩
  | 113 => ⟨S_, .f32⟩
  | 114 => ⟨S_, .f32⟩
  | 115 => ⟨S128x128, .f32⟩
  | 116 => ⟨S128x128, .f32⟩
  | 117 => ⟨S1x128x128, .f32⟩
  | 118 => ⟨S4x1x1, .f32⟩
  | 119 => ⟨S4x128x128, .f32⟩
  | 120 => ⟨S4x128x128, .f32⟩
  | 121 => ⟨S4x128x128, .f32⟩
  | 122 => ⟨S4x128x128, .f32⟩
  | 123 => ⟨S_, .f32⟩
  | 124 => ⟨S_, .f32⟩
  | 125 => ⟨S4x128x128, .i1⟩
  | 126 => ⟨S4x128x128, .f32⟩
  | 127 => ⟨S4x128x128, .f32⟩
  | _ => ⟨S2048x2304, .f32⟩

abbrev hbmTy0_1 (i : Nat) : BufTy := match i % 128 with
  | 0 => ⟨S4x16x128x128, .f32⟩
  | 1 => ⟨S4x1x128x128, .f32⟩
  | 2 => ⟨S4x16x128x128, .f32⟩
  | 3 => ⟨S4x16x128x128, .f32⟩
  | 4 => ⟨S4x16x128x64, .f32⟩
  | 5 => ⟨S_, .f32⟩
  | 6 => ⟨S128, .f32⟩
  | 7 => ⟨S128, .f32⟩
  | 8 => ⟨S1x128, .f32⟩
  | 9 => ⟨S4x128, .f32⟩
  | 10 => ⟨S4x128, .f32⟩
  | 11 => ⟨S4x128, .f32⟩
  | 12 => ⟨S4x128, .f32⟩
  | 13 => ⟨S4x1x128x1, .f32⟩
  | 14 => ⟨S4x16x128x64, .f32⟩
  | 15 => ⟨S4x16x128x64, .f32⟩
  | 16 => ⟨S16x4x64x64, .f32⟩
  | 17 => ⟨S4, .f32⟩
  | 18 => ⟨S_, .f32⟩
  | 19 => ⟨S4, .f32⟩
  | 20 => ⟨S4, .f32⟩
  | 21 => ⟨S4, .f32⟩
  | 22 => ⟨S4x1x1, .f32⟩
  | 23 => ⟨S1x4x64x64, .f32⟩
  | 24 => ⟨S4x64x64, .f32⟩
  | 25 => ⟨S_, .f32⟩
  | 26 => ⟨S4x64x64, .f32⟩
  | 27 => ⟨S15x4x64x64, .f32⟩
  | 28 => ⟨S1x4x64x64, .f32⟩
  | 29 => ⟨S4x64x64, .f32⟩
  | 30 => ⟨S1x4x64x64, .f32⟩
  | 31 => ⟨S4x64x64, .f32⟩
  | 32 => ⟨S1x4x64x64, .f32⟩
  | 33 => ⟨S4x64x64, .f32⟩
  | 34 => ⟨S1x4x64x64, .f32⟩
  | 35 => ⟨S4x64x64, .f32⟩
  | 36 => ⟨S1x4x64x64, .f32⟩
  | 37 => ⟨S4x64x64, .f32⟩
  | 38 => ⟨S1x4x64x64, .f32⟩
  | 39 => ⟨S4x64x64, .f32⟩
  | 40 => ⟨S1x4x64x64, .f32⟩
  | 41 => ⟨S4x64x64, .f32⟩
  | 42 => ⟨S1x4x64x64, .f32⟩
  | 43 => ⟨S4x64x64, .f32⟩
  | 44 => ⟨S1x4x64x64, .f32⟩
  | 45 => ⟨S4x64x64, .f32⟩
  | 46 => ⟨S1x4x64x64, .f32⟩
  | 47 => ⟨S4x64x64, .f32⟩
  | 48 => ⟨S1x4x64x64, .f32⟩
  | 49 => ⟨S4x64x64, .f32⟩
  | 50 => ⟨S1x4x64x64, .f32⟩
  | 51 => ⟨S4x64x64, .f32⟩
  | 52 => ⟨S1x4x64x64, .f32⟩
  | 53 => ⟨S4x64x64, .f32⟩
  | 54 => ⟨S1x4x64x64, .f32⟩
  | 55 => ⟨S4x64x64, .f32⟩
  | 56 => ⟨S1x4x64x64, .f32⟩
  | 57 => ⟨S4x64x64, .f32⟩
  | 58 => ⟨S4x64x64, .f32⟩
  | 59 => ⟨S4x64x64, .f32⟩
  | 60 => ⟨S4x64x64, .f32⟩
  | 61 => ⟨S4x64x64, .f32⟩
  | 62 => ⟨S4x64x64, .f32⟩
  | 63 => ⟨S4x64x64, .f32⟩
  | 64 => ⟨S4x64x64, .f32⟩
  | 65 => ⟨S4x64x64, .f32⟩
  | 66 => ⟨S4x64x64, .f32⟩
  | 67 => ⟨S4x64x64, .f32⟩
  | 68 => ⟨S4x64x64, .f32⟩
  | 69 => ⟨S4x64x64, .f32⟩
  | 70 => ⟨S4x64x64, .f32⟩
  | 71 => ⟨S4x64x64, .f32⟩
  | 72 => ⟨S4x64x64, .f32⟩
  | 73 => ⟨S4x64x64, .f32⟩
  | 74 => ⟨S4x64x64, .f32⟩
  | 75 => ⟨S4x64x64, .f32⟩
  | 76 => ⟨S4x64x64, .f32⟩
  | 77 => ⟨S4x64x64, .f32⟩
  | 78 => ⟨S4x64x64, .f32⟩
  | 79 => ⟨S4x64x64, .f32⟩
  | 80 => ⟨S4x64x64, .f32⟩
  | 81 => ⟨S4x64x64, .f32⟩
  | 82 => ⟨S4x64x64, .f32⟩
  | 83 => ⟨S4x64x64, .f32⟩
  | 84 => ⟨S4x64x64, .f32⟩
  | 85 => ⟨S4x64x64, .f32⟩
  | 86 => ⟨S4x64x64, .f32⟩
  | 87 => ⟨S4x64x64, .f32⟩
  | 88 => ⟨S4x64x64, .f32⟩
  | 89 => ⟨S4x64x64, .f32⟩
  | 90 => ⟨S4x64x64, .f32⟩
  | 91 => ⟨S4x64x64, .f32⟩
  | 92 => ⟨S4x64x64, .f32⟩
  | 93 => ⟨S4x64x64, .f32⟩
  | 94 => ⟨S4x64x64, .f32⟩
  | 95 => ⟨S4x64x64, .f32⟩
  | 96 => ⟨S4x64x64, .f32⟩
  | 97 => ⟨S4x64x64, .f32⟩
  | 98 => ⟨S4x64x64, .f32⟩
  | 99 => ⟨S4x64x64, .f32⟩
  | 100 => ⟨S4x64x64, .f32⟩
  | 101 => ⟨S4x64x64, .f32⟩
  | 102 => ⟨S4x64x64, .f32⟩
  | 103 => ⟨S_, .f32⟩
  | 104 => ⟨S128, .f32⟩
  | 105 => ⟨S128, .f32⟩
  | 106 => ⟨S1x128, .f32⟩
  | 107 => ⟨S4x128, .f32⟩
  | 108 => ⟨S4x128, .f32⟩
  | 109 => ⟨S4x128, .f32⟩
  | 110 => ⟨S4x128, .f32⟩
  | 111 => ⟨S4x1x128x1, .f32⟩
  | 112 => ⟨S4x16x128x64, .f32⟩
  | 113 => ⟨S4x16x128x64, .f32⟩
  | 114 => ⟨S1x4x64x64, .f32⟩
  | 115 => ⟨S1x4x64x64, .f32⟩
  | 116 => ⟨S1x4x64x64, .f32⟩
  | 117 => ⟨S1x4x64x64, .f32⟩
  | 118 => ⟨S1x4x64x64, .f32⟩
  | 119 => ⟨S1x4x64x64, .f32⟩
  | 120 => ⟨S1x4x64x64, .f32⟩
  | 121 => ⟨S1x4x64x64, .f32⟩
  | 122 => ⟨S1x4x64x64, .f32⟩
  | 123 => ⟨S1x4x64x64, .f32⟩
  | 124 => ⟨S1x4x64x64, .f32⟩
  | 125 => ⟨S1x4x64x64, .f32⟩
  | 126 => ⟨S1x4x64x64, .f32⟩
  | 127 => ⟨S1x4x64x64, .f32⟩
  | _ => ⟨S2048x2304, .f32⟩

abbrev hbmTy0_2 (i : Nat) : BufTy := match i % 128 with
  | 0 => ⟨S1x4x64x64, .f32⟩
  | 1 => ⟨S1x4x64x64, .f32⟩
  | 2 => ⟨S16x4x64x64, .f32⟩
  | 3 => ⟨S4x16x128x64, .f32⟩
  | 4 => ⟨S4x16x128x64, .f32⟩
  | 5 => ⟨S4x2048x64, .f32⟩
  | 6 => ⟨S4x2048x64, .f32⟩
  | 7 => ⟨S4x2048x64, .f32⟩
  | 8 => ⟨S4x2048x64, .f32⟩
  | 9 => ⟨S4, .f32⟩
  | 10 => ⟨S_, .f32⟩
  | 11 => ⟨S4, .f32⟩
  | 12 => ⟨S4, .f32⟩
  | 13 => ⟨S4, .f32⟩
  | 14 => ⟨S4, .f32⟩
  | 15 => ⟨S4, .i1⟩
  | 16 => ⟨S4, .f32⟩
  | 17 => ⟨S4, .f32⟩
  | 18 => ⟨S4, .f32⟩
  | 19 => ⟨S4, .f32⟩
  | 20 => ⟨S4, .f32⟩
  | 21 => ⟨S4, .f32⟩
  | 22 => ⟨S4, .f32⟩
  | 23 => ⟨S4, .f32⟩
  | 24 => ⟨S4, .f32⟩
  | 25 => ⟨S4x16x128x64, .f32⟩
  | 26 => ⟨S4x16x128x64, .f32⟩
  | 27 => ⟨S4x16x128x64, .f32⟩
  | 28 => ⟨S128, .f32⟩
  | 29 => ⟨S128x1, .f32⟩
  | 30 => ⟨S1x128, .f32⟩
  | 31 => ⟨S128x128, .f32⟩
  | 32 => ⟨S128x128, .f32⟩
  | 33 => ⟨S128x128, .f32⟩
  | 34 => ⟨S_, .f32⟩
  | 35 => ⟨S128x128, .f32⟩
  | 36 => ⟨S128x128, .i1⟩
  | 37 => ⟨S4x1, .f32⟩
  | 38 => ⟨S1x128x128, .i1⟩
  | 39 => ⟨S_, .f32⟩
  | 40 => ⟨S_, .f32⟩
  | 41 => ⟨S128x128, .f32⟩
  | 42 => ⟨S128x128, .f32⟩
  | 43 => ⟨S1x128x128, .f32⟩
  | 44 => ⟨S4x1x1, .f32⟩
  | 45 => ⟨S4x128x128, .f32⟩
  | 46 => ⟨S4x128x128, .f32⟩
  | 47 => ⟨S4x128x128, .f32⟩
  | 48 => ⟨S4x128x128, .f32⟩
  | 49 => ⟨S_, .f32⟩
  | 50 => ⟨S_, .f32⟩
  | 51 => ⟨S4x128x128, .i1⟩
  | 52 => ⟨S4x128x128, .f32⟩
  | 53 => ⟨S4x128x128, .f32⟩
  | 54 => ⟨S4x16x128x128, .f32⟩
  | 55 => ⟨S4x1x128x128, .f32⟩
  | 56 => ⟨S4x16x128x128, .f32⟩
  | 57 => ⟨S4x16x128x128, .f32⟩
  | 58 => ⟨S4x16x128x64, .f32⟩
  | 59 => ⟨S_, .f32⟩
  | 60 => ⟨S128, .f32⟩
  | 61 => ⟨S128, .f32⟩
  | 62 => ⟨S1x128, .f32⟩
  | 63 => ⟨S4x128, .f32⟩
  | 64 => ⟨S4x128, .f32⟩
  | 65 => ⟨S4x128, .f32⟩
  | 66 => ⟨S4x128, .f32⟩
  | 67 => ⟨S4x1x128x1, .f32⟩
  | 68 => ⟨S4x16x128x64, .f32⟩
  | 69 => ⟨S4x16x128x64, .f32⟩
  | 70 => ⟨S16x4x64x64, .f32⟩
  | 71 => ⟨S4, .f32⟩
  | 72 => ⟨S_, .f32⟩
  | 73 => ⟨S4, .f32⟩
  | 74 => ⟨S4, .f32⟩
  | 75 => ⟨S4, .f32⟩
  | 76 => ⟨S4x1x1, .f32⟩
  | 77 => ⟨S1x4x64x64, .f32⟩
  | 78 => ⟨S4x64x64, .f32⟩
  | 79 => ⟨S_, .f32⟩
  | 80 => ⟨S4x64x64, .f32⟩
  | 81 => ⟨S15x4x64x64, .f32⟩
  | 82 => ⟨S1x4x64x64, .f32⟩
  | 83 => ⟨S4x64x64, .f32⟩
  | 84 => ⟨S1x4x64x64, .f32⟩
  | 85 => ⟨S4x64x64, .f32⟩
  | 86 => ⟨S1x4x64x64, .f32⟩
  | 87 => ⟨S4x64x64, .f32⟩
  | 88 => ⟨S1x4x64x64, .f32⟩
  | 89 => ⟨S4x64x64, .f32⟩
  | 90 => ⟨S1x4x64x64, .f32⟩
  | 91 => ⟨S4x64x64, .f32⟩
  | 92 => ⟨S1x4x64x64, .f32⟩
  | 93 => ⟨S4x64x64, .f32⟩
  | 94 => ⟨S1x4x64x64, .f32⟩
  | 95 => ⟨S4x64x64, .f32⟩
  | 96 => ⟨S1x4x64x64, .f32⟩
  | 97 => ⟨S4x64x64, .f32⟩
  | 98 => ⟨S1x4x64x64, .f32⟩
  | 99 => ⟨S4x64x64, .f32⟩
  | 100 => ⟨S1x4x64x64, .f32⟩
  | 101 => ⟨S4x64x64, .f32⟩
  | 102 => ⟨S1x4x64x64, .f32⟩
  | 103 => ⟨S4x64x64, .f32⟩
  | 104 => ⟨S1x4x64x64, .f32⟩
  | 105 => ⟨S4x64x64, .f32⟩
  | 106 => ⟨S1x4x64x64, .f32⟩
  | 107 => ⟨S4x64x64, .f32⟩
  | 108 => ⟨S1x4x64x64, .f32⟩
  | 109 => ⟨S4x64x64, .f32⟩
  | 110 => ⟨S1x4x64x64, .f32⟩
  | 111 => ⟨S4x64x64, .f32⟩
  | 112 => ⟨S4x64x64, .f32⟩
  | 113 => ⟨S4x64x64, .f32⟩
  | 114 => ⟨S4x64x64, .f32⟩
  | 115 => ⟨S4x64x64, .f32⟩
  | 116 => ⟨S4x64x64, .f32⟩
  | 117 => ⟨S4x64x64, .f32⟩
  | 118 => ⟨S4x64x64, .f32⟩
  | 119 => ⟨S4x64x64, .f32⟩
  | 120 => ⟨S4x64x64, .f32⟩
  | 121 => ⟨S4x64x64, .f32⟩
  | 122 => ⟨S4x64x64, .f32⟩
  | 123 => ⟨S4x64x64, .f32⟩
  | 124 => ⟨S4x64x64, .f32⟩
  | 125 => ⟨S4x64x64, .f32⟩
  | 126 => ⟨S4x64x64, .f32⟩
  | 127 => ⟨S4x64x64, .f32⟩
  | _ => ⟨S2048x2304, .f32⟩

abbrev hbmTy0_3 (i : Nat) : BufTy := match i % 128 with
  | 0 => ⟨S4x64x64, .f32⟩
  | 1 => ⟨S4x64x64, .f32⟩
  | 2 => ⟨S4x64x64, .f32⟩
  | 3 => ⟨S4x64x64, .f32⟩
  | 4 => ⟨S4x64x64, .f32⟩
  | 5 => ⟨S4x64x64, .f32⟩
  | 6 => ⟨S4x64x64, .f32⟩
  | 7 => ⟨S4x64x64, .f32⟩
  | 8 => ⟨S4x64x64, .f32⟩
  | 9 => ⟨S4x64x64, .f32⟩
  | 10 => ⟨S4x64x64, .f32⟩
  | 11 => ⟨S4x64x64, .f32⟩
  | 12 => ⟨S4x64x64, .f32⟩
  | 13 => ⟨S4x64x64, .f32⟩
  | 14 => ⟨S4x64x64, .f32⟩
  | 15 => ⟨S4x64x64, .f32⟩
  | 16 => ⟨S4x64x64, .f32⟩
  | 17 => ⟨S4x64x64, .f32⟩
  | 18 => ⟨S4x64x64, .f32⟩
  | 19 => ⟨S4x64x64, .f32⟩
  | 20 => ⟨S4x64x64, .f32⟩
  | 21 => ⟨S4x64x64, .f32⟩
  | 22 => ⟨S4x64x64, .f32⟩
  | 23 => ⟨S4x64x64, .f32⟩
  | 24 => ⟨S4x64x64, .f32⟩
  | 25 => ⟨S4x64x64, .f32⟩
  | 26 => ⟨S4x64x64, .f32⟩
  | 27 => ⟨S4x64x64, .f32⟩
  | 28 => ⟨S4x64x64, .f32⟩
  | 29 => ⟨S_, .f32⟩
  | 30 => ⟨S128, .f32⟩
  | 31 => ⟨S128, .f32⟩
  | 32 => ⟨S1x128, .f32⟩
  | 33 => ⟨S4x128, .f32⟩
  | 34 => ⟨S4x128, .f32⟩
  | 35 => ⟨S4x128, .f32⟩
  | 36 => ⟨S4x128, .f32⟩
  | 37 => ⟨S4x1x128x1, .f32⟩
  | 38 => ⟨S4x16x128x64, .f32⟩
  | 39 => ⟨S4x16x128x64, .f32⟩
  | 40 => ⟨S1x4x64x64, .f32⟩
  | 41 => ⟨S1x4x64x64, .f32⟩
  | 42 => ⟨S1x4x64x64, .f32⟩
  | 43 => ⟨S1x4x64x64, .f32⟩
  | 44 => ⟨S1x4x64x64, .f32⟩
  | 45 => ⟨S1x4x64x64, .f32⟩
  | 46 => ⟨S1x4x64x64, .f32⟩
  | 47 => ⟨S1x4x64x64, .f32⟩
  | 48 => ⟨S1x4x64x64, .f32⟩
  | 49 => ⟨S1x4x64x64, .f32⟩
  | 50 => ⟨S1x4x64x64, .f32⟩
  | 51 => ⟨S1x4x64x64, .f32⟩
  | 52 => ⟨S1x4x64x64, .f32⟩
  | 53 => ⟨S1x4x64x64, .f32⟩
  | 54 => ⟨S1x4x64x64, .f32⟩
  | 55 => ⟨S1x4x64x64, .f32⟩
  | 56 => ⟨S16x4x64x64, .f32⟩
  | 57 => ⟨S4x16x128x64, .f32⟩
  | 58 => ⟨S4x16x128x64, .f32⟩
  | 59 => ⟨S4x2048x64, .f32⟩
  | 60 => ⟨S4x2048x64, .f32⟩
  | 61 => ⟨S4x2048x64, .f32⟩
  | 62 => ⟨S4x1x64, .f32⟩
  | 63 => ⟨S4x2048x64, .f32⟩
  | 64 => ⟨S_, .f32⟩
  | 65 => ⟨S4x2048, .f32⟩
  | 66 => ⟨S4x2048x1, .f32⟩
  | 67 => ⟨S_, .f32⟩
  | 68 => ⟨S4x2048x1, .f32⟩
  | 69 => ⟨S4x2048x1, .f32⟩
  | 70 => ⟨S_, .f32⟩
  | 71 => ⟨S4x2048x1, .f32⟩
  | 72 => ⟨S4x2048x1, .f32⟩
  | 73 => ⟨S4x2048x1, .f32⟩
  | 74 => ⟨S4x2048x64, .f32⟩
  | 75 => ⟨S4x2048x64, .f32⟩
  | 76 => ⟨S4x2048x64, .f32⟩
  | 77 => ⟨S4x2048x64, .f32⟩
  | 78 => ⟨S2048x4x64, .f32⟩
  | 79 => ⟨S2048x256, .f32⟩
  | 80 => ⟨S2048x256, .f32⟩
  | 81 => ⟨S2048x256, .f32⟩
  | 82 => ⟨S_, .f32⟩
  | 83 => ⟨S2048x256, .f32⟩
  | 84 => ⟨S2048x256, .f32⟩
  | 85 => ⟨S_, .f32⟩
  | 86 => ⟨S2048x256, .f32⟩
  | 87 => ⟨S2048x256, .f32⟩
  | 88 => ⟨S2048x256, .f32⟩
  | 89 => ⟨S2048x256, .f32⟩
  | 90 => ⟨S2048x256, .bf16⟩
  | _ => ⟨S2048x2304, .f32⟩

abbrev hbmTy (i : Nat) : BufTy := match i / 128 with
  | 0 => hbmTy0_0 i
  | 1 => hbmTy0_1 i
  | 2 => hbmTy0_2 i
  | 3 => hbmTy0_3 i
  | _ => ⟨S2048x2304, .f32⟩

abbrev bufTy : (tb : Table) → Fin (tcTables nBuf tb) → BufTy
  | .hbm, ⟨i, _⟩ => hbmTy i
  | _, _ => ⟨S2048x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_1 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_cst_2 : Ref sig .tc := ⟨.hbm, 50, rfl⟩
abbrev main_v43 : Ref sig .tc := ⟨.hbm, 51, rfl⟩
abbrev main_v44 : Ref sig .tc := ⟨.hbm, 52, rfl⟩
abbrev main_cst_3 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_call0_v0 : Ref sig .tc := ⟨.hbm, 83, rfl⟩
abbrev main_call0_call0_cst : Ref sig .tc := ⟨.hbm, 84, rfl⟩
abbrev main_call0_call0_v0 : Ref sig .tc := ⟨.hbm, 85, rfl⟩
abbrev main_call0_call0_v1 : Ref sig .tc := ⟨.hbm, 86, rfl⟩
abbrev main_call0_call0_v2 : Ref sig .tc := ⟨.hbm, 87, rfl⟩
abbrev main_call0_call0_v3 : Ref sig .tc := ⟨.hbm, 88, rfl⟩
abbrev main_call0_call0_v4 : Ref sig .tc := ⟨.hbm, 89, rfl⟩
abbrev main_call0_call0_v5 : Ref sig .tc := ⟨.hbm, 90, rfl⟩
abbrev main_call0_call0_v6 : Ref sig .tc := ⟨.hbm, 91, rfl⟩
abbrev main_call0_call0_v7 : Ref sig .tc := ⟨.hbm, 92, rfl⟩
abbrev main_call0_call0_v8 : Ref sig .tc := ⟨.hbm, 93, rfl⟩
abbrev main_call0_call0_v9 : Ref sig .tc := ⟨.hbm, 94, rfl⟩
abbrev main_call0_call0_v10 : Ref sig .tc := ⟨.hbm, 95, rfl⟩
abbrev main_call0_call0_v11 : Ref sig .tc := ⟨.hbm, 96, rfl⟩
abbrev main_call0_v1 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_4 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_cst_5 : Ref sig .tc := ⟨.hbm, 113, rfl⟩
abbrev main_call1_v0 : Ref sig .tc := ⟨.hbm, 114, rfl⟩
abbrev main_call1_v1 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_6 : Ref sig .tc := ⟨.hbm, 123, rfl⟩
abbrev main_call2_v0 : Ref sig .tc := ⟨.hbm, 124, rfl⟩
abbrev main_call2_v1 : Ref sig .tc := ⟨.hbm, 125, rfl⟩
abbrev main_call2_v2 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_cst_7 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_cst_8 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_cst_9 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩
abbrev main_v186 : Ref sig .tc := ⟨.hbm, 221, rfl⟩
abbrev main_v187 : Ref sig .tc := ⟨.hbm, 222, rfl⟩
abbrev main_v188 : Ref sig .tc := ⟨.hbm, 223, rfl⟩
abbrev main_v189 : Ref sig .tc := ⟨.hbm, 224, rfl⟩
abbrev main_v190 : Ref sig .tc := ⟨.hbm, 225, rfl⟩
abbrev main_v191 : Ref sig .tc := ⟨.hbm, 226, rfl⟩
abbrev main_v192 : Ref sig .tc := ⟨.hbm, 227, rfl⟩
abbrev main_v193 : Ref sig .tc := ⟨.hbm, 228, rfl⟩
abbrev main_v194 : Ref sig .tc := ⟨.hbm, 229, rfl⟩
abbrev main_v195 : Ref sig .tc := ⟨.hbm, 230, rfl⟩
abbrev main_cst_10 : Ref sig .tc := ⟨.hbm, 231, rfl⟩
abbrev main_v196 : Ref sig .tc := ⟨.hbm, 232, rfl⟩
abbrev main_v197 : Ref sig .tc := ⟨.hbm, 233, rfl⟩
abbrev main_v198 : Ref sig .tc := ⟨.hbm, 234, rfl⟩
abbrev main_v199 : Ref sig .tc := ⟨.hbm, 235, rfl⟩
abbrev main_v200 : Ref sig .tc := ⟨.hbm, 236, rfl⟩
abbrev main_v201 : Ref sig .tc := ⟨.hbm, 237, rfl⟩
abbrev main_v202 : Ref sig .tc := ⟨.hbm, 238, rfl⟩
abbrev main_v203 : Ref sig .tc := ⟨.hbm, 239, rfl⟩
abbrev main_v204 : Ref sig .tc := ⟨.hbm, 240, rfl⟩
abbrev main_v205 : Ref sig .tc := ⟨.hbm, 241, rfl⟩
abbrev main_v206 : Ref sig .tc := ⟨.hbm, 242, rfl⟩
abbrev main_v207 : Ref sig .tc := ⟨.hbm, 243, rfl⟩
abbrev main_v208 : Ref sig .tc := ⟨.hbm, 244, rfl⟩
abbrev main_v209 : Ref sig .tc := ⟨.hbm, 245, rfl⟩
abbrev main_v210 : Ref sig .tc := ⟨.hbm, 246, rfl⟩
abbrev main_v211 : Ref sig .tc := ⟨.hbm, 247, rfl⟩
abbrev main_v212 : Ref sig .tc := ⟨.hbm, 248, rfl⟩
abbrev main_v213 : Ref sig .tc := ⟨.hbm, 249, rfl⟩
abbrev main_v214 : Ref sig .tc := ⟨.hbm, 250, rfl⟩
abbrev main_v215 : Ref sig .tc := ⟨.hbm, 251, rfl⟩
abbrev main_v216 : Ref sig .tc := ⟨.hbm, 252, rfl⟩
abbrev main_v217 : Ref sig .tc := ⟨.hbm, 253, rfl⟩
abbrev main_v218 : Ref sig .tc := ⟨.hbm, 254, rfl⟩
abbrev main_v219 : Ref sig .tc := ⟨.hbm, 255, rfl⟩
abbrev main_v220 : Ref sig .tc := ⟨.hbm, 256, rfl⟩
abbrev main_v221 : Ref sig .tc := ⟨.hbm, 257, rfl⟩
abbrev main_v222 : Ref sig .tc := ⟨.hbm, 258, rfl⟩
abbrev main_v223 : Ref sig .tc := ⟨.hbm, 259, rfl⟩
abbrev main_v224 : Ref sig .tc := ⟨.hbm, 260, rfl⟩
abbrev main_v225 : Ref sig .tc := ⟨.hbm, 261, rfl⟩
abbrev main_v226 : Ref sig .tc := ⟨.hbm, 262, rfl⟩
abbrev main_v227 : Ref sig .tc := ⟨.hbm, 263, rfl⟩
abbrev main_v228 : Ref sig .tc := ⟨.hbm, 264, rfl⟩
abbrev main_call6_v0 : Ref sig .tc := ⟨.hbm, 265, rfl⟩
abbrev main_call6_call0_cst : Ref sig .tc := ⟨.hbm, 266, rfl⟩
abbrev main_call6_call0_v0 : Ref sig .tc := ⟨.hbm, 267, rfl⟩
abbrev main_call6_call0_v1 : Ref sig .tc := ⟨.hbm, 268, rfl⟩
abbrev main_call6_call0_v2 : Ref sig .tc := ⟨.hbm, 269, rfl⟩
abbrev main_call6_call0_v3 : Ref sig .tc := ⟨.hbm, 270, rfl⟩
abbrev main_call6_call0_v4 : Ref sig .tc := ⟨.hbm, 271, rfl⟩
abbrev main_call6_call0_v5 : Ref sig .tc := ⟨.hbm, 272, rfl⟩
abbrev main_call6_call0_v6 : Ref sig .tc := ⟨.hbm, 273, rfl⟩
abbrev main_call6_call0_v7 : Ref sig .tc := ⟨.hbm, 274, rfl⟩
abbrev main_call6_call0_v8 : Ref sig .tc := ⟨.hbm, 275, rfl⟩
abbrev main_call6_call0_v9 : Ref sig .tc := ⟨.hbm, 276, rfl⟩
abbrev main_call6_call0_v10 : Ref sig .tc := ⟨.hbm, 277, rfl⟩
abbrev main_call6_call0_v11 : Ref sig .tc := ⟨.hbm, 278, rfl⟩
abbrev main_call6_v1 : Ref sig .tc := ⟨.hbm, 279, rfl⟩
abbrev main_v229 : Ref sig .tc := ⟨.hbm, 280, rfl⟩
abbrev main_v230 : Ref sig .tc := ⟨.hbm, 281, rfl⟩
abbrev main_v231 : Ref sig .tc := ⟨.hbm, 282, rfl⟩
abbrev main_v232 : Ref sig .tc := ⟨.hbm, 283, rfl⟩
abbrev main_v233 : Ref sig .tc := ⟨.hbm, 284, rfl⟩
abbrev main_v234 : Ref sig .tc := ⟨.hbm, 285, rfl⟩
abbrev main_v235 : Ref sig .tc := ⟨.hbm, 286, rfl⟩
abbrev main_v236 : Ref sig .tc := ⟨.hbm, 287, rfl⟩
abbrev main_v237 : Ref sig .tc := ⟨.hbm, 288, rfl⟩
abbrev main_v238 : Ref sig .tc := ⟨.hbm, 289, rfl⟩
abbrev main_cst_11 : Ref sig .tc := ⟨.hbm, 290, rfl⟩
abbrev main_v239 : Ref sig .tc := ⟨.hbm, 291, rfl⟩
abbrev main_v240 : Ref sig .tc := ⟨.hbm, 292, rfl⟩
abbrev main_v241 : Ref sig .tc := ⟨.hbm, 293, rfl⟩
abbrev main_v242 : Ref sig .tc := ⟨.hbm, 294, rfl⟩
abbrev main_cst_12 : Ref sig .tc := ⟨.hbm, 295, rfl⟩
abbrev main_call7_v0 : Ref sig .tc := ⟨.hbm, 296, rfl⟩
abbrev main_call7_v1 : Ref sig .tc := ⟨.hbm, 297, rfl⟩
abbrev main_v243 : Ref sig .tc := ⟨.hbm, 298, rfl⟩
abbrev main_v244 : Ref sig .tc := ⟨.hbm, 299, rfl⟩
abbrev main_v245 : Ref sig .tc := ⟨.hbm, 300, rfl⟩
abbrev main_v246 : Ref sig .tc := ⟨.hbm, 301, rfl⟩
abbrev main_v247 : Ref sig .tc := ⟨.hbm, 302, rfl⟩
abbrev main_v248 : Ref sig .tc := ⟨.hbm, 303, rfl⟩
abbrev main_v249 : Ref sig .tc := ⟨.hbm, 304, rfl⟩
abbrev main_cst_13 : Ref sig .tc := ⟨.hbm, 305, rfl⟩
abbrev main_call8_v0 : Ref sig .tc := ⟨.hbm, 306, rfl⟩
abbrev main_call8_v1 : Ref sig .tc := ⟨.hbm, 307, rfl⟩
abbrev main_call8_v2 : Ref sig .tc := ⟨.hbm, 308, rfl⟩
abbrev main_v250 : Ref sig .tc := ⟨.hbm, 309, rfl⟩
abbrev main_v251 : Ref sig .tc := ⟨.hbm, 310, rfl⟩
abbrev main_v252 : Ref sig .tc := ⟨.hbm, 311, rfl⟩
abbrev main_v253 : Ref sig .tc := ⟨.hbm, 312, rfl⟩
abbrev main_v254 : Ref sig .tc := ⟨.hbm, 313, rfl⟩
abbrev main_v255 : Ref sig .tc := ⟨.hbm, 314, rfl⟩
abbrev main_cst_14 : Ref sig .tc := ⟨.hbm, 315, rfl⟩
abbrev main_v256 : Ref sig .tc := ⟨.hbm, 316, rfl⟩
abbrev main_v257 : Ref sig .tc := ⟨.hbm, 317, rfl⟩
abbrev main_v258 : Ref sig .tc := ⟨.hbm, 318, rfl⟩
abbrev main_v259 : Ref sig .tc := ⟨.hbm, 319, rfl⟩
abbrev main_v260 : Ref sig .tc := ⟨.hbm, 320, rfl⟩
abbrev main_v261 : Ref sig .tc := ⟨.hbm, 321, rfl⟩
abbrev main_v262 : Ref sig .tc := ⟨.hbm, 322, rfl⟩
abbrev main_v263 : Ref sig .tc := ⟨.hbm, 323, rfl⟩
abbrev main_v264 : Ref sig .tc := ⟨.hbm, 324, rfl⟩
abbrev main_v265 : Ref sig .tc := ⟨.hbm, 325, rfl⟩
abbrev main_v266 : Ref sig .tc := ⟨.hbm, 326, rfl⟩
abbrev main_v267 : Ref sig .tc := ⟨.hbm, 327, rfl⟩
abbrev main_cst_15 : Ref sig .tc := ⟨.hbm, 328, rfl⟩
abbrev main_v268 : Ref sig .tc := ⟨.hbm, 329, rfl⟩
abbrev main_v269 : Ref sig .tc := ⟨.hbm, 330, rfl⟩
abbrev main_v270 : Ref sig .tc := ⟨.hbm, 331, rfl⟩
abbrev main_v271 : Ref sig .tc := ⟨.hbm, 332, rfl⟩
abbrev main_v272 : Ref sig .tc := ⟨.hbm, 333, rfl⟩
abbrev main_v273 : Ref sig .tc := ⟨.hbm, 334, rfl⟩
abbrev main_cst_16 : Ref sig .tc := ⟨.hbm, 335, rfl⟩
abbrev main_v274 : Ref sig .tc := ⟨.hbm, 336, rfl⟩
abbrev main_v275 : Ref sig .tc := ⟨.hbm, 337, rfl⟩
abbrev main_v276 : Ref sig .tc := ⟨.hbm, 338, rfl⟩
abbrev main_v277 : Ref sig .tc := ⟨.hbm, 339, rfl⟩
abbrev main_v278 : Ref sig .tc := ⟨.hbm, 340, rfl⟩
abbrev main_v279 : Ref sig .tc := ⟨.hbm, 341, rfl⟩
abbrev main_v280 : Ref sig .tc := ⟨.hbm, 342, rfl⟩
abbrev main_v281 : Ref sig .tc := ⟨.hbm, 343, rfl⟩
abbrev main_v282 : Ref sig .tc := ⟨.hbm, 344, rfl⟩
abbrev main_v283 : Ref sig .tc := ⟨.hbm, 345, rfl⟩
abbrev main_v284 : Ref sig .tc := ⟨.hbm, 346, rfl⟩
abbrev main_v285 : Ref sig .tc := ⟨.hbm, 347, rfl⟩
abbrev main_v286 : Ref sig .tc := ⟨.hbm, 348, rfl⟩
abbrev main_v287 : Ref sig .tc := ⟨.hbm, 349, rfl⟩
abbrev main_v288 : Ref sig .tc := ⟨.hbm, 350, rfl⟩
abbrev main_v289 : Ref sig .tc := ⟨.hbm, 351, rfl⟩
abbrev main_v290 : Ref sig .tc := ⟨.hbm, 352, rfl⟩
abbrev main_v291 : Ref sig .tc := ⟨.hbm, 353, rfl⟩
abbrev main_v292 : Ref sig .tc := ⟨.hbm, 354, rfl⟩
abbrev main_v293 : Ref sig .tc := ⟨.hbm, 355, rfl⟩
abbrev main_v294 : Ref sig .tc := ⟨.hbm, 356, rfl⟩
abbrev main_v295 : Ref sig .tc := ⟨.hbm, 357, rfl⟩
abbrev main_v296 : Ref sig .tc := ⟨.hbm, 358, rfl⟩
abbrev main_v297 : Ref sig .tc := ⟨.hbm, 359, rfl⟩
abbrev main_v298 : Ref sig .tc := ⟨.hbm, 360, rfl⟩
abbrev main_v299 : Ref sig .tc := ⟨.hbm, 361, rfl⟩
abbrev main_v300 : Ref sig .tc := ⟨.hbm, 362, rfl⟩
abbrev main_v301 : Ref sig .tc := ⟨.hbm, 363, rfl⟩
abbrev main_v302 : Ref sig .tc := ⟨.hbm, 364, rfl⟩
abbrev main_v303 : Ref sig .tc := ⟨.hbm, 365, rfl⟩
abbrev main_v304 : Ref sig .tc := ⟨.hbm, 366, rfl⟩
abbrev main_v305 : Ref sig .tc := ⟨.hbm, 367, rfl⟩
abbrev main_v306 : Ref sig .tc := ⟨.hbm, 368, rfl⟩
abbrev main_v307 : Ref sig .tc := ⟨.hbm, 369, rfl⟩
abbrev main_v308 : Ref sig .tc := ⟨.hbm, 370, rfl⟩
abbrev main_v309 : Ref sig .tc := ⟨.hbm, 371, rfl⟩
abbrev main_v310 : Ref sig .tc := ⟨.hbm, 372, rfl⟩
abbrev main_v311 : Ref sig .tc := ⟨.hbm, 373, rfl⟩
abbrev main_v312 : Ref sig .tc := ⟨.hbm, 374, rfl⟩
abbrev main_v313 : Ref sig .tc := ⟨.hbm, 375, rfl⟩
abbrev main_v314 : Ref sig .tc := ⟨.hbm, 376, rfl⟩
abbrev main_v315 : Ref sig .tc := ⟨.hbm, 377, rfl⟩
abbrev main_v316 : Ref sig .tc := ⟨.hbm, 378, rfl⟩
abbrev main_v317 : Ref sig .tc := ⟨.hbm, 379, rfl⟩
abbrev main_v318 : Ref sig .tc := ⟨.hbm, 380, rfl⟩
abbrev main_v319 : Ref sig .tc := ⟨.hbm, 381, rfl⟩
abbrev main_v320 : Ref sig .tc := ⟨.hbm, 382, rfl⟩
abbrev main_v321 : Ref sig .tc := ⟨.hbm, 383, rfl⟩
abbrev main_v322 : Ref sig .tc := ⟨.hbm, 384, rfl⟩
abbrev main_v323 : Ref sig .tc := ⟨.hbm, 385, rfl⟩
abbrev main_v324 : Ref sig .tc := ⟨.hbm, 386, rfl⟩
abbrev main_v325 : Ref sig .tc := ⟨.hbm, 387, rfl⟩
abbrev main_v326 : Ref sig .tc := ⟨.hbm, 388, rfl⟩
abbrev main_v327 : Ref sig .tc := ⟨.hbm, 389, rfl⟩
abbrev main_v328 : Ref sig .tc := ⟨.hbm, 390, rfl⟩
abbrev main_v329 : Ref sig .tc := ⟨.hbm, 391, rfl⟩
abbrev main_v330 : Ref sig .tc := ⟨.hbm, 392, rfl⟩
abbrev main_v331 : Ref sig .tc := ⟨.hbm, 393, rfl⟩
abbrev main_v332 : Ref sig .tc := ⟨.hbm, 394, rfl⟩
abbrev main_v333 : Ref sig .tc := ⟨.hbm, 395, rfl⟩
abbrev main_v334 : Ref sig .tc := ⟨.hbm, 396, rfl⟩
abbrev main_v335 : Ref sig .tc := ⟨.hbm, 397, rfl⟩
abbrev main_v336 : Ref sig .tc := ⟨.hbm, 398, rfl⟩
abbrev main_v337 : Ref sig .tc := ⟨.hbm, 399, rfl⟩
abbrev main_v338 : Ref sig .tc := ⟨.hbm, 400, rfl⟩
abbrev main_v339 : Ref sig .tc := ⟨.hbm, 401, rfl⟩
abbrev main_v340 : Ref sig .tc := ⟨.hbm, 402, rfl⟩
abbrev main_v341 : Ref sig .tc := ⟨.hbm, 403, rfl⟩
abbrev main_v342 : Ref sig .tc := ⟨.hbm, 404, rfl⟩
abbrev main_v343 : Ref sig .tc := ⟨.hbm, 405, rfl⟩
abbrev main_v344 : Ref sig .tc := ⟨.hbm, 406, rfl⟩
abbrev main_v345 : Ref sig .tc := ⟨.hbm, 407, rfl⟩
abbrev main_v346 : Ref sig .tc := ⟨.hbm, 408, rfl⟩
abbrev main_v347 : Ref sig .tc := ⟨.hbm, 409, rfl⟩
abbrev main_v348 : Ref sig .tc := ⟨.hbm, 410, rfl⟩
abbrev main_v349 : Ref sig .tc := ⟨.hbm, 411, rfl⟩
abbrev main_v350 : Ref sig .tc := ⟨.hbm, 412, rfl⟩
abbrev main_cst_17 : Ref sig .tc := ⟨.hbm, 413, rfl⟩
abbrev main_v351 : Ref sig .tc := ⟨.hbm, 414, rfl⟩
abbrev main_v352 : Ref sig .tc := ⟨.hbm, 415, rfl⟩
abbrev main_v353 : Ref sig .tc := ⟨.hbm, 416, rfl⟩
abbrev main_v354 : Ref sig .tc := ⟨.hbm, 417, rfl⟩
abbrev main_v355 : Ref sig .tc := ⟨.hbm, 418, rfl⟩
abbrev main_v356 : Ref sig .tc := ⟨.hbm, 419, rfl⟩
abbrev main_v357 : Ref sig .tc := ⟨.hbm, 420, rfl⟩
abbrev main_v358 : Ref sig .tc := ⟨.hbm, 421, rfl⟩
abbrev main_v359 : Ref sig .tc := ⟨.hbm, 422, rfl⟩
abbrev main_v360 : Ref sig .tc := ⟨.hbm, 423, rfl⟩
abbrev main_v361 : Ref sig .tc := ⟨.hbm, 424, rfl⟩
abbrev main_v362 : Ref sig .tc := ⟨.hbm, 425, rfl⟩
abbrev main_v363 : Ref sig .tc := ⟨.hbm, 426, rfl⟩
abbrev main_v364 : Ref sig .tc := ⟨.hbm, 427, rfl⟩
abbrev main_v365 : Ref sig .tc := ⟨.hbm, 428, rfl⟩
abbrev main_v366 : Ref sig .tc := ⟨.hbm, 429, rfl⟩
abbrev main_v367 : Ref sig .tc := ⟨.hbm, 430, rfl⟩
abbrev main_v368 : Ref sig .tc := ⟨.hbm, 431, rfl⟩
abbrev main_v369 : Ref sig .tc := ⟨.hbm, 432, rfl⟩
abbrev main_v370 : Ref sig .tc := ⟨.hbm, 433, rfl⟩
abbrev main_v371 : Ref sig .tc := ⟨.hbm, 434, rfl⟩
abbrev main_v372 : Ref sig .tc := ⟨.hbm, 435, rfl⟩
abbrev main_v373 : Ref sig .tc := ⟨.hbm, 436, rfl⟩
abbrev main_v374 : Ref sig .tc := ⟨.hbm, 437, rfl⟩
abbrev main_v375 : Ref sig .tc := ⟨.hbm, 438, rfl⟩
abbrev main_v376 : Ref sig .tc := ⟨.hbm, 439, rfl⟩
abbrev main_v377 : Ref sig .tc := ⟨.hbm, 440, rfl⟩
abbrev main_v378 : Ref sig .tc := ⟨.hbm, 441, rfl⟩
abbrev main_v379 : Ref sig .tc := ⟨.hbm, 442, rfl⟩
abbrev main_v380 : Ref sig .tc := ⟨.hbm, 443, rfl⟩
abbrev main_v381 : Ref sig .tc := ⟨.hbm, 444, rfl⟩
abbrev main_v382 : Ref sig .tc := ⟨.hbm, 445, rfl⟩
abbrev main_v383 : Ref sig .tc := ⟨.hbm, 446, rfl⟩
abbrev main_v384 : Ref sig .tc := ⟨.hbm, 447, rfl⟩
abbrev main_cst_18 : Ref sig .tc := ⟨.hbm, 448, rfl⟩
abbrev main_v385 : Ref sig .tc := ⟨.hbm, 449, rfl⟩
abbrev main_v386 : Ref sig .tc := ⟨.hbm, 450, rfl⟩
abbrev main_cst_19 : Ref sig .tc := ⟨.hbm, 451, rfl⟩
abbrev main_v387 : Ref sig .tc := ⟨.hbm, 452, rfl⟩
abbrev main_v388 : Ref sig .tc := ⟨.hbm, 453, rfl⟩
abbrev main_cst_20 : Ref sig .tc := ⟨.hbm, 454, rfl⟩
abbrev main_v389 : Ref sig .tc := ⟨.hbm, 455, rfl⟩
abbrev main_v390 : Ref sig .tc := ⟨.hbm, 456, rfl⟩
abbrev main_v391 : Ref sig .tc := ⟨.hbm, 457, rfl⟩
abbrev main_v392 : Ref sig .tc := ⟨.hbm, 458, rfl⟩
abbrev main_v393 : Ref sig .tc := ⟨.hbm, 459, rfl⟩
abbrev main_v394 : Ref sig .tc := ⟨.hbm, 460, rfl⟩
abbrev main_v395 : Ref sig .tc := ⟨.hbm, 461, rfl⟩
abbrev main_v396 : Ref sig .tc := ⟨.hbm, 462, rfl⟩
abbrev main_v397 : Ref sig .tc := ⟨.hbm, 463, rfl⟩
abbrev main_call10_v0 : Ref sig .tc := ⟨.hbm, 464, rfl⟩
abbrev main_call10_v1 : Ref sig .tc := ⟨.hbm, 465, rfl⟩
abbrev main_call10_cst : Ref sig .tc := ⟨.hbm, 466, rfl⟩
abbrev main_call10_v2 : Ref sig .tc := ⟨.hbm, 467, rfl⟩
abbrev main_call10_v3 : Ref sig .tc := ⟨.hbm, 468, rfl⟩
abbrev main_call10_cst_0 : Ref sig .tc := ⟨.hbm, 469, rfl⟩
abbrev main_call10_v4 : Ref sig .tc := ⟨.hbm, 470, rfl⟩
abbrev main_call10_v5 : Ref sig .tc := ⟨.hbm, 471, rfl⟩
abbrev main_v398 : Ref sig .tc := ⟨.hbm, 472, rfl⟩
abbrev main_v399 : Ref sig .tc := ⟨.hbm, 473, rfl⟩
abbrev main_v400 : Ref sig .tc := ⟨.hbm, 474, rfl⟩

abbrev nD : Nat := 1
abbrev τ : Topo := Topo.v7x

variable {F : FTy → Type} [FloatOps F]
-- ==== MemProj.lean ====
abbrev S256x1024 : Shape := ⟨2, ![256, 1024]⟩
abbrev S1x1024 : Shape := ⟨2, ![1, 1024]⟩
abbrev S4x256x512 : Shape := ⟨3, ![4, 256, 512]⟩
abbrev S256x512 : Shape := ⟨2, ![256, 512]⟩
abbrev S1x1x1024x512 : Shape := ⟨4, ![1, 1, 1024, 512]⟩
abbrev S256 : Shape := ⟨1, ![256]⟩
abbrev S256x1 : Shape := ⟨2, ![256, 1]⟩
abbrev S1024x512 : Shape := ⟨2, ![1024, 512]⟩
abbrev S1x1024x512 : Shape := ⟨3, ![1, 1024, 512]⟩
abbrev S1024 : Shape := ⟨1, ![1024]⟩

abbrev nBuf : Space → Nat
  | .hbm => 11
  | .vmem => 17
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S4x256x512, .bf16⟩
  | .hbm, ⟨3, _⟩ => ⟨S256x512, .f32⟩
  | .hbm, ⟨4, _⟩ => ⟨S1x1x1024x512, .bf16⟩
  | .hbm, ⟨5, _⟩ => ⟨S256x1024, .bf16⟩
  | .hbm, ⟨6, _⟩ => ⟨S256x512, .f32⟩
  | .hbm, ⟨7, _⟩ => ⟨S1x1024x512, .f32⟩
  | .hbm, ⟨8, _⟩ => ⟨S256x1024, .f32⟩
  | .hbm, ⟨9, _⟩ => ⟨S256x1024, .f32⟩
  | .hbm, ⟨10, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | .local _ .vmem, ⟨3, _⟩ => ⟨S256x1024, .bf16⟩
  | .local _ .vmem, ⟨4, _⟩ => ⟨S1x1x1024x512, .bf16⟩
  | .local _ .vmem, ⟨5, _⟩ => ⟨S256x512, .f32⟩
  | .local _ .vmem, ⟨6, _⟩ => ⟨S256x1024, .bf16⟩
  | .local _ .vmem, ⟨7, _⟩ => ⟨S256x512, .f32⟩
  | .local _ .vmem, ⟨8, _⟩ => ⟨S1x1024x512, .f32⟩
  | .local _ .vmem, ⟨9, _⟩ => ⟨S256x512, .f32⟩
  | .local _ .vmem, ⟨10, _⟩ => ⟨S1x1x1024x512, .bf16⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | .local _ .vmem, ⟨16, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg2_0 : Ref sig .tc := ⟨.vmem, 8, rfl⟩
abbrev cc3_stg0_0 : Ref sig .tc := ⟨.vmem, 9, rfl⟩
abbrev cc3_stg1_0 : Ref sig .tc := ⟨.vmem, 10, rfl⟩
abbrev cc3_stg2_0 : Ref sig .tc := ⟨.vmem, 11, rfl⟩
abbrev cc4_stg0_0 : Ref sig .tc := ⟨.vmem, 12, rfl⟩
abbrev cc4_stg1_0 : Ref sig .tc := ⟨.vmem, 13, rfl⟩
abbrev cc4_stg2_0 : Ref sig .tc := ⟨.vmem, 14, rfl⟩
abbrev cc4_stg3_0 : Ref sig .tc := ⟨.vmem, 15, rfl⟩
abbrev cc4_stg4_0 : Ref sig .tc := ⟨.vmem, 16, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc2_sem0_0 : DmaSem sig := 6
abbrev cc2_sem1_0 : DmaSem sig := 7
abbrev cc2_sem2_0 : DmaSem sig := 8
abbrev cc3_sem0_0 : DmaSem sig := 9
abbrev cc3_sem1_0 : DmaSem sig := 10
abbrev cc3_sem2_0 : DmaSem sig := 11
abbrev cc4_sem0_0 : DmaSem sig := 12
abbrev cc4_sem1_0 : DmaSem sig := 13
abbrev cc4_sem2_0 : DmaSem sig := 14
abbrev cc4_sem3_0 : DmaSem sig := 15
abbrev cc4_sem4_0 : DmaSem sig := 16

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev grid1 : Pipeline.Grid := ⟨4, ![1, 1, 1, 1], ![false, false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat, arg3.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

abbrev stage1_0 : Fin 1 → Memref sig .tc .vmem S256x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, false, true]

abbrev stage1_1 : Fin 1 → Memref sig .tc .vmem S1x1x1024x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true, true]

abbrev stage1_2 : Fin 1 → Memref sig .tc .vmem S256x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true, true, false]

abbrev grid2 : Pipeline.Grid := ⟨4, ![1, 1, 1, 1], ![false, false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![arg3.toNat, v1.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage2_0 : Fin 1 → Memref sig .tc .vmem S256x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, true, false, true]

abbrev stage2_1 : Fin 1 → Memref sig .tc .vmem S256x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false, true, true]

abbrev stage2_2 : Fin 1 → Memref sig .tc .vmem S1x1024x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, true, true, false]

abbrev grid3 : Pipeline.Grid := ⟨4, ![1, 1, 1, 1], ![false, false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg2 c1_i32
  let v1 : BitVec 32 := Scalar.addi v0 arg3
  let c0_i32 : BitVec 32 := 0#32
  ![arg0.toNat, v1.toNat]

def cc3_transform_1 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg2.toNat, arg1.toNat, arg3.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage3_0 : Fin 1 → Memref sig .tc .vmem S256x512 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true, true]

abbrev stage3_1 : Fin 1 → Memref sig .tc .vmem S1x1x1024x512 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true, true]

abbrev stage3_2 : Fin 1 → Memref sig .tc .vmem S256x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, true, false, false]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S256x1024 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S1x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S256x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true]

abbrev stage4_3 : Fin 1 → Memref sig .tc .vmem S256x1024 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![true]

abbrev stage4_4 : Fin 1 → Memref sig .tc .vmem S1x1024 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]
-- ==== MemProjRefIdeal.lean ====
abbrev S256x1024 : Shape := ⟨2, ![256, 1024]⟩
abbrev S1x1024 : Shape := ⟨2, ![1, 1024]⟩
abbrev S4x256x512 : Shape := ⟨3, ![4, 256, 512]⟩
abbrev S256x512 : Shape := ⟨2, ![256, 512]⟩
abbrev S1024x512 : Shape := ⟨2, ![1024, 512]⟩
abbrev S_ : Shape := ⟨0, ![]⟩
abbrev S256 : Shape := ⟨1, ![256]⟩
abbrev S256x1 : Shape := ⟨2, ![256, 1]⟩
abbrev S512x1024 : Shape := ⟨2, ![512, 1024]⟩
abbrev S1024 : Shape := ⟨1, ![1024]⟩
abbrev S1x1024x512 : Shape := ⟨3, ![1, 1024, 512]⟩

abbrev nBuf : Space → Nat
  | .hbm => 30
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S4x256x512, .bf16⟩
  | .hbm, ⟨3, _⟩ => ⟨S256x512, .f32⟩
  | .hbm, ⟨4, _⟩ => ⟨S4x256x512, .f32⟩
  | .hbm, ⟨5, _⟩ => ⟨S1024x512, .f32⟩
  | .hbm, ⟨6, _⟩ => ⟨S256x1024, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S256x512, .f32⟩
  | .hbm, ⟨22, _⟩ => ⟨S512x1024, .f32⟩
  | .hbm, ⟨23, _⟩ => ⟨S1024x512, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S1x1024x512, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== RmsFfn.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RmsFfnRefIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x1024, .f32⟩
  | .hbm, ⟨34, _⟩ => ⟨S2048x1024, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Loss.lean ====
abbrev S2048x1024 : Shape := ⟨2, ![2048, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1, .f32⟩
  | .hbm, ⟨3, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1, .f32⟩
  | .local _ .vmem, ⟨5, _⟩ => ⟨S512x1024, .f32⟩
  | .local _ .vmem, ⟨6, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossRefIdeal.lean ====
abbrev S2048x1024 : Shape := ⟨2, ![2048, 1024]⟩
abbrev S_ : Shape := ⟨0, ![]⟩
abbrev S2048 : Shape := ⟨1, ![2048]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x1024, .f32⟩
  | .hbm, ⟨24, _⟩ => ⟨S2048x1024, .f32⟩
  | .hbm, ⟨25, _⟩ => ⟨S1x1, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Small.lean ====
abbrev S8x744x128 : Shape := ⟨3, ![8, 744, 128]⟩
abbrev S744x128 : Shape := ⟨2, ![744, 128]⟩
abbrev S1x744x128 : Shape := ⟨3, ![1, 744, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x744x128, .f32⟩
  | .hbm, ⟨1, _⟩ => ⟨S744x128, .f32⟩
  | .hbm, ⟨2, _⟩ => ⟨S744x128, .f32⟩
  | .hbm, ⟨3, _⟩ => ⟨S744x128, .f32⟩
  | .hbm, ⟨4, _⟩ => ⟨S744x128, .f32⟩
  | .hbm, ⟨5, _⟩ => ⟨S744x128, .f32⟩
  | .hbm, ⟨6, _⟩ => ⟨S744x128, .f32⟩
  | .hbm, ⟨7, _⟩ => ⟨S744x128, .f32⟩
  | .local _ .vmem, ⟨0, _⟩ => ⟨S8x744x128, .f32⟩
  | .local _ .vmem, ⟨1, _⟩ => ⟨S744x128, .f32⟩
  | .local _ .vmem, ⟨2, _⟩ => ⟨S744x128, .f32⟩
  | .local _ .vmem, ⟨3, _⟩ => ⟨S744x128, .f32⟩
  | .local _ .vmem, ⟨4, _⟩ => ⟨S744x128, .f32⟩
  | .local _ .vmem, ⟨5, _⟩ => ⟨S744x128, .f32⟩
  | .local _ .vmem, ⟨6, _⟩ => ⟨S744x128, .f32⟩
  | .local _ .vmem, ⟨7, _⟩ => ⟨S744x128, .f32⟩
  | _, _ => ⟨S8x744x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x744x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S744x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S744x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S744x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S744x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S744x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S744x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S744x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== SmallRefIdeal.lean ====
abbrev S8x744x128 : Shape := ⟨3, ![8, 744, 128]⟩
abbrev S744x128 : Shape := ⟨2, ![744, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x744x128, .f32⟩
  | .hbm, ⟨1, _⟩ => ⟨S744x128, .f32⟩
  | .hbm, ⟨2, _⟩ => ⟨S744x128, .f32⟩
  | .hbm, ⟨3, _⟩ => ⟨S744x128, .f32⟩
  | .hbm, ⟨4, _⟩ => ⟨S_, .f32⟩
  | .hbm, ⟨5, _⟩ => ⟨S744x128, .f32⟩
  | .hbm, ⟨6, _⟩ => ⟨S_, .f32⟩
  | .hbm, ⟨7, _⟩ => ⟨S744x128, .f32⟩
  | .hbm, ⟨8, _⟩ => ⟨S744x128, .f32⟩
  | .hbm, ⟨9, _⟩ => ⟨S_, .f32⟩
  | .hbm, ⟨10, _⟩ => ⟨S744x128, .f32⟩
  | .hbm, ⟨11, _⟩ => ⟨S744x128, .f32⟩
  | .hbm, ⟨12, _⟩ => ⟨S744x128, .f32⟩
  | .hbm, ⟨13, _⟩ => ⟨S_, .f32⟩
  | .hbm, ⟨14, _⟩ => ⟨S744x128, .f32⟩
  | .hbm, ⟨15, _⟩ => ⟨S744x128, .f32⟩
  | .hbm, ⟨16, _⟩ => ⟨S744x128, .f32⟩
  | .hbm, ⟨17, _⟩ => ⟨S_, .f32⟩
  | .hbm, ⟨18, _⟩ => ⟨S744x128, .f32⟩
  | .hbm, ⟨19, _⟩ => ⟨S744x128, .f32⟩
  | .hbm, ⟨20, _⟩ => ⟨S744x128, .f32⟩
  | .hbm, ⟨21, _⟩ => ⟨S_, .f32⟩
  | .hbm, ⟨22, _⟩ => ⟨S744x128, .f32⟩
  | .hbm, ⟨23, _⟩ => ⟨S744x128, .f32⟩
  | .hbm, ⟨24, _⟩ => ⟨S_, .f32⟩
  | .hbm, ⟨25, _⟩ => ⟨S744x128, .f32⟩
  | .hbm, ⟨26, _⟩ => ⟨S744x128, .f32⟩
  | .hbm, ⟨27, _⟩ => ⟨S744x128, .f32⟩
  | .hbm, ⟨28, _⟩ => ⟨S_, .f32⟩
  | .hbm, ⟨29, _⟩ => ⟨S744x128, .f32⟩
  | .hbm, ⟨30, _⟩ => ⟨S744x128, .f32⟩
  | .hbm, ⟨31, _⟩ => ⟨S744x128, .f32⟩
  | .hbm, ⟨32, _⟩ => ⟨S_, .f32⟩
  | .hbm, ⟨33, _⟩ => ⟨S744x128, .f32⟩
  | .hbm, ⟨34, _⟩ => ⟨S744x128, .f32⟩
  | .hbm, ⟨35, _⟩ => ⟨S744x128, .f32⟩
  | .hbm, ⟨36, _⟩ => ⟨S_, .f32⟩
  | .hbm, ⟨37, _⟩ => ⟨S744x128, .f32⟩
  | .hbm, ⟨38, _⟩ => ⟨S744x128, .f32⟩
  | _, _ => ⟨S8x744x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamFfnIn.lean ====
abbrev S1x1024x1408 : Shape := ⟨3, ![1, 1024, 1408]⟩
abbrev S1024x1408 : Shape := ⟨2, ![1024, 1408]⟩
abbrev S1x512x1408 : Shape := ⟨3, ![1, 512, 1408]⟩
abbrev S512x1408 : Shape := ⟨2, ![512, 1408]⟩

abbrev nBuf : Space → Nat
  | .hbm => 12
  | .vmem => 16
  | .smem => 0
  | _ => 0

abbrev bufTy : (tb : Table) → Fin (tcTables nBuf tb) → BufTy
  | .hbm, ⟨0, _⟩ => ⟨S1x1024x1408, .f32⟩
  | .hbm, ⟨1, _⟩ => ⟨S1024x1408, .f32⟩
  | .hbm, ⟨2, _⟩ => ⟨S1x1024x1408, .f32⟩
  | .hbm, ⟨3, _⟩ => ⟨S1x1024x1408, .f32⟩
  | .hbm, ⟨4, _⟩ => ⟨S1x1024x1408, .f32⟩
  | .hbm, ⟨5, _⟩ => ⟨S1x1024x1408, .f32⟩
  | .hbm, ⟨6, _⟩ => ⟨S1x1024x1408, .f32⟩
  | .hbm, ⟨7, _⟩ => ⟨S1x1024x1408, .f32⟩
  | .hbm, ⟨8, _⟩ => ⟨S1x1024x1408, .f32⟩
  | .hbm, ⟨9, _⟩ => ⟨S1x1024x1408, .f32⟩
  | .hbm, ⟨10, _⟩ => ⟨S1x1024x1408, .f32⟩
  | .hbm, ⟨11, _⟩ => ⟨S1x1024x1408, .f32⟩
  | .local _ .vmem, ⟨0, _⟩ => ⟨S1x512x1408, .f32⟩
  | .local _ .vmem, ⟨1, _⟩ => ⟨S1x512x1408, .f32⟩
  | .local _ .vmem, ⟨2, _⟩ => ⟨S512x1408, .f32⟩
  | .local _ .vmem, ⟨3, _⟩ => ⟨S512x1408, .f32⟩
  | .local _ .vmem, ⟨4, _⟩ => ⟨S1x512x1408, .f32⟩
  | .local _ .vmem, ⟨5, _⟩ => ⟨S1x512x1408, .f32⟩
  | .local _ .vmem, ⟨6, _⟩ => ⟨S1x512x1408, .f32⟩
  | .local _ .vmem, ⟨7, _⟩ => ⟨S1x512x1408, .f32⟩
  | .local _ .vmem, ⟨8, _⟩ => ⟨S1x512x1408, .f32⟩
  | .local _ .vmem, ⟨9, _⟩ => ⟨S1x512x1408, .f32⟩
  | .local _ .vmem, ⟨10, _⟩ => ⟨S1x512x1408, .f32⟩
  | .local _ .vmem, ⟨11, _⟩ => ⟨S1x512x1408, .f32⟩
  | .local _ .vmem, ⟨12, _⟩ => ⟨S1x512x1408, .f32⟩
  | .local _ .vmem, ⟨13, _⟩ => ⟨S1x512x1408, .f32⟩
  | .local _ .vmem, ⟨14, _⟩ => ⟨S1x512x1408, .f32⟩
  | .local _ .vmem, ⟨15, _⟩ => ⟨S1x512x1408, .f32⟩
  | _, _ => ⟨S1x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFfnInIdeal.lean ====
abbrev S1x1024x1408 : Shape := ⟨3, ![1, 1024, 1408]⟩
abbrev S1024x1408 : Shape := ⟨2, ![1024, 1408]⟩
abbrev S1x512x1408 : Shape := ⟨3, ![1, 512, 1408]⟩
abbrev S512x1408 : Shape := ⟨2, ![512, 1408]⟩

abbrev nBuf : Space → Nat
  | .hbm => 12
  | .vmem => 16
  | .smem => 0
  | _ => 0

abbrev bufTy : (tb : Table) → Fin (tcTables nBuf tb) → BufTy
  | .hbm, ⟨0, _⟩ => ⟨S1x1024x1408, .f32⟩
  | .hbm, ⟨1, _⟩ => ⟨S1024x1408, .f32⟩
  | .hbm, ⟨2, _⟩ => ⟨S1x1024x1408, .f32⟩
  | .hbm, ⟨3, _⟩ => ⟨S1x1024x1408, .f32⟩
  | .hbm, ⟨4, _⟩ => ⟨S1x1024x1408, .f32⟩
  | .hbm, ⟨5, _⟩ => ⟨S1x1024x1408, .f32⟩
  | .hbm, ⟨6, _⟩ => ⟨S1x1024x1408, .f32⟩
  | .hbm, ⟨7, _⟩ => ⟨S1x1024x1408, .f32⟩
  | .hbm, ⟨8, _⟩ => ⟨S1x1024x1408, .f32⟩
  | .hbm, ⟨9, _⟩ => ⟨S1x1024x1408, .f32⟩
  | .hbm, ⟨10, _⟩ => ⟨S1x1024x1408, .f32⟩
  | .hbm, ⟨11, _⟩ => ⟨S1x1024x1408, .f32⟩
  | .local _ .vmem, ⟨0, _⟩ => ⟨S1x512x1408, .f32⟩
  | .local _ .vmem, ⟨1, _⟩ => ⟨S1x512x1408, .f32⟩
  | .local _ .vmem, ⟨2, _⟩ => ⟨S512x1408, .f32⟩
  | .local _ .vmem, ⟨3, _⟩ => ⟨S512x1408, .f32⟩
  | .local _ .vmem, ⟨4, _⟩ => ⟨S1x512x1408, .f32⟩
  | .local _ .vmem, ⟨5, _⟩ => ⟨S1x512x1408, .f32⟩
  | .local _ .vmem, ⟨6, _⟩ => ⟨S1x512x1408, .f32⟩
  | .local _ .vmem, ⟨7, _⟩ => ⟨S1x512x1408, .f32⟩
  | .local _ .vmem, ⟨8, _⟩ => ⟨S1x512x1408, .f32⟩
  | .local _ .vmem, ⟨9, _⟩ => ⟨S1x512x1408, .f32⟩
  | .local _ .vmem, ⟨10, _⟩ => ⟨S1x512x1408, .f32⟩
  | .local _ .vmem, ⟨11, _⟩ => ⟨S1x512x1408, .f32⟩
  | .local _ .vmem, ⟨12, _⟩ => ⟨S1x512x1408, .f32⟩
  | .local _ .vmem, ⟨13, _⟩ => ⟨S1x512x1408, .f32⟩
  | .local _ .vmem, ⟨14, _⟩ => ⟨S1x512x1408, .f32⟩
  | .local _ .vmem, ⟨15, _⟩ => ⟨S1x512x1408, .f32⟩
  | _, _ => ⟨S1x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFfnInRefIdeal.lean ====
abbrev S1x1024x1408 : Shape := ⟨3, ![1, 1024, 1408]⟩
abbrev S1024x1408 : Shape := ⟨2, ![1024, 1408]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S1x1024x1408, .f32⟩
  | .hbm, ⟨1, _⟩ => ⟨S1024x1408, .f32⟩
  | .hbm, ⟨2, _⟩ => ⟨S1x1024x1408, .f32⟩
  | .hbm, ⟨3, _⟩ => ⟨S1x1024x1408, .f32⟩
  | .hbm, ⟨4, _⟩ => ⟨S1x1024x1408, .f32⟩
  | .hbm, ⟨5, _⟩ => ⟨S1x1024x1408, .f32⟩
  | .hbm, ⟨6, _⟩ => ⟨S1x1024x1408, .f32⟩
  | .hbm, ⟨7, _⟩ => ⟨S1x1024x1408, .f32⟩
  | .hbm, ⟨8, _⟩ => ⟨S1x1024x1408, .f32⟩
  | .hbm, ⟨9, _⟩ => ⟨S1x1024x1408, .f32⟩
  | .hbm, ⟨10, _⟩ => ⟨S_, .f32⟩
  | .hbm, ⟨11, _⟩ => ⟨S1x1024x1408, .f32⟩
  | .hbm, ⟨12, _⟩ => ⟨S1x1024x1408, .f32⟩
  | .hbm, ⟨13, _⟩ => ⟨S_, .f32⟩
  | .hbm, ⟨14, _⟩ => ⟨S1x1024x1408, .f32⟩
  | .hbm, ⟨15, _⟩ => ⟨S1x1024x1408, .f32⟩
  | .hbm, ⟨16, _⟩ => ⟨S1x1024x1408, .f32⟩
  | .hbm, ⟨17, _⟩ => ⟨S_, .f32⟩
  | .hbm, ⟨18, _⟩ => ⟨S1x1024x1408, .f32⟩
  | .hbm, ⟨19, _⟩ => ⟨S1x1024x1408, .f32⟩
  | .hbm, ⟨20, _⟩ => ⟨S1x1024x1408, .f32⟩
  | .hbm, ⟨21, _⟩ => ⟨S_, .f32⟩
  | .hbm, ⟨22, _⟩ => ⟨S1x1024x1408, .f32⟩
  | .hbm, ⟨23, _⟩ => ⟨S1x1024x1408, .f32⟩
  | .hbm, ⟨24, _⟩ => ⟨S1x1024x1408, .f32⟩
  | .hbm, ⟨25, _⟩ => ⟨S_, .f32⟩
  | .hbm, ⟨26, _⟩ => ⟨S1x1024x1408, .f32⟩
  | .hbm, ⟨27, _⟩ => ⟨S1x1024x1408, .f32⟩
  | .hbm, ⟨28, _⟩ => ⟨S_, .f32⟩
  | .hbm, ⟨29, _⟩ => ⟨S1x1024x1408, .f32⟩
  | .hbm, ⟨30, _⟩ => ⟨S1x1024x1408, .f32⟩
  | .hbm, ⟨31, _⟩ => ⟨S1x1024x1408, .f32⟩
  | .hbm, ⟨32, _⟩ => ⟨S_, .f32⟩
  | .hbm, ⟨33, _⟩ => ⟨S1x1024x1408, .f32⟩
  | .hbm, ⟨34, _⟩ => ⟨S1x1024x1408, .f32⟩
  | .hbm, ⟨35, _⟩ => ⟨S1x1024x1408, .f32⟩
  | .hbm, ⟨36, _⟩ => ⟨S_, .f32⟩
  | .hbm, ⟨37, _⟩ => ⟨S1x1024x1408, .f32⟩
  | .hbm, ⟨38, _⟩ => ⟨S1x1024x1408, .f32⟩
  | .hbm, ⟨39, _⟩ => ⟨S1x1024x1408, .f32⟩
  | .hbm, ⟨40, _⟩ => ⟨S_, .f32⟩
  | .hbm, ⟨41, _⟩ => ⟨S1x1024x1408, .f32⟩
  | .hbm, ⟨42, _⟩ => ⟨S1x1024x1408, .f32⟩
  | _, _ => ⟨S1x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩

abbrev nD : Nat := 1
abbrev τ : Topo := Topo.v7x

variable {F : FTy → Type} [FloatOps F]
-- ==== AdamIn.lean ====
abbrev S1x576x1024 : Shape := ⟨3, ![1, 576, 1024]⟩
abbrev S576x1024 : Shape := ⟨2, ![576, 1024]⟩
abbrev S1x64x1024 : Shape := ⟨3, ![1, 64, 1024]⟩
abbrev S64x1024 : Shape := ⟨2, ![64, 1024]⟩

abbrev nBuf : Space → Nat
  | .hbm => 12
  | .vmem => 16
  | .smem => 0
  | _ => 0

abbrev bufTy : (tb : Table) → Fin (tcTables nBuf tb) → BufTy
  | .hbm, ⟨0, _⟩ => ⟨S1x576x1024, .f32⟩
  | .hbm, ⟨1, _⟩ => ⟨S576x1024, .f32⟩
  | .hbm, ⟨2, _⟩ => ⟨S1x576x1024, .f32⟩
  | .hbm, ⟨3, _⟩ => ⟨S1x576x1024, .f32⟩
  | .hbm, ⟨4, _⟩ => ⟨S1x576x1024, .f32⟩
  | .hbm, ⟨5, _⟩ => ⟨S1x576x1024, .f32⟩
  | .hbm, ⟨6, _⟩ => ⟨S1x576x1024, .f32⟩
  | .hbm, ⟨7, _⟩ => ⟨S1x576x1024, .f32⟩
  | .hbm, ⟨8, _⟩ => ⟨S1x576x1024, .f32⟩
  | .hbm, ⟨9, _⟩ => ⟨S1x576x1024, .f32⟩
  | .hbm, ⟨10, _⟩ => ⟨S1x576x1024, .f32⟩
  | .hbm, ⟨11, _⟩ => ⟨S1x576x1024, .f32⟩
  | .local _ .vmem, ⟨0, _⟩ => ⟨S1x64x1024, .f32⟩
  | .local _ .vmem, ⟨1, _⟩ => ⟨S1x64x1024, .f32⟩
  | .local _ .vmem, ⟨2, _⟩ => ⟨S64x1024, .f32⟩
  | .local _ .vmem, ⟨3, _⟩ => ⟨S64x1024, .f32⟩
  | .local _ .vmem, ⟨4, _⟩ => ⟨S1x64x1024, .f32⟩
  | .local _ .vmem, ⟨5, _⟩ => ⟨S1x64x1024, .f32⟩
  | .local _ .vmem, ⟨6, _⟩ => ⟨S1x64x1024, .f32⟩
  | .local _ .vmem, ⟨7, _⟩ => ⟨S1x64x1024, .f32⟩
  | .local _ .vmem, ⟨8, _⟩ => ⟨S1x64x1024, .f32⟩
  | .local _ .vmem, ⟨9, _⟩ => ⟨S1x64x1024, .f32⟩
  | .local _ .vmem, ⟨10, _⟩ => ⟨S1x64x1024, .f32⟩
  | .local _ .vmem, ⟨11, _⟩ => ⟨S1x64x1024, .f32⟩
  | .local _ .vmem, ⟨12, _⟩ => ⟨S1x64x1024, .f32⟩
  | .local _ .vmem, ⟨13, _⟩ => ⟨S1x64x1024, .f32⟩
  | .local _ .vmem, ⟨14, _⟩ => ⟨S1x64x1024, .f32⟩
  | .local _ .vmem, ⟨15, _⟩ => ⟨S1x64x1024, .f32⟩
  | _, _ => ⟨S1x576x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![9], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInIdeal.lean ====
abbrev S1x576x1024 : Shape := ⟨3, ![1, 576, 1024]⟩
abbrev S576x1024 : Shape := ⟨2, ![576, 1024]⟩
abbrev S1x64x1024 : Shape := ⟨3, ![1, 64, 1024]⟩
abbrev S64x1024 : Shape := ⟨2, ![64, 1024]⟩

abbrev nBuf : Space → Nat
  | .hbm => 12
  | .vmem => 16
  | .smem => 0
  | _ => 0

abbrev bufTy : (tb : Table) → Fin (tcTables nBuf tb) → BufTy
  | .hbm, ⟨0, _⟩ => ⟨S1x576x1024, .f32⟩
  | .hbm, ⟨1, _⟩ => ⟨S576x1024, .f32⟩
  | .hbm, ⟨2, _⟩ => ⟨S1x576x1024, .f32⟩
  | .hbm, ⟨3, _⟩ => ⟨S1x576x1024, .f32⟩
  | .hbm, ⟨4, _⟩ => ⟨S1x576x1024, .f32⟩
  | .hbm, ⟨5, _⟩ => ⟨S1x576x1024, .f32⟩
  | .hbm, ⟨6, _⟩ => ⟨S1x576x1024, .f32⟩
  | .hbm, ⟨7, _⟩ => ⟨S1x576x1024, .f32⟩
  | .hbm, ⟨8, _⟩ => ⟨S1x576x1024, .f32⟩
  | .hbm, ⟨9, _⟩ => ⟨S1x576x1024, .f32⟩
  | .hbm, ⟨10, _⟩ => ⟨S1x576x1024, .f32⟩
  | .hbm, ⟨11, _⟩ => ⟨S1x576x1024, .f32⟩
  | .local _ .vmem, ⟨0, _⟩ => ⟨S1x64x1024, .f32⟩
  | .local _ .vmem, ⟨1, _⟩ => ⟨S1x64x1024, .f32⟩
  | .local _ .vmem, ⟨2, _⟩ => ⟨S64x1024, .f32⟩
  | .local _ .vmem, ⟨3, _⟩ => ⟨S64x1024, .f32⟩
  | .local _ .vmem, ⟨4, _⟩ => ⟨S1x64x1024, .f32⟩
  | .local _ .vmem, ⟨5, _⟩ => ⟨S1x64x1024, .f32⟩
  | .local _ .vmem, ⟨6, _⟩ => ⟨S1x64x1024, .f32⟩
  | .local _ .vmem, ⟨7, _⟩ => ⟨S1x64x1024, .f32⟩
  | .local _ .vmem, ⟨8, _⟩ => ⟨S1x64x1024, .f32⟩
  | .local _ .vmem, ⟨9, _⟩ => ⟨S1x64x1024, .f32⟩
  | .local _ .vmem, ⟨10, _⟩ => ⟨S1x64x1024, .f32⟩
  | .local _ .vmem, ⟨11, _⟩ => ⟨S1x64x1024, .f32⟩
  | .local _ .vmem, ⟨12, _⟩ => ⟨S1x64x1024, .f32⟩
  | .local _ .vmem, ⟨13, _⟩ => ⟨S1x64x1024, .f32⟩
  | .local _ .vmem, ⟨14, _⟩ => ⟨S1x64x1024, .f32⟩
  | .local _ .vmem, ⟨15, _⟩ => ⟨S1x64x1024, .f32⟩
  | _, _ => ⟨S1x576x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![9], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S1x576x1024 : Shape := ⟨3, ![1, 576, 1024]⟩
abbrev S576x1024 : Shape := ⟨2, ![576, 1024]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S1x576x1024, .f32⟩
  | .hbm, ⟨1, _⟩ => ⟨S576x1024, .f32⟩
  | .hbm, ⟨2, _⟩ => ⟨S1x576x1024, .f32⟩
  | .hbm, ⟨3, _⟩ => ⟨S1x576x1024, .f32⟩
  | .hbm, ⟨4, _⟩ => ⟨S1x576x1024, .f32⟩
  | .hbm, ⟨5, _⟩ => ⟨S1x576x1024, .f32⟩
  | .hbm, ⟨6, _⟩ => ⟨S1x576x1024, .f32⟩
  | .hbm, ⟨7, _⟩ => ⟨S1x576x1024, .f32⟩
  | .hbm, ⟨8, _⟩ => ⟨S1x576x1024, .f32⟩
  | .hbm, ⟨9, _⟩ => ⟨S1x576x1024, .f32⟩
  | .hbm, ⟨10, _⟩ => ⟨S_, .f32⟩
  | .hbm, ⟨11, _⟩ => ⟨S1x576x1024, .f32⟩
  | .hbm, ⟨12, _⟩ => ⟨S1x576x1024, .f32⟩
  | .hbm, ⟨13, _⟩ => ⟨S_, .f32⟩
  | .hbm, ⟨14, _⟩ => ⟨S1x576x1024, .f32⟩
  | .hbm, ⟨15, _⟩ => ⟨S1x576x1024, .f32⟩
  | .hbm, ⟨16, _⟩ => ⟨S1x576x1024, .f32⟩
  | .hbm, ⟨17, _⟩ => ⟨S_, .f32⟩
  | .hbm, ⟨18, _⟩ => ⟨S1x576x1024, .f32⟩
  | .hbm, ⟨19, _⟩ => ⟨S1x576x1024, .f32⟩
  | .hbm, ⟨20, _⟩ => ⟨S1x576x1024, .f32⟩
  | .hbm, ⟨21, _⟩ => ⟨S_, .f32⟩
  | .hbm, ⟨22, _⟩ => ⟨S1x576x1024, .f32⟩
  | .hbm, ⟨23, _⟩ => ⟨S1x576x1024, .f32⟩
  | .hbm, ⟨24, _⟩ => ⟨S1x576x1024, .f32⟩
  | .hbm, ⟨25, _⟩ => ⟨S_, .f32⟩
  | .hbm, ⟨26, _⟩ => ⟨S1x576x1024, .f32⟩
  | .hbm, ⟨27, _⟩ => ⟨S1x576x1024, .f32⟩
  | .hbm, ⟨28, _⟩ => ⟨S_, .f32⟩
  | .hbm, ⟨29, _⟩ => ⟨S1x576x1024, .f32⟩
  | .hbm, ⟨30, _⟩ => ⟨S1x576x1024, .f32⟩
  | .hbm, ⟨31, _⟩ => ⟨S1x576x1024, .f32⟩
  | .hbm, ⟨32, _⟩ => ⟨S_, .f32⟩
  | .hbm, ⟨33, _⟩ => ⟨S1x576x1024, .f32⟩
  | .hbm, ⟨34, _⟩ => ⟨S1x576x1024, .f32⟩
  | .hbm, ⟨35, _⟩ => ⟨S1x576x1024, .f32⟩
  | .hbm, ⟨36, _⟩ => ⟨S_, .f32⟩
  | .hbm, ⟨37, _⟩ => ⟨S1x576x1024, .f32⟩
  | .hbm, ⟨38, _⟩ => ⟨S1x576x1024, .f32⟩
  | .hbm, ⟨39, _⟩ => ⟨S1x576x1024, .f32⟩
  | .hbm, ⟨40, _⟩ => ⟨S_, .f32⟩
  | .hbm, ⟨41, _⟩ => ⟨S1x576x1024, .f32⟩
  | .hbm, ⟨42, _⟩ => ⟨S1x576x1024, .f32⟩
  | _, _ => ⟨S1x576x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩

abbrev nD : Nat := 1
abbrev τ : Topo := Topo.v7x

variable {F : FTy → Type} [FloatOps F]
-- ==== AdamGate.lean ====
abbrev S1x1024x1024 : Shape := ⟨3, ![1, 1024, 1024]⟩
abbrev S1024x1024 : Shape := ⟨2, ![1024, 1024]⟩
abbrev S1x512x1024 : Shape := ⟨3, ![1, 512, 1024]⟩
abbrev S512x1024 : Shape := ⟨2, ![512, 1024]⟩

abbrev nBuf : Space → Nat
  | .hbm => 12
  | .vmem => 16
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x1024, .f32⟩
  | .hbm, ⟨3, _⟩ => ⟨S1x1024x1024, .f32⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S1x1024x1024, .f32⟩
  | .hbm, ⟨9, _⟩ => ⟨S1x1024x1024, .f32⟩
  | .hbm, ⟨10, _⟩ => ⟨S1x1024x1024, .f32⟩
  | .hbm, ⟨11, _⟩ => ⟨S1x1024x1024, .f32⟩
  | .local _ .vmem, ⟨0, _⟩ => ⟨S1x512x1024, .f32⟩
  | .local _ .vmem, ⟨1, _⟩ => ⟨S1x512x1024, .f32⟩
  | .local _ .vmem, ⟨2, _⟩ => ⟨S512x1024, .f32⟩
  | .local _ .vmem, ⟨3, _⟩ => ⟨S512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamGateIdeal.lean ====
abbrev S1x1024x1024 : Shape := ⟨3, ![1, 1024, 1024]⟩
abbrev S1024x1024 : Shape := ⟨2, ![1024, 1024]⟩
abbrev S1x512x1024 : Shape := ⟨3, ![1, 512, 1024]⟩
abbrev S512x1024 : Shape := ⟨2, ![512, 1024]⟩

abbrev nBuf : Space → Nat
  | .hbm => 12
  | .vmem => 16
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x1024, .f32⟩
  | .hbm, ⟨3, _⟩ => ⟨S1x1024x1024, .f32⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S1x1024x1024, .f32⟩
  | .hbm, ⟨9, _⟩ => ⟨S1x1024x1024, .f32⟩
  | .hbm, ⟨10, _⟩ => ⟨S1x1024x1024, .f32⟩
  | .hbm, ⟨11, _⟩ => ⟨S1x1024x1024, .f32⟩
  | .local _ .vmem, ⟨0, _⟩ => ⟨S1x512x1024, .f32⟩
  | .local _ .vmem, ⟨1, _⟩ => ⟨S1x512x1024, .f32⟩
  | .local _ .vmem, ⟨2, _⟩ => ⟨S512x1024, .f32⟩
  | .local _ .vmem, ⟨3, _⟩ => ⟨S512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamGateRefIdeal.lean ====
abbrev S1x1024x1024 : Shape := ⟨3, ![1, 1024, 1024]⟩
abbrev S1024x1024 : Shape := ⟨2, ![1024, 1024]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x1024, .f32⟩
  | .hbm, ⟨3, _⟩ => ⟨S1x1024x1024, .f32⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S1x1024x1024, .f32⟩
  | .hbm, ⟨9, _⟩ => ⟨S1x1024x1024, .f32⟩
  | .hbm, ⟨10, _⟩ => ⟨S_, .f32⟩
  | .hbm, ⟨11, _⟩ => ⟨S1x1024x1024, .f32⟩
  | .hbm, ⟨12, _⟩ => ⟨S1x1024x1024, .f32⟩
  | .hbm, ⟨13, _⟩ => ⟨S_, .f32⟩
  | .hbm, ⟨14, _⟩ => ⟨S1x1024x1024, .f32⟩
  | .hbm, ⟨15, _⟩ => ⟨S1x1024x1024, .f32⟩
  | .hbm, ⟨16, _⟩ => ⟨S1x1024x1024, .f32⟩
  | .hbm, ⟨17, _⟩ => ⟨S_, .f32⟩
  | .hbm, ⟨18, _⟩ => ⟨S1x1024x1024, .f32⟩
  | .hbm, ⟨19, _⟩ => ⟨S1x1024x1024, .f32⟩
  | .hbm, ⟨20, _⟩ => ⟨S1x1024x1024, .f32⟩
  | .hbm, ⟨21, _⟩ => ⟨S_, .f32⟩
  | .hbm, ⟨22, _⟩ => ⟨S1x1024x1024, .f32⟩
  | .hbm, ⟨23, _⟩ => ⟨S1x1024x1024, .f32⟩
  | .hbm, ⟨24, _⟩ => ⟨S1x1024x1024, .f32⟩
  | .hbm, ⟨25, _⟩ => ⟨S_, .f32⟩
  | .hbm, ⟨26, _⟩ => ⟨S1x1024x1024, .f32⟩
  | .hbm, ⟨27, _⟩ => ⟨S1x1024x1024, .f32⟩
  | .hbm, ⟨28, _⟩ => ⟨S_, .f32⟩
  | .hbm, ⟨29, _⟩ => ⟨S1x1024x1024, .f32⟩
  | .hbm, ⟨30, _⟩ => ⟨S1x1024x1024, .f32⟩
  | .hbm, ⟨31, _⟩ => ⟨S1x1024x1024, .f32⟩
  | .hbm, ⟨32, _⟩ => ⟨S_, .f32⟩
  | .hbm, ⟨33, _⟩ => ⟨S1x1024x1024, .f32⟩
  | .hbm, ⟨34, _⟩ => ⟨S1x1024x1024, .f32⟩
  | .hbm, ⟨35, _⟩ => ⟨S1x1024x1024, .f32⟩
  | .hbm, ⟨36, _⟩ => ⟨S_, .f32⟩
  | .hbm, ⟨37, _⟩ => ⟨S1x1024x1024, .f32⟩
  | .hbm, ⟨38, _⟩ => ⟨S1x1024x1024, .f32⟩
  | .hbm, ⟨39, _⟩ => ⟨S1x1024x1024, .f32⟩
  | .hbm, ⟨40, _⟩ => ⟨S_, .f32⟩
  | .hbm, ⟨41, _⟩ => ⟨S1x1024x1024, .f32⟩
  | .hbm, ⟨42, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩

abbrev nD : Nat := 1
abbrev τ : Topo := Topo.v7x

variable {F : FTy → Type} [FloatOps F]
-- ==== AdamMemKv.lean ====
abbrev S1x256x512 : Shape := ⟨3, ![1, 256, 512]⟩
abbrev S256x512 : Shape := ⟨2, ![256, 512]⟩

abbrev nBuf : Space → Nat
  | .hbm => 12
  | .vmem => 8
  | .smem => 0
  | _ => 0

abbrev bufTy : (tb : Table) → Fin (tcTables nBuf tb) → BufTy
  | .hbm, ⟨0, _⟩ => ⟨S1x256x512, .f32⟩
  | .hbm, ⟨1, _⟩ => ⟨S256x512, .f32⟩
  | .hbm, ⟨2, _⟩ => ⟨S1x256x512, .f32⟩
  | .hbm, ⟨3, _⟩ => ⟨S1x256x512, .f32⟩
  | .hbm, ⟨4, _⟩ => ⟨S1x256x512, .f32⟩
  | .hbm, ⟨5, _⟩ => ⟨S1x256x512, .f32⟩
  | .hbm, ⟨6, _⟩ => ⟨S1x256x512, .f32⟩
  | .hbm, ⟨7, _⟩ => ⟨S1x256x512, .f32⟩
  | .hbm, ⟨8, _⟩ => ⟨S1x256x512, .f32⟩
  | .hbm, ⟨9, _⟩ => ⟨S1x256x512, .f32⟩
  | .hbm, ⟨10, _⟩ => ⟨S1x256x512, .f32⟩
  | .hbm, ⟨11, _⟩ => ⟨S1x256x512, .f32⟩
  | .local _ .vmem, ⟨0, _⟩ => ⟨S1x256x512, .f32⟩
  | .local _ .vmem, ⟨1, _⟩ => ⟨S256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | _, _ => ⟨S1x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamMemKvIdeal.lean ====
abbrev S1x256x512 : Shape := ⟨3, ![1, 256, 512]⟩
abbrev S256x512 : Shape := ⟨2, ![256, 512]⟩

abbrev nBuf : Space → Nat
  | .hbm => 12
  | .vmem => 8
  | .smem => 0
  | _ => 0

abbrev bufTy : (tb : Table) → Fin (tcTables nBuf tb) → BufTy
  | .hbm, ⟨0, _⟩ => ⟨S1x256x512, .f32⟩
  | .hbm, ⟨1, _⟩ => ⟨S256x512, .f32⟩
  | .hbm, ⟨2, _⟩ => ⟨S1x256x512, .f32⟩
  | .hbm, ⟨3, _⟩ => ⟨S1x256x512, .f32⟩
  | .hbm, ⟨4, _⟩ => ⟨S1x256x512, .f32⟩
  | .hbm, ⟨5, _⟩ => ⟨S1x256x512, .f32⟩
  | .hbm, ⟨6, _⟩ => ⟨S1x256x512, .f32⟩
  | .hbm, ⟨7, _⟩ => ⟨S1x256x512, .f32⟩
  | .hbm, ⟨8, _⟩ => ⟨S1x256x512, .f32⟩
  | .hbm, ⟨9, _⟩ => ⟨S1x256x512, .f32⟩
  | .hbm, ⟨10, _⟩ => ⟨S1x256x512, .f32⟩
  | .hbm, ⟨11, _⟩ => ⟨S1x256x512, .f32⟩
  | .local _ .vmem, ⟨0, _⟩ => ⟨S1x256x512, .f32⟩
  | .local _ .vmem, ⟨1, _⟩ => ⟨S256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | _, _ => ⟨S1x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamMemKvRefIdeal.lean ====
abbrev S1x256x512 : Shape := ⟨3, ![1, 256, 512]⟩
abbrev S256x512 : Shape := ⟨2, ![256, 512]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S1x256x512, .f32⟩
  | .hbm, ⟨1, _⟩ => ⟨S256x512, .f32⟩
  | .hbm, ⟨2, _⟩ => ⟨S1x256x512, .f32⟩
  | .hbm, ⟨3, _⟩ => ⟨S1x256x512, .f32⟩
  | .hbm, ⟨4, _⟩ => ⟨S1x256x512, .f32⟩
  | .hbm, ⟨5, _⟩ => ⟨S1x256x512, .f32⟩
  | .hbm, ⟨6, _⟩ => ⟨S1x256x512, .f32⟩
  | .hbm, ⟨7, _⟩ => ⟨S1x256x512, .f32⟩
  | .hbm, ⟨8, _⟩ => ⟨S1x256x512, .f32⟩
  | .hbm, ⟨9, _⟩ => ⟨S1x256x512, .f32⟩
  | .hbm, ⟨10, _⟩ => ⟨S_, .f32⟩
  | .hbm, ⟨11, _⟩ => ⟨S1x256x512, .f32⟩
  | .hbm, ⟨12, _⟩ => ⟨S1x256x512, .f32⟩
  | .hbm, ⟨13, _⟩ => ⟨S_, .f32⟩
  | .hbm, ⟨14, _⟩ => ⟨S1x256x512, .f32⟩
  | .hbm, ⟨15, _⟩ => ⟨S1x256x512, .f32⟩
  | .hbm, ⟨16, _⟩ => ⟨S1x256x512, .f32⟩
  | .hbm, ⟨17, _⟩ => ⟨S_, .f32⟩
  | .hbm, ⟨18, _⟩ => ⟨S1x256x512, .f32⟩
  | .hbm, ⟨19, _⟩ => ⟨S1x256x512, .f32⟩
  | .hbm, ⟨20, _⟩ => ⟨S1x256x512, .f32⟩
  | .hbm, ⟨21, _⟩ => ⟨S_, .f32⟩
  | .hbm, ⟨22, _⟩ => ⟨S1x256x512, .f32⟩
  | .hbm, ⟨23, _⟩ => ⟨S1x256x512, .f32⟩
  | .hbm, ⟨24, _⟩ => ⟨S1x256x512, .f32⟩
  | .hbm, ⟨25, _⟩ => ⟨S_, .f32⟩
  | .hbm, ⟨26, _⟩ => ⟨S1x256x512, .f32⟩
  | .hbm, ⟨27, _⟩ => ⟨S1x256x512, .f32⟩
  | .hbm, ⟨28, _⟩ => ⟨S_, .f32⟩
  | .hbm, ⟨29, _⟩ => ⟨S1x256x512, .f32⟩
  | .hbm, ⟨30, _⟩ => ⟨S1x256x512, .f32⟩
  | .hbm, ⟨31, _⟩ => ⟨S1x256x512, .f32⟩
  | .hbm, ⟨32, _⟩ => ⟨S_, .f32⟩
  | .hbm, ⟨33, _⟩ => ⟨S1x256x512, .f32⟩
  | .hbm, ⟨34, _⟩ => ⟨S1x256x512, .f32⟩
  | .hbm, ⟨35, _⟩ => ⟨S1x256x512, .f32⟩
  | .hbm, ⟨36, _⟩ => ⟨S_, .f32⟩
  | .hbm, ⟨37, _⟩ => ⟨S1x256x512, .f32⟩
  | .hbm, ⟨38, _⟩ => ⟨S1x256x512, .f32⟩
  | .hbm, ⟨39, _⟩ => ⟨S1x256x512, .f32⟩
  | .hbm, ⟨40, _⟩ => ⟨S_, .f32⟩
  | .hbm, ⟨41, _⟩ => ⟨S1x256x512, .f32⟩
  | .hbm, ⟨42, _⟩ => ⟨S1x256x512, .f32⟩
  | _, _ => ⟨S1x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩

abbrev nD : Nat := 1
abbrev τ : Topo := Topo.v7x

variable {F : FTy → Type} [FloatOps F]
-- ==== AdamBranch.lean ====
abbrev S1x1024x256 : Shape := ⟨3, ![1, 1024, 256]⟩
abbrev S1024x256 : Shape := ⟨2, ![1024, 256]⟩
abbrev S1x512x256 : Shape := ⟨3, ![1, 512, 256]⟩
abbrev S512x256 : Shape := ⟨2, ![512, 256]⟩

abbrev nBuf : Space → Nat
  | .hbm => 12
  | .vmem => 16
  | .smem => 0
  | _ => 0

abbrev bufTy : (tb : Table) → Fin (tcTables nBuf tb) → BufTy
  | .hbm, ⟨0, _⟩ => ⟨S1x1024x256, .f32⟩
  | .hbm, ⟨1, _⟩ => ⟨S1024x256, .f32⟩
  | .hbm, ⟨2, _⟩ => ⟨S1x1024x256, .f32⟩
  | .hbm, ⟨3, _⟩ => ⟨S1x1024x256, .f32⟩
  | .hbm, ⟨4, _⟩ => ⟨S1x1024x256, .f32⟩
  | .hbm, ⟨5, _⟩ => ⟨S1x1024x256, .f32⟩
  | .hbm, ⟨6, _⟩ => ⟨S1x1024x256, .f32⟩
  | .hbm, ⟨7, _⟩ => ⟨S1x1024x256, .f32⟩
  | .hbm, ⟨8, _⟩ => ⟨S1x1024x256, .f32⟩
  | .hbm, ⟨9, _⟩ => ⟨S1x1024x256, .f32⟩
  | .hbm, ⟨10, _⟩ => ⟨S1x1024x256, .f32⟩
  | .hbm, ⟨11, _⟩ => ⟨S1x1024x256, .f32⟩
  | .local _ .vmem, ⟨0, _⟩ => ⟨S1x512x256, .f32⟩
  | .local _ .vmem, ⟨1, _⟩ => ⟨S1x512x256, .f32⟩
  | .local _ .vmem, ⟨2, _⟩ => ⟨S512x256, .f32⟩
  | .local _ .vmem, ⟨3, _⟩ => ⟨S512x256, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | _, _ => ⟨S1x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamBranchIdeal.lean ====
abbrev S1x1024x256 : Shape := ⟨3, ![1, 1024, 256]⟩
abbrev S1024x256 : Shape := ⟨2, ![1024, 256]⟩
abbrev S1x512x256 : Shape := ⟨3, ![1, 512, 256]⟩
abbrev S512x256 : Shape := ⟨2, ![512, 256]⟩

abbrev nBuf : Space → Nat
  | .hbm => 12
  | .vmem => 16
  | .smem => 0
  | _ => 0

abbrev bufTy : (tb : Table) → Fin (tcTables nBuf tb) → BufTy
  | .hbm, ⟨0, _⟩ => ⟨S1x1024x256, .f32⟩
  | .hbm, ⟨1, _⟩ => ⟨S1024x256, .f32⟩
  | .hbm, ⟨2, _⟩ => ⟨S1x1024x256, .f32⟩
  | .hbm, ⟨3, _⟩ => ⟨S1x1024x256, .f32⟩
  | .hbm, ⟨4, _⟩ => ⟨S1x1024x256, .f32⟩
  | .hbm, ⟨5, _⟩ => ⟨S1x1024x256, .f32⟩
  | .hbm, ⟨6, _⟩ => ⟨S1x1024x256, .f32⟩
  | .hbm, ⟨7, _⟩ => ⟨S1x1024x256, .f32⟩
  | .hbm, ⟨8, _⟩ => ⟨S1x1024x256, .f32⟩
  | .hbm, ⟨9, _⟩ => ⟨S1x1024x256, .f32⟩
  | .hbm, ⟨10, _⟩ => ⟨S1x1024x256, .f32⟩
  | .hbm, ⟨11, _⟩ => ⟨S1x1024x256, .f32⟩
  | .local _ .vmem, ⟨0, _⟩ => ⟨S1x512x256, .f32⟩
  | .local _ .vmem, ⟨1, _⟩ => ⟨S1x512x256, .f32⟩
  | .local _ .vmem, ⟨2, _⟩ => ⟨S512x256, .f32⟩
  | .local _ .vmem, ⟨3, _⟩ => ⟨S512x256, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | _, _ => ⟨S1x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamBranchRefIdeal.lean ====
abbrev S1x1024x256 : Shape := ⟨3, ![1, 1024, 256]⟩
abbrev S1024x256 : Shape := ⟨2, ![1024, 256]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S1x1024x256, .f32⟩
  | .hbm, ⟨1, _⟩ => ⟨S1024x256, .f32⟩
  | .hbm, ⟨2, _⟩ => ⟨S1x1024x256, .f32⟩
  | .hbm, ⟨3, _⟩ => ⟨S1x1024x256, .f32⟩
  | .hbm, ⟨4, _⟩ => ⟨S1x1024x256, .f32⟩
  | .hbm, ⟨5, _⟩ => ⟨S1x1024x256, .f32⟩
  | .hbm, ⟨6, _⟩ => ⟨S1x1024x256, .f32⟩
  | .hbm, ⟨7, _⟩ => ⟨S1x1024x256, .f32⟩
  | .hbm, ⟨8, _⟩ => ⟨S1x1024x256, .f32⟩
  | .hbm, ⟨9, _⟩ => ⟨S1x1024x256, .f32⟩
  | .hbm, ⟨10, _⟩ => ⟨S_, .f32⟩
  | .hbm, ⟨11, _⟩ => ⟨S1x1024x256, .f32⟩
  | .hbm, ⟨12, _⟩ => ⟨S1x1024x256, .f32⟩
  | .hbm, ⟨13, _⟩ => ⟨S_, .f32⟩
  | .hbm, ⟨14, _⟩ => ⟨S1x1024x256, .f32⟩
  | .hbm, ⟨15, _⟩ => ⟨S1x1024x256, .f32⟩
  | .hbm, ⟨16, _⟩ => ⟨S1x1024x256, .f32⟩
  | .hbm, ⟨17, _⟩ => ⟨S_, .f32⟩
  | .hbm, ⟨18, _⟩ => ⟨S1x1024x256, .f32⟩
  | .hbm, ⟨19, _⟩ => ⟨S1x1024x256, .f32⟩
  | .hbm, ⟨20, _⟩ => ⟨S1x1024x256, .f32⟩
  | .hbm, ⟨21, _⟩ => ⟨S_, .f32⟩
  | .hbm, ⟨22, _⟩ => ⟨S1x1024x256, .f32⟩
  | .hbm, ⟨23, _⟩ => ⟨S1x1024x256, .f32⟩
  | .hbm, ⟨24, _⟩ => ⟨S1x1024x256, .f32⟩
  | .hbm, ⟨25, _⟩ => ⟨S_, .f32⟩
  | .hbm, ⟨26, _⟩ => ⟨S1x1024x256, .f32⟩
  | .hbm, ⟨27, _⟩ => ⟨S1x1024x256, .f32⟩
  | .hbm, ⟨28, _⟩ => ⟨S_, .f32⟩
  | .hbm, ⟨29, _⟩ => ⟨S1x1024x256, .f32⟩
  | .hbm, ⟨30, _⟩ => ⟨S1x1024x256, .f32⟩
  | .hbm, ⟨31, _⟩ => ⟨S1x1024x256, .f32⟩
  | .hbm, ⟨32, _⟩ => ⟨S_, .f32⟩
  | .hbm, ⟨33, _⟩ => ⟨S1x1024x256, .f32⟩
  | .hbm, ⟨34, _⟩ => ⟨S1x1024x256, .f32⟩
  | .hbm, ⟨35, _⟩ => ⟨S1x1024x256, .f32⟩
  | .hbm, ⟨36, _⟩ => ⟨S_, .f32⟩
  | .hbm, ⟨37, _⟩ => ⟨S1x1024x256, .f32⟩
  | .hbm, ⟨38, _⟩ => ⟨S1x1024x256, .f32⟩
  | .hbm, ⟨39, _⟩ => ⟨S1x1024x256, .f32⟩
  | .hbm, ⟨40, _⟩ => ⟨S_, .f32⟩
  | .hbm, ⟨41, _⟩ => ⟨S1x1024x256, .f32⟩
  | .hbm, ⟨42, _⟩ => ⟨S1x1024x256, .f32⟩
  | _, _ => ⟨S1x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩

abbrev nD : Nat := 1
abbrev τ : Topo := Topo.v7x

variable {F : FTy → Type} [FloatOps F]
-- ==== AdamOut.lean ====
abbrev S1x256x1024 : Shape := ⟨3, ![1, 256, 1024]⟩
abbrev S256x1024 : Shape := ⟨2, ![256, 1024]⟩

abbrev nBuf : Space → Nat
  | .hbm => 12
  | .vmem => 8
  | .smem => 0
  | _ => 0

abbrev bufTy : (tb : Table) → Fin (tcTables nBuf tb) → BufTy
  | .hbm, ⟨0, _⟩ => ⟨S1x256x1024, .f32⟩
  | .hbm, ⟨1, _⟩ => ⟨S256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .hbm, ⟨8, _⟩ => ⟨S1x256x1024, .f32⟩
  | .hbm, ⟨9, _⟩ => ⟨S1x256x1024, .f32⟩
  | .hbm, ⟨10, _⟩ => ⟨S1x256x1024, .f32⟩
  | .hbm, ⟨11, _⟩ => ⟨S1x256x1024, .f32⟩
  | .local _ .vmem, ⟨0, _⟩ => ⟨S1x256x1024, .f32⟩
  | .local _ .vmem, ⟨1, _⟩ => ⟨S256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamOutIdeal.lean ====
abbrev S1x256x1024 : Shape := ⟨3, ![1, 256, 1024]⟩
abbrev S256x1024 : Shape := ⟨2, ![256, 1024]⟩

abbrev nBuf : Space → Nat
  | .hbm => 12
  | .vmem => 8
  | .smem => 0
  | _ => 0

abbrev bufTy : (tb : Table) → Fin (tcTables nBuf tb) → BufTy
  | .hbm, ⟨0, _⟩ => ⟨S1x256x1024, .f32⟩
  | .hbm, ⟨1, _⟩ => ⟨S256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .hbm, ⟨8, _⟩ => ⟨S1x256x1024, .f32⟩
  | .hbm, ⟨9, _⟩ => ⟨S1x256x1024, .f32⟩
  | .hbm, ⟨10, _⟩ => ⟨S1x256x1024, .f32⟩
  | .hbm, ⟨11, _⟩ => ⟨S1x256x1024, .f32⟩
  | .local _ .vmem, ⟨0, _⟩ => ⟨S1x256x1024, .f32⟩
  | .local _ .vmem, ⟨1, _⟩ => ⟨S256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamOutRefIdeal.lean ====
abbrev S1x256x1024 : Shape := ⟨3, ![1, 256, 1024]⟩
abbrev S256x1024 : Shape := ⟨2, ![256, 1024]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .hbm, ⟨8, _⟩ => ⟨S1x256x1024, .f32⟩
  | .hbm, ⟨9, _⟩ => ⟨S1x256x1024, .f32⟩
  | .hbm, ⟨10, _⟩ => ⟨S_, .f32⟩
  | .hbm, ⟨11, _⟩ => ⟨S1x256x1024, .f32⟩
  | .hbm, ⟨12, _⟩ => ⟨S1x256x1024, .f32⟩
  | .hbm, ⟨13, _⟩ => ⟨S_, .f32⟩
  | .hbm, ⟨14, _⟩ => ⟨S1x256x1024, .f32⟩
  | .hbm, ⟨15, _⟩ => ⟨S1x256x1024, .f32⟩
  | .hbm, ⟨16, _⟩ => ⟨S1x256x1024, .f32⟩
  | .hbm, ⟨17, _⟩ => ⟨S_, .f32⟩
  | .hbm, ⟨18, _⟩ => ⟨S1x256x1024, .f32⟩
  | .hbm, ⟨19, _⟩ => ⟨S1x256x1024, .f32⟩
  | .hbm, ⟨20, _⟩ => ⟨S1x256x1024, .f32⟩
  | .hbm, ⟨21, _⟩ => ⟨S_, .f32⟩
  | .hbm, ⟨22, _⟩ => ⟨S1x256x1024, .f32⟩
  | .hbm, ⟨23, _⟩ => ⟨S1x256x1024, .f32⟩
  | .hbm, ⟨24, _⟩ => ⟨S1x256x1024, .f32⟩
  | .hbm, ⟨25, _⟩ => ⟨S_, .f32⟩
  | .hbm, ⟨26, _⟩ => ⟨S1x256x1024, .f32⟩
  | .hbm, ⟨27, _⟩ => ⟨S1x256x1024, .f32⟩
  | .hbm, ⟨28, _⟩ => ⟨S_, .f32⟩
  | .hbm, ⟨29, _⟩ => ⟨S1x256x1024, .f32⟩
  | .hbm, ⟨30, _⟩ => ⟨S1x256x1024, .f32⟩
  | .hbm, ⟨31, _⟩ => ⟨S1x256x1024, .f32⟩
  | .hbm, ⟨32, _⟩ => ⟨S_, .f32⟩
  | .hbm, ⟨33, _⟩ => ⟨S1x256x1024, .f32⟩
  | .hbm, ⟨34, _⟩ => ⟨S1x256x1024, .f32⟩
  | .hbm, ⟨35, _⟩ => ⟨S1x256x1024, .f32⟩
  | .hbm, ⟨36, _⟩ => ⟨S_, .f32⟩
  | .hbm, ⟨37, _⟩ => ⟨S1x256x1024, .f32⟩
  | .hbm, ⟨38, _⟩ => ⟨S1x256x1024, .f32⟩
  | .hbm, ⟨39, _⟩ => ⟨S1x256x1024, .f32⟩
  | .hbm, ⟨40, _⟩ => ⟨S_, .f32⟩
  | .hbm, ⟨41, _⟩ => ⟨S1x256x1024, .f32⟩
  | .hbm, ⟨42, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩

abbrev nD : Nat := 1
abbrev τ : Topo := Topo.v7x

variable {F : FTy → Type} [FloatOps F]
-- ==== AdamFfnOut.lean ====
abbrev S1x704x1024 : Shape := ⟨3, ![1, 704, 1024]⟩
abbrev S704x1024 : Shape := ⟨2, ![704, 1024]⟩
abbrev S1x352x1024 : Shape := ⟨3, ![1, 352, 1024]⟩
abbrev S352x1024 : Shape := ⟨2, ![352, 1024]⟩

abbrev nBuf : Space → Nat
  | .hbm => 12
  | .vmem => 16
  | .smem => 0
  | _ => 0

abbrev bufTy : (tb : Table) → Fin (tcTables nBuf tb) → BufTy
  | .hbm, ⟨0, _⟩ => ⟨S1x704x1024, .f32⟩
  | .hbm, ⟨1, _⟩ => ⟨S704x1024, .f32⟩
  | .hbm, ⟨2, _⟩ => ⟨S1x704x1024, .f32⟩
  | .hbm, ⟨3, _⟩ => ⟨S1x704x1024, .f32⟩
  | .hbm, ⟨4, _⟩ => ⟨S1x704x1024, .f32⟩
  | .hbm, ⟨5, _⟩ => ⟨S1x704x1024, .f32⟩
  | .hbm, ⟨6, _⟩ => ⟨S1x704x1024, .f32⟩
  | .hbm, ⟨7, _⟩ => ⟨S1x704x1024, .f32⟩
  | .hbm, ⟨8, _⟩ => ⟨S1x704x1024, .f32⟩
  | .hbm, ⟨9, _⟩ => ⟨S1x704x1024, .f32⟩
  | .hbm, ⟨10, _⟩ => ⟨S1x704x1024, .f32⟩
  | .hbm, ⟨11, _⟩ => ⟨S1x704x1024, .f32⟩
  | .local _ .vmem, ⟨0, _⟩ => ⟨S1x352x1024, .f32⟩
  | .local _ .vmem, ⟨1, _⟩ => ⟨S1x352x1024, .f32⟩
  | .local _ .vmem, ⟨2, _⟩ => ⟨S352x1024, .f32⟩
  | .local _ .vmem, ⟨3, _⟩ => ⟨S352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | _, _ => ⟨S1x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFfnOutRefIdeal.lean ====
abbrev S1x704x1024 : Shape := ⟨3, ![1, 704, 1024]⟩
abbrev S704x1024 : Shape := ⟨2, ![704, 1024]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S1x704x1024, .f32⟩
  | .hbm, ⟨1, _⟩ => ⟨S704x1024, .f32⟩
  | .hbm, ⟨2, _⟩ => ⟨S1x704x1024, .f32⟩
  | .hbm, ⟨3, _⟩ => ⟨S1x704x1024, .f32⟩
  | .hbm, ⟨4, _⟩ => ⟨S1x704x1024, .f32⟩
  | .hbm, ⟨5, _⟩ => ⟨S1x704x1024, .f32⟩
  | .hbm, ⟨6, _⟩ => ⟨S1x704x1024, .f32⟩
  | .hbm, ⟨7, _⟩ => ⟨S1x704x1024, .f32⟩
  | .hbm, ⟨8, _⟩ => ⟨S1x704x1024, .f32⟩
  | .hbm, ⟨9, _⟩ => ⟨S1x704x1024, .f32⟩
  | .hbm, ⟨10, _⟩ => ⟨S_, .f32⟩
  | .hbm, ⟨11, _⟩ => ⟨S1x704x1024, .f32⟩
  | .hbm, ⟨12, _⟩ => ⟨S1x704x1024, .f32⟩
  | .hbm, ⟨13, _⟩ => ⟨S_, .f32⟩
  | .hbm, ⟨14, _⟩ => ⟨S1x704x1024, .f32⟩
  | .hbm, ⟨15, _⟩ => ⟨S1x704x1024, .f32⟩
  | .hbm, ⟨16, _⟩ => ⟨S1x704x1024, .f32⟩
  | .hbm, ⟨17, _⟩ => ⟨S_, .f32⟩
  | .hbm, ⟨18, _⟩ => ⟨S1x704x1024, .f32⟩
  | .hbm, ⟨19, _⟩ => ⟨S1x704x1024, .f32⟩
  | .hbm, ⟨20, _⟩ => ⟨S1x704x1024, .f32⟩
  | .hbm, ⟨21, _⟩ => ⟨S_, .f32⟩
  | .hbm, ⟨22, _⟩ => ⟨S1x704x1024, .f32⟩
  | .hbm, ⟨23, _⟩ => ⟨S1x704x1024, .f32⟩
  | .hbm, ⟨24, _⟩ => ⟨S1x704x1024, .f32⟩
  | .hbm, ⟨25, _⟩ => ⟨S_, .f32⟩
  | .hbm, ⟨26, _⟩ => ⟨S1x704x1024, .f32⟩
  | .hbm, ⟨27, _⟩ => ⟨S1x704x1024, .f32⟩
  | .hbm, ⟨28, _⟩ => ⟨S_, .f32⟩
  | .hbm, ⟨29, _⟩ => ⟨S1x704x1024, .f32⟩
  | .hbm, ⟨30, _⟩ => ⟨S1x704x1024, .f32⟩
  | .hbm, ⟨31, _⟩ => ⟨S1x704x1024, .f32⟩
  | .hbm, ⟨32, _⟩ => ⟨S_, .f32⟩
  | .hbm, ⟨33, _⟩ => ⟨S1x704x1024, .f32⟩
  | .hbm, ⟨34, _⟩ => ⟨S1x704x1024, .f32⟩
  | .hbm, ⟨35, _⟩ => ⟨S1x704x1024, .f32⟩
  | .hbm, ⟨36, _⟩ => ⟨S_, .f32⟩
  | .hbm, ⟨37, _⟩ => ⟨S1x704x1024, .f32⟩
  | .hbm, ⟨38, _⟩ => ⟨S1x704x1024, .f32⟩
  | .hbm, ⟨39, _⟩ => ⟨S1x704x1024, .f32⟩
  | .hbm, ⟨40, _⟩ => ⟨S_, .f32⟩
  | .hbm, ⟨41, _⟩ => ⟨S1x704x1024, .f32⟩
  | .hbm, ⟨42, _⟩ => ⟨S1x704x1024, .f32⟩
  | _, _ => ⟨S1x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩

abbrev nD : Nat := 1
abbrev τ : Topo := Topo.v7x

variable {F : FTy → Type} [FloatOps F]
-- ==== Proof.Gate.Stack.lean ====
module

public import proofs.«01_k».proof.Proof.Gen.GateIdeal.Frame
public import Idealize.ShloMosaic.Lib.VecWindow
public import Idealize.ShloMosaic.Lib.Pointwise

@[expose] public section

set_option maxRecDepth 16384

noncomputable section

namespace Cert.GateIdeal.Merge

open Cert.GateIdeal Cert.GateIdeal.Gen
open Idealize.ShloMosaic

variable {α : Type}

/-- Four slabs, one per branch, stacked along the leading axis. -/
def stack4 (w0 w1 w2 w3 : S1x512x256.Idx → α) : S4x512x256.Idx → α :=
  fun y => (![w0, w1, w2, w3] (y 0)) (ix3 0 (y 1) (y 2))

/-- The buffer `x` with the four matrices of column block `s` replaced. -/
def slab4 (s : Fin 4) (x : S4x4x256x256.Idx → α) (w0 w1 w2 w3 : S1x1x256x256.Idx → α) : S4x4x256x256.Idx → α :=
  fun y => if (y 0).val = s.val then (![w0, w1, w2, w3] (y 1)) (ix4 0 0 (y 2) (y 3)) else x y

/-- Slab `n` of a stack of four. -/
def slabOf (x : S4x512x256.Idx → α) (n : Fin 4) : S1x512x256.Idx → α := fun z => x (ix3 n (z 1) (z 2))

/-- Matrix `n` of column block `s`. -/
def blockOf (x : S4x4x256x256.Idx → α) (s n : Fin 4) : S1x1x256x256.Idx → α := fun z => x (ix4 s n (z 2) (z 3))

/-- Writing the four slabs one after another leaves their stack. -/
theorem put_stack4 (x : S4x512x256.Idx → α) (w0 w1 w2 w3 : S1x512x256.Idx → α) :
    VecWindow.put (VecWindow.put (VecWindow.put (VecWindow.put x ![0, 0, 0] S1x512x256.size w0) ![1, 0, 0] S1x512x256.size w1)
      ![2, 0, 0] S1x512x256.size w2) ![3, 0, 0] S1x512x256.size w3 = stack4 w0 w1 w2 w3 := by
  funext y
  obtain ⟨n, r, c, rfl⟩ : ∃ (n : Fin 4) (r : Fin 512) (c : Fin 256), y = ix3 n r c := ⟨y 0, y 1, y 2, eq_ix3 y⟩
  have hr := r.isLt
  have hc := c.isLt
  fin_cases n <;> simp [VecWindow.put, stack4, Fin.forall_fin_succ] <;>
    exact congrArg _ (funext fun a => Fin.ext (by fin_cases a <;> simp [Rect.unitLocal]))

/-- Writing the four matrices of column block `s` one after another replaces that block alone. -/
theorem put_slab4 (s : Fin 4) (x : S4x4x256x256.Idx → α) (w0 w1 w2 w3 : S1x1x256x256.Idx → α) :
    VecWindow.put (VecWindow.put (VecWindow.put (VecWindow.put x ![s.val, 0, 0, 0] S1x1x256x256.size w0) ![s.val, 1, 0, 0] S1x1x256x256.size w1)
      ![s.val, 2, 0, 0] S1x1x256x256.size w2) ![s.val, 3, 0, 0] S1x1x256x256.size w3 = slab4 s x w0 w1 w2 w3 := by
  funext y
  obtain ⟨n, m, r, c, rfl⟩ : ∃ (n : Fin 4) (m : Fin 4) (r : Fin 256) (c : Fin 256), y = ix4 n m r c := ⟨y 0, y 1, y 2, y 3, eq_ix4 y⟩
  have hr := r.isLt
  have hc := c.isLt
  by_cases h : n = s
  · subst h
    fin_cases m <;> simp [VecWindow.put, slab4, Fin.forall_fin_succ] <;>
    exact congrArg _ (funext fun a => Fin.ext (by fin_cases a <;> simp [Rect.unitLocal]))
  · have h' : ¬ (s ≤ n ∧ n ≤ s) := fun hh => h (le_antisymm hh.2 hh.1)
    have h'' : ¬ n.val = s.val := fun hh => h (Fin.ext hh)
    simp [VecWindow.put, slab4, Fin.forall_fin_succ, h', h'']

/-- The window of a stack at slab `n` is slab `n`. -/
theorem window_slabOf (x : S4x512x256.Idx → α) (n : Fin 4) (inb) :
    VecWindow.window x ![n.val, 0, 0] S1x512x256.size inb = slabOf x n := by
  funext z
  refine congrArg x (funext fun a => Fin.ext ?_)
  have h0 : (z 0).val = 0 := by have h : (z 0).val < 1 := (z 0).isLt; omega
  fin_cases a
  · show n.val + 1 * (z 0).val = n.val; omega
  · show 0 + 1 * (z 1).val = (z 1).val; omega
  · show 0 + 1 * (z 2).val = (z 2).val; omega

/-- The window of the weight gradients at column block `s`, branch `n` is that matrix. -/
theorem window_blockOf (x : S4x4x256x256.Idx → α) (s n : Fin 4) (inb) :
    VecWindow.window x ![s.val, n.val, 0, 0] S1x1x256x256.size inb = blockOf x s n := by
  funext z
  refine congrArg x (funext fun a => Fin.ext ?_)
  have h0 : (z 0).val = 0 := by have h : (z 0).val < 1 := (z 0).isLt; omega
  have h1 : (z 1).val = 0 := by have h : (z 1).val < 1 := (z 1).isLt; omega
  fin_cases a
  · show s.val + 1 * (z 0).val = s.val; omega
  · show n.val + 1 * (z 1).val = n.val; omega
  · show 0 + 1 * (z 2).val = (z 2).val; omega
  · show 0 + 1 * (z 3).val = (z 3).val; omega

end Cert.GateIdeal.Merge

end

end
-- ==== Proof.Gate.Run.lean ====
module

public import proofs.«01_k».proof.Proof.Gen.GateIdeal.Frame
public import proofs.«01_k».proof.Proof.Gen.GateIdeal.Skeleton
public import proofs.«01_k».proof.Proof.Gen.GateIdeal.Points
public import Idealize.ShloMosaic.Lib.Claim
public import Idealize.ShloMosaic.Lib.VecWindow
public import Idealize.ShloMosaic.Lib.WholeRead
public import proofs.«01_k».proof.Proof.Gate.Stack

@[expose] public section

set_option maxRecDepth 16384

noncomputable section

namespace Cert.GateIdeal.Merge

open Cert.GateIdeal Cert.GateIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition under which the body clears the branch gradients: the first column block. -/
abbrev firstCol (i : grid0.Coords) : Prop := (Scalar.cmpi .ne (Scalar.extui (Scalar.cmpi .eq (BitVec.ofNat 32 (i 1).val) 0#32)) 0#32) = 1#1
/-- The condition under which the body clears the weight gradients: the first grid point. -/
abbrev firstPt (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

/-- The column block of a grid point: its inner coordinate. -/
abbrev colBlk (i : grid0.Coords) : Fin 4 := i 1

/-- The offset of branch 0's matrix in the weight gradients. -/
theorem off1_eq (i : grid0.Coords) : k0_off1 i = ![(colBlk i).val, (0 : Fin 4).val, 0, 0] := by
  have h : ∀ s : Fin 4, (BitVec.ofNat 32 s.val).toNat = s.val := by decide
  exact congrArg (fun n : ℕ => ![n, 0, 0, 0]) (h (i 1))

/-- The offset of branch 1's matrix. -/
theorem off2_eq (i : grid0.Coords) : k0_off2 i = ![(colBlk i).val, (1 : Fin 4).val, 0, 0] := by
  have h : ∀ s : Fin 4, (BitVec.ofNat 32 s.val).toNat = s.val := by decide
  exact congrArg (fun n : ℕ => ![n, 1, 0, 0]) (h (i 1))

/-- The offset of branch 2's matrix. -/
theorem off3_eq (i : grid0.Coords) : k0_off3 i = ![(colBlk i).val, (2 : Fin 4).val, 0, 0] := by
  have h : ∀ s : Fin 4, (BitVec.ofNat 32 s.val).toNat = s.val := by decide
  exact congrArg (fun n : ℕ => ![n, 2, 0, 0]) (h (i 1))

/-- The offset of branch 3's matrix. -/
theorem off4_eq (i : grid0.Coords) : k0_off4 i = ![(colBlk i).val, (3 : Fin 4).val, 0, 0] := by
  have h : ∀ s : Fin 4, (BitVec.ofNat 32 s.val).toNat = s.val := by decide
  exact congrArg (fun n : ℕ => ![n, 3, 0, 0]) (h (i 1))

set_option maxHeartbeats 1000000 in
/-- The second half of the body, from any values of the first half: it writes the four gate gradients, adds the four
    branch gradients to `o5`, and adds the four weight gradients to `o6` at the point's column block. -/
theorem run_tail (c : Dev nD) (i : grid0.Coords) (arg2 : Memref sig .tc .vmem S4x512x256 .f32) (harg2 : arg2.IsWhole) (arg3 : Memref sig .tc .vmem S4x512x256 .bf16) (harg3 : arg3.IsWhole) (arg4 : Memref sig .tc .vmem S1x1x4x256x256 .bf16) (harg4 : arg4.IsWhole) (arg5 : Memref sig .tc .vmem S512x256 .f32) (harg5 : arg5.IsWhole) (arg6 : Memref sig .tc .vmem S4x512x256 .bf16) (harg6 : arg6.IsWhole) (arg7 : Memref sig .tc .vmem S4x512x256 .f32) (harg7 : arg7.IsWhole) (arg8 : Memref sig .tc .vmem S4x4x256x256 .f32) (harg8 : arg8.IsWhole)
    (v67 : FVec F S512x256 .f32) (v70 : FVec F S256x256 .f32) (v71 : FVec F S512x256 .f32) (v76 : FVec F S512x256 .f32) (v79 : FVec F S256x256 .f32) (v80 : FVec F S512x256 .f32) (v85 : FVec F S512x256 .f32) (v88 : FVec F S256x256 .f32) (v89 : FVec F S512x256 .f32) (v94 : FVec F S512x256 .f32) (v97 : FVec F S256x256 .f32) (v107 : FVec F S512x256 .bf16)
    (o5 : Vec F S4x512x256 .f32) (o6 : Vec F S4x4x256x256 .f32) (E : Set ℕ) (K : PUnit → sProp 𝕄) :
        iprop((∃ d, owns (c : Thread nD τ) arg6 fullShare d) ∗ owns (c : Thread nD τ) arg7 fullShare o5 ∗ owns (c : Thread nD τ) arg8 fullShare o6
            ∗ (iprop(owns (c : Thread nD τ) arg6 fullShare (stack4 (k0_pay47 v107) (k0_pay50 v89) (k0_pay53 v80) (k0_pay56 v71))
                ∗ owns (c : Thread nD τ) arg7 fullShare (stack4 (k0_pay48 v94 (slabOf o5 0)) (k0_pay51 v85 (slabOf o5 1)) (k0_pay54 v76 (slabOf o5 2)) (k0_pay1 (k0_pay57 v67 (slabOf o5 3))))
                ∗ owns (c : Thread nD τ) arg8 fullShare (slab4 (colBlk i) o6 (k0_pay49 v97 (blockOf o6 (colBlk i) 0)) (k0_pay52 v88 (blockOf o6 (colBlk i) 1)) (k0_pay55 v79 (blockOf o6 (colBlk i) 2)) (k0_pay2 v70 (blockOf o6 (colBlk i) 3)))) -∗ K ⟨⟩))
          ⊢ wp frame (wpE (defs₀ (F := F)) Variants.none c none) E
            (k0_part4 i arg2 harg2 arg3 harg3 arg4 harg4 arg5 harg5 arg6 harg6 arg7 harg7 arg8 harg8 (BitVec.ofNat 32 (i 1).val) v85 v89 v94 v97 v107)
            (fun v136 : Vec F S1x1x256x256 .f32 => wp frame (wpE (defs₀ (F := F)) Variants.none c none) E (do
              let v167 : FVec F S512x256 .f32 ← k0_part5 i arg2 harg2 arg3 harg3 arg4 harg4 arg5 harg5 arg6 harg6 arg7 harg7 arg8 harg8 (BitVec.ofNat 32 (i 1).val) v67 v71 v76 v79 v80 v88 v136
              let v168 : Vec F S1x512x256 .f32 ← Prog.lift (.load arg7 (Rect.unit (s := S4x512x256) ![3, 0, 0] S1x512x256.size inb_S4x512x256_S1x512x256_3_0_0).toLoadRect (View.loadsAt_vmem h_S1x512x256))
              Prog.lift (.store arg7 (Rect.unit (s := S4x512x256) ![3, 0, 0] S1x512x256.size inb_S4x512x256_S1x512x256_3_0_0) (k0_pay1 v167) Finset.univ (View.stores_vmem_bits_univ h_S1x512x256 rfl) (.inl rfl))
              let v172 : Vec F S1x1x256x256 .f32 ← Prog.lift (.load arg8 (Rect.unit (s := S4x4x256x256) (k0_off4 i) S1x1x256x256.size (k0_off4_inb i)).toLoadRect (View.loadsAt_vmem h_S1x1x256x256))
              let v176 : Vec F S1x1x256x256 .f32 ← Prog.lift (.load arg8 (Rect.unit (s := S4x4x256x256) (k0_off4 i) S1x1x256x256.size (k0_off4_inb i)).toLoadRect (View.loadsAt_vmem h_S1x1x256x256))
              Prog.lift (.store arg8 (Rect.unit (s := S4x4x256x256) (k0_off4 i) S1x1x256x256.size (k0_off4_inb i)) (k0_pay2 v70 v172) Finset.univ (View.stores_vmem_bits_univ h_S1x1x256x256 rfl) (.inl rfl))
              pure ⟨⟩) K) := by
    simp only [k0_part4_eq_skeleton, k0_part5_eq_skeleton]
    unfold k0_part4_skel k0_part5_skel owns
    iintro ⟨⟨%d4, %f4, -, H4⟩, ⟨%f5, %hf5, H5⟩, ⟨%f6, %hf6, H6⟩, Hk⟩
    obtain rfl := harg7.eq_unread hf5; obtain rfl := harg8.eq_unread hf6
    sl_exec
    sl_step
    have inb7 : ∀ n : Fin 4, ∀ a, (![n.val, 0, 0] : Fin 3 → ℕ) a + S1x512x256.size a ≤ S4x512x256.size a := by decide
    have inb8 : ∀ n k : Fin 4, ∀ a, (![n.val, k.val, 0, 0] : Fin 4 → ℕ) a + S1x1x256x256.size a ≤ S4x4x256x256.size a := by decide
    have ld7 : ∀ (n : Fin 4) (inb), View.readAt (Elt F) arg7.view (Rect.unit (s := S4x512x256) ![n.val, 0, 0] S1x512x256.size inb).toLoadRect (harg7.unread o5) = slabOf o5 n := fun n inb => by
      rw [View.readAt_unit _ _ inb rfl (inb7 n), harg7.read_unread, window_slabOf]
    have ld8 : ∀ (n : Fin 4) (off : Fin 4 → ℕ) (h : off = ![(colBlk i).val, n.val, 0, 0]) (inb), View.readAt (Elt F) arg8.view (Rect.unit (s := S4x4x256x256) off S1x1x256x256.size inb).toLoadRect (harg8.unread o6) = blockOf o6 (colBlk i) n := fun n off h inb => by
      rw [View.readAt_unit _ _ inb h (inb8 _ n), harg8.read_unread, window_blockOf]
    iapply Hk
    isplitl [H4]
    · iexists _; isplitr; swap; · iexact H4
      ipureintro
      rw [View.read_writes_cons_put _ _ _ _ _ rfl, View.read_writes_cons_put _ _ _ _ _ rfl, View.read_writes_cons_put _ _ _ _ _ rfl, View.read_writes_cons_put _ _ _ _ _ rfl]
      exact put_stack4 _ _ _ _ _
    isplitl [H5]
    · iexists _; isplitr; swap; · iexact H5
      ipureintro
      rw [View.read_writes_cons_put _ _ _ _ _ rfl, View.read_writes_cons_put _ _ _ _ _ rfl, View.read_writes_cons_put _ _ _ _ _ rfl, View.read_writes_cons_put _ _ _ _ _ rfl]
      refine (put_stack4 _ _ _ _ _).trans ?_
      rw [← ld7 0 (inb7 0), ← ld7 1 (inb7 1), ← ld7 2 (inb7 2), ← ld7 3 (inb7 3)]
      rfl
    · iexists _; isplitr; swap; · iexact H6
      ipureintro
      rw [View.read_writes_cons_put _ _ _ _ _ (off4_eq i), View.read_writes_cons_put _ _ _ _ _ (off3_eq i), View.read_writes_cons_put _ _ _ _ _ (off2_eq i), View.read_writes_cons_put _ _ _ _ _ (off1_eq i)]
      refine (put_slab4 _ _ _ _ _ _).trans ?_
      rw [← ld8 0 _ (off1_eq i) (k0_off1_inb i), ← ld8 1 _ (off2_eq i) (k0_off2_inb i), ← ld8 2 _ (off3_eq i) (k0_off3_inb i), ← ld8 3 _ (off4_eq i) (k0_off4_inb i)]
      rw [View.writes_nil, harg8.read_unread]
      rfl

end Cert.GateIdeal.Merge

end

end
-- ==== Proof.Gate.Pay.lean ====
module

public import proofs.«01_k».proof.Proof.Gate.Stack
public import proofs.«01_k».proof.Proof.Gen.GateIdeal.Skeleton
public import Idealize.ShloMosaic.Lib.Pointwise

@[expose] public section

set_option maxRecDepth 16384

noncomputable section

namespace Cert.GateIdeal.Merge

open Cert.GateIdeal Cert.GateIdeal.Gen
open Idealize.ShloMosaic

/-- Matrix `n` of a block of four weights. -/
def matOf {α : Type} (x : S1x1x4x256x256.Idx → α) (n : Fin 4) : S1x1x1x256x256.Idx → α := fun z => x (ix5 0 0 n (z 3) (z 4))

variable {F : FTy → Type} [FloatOps F]

/-- The gate gradients that the body writes: the four branches', stacked. -/
def dgpF (x0 : Vec F S4x512x256 .f32) (x1 : Vec F S4x512x256 .bf16) (x2 : Vec F S1x1x4x256x256 .bf16) (x3 : Vec F S512x256 .f32) : Vec F S4x512x256 .bf16 :=
  stack4 (k0_pay47 (k0_pay46 (k0_pay16 (k0_pay3 (slabOf x0 0))) (k0_pay17 (k0_pay7 (slabOf x1 0)) (k0_pay11 (matOf x2 0))) (k0_pay27 x3)))
      (k0_pay50 (k0_pay40 (k0_pay19 (k0_pay4 (slabOf x0 1))) (k0_pay20 (k0_pay8 (slabOf x1 1)) (matOf x2 1)) (k0_pay27 x3)))
      (k0_pay53 (k0_pay36 (k0_pay22 (k0_pay5 (slabOf x0 2))) (k0_pay23 (k0_pay9 (slabOf x1 2)) (matOf x2 2)) (k0_pay27 x3)))
      (k0_pay56 (k0_pay32 (k0_pay25 (k0_pay6 (slabOf x0 3))) (k0_pay26 (k0_pay10 (slabOf x1 3)) (matOf x2 3)) (k0_pay28 x3)))

/-- The branch gradients that the body writes over `o5`. -/
def dbrF (x0 : Vec F S4x512x256 .f32) (x2 : Vec F S1x1x4x256x256 .bf16) (x3 : Vec F S512x256 .f32) (o5 : Vec F S4x512x256 .f32) : Vec F S4x512x256 .f32 :=
  stack4 (k0_pay48 (k0_pay42 (k0_pay11 (matOf x2 0)) (k0_pay15 (k0_pay3 (slabOf x0 0))) (k0_pay27 x3)) (slabOf o5 0))
      (k0_pay51 (k0_pay38 (k0_pay12 (matOf x2 1)) (k0_pay18 (k0_pay4 (slabOf x0 1))) (k0_pay27 x3)) (slabOf o5 1))
      (k0_pay54 (k0_pay34 (k0_pay13 (matOf x2 2)) (k0_pay21 (k0_pay5 (slabOf x0 2))) (k0_pay27 x3)) (slabOf o5 2))
      (k0_pay1 (k0_pay57 (k0_pay30 (k0_pay14 (matOf x2 3)) (k0_pay29 (k0_pay6 (slabOf x0 3)) x3)) (slabOf o5 3)))

/-- The weight gradients that the body writes over `o6`, at column block `s`. -/
def dwF (s : Fin 4) (x0 : Vec F S4x512x256 .f32) (x1 : Vec F S4x512x256 .bf16) (x3 : Vec F S512x256 .f32) (o6 : Vec F S4x4x256x256 .f32) : Vec F S4x4x256x256 .f32 :=
  slab4 s o6 (k0_pay49 (k0_pay43 (k0_pay7 (slabOf x1 0)) (k0_pay15 (k0_pay3 (slabOf x0 0))) (k0_pay27 x3)) (blockOf o6 s 0))
      (k0_pay52 (k0_pay39 (k0_pay8 (slabOf x1 1)) (k0_pay18 (k0_pay4 (slabOf x0 1))) (k0_pay27 x3)) (blockOf o6 s 1))
      (k0_pay55 (k0_pay35 (k0_pay9 (slabOf x1 2)) (k0_pay21 (k0_pay5 (slabOf x0 2))) (k0_pay27 x3)) (blockOf o6 s 2))
      (k0_pay2 (k0_pay31 (k0_pay10 (slabOf x1 3)) (k0_pay29 (k0_pay6 (slabOf x0 3)) x3)) (blockOf o6 s 3))

/-- The gate of branch `n` at row `r`, lane `c` of a block. -/
def gateAt (x0 : Vec Ideal S4x512x256 .f32) (n : Fin 4) (r : Fin 512) (c : Fin 256) : EReal := Ideal.logistic (x0 (ix3 n r c))

/-- The gradient of the gates' arguments over one block: the gate's derivative times the branch's product. -/
def dgpB (x0 : Vec Ideal S4x512x256 .f32) (x1 : Vec Ideal S4x512x256 .bf16) (x2 : Vec Ideal S1x1x4x256x256 .bf16) (x3 : Vec Ideal S512x256 .f32) : Vec Ideal S4x512x256 .bf16 :=
  fun y => (x3 (ix2 (y 1) (y 2)) * ∑ k : Fin 256, (x1 (ix3 (y 0) (y 1) k) : EReal) * x2 (ix5 0 0 (y 0) k (y 2)))
    * (gateAt x0 (y 0) (y 1) (y 2) * (1 - gateAt x0 (y 0) (y 1) (y 2)))

/-- What one block adds to the branches' gradients. -/
def dbrB (x0 : Vec Ideal S4x512x256 .f32) (x2 : Vec Ideal S1x1x4x256x256 .bf16) (x3 : Vec Ideal S512x256 .f32) : Vec Ideal S4x512x256 .f32 :=
  fun y => ∑ c : Fin 256, (gateAt x0 (y 0) (y 1) c * x3 (ix2 (y 1) c)) * x2 (ix5 0 0 (y 0) (y 2) c)

/-- What one block adds to the weights' gradients of its column block. -/
def dwB (x0 : Vec Ideal S4x512x256 .f32) (x1 : Vec Ideal S4x512x256 .bf16) (x3 : Vec Ideal S512x256 .f32) (n : Fin 4) (k c : Fin 256) : EReal :=
  ∑ r : Fin 512, x1 (ix3 n r k) * (gateAt x0 n r c * x3 (ix2 r c))

/-- Branch 0's gate gradient at an index. -/
theorem dgp_0 (x0 : Vec Ideal S4x512x256 .f32) (x1 : Vec Ideal S4x512x256 .bf16) (x2 : Vec Ideal S1x1x4x256x256 .bf16) (x3 : Vec Ideal S512x256 .f32) (r : Fin 512) (c : Fin 256) :
    k0_pay47 (k0_pay46 (k0_pay16 (k0_pay3 (slabOf x0 0))) (k0_pay17 (k0_pay7 (slabOf x1 0)) (k0_pay11 (matOf x2 0))) (k0_pay27 x3)) (ix3 0 r c) = dgpB x0 x1 x2 x3 (ix3 0 r c) := by
  pointwise [k0_pay3, k0_pay7, k0_pay11, k0_pay16, k0_pay17, k0_pay27, k0_pay46, k0_pay47, k0_pay15, k0_pay18, k0_pay21, k0_pay24, k0_pay28, k0_pay12, k0_pay13, k0_pay14, k0_pay33, k0_pay37, k0_pay41, k0_pay29, dgpB, gateAt, slabOf, matOf]

/-- Branch 1's gate gradient at an index. -/
theorem dgp_1 (x0 : Vec Ideal S4x512x256 .f32) (x1 : Vec Ideal S4x512x256 .bf16) (x2 : Vec Ideal S1x1x4x256x256 .bf16) (x3 : Vec Ideal S512x256 .f32) (r : Fin 512) (c : Fin 256) :
    k0_pay50 (k0_pay40 (k0_pay19 (k0_pay4 (slabOf x0 1))) (k0_pay20 (k0_pay8 (slabOf x1 1)) (matOf x2 1)) (k0_pay27 x3)) (ix3 0 r c) = dgpB x0 x1 x2 x3 (ix3 1 r c) := by
  pointwise [k0_pay4, k0_pay8, k0_pay19, k0_pay20, k0_pay27, k0_pay40, k0_pay50, k0_pay15, k0_pay18, k0_pay21, k0_pay24, k0_pay28, k0_pay12, k0_pay13, k0_pay14, k0_pay33, k0_pay37, k0_pay41, k0_pay29, dgpB, gateAt, slabOf, matOf]

/-- Branch 2's gate gradient at an index. -/
theorem dgp_2 (x0 : Vec Ideal S4x512x256 .f32) (x1 : Vec Ideal S4x512x256 .bf16) (x2 : Vec Ideal S1x1x4x256x256 .bf16) (x3 : Vec Ideal S512x256 .f32) (r : Fin 512) (c : Fin 256) :
    k0_pay53 (k0_pay36 (k0_pay22 (k0_pay5 (slabOf x0 2))) (k0_pay23 (k0_pay9 (slabOf x1 2)) (matOf x2 2)) (k0_pay27 x3)) (ix3 0 r c) = dgpB x0 x1 x2 x3 (ix3 2 r c) := by
  pointwise [k0_pay5, k0_pay9, k0_pay22, k0_pay23, k0_pay27, k0_pay36, k0_pay53, k0_pay15, k0_pay18, k0_pay21, k0_pay24, k0_pay28, k0_pay12, k0_pay13, k0_pay14, k0_pay33, k0_pay37, k0_pay41, k0_pay29, dgpB, gateAt, slabOf, matOf]

/-- Branch 3's gate gradient at an index. -/
theorem dgp_3 (x0 : Vec Ideal S4x512x256 .f32) (x1 : Vec Ideal S4x512x256 .bf16) (x2 : Vec Ideal S1x1x4x256x256 .bf16) (x3 : Vec Ideal S512x256 .f32) (r : Fin 512) (c : Fin 256) :
    k0_pay56 (k0_pay32 (k0_pay25 (k0_pay6 (slabOf x0 3))) (k0_pay26 (k0_pay10 (slabOf x1 3)) (matOf x2 3)) (k0_pay28 x3)) (ix3 0 r c) = dgpB x0 x1 x2 x3 (ix3 3 r c) := by
  pointwise [k0_pay6, k0_pay10, k0_pay25, k0_pay26, k0_pay28, k0_pay32, k0_pay56, k0_pay15, k0_pay18, k0_pay21, k0_pay24, k0_pay12, k0_pay13, k0_pay14, k0_pay33, k0_pay37, k0_pay41, k0_pay29, dgpB, gateAt, slabOf, matOf]

/-- Branch 0's gradient at an index: what was there and the block's sum. -/
theorem dbr_0 (x0 : Vec Ideal S4x512x256 .f32) (x2 : Vec Ideal S1x1x4x256x256 .bf16) (x3 : Vec Ideal S512x256 .f32) (w : Vec Ideal S1x512x256 .f32) (r : Fin 512) (k : Fin 256) :
    k0_pay48 (k0_pay42 (k0_pay11 (matOf x2 0)) (k0_pay15 (k0_pay3 (slabOf x0 0))) (k0_pay27 x3)) w (ix3 0 r k) = w (ix3 0 r k) + dbrB x0 x2 x3 (ix3 0 r k) := by
  pointwise [k0_pay3, k0_pay11, k0_pay15, k0_pay27, k0_pay42, k0_pay48, k0_pay18, k0_pay21, k0_pay24, k0_pay28, k0_pay12, k0_pay13, k0_pay14, k0_pay33, k0_pay37, k0_pay41, k0_pay29, dbrB, gateAt, slabOf, matOf]

/-- Branch 1's gradient at an index: what was there and the block's sum. -/
theorem dbr_1 (x0 : Vec Ideal S4x512x256 .f32) (x2 : Vec Ideal S1x1x4x256x256 .bf16) (x3 : Vec Ideal S512x256 .f32) (w : Vec Ideal S1x512x256 .f32) (r : Fin 512) (k : Fin 256) :
    k0_pay51 (k0_pay38 (k0_pay12 (matOf x2 1)) (k0_pay18 (k0_pay4 (slabOf x0 1))) (k0_pay27 x3)) w (ix3 0 r k) = w (ix3 0 r k) + dbrB x0 x2 x3 (ix3 1 r k) := by
  pointwise [k0_pay4, k0_pay12, k0_pay18, k0_pay27, k0_pay38, k0_pay51, k0_pay15, k0_pay21, k0_pay24, k0_pay28, k0_pay13, k0_pay14, k0_pay33, k0_pay37, k0_pay41, k0_pay29, dbrB, gateAt, slabOf, matOf]

/-- Branch 2's gradient at an index: what was there and the block's sum. -/
theorem dbr_2 (x0 : Vec Ideal S4x512x256 .f32) (x2 : Vec Ideal S1x1x4x256x256 .bf16) (x3 : Vec Ideal S512x256 .f32) (w : Vec Ideal S1x512x256 .f32) (r : Fin 512) (k : Fin 256) :
    k0_pay54 (k0_pay34 (k0_pay13 (matOf x2 2)) (k0_pay21 (k0_pay5 (slabOf x0 2))) (k0_pay27 x3)) w (ix3 0 r k) = w (ix3 0 r k) + dbrB x0 x2 x3 (ix3 2 r k) := by
  pointwise [k0_pay5, k0_pay13, k0_pay21, k0_pay27, k0_pay34, k0_pay54, k0_pay15, k0_pay18, k0_pay24, k0_pay28, k0_pay12, k0_pay14, k0_pay33, k0_pay37, k0_pay41, k0_pay29, dbrB, gateAt, slabOf, matOf]

/-- Branch 3's gradient at an index: what was there and the block's sum. -/
theorem dbr_3 (x0 : Vec Ideal S4x512x256 .f32) (x2 : Vec Ideal S1x1x4x256x256 .bf16) (x3 : Vec Ideal S512x256 .f32) (w : Vec Ideal S1x512x256 .f32) (r : Fin 512) (k : Fin 256) :
    k0_pay1 (k0_pay57 (k0_pay30 (k0_pay14 (matOf x2 3)) (k0_pay29 (k0_pay6 (slabOf x0 3)) x3)) w) (ix3 0 r k) = w (ix3 0 r k) + dbrB x0 x2 x3 (ix3 3 r k) := by
  pointwise [k0_pay1, k0_pay6, k0_pay14, k0_pay29, k0_pay30, k0_pay57, k0_pay15, k0_pay18, k0_pay21, k0_pay24, k0_pay28, k0_pay12, k0_pay13, k0_pay33, k0_pay37, k0_pay41, dbrB, gateAt, slabOf, matOf]

/-- Branch 0's weight gradient at an index: what was there and the block's sum. -/
theorem dw_0 (x0 : Vec Ideal S4x512x256 .f32) (x1 : Vec Ideal S4x512x256 .bf16) (x3 : Vec Ideal S512x256 .f32) (w : Vec Ideal S1x1x256x256 .f32) (k c : Fin 256) :
    k0_pay49 (k0_pay43 (k0_pay7 (slabOf x1 0)) (k0_pay15 (k0_pay3 (slabOf x0 0))) (k0_pay27 x3)) w (ix4 0 0 k c) = w (ix4 0 0 k c) + dwB x0 x1 x3 0 k c := by
  pointwise [k0_pay3, k0_pay7, k0_pay15, k0_pay27, k0_pay43, k0_pay49, k0_pay18, k0_pay21, k0_pay24, k0_pay28, k0_pay12, k0_pay13, k0_pay14, k0_pay33, k0_pay37, k0_pay41, k0_pay29, dwB, gateAt, slabOf]

/-- Branch 1's weight gradient at an index: what was there and the block's sum. -/
theorem dw_1 (x0 : Vec Ideal S4x512x256 .f32) (x1 : Vec Ideal S4x512x256 .bf16) (x3 : Vec Ideal S512x256 .f32) (w : Vec Ideal S1x1x256x256 .f32) (k c : Fin 256) :
    k0_pay52 (k0_pay39 (k0_pay8 (slabOf x1 1)) (k0_pay18 (k0_pay4 (slabOf x0 1))) (k0_pay27 x3)) w (ix4 0 0 k c) = w (ix4 0 0 k c) + dwB x0 x1 x3 1 k c := by
  pointwise [k0_pay4, k0_pay8, k0_pay18, k0_pay27, k0_pay39, k0_pay52, k0_pay15, k0_pay21, k0_pay24, k0_pay28, k0_pay12, k0_pay13, k0_pay14, k0_pay33, k0_pay37, k0_pay41, k0_pay29, dwB, gateAt, slabOf]

/-- Branch 2's weight gradient at an index: what was there and the block's sum. -/
theorem dw_2 (x0 : Vec Ideal S4x512x256 .f32) (x1 : Vec Ideal S4x512x256 .bf16) (x3 : Vec Ideal S512x256 .f32) (w : Vec Ideal S1x1x256x256 .f32) (k c : Fin 256) :
    k0_pay55 (k0_pay35 (k0_pay9 (slabOf x1 2)) (k0_pay21 (k0_pay5 (slabOf x0 2))) (k0_pay27 x3)) w (ix4 0 0 k c) = w (ix4 0 0 k c) + dwB x0 x1 x3 2 k c := by
  pointwise [k0_pay5, k0_pay9, k0_pay21, k0_pay27, k0_pay35, k0_pay55, k0_pay15, k0_pay18, k0_pay24, k0_pay28, k0_pay12, k0_pay13, k0_pay14, k0_pay33, k0_pay37, k0_pay41, k0_pay29, dwB, gateAt, slabOf]

/-- Branch 3's weight gradient at an index: what was there and the block's sum. -/
theorem dw_3 (x0 : Vec Ideal S4x512x256 .f32) (x1 : Vec Ideal S4x512x256 .bf16) (x3 : Vec Ideal S512x256 .f32) (w : Vec Ideal S1x1x256x256 .f32) (k c : Fin 256) :
    k0_pay2 (k0_pay31 (k0_pay10 (slabOf x1 3)) (k0_pay29 (k0_pay6 (slabOf x0 3)) x3)) w (ix4 0 0 k c) = w (ix4 0 0 k c) + dwB x0 x1 x3 3 k c := by
  pointwise [k0_pay2, k0_pay6, k0_pay10, k0_pay29, k0_pay31, k0_pay15, k0_pay18, k0_pay21, k0_pay24, k0_pay28, k0_pay12, k0_pay13, k0_pay14, k0_pay33, k0_pay37, k0_pay41, dwB, gateAt, slabOf]

/-- The four gate gradients, stacked. -/
theorem dgp_stack (x0 : Vec Ideal S4x512x256 .f32) (x1 : Vec Ideal S4x512x256 .bf16) (x2 : Vec Ideal S1x1x4x256x256 .bf16) (x3 : Vec Ideal S512x256 .f32) :
    dgpF x0 x1 x2 x3 = dgpB x0 x1 x2 x3 := by
  funext y
  obtain ⟨n, r, c, rfl⟩ : ∃ (n : Fin 4) (r : Fin 512) (c : Fin 256), y = ix3 n r c := ⟨y 0, y 1, y 2, eq_ix3 y⟩
  fin_cases n
  · exact dgp_0 x0 x1 x2 x3 r c
  · exact dgp_1 x0 x1 x2 x3 r c
  · exact dgp_2 x0 x1 x2 x3 r c
  · exact dgp_3 x0 x1 x2 x3 r c

/-- One step of the branches' gradients: what was there and the block's sums. -/
def dbrStep (x0 : Vec Ideal S4x512x256 .f32) (x2 : Vec Ideal S1x1x4x256x256 .bf16) (x3 : Vec Ideal S512x256 .f32) (o5 : Vec Ideal S4x512x256 .f32) : Vec Ideal S4x512x256 .f32 :=
  fun y => (o5 y : EReal) + dbrB x0 x2 x3 y

/-- One step of the weights' gradients: the block's sums are added at column block `s`. -/
def dwStep (s : Fin 4) (x0 : Vec Ideal S4x512x256 .f32) (x1 : Vec Ideal S4x512x256 .bf16) (x3 : Vec Ideal S512x256 .f32) (o6 : Vec Ideal S4x4x256x256 .f32) : Vec Ideal S4x4x256x256 .f32 :=
  fun y => if (y 0).val = s.val then (o6 y : EReal) + dwB x0 x1 x3 (y 1) (y 2) (y 3) else o6 y

/-- The four branch gradients, stacked. -/
theorem dbr_stack (x0 : Vec Ideal S4x512x256 .f32) (x2 : Vec Ideal S1x1x4x256x256 .bf16) (x3 : Vec Ideal S512x256 .f32) (o5 : Vec Ideal S4x512x256 .f32) :
    dbrF x0 x2 x3 o5 = dbrStep x0 x2 x3 o5 := by
  funext y
  obtain ⟨n, r, k, rfl⟩ : ∃ (n : Fin 4) (r : Fin 512) (k : Fin 256), y = ix3 n r k := ⟨y 0, y 1, y 2, eq_ix3 y⟩
  fin_cases n
  · exact dbr_0 x0 x2 x3 _ r k
  · exact dbr_1 x0 x2 x3 _ r k
  · exact dbr_2 x0 x2 x3 _ r k
  · exact dbr_3 x0 x2 x3 _ r k

/-- The four weight gradients of column block `s`, added in place. -/
theorem dw_slab (s : Fin 4) (x0 : Vec Ideal S4x512x256 .f32) (x1 : Vec Ideal S4x512x256 .bf16) (x3 : Vec Ideal S512x256 .f32) (o6 : Vec Ideal S4x4x256x256 .f32) :
    dwF s x0 x1 x3 o6 = dwStep s x0 x1 x3 o6 := by
  funext y
  obtain ⟨s', n, k, c, rfl⟩ : ∃ (s' : Fin 4) (n : Fin 4) (k : Fin 256) (c : Fin 256), y = ix4 s' n k c := ⟨y 0, y 1, y 2, y 3, eq_ix4 y⟩
  by_cases h : s' = s
  · subst h
    refine (if_pos rfl).trans (Eq.trans ?_ (if_pos rfl).symm)
    fin_cases n
    · exact dw_0 x0 x1 x3 _ k c
    · exact dw_1 x0 x1 x3 _ k c
    · exact dw_2 x0 x1 x3 _ k c
    · exact dw_3 x0 x1 x3 _ k c
  · have h' : ¬ s'.val = s.val := fun e => h (Fin.ext e)
    exact (if_neg h').trans (if_neg h').symm

end Cert.GateIdeal.Merge

end

end
-- ==== Proof.Gate.Body.lean ====
module

public import proofs.«01_k».proof.Proof.Gen.GateIdeal.Frame
public import proofs.«01_k».proof.Proof.Gen.GateIdeal.Skeleton
public import proofs.«01_k».proof.Proof.Gen.GateIdeal.Points
public import Idealize.ShloMosaic.Lib.Claim
public import Idealize.ShloMosaic.Lib.VecWindow
public import Idealize.ShloMosaic.Lib.WholeRead
public import proofs.«01_k».proof.Proof.Gate.Run
public import proofs.«01_k».proof.Proof.Gate.Pay

@[expose] public section

set_option maxRecDepth 16384

noncomputable section

namespace Cert.GateIdeal.Merge

open Cert.GateIdeal Cert.GateIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The window of a block of weights at branch `n` is that matrix. -/
theorem window_matOf {α : Type} (x : S1x1x4x256x256.Idx → α) (n : Fin 4) (inb) :
    VecWindow.window x ![0, 0, n.val, 0, 0] S1x1x1x256x256.size inb = matOf x n := by
  funext z
  refine congrArg x (funext fun a => Fin.ext ?_)
  have h0 : (z 0).val = 0 := by have h : (z 0).val < 1 := (z 0).isLt; omega
  have h1 : (z 1).val = 0 := by have h : (z 1).val < 1 := (z 1).isLt; omega
  have h2 : (z 2).val = 0 := by have h : (z 2).val < 1 := (z 2).isLt; omega
  fin_cases a
  · show 0 + 1 * (z 0).val = 0; omega
  · show 0 + 1 * (z 1).val = 0; omega
  · show n.val + 1 * (z 2).val = n.val; omega
  · show 0 + 1 * (z 3).val = (z 3).val; omega
  · show 0 + 1 * (z 4).val = (z 4).val; omega

set_option maxHeartbeats 1000000 in
/-- The body at the first grid point, where it clears both accumulators. -/
theorem run_A (c : Dev nD) (i : grid0.Coords) (arg2 : Memref sig .tc .vmem S4x512x256 .f32) (harg2 : arg2.IsWhole) (arg3 : Memref sig .tc .vmem S4x512x256 .bf16) (harg3 : arg3.IsWhole) (arg4 : Memref sig .tc .vmem S1x1x4x256x256 .bf16) (harg4 : arg4.IsWhole) (arg5 : Memref sig .tc .vmem S512x256 .f32) (harg5 : arg5.IsWhole) (arg6 : Memref sig .tc .vmem S4x512x256 .bf16) (harg6 : arg6.IsWhole) (arg7 : Memref sig .tc .vmem S4x512x256 .f32) (harg7 : arg7.IsWhole) (arg8 : Memref sig .tc .vmem S4x4x256x256 .f32) (harg8 : arg8.IsWhole) (hc0 : firstCol i) (hc1 : firstPt i)
    (x0 : Vec F S4x512x256 .f32) (x1 : Vec F S4x512x256 .bf16) (x2 : Vec F S1x1x4x256x256 .bf16) (x3 : Vec F S512x256 .f32) (o5 : Vec F S4x512x256 .f32) (o6 : Vec F S4x4x256x256 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare o5 ∗ owns (c : Thread nD τ) arg8 fullShare o6
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (dgpF x0 x1 x2 x3) ∗ owns (c : Thread nD τ) arg7 fullShare (dbrF x0 x2 x3 (k0_pay44 (F := F)))
                ∗ owns (c : Thread nD τ) arg8 fullShare (dwF (colBlk i) x0 x1 x3 (k0_pay45 (F := F)))) -∗ K ⟨⟩))
          ⊢ wp frame (wpE (defs₀ (F := F)) Variants.none c none) E (cc0_gate_bwd i arg2 harg2 arg3 harg3 arg4 harg4 arg5 harg5 arg6 harg6 arg7 harg7 arg8 harg8) K := by
    simp only [cc0_gate_bwd_eq_skeleton]; unfold cc0_gate_bwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, H4, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hf6
    sl_exec (disch := first | sl_exact hc0 | sl_exact hc1)
    have ldg0 : View.readAt (Elt F) arg2.view (Rect.unit (s := S4x512x256) ![0, 0, 0] S1x512x256.size inb_S4x512x256_S1x512x256_0_0_0).toLoadRect (harg2.unread x0) = slabOf x0 0 := by
      rw [View.readAt_unit _ _ _ rfl inb_S4x512x256_S1x512x256_0_0_0, harg2.read_unread]; exact window_slabOf x0 0 _
    have ldb0 : View.readAt (Elt F) arg3.view (Rect.unit (s := S4x512x256) ![0, 0, 0] S1x512x256.size inb_S4x512x256_S1x512x256_0_0_0).toLoadRect (harg3.unread x1) = slabOf x1 0 := by
      rw [View.readAt_unit _ _ _ rfl inb_S4x512x256_S1x512x256_0_0_0, harg3.read_unread]; exact window_slabOf x1 0 _
    have ldw0 : View.readAt (Elt F) arg4.view (Rect.unit (s := S1x1x4x256x256) ![0, 0, 0, 0, 0] S1x1x1x256x256.size inb_S1x1x4x256x256_S1x1x1x256x256_0_0_0_0_0).toLoadRect (harg4.unread x2) = matOf x2 0 := by
      rw [View.readAt_unit _ _ _ rfl inb_S1x1x4x256x256_S1x1x1x256x256_0_0_0_0_0, harg4.read_unread]; exact window_matOf x2 0 _
    have ldg1 : View.readAt (Elt F) arg2.view (Rect.unit (s := S4x512x256) ![1, 0, 0] S1x512x256.size inb_S4x512x256_S1x512x256_1_0_0).toLoadRect (harg2.unread x0) = slabOf x0 1 := by
      rw [View.readAt_unit _ _ _ rfl inb_S4x512x256_S1x512x256_1_0_0, harg2.read_unread]; exact window_slabOf x0 1 _
    have ldb1 : View.readAt (Elt F) arg3.view (Rect.unit (s := S4x512x256) ![1, 0, 0] S1x512x256.size inb_S4x512x256_S1x512x256_1_0_0).toLoadRect (harg3.unread x1) = slabOf x1 1 := by
      rw [View.readAt_unit _ _ _ rfl inb_S4x512x256_S1x512x256_1_0_0, harg3.read_unread]; exact window_slabOf x1 1 _
    have ldw1 : View.readAt (Elt F) arg4.view (Rect.unit (s := S1x1x4x256x256) ![0, 0, 1, 0, 0] S1x1x1x256x256.size inb_S1x1x4x256x256_S1x1x1x256x256_0_0_1_0_0).toLoadRect (harg4.unread x2) = matOf x2 1 := by
      rw [View.readAt_unit _ _ _ rfl inb_S1x1x4x256x256_S1x1x1x256x256_0_0_1_0_0, harg4.read_unread]; exact window_matOf x2 1 _
    have ldg2 : View.readAt (Elt F) arg2.view (Rect.unit (s := S4x512x256) ![2, 0, 0] S1x512x256.size inb_S4x512x256_S1x512x256_2_0_0).toLoadRect (harg2.unread x0) = slabOf x0 2 := by
      rw [View.readAt_unit _ _ _ rfl inb_S4x512x256_S1x512x256_2_0_0, harg2.read_unread]; exact window_slabOf x0 2 _
    have ldb2 : View.readAt (Elt F) arg3.view (Rect.unit (s := S4x512x256) ![2, 0, 0] S1x512x256.size inb_S4x512x256_S1x512x256_2_0_0).toLoadRect (harg3.unread x1) = slabOf x1 2 := by
      rw [View.readAt_unit _ _ _ rfl inb_S4x512x256_S1x512x256_2_0_0, harg3.read_unread]; exact window_slabOf x1 2 _
    have ldw2 : View.readAt (Elt F) arg4.view (Rect.unit (s := S1x1x4x256x256) ![0, 0, 2, 0, 0] S1x1x1x256x256.size inb_S1x1x4x256x256_S1x1x1x256x256_0_0_2_0_0).toLoadRect (harg4.unread x2) = matOf x2 2 := by
      rw [View.readAt_unit _ _ _ rfl inb_S1x1x4x256x256_S1x1x1x256x256_0_0_2_0_0, harg4.read_unread]; exact window_matOf x2 2 _
    have ldg3 : View.readAt (Elt F) arg2.view (Rect.unit (s := S4x512x256) ![3, 0, 0] S1x512x256.size inb_S4x512x256_S1x512x256_3_0_0).toLoadRect (harg2.unread x0) = slabOf x0 3 := by
      rw [View.readAt_unit _ _ _ rfl inb_S4x512x256_S1x512x256_3_0_0, harg2.read_unread]; exact window_slabOf x0 3 _
    have ldb3 : View.readAt (Elt F) arg3.view (Rect.unit (s := S4x512x256) ![3, 0, 0] S1x512x256.size inb_S4x512x256_S1x512x256_3_0_0).toLoadRect (harg3.unread x1) = slabOf x1 3 := by
      rw [View.readAt_unit _ _ _ rfl inb_S4x512x256_S1x512x256_3_0_0, harg3.read_unread]; exact window_slabOf x1 3 _
    have ldw3 : View.readAt (Elt F) arg4.view (Rect.unit (s := S1x1x4x256x256) ![0, 0, 3, 0, 0] S1x1x1x256x256.size inb_S1x1x4x256x256_S1x1x1x256x256_0_0_3_0_0).toLoadRect (harg4.unread x2) = matOf x2 3 := by
      rw [View.readAt_unit _ _ _ rfl inb_S1x1x4x256x256_S1x1x1x256x256_0_0_3_0_0, harg4.read_unread]; exact window_matOf x2 3 _
    have ldm : View.readAt (Elt F) arg5.view (Rect.unit (s := S512x256) ![0, 0] S512x256.size inb_S512x256_S512x256_0_0).toLoadRect (harg5.unread x3) = x3 := by
      rw [View.readAt_full, harg5.read_unread]
    iapply (run_tail (F := F) c i arg2 harg2 arg3 harg3 arg4 harg4 arg5 harg5 arg6 harg6 arg7 harg7 arg8 harg8
      (k0_pay30 (k0_pay14 (View.readAt (Elt F) arg4.view (Rect.unit (s := S1x1x4x256x256) ![0, 0, 3, 0, 0] S1x1x1x256x256.size inb_S1x1x4x256x256_S1x1x1x256x256_0_0_3_0_0).toLoadRect (harg4.unread x2))) (k0_pay29 (k0_pay6 (View.readAt (Elt F) arg2.view (Rect.unit (s := S4x512x256) ![3, 0, 0] S1x512x256.size inb_S4x512x256_S1x512x256_3_0_0).toLoadRect (harg2.unread x0))) (View.readAt (Elt F) arg5.view (Rect.unit (s := S512x256) ![0, 0] S512x256.size inb_S512x256_S512x256_0_0).toLoadRect (harg5.unread x3))))
      (k0_pay31 (k0_pay10 (View.readAt (Elt F) arg3.view (Rect.unit (s := S4x512x256) ![3, 0, 0] S1x512x256.size inb_S4x512x256_S1x512x256_3_0_0).toLoadRect (harg3.unread x1))) (k0_pay29 (k0_pay6 (View.readAt (Elt F) arg2.view (Rect.unit (s := S4x512x256) ![3, 0, 0] S1x512x256.size inb_S4x512x256_S1x512x256_3_0_0).toLoadRect (harg2.unread x0))) (View.readAt (Elt F) arg5.view (Rect.unit (s := S512x256) ![0, 0] S512x256.size inb_S512x256_S512x256_0_0).toLoadRect (harg5.unread x3))))
      (k0_pay32 (k0_pay25 (k0_pay6 (View.readAt (Elt F) arg2.view (Rect.unit (s := S4x512x256) ![3, 0, 0] S1x512x256.size inb_S4x512x256_S1x512x256_3_0_0).toLoadRect (harg2.unread x0)))) (k0_pay26 (k0_pay10 (View.readAt (Elt F) arg3.view (Rect.unit (s := S4x512x256) ![3, 0, 0] S1x512x256.size inb_S4x512x256_S1x512x256_3_0_0).toLoadRect (harg3.unread x1))) (View.readAt (Elt F) arg4.view (Rect.unit (s := S1x1x4x256x256) ![0, 0, 3, 0, 0] S1x1x1x256x256.size inb_S1x1x4x256x256_S1x1x1x256x256_0_0_3_0_0).toLoadRect (harg4.unread x2))) (k0_pay28 (View.readAt (Elt F) arg5.view (Rect.unit (s := S512x256) ![0, 0] S512x256.size inb_S512x256_S512x256_0_0).toLoadRect (harg5.unread x3))))
      (k0_pay34 (k0_pay13 (View.readAt (Elt F) arg4.view (Rect.unit (s := S1x1x4x256x256) ![0, 0, 2, 0, 0] S1x1x1x256x256.size inb_S1x1x4x256x256_S1x1x1x256x256_0_0_2_0_0).toLoadRect (harg4.unread x2))) (k0_pay21 (k0_pay5 (View.readAt (Elt F) arg2.view (Rect.unit (s := S4x512x256) ![2, 0, 0] S1x512x256.size inb_S4x512x256_S1x512x256_2_0_0).toLoadRect (harg2.unread x0)))) (k0_pay27 (View.readAt (Elt F) arg5.view (Rect.unit (s := S512x256) ![0, 0] S512x256.size inb_S512x256_S512x256_0_0).toLoadRect (harg5.unread x3))))
      (k0_pay35 (k0_pay9 (View.readAt (Elt F) arg3.view (Rect.unit (s := S4x512x256) ![2, 0, 0] S1x512x256.size inb_S4x512x256_S1x512x256_2_0_0).toLoadRect (harg3.unread x1))) (k0_pay21 (k0_pay5 (View.readAt (Elt F) arg2.view (Rect.unit (s := S4x512x256) ![2, 0, 0] S1x512x256.size inb_S4x512x256_S1x512x256_2_0_0).toLoadRect (harg2.unread x0)))) (k0_pay27 (View.readAt (Elt F) arg5.view (Rect.unit (s := S512x256) ![0, 0] S512x256.size inb_S512x256_S512x256_0_0).toLoadRect (harg5.unread x3))))
      (k0_pay36 (k0_pay22 (k0_pay5 (View.readAt (Elt F) arg2.view (Rect.unit (s := S4x512x256) ![2, 0, 0] S1x512x256.size inb_S4x512x256_S1x512x256_2_0_0).toLoadRect (harg2.unread x0)))) (k0_pay23 (k0_pay9 (View.readAt (Elt F) arg3.view (Rect.unit (s := S4x512x256) ![2, 0, 0] S1x512x256.size inb_S4x512x256_S1x512x256_2_0_0).toLoadRect (harg3.unread x1))) (View.readAt (Elt F) arg4.view (Rect.unit (s := S1x1x4x256x256) ![0, 0, 2, 0, 0] S1x1x1x256x256.size inb_S1x1x4x256x256_S1x1x1x256x256_0_0_2_0_0).toLoadRect (harg4.unread x2))) (k0_pay27 (View.readAt (Elt F) arg5.view (Rect.unit (s := S512x256) ![0, 0] S512x256.size inb_S512x256_S512x256_0_0).toLoadRect (harg5.unread x3))))
      (k0_pay38 (k0_pay12 (View.readAt (Elt F) arg4.view (Rect.unit (s := S1x1x4x256x256) ![0, 0, 1, 0, 0] S1x1x1x256x256.size inb_S1x1x4x256x256_S1x1x1x256x256_0_0_1_0_0).toLoadRect (harg4.unread x2))) (k0_pay18 (k0_pay4 (View.readAt (Elt F) arg2.view (Rect.unit (s := S4x512x256) ![1, 0, 0] S1x512x256.size inb_S4x512x256_S1x512x256_1_0_0).toLoadRect (harg2.unread x0)))) (k0_pay27 (View.readAt (Elt F) arg5.view (Rect.unit (s := S512x256) ![0, 0] S512x256.size inb_S512x256_S512x256_0_0).toLoadRect (harg5.unread x3))))
      (k0_pay39 (k0_pay8 (View.readAt (Elt F) arg3.view (Rect.unit (s := S4x512x256) ![1, 0, 0] S1x512x256.size inb_S4x512x256_S1x512x256_1_0_0).toLoadRect (harg3.unread x1))) (k0_pay18 (k0_pay4 (View.readAt (Elt F) arg2.view (Rect.unit (s := S4x512x256) ![1, 0, 0] S1x512x256.size inb_S4x512x256_S1x512x256_1_0_0).toLoadRect (harg2.unread x0)))) (k0_pay27 (View.readAt (Elt F) arg5.view (Rect.unit (s := S512x256) ![0, 0] S512x256.size inb_S512x256_S512x256_0_0).toLoadRect (harg5.unread x3))))
      (k0_pay40 (k0_pay19 (k0_pay4 (View.readAt (Elt F) arg2.view (Rect.unit (s := S4x512x256) ![1, 0, 0] S1x512x256.size inb_S4x512x256_S1x512x256_1_0_0).toLoadRect (harg2.unread x0)))) (k0_pay20 (k0_pay8 (View.readAt (Elt F) arg3.view (Rect.unit (s := S4x512x256) ![1, 0, 0] S1x512x256.size inb_S4x512x256_S1x512x256_1_0_0).toLoadRect (harg3.unread x1))) (View.readAt (Elt F) arg4.view (Rect.unit (s := S1x1x4x256x256) ![0, 0, 1, 0, 0] S1x1x1x256x256.size inb_S1x1x4x256x256_S1x1x1x256x256_0_0_1_0_0).toLoadRect (harg4.unread x2))) (k0_pay27 (View.readAt (Elt F) arg5.view (Rect.unit (s := S512x256) ![0, 0] S512x256.size inb_S512x256_S512x256_0_0).toLoadRect (harg5.unread x3))))
      (k0_pay42 (k0_pay11 (View.readAt (Elt F) arg4.view (Rect.unit (s := S1x1x4x256x256) ![0, 0, 0, 0, 0] S1x1x1x256x256.size inb_S1x1x4x256x256_S1x1x1x256x256_0_0_0_0_0).toLoadRect (harg4.unread x2))) (k0_pay15 (k0_pay3 (View.readAt (Elt F) arg2.view (Rect.unit (s := S4x512x256) ![0, 0, 0] S1x512x256.size inb_S4x512x256_S1x512x256_0_0_0).toLoadRect (harg2.unread x0)))) (k0_pay27 (View.readAt (Elt F) arg5.view (Rect.unit (s := S512x256) ![0, 0] S512x256.size inb_S512x256_S512x256_0_0).toLoadRect (harg5.unread x3))))
      (k0_pay43 (k0_pay7 (View.readAt (Elt F) arg3.view (Rect.unit (s := S4x512x256) ![0, 0, 0] S1x512x256.size inb_S4x512x256_S1x512x256_0_0_0).toLoadRect (harg3.unread x1))) (k0_pay15 (k0_pay3 (View.readAt (Elt F) arg2.view (Rect.unit (s := S4x512x256) ![0, 0, 0] S1x512x256.size inb_S4x512x256_S1x512x256_0_0_0).toLoadRect (harg2.unread x0)))) (k0_pay27 (View.readAt (Elt F) arg5.view (Rect.unit (s := S512x256) ![0, 0] S512x256.size inb_S512x256_S512x256_0_0).toLoadRect (harg5.unread x3))))
      (k0_pay46 (k0_pay16 (k0_pay3 (View.readAt (Elt F) arg2.view (Rect.unit (s := S4x512x256) ![0, 0, 0] S1x512x256.size inb_S4x512x256_S1x512x256_0_0_0).toLoadRect (harg2.unread x0)))) (k0_pay17 (k0_pay7 (View.readAt (Elt F) arg3.view (Rect.unit (s := S4x512x256) ![0, 0, 0] S1x512x256.size inb_S4x512x256_S1x512x256_0_0_0).toLoadRect (harg3.unread x1))) (k0_pay11 (View.readAt (Elt F) arg4.view (Rect.unit (s := S1x1x4x256x256) ![0, 0, 0, 0, 0] S1x1x1x256x256.size inb_S1x1x4x256x256_S1x1x1x256x256_0_0_0_0_0).toLoadRect (harg4.unread x2)))) (k0_pay27 (View.readAt (Elt F) arg5.view (Rect.unit (s := S512x256) ![0, 0] S512x256.size inb_S512x256_S512x256_0_0).toLoadRect (harg5.unread x3))))
      (k0_pay44 (F := F)) (k0_pay45 (F := F)) E K)
    rw [ldg0, ldg1, ldg2, ldg3, ldb0, ldb1, ldb2, ldb3, ldw0, ldw1, ldw2, ldw3, ldm]
    unfold owns dgpF dbrF dwF
    isplitl [H4]
    · iexact H4
    isplitl [H5]
    · iexists _; isplitr; swap; · iexact H5
      ipureintro; exact View.read_writes_full _ _ _ _ _
    isplitl [H6]
    · iexists _; isplitr; swap; · iexact H6
      ipureintro; exact View.read_writes_full _ _ _ _ _
    iintro ⟨H4, H5, H6⟩
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexact H4
    isplitl [H5]; · iexact H5
    iexact H6

set_option maxHeartbeats 1000000 in
/-- The body at the first column block of a later row tile, where it clears the branches' gradients. -/
theorem run_C (c : Dev nD) (i : grid0.Coords) (arg2 : Memref sig .tc .vmem S4x512x256 .f32) (harg2 : arg2.IsWhole) (arg3 : Memref sig .tc .vmem S4x512x256 .bf16) (harg3 : arg3.IsWhole) (arg4 : Memref sig .tc .vmem S1x1x4x256x256 .bf16) (harg4 : arg4.IsWhole) (arg5 : Memref sig .tc .vmem S512x256 .f32) (harg5 : arg5.IsWhole) (arg6 : Memref sig .tc .vmem S4x512x256 .bf16) (harg6 : arg6.IsWhole) (arg7 : Memref sig .tc .vmem S4x512x256 .f32) (harg7 : arg7.IsWhole) (arg8 : Memref sig .tc .vmem S4x4x256x256 .f32) (harg8 : arg8.IsWhole) (hc0 : firstCol i) (hc1 : ¬ firstPt i)
    (x0 : Vec F S4x512x256 .f32) (x1 : Vec F S4x512x256 .bf16) (x2 : Vec F S1x1x4x256x256 .bf16) (x3 : Vec F S512x256 .f32) (o5 : Vec F S4x512x256 .f32) (o6 : Vec F S4x4x256x256 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare o5 ∗ owns (c : Thread nD τ) arg8 fullShare o6
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (dgpF x0 x1 x2 x3) ∗ owns (c : Thread nD τ) arg7 fullShare (dbrF x0 x2 x3 (k0_pay44 (F := F)))
                ∗ owns (c : Thread nD τ) arg8 fullShare (dwF (colBlk i) x0 x1 x3 o6)) -∗ K ⟨⟩))
          ⊢ wp frame (wpE (defs₀ (F := F)) Variants.none c none) E (cc0_gate_bwd i arg2 harg2 arg3 harg3 arg4 harg4 arg5 harg5 arg6 harg6 arg7 harg7 arg8 harg8) K := by
    simp only [cc0_gate_bwd_eq_skeleton]; unfold cc0_gate_bwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, H4, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hf6
    sl_exec (disch := first | sl_exact hc0 | sl_exact hc1)
    have ldg0 : View.readAt (Elt F) arg2.view (Rect.unit (s := S4x512x256) ![0, 0, 0] S1x512x256.size inb_S4x512x256_S1x512x256_0_0_0).toLoadRect (harg2.unread x0) = slabOf x0 0 := by
      rw [View.readAt_unit _ _ _ rfl inb_S4x512x256_S1x512x256_0_0_0, harg2.read_unread]; exact window_slabOf x0 0 _
    have ldb0 : View.readAt (Elt F) arg3.view (Rect.unit (s := S4x512x256) ![0, 0, 0] S1x512x256.size inb_S4x512x256_S1x512x256_0_0_0).toLoadRect (harg3.unread x1) = slabOf x1 0 := by
      rw [View.readAt_unit _ _ _ rfl inb_S4x512x256_S1x512x256_0_0_0, harg3.read_unread]; exact window_slabOf x1 0 _
    have ldw0 : View.readAt (Elt F) arg4.view (Rect.unit (s := S1x1x4x256x256) ![0, 0, 0, 0, 0] S1x1x1x256x256.size inb_S1x1x4x256x256_S1x1x1x256x256_0_0_0_0_0).toLoadRect (harg4.unread x2) = matOf x2 0 := by
      rw [View.readAt_unit _ _ _ rfl inb_S1x1x4x256x256_S1x1x1x256x256_0_0_0_0_0, harg4.read_unread]; exact window_matOf x2 0 _
    have ldg1 : View.readAt (Elt F) arg2.view (Rect.unit (s := S4x512x256) ![1, 0, 0] S1x512x256.size inb_S4x512x256_S1x512x256_1_0_0).toLoadRect (harg2.unread x0) = slabOf x0 1 := by
      rw [View.readAt_unit _ _ _ rfl inb_S4x512x256_S1x512x256_1_0_0, harg2.read_unread]; exact window_slabOf x0 1 _
    have ldb1 : View.readAt (Elt F) arg3.view (Rect.unit (s := S4x512x256) ![1, 0, 0] S1x512x256.size inb_S4x512x256_S1x512x256_1_0_0).toLoadRect (harg3.unread x1) = slabOf x1 1 := by
      rw [View.readAt_unit _ _ _ rfl inb_S4x512x256_S1x512x256_1_0_0, harg3.read_unread]; exact window_slabOf x1 1 _
    have ldw1 : View.readAt (Elt F) arg4.view (Rect.unit (s := S1x1x4x256x256) ![0, 0, 1, 0, 0] S1x1x1x256x256.size inb_S1x1x4x256x256_S1x1x1x256x256_0_0_1_0_0).toLoadRect (harg4.unread x2) = matOf x2 1 := by
      rw [View.readAt_unit _ _ _ rfl inb_S1x1x4x256x256_S1x1x1x256x256_0_0_1_0_0, harg4.read_unread]; exact window_matOf x2 1 _
    have ldg2 : View.readAt (Elt F) arg2.view (Rect.unit (s := S4x512x256) ![2, 0, 0] S1x512x256.size inb_S4x512x256_S1x512x256_2_0_0).toLoadRect (harg2.unread x0) = slabOf x0 2 := by
      rw [View.readAt_unit _ _ _ rfl inb_S4x512x256_S1x512x256_2_0_0, harg2.read_unread]; exact window_slabOf x0 2 _
    have ldb2 : View.readAt (Elt F) arg3.view (Rect.unit (s := S4x512x256) ![2, 0, 0] S1x512x256.size inb_S4x512x256_S1x512x256_2_0_0).toLoadRect (harg3.unread x1) = slabOf x1 2 := by
      rw [View.readAt_unit _ _ _ rfl inb_S4x512x256_S1x512x256_2_0_0, harg3.read_unread]; exact window_slabOf x1 2 _
    have ldw2 : View.readAt (Elt F) arg4.view (Rect.unit (s := S1x1x4x256x256) ![0, 0, 2, 0, 0] S1x1x1x256x256.size inb_S1x1x4x256x256_S1x1x1x256x256_0_0_2_0_0).toLoadRect (harg4.unread x2) = matOf x2 2 := by
      rw [View.readAt_unit _ _ _ rfl inb_S1x1x4x256x256_S1x1x1x256x256_0_0_2_0_0, harg4.read_unread]; exact window_matOf x2 2 _
    have ldg3 : View.readAt (Elt F) arg2.view (Rect.unit (s := S4x512x256) ![3, 0, 0] S1x512x256.size inb_S4x512x256_S1x512x256_3_0_0).toLoadRect (harg2.unread x0) = slabOf x0 3 := by
      rw [View.readAt_unit _ _ _ rfl inb_S4x512x256_S1x512x256_3_0_0, harg2.read_unread]; exact window_slabOf x0 3 _
    have ldb3 : View.readAt (Elt F) arg3.view (Rect.unit (s := S4x512x256) ![3, 0, 0] S1x512x256.size inb_S4x512x256_S1x512x256_3_0_0).toLoadRect (harg3.unread x1) = slabOf x1 3 := by
      rw [View.readAt_unit _ _ _ rfl inb_S4x512x256_S1x512x256_3_0_0, harg3.read_unread]; exact window_slabOf x1 3 _
    have ldw3 : View.readAt (Elt F) arg4.view (Rect.unit (s := S1x1x4x256x256) ![0, 0, 3, 0, 0] S1x1x1x256x256.size inb_S1x1x4x256x256_S1x1x1x256x256_0_0_3_0_0).toLoadRect (harg4.unread x2) = matOf x2 3 := by
      rw [View.readAt_unit _ _ _ rfl inb_S1x1x4x256x256_S1x1x1x256x256_0_0_3_0_0, harg4.read_unread]; exact window_matOf x2 3 _
    have ldm : View.readAt (Elt F) arg5.view (Rect.unit (s := S512x256) ![0, 0] S512x256.size inb_S512x256_S512x256_0_0).toLoadRect (harg5.unread x3) = x3 := by
      rw [View.readAt_full, harg5.read_unread]
    iapply (run_tail (F := F) c i arg2 harg2 arg3 harg3 arg4 harg4 arg5 harg5 arg6 harg6 arg7 harg7 arg8 harg8
      (k0_pay30 (k0_pay14 (View.readAt (Elt F) arg4.view (Rect.unit (s := S1x1x4x256x256) ![0, 0, 3, 0, 0] S1x1x1x256x256.size inb_S1x1x4x256x256_S1x1x1x256x256_0_0_3_0_0).toLoadRect (harg4.unread x2))) (k0_pay29 (k0_pay6 (View.readAt (Elt F) arg2.view (Rect.unit (s := S4x512x256) ![3, 0, 0] S1x512x256.size inb_S4x512x256_S1x512x256_3_0_0).toLoadRect (harg2.unread x0))) (View.readAt (Elt F) arg5.view (Rect.unit (s := S512x256) ![0, 0] S512x256.size inb_S512x256_S512x256_0_0).toLoadRect (harg5.unread x3))))
      (k0_pay31 (k0_pay10 (View.readAt (Elt F) arg3.view (Rect.unit (s := S4x512x256) ![3, 0, 0] S1x512x256.size inb_S4x512x256_S1x512x256_3_0_0).toLoadRect (harg3.unread x1))) (k0_pay29 (k0_pay6 (View.readAt (Elt F) arg2.view (Rect.unit (s := S4x512x256) ![3, 0, 0] S1x512x256.size inb_S4x512x256_S1x512x256_3_0_0).toLoadRect (harg2.unread x0))) (View.readAt (Elt F) arg5.view (Rect.unit (s := S512x256) ![0, 0] S512x256.size inb_S512x256_S512x256_0_0).toLoadRect (harg5.unread x3))))
      (k0_pay32 (k0_pay25 (k0_pay6 (View.readAt (Elt F) arg2.view (Rect.unit (s := S4x512x256) ![3, 0, 0] S1x512x256.size inb_S4x512x256_S1x512x256_3_0_0).toLoadRect (harg2.unread x0)))) (k0_pay26 (k0_pay10 (View.readAt (Elt F) arg3.view (Rect.unit (s := S4x512x256) ![3, 0, 0] S1x512x256.size inb_S4x512x256_S1x512x256_3_0_0).toLoadRect (harg3.unread x1))) (View.readAt (Elt F) arg4.view (Rect.unit (s := S1x1x4x256x256) ![0, 0, 3, 0, 0] S1x1x1x256x256.size inb_S1x1x4x256x256_S1x1x1x256x256_0_0_3_0_0).toLoadRect (harg4.unread x2))) (k0_pay28 (View.readAt (Elt F) arg5.view (Rect.unit (s := S512x256) ![0, 0] S512x256.size inb_S512x256_S512x256_0_0).toLoadRect (harg5.unread x3))))
      (k0_pay34 (k0_pay13 (View.readAt (Elt F) arg4.view (Rect.unit (s := S1x1x4x256x256) ![0, 0, 2, 0, 0] S1x1x1x256x256.size inb_S1x1x4x256x256_S1x1x1x256x256_0_0_2_0_0).toLoadRect (harg4.unread x2))) (k0_pay21 (k0_pay5 (View.readAt (Elt F) arg2.view (Rect.unit (s := S4x512x256) ![2, 0, 0] S1x512x256.size inb_S4x512x256_S1x512x256_2_0_0).toLoadRect (harg2.unread x0)))) (k0_pay27 (View.readAt (Elt F) arg5.view (Rect.unit (s := S512x256) ![0, 0] S512x256.size inb_S512x256_S512x256_0_0).toLoadRect (harg5.unread x3))))
      (k0_pay35 (k0_pay9 (View.readAt (Elt F) arg3.view (Rect.unit (s := S4x512x256) ![2, 0, 0] S1x512x256.size inb_S4x512x256_S1x512x256_2_0_0).toLoadRect (harg3.unread x1))) (k0_pay21 (k0_pay5 (View.readAt (Elt F) arg2.view (Rect.unit (s := S4x512x256) ![2, 0, 0] S1x512x256.size inb_S4x512x256_S1x512x256_2_0_0).toLoadRect (harg2.unread x0)))) (k0_pay27 (View.readAt (Elt F) arg5.view (Rect.unit (s := S512x256) ![0, 0] S512x256.size inb_S512x256_S512x256_0_0).toLoadRect (harg5.unread x3))))
      (k0_pay36 (k0_pay22 (k0_pay5 (View.readAt (Elt F) arg2.view (Rect.unit (s := S4x512x256) ![2, 0, 0] S1x512x256.size inb_S4x512x256_S1x512x256_2_0_0).toLoadRect (harg2.unread x0)))) (k0_pay23 (k0_pay9 (View.readAt (Elt F) arg3.view (Rect.unit (s := S4x512x256) ![2, 0, 0] S1x512x256.size inb_S4x512x256_S1x512x256_2_0_0).toLoadRect (harg3.unread x1))) (View.readAt (Elt F) arg4.view (Rect.unit (s := S1x1x4x256x256) ![0, 0, 2, 0, 0] S1x1x1x256x256.size inb_S1x1x4x256x256_S1x1x1x256x256_0_0_2_0_0).toLoadRect (harg4.unread x2))) (k0_pay27 (View.readAt (Elt F) arg5.view (Rect.unit (s := S512x256) ![0, 0] S512x256.size inb_S512x256_S512x256_0_0).toLoadRect (harg5.unread x3))))
      (k0_pay38 (k0_pay12 (View.readAt (Elt F) arg4.view (Rect.unit (s := S1x1x4x256x256) ![0, 0, 1, 0, 0] S1x1x1x256x256.size inb_S1x1x4x256x256_S1x1x1x256x256_0_0_1_0_0).toLoadRect (harg4.unread x2))) (k0_pay18 (k0_pay4 (View.readAt (Elt F) arg2.view (Rect.unit (s := S4x512x256) ![1, 0, 0] S1x512x256.size inb_S4x512x256_S1x512x256_1_0_0).toLoadRect (harg2.unread x0)))) (k0_pay27 (View.readAt (Elt F) arg5.view (Rect.unit (s := S512x256) ![0, 0] S512x256.size inb_S512x256_S512x256_0_0).toLoadRect (harg5.unread x3))))
      (k0_pay39 (k0_pay8 (View.readAt (Elt F) arg3.view (Rect.unit (s := S4x512x256) ![1, 0, 0] S1x512x256.size inb_S4x512x256_S1x512x256_1_0_0).toLoadRect (harg3.unread x1))) (k0_pay18 (k0_pay4 (View.readAt (Elt F) arg2.view (Rect.unit (s := S4x512x256) ![1, 0, 0] S1x512x256.size inb_S4x512x256_S1x512x256_1_0_0).toLoadRect (harg2.unread x0)))) (k0_pay27 (View.readAt (Elt F) arg5.view (Rect.unit (s := S512x256) ![0, 0] S512x256.size inb_S512x256_S512x256_0_0).toLoadRect (harg5.unread x3))))
      (k0_pay40 (k0_pay19 (k0_pay4 (View.readAt (Elt F) arg2.view (Rect.unit (s := S4x512x256) ![1, 0, 0] S1x512x256.size inb_S4x512x256_S1x512x256_1_0_0).toLoadRect (harg2.unread x0)))) (k0_pay20 (k0_pay8 (View.readAt (Elt F) arg3.view (Rect.unit (s := S4x512x256) ![1, 0, 0] S1x512x256.size inb_S4x512x256_S1x512x256_1_0_0).toLoadRect (harg3.unread x1))) (View.readAt (Elt F) arg4.view (Rect.unit (s := S1x1x4x256x256) ![0, 0, 1, 0, 0] S1x1x1x256x256.size inb_S1x1x4x256x256_S1x1x1x256x256_0_0_1_0_0).toLoadRect (harg4.unread x2))) (k0_pay27 (View.readAt (Elt F) arg5.view (Rect.unit (s := S512x256) ![0, 0] S512x256.size inb_S512x256_S512x256_0_0).toLoadRect (harg5.unread x3))))
      (k0_pay42 (k0_pay11 (View.readAt (Elt F) arg4.view (Rect.unit (s := S1x1x4x256x256) ![0, 0, 0, 0, 0] S1x1x1x256x256.size inb_S1x1x4x256x256_S1x1x1x256x256_0_0_0_0_0).toLoadRect (harg4.unread x2))) (k0_pay15 (k0_pay3 (View.readAt (Elt F) arg2.view (Rect.unit (s := S4x512x256) ![0, 0, 0] S1x512x256.size inb_S4x512x256_S1x512x256_0_0_0).toLoadRect (harg2.unread x0)))) (k0_pay27 (View.readAt (Elt F) arg5.view (Rect.unit (s := S512x256) ![0, 0] S512x256.size inb_S512x256_S512x256_0_0).toLoadRect (harg5.unread x3))))
      (k0_pay43 (k0_pay7 (View.readAt (Elt F) arg3.view (Rect.unit (s := S4x512x256) ![0, 0, 0] S1x512x256.size inb_S4x512x256_S1x512x256_0_0_0).toLoadRect (harg3.unread x1))) (k0_pay15 (k0_pay3 (View.readAt (Elt F) arg2.view (Rect.unit (s := S4x512x256) ![0, 0, 0] S1x512x256.size inb_S4x512x256_S1x512x256_0_0_0).toLoadRect (harg2.unread x0)))) (k0_pay27 (View.readAt (Elt F) arg5.view (Rect.unit (s := S512x256) ![0, 0] S512x256.size inb_S512x256_S512x256_0_0).toLoadRect (harg5.unread x3))))
      (k0_pay46 (k0_pay16 (k0_pay3 (View.readAt (Elt F) arg2.view (Rect.unit (s := S4x512x256) ![0, 0, 0] S1x512x256.size inb_S4x512x256_S1x512x256_0_0_0).toLoadRect (harg2.unread x0)))) (k0_pay17 (k0_pay7 (View.readAt (Elt F) arg3.view (Rect.unit (s := S4x512x256) ![0, 0, 0] S1x512x256.size inb_S4x512x256_S1x512x256_0_0_0).toLoadRect (harg3.unread x1))) (k0_pay11 (View.readAt (Elt F) arg4.view (Rect.unit (s := S1x1x4x256x256) ![0, 0, 0, 0, 0] S1x1x1x256x256.size inb_S1x1x4x256x256_S1x1x1x256x256_0_0_0_0_0).toLoadRect (harg4.unread x2)))) (k0_pay27 (View.readAt (Elt F) arg5.view (Rect.unit (s := S512x256) ![0, 0] S512x256.size inb_S512x256_S512x256_0_0).toLoadRect (harg5.unread x3))))
      (k0_pay44 (F := F)) o6 E K)
    rw [ldg0, ldg1, ldg2, ldg3, ldb0, ldb1, ldb2, ldb3, ldw0, ldw1, ldw2, ldw3, ldm]
    unfold owns dgpF dbrF dwF
    isplitl [H4]
    · iexact H4
    isplitl [H5]
    · iexists _; isplitr; swap; · iexact H5
      ipureintro; exact View.read_writes_full _ _ _ _ _
    isplitl [H6]
    · iexists _; isplitr; swap; · iexact H6
      ipureintro; exact harg8.read_unread _
    iintro ⟨H4, H5, H6⟩
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexact H4
    isplitl [H5]; · iexact H5
    iexact H6

set_option maxHeartbeats 1000000 in
/-- The body at a later column block, where it clears nothing. -/
theorem run_B (c : Dev nD) (i : grid0.Coords) (arg2 : Memref sig .tc .vmem S4x512x256 .f32) (harg2 : arg2.IsWhole) (arg3 : Memref sig .tc .vmem S4x512x256 .bf16) (harg3 : arg3.IsWhole) (arg4 : Memref sig .tc .vmem S1x1x4x256x256 .bf16) (harg4 : arg4.IsWhole) (arg5 : Memref sig .tc .vmem S512x256 .f32) (harg5 : arg5.IsWhole) (arg6 : Memref sig .tc .vmem S4x512x256 .bf16) (harg6 : arg6.IsWhole) (arg7 : Memref sig .tc .vmem S4x512x256 .f32) (harg7 : arg7.IsWhole) (arg8 : Memref sig .tc .vmem S4x4x256x256 .f32) (harg8 : arg8.IsWhole) (hc0 : ¬ firstCol i) (hc1 : ¬ firstPt i)
    (x0 : Vec F S4x512x256 .f32) (x1 : Vec F S4x512x256 .bf16) (x2 : Vec F S1x1x4x256x256 .bf16) (x3 : Vec F S512x256 .f32) (o5 : Vec F S4x512x256 .f32) (o6 : Vec F S4x4x256x256 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare o5 ∗ owns (c : Thread nD τ) arg8 fullShare o6
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (dgpF x0 x1 x2 x3) ∗ owns (c : Thread nD τ) arg7 fullShare (dbrF x0 x2 x3 o5)
                ∗ owns (c : Thread nD τ) arg8 fullShare (dwF (colBlk i) x0 x1 x3 o6)) -∗ K ⟨⟩))
          ⊢ wp frame (wpE (defs₀ (F := F)) Variants.none c none) E (cc0_gate_bwd i arg2 harg2 arg3 harg3 arg4 harg4 arg5 harg5 arg6 harg6 arg7 harg7 arg8 harg8) K := by
    simp only [cc0_gate_bwd_eq_skeleton]; unfold cc0_gate_bwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, H4, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hf6
    sl_exec (disch := first | sl_exact hc0 | sl_exact hc1)
    have ldg0 : View.readAt (Elt F) arg2.view (Rect.unit (s := S4x512x256) ![0, 0, 0] S1x512x256.size inb_S4x512x256_S1x512x256_0_0_0).toLoadRect (harg2.unread x0) = slabOf x0 0 := by
      rw [View.readAt_unit _ _ _ rfl inb_S4x512x256_S1x512x256_0_0_0, harg2.read_unread]; exact window_slabOf x0 0 _
    have ldb0 : View.readAt (Elt F) arg3.view (Rect.unit (s := S4x512x256) ![0, 0, 0] S1x512x256.size inb_S4x512x256_S1x512x256_0_0_0).toLoadRect (harg3.unread x1) = slabOf x1 0 := by
      rw [View.readAt_unit _ _ _ rfl inb_S4x512x256_S1x512x256_0_0_0, harg3.read_unread]; exact window_slabOf x1 0 _
    have ldw0 : View.readAt (Elt F) arg4.view (Rect.unit (s := S1x1x4x256x256) ![0, 0, 0, 0, 0] S1x1x1x256x256.size inb_S1x1x4x256x256_S1x1x1x256x256_0_0_0_0_0).toLoadRect (harg4.unread x2) = matOf x2 0 := by
      rw [View.readAt_unit _ _ _ rfl inb_S1x1x4x256x256_S1x1x1x256x256_0_0_0_0_0, harg4.read_unread]; exact window_matOf x2 0 _
    have ldg1 : View.readAt (Elt F) arg2.view (Rect.unit (s := S4x512x256) ![1, 0, 0] S1x512x256.size inb_S4x512x256_S1x512x256_1_0_0).toLoadRect (harg2.unread x0) = slabOf x0 1 := by
      rw [View.readAt_unit _ _ _ rfl inb_S4x512x256_S1x512x256_1_0_0, harg2.read_unread]; exact window_slabOf x0 1 _
    have ldb1 : View.readAt (Elt F) arg3.view (Rect.unit (s := S4x512x256) ![1, 0, 0] S1x512x256.size inb_S4x512x256_S1x512x256_1_0_0).toLoadRect (harg3.unread x1) = slabOf x1 1 := by
      rw [View.readAt_unit _ _ _ rfl inb_S4x512x256_S1x512x256_1_0_0, harg3.read_unread]; exact window_slabOf x1 1 _
    have ldw1 : View.readAt (Elt F) arg4.view (Rect.unit (s := S1x1x4x256x256) ![0, 0, 1, 0, 0] S1x1x1x256x256.size inb_S1x1x4x256x256_S1x1x1x256x256_0_0_1_0_0).toLoadRect (harg4.unread x2) = matOf x2 1 := by
      rw [View.readAt_unit _ _ _ rfl inb_S1x1x4x256x256_S1x1x1x256x256_0_0_1_0_0, harg4.read_unread]; exact window_matOf x2 1 _
    have ldg2 : View.readAt (Elt F) arg2.view (Rect.unit (s := S4x512x256) ![2, 0, 0] S1x512x256.size inb_S4x512x256_S1x512x256_2_0_0).toLoadRect (harg2.unread x0) = slabOf x0 2 := by
      rw [View.readAt_unit _ _ _ rfl inb_S4x512x256_S1x512x256_2_0_0, harg2.read_unread]; exact window_slabOf x0 2 _
    have ldb2 : View.readAt (Elt F) arg3.view (Rect.unit (s := S4x512x256) ![2, 0, 0] S1x512x256.size inb_S4x512x256_S1x512x256_2_0_0).toLoadRect (harg3.unread x1) = slabOf x1 2 := by
      rw [View.readAt_unit _ _ _ rfl inb_S4x512x256_S1x512x256_2_0_0, harg3.read_unread]; exact window_slabOf x1 2 _
    have ldw2 : View.readAt (Elt F) arg4.view (Rect.unit (s := S1x1x4x256x256) ![0, 0, 2, 0, 0] S1x1x1x256x256.size inb_S1x1x4x256x256_S1x1x1x256x256_0_0_2_0_0).toLoadRect (harg4.unread x2) = matOf x2 2 := by
      rw [View.readAt_unit _ _ _ rfl inb_S1x1x4x256x256_S1x1x1x256x256_0_0_2_0_0, harg4.read_unread]; exact window_matOf x2 2 _
    have ldg3 : View.readAt (Elt F) arg2.view (Rect.unit (s := S4x512x256) ![3, 0, 0] S1x512x256.size inb_S4x512x256_S1x512x256_3_0_0).toLoadRect (harg2.unread x0) = slabOf x0 3 := by
      rw [View.readAt_unit _ _ _ rfl inb_S4x512x256_S1x512x256_3_0_0, harg2.read_unread]; exact window_slabOf x0 3 _
    have ldb3 : View.readAt (Elt F) arg3.view (Rect.unit (s := S4x512x256) ![3, 0, 0] S1x512x256.size inb_S4x512x256_S1x512x256_3_0_0).toLoadRect (harg3.unread x1) = slabOf x1 3 := by
      rw [View.readAt_unit _ _ _ rfl inb_S4x512x256_S1x512x256_3_0_0, harg3.read_unread]; exact window_slabOf x1 3 _
    have ldw3 : View.readAt (Elt F) arg4.view (Rect.unit (s := S1x1x4x256x256) ![0, 0, 3, 0, 0] S1x1x1x256x256.size inb_S1x1x4x256x256_S1x1x1x256x256_0_0_3_0_0).toLoadRect (harg4.unread x2) = matOf x2 3 := by
      rw [View.readAt_unit _ _ _ rfl inb_S1x1x4x256x256_S1x1x1x256x256_0_0_3_0_0, harg4.read_unread]; exact window_matOf x2 3 _
    have ldm : View.readAt (Elt F) arg5.view (Rect.unit (s := S512x256) ![0, 0] S512x256.size inb_S512x256_S512x256_0_0).toLoadRect (harg5.unread x3) = x3 := by
      rw [View.readAt_full, harg5.read_unread]
    iapply (run_tail (F := F) c i arg2 harg2 arg3 harg3 arg4 harg4 arg5 harg5 arg6 harg6 arg7 harg7 arg8 harg8
      (k0_pay30 (k0_pay14 (View.readAt (Elt F) arg4.view (Rect.unit (s := S1x1x4x256x256) ![0, 0, 3, 0, 0] S1x1x1x256x256.size inb_S1x1x4x256x256_S1x1x1x256x256_0_0_3_0_0).toLoadRect (harg4.unread x2))) (k0_pay29 (k0_pay6 (View.readAt (Elt F) arg2.view (Rect.unit (s := S4x512x256) ![3, 0, 0] S1x512x256.size inb_S4x512x256_S1x512x256_3_0_0).toLoadRect (harg2.unread x0))) (View.readAt (Elt F) arg5.view (Rect.unit (s := S512x256) ![0, 0] S512x256.size inb_S512x256_S512x256_0_0).toLoadRect (harg5.unread x3))))
      (k0_pay31 (k0_pay10 (View.readAt (Elt F) arg3.view (Rect.unit (s := S4x512x256) ![3, 0, 0] S1x512x256.size inb_S4x512x256_S1x512x256_3_0_0).toLoadRect (harg3.unread x1))) (k0_pay29 (k0_pay6 (View.readAt (Elt F) arg2.view (Rect.unit (s := S4x512x256) ![3, 0, 0] S1x512x256.size inb_S4x512x256_S1x512x256_3_0_0).toLoadRect (harg2.unread x0))) (View.readAt (Elt F) arg5.view (Rect.unit (s := S512x256) ![0, 0] S512x256.size inb_S512x256_S512x256_0_0).toLoadRect (harg5.unread x3))))
      (k0_pay32 (k0_pay25 (k0_pay6 (View.readAt (Elt F) arg2.view (Rect.unit (s := S4x512x256) ![3, 0, 0] S1x512x256.size inb_S4x512x256_S1x512x256_3_0_0).toLoadRect (harg2.unread x0)))) (k0_pay26 (k0_pay10 (View.readAt (Elt F) arg3.view (Rect.unit (s := S4x512x256) ![3, 0, 0] S1x512x256.size inb_S4x512x256_S1x512x256_3_0_0).toLoadRect (harg3.unread x1))) (View.readAt (Elt F) arg4.view (Rect.unit (s := S1x1x4x256x256) ![0, 0, 3, 0, 0] S1x1x1x256x256.size inb_S1x1x4x256x256_S1x1x1x256x256_0_0_3_0_0).toLoadRect (harg4.unread x2))) (k0_pay28 (View.readAt (Elt F) arg5.view (Rect.unit (s := S512x256) ![0, 0] S512x256.size inb_S512x256_S512x256_0_0).toLoadRect (harg5.unread x3))))
      (k0_pay34 (k0_pay13 (View.readAt (Elt F) arg4.view (Rect.unit (s := S1x1x4x256x256) ![0, 0, 2, 0, 0] S1x1x1x256x256.size inb_S1x1x4x256x256_S1x1x1x256x256_0_0_2_0_0).toLoadRect (harg4.unread x2))) (k0_pay21 (k0_pay5 (View.readAt (Elt F) arg2.view (Rect.unit (s := S4x512x256) ![2, 0, 0] S1x512x256.size inb_S4x512x256_S1x512x256_2_0_0).toLoadRect (harg2.unread x0)))) (k0_pay27 (View.readAt (Elt F) arg5.view (Rect.unit (s := S512x256) ![0, 0] S512x256.size inb_S512x256_S512x256_0_0).toLoadRect (harg5.unread x3))))
      (k0_pay35 (k0_pay9 (View.readAt (Elt F) arg3.view (Rect.unit (s := S4x512x256) ![2, 0, 0] S1x512x256.size inb_S4x512x256_S1x512x256_2_0_0).toLoadRect (harg3.unread x1))) (k0_pay21 (k0_pay5 (View.readAt (Elt F) arg2.view (Rect.unit (s := S4x512x256) ![2, 0, 0] S1x512x256.size inb_S4x512x256_S1x512x256_2_0_0).toLoadRect (harg2.unread x0)))) (k0_pay27 (View.readAt (Elt F) arg5.view (Rect.unit (s := S512x256) ![0, 0] S512x256.size inb_S512x256_S512x256_0_0).toLoadRect (harg5.unread x3))))
      (k0_pay36 (k0_pay22 (k0_pay5 (View.readAt (Elt F) arg2.view (Rect.unit (s := S4x512x256) ![2, 0, 0] S1x512x256.size inb_S4x512x256_S1x512x256_2_0_0).toLoadRect (harg2.unread x0)))) (k0_pay23 (k0_pay9 (View.readAt (Elt F) arg3.view (Rect.unit (s := S4x512x256) ![2, 0, 0] S1x512x256.size inb_S4x512x256_S1x512x256_2_0_0).toLoadRect (harg3.unread x1))) (View.readAt (Elt F) arg4.view (Rect.unit (s := S1x1x4x256x256) ![0, 0, 2, 0, 0] S1x1x1x256x256.size inb_S1x1x4x256x256_S1x1x1x256x256_0_0_2_0_0).toLoadRect (harg4.unread x2))) (k0_pay27 (View.readAt (Elt F) arg5.view (Rect.unit (s := S512x256) ![0, 0] S512x256.size inb_S512x256_S512x256_0_0).toLoadRect (harg5.unread x3))))
      (k0_pay38 (k0_pay12 (View.readAt (Elt F) arg4.view (Rect.unit (s := S1x1x4x256x256) ![0, 0, 1, 0, 0] S1x1x1x256x256.size inb_S1x1x4x256x256_S1x1x1x256x256_0_0_1_0_0).toLoadRect (harg4.unread x2))) (k0_pay18 (k0_pay4 (View.readAt (Elt F) arg2.view (Rect.unit (s := S4x512x256) ![1, 0, 0] S1x512x256.size inb_S4x512x256_S1x512x256_1_0_0).toLoadRect (harg2.unread x0)))) (k0_pay27 (View.readAt (Elt F) arg5.view (Rect.unit (s := S512x256) ![0, 0] S512x256.size inb_S512x256_S512x256_0_0).toLoadRect (harg5.unread x3))))
      (k0_pay39 (k0_pay8 (View.readAt (Elt F) arg3.view (Rect.unit (s := S4x512x256) ![1, 0, 0] S1x512x256.size inb_S4x512x256_S1x512x256_1_0_0).toLoadRect (harg3.unread x1))) (k0_pay18 (k0_pay4 (View.readAt (Elt F) arg2.view (Rect.unit (s := S4x512x256) ![1, 0, 0] S1x512x256.size inb_S4x512x256_S1x512x256_1_0_0).toLoadRect (harg2.unread x0)))) (k0_pay27 (View.readAt (Elt F) arg5.view (Rect.unit (s := S512x256) ![0, 0] S512x256.size inb_S512x256_S512x256_0_0).toLoadRect (harg5.unread x3))))
      (k0_pay40 (k0_pay19 (k0_pay4 (View.readAt (Elt F) arg2.view (Rect.unit (s := S4x512x256) ![1, 0, 0] S1x512x256.size inb_S4x512x256_S1x512x256_1_0_0).toLoadRect (harg2.unread x0)))) (k0_pay20 (k0_pay8 (View.readAt (Elt F) arg3.view (Rect.unit (s := S4x512x256) ![1, 0, 0] S1x512x256.size inb_S4x512x256_S1x512x256_1_0_0).toLoadRect (harg3.unread x1))) (View.readAt (Elt F) arg4.view (Rect.unit (s := S1x1x4x256x256) ![0, 0, 1, 0, 0] S1x1x1x256x256.size inb_S1x1x4x256x256_S1x1x1x256x256_0_0_1_0_0).toLoadRect (harg4.unread x2))) (k0_pay27 (View.readAt (Elt F) arg5.view (Rect.unit (s := S512x256) ![0, 0] S512x256.size inb_S512x256_S512x256_0_0).toLoadRect (harg5.unread x3))))
      (k0_pay42 (k0_pay11 (View.readAt (Elt F) arg4.view (Rect.unit (s := S1x1x4x256x256) ![0, 0, 0, 0, 0] S1x1x1x256x256.size inb_S1x1x4x256x256_S1x1x1x256x256_0_0_0_0_0).toLoadRect (harg4.unread x2))) (k0_pay15 (k0_pay3 (View.readAt (Elt F) arg2.view (Rect.unit (s := S4x512x256) ![0, 0, 0] S1x512x256.size inb_S4x512x256_S1x512x256_0_0_0).toLoadRect (harg2.unread x0)))) (k0_pay27 (View.readAt (Elt F) arg5.view (Rect.unit (s := S512x256) ![0, 0] S512x256.size inb_S512x256_S512x256_0_0).toLoadRect (harg5.unread x3))))
      (k0_pay43 (k0_pay7 (View.readAt (Elt F) arg3.view (Rect.unit (s := S4x512x256) ![0, 0, 0] S1x512x256.size inb_S4x512x256_S1x512x256_0_0_0).toLoadRect (harg3.unread x1))) (k0_pay15 (k0_pay3 (View.readAt (Elt F) arg2.view (Rect.unit (s := S4x512x256) ![0, 0, 0] S1x512x256.size inb_S4x512x256_S1x512x256_0_0_0).toLoadRect (harg2.unread x0)))) (k0_pay27 (View.readAt (Elt F) arg5.view (Rect.unit (s := S512x256) ![0, 0] S512x256.size inb_S512x256_S512x256_0_0).toLoadRect (harg5.unread x3))))
      (k0_pay46 (k0_pay16 (k0_pay3 (View.readAt (Elt F) arg2.view (Rect.unit (s := S4x512x256) ![0, 0, 0] S1x512x256.size inb_S4x512x256_S1x512x256_0_0_0).toLoadRect (harg2.unread x0)))) (k0_pay17 (k0_pay7 (View.readAt (Elt F) arg3.view (Rect.unit (s := S4x512x256) ![0, 0, 0] S1x512x256.size inb_S4x512x256_S1x512x256_0_0_0).toLoadRect (harg3.unread x1))) (k0_pay11 (View.readAt (Elt F) arg4.view (Rect.unit (s := S1x1x4x256x256) ![0, 0, 0, 0, 0] S1x1x1x256x256.size inb_S1x1x4x256x256_S1x1x1x256x256_0_0_0_0_0).toLoadRect (harg4.unread x2)))) (k0_pay27 (View.readAt (Elt F) arg5.view (Rect.unit (s := S512x256) ![0, 0] S512x256.size inb_S512x256_S512x256_0_0).toLoadRect (harg5.unread x3))))
      o5 o6 E K)
    rw [ldg0, ldg1, ldg2, ldg3, ldb0, ldb1, ldb2, ldb3, ldw0, ldw1, ldw2, ldw3, ldm]
    unfold owns dgpF dbrF dwF
    isplitl [H4]
    · iexact H4
    isplitl [H5]
    · iexists _; isplitr; swap; · iexact H5
      ipureintro; exact harg7.read_unread _
    isplitl [H6]
    · iexists _; isplitr; swap; · iexact H6
      ipureintro; exact harg8.read_unread _
    iintro ⟨H4, H5, H6⟩
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexact H4
    isplitl [H5]; · iexact H5
    iexact H6

end Cert.GateIdeal.Merge

end

end
-- ==== Proof.Gate.Frame.lean ====
module

public import proofs.«01_k».proof.Proof.Gate.Body

@[expose] public section

set_option maxRecDepth 16384

noncomputable section

namespace Cert.GateIdeal.Merge

open Cert.GateIdeal Cert.GateIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Grid point number `n`. -/
def pt (n : ℕ) : Fin cfg0.N := if h : n < cfg0.N then ⟨n, h⟩ else ⟨0, by rw [show cfg0.N = 16 from N_0]; decide⟩

/-- The point numbered by a point is that point. -/
theorem pt_val (t : Fin cfg0.N) : pt t.val = t := by
  unfold pt; rw [dif_pos t.isLt]

/-- The gate pre-activations, the branches, the weights and the incoming gradient at grid point `t`. -/
def bGp (c : Dev nD) (t : Fin cfg0.N) : Vec F S4x512x256 .f32 := iblk m c 0 t
@[inherit_doc bGp] def bBr (c : Dev nD) (t : Fin cfg0.N) : Vec F S4x512x256 .bf16 := iblk m c 1 t
@[inherit_doc bGp] def bWb (c : Dev nD) (t : Fin cfg0.N) : Vec F S1x1x4x256x256 .bf16 := iblk m c 2 t
@[inherit_doc bGp] def bDm (c : Dev nD) (t : Fin cfg0.N) : Vec F S512x256 .f32 := iblk m c 3 t

/-- The branch gradients held after grid point `n`: cleared at the first column block, then one step a point. -/
def accBr (c : Dev nD) : ℕ → Vec F S4x512x256 .f32
  | 0 => dbrF (bGp m c (pt 0)) (bWb m c (pt 0)) (bDm m c (pt 0)) (k0_pay44 (F := F))
  | n + 1 => dbrF (bGp m c (pt (n + 1))) (bWb m c (pt (n + 1))) (bDm m c (pt (n + 1)))
      (if (n + 1) % 4 = 0 then (k0_pay44 (F := F)) else accBr c n)

/-- The weight gradients held after grid point `n`: cleared at the first point, then one step a point. -/
def accW (c : Dev nD) : ℕ → Vec F S4x4x256x256 .f32
  | 0 => dwF (colBlk (grid0.coords (pt 0))) (bGp m c (pt 0)) (bBr m c (pt 0)) (bDm m c (pt 0)) (k0_pay45 (F := F))
  | n + 1 => dwF (colBlk (grid0.coords (pt (n + 1)))) (bGp m c (pt (n + 1))) (bBr m c (pt (n + 1))) (bDm m c (pt (n + 1))) (accW c n)

/-- The branch gradients after a point of the first column block. -/
theorem accBr_first (c : Dev nD) (t : Fin cfg0.N) (h : t.val % 4 = 0) :
    accBr m c t.val = dbrF (bGp m c t) (bWb m c t) (bDm m c t) (k0_pay44 (F := F)) := by
  have e := pt_val t
  revert h e
  generalize t.val = n
  intro h e
  subst e
  cases n with
  | zero => rw [accBr]
  | succ n => rw [accBr, if_pos h]

/-- The branch gradients after any other point. -/
theorem accBr_next (c : Dev nD) (t : Fin cfg0.N) (h : ¬ t.val % 4 = 0) :
    accBr m c t.val = dbrF (bGp m c t) (bWb m c t) (bDm m c t) (accBr m c (t.val - 1)) := by
  have e := pt_val t
  revert h e
  generalize t.val = n
  intro h e
  subst e
  cases n with
  | zero => exact absurd rfl h
  | succ n => rw [accBr, if_neg h]; rfl

/-- The weight gradients after the first point. -/
theorem accW_first (c : Dev nD) (t : Fin cfg0.N) (h : t.val = 0) :
    accW m c t.val = dwF (colBlk (grid0.coords t)) (bGp m c t) (bBr m c t) (bDm m c t) (k0_pay45 (F := F)) := by
  have e := pt_val t
  revert h e
  generalize t.val = n
  intro h e
  subst e h
  rw [accW]

/-- The weight gradients after any later point. -/
theorem accW_next (c : Dev nD) (t : Fin cfg0.N) (h : ¬ t.val = 0) :
    accW m c t.val = dwF (colBlk (grid0.coords t)) (bGp m c t) (bBr m c t) (bDm m c t) (accW m c (t.val - 1)) := by
  have e := pt_val t
  revert h e
  generalize t.val = n
  intro h e
  subst e
  cases n with
  | zero => exact absurd rfl h
  | succ n => rw [accW]; rfl

/-- The proof data: every window's array as the region finds it, and what the body leaves in each window's buffer. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => dgpF (bGp m c t) (bBr m c t) (bWb m c t) (bDm m c t)
    | ⟨5, _⟩ => accBr m c t.val
    | ⟨6, _⟩ => accW m c t.val
  Φ _ := Pipeline.ΦA spec0 c
  q _ := fullShare
  owed _ := 0

/-- The proof data's arrays are what the region finds. -/
theorem A_eq (c : Dev nD) (w : Fin cfg0.W) : (dats m 0 c).A w = V m c (Pipeline.arrRef spec0 w) := by
  dsimp only [dats]

/-- What the body leaves in window 0. -/
theorem after_0 (c : Dev nD) (t : Fin cfg0.N) : (dats m 0 c).after 0 t = iblk m c 0 t := by dsimp only [dats]
/-- What the body leaves in window 1. -/
theorem after_1 (c : Dev nD) (t : Fin cfg0.N) : (dats m 0 c).after 1 t = iblk m c 1 t := by dsimp only [dats]
/-- What the body leaves in window 2. -/
theorem after_2 (c : Dev nD) (t : Fin cfg0.N) : (dats m 0 c).after 2 t = iblk m c 2 t := by dsimp only [dats]
/-- What the body leaves in window 3. -/
theorem after_3 (c : Dev nD) (t : Fin cfg0.N) : (dats m 0 c).after 3 t = iblk m c 3 t := by dsimp only [dats]
/-- What the body leaves in the gate gradients' window. -/
theorem after_4 (c : Dev nD) (t : Fin cfg0.N) : (dats m 0 c).after 4 t = dgpF (bGp m c t) (bBr m c t) (bWb m c t) (bDm m c t) := by dsimp only [dats]
/-- What the body leaves in the branch gradients' window. -/
theorem after_5 (c : Dev nD) (t : Fin cfg0.N) : (dats m 0 c).after 5 t = accBr m c t.val := by dsimp only [dats]
/-- What the body leaves in the weight gradients' window. -/
theorem after_6 (c : Dev nD) (t : Fin cfg0.N) : (dats m 0 c).after 6 t = accW m c t.val := by dsimp only [dats]

/-- Window 0 holds its block when the body starts. -/
theorem before_0 (c : Dev nD) (t : Fin cfg0.N) (d) : (dats m 0 c).before 0 t d = iblk m c 0 t :=
  before0_0_of m (dats m 0 c) (A_eq m c 0) (after_0 m c) t d
/-- Window 1 holds its block when the body starts. -/
theorem before_1 (c : Dev nD) (t : Fin cfg0.N) (d) : (dats m 0 c).before 1 t d = iblk m c 1 t :=
  before0_1_of m (dats m 0 c) (A_eq m c 1) (after_1 m c) t d
/-- Window 2 holds its block when the body starts. -/
theorem before_2 (c : Dev nD) (t : Fin cfg0.N) (d) : (dats m 0 c).before 2 t d = iblk m c 2 t :=
  before0_2_of m (dats m 0 c) (A_eq m c 2) (after_2 m c) t d
/-- Window 3 holds its block when the body starts. -/
theorem before_3 (c : Dev nD) (t : Fin cfg0.N) (d) : (dats m 0 c).before 3 t d = iblk m c 3 t :=
  before0_3_of m (dats m 0 c) (A_eq m c 3) (after_3 m c) t d
/-- The branch gradients' window keeps what the point before left, within a row tile. -/
theorem before_5 (c : Dev nD) (t : Fin cfg0.N) (h : ¬ t.val % 4 = 0) (d) :
    (dats m 0 c).before 5 t d = accBr m c (t.val - 1) := by
  have hN : t.val < 16 := lt_of_lt_of_eq t.isLt (show cfg0.N = 16 from N_0)
  rw [Dat.before_out_kept _ 5 rfl t (by omega) (Bool.eq_false_iff.mpr fun h => by
    have := (flush0_5 _).mp h; dsimp only at this; omega) (fun _ => rfl) (fun _ _ => rfl)]
  dsimp only [dats]
/-- The weight gradients' window keeps what the point before left. -/
theorem before_6 (c : Dev nD) (t : Fin cfg0.N) (h : ¬ t.val = 0) (d) :
    (dats m 0 c).before 6 t d = accW m c (t.val - 1) := by
  have hN : t.val < 16 := lt_of_lt_of_eq t.isLt (show cfg0.N = 16 from N_0)
  rw [Dat.before_out_kept _ 6 rfl t (by omega) (Bool.eq_false_iff.mpr fun h => by
    have := (flush0_6 _).mp h; dsimp only at this; omega) (fun _ => rfl) (fun _ _ => rfl)]
  dsimp only [dats]

/-- The coordinates of a point. -/
theorem coord_0 (t : Fin grid0.N) : (grid0.coords t 0).val = t.val / 4 % 4 := Pipeline.Grid.coords_val t 0 (by decide) rfl
@[inherit_doc coord_0] theorem coord_1 (t : Fin grid0.N) : (grid0.coords t 1).val = t.val / 1 % 4 := Pipeline.Grid.coords_val t 1 (by decide) rfl

/-- The first column block is every fourth point. -/
theorem firstCol_iff (t : Fin grid0.N) : firstCol (grid0.coords t) ↔ t.val % 4 = 0 := by
  have ht : t.val < 16 := Nat.lt_of_lt_of_eq t.isLt N_0
  have e1 := coord_1 t
  simp only [firstCol, e1]
  word_cmp
/-- The first point is point zero. -/
theorem firstPt_iff (t : Fin grid0.N) : firstPt (grid0.coords t) ↔ t.val % 16 = 0 := by
  have ht : t.val < 16 := Nat.lt_of_lt_of_eq t.isLt N_0
  have e0 := coord_0 t
  have e1 := coord_1 t
  simp only [firstPt, e0, e1]
  word_cmp

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d)))

/-- What it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t))

set_option maxHeartbeats 1200000 in
/-- The body at any point, from what the windows hold to what the proof data says it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  have hN : t.val < 16 := lt_of_lt_of_eq t.isLt (show cfg0.N = 16 from N_0)
  by_cases h0 : t.val % 4 = 0
  · rw [accBr_first m c t h0]
    by_cases h1 : t.val % 16 = 0
    · rw [accW_first m c t (by omega)]
      iintro ⟨HΦ, Ho, ⟨%d0, H0⟩, ⟨%d1, H1⟩, ⟨%d2, H2⟩, ⟨%d3, H3⟩, ⟨%d4, H4⟩, ⟨%d5, H5⟩, ⟨%d6, H6⟩⟩
      iapply (run_A c (grid0.coords t) _ _ _ _ _ _ _ _ _ _ _ _ _ _ ((firstCol_iff t).mpr h0) ((firstPt_iff t).mpr h1) (bGp m c t) (bBr m c t) (bWb m c t) (bDm m c t) _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      iintro ⟨H0, H1, H2, H3, H4, H5, H6⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [accW_next m c t (by omega)]
      simp only [before_6 m c t (by omega)]
      iintro ⟨HΦ, Ho, ⟨%d0, H0⟩, ⟨%d1, H1⟩, ⟨%d2, H2⟩, ⟨%d3, H3⟩, ⟨%d4, H4⟩, ⟨%d5, H5⟩, ⟨%d6, H6⟩⟩
      iapply (run_C c (grid0.coords t) _ _ _ _ _ _ _ _ _ _ _ _ _ _ ((firstCol_iff t).mpr h0) (fun h => h1 ((firstPt_iff t).mp h)) (bGp m c t) (bBr m c t) (bWb m c t) (bDm m c t) _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      iintro ⟨H0, H1, H2, H3, H4, H5, H6⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · rw [accBr_next m c t h0, accW_next m c t (by omega)]
    simp only [before_5 m c t h0, before_6 m c t (by omega)]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_B c (grid0.coords t) _ _ _ _ _ _ _ _ _ _ _ _ _ _ (fun h => h0 ((firstCol_iff t).mp h)) (fun h => h0 (by have := (firstPt_iff t).mp h; omega)) (bGp m c t) (bBr m c t) (bWb m c t) (bDm m c t) _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at a point's slots is the body. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: every window's array ends as the proof data says and every counter at zero. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.GateIdeal.Merge

end
-- ==== Proof.Gate.Spec.lean ====
module

public import proofs.«01_k».proof.Proof.Gen.GateRefIdeal.Run
public import proofs.«01_k».proof.Proof.Gen.GateRefIdeal.Read
public import Idealize.ShloMosaic.Lib.Pipeline.ValueKit
public import Idealize.ShloMosaic.Lib.Pointwise

@[expose] public section

set_option maxRecDepth 16384

noncomputable section

namespace Cert.GateIdeal.Merge

open Idealize.ShloMosaic Idealize.ShloMosaic.TcCoe
open Cert.GateRefIdeal Cert.GateRefIdeal.Read

/-- Entry `(r, k)` of branch `n`, the branches in their order: retention, pooling, neighbourhood, memory. -/
def branch (x1 x2 x3 x4 : FVec Ideal S2048x256 .bf16) (n : Fin 4) (r : Fin 2048) (k : Fin 256) : EReal :=
  match n with
  | 0 => x1 (ix2 r k)
  | 1 => x2 (ix2 r k)
  | 2 => x3 (ix2 r k)
  | 3 => x4 (ix2 r k)

/-- Entry `(k, d)` of branch `n`'s weights, which lie in four column blocks of 256, the branches one under another in each. -/
def weight (x5 : FVec Ideal S4x1024x256 .bf16) (n : Fin 4) (k : Fin 256) (d : Fin 1024) : EReal :=
  x5 (ix3 ⟨d.val / 256, by omega⟩ ⟨n.val * 256 + k.val, by omega⟩ ⟨d.val % 256, by omega⟩)

/-- The gate of branch `n` at `(r, d)`. -/
def gate (x0 : FVec Ideal S4x2048x1024 .f32) (n : Fin 4) (r : Fin 2048) (d : Fin 1024) : EReal := Ideal.logistic (x0 (ix3 n r d))

/-- The reference's gates. -/
theorem ref_gate (x0 : FVec Ideal S4x2048x1024 .f32) (n : Fin 4) (r : Fin 2048) (d : Fin 1024) :
    val_main_v26 (F := Ideal) x0 (ix3 r n d) = gate x0 n r d := by
  pointwise [val_main_v26, val_main_v22, val_main_v21, val_main_v20, val_main_v19, val_main_v18, val_main_v17, val_main_v14, val_main_v13, val_main_cst, val_main_cst_0, gate]
  rfl

/-- The reference's gates, branch by branch in one row. -/
theorem ref_gate_flat (x0 : FVec Ideal S4x2048x1024 .f32) (n : Fin 4) (r : Fin 2048) (d : Fin 1024) (h) :
    val_main_v22 (F := Ideal) x0 (ix2 r ⟨n.val * 1024 + d.val, h⟩) = gate x0 n r d := by
  rw [← ref_gate]
  pointwise [val_main_v26]

/-- The reference's branches. -/
theorem ref_branch (x1 x2 x3 x4 : FVec Ideal S2048x256 .bf16) (n : Fin 4) (r : Fin 2048) (k : Fin 256) :
    val_main_v12 (F := Ideal) x1 x2 x3 x4 (ix3 r n k) = branch x1 x2 x3 x4 n r k := by
  pointwise [val_main_v12, val_main_v11, val_main_v10, val_main_v9, val_main_v8, val_main_v7, val_main_v6, val_main_v5, val_main_v4]
  fin_cases n <;> rfl

/-- The reference's weights. -/
theorem ref_weight (x5 : FVec Ideal S4x1024x256 .bf16) (n : Fin 4) (k : Fin 256) (d : Fin 1024) :
    val_main_v3 (F := Ideal) x5 (ix3 n k d) = weight x5 n k d := by
  pointwise [val_main_v3, val_main_v2, val_main_v1, val_main_v0]
  rfl

/-- The gradient of the gates' pre-activations: the incoming gradient times the projected branch, times the derivative of the gate. -/
theorem ref_dgp (x0 : FVec Ideal S4x2048x1024 .f32) (x1 x2 x3 x4 : FVec Ideal S2048x256 .bf16) (x5 : FVec Ideal S4x1024x256 .bf16) (x6 : FVec Ideal S2048x1024 .f32) (n : Fin 4) (r : Fin 2048) (d : Fin 1024) :
    val_main_v41 (F := Ideal) x0 x1 x2 x3 x4 x5 x6 (ix3 n r d)
      = (x6 (ix2 r d) * ∑ k : Fin 256, branch x1 x2 x3 x4 n r k * weight x5 n k d) * (gate x0 n r d * (1 - gate x0 n r d)) := by
  pointwise [val_main_v41, val_main_v40, val_main_v39, val_main_v33, val_main_v32, val_main_v31, val_main_v30, val_main_v29, val_main_v25, val_main_v24, val_main_v23, val_main_cst_1, val_main_v16, val_main_v15]
  simp only [ref_gate_flat, ref_branch, ref_weight]
  simp only [mul_comm (weight _ _ _ _)]

/-- The gradient of branch `n`: the gated incoming gradient against the branch's weights. -/
theorem ref_dbr (x0 : FVec Ideal S4x2048x1024 .f32) (x5 : FVec Ideal S4x1024x256 .bf16) (x6 : FVec Ideal S2048x1024 .f32) (n : Fin 4) (r : Fin 2048) (k : Fin 256) :
    val_main_v42 (F := Ideal) x0 x5 x6 (ix3 n r k)
      = ∑ d : Fin 1024, (gate x0 n r d * x6 (ix2 r d)) * weight x5 n k d := by
  pointwise [val_main_v42, val_main_v36, val_main_v35, val_main_v34, val_main_v30, val_main_v29]
  simp only [ref_gate, ref_weight]

/-- The gradient of the weights: each branch against the gated incoming gradient, in the layout of the weights' blocks. -/
theorem ref_dw (x0 : FVec Ideal S4x2048x1024 .f32) (x1 x2 x3 x4 : FVec Ideal S2048x256 .bf16) (x6 : FVec Ideal S2048x1024 .f32) (s n : Fin 4) (k c : Fin 256) :
    val_main_v44 (F := Ideal) x0 x1 x2 x3 x4 x6 (ix4 s n k c)
      = ∑ r : Fin 2048, branch x1 x2 x3 x4 n r k * (gate x0 n r ⟨s.val * 256 + c.val, by omega⟩ * x6 (ix2 r ⟨s.val * 256 + c.val, by omega⟩)) := by
  pointwise [val_main_v44, val_main_v43, val_main_v38, val_main_v37, val_main_v34, val_main_v30, val_main_v29]
  simp only [ref_gate, ref_branch, mul_comm (branch _ _ _ _ _ _ _)]

end Cert.GateIdeal.Merge

end
-- ==== Proof.Gate.Value.lean ====
module

public import proofs.«01_k».proof.Proof.Gate.Frame
public import proofs.«01_k».proof.Proof.Gate.Spec
public import Idealize.ShloMosaic.Lib.Pipeline.ValueKit
public import Idealize.ShloMosaic.Lib.Pointwise

@[expose] public section

set_option maxRecDepth 16384

noncomputable section

namespace Cert.GateIdeal.Merge

open Cert.GateIdeal Cert.GateIdeal.Gen
open Idealize.ShloMosaic Idealize.ShloMosaic.TcCoe Idealize.SL.Sem
open Idealize.ShloMosaic.Pipeline (Dat)

variable (m : (ℓ : Loc nD τ sig) → Buf (Elt Ideal) ℓ)

/-- The kernel's arguments: gate pre-activations, the four branches, the weights, the incoming gradient. -/
abbrev aGp (c : Dev nD) : FVec Ideal S4x2048x1024 .f32 := m ((c : Thread nD τ).loc main_arg0)
@[inherit_doc aGp] abbrev aRet (c : Dev nD) : FVec Ideal S2048x256 .bf16 := m ((c : Thread nD τ).loc main_arg1)
@[inherit_doc aGp] abbrev aPool (c : Dev nD) : FVec Ideal S2048x256 .bf16 := m ((c : Thread nD τ).loc main_arg2)
@[inherit_doc aGp] abbrev aNa (c : Dev nD) : FVec Ideal S2048x256 .bf16 := m ((c : Thread nD τ).loc main_arg3)
@[inherit_doc aGp] abbrev aMem (c : Dev nD) : FVec Ideal S2048x256 .bf16 := m ((c : Thread nD τ).loc main_arg4)
@[inherit_doc aGp] abbrev aWb (c : Dev nD) : FVec Ideal S4x1024x256 .bf16 := m ((c : Thread nD τ).loc main_arg5)
@[inherit_doc aGp] abbrev aDm (c : Dev nD) : FVec Ideal S2048x1024 .f32 := m ((c : Thread nD τ).loc main_arg6)

/-- Where each window's block lies at each point. -/
theorem idx : ∀ t : Fin cfg0.N, win0_0.index t = ![0, t.val / 4, t.val % 4] ∧ win0_1.index t = ![0, t.val / 4, 0]
    ∧ win0_2.index t = ![0, t.val % 4, 0, 0, 0] ∧ win0_3.index t = ![t.val / 4, t.val % 4]
    ∧ win0_4.index t = ![0, t.val / 4, t.val % 4] ∧ win0_5.index t = ![0, t.val / 4, 0] ∧ win0_6.index t = ![0, 0, 0, 0] :=
  (by decide +kernel : ∀ t : Fin grid0.N, _)

/-- Row `r` of row tile `t / 4`. -/
def row (t : Fin cfg0.N) (r : Fin 512) : Fin 2048 :=
  ⟨t.val / 4 * 512 + r.val, by have := lt_of_lt_of_eq t.isLt (show cfg0.N = 16 from N_0); omega⟩
/-- Column `c` of column block `t % 4`. -/
def col (t : Fin cfg0.N) (c : Fin 256) : Fin 1024 := ⟨t.val % 4 * 256 + c.val, by omega⟩

/-- The block of pre-activations, entry by entry. -/
theorem bGp_at (c : Dev nD) (t : Fin cfg0.N) (n : Fin 4) (r : Fin 512) (k : Fin 256) :
    gateAt (bGp m c t) n r k = gate (aGp m c) n (row t r) (col t k) := by
  unfold gateAt gate bGp aGp row col
  congr 1
  blk_ext [iblk, V, idx t]

/-- The block of the incoming gradient, entry by entry. -/
theorem bDm_at (c : Dev nD) (t : Fin cfg0.N) (r : Fin 512) (k : Fin 256) :
    bDm m c t (ix2 r k) = aDm m c (ix2 (row t r) (col t k)) := by
  unfold bDm aDm row col
  blk_ext [iblk, V, idx t]

/-- One branch as a slab of the stack. -/
abbrev slab (x : FVec Ideal S2048x256 .bf16) : FVec Ideal S1x2048x256 .bf16 :=
  broadcastInDim S1x2048x256 ![1, 2] bcast_S2048x256_S1x2048x256_1_2 x

/-- Four slabs one after another. -/
def cat4 (a b c d : FVec Ideal S1x2048x256 .bf16) : FVec Ideal S4x2048x256 .bf16 :=
  concatenate S4x2048x256 0 [⟨S1x2048x256, a⟩, ⟨S1x2048x256, b⟩, ⟨S1x2048x256, c⟩, ⟨S1x2048x256, d⟩]
    concatenates_S1x2048x256_S1x2048x256_S1x2048x256_S1x2048x256_S4x2048x256_d0

/-- The stack of slabs equal to given ones. -/
theorem cat4_of {a b c d a' b' c' d' : FVec Ideal S1x2048x256 .bf16} (ha : a = a') (hb : b = b') (hc : c = c') (hd : d = d') :
    concatenate S4x2048x256 0 [⟨S1x2048x256, a⟩, ⟨S1x2048x256, b⟩, ⟨S1x2048x256, c⟩, ⟨S1x2048x256, d⟩]
      concatenates_S1x2048x256_S1x2048x256_S1x2048x256_S1x2048x256_S4x2048x256_d0 = cat4 a' b' c' d' := by
  subst ha hb hc hd; rfl

/-- The stacked branches are the four slabs one after another. -/
theorem stack_eq (c : Dev nD) : (V m c main_v4 : FVec Ideal S4x2048x256 .bf16)
    = cat4 (slab (aRet m c)) (slab (aPool m c)) (slab (aNa m c)) (slab (aMem m c)) := by
  unfold V hostOps0
  after_results
  refine cat4_of ?_ ?_ ?_ ?_ <;> (dsimp only [Matrix.cons_val]; after_results_simp) <;> rfl

/-- The stacked branches, entry by entry. -/
theorem stack_at (c : Dev nD) (n : Fin 4) (r : Fin 2048) (k : Fin 256) :
    (V m c main_v4 : FVec Ideal S4x2048x256 .bf16) (ix3 n r k) = branch (aRet m c) (aPool m c) (aNa m c) (aMem m c) n r k := by
  rw [stack_eq]
  generalize aRet m c = x1, aPool m c = x2, aNa m c = x3, aMem m c = x4
  pointwise [cat4]
  fin_cases n <;> rfl

/-- The regrouped weights, entry by entry. -/
theorem wb_at (c : Dev nD) (s n : Fin 4) (k l : Fin 256) :
    (V m c main_v5 : FVec Ideal S1x4x4x256x256 .bf16) (ix5 0 s n k l) = aWb m c (ix3 s ⟨n.val * 256 + k.val, by omega⟩ l) := by
  entry_read
  show shapeCast S1x4x4x256x256 (aWb m c) shapeCasts_S4x1024x256_S1x4x4x256x256 (ix5 0 s n k l) = _
  generalize aWb m c = x5
  pointwise []

/-- The block of branches, entry by entry. -/
theorem bBr_at (c : Dev nD) (t : Fin cfg0.N) (n : Fin 4) (r : Fin 512) (k : Fin 256) :
    bBr m c t (ix3 n r k) = branch (aRet m c) (aPool m c) (aNa m c) (aMem m c) n (row t r) k := by
  rw [← stack_at]
  unfold bBr row
  blk_ext [iblk, idx t]

/-- The block of weights, entry by entry. -/
theorem bWb_at (c : Dev nD) (t : Fin cfg0.N) (n : Fin 4) (k l : Fin 256) :
    bWb m c t (ix5 0 0 n k l) = weight (aWb m c) n k (col t l) := by
  have h : weight (aWb m c) n k (col t l) = aWb m c (ix3 ⟨t.val % 4, by omega⟩ ⟨n.val * 256 + k.val, by omega⟩ l) := by
    unfold weight col
    blk_ext []
  rw [h, ← wb_at]
  unfold bWb
  blk_ext [iblk, idx t]

end Cert.GateIdeal.Merge

end
-- ==== Proof.Gate.Final.lean ====
module

public import proofs.«01_k».proof.Proof.Gate.Value

@[expose] public section

set_option maxRecDepth 16384

noncomputable section

namespace Cert.GateIdeal.Merge

open Cert.GateIdeal Cert.GateIdeal.Gen
open Idealize.ShloMosaic Idealize.ShloMosaic.TcCoe Idealize.SL.Sem
open Idealize.ShloMosaic.Pipeline (Dat)
open Cert.GateRefIdeal.Read

variable (m : (ℓ : Loc nD τ sig) → Buf (Elt Ideal) ℓ)

/-- The cleared branch gradients are zero. -/
theorem clear_br (y : S4x512x256.Idx) : k0_pay44 (F := Ideal) y = 0 := by
  pointwise [k0_pay44]
/-- The cleared weight gradients are zero. -/
theorem clear_w (y : S4x4x256x256.Idx) : k0_pay45 (F := Ideal) y = 0 := by
  pointwise [k0_pay45]

/-- One grid point's gate gradients, entry by entry. -/
theorem dgpB_at (c : Dev nD) (t : Fin cfg0.N) (n : Fin 4) (r : Fin 512) (l : Fin 256) :
    (bDm m c t (ix2 r l) * ∑ k, bBr m c t (ix3 n r k) * bWb m c t (ix5 0 0 n k l))
        * (gateAt (bGp m c t) n r l * (1 - gateAt (bGp m c t) n r l))
      = (aDm m c (ix2 (row t r) (col t l)) * ∑ k : Fin 256,
          branch (aRet m c) (aPool m c) (aNa m c) (aMem m c) n (row t r) k * weight (aWb m c) n k (col t l))
        * (gate (aGp m c) n (row t r) (col t l) * (1 - gate (aGp m c) n (row t r) (col t l))) := by
  simp only [bGp_at, bDm_at, bBr_at, bWb_at]

/-- The gate gradients: the array the kernel leaves is the reference's. -/
theorem final_dgp (c : Dev nD) : (dats m 0 c).arrAt 4 (cfgs 0).N
    = val_main_v41 (F := Ideal) (aGp m c) (aRet m c) (aPool m c) (aNa m c) (aMem m c) (aWb m c) (aDm m c) := by
  refine (dats m 0 c).arrAt_eq_of_covers 4 _ (by decide +kernel) fun t _ y => ?_
  blk_simp
  rw [after_4, dgp_stack]
  have e : ((cfg0.win 4).blk t).view.emb y = (ix3 (y 0) (row t (y 1)) (col t (y 2)) : S4x2048x1024.Idx) := by
    unfold row col
    blk_ext [idx t]
  rw [e]
  refine Eq.trans ?_ (ref_dgp _ _ _ _ _ _ _ _ _ _).symm
  exact dgpB_at m c t _ _ _

/-- One term of the branch gradients. -/
def brTerm (c : Dev nD) (n : Fin 4) (r : Fin 2048) (k : Fin 256) (d : Fin 1024) : EReal :=
  (gate (aGp m c) n r d * aDm m c (ix2 r d)) * weight (aWb m c) n k d

/-- One grid point's part of the branch gradients. -/
theorem dbrB_at (c : Dev nD) (t : Fin cfg0.N) (n : Fin 4) (r : Fin 512) (k : Fin 256) :
    dbrB (bGp m c t) (bWb m c t) (bDm m c t) (ix3 n r k) = ∑ l : Fin 256, brTerm m c n (row t r) k (col t l) := by
  show ∑ l : Fin 256, (gateAt (bGp m c t) n r l * bDm m c t (ix2 r l)) * bWb m c t (ix5 0 0 n k l) = _
  simp only [bGp_at, bDm_at, bWb_at]; rfl

/-- One step of the branch gradients past the first column block. -/
theorem accBr_step (c : Dev nD) (t : Fin cfg0.N) (h : ¬ t.val % 4 = 0) (n : Fin 4) (r : Fin 512) (k : Fin 256) :
    accBr m c t.val (ix3 n r k) = accBr m c (t.val - 1) (ix3 n r k) + ∑ l : Fin 256, brTerm m c n (row t r) k (col t l) := by
  rw [accBr_next m c t h, dbr_stack, ← dbrB_at]; rfl

/-- The step of the branch gradients at the first column block. -/
theorem accBr_start (c : Dev nD) (t : Fin cfg0.N) (h : t.val % 4 = 0) (n : Fin 4) (r : Fin 512) (k : Fin 256) :
    accBr m c t.val (ix3 n r k) = ∑ l : Fin 256, brTerm m c n (row t r) k (col t l) := by
  rw [accBr_first m c t h, dbr_stack, ← dbrB_at]
  show k0_pay44 (F := Ideal) _ + _ = _
  rw [clear_br, zero_add]

/-- The branch gradients a row tile ends with: the four column blocks together. -/
theorem accBr_last (c : Dev nD) (t : Fin cfg0.N) (h : t.val % 4 = 3) (n : Fin 4) (r : Fin 512) (k : Fin 256) :
    accBr m c t.val (ix3 n r k) = ∑ d : Fin 1024, brTerm m c n (row t r) k d := by
  obtain ⟨v, hv⟩ := t
  obtain ⟨u, rfl⟩ : ∃ u, v = u + 3 := ⟨v - 3, by dsimp only at h; omega⟩
  dsimp only at h
  have b2 : u + 2 < cfg0.N := by omega
  have b1 : u + 1 < cfg0.N := by omega
  have b0 : u < cfg0.N := by omega
  have e3 := accBr_step m c ⟨u + 3, hv⟩ (by dsimp only; omega) n r k
  have e2 := accBr_step m c ⟨u + 2, b2⟩ (by dsimp only; omega) n r k
  have e1 := accBr_step m c ⟨u + 1, b1⟩ (by dsimp only; omega) n r k
  have e0 := accBr_start m c ⟨u, b0⟩ (by dsimp only; omega) n r k
  dsimp only [Nat.add_one_sub_one] at e3 e2 e1 e0 ⊢
  have r2 : row ⟨u + 2, b2⟩ r = row ⟨u + 3, hv⟩ r := Fin.ext (by unfold row; dsimp only; omega)
  have r1 : row ⟨u + 1, b1⟩ r = row ⟨u + 3, hv⟩ r := Fin.ext (by unfold row; dsimp only; omega)
  have r0 : row ⟨u, b0⟩ r = row ⟨u + 3, hv⟩ r := Fin.ext (by unfold row; dsimp only; omega)
  rw [r2] at e2; rw [r1] at e1; rw [r0] at e0
  rw [e3, e2, e1, e0, Fin.sum_univ_tiles (N := 1024) 4 256 (by norm_num), Fin.sum_univ_four]
  have key : ∀ (v : ℕ) (hv : v < cfg0.N) (j : Fin 4), v % 4 = j.val → ∀ R : Fin 2048,
      ∑ l : Fin 256, brTerm m c n R k (col ⟨v, hv⟩ l)
        = ∑ l : Fin 256, brTerm m c n R k ⟨j.val * 256 + l.val, by omega⟩ := fun v hv j hj R =>
    Finset.sum_congr rfl fun l _ => congrArg _ (Fin.ext (by unfold col; dsimp only; rw [hj]))
  rw [key _ hv 3 (by show _ = 3; omega), key _ b2 2 (by show _ = 2; omega), key _ b1 1 (by show _ = 1; omega),
    key _ b0 0 (by show _ = 0; omega)]

/-- The branch gradients: the array the kernel leaves is the reference's. -/
theorem final_dbr (c : Dev nD) : (dats m 0 c).arrAt 5 (cfgs 0).N
    = val_main_v42 (F := Ideal) (aGp m c) (aWb m c) (aDm m c) := by
  refine (dats m 0 c).arrAt_eq_of_covers 5 _ (by decide +kernel) fun t hf y => ?_
  have h3 := (flush0_5 t).mp hf
  blk_simp
  rw [after_5]
  have e : ((cfg0.win 5).blk t).view.emb y = (ix3 (y 0) (row t (y 1)) (y 2) : S4x2048x256.Idx) := by
    unfold row
    blk_ext [idx t]
  rw [e]
  refine Eq.trans ?_ (ref_dbr _ _ _ _ _ _).symm
  have ey : y = (ix3 (y 0) (y 1) (y 2) : S4x512x256.Idx) := by blk_ext []
  rw [ey]
  exact accBr_last m c t h3 _ _ _

/-- One term of the weight gradients. -/
def wTerm (c : Dev nD) (n : Fin 4) (k : Fin 256) (d : Fin 1024) (r : Fin 2048) : EReal :=
  branch (aRet m c) (aPool m c) (aNa m c) (aMem m c) n r k * (gate (aGp m c) n r d * aDm m c (ix2 r d))

/-- One grid point's part of the weight gradients. -/
theorem dwB_at (c : Dev nD) (t : Fin cfg0.N) (n : Fin 4) (k l : Fin 256) :
    dwB (bGp m c t) (bBr m c t) (bDm m c t) n k l = ∑ r : Fin 512, wTerm m c n k (col t l) (row t r) := by
  unfold dwB
  simp only [bGp_at, bDm_at, bBr_at]; rfl

/-- The weight gradients after point `i`: the points so far, each in the slab of its column block. -/
theorem accW_sum (c : Dev nD) (s n : Fin 4) (k l : Fin 256) : ∀ i : ℕ, i < 16 → accW m c i (ix4 s n k l)
    = ∑ j ∈ Finset.range (i + 1), if s.val = j % 4 then dwB (bGp m c (pt j)) (bBr m c (pt j)) (bDm m c (pt j)) n k l else 0
  | 0, _ => by
    have e : (colBlk (grid0.coords (pt 0))).val = 0 % 4 := coord_1 (pt 0)
    rw [accW, dw_slab, Finset.sum_range_one]
    unfold dwStep
    rw [clear_w]
    show (if s.val = _ then _ else _) = _
    rw [e, zero_add]; rfl
  | i + 1, h => by
    have hp : (pt (i + 1)).val = i + 1 := by unfold pt; rw [dif_pos (lt_of_lt_of_eq h (show cfg0.N = 16 from N_0).symm)]
    have e : (colBlk (grid0.coords (pt (i + 1)))).val = (i + 1) % 4 := by
      have := coord_1 (pt (i + 1)); rw [hp, Nat.div_one] at this; exact this
    rw [accW, dw_slab, Finset.sum_range_succ, ← accW_sum c s n k l i (by omega)]
    unfold dwStep
    show (if s.val = _ then _ else _) = _
    rw [e]
    by_cases hs : s.val = (i + 1) % 4
    · rw [if_pos hs, if_pos hs]; rfl
    · rw [if_neg hs, if_neg hs, add_zero]

/-- The weight gradients the grid ends with: the four row tiles together. -/
theorem accW_last (c : Dev nD) (s n : Fin 4) (k l : Fin 256) :
    accW m c 15 (ix4 s n k l) = ∑ r : Fin 2048, wTerm m c n k ⟨s.val * 256 + l.val, by omega⟩ r := by
  have hp : ∀ j, j < 16 → (pt j).val = j := fun j h => by unfold pt; rw [dif_pos (lt_of_lt_of_eq h (show cfg0.N = 16 from N_0).symm)]
  have key : accW m c 15 (ix4 s n k l) = ∑ i : Fin 4, dwB (bGp m c (pt (4 * i.val + s.val))) (bBr m c (pt (4 * i.val + s.val))) (bDm m c (pt (4 * i.val + s.val))) n k l := by
    rw [accW_sum m c s n k l 15 (by omega), Fin.sum_univ_four]
    simp only [Finset.sum_range_succ, Finset.sum_range_zero]
    fin_cases s <;> simp
  rw [key, Fin.sum_univ_tiles (N := 2048) 4 512 (by norm_num)]
  refine Finset.sum_congr rfl fun i _ => ?_
  rw [dwB_at]
  refine Finset.sum_congr rfl fun r _ => ?_
  have h := hp (4 * i.val + s.val) (by omega)
  have e1 : col (pt (4 * i.val + s.val)) l = ⟨s.val * 256 + l.val, by omega⟩ := Fin.ext (by unfold col; dsimp only; rw [h]; omega)
  have e2 : row (pt (4 * i.val + s.val)) r = ⟨i.val * 512 + r.val, by omega⟩ := Fin.ext (by unfold row; dsimp only; rw [h]; omega)
  rw [e1, e2]

/-- The weight gradients: the array the kernel leaves is the reference's. -/
theorem final_dw (c : Dev nD) : (dats m 0 c).arrAt 6 (cfgs 0).N
    = val_main_v44 (F := Ideal) (aGp m c) (aRet m c) (aPool m c) (aNa m c) (aMem m c) (aDm m c) := by
  refine (dats m 0 c).arrAt_eq_of_covers 6 _ (by decide +kernel) fun t hf y => ?_
  have h15 : t.val = 15 := by
    have := (flush0_6 t).mp hf
    have hN : t.val < 16 := lt_of_lt_of_eq t.isLt (show cfg0.N = 16 from N_0)
    omega
  blk_simp
  rw [after_6, h15]
  have e : ((cfg0.win 6).blk t).view.emb y = (ix4 (y 0) (y 1) (y 2) (y 3) : S4x4x256x256.Idx) := by
    blk_ext [idx t]
  rw [e]
  refine Eq.trans ?_ (ref_dw _ _ _ _ _ _ _ _ _ _).symm
  have ey : y = (ix4 (y 0) (y 1) (y 2) (y 3) : S4x4x256x256.Idx) := by blk_ext []
  rw [ey]
  exact accW_last m c _ _ _ _

/-- The run with its values: the three results are the reference's of the arguments, which end unchanged. -/
theorem run_value (ρ : Dev nD → PrngReg) : θ_run defs (onTc (τ := τ) (main (F := Ideal))) ⟨m, fun _ => 0, ρ⟩ (fun r => ∀ c : Dev nD,
      r.2.mem ((c.tc : Thread nD τ).loc main_v6_0) = val_main_v41 (F := Ideal) (aGp m c) (aRet m c) (aPool m c) (aNa m c) (aMem m c) (aWb m c) (aDm m c)
      ∧ r.2.mem ((c.tc : Thread nD τ).loc main_v6_1) = val_main_v42 (F := Ideal) (aGp m c) (aWb m c) (aDm m c)
      ∧ r.2.mem ((c.tc : Thread nD τ).loc main_v6_2) = val_main_v44 (F := Ideal) (aGp m c) (aRet m c) (aPool m c) (aNa m c) (aMem m c) (aDm m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h.1.1 c).1 4).trans (final_dgp m c), ((h.1.1 c).1 5).trans (final_dbr m c),
    ((h.1.1 c).1 6).trans (final_dw m c), h.2.1 c⟩) (θ_run_and (run_main m ρ) (frame m ρ))

end Cert.GateIdeal.Merge

end
-- ==== Proof.Ffn.Run.lean ====
module

public import proofs.«01_k».proof.Proof.Gen.FfnIdeal.Frame

@[expose] public section

set_option maxRecDepth 16384

noncomputable section

namespace Cert.FfnIdeal.Mixer

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with its memory: every buffer outside the kernels' own scopes ends as the last boundary has it. -/
theorem run_memory : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ => h)

end Cert.FfnIdeal.Mixer

end
-- ==== Proof.Ffn.Regions.lean ====
module

public import proofs.«01_k».proof.Proof.Gen.FfnIdeal.Frame
public import Idealize.ShloMosaic.Lib.Pipeline.ValueKit
public import Idealize.ShloMosaic.Lib.Pointwise

@[expose] public section

set_option maxRecDepth 16384

noncomputable section

namespace Cert.FfnIdeal.Mixer

open Cert.FfnIdeal Cert.FfnIdeal.Gen
open Idealize.ShloMosaic Idealize.ShloMosaic.TcCoe Idealize.SL.Sem
open Idealize.ShloMosaic.Pipeline (Dat)

/-- Entry `(r, k)` of the normalised rows: the entry over the root of its row's mean square (with the small constant added), times the gain. -/
def hid (x : FVec Ideal S2048x1024 .f32) (g : FVec Ideal S1x1024 .f32) (r : Fin 2048) (k : Fin 1024) : EReal :=
  x (ix2 r k) * Ideal.rsqrt (Ideal.div (∑ j : Fin 1024, x (ix2 r j) * x (ix2 r j)) (Ideal.ofBits .f32 0x44800000#32) + Ideal.ofBits .f32 0x358637BD#32) * g (ix2 0 k)

/-- The gated unit of a pair: `a` times its logistic, times `g`. -/
def unit (a g : EReal) : EReal := a * Ideal.logistic a * g

/-- The gradient to the pair's first member, `d` being the gradient to the unit. -/
def unitA (a g d : EReal) : EReal := d * g * Ideal.logistic a + a * (d * g) * (Ideal.logistic a * (1 - Ideal.logistic a))

/-- The gradient to the pair's second member. -/
def unitG (a d : EReal) : EReal := a * Ideal.logistic a * d

variable (V : (c : Dev nD) → (b : Ref sig .tc) → Buf (Elt Ideal) ((c : Thread nD τ).loc b))

/-- Where the blocks lie at each point: one statement per region. -/
theorem idx0 : ∀ t : Fin cfg0.N, win0_0.index t = ![t.val, 0] ∧ win0_1.index t = ![0, 0] ∧ win0_2.index t = ![t.val, 0] :=
  (by decide +kernel : ∀ t : Fin grid0.N, _)
@[inherit_doc idx0] theorem idx1 : ∀ t : Fin cfg1.N, win1_0.index t = ![t.val / 4, 0] ∧ win1_1.index t = ![0, t.val % 4, 0, 0]
    ∧ win1_2.index t = ![t.val % 4, t.val / 4, 0] :=
  (by decide +kernel : ∀ t : Fin grid1.N, _)
@[inherit_doc idx0] theorem idx2 : ∀ t : Fin cfg2.N, win2_0.index t = ![t.val % 2, t.val / 2, 0] ∧ win2_1.index t = ![t.val % 2 + 2, t.val / 2, 0]
    ∧ win2_2.index t = ![t.val / 2, t.val % 2] :=
  (by decide +kernel : ∀ t : Fin grid2.N, _)
@[inherit_doc idx0] theorem idx3 : ∀ t : Fin cfg3.N, win3_0.index t = ![t.val / 2, 0] ∧ win3_1.index t = ![0, 0, t.val % 2, 0]
    ∧ win3_2.index t = ![t.val / 2, t.val % 2] :=
  (by decide +kernel : ∀ t : Fin grid3.N, _)
@[inherit_doc idx0] theorem idx4 : ∀ t : Fin cfg4.N, win4_0.index t = ![0, t.val] ∧ win4_1.index t = ![0, 0] ∧ win4_2.index t = ![0, t.val, 0] :=
  (by decide +kernel : ∀ t : Fin grid4.N, _)
@[inherit_doc idx0] theorem idx5 : ∀ t : Fin cfg5.N, win5_0.index t = ![t.val % 2, t.val / 2, 0] ∧ win5_1.index t = ![t.val % 2 + 2, t.val / 2, 0]
    ∧ win5_2.index t = ![t.val / 2, t.val % 2] ∧ win5_3.index t = ![0, t.val % 2, t.val / 2, 0] :=
  (by decide +kernel : ∀ t : Fin grid5.N, _)
@[inherit_doc idx0] theorem idx6 : ∀ t : Fin cfg6.N, win6_0.index t = ![0, 0] ∧ win6_1.index t = ![t.val, 0, 0] ∧ win6_2.index t = ![t.val, 0, 0] :=
  (by decide +kernel : ∀ t : Fin grid6.N, _)

/-- Normalising one row block. -/
theorem pay0 (x : Vec Ideal S512x1024 .f32) (g : Vec Ideal S1x1024 .f32) (r : Fin 512) (k : Fin 1024) :
    k0_pay1 x g (ix2 r k) = x (ix2 r k) * Ideal.rsqrt (Ideal.div (∑ j : Fin 1024, x (ix2 r j) * x (ix2 r j)) (Ideal.ofBits .f32 0x44800000#32) + Ideal.ofBits .f32 0x358637BD#32) * g (ix2 0 k) := by
  pointwise [k0_pay1]
/-- The product of a row block with one block of the input weights. -/
theorem pay1 (h : Vec Ideal S1024x1024 .bf16) (w : Vec Ideal S1x1x1024x1408 .bf16) (r : Fin 1024) (d : Fin 1408) :
    k1_pay1 h w (ix3 0 r d) = ∑ k : Fin 1024, (h (ix2 r k) : EReal) * w (ix4 0 0 k d) := by
  pointwise [k1_pay1]
/-- The gated units of one block. -/
theorem pay2 (a g : Vec Ideal S1x512x1408 .f32) (r : Fin 512) (d : Fin 1408) :
    k2_pay1 a g (ix2 r d) = unit (a (ix3 0 r d)) (g (ix3 0 r d)) := by
  pointwise [k2_pay1, unit]
/-- The product of a row block of the incoming gradient with one block of the output weights, across. -/
theorem pay3 (x : Vec Ideal S1024x1024 .f32) (w : Vec Ideal S1x1x1408x1024 .bf16) (r : Fin 1024) (d : Fin 1408) :
    k3_pay1 x w (ix2 r d) = ∑ k : Fin 1024, (x (ix2 r k) : EReal) * w (ix4 0 0 d k) := by
  pointwise [k3_pay1]
/-- The gradient of one block of the output weights. -/
theorem pay4 (u : Vec Ideal S2048x1408 .bf16) (x : Vec Ideal S2048x1024 .f32) (d : Fin 1408) (k : Fin 1024) :
    k4_pay1 u x (ix3 0 d k) = ∑ r : Fin 2048, (u (ix2 r d) : EReal) * x (ix2 r k) := by
  pointwise [k4_pay1]
/-- The gradients to the first members of one block's pairs. -/
theorem pay5a (a g : Vec Ideal S1x512x1408 .f32) (u : Vec Ideal S512x1408 .f32) (r : Fin 512) (d : Fin 1408) :
    k5_pay4 a g u (ix4 0 0 r d) = unitA (a (ix3 0 r d)) (g (ix3 0 r d)) (u (ix2 r d)) := by
  pointwise [k5_pay1, k5_pay2, k5_pay3, k5_pay4, unitA]
/-- The gradients to the second members of one block's pairs. -/
theorem pay5g (a : Vec Ideal S1x512x1408 .f32) (u : Vec Ideal S512x1408 .f32) (r : Fin 512) (d : Fin 1408) :
    k5_pay5 a u (ix4 0 0 r d) = unitG (a (ix3 0 r d)) (u (ix2 r d)) := by
  pointwise [k5_pay1, k5_pay2, k5_pay3, k5_pay5, unitG]
/-- The gradient of one block of the input weights. -/
theorem pay6 (h : Vec Ideal S2048x1024 .bf16) (e : Vec Ideal S1x2048x1408 .bf16) (k : Fin 1024) (d : Fin 1408) :
    k6_pay1 h e (ix3 0 k d) = ∑ r : Fin 2048, (h (ix2 r k) : EReal) * e (ix3 0 r d) := by
  pointwise [k6_pay1]

variable (c : Dev nD)

/-- The number of points of each region. -/
theorem lt0 (t : Fin cfg0.N) : t.val < 4 := lt_of_lt_of_eq t.isLt (show cfg0.N = 4 from N_0)
@[inherit_doc lt0] theorem lt1 (t : Fin cfg1.N) : t.val < 8 := lt_of_lt_of_eq t.isLt (show cfg1.N = 8 from N_1)
@[inherit_doc lt0] theorem lt2 (t : Fin cfg2.N) : t.val < 8 := lt_of_lt_of_eq t.isLt (show cfg2.N = 8 from N_2)
@[inherit_doc lt0] theorem lt3 (t : Fin cfg3.N) : t.val < 4 := lt_of_lt_of_eq t.isLt (show cfg3.N = 4 from N_3)
@[inherit_doc lt0] theorem lt4 (t : Fin cfg4.N) : t.val < 2 := lt_of_lt_of_eq t.isLt (show cfg4.N = 2 from N_4)
@[inherit_doc lt0] theorem lt5 (t : Fin cfg5.N) : t.val < 8 := lt_of_lt_of_eq t.isLt (show cfg5.N = 8 from N_5)
@[inherit_doc lt0] theorem lt6 (t : Fin cfg6.N) : t.val < 4 := lt_of_lt_of_eq t.isLt (show cfg6.N = 4 from N_6)

/-- Each input block, entry by entry: region by region, window by window. -/
theorem b0_0 (t : Fin cfg0.N) (r : Fin 512) (k : Fin 1024) : (iblk0 V c 0 t : Vec Ideal S512x1024 .f32) (ix2 r k)
    = (V c main_arg0 : FVec Ideal S2048x1024 .f32) (ix2 ⟨t.val * 512 + r.val, by have := lt0 t; omega⟩ k) := by
  blk_ext [iblk0, idx0 t]
@[inherit_doc b0_0] theorem b0_1 (t : Fin cfg0.N) (k : Fin 1024) : (iblk0 V c 1 t : Vec Ideal S1x1024 .f32) (ix2 0 k)
    = (V c main_arg1 : FVec Ideal S1x1024 .f32) (ix2 0 k) := by
  blk_ext [iblk0, idx0 t]
@[inherit_doc b0_0] theorem b1_0 (t : Fin cfg1.N) (r : Fin 1024) (k : Fin 1024) : (iblk1 V c 0 t : Vec Ideal S1024x1024 .bf16) (ix2 r k)
    = (V c main_v2 : FVec Ideal S2048x1024 .bf16) (ix2 ⟨t.val / 4 * 1024 + r.val, by have := lt1 t; omega⟩ k) := by
  blk_ext [iblk1, idx1 t]
@[inherit_doc b0_0] theorem b1_1 (t : Fin cfg1.N) (k : Fin 1024) (d : Fin 1408) : (iblk1 V c 1 t : Vec Ideal S1x1x1024x1408 .bf16) (ix4 0 0 k d)
    = (V c main_v0 : FVec Ideal S1x4x1024x1408 .bf16) (ix4 0 ⟨t.val % 4, by omega⟩ k d) := by
  blk_ext [iblk1, idx1 t]
@[inherit_doc b0_0] theorem b2_0 (t : Fin cfg2.N) (r : Fin 512) (d : Fin 1408) : (iblk2 V c 0 t : Vec Ideal S1x512x1408 .f32) (ix3 0 r d)
    = (V c main_v3 : FVec Ideal S4x2048x1408 .f32) (ix3 ⟨t.val % 2, by omega⟩ ⟨t.val / 2 * 512 + r.val, by have := lt2 t; omega⟩ d) := by
  blk_ext [iblk2, idx2 t]
@[inherit_doc b0_0] theorem b2_1 (t : Fin cfg2.N) (r : Fin 512) (d : Fin 1408) : (iblk2 V c 1 t : Vec Ideal S1x512x1408 .f32) (ix3 0 r d)
    = (V c main_v3 : FVec Ideal S4x2048x1408 .f32) (ix3 ⟨t.val % 2 + 2, by omega⟩ ⟨t.val / 2 * 512 + r.val, by have := lt2 t; omega⟩ d) := by
  blk_ext [iblk2, idx2 t]
@[inherit_doc b0_0] theorem b3_0 (t : Fin cfg3.N) (r : Fin 1024) (k : Fin 1024) : (iblk3 V c 0 t : Vec Ideal S1024x1024 .f32) (ix2 r k)
    = (V c main_arg4 : FVec Ideal S2048x1024 .f32) (ix2 ⟨t.val / 2 * 1024 + r.val, by have := lt3 t; omega⟩ k) := by
  blk_ext [iblk3, idx3 t]
@[inherit_doc b0_0] theorem b3_1 (t : Fin cfg3.N) (d : Fin 1408) (k : Fin 1024) : (iblk3 V c 1 t : Vec Ideal S1x1x1408x1024 .bf16) (ix4 0 0 d k)
    = (V c main_v1 : FVec Ideal S1x1x2816x1024 .bf16) (ix4 0 0 ⟨t.val % 2 * 1408 + d.val, by omega⟩ k) := by
  blk_ext [iblk3, idx3 t]
@[inherit_doc b0_0] theorem b4_0 (t : Fin cfg4.N) (r : Fin 2048) (d : Fin 1408) : (iblk4 V c 0 t : Vec Ideal S2048x1408 .bf16) (ix2 r d)
    = (V c main_v4 : FVec Ideal S2048x2816 .bf16) (ix2 r ⟨t.val * 1408 + d.val, by have := lt4 t; omega⟩) := by
  blk_ext [iblk4, idx4 t]
@[inherit_doc b0_0] theorem b4_1 (t : Fin cfg4.N) (r : Fin 2048) (k : Fin 1024) : (iblk4 V c 1 t : Vec Ideal S2048x1024 .f32) (ix2 r k)
    = (V c main_arg4 : FVec Ideal S2048x1024 .f32) (ix2 r k) := by
  blk_ext [iblk4, idx4 t]
@[inherit_doc b0_0] theorem b5_0 (t : Fin cfg5.N) (r : Fin 512) (d : Fin 1408) : (iblk5 V c 0 t : Vec Ideal S1x512x1408 .f32) (ix3 0 r d)
    = (V c main_v3 : FVec Ideal S4x2048x1408 .f32) (ix3 ⟨t.val % 2, by omega⟩ ⟨t.val / 2 * 512 + r.val, by have := lt5 t; omega⟩ d) := by
  blk_ext [iblk5, idx5 t]
@[inherit_doc b0_0] theorem b5_1 (t : Fin cfg5.N) (r : Fin 512) (d : Fin 1408) : (iblk5 V c 1 t : Vec Ideal S1x512x1408 .f32) (ix3 0 r d)
    = (V c main_v3 : FVec Ideal S4x2048x1408 .f32) (ix3 ⟨t.val % 2 + 2, by omega⟩ ⟨t.val / 2 * 512 + r.val, by have := lt5 t; omega⟩ d) := by
  blk_ext [iblk5, idx5 t]
@[inherit_doc b0_0] theorem b5_2 (t : Fin cfg5.N) (r : Fin 512) (d : Fin 1408) : (iblk5 V c 2 t : Vec Ideal S512x1408 .f32) (ix2 r d)
    = (V c main_v5 : FVec Ideal S2048x2816 .f32) (ix2 ⟨t.val / 2 * 512 + r.val, by have := lt5 t; omega⟩ ⟨t.val % 2 * 1408 + d.val, by omega⟩) := by
  blk_ext [iblk5, idx5 t]
@[inherit_doc b0_0] theorem b6_0 (t : Fin cfg6.N) (r : Fin 2048) (k : Fin 1024) : (iblk6 V c 0 t : Vec Ideal S2048x1024 .bf16) (ix2 r k)
    = (V c main_v2 : FVec Ideal S2048x1024 .bf16) (ix2 r k) := by
  blk_ext [iblk6, idx6 t]
@[inherit_doc b0_0] theorem b6_1 (t : Fin cfg6.N) (r : Fin 2048) (d : Fin 1408) : (iblk6 V c 1 t : Vec Ideal S1x2048x1408 .bf16) (ix3 0 r d)
    = (V c main_v8 : FVec Ideal S4x2048x1408 .bf16) (ix3 ⟨t.val, lt6 t⟩ r d) := by
  blk_ext [iblk6, idx6 t]

/-- The normalised rows, as an array. -/
def hidArr (x : FVec Ideal S2048x1024 .f32) (g : FVec Ideal S1x1024 .f32) : FVec Ideal S2048x1024 .bf16 := fun y => hid x g (y 0) (y 1)
/-- Rows against the four column blocks of the input weights. -/
def inArr (h : FVec Ideal S2048x1024 .bf16) (w : FVec Ideal S1x4x1024x1408 .bf16) : FVec Ideal S4x2048x1408 .f32 :=
  fun y => ∑ k : Fin 1024, (h (ix2 (y 1) k) : EReal) * w (ix4 0 (y 0) k (y 2))
/-- The gated units: a column of block 0 or 1 with its partner in block 2 or 3. -/
def unitArr (p : FVec Ideal S4x2048x1408 .f32) : FVec Ideal S2048x2816 .bf16 := fun y =>
  have h : (y 1).val < 2816 := (y 1).isLt
  unit (p (ix3 ⟨(y 1).val / 1408, by omega⟩ (y 0) ⟨(y 1).val % 1408, by omega⟩)) (p (ix3 ⟨(y 1).val / 1408 + 2, by omega⟩ (y 0) ⟨(y 1).val % 1408, by omega⟩))
/-- The incoming gradient against the output weights, across. -/
def backArr (x : FVec Ideal S2048x1024 .f32) (w : FVec Ideal S1x1x2816x1024 .bf16) : FVec Ideal S2048x2816 .f32 :=
  fun y => ∑ k : Fin 1024, (x (ix2 (y 0) k) : EReal) * w (ix4 0 0 (y 1) k)
/-- The gradient of the output weights. -/
def outWArr (u : FVec Ideal S2048x2816 .bf16) (x : FVec Ideal S2048x1024 .f32) : FVec Ideal S1x2816x1024 .f32 :=
  fun y => ∑ r : Fin 2048, (u (ix2 r (y 1)) : EReal) * x (ix2 r (y 2))
/-- The gradients to the pairs, first members before second ones. -/
def pairArr (p : FVec Ideal S4x2048x1408 .f32) (d : FVec Ideal S2048x2816 .f32) : FVec Ideal S2x2x2048x1408 .bf16 := fun y =>
  have h : (y 1).val < 2 := (y 1).isLt
  have h' : (y 3).val < 1408 := (y 3).isLt
  if (y 0).val = 0 then unitA (p (ix3 ⟨(y 1).val, by omega⟩ (y 2) (y 3))) (p (ix3 ⟨(y 1).val + 2, by omega⟩ (y 2) (y 3))) (d (ix2 (y 2) ⟨(y 1).val * 1408 + (y 3).val, by omega⟩))
  else unitG (p (ix3 ⟨(y 1).val, by omega⟩ (y 2) (y 3))) (d (ix2 (y 2) ⟨(y 1).val * 1408 + (y 3).val, by omega⟩))
/-- The first members' half of the pairs' gradients. -/
theorem pairArr_0 (p : FVec Ideal S4x2048x1408 .f32) (d : FVec Ideal S2048x2816 .f32) (b : Fin 2) (r : Fin 2048) (j : Fin 1408) :
    pairArr p d (ix4 0 b r j) = unitA (p (ix3 ⟨b.val, by omega⟩ r j)) (p (ix3 ⟨b.val + 2, by omega⟩ r j)) (d (ix2 r ⟨b.val * 1408 + j.val, by omega⟩)) := by
  unfold pairArr
  dsimp only
  rw [if_pos (show ((ix4 0 b r j : S2x2x2048x1408.Idx) 0).val = 0 from rfl)]; rfl
/-- The second members' half of the pairs' gradients. -/
theorem pairArr_1 (p : FVec Ideal S4x2048x1408 .f32) (d : FVec Ideal S2048x2816 .f32) (b : Fin 2) (r : Fin 2048) (j : Fin 1408) :
    pairArr p d (ix4 1 b r j) = unitG (p (ix3 ⟨b.val, by omega⟩ r j)) (d (ix2 r ⟨b.val * 1408 + j.val, by omega⟩)) := by
  unfold pairArr
  dsimp only
  rw [if_neg (show ¬ ((ix4 1 b r j : S2x2x2048x1408.Idx) 0).val = 0 from Nat.one_ne_zero)]; rfl
/-- The gradient of the input weights, in their four column blocks. -/
def inWArr (h : FVec Ideal S2048x1024 .bf16) (e : FVec Ideal S4x2048x1408 .bf16) : FVec Ideal S4x1024x1408 .f32 :=
  fun y => ∑ r : Fin 2048, (h (ix2 r (y 1)) : EReal) * e (ix3 (y 0) r (y 2))

/-- Region 0 leaves the normalised rows. -/
theorem arr0 : (dat0 V c).arrAt 2 cfg0.N = hidArr (V c main_arg0) (V c main_arg1) := by
  refine (dat0 V c).arrAt_eq_of_covers 2 _ (by decide +kernel) fun t _ y => ?_
  blk_simp
  rw [after0_2]
  frame_out
  obtain ⟨r, k, rfl⟩ : ∃ (r : Fin 512) (k : Fin 1024), y = ix2 r k := ⟨y 0, y 1, eq_ix2 y⟩
  have e : ((cfg0.win 2).blk t).view.emb (ix2 r k) = (ix2 ⟨t.val * 512 + r.val, by have := lt0 t; omega⟩ k : S2048x1024.Idx) := by
    blk_ext [idx0 t]
  refine (pay0 _ _ r k).trans ((?_ : _ = hid _ _ _ _).trans (congrArg (hidArr _ _) e.symm))
  simp only [b0_0, b0_1, hid]; rfl

/-- Region 1 leaves the rows' products with the input weights. -/
theorem arr1 : (dat1 V c).arrAt 2 cfg1.N = inArr (V c main_v2) (V c main_v0) := by
  refine (dat1 V c).arrAt_eq_of_covers 2 _ (by decide +kernel) fun t _ y => ?_
  blk_simp
  rw [after1_2]
  frame_out
  obtain ⟨r, d, rfl⟩ : ∃ (r : Fin 1024) (d : Fin 1408), y = ix3 0 r d := ⟨y 1, y 2, by blk_ext []⟩
  have e : ((cfg1.win 2).blk t).view.emb (ix3 0 r d) = (ix3 ⟨t.val % 4, by omega⟩ ⟨t.val / 4 * 1024 + r.val, by have := lt1 t; omega⟩ d : S4x2048x1408.Idx) := by
    blk_ext [idx1 t]
  refine (pay1 _ _ r d).trans ((?_ : _ = inArr _ _ (ix3 _ _ _)).trans (congrArg (inArr _ _) e.symm))
  simp only [b1_0, b1_1]; rfl

/-- Region 2 leaves the gated units. -/
theorem arr2 : (dat2 V c).arrAt 2 cfg2.N = unitArr (V c main_v3) := by
  refine (dat2 V c).arrAt_eq_of_covers 2 _ (by decide +kernel) fun t _ y => ?_
  blk_simp
  rw [after2_2]
  frame_out
  obtain ⟨r, d, rfl⟩ : ∃ (r : Fin 512) (d : Fin 1408), y = ix2 r d := ⟨y 0, y 1, eq_ix2 y⟩
  have e : ((cfg2.win 2).blk t).view.emb (ix2 r d) = (ix2 ⟨t.val / 2 * 512 + r.val, by have := lt2 t; omega⟩ ⟨t.val % 2 * 1408 + d.val, by omega⟩ : S2048x2816.Idx) := by
    blk_ext [idx2 t]
  refine (pay2 _ _ r d).trans ((?_ : _ = unitArr _ (ix2 _ _)).trans (congrArg (unitArr _) e.symm))
  rw [b2_0, b2_1]
  have e1 : (t.val % 2 * 1408 + d.val) / 1408 = t.val % 2 := by omega
  have e2 : (t.val % 2 * 1408 + d.val) % 1408 = d.val := by omega
  unfold unitArr
  dsimp only [ix2, Matrix.cons_val]
  simp only [e1, e2]

/-- Region 3 leaves the incoming gradient taken back through the output weights. -/
theorem arr3 : (dat3 V c).arrAt 2 cfg3.N = backArr (V c main_arg4) (V c main_v1) := by
  refine (dat3 V c).arrAt_eq_of_covers 2 _ (by decide +kernel) fun t _ y => ?_
  blk_simp
  rw [after3_2]
  frame_out
  obtain ⟨r, d, rfl⟩ : ∃ (r : Fin 1024) (d : Fin 1408), y = ix2 r d := ⟨y 0, y 1, eq_ix2 y⟩
  have e : ((cfg3.win 2).blk t).view.emb (ix2 r d) = (ix2 ⟨t.val / 2 * 1024 + r.val, by have := lt3 t; omega⟩ ⟨t.val % 2 * 1408 + d.val, by omega⟩ : S2048x2816.Idx) := by
    blk_ext [idx3 t]
  refine (pay3 _ _ r d).trans ((?_ : _ = backArr _ _ (ix2 _ _)).trans (congrArg (backArr _ _) e.symm))
  simp only [b3_0, b3_1]; rfl

/-- Region 4 leaves the gradient of the output weights. -/
theorem arr4 : (dat4 V c).arrAt 2 cfg4.N = outWArr (V c main_v4) (V c main_arg4) := by
  refine (dat4 V c).arrAt_eq_of_covers 2 _ (by decide +kernel) fun t _ y => ?_
  blk_simp
  rw [after4_2]
  frame_out
  obtain ⟨d, k, rfl⟩ : ∃ (d : Fin 1408) (k : Fin 1024), y = ix3 0 d k := ⟨y 1, y 2, by blk_ext []⟩
  have e : ((cfg4.win 2).blk t).view.emb (ix3 0 d k) = (ix3 0 ⟨t.val * 1408 + d.val, by have := lt4 t; omega⟩ k : S1x2816x1024.Idx) := by
    blk_ext [idx4 t]
  refine (pay4 _ _ d k).trans ((?_ : _ = outWArr _ _ (ix3 _ _ _)).trans (congrArg (outWArr _ _) e.symm))
  simp only [b4_0, b4_1]; rfl

/-- Region 6 leaves the gradient of the input weights. -/
theorem arr6 : (dat6 V c).arrAt 2 cfg6.N = inWArr (V c main_v2) (V c main_v8) := by
  refine (dat6 V c).arrAt_eq_of_covers 2 _ (by decide +kernel) fun t _ y => ?_
  blk_simp
  rw [after6_2]
  frame_out
  obtain ⟨k, d, rfl⟩ : ∃ (k : Fin 1024) (d : Fin 1408), y = ix3 0 k d := ⟨y 1, y 2, by blk_ext []⟩
  have e : ((cfg6.win 2).blk t).view.emb (ix3 0 k d) = (ix3 ⟨t.val, lt6 t⟩ k d : S4x1024x1408.Idx) := by
    blk_ext [idx6 t]
  refine (pay6 _ _ k d).trans ((?_ : _ = inWArr _ _ (ix3 _ _ _)).trans (congrArg (inWArr _ _) e.symm))
  simp only [b6_0, b6_1]; rfl

/-- Region 5 leaves the gradients to the pairs. -/
theorem arr5 : (dat5 V c).arrAt 3 cfg5.N = pairArr (V c main_v3) (V c main_v5) := by
  refine (dat5 V c).arrAt_eq_of_covers 3 _ (by decide +kernel) fun t _ y => ?_
  blk_simp
  rw [after5_3]
  frame_out
  obtain ⟨n, r, d, rfl⟩ : ∃ (n : Fin 2) (r : Fin 512) (d : Fin 1408), y = ix4 n 0 r d := ⟨y 0, y 2, y 3, by blk_ext []⟩
  have e : ((cfg5.win 3).blk t).view.emb (ix4 n 0 r d) = (ix4 n ⟨t.val % 2, by omega⟩ ⟨t.val / 2 * 512 + r.val, by have := lt5 t; omega⟩ d : S2x2x2048x1408.Idx) := by
    blk_ext [idx5 t]
  refine Eq.trans ?_ (congrArg (pairArr _ _) e.symm)
  canon_tiles x h
  · obtain ⟨r', d', rfl⟩ : ∃ (r' : Fin 512) (d' : Fin 1408), x = ix4 0 0 r' d' := ⟨x 2, x 3, by blk_ext []⟩
    obtain rfl : r = r' := Fin.ext h2
    obtain rfl : d = d' := Fin.ext h3
    obtain rfl : n = 1 := Fin.ext h0
    refine (pay5g _ _ r d).trans (Eq.trans ?_ (pairArr_1 _ _ _ _ _).symm)
    rw [b5_0, b5_2]
  · obtain ⟨r', d', rfl⟩ : ∃ (r' : Fin 512) (d' : Fin 1408), x = ix4 0 0 r' d' := ⟨x 2, x 3, by blk_ext []⟩
    obtain rfl : r = r' := Fin.ext h2
    obtain rfl : d = d' := Fin.ext h3
    obtain rfl : n = 0 := Fin.ext h0
    refine (pay5a _ _ _ r d).trans (Eq.trans ?_ (pairArr_0 _ _ _ _ _).symm)
    rw [b5_0, b5_1, b5_2]

end Cert.FfnIdeal.Mixer

end
-- ==== Proof.Ffn.Spec.lean ====
module

public import proofs.«01_k».proof.Proof.Ffn.Regions
public import proofs.«01_k».proof.Proof.Gen.FfnRefIdeal.Run
public import proofs.«01_k».proof.Proof.Gen.FfnRefIdeal.Read

@[expose] public section

set_option maxRecDepth 16384

noncomputable section

namespace Cert.FfnIdeal.Mixer

open Cert.FfnIdeal
open Idealize.ShloMosaic Idealize.ShloMosaic.TcCoe
open Cert.FfnRefIdeal.Read

variable (x0 : FVec Ideal S2048x1024 .f32) (x1 : FVec Ideal S1x1024 .f32) (x2 : FVec Ideal S4x1024x1408 .bf16)
  (x3 : FVec Ideal S2816x1024 .bf16) (x4 : FVec Ideal S2048x1024 .f32)

/-- Column `d` of block `s` of the normalised rows against the input weights. -/
def pre (s : Fin 4) (r : Fin 2048) (d : Fin 1408) : EReal := ∑ k : Fin 1024, hid x0 x1 r k * x2 (ix3 s k d)
/-- The incoming gradient taken back through the output weights. -/
def back (r : Fin 2048) (d : Fin 2816) : EReal := ∑ k : Fin 1024, x4 (ix2 r k) * x3 (ix2 d k)

/-- The reference's normalised rows. -/
theorem ref_hid (r : Fin 2048) (k : Fin 1024) : val_main_v14 (F := Ideal) x0 x1 (ix2 r k) = hid x0 x1 r k := by
  pointwise [val_main_v14, val_main_v13, val_main_v12, val_main_v11, val_main_v10, val_main_v9, val_main_v8, val_main_v7, val_main_v6, val_main_v5, val_main_v4, val_main_v3, val_main_cst, val_main_cst_0, val_main_cst_1, hid]

/-- The reference's first product. -/
theorem ref_pre (r : Fin 2048) (s : Fin 4) (d : Fin 1408) (h : s.val * 1408 + d.val < 5632) :
    val_main_v15 (F := Ideal) x0 x1 x2 (ix2 r ⟨s.val * 1408 + d.val, h⟩) = pre x0 x1 x2 s r d := by
  pointwise [val_main_v15, val_main_v2, val_main_v1, val_main_v0, pre]
  simp only [ref_hid]

/-- The first members of the pairs. -/
theorem ref_a (r : Fin 2048) (b : Fin 2) (d : Fin 1408) (h : b.val * 1408 + d.val < 2816) :
    val_main_v17 (F := Ideal) x0 x1 x2 (ix2 r ⟨b.val * 1408 + d.val, h⟩) = pre x0 x1 x2 ⟨b.val, by omega⟩ r d := by
  rw [← ref_pre x0 x1 x2 r ⟨b.val, by omega⟩ d (by dsimp only; omega)]
  pointwise [val_main_v17]
/-- The second members of the pairs. -/
theorem ref_g (r : Fin 2048) (b : Fin 2) (d : Fin 1408) (h : b.val * 1408 + d.val < 2816) :
    val_main_v18 (F := Ideal) x0 x1 x2 (ix2 r ⟨b.val * 1408 + d.val, h⟩) = pre x0 x1 x2 ⟨b.val + 2, by omega⟩ r d := by
  rw [← ref_pre x0 x1 x2 r ⟨b.val + 2, by omega⟩ d (by dsimp only; omega)]
  pointwise [val_main_v18]
  blk_ext []
/-- The gradient taken back. -/
theorem ref_back (r : Fin 2048) (d : Fin 2816) : val_main_v24 (F := Ideal) x3 x4 (ix2 r d) = back x3 x4 r d := by
  pointwise [val_main_v24, val_main_v16, back]

/-- The logistic of the pairs' first members. -/
theorem ref_sig (i : S2048x2816.Idx) :
    val_main_v19_2 (F := Ideal) x0 x1 x2 i = Ideal.logistic (val_main_v17 (F := Ideal) x0 x1 x2 i) := by
  pointwise [val_main_v19_2, val_main_call0_v4, val_main_call0_v3, val_main_call0_v2, val_main_call0_v1, val_main_call0_v0, val_main_call0_cst, val_main_call0_cst_0]
  rfl

/-- The reference's gated units. -/
theorem ref_unit (r : Fin 2048) (b : Fin 2) (d : Fin 1408) (h : b.val * 1408 + d.val < 2816) :
    val_main_v20 (F := Ideal) x0 x1 x2 (ix2 r ⟨b.val * 1408 + d.val, h⟩) = unit (pre x0 x1 x2 ⟨b.val, by omega⟩ r d) (pre x0 x1 x2 ⟨b.val + 2, by omega⟩ r d) := by
  rw [← ref_a x0 x1 x2 r b d h, ← ref_g x0 x1 x2 r b d h]
  unfold unit
  rw [← ref_sig]; rfl

/-- The gradient to the pairs' first members. -/
theorem ref_unitA (r : Fin 2048) (b : Fin 2) (d : Fin 1408) (h : b.val * 1408 + d.val < 2816) :
    val_main_v27 (F := Ideal) x0 x1 x2 x3 x4 (ix2 r ⟨b.val * 1408 + d.val, h⟩)
      = unitA (pre x0 x1 x2 ⟨b.val, by omega⟩ r d) (pre x0 x1 x2 ⟨b.val + 2, by omega⟩ r d) (back x3 x4 r ⟨b.val * 1408 + d.val, h⟩) := by
  rw [← ref_a x0 x1 x2 r b d h, ← ref_g x0 x1 x2 r b d h, ← ref_back]
  unfold unitA
  rw [← ref_sig]
  pointwise [val_main_v27, val_main_call1_v2, val_main_call1_v1, val_main_call1_v0, val_main_v26, val_main_v19_1, val_main_call0_v7, val_main_call0_v6, val_main_call0_cst_1]
/-- The gradient to the pairs' second members. -/
theorem ref_unitG (r : Fin 2048) (b : Fin 2) (d : Fin 1408) (h : b.val * 1408 + d.val < 2816) :
    val_main_v25 (F := Ideal) x0 x1 x2 x3 x4 (ix2 r ⟨b.val * 1408 + d.val, h⟩)
      = unitG (pre x0 x1 x2 ⟨b.val, by omega⟩ r d) (back x3 x4 r ⟨b.val * 1408 + d.val, h⟩) := by
  rw [← ref_a x0 x1 x2 r b d h, ← ref_back]
  unfold unitG
  rw [← ref_sig]; rfl

/-- The gradients to all columns, block by block: first members in blocks 0 and 1, second members in blocks 2 and 3. -/
def pairG (s : Fin 4) (r : Fin 2048) (d : Fin 1408) : EReal :=
  if h : s.val < 2 then unitA (pre x0 x1 x2 ⟨s.val, by omega⟩ r d) (pre x0 x1 x2 ⟨s.val + 2, by omega⟩ r d) (back x3 x4 r ⟨s.val * 1408 + d.val, by omega⟩)
  else unitG (pre x0 x1 x2 ⟨s.val - 2, by omega⟩ r d) (back x3 x4 r ⟨(s.val - 2) * 1408 + d.val, by omega⟩)

/-- The reference's gradients to all columns. -/
theorem ref_pairG (r : Fin 2048) (s : Fin 4) (d : Fin 1408) (h : s.val * 1408 + d.val < 5632) :
    val_main_v28 (F := Ideal) x0 x1 x2 x3 x4 (ix2 r ⟨s.val * 1408 + d.val, h⟩) = pairG x0 x1 x2 x3 x4 s r d := by
  unfold pairG
  split_ifs with hs
  · rw [← ref_unitA x0 x1 x2 x3 x4 r ⟨s.val, hs⟩ d (by dsimp only; omega)]
    pointwise [val_main_v28]
    rw [dif_pos (by omega)]
  · rw [← ref_unitG x0 x1 x2 x3 x4 r ⟨s.val - 2, by omega⟩ d (by dsimp only; omega)]
    pointwise [val_main_v28]
    rw [dif_neg (by omega)]
    blk_ext []

/-- The first result: the gradients in their four blocks. -/
theorem ref_dag (s : Fin 4) (r : Fin 2048) (d : Fin 1408) :
    val_main_v33 (F := Ideal) x0 x1 x2 x3 x4 (ix3 s r d) = pairG x0 x1 x2 x3 x4 s r d := by
  rw [← ref_pairG x0 x1 x2 x3 x4 r s d (by omega)]
  pointwise [val_main_v33, val_main_v32, val_main_v31]

/-- The second result: the gradient of the input weights. -/
theorem ref_inW (s : Fin 4) (k : Fin 1024) (d : Fin 1408) :
    val_main_v35 (F := Ideal) x0 x1 x2 x3 x4 (ix3 s k d) = ∑ r : Fin 2048, hid x0 x1 r k * pairG x0 x1 x2 x3 x4 s r d := by
  pointwise [val_main_v35, val_main_v34, val_main_v30, val_main_v29]
  simp only [ref_pairG, ref_hid, mul_comm (hid _ _ _ _)]

/-- The third result: the gradient of the output weights. -/
theorem ref_outW (b : Fin 2) (d : Fin 1408) (k : Fin 1024) (h : b.val * 1408 + d.val < 2816) :
    val_main_v36 (F := Ideal) x0 x1 x2 x4 (ix3 0 ⟨b.val * 1408 + d.val, h⟩ k)
      = ∑ r : Fin 2048, unit (pre x0 x1 x2 ⟨b.val, by omega⟩ r d) (pre x0 x1 x2 ⟨b.val + 2, by omega⟩ r d) * x4 (ix2 r k) := by
  pointwise [val_main_v36, val_main_v23, val_main_v22]
  simp only [ref_unit, mul_comm (x4 _)]

end Cert.FfnIdeal.Mixer

end
-- ==== Proof.Ffn.Final.lean ====
module

public import proofs.«01_k».proof.Proof.Ffn.Run
public import proofs.«01_k».proof.Proof.Ffn.Spec

@[expose] public section

set_option maxRecDepth 16384

noncomputable section

namespace Cert.FfnIdeal.Mixer

open Cert.FfnIdeal Cert.FfnIdeal.Gen
open Idealize.ShloMosaic Idealize.ShloMosaic.TcCoe Idealize.SL.Sem
open Cert.FfnRefIdeal.Read

variable (m : (ℓ : Loc nD τ sig) → Buf (Elt Ideal) ℓ) (ρ : Dev nD → PrngReg) (c : Dev nD)

/-- The kernel's arguments: the rows, the gain, the input weights, the output weights, the incoming gradient. -/
abbrev aX : FVec Ideal S2048x1024 .f32 := m ((c : Thread nD τ).loc main_arg0)
@[inherit_doc aX] abbrev aGain : FVec Ideal S1x1024 .f32 := m ((c : Thread nD τ).loc main_arg1)
@[inherit_doc aX] abbrev aIn : FVec Ideal S4x1024x1408 .bf16 := m ((c : Thread nD τ).loc main_arg2)
@[inherit_doc aX] abbrev aOut : FVec Ideal S2816x1024 .bf16 := m ((c : Thread nD τ).loc main_arg3)
@[inherit_doc aX] abbrev aDx : FVec Ideal S2048x1024 .f32 := m ((c : Thread nD τ).loc main_arg4)

/-- The weights as the regions take them. -/
abbrev wIn (w : FVec Ideal S4x1024x1408 .bf16) : FVec Ideal S1x4x1024x1408 .bf16 :=
  broadcastInDim S1x4x1024x1408 ![1, 2, 3] bcast_S4x1024x1408_S1x4x1024x1408_1_2_3 w
@[inherit_doc wIn] abbrev wOut (w : FVec Ideal S2816x1024 .bf16) : FVec Ideal S1x1x2816x1024 .bf16 :=
  shapeCast S1x1x2816x1024 w shapeCasts_S2816x1024_S1x1x2816x1024

/-- The weights at the first boundary. -/
theorem v0_1 : (V1 m ρ c main_v0 : FVec Ideal S1x4x1024x1408 .bf16) = wIn (aIn m c) := by
  unfold V1 W1 hostOps0; after_results
@[inherit_doc v0_1] theorem v1_1 : (V1 m ρ c main_v1 : FVec Ideal S1x1x2816x1024 .bf16) = wOut (aOut m c) := by
  unfold V1 W1 hostOps0; after_results; rfl

/-- The arrays between the regions: the normalised rows, their products, the units, the gradient taken back. -/
abbrev rows : FVec Ideal S2048x1024 .bf16 := hidArr (aX m c) (aGain m c)
@[inherit_doc rows] abbrev pairs : FVec Ideal S4x2048x1408 .f32 := inArr (rows m c) (wIn (aIn m c))
@[inherit_doc rows] abbrev backs : FVec Ideal S2048x2816 .f32 := backArr (aDx m c) (wOut (aOut m c))

/-- What each boundary holds of them. -/
theorem v2_2 : V2 m ρ c main_v2 = rows m c :=
  ((W2_arr m ρ c 2).trans (arr0 (V1 m ρ) c)).trans
    (congrArg₂ hidArr (W1_args m ρ c main_arg0 (by decide)) (W1_args m ρ c main_arg1 (by decide)))
@[inherit_doc v2_2] theorem v0_2 : V2 m ρ c main_v0 = wIn (aIn m c) := (W2_of m ρ c main_v0 (by decide)).trans (v0_1 m ρ c)
@[inherit_doc v2_2] theorem v3_3 : V3 m ρ c main_v3 = pairs m c :=
  ((W3_arr m ρ c 2).trans (arr1 (V2 m ρ) c)).trans (congrArg₂ inArr (v2_2 m ρ c) (v0_2 m ρ c))
@[inherit_doc v2_2] theorem v4_4 : V4 m ρ c main_v4 = unitArr (pairs m c) :=
  ((W4_arr m ρ c 2).trans (arr2 (V3 m ρ) c)).trans (congrArg unitArr (v3_3 m ρ c))
@[inherit_doc v2_2] theorem v1_4 : V4 m ρ c main_v1 = wOut (aOut m c) :=
  (W4_of m ρ c main_v1 (by decide)).trans ((W3_of m ρ c main_v1 (by decide)).trans ((W2_of m ρ c main_v1 (by decide)).trans (v1_1 m ρ c)))
@[inherit_doc v2_2] theorem v5_5 : V5 m ρ c main_v5 = backs m c :=
  ((W5_arr m ρ c 2).trans (arr3 (V4 m ρ) c)).trans (congrArg₂ backArr (W4_args m ρ c main_arg4 (by decide)) (v1_4 m ρ c))
@[inherit_doc v2_2] theorem v4_5 : V5 m ρ c main_v4 = unitArr (pairs m c) := (W5_of m ρ c main_v4 (by decide)).trans (v4_4 m ρ c)
@[inherit_doc v2_2] theorem v6_6 : V6 m ρ c main_v6 = outWArr (unitArr (pairs m c)) (aDx m c) :=
  ((W6_arr m ρ c 2).trans (arr4 (V5 m ρ) c)).trans (congrArg₂ outWArr (v4_5 m ρ c) (W5_args m ρ c main_arg4 (by decide)))
@[inherit_doc v2_2] theorem v3_6 : V6 m ρ c main_v3 = pairs m c :=
  (W6_of m ρ c main_v3 (by decide)).trans ((W5_of m ρ c main_v3 (by decide)).trans ((W4_of m ρ c main_v3 (by decide)).trans (v3_3 m ρ c)))
@[inherit_doc v2_2] theorem v5_6 : V6 m ρ c main_v5 = backs m c := (W6_of m ρ c main_v5 (by decide)).trans (v5_5 m ρ c)
@[inherit_doc v2_2] theorem v7_7 : V7 m ρ c main_v7 = pairArr (pairs m c) (backs m c) :=
  ((W7_arr m ρ c 3).trans (arr5 (V6 m ρ) c)).trans (congrArg₂ pairArr (v3_6 m ρ c) (v5_6 m ρ c))

/-- The pairs' gradients in the four blocks of the input weights' columns. -/
abbrev blocks4 (p : FVec Ideal S2x2x2048x1408 .bf16) : FVec Ideal S4x2048x1408 .bf16 :=
  shapeCast S4x2048x1408 p shapeCasts_S2x2x2048x1408_S4x2048x1408

@[inherit_doc v2_2] theorem v8_8 : V8 m ρ c main_v8 = blocks4 (pairArr (pairs m c) (backs m c)) := by
  have e : (V8 m ρ c main_v8 : FVec Ideal S4x2048x1408 .bf16) = blocks4 (V7 m ρ c main_v7) := by
    unfold V8 W8 hostOps6; after_results; rfl
  exact e.trans (congrArg blocks4 (v7_7 m ρ c))
@[inherit_doc v2_2] theorem v2_8 : V8 m ρ c main_v2 = rows m c :=
  (W8_of m ρ c main_v2 (by decide)).trans ((W7_of m ρ c main_v2 (by decide)).trans ((W6_of m ρ c main_v2 (by decide)).trans
    ((W5_of m ρ c main_v2 (by decide)).trans ((W4_of m ρ c main_v2 (by decide)).trans ((W3_of m ρ c main_v2 (by decide)).trans (v2_2 m ρ c))))))
@[inherit_doc v2_2] theorem v9_9 : V9 m ρ c main_v9 = inWArr (rows m c) (blocks4 (pairArr (pairs m c) (backs m c))) :=
  ((W9_arr m ρ c 2).trans (arr6 (V8 m ρ) c)).trans (congrArg₂ inWArr (v2_8 m ρ c) (v8_8 m ρ c))
@[inherit_doc v2_2] theorem v8_9 : V9 m ρ c main_v8 = blocks4 (pairArr (pairs m c) (backs m c)) := (W9_of m ρ c main_v8 (by decide)).trans (v8_8 m ρ c)
@[inherit_doc v2_2] theorem v6_9 : V9 m ρ c main_v6 = outWArr (unitArr (pairs m c)) (aDx m c) :=
  (W9_of m ρ c main_v6 (by decide)).trans ((W8_of m ρ c main_v6 (by decide)).trans ((W7_of m ρ c main_v6 (by decide)).trans (v6_6 m ρ c)))

section Equations

variable (x0 : FVec Ideal S2048x1024 .f32) (x1 : FVec Ideal S1x1024 .f32) (x2 : FVec Ideal S4x1024x1408 .bf16)
  (x3 : FVec Ideal S2816x1024 .bf16) (x4 : FVec Ideal S2048x1024 .f32)

/-- The products' array, entry by entry. -/
theorem pairs_at (s : Fin 4) (r : Fin 2048) (d : Fin 1408) : inArr (hidArr x0 x1) (wIn x2) (ix3 s r d) = pre x0 x1 x2 s r d := by
  show ∑ k : Fin 1024, hid x0 x1 r k * wIn x2 (ix4 0 s k d) = ∑ k : Fin 1024, hid x0 x1 r k * x2 (ix3 s k d)
  refine Finset.sum_congr rfl fun k _ => congrArg _ ?_
  pointwise []
/-- The gradient taken back, entry by entry. -/
theorem backs_at (r : Fin 2048) (d : Fin 2816) : backArr x4 (wOut x3) (ix2 r d) = back x3 x4 r d := by
  show ∑ k : Fin 1024, x4 (ix2 r k) * wOut x3 (ix4 0 0 d k) = ∑ k : Fin 1024, x4 (ix2 r k) * x3 (ix2 d k)
  refine Finset.sum_congr rfl fun k _ => congrArg _ ?_
  pointwise []

/-- The pairs' gradients in four blocks, entry by entry. -/
theorem blocks_at (s : Fin 4) (r : Fin 2048) (d : Fin 1408) :
    blocks4 (pairArr (inArr (hidArr x0 x1) (wIn x2)) (backArr x4 (wOut x3))) (ix3 s r d) = pairG x0 x1 x2 x3 x4 s r d := by
  have e : ∀ p : FVec Ideal S2x2x2048x1408 .bf16, blocks4 p (ix3 s r d) = p (ix4 ⟨s.val / 2, by omega⟩ ⟨s.val % 2, by omega⟩ r d) := fun p => by
    pointwise []
  rw [e]
  unfold pairG
  split_ifs with hs
  · have e0 : (⟨s.val / 2, by omega⟩ : Fin 2) = 0 := Fin.ext (by show s.val / 2 = 0; omega)
    have e1 : (⟨s.val % 2, by omega⟩ : Fin 2) = ⟨s.val, hs⟩ := Fin.ext (by show s.val % 2 = s.val; omega)
    rw [e0, e1, pairArr_0]
    simp only [pairs_at, backs_at]
  · have e0 : (⟨s.val / 2, by omega⟩ : Fin 2) = 1 := Fin.ext (by show s.val / 2 = 1; omega)
    have e1 : (⟨s.val % 2, by omega⟩ : Fin 2) = ⟨s.val - 2, by omega⟩ := Fin.ext (by show s.val % 2 = s.val - 2; omega)
    rw [e0, e1, pairArr_1]
    simp only [pairs_at, backs_at]

/-- The first result is the reference's. -/
theorem eq_dag : blocks4 (pairArr (inArr (hidArr x0 x1) (wIn x2)) (backArr x4 (wOut x3))) = val_main_v33 (F := Ideal) x0 x1 x2 x3 x4 := by
  funext y
  obtain ⟨s, r, d, rfl⟩ : ∃ (s : Fin 4) (r : Fin 2048) (d : Fin 1408), y = ix3 s r d := ⟨y 0, y 1, y 2, eq_ix3 y⟩
  exact (blocks_at x0 x1 x2 x3 x4 s r d).trans (ref_dag x0 x1 x2 x3 x4 s r d).symm

/-- The second result is the reference's. -/
theorem eq_inW : inWArr (hidArr x0 x1) (blocks4 (pairArr (inArr (hidArr x0 x1) (wIn x2)) (backArr x4 (wOut x3)))) = val_main_v35 (F := Ideal) x0 x1 x2 x3 x4 := by
  funext y
  obtain ⟨s, k, d, rfl⟩ : ∃ (s : Fin 4) (k : Fin 1024) (d : Fin 1408), y = ix3 s k d := ⟨y 0, y 1, y 2, eq_ix3 y⟩
  refine Eq.trans ?_ (ref_inW x0 x1 x2 x3 x4 s k d).symm
  exact Finset.sum_congr rfl fun r _ => congrArg (hid x0 x1 r k * ·) (blocks_at x0 x1 x2 x3 x4 s r d)

/-- The units, entry by entry. -/
theorem unit_at (r : Fin 2048) (b : Fin 2) (d : Fin 1408) (h : b.val * 1408 + d.val < 2816) :
    unitArr (inArr (hidArr x0 x1) (wIn x2)) (ix2 r ⟨b.val * 1408 + d.val, h⟩)
      = unit (pre x0 x1 x2 ⟨b.val, by omega⟩ r d) (pre x0 x1 x2 ⟨b.val + 2, by omega⟩ r d) := by
  rw [← pairs_at, ← pairs_at]
  have e1 : (b.val * 1408 + d.val) / 1408 = b.val := by omega
  have e2 : (b.val * 1408 + d.val) % 1408 = d.val := by omega
  unfold unitArr
  dsimp only [ix2, Matrix.cons_val]
  simp only [e1, e2]

/-- The third result is the reference's. -/
theorem eq_outW : outWArr (unitArr (inArr (hidArr x0 x1) (wIn x2))) x4 = val_main_v36 (F := Ideal) x0 x1 x2 x4 := by
  funext y
  obtain ⟨b, d, k, h, rfl⟩ : ∃ (b : Fin 2) (d : Fin 1408) (k : Fin 1024) (h : b.val * 1408 + d.val < 2816), y = ix3 0 ⟨b.val * 1408 + d.val, h⟩ k := by
    have hy : (y 1).val < 2816 := (y 1).isLt
    refine ⟨⟨(y 1).val / 1408, by omega⟩, ⟨(y 1).val % 1408, by omega⟩, y 2, by dsimp only; omega, ?_⟩
    blk_ext []
  refine Eq.trans ?_ (ref_outW x0 x1 x2 x4 b d k h).symm
  exact Finset.sum_congr rfl fun r _ => congrArg (· * x4 (ix2 r k)) (unit_at x0 x1 x2 r b d h)

end Equations

/-- The run with its values: the three results are the reference's of the arguments, which end unchanged. -/
theorem run_value : θ_run defs (onTc (τ := τ) (main (F := Ideal))) ⟨m, fun _ => 0, ρ⟩ (fun r => ∀ c : Dev nD,
      r.2.mem ((c.tc : Thread nD τ).loc main_v8) = val_main_v33 (F := Ideal) (aX m c) (aGain m c) (aIn m c) (aOut m c) (aDx m c)
      ∧ r.2.mem ((c.tc : Thread nD τ).loc main_v9) = val_main_v35 (F := Ideal) (aX m c) (aGain m c) (aIn m c) (aOut m c) (aDx m c)
      ∧ r.2.mem ((c.tc : Thread nD τ).loc main_v6) = val_main_v36 (F := Ideal) (aX m c) (aGain m c) (aIn m c) (aDx m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
    (h c _ (mem_uc main_v8 (by decide))).trans ((v8_9 m ρ c).trans (eq_dag _ _ _ _ _)),
    (h c _ (mem_uc main_v9 (by decide))).trans ((v9_9 m ρ c).trans (eq_inW _ _ _ _ _)),
    (h c _ (mem_uc main_v6 (by decide))).trans ((v6_9 m ρ c).trans (eq_outW _ _ _ _)),
    (h c _ (mem_uc main_arg0 (by decide))).trans (W9_main_arg0 m ρ c), (h c _ (mem_uc main_arg1 (by decide))).trans (W9_main_arg1 m ρ c),
    (h c _ (mem_uc main_arg2 (by decide))).trans (W9_main_arg2 m ρ c), (h c _ (mem_uc main_arg3 (by decide))).trans (W9_main_arg3 m ρ c),
    (h c _ (mem_uc main_arg4 (by decide))).trans (W9_main_arg4 m ρ c)⟩) (run_memory m ρ)

end Cert.FfnIdeal.Mixer

end
-- ==== Proof.Dx.FfnDx.lean ====
module

public import proofs.«01_k».proof.Proof.Gen.FfnDxIdeal.Value
public import proofs.«01_k».proof.Proof.Gen.FfnDxRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.FfnDxIdeal.Back

open Cert.FfnDxIdeal Cert.FfnDxIdeal.Gen
open Idealize.ShloMosaic Idealize.ShloMosaic.TcCoe Idealize.SL.Sem
open Idealize.ShloMosaic.Pipeline (Dat)

variable (m : (ℓ : Loc nD τ sig) → Buf (Elt Ideal) ℓ)

/-- Where the blocks lie at each point: row tile `t / 4`, slice `t % 4` of the four. -/
theorem idx : ∀ t : Fin cfg0.N, win0_0.index t = ![t.val % 4, t.val / 4, 0] ∧ win0_1.index t = ![0, t.val % 4, 0, 0]
    ∧ win0_2.index t = ![t.val / 4, 0] :=
  (by decide +kernel : ∀ t : Fin grid0.N, _)

/-- Entry `(r, j)` of slice `s`'s contribution: the gradient's row against the weight's row. -/
def slice (a : FVec Ideal S4x2048x1408 .bf16) (w : FVec Ideal S4x1024x1408 .bf16) (s : Fin 4) (r : Fin 2048) (j : Fin 1024) : EReal :=
  ∑ k : Fin 1408, a (ix3 s r k) * w (ix3 s j k)

/-- Entry `(r, j)` of one block's product. -/
def prod (a : Vec Ideal S1x1024x1408 .bf16) (w : Vec Ideal S1x1x1024x1408 .bf16) (r j : Fin 1024) : EReal :=
  ∑ k : Fin 1408, a (ix3 0 r k) * w (ix4 0 0 j k)

/-- What the product is at an entry, and what the three kinds of step store from it: the product alone, then added to what was kept. -/
theorem pay1 (a : Vec Ideal S1x1024x1408 .bf16) (w : Vec Ideal S1x1x1024x1408 .bf16) (r j : Fin 1024) :
    k0_pay1 a w (ix2 r j) = prod a w r j := by
  unfold prod
  pointwise [k0_pay1]
@[inherit_doc pay1] theorem pay2 (a : Vec Ideal S1x1024x1408 .bf16) (w : Vec Ideal S1x1x1024x1408 .bf16) (r j : Fin 1024) :
    k0_pay2 a w (ix2 r j) = prod a w r j := by
  pointwise [k0_pay2, pay1]
@[inherit_doc pay1] theorem pay3 (a : Vec Ideal S1x1024x1408 .bf16) (w : Vec Ideal S1x1x1024x1408 .bf16) (b : Vec Ideal S1024x1024 .f32) (r j : Fin 1024) :
    k0_pay3 a w b (ix2 r j) = b (ix2 r j) + prod a w r j := by
  pointwise [k0_pay3, pay1]
@[inherit_doc pay1] theorem pay4 (a : Vec Ideal S1x1024x1408 .bf16) (w : Vec Ideal S1x1x1024x1408 .bf16) (b : Vec Ideal S1024x1024 .f32) (r j : Fin 1024) :
    k0_pay4 a w b (ix2 r j) = b (ix2 r j) + prod a w r j := by
  pointwise [k0_pay4, pay1]

/-- The two operand blocks at a point, read off the arguments. -/
theorem blk_a (c : Dev nD) (t : Fin cfg0.N) (s : Fin 4) (i : Fin 2) (r : Fin 1024) (k : Fin 1408)
    (hs : t.val % 4 = s.val) (hi : t.val / 4 = i.val) :
    iblk m c 0 t (ix3 0 r k) = m ((c : Thread nD τ).loc main_arg0) (ix3 s ⟨i.val * 1024 + r.val, by omega⟩ k) := by
  blk_ext [iblk, V, idx t]

/-- The weight as the kernel is handed it, with a leading axis of one. -/
theorem entry_w (c : Dev nD) (s : Fin 4) (j : Fin 1024) (k : Fin 1408) :
    V m c main_v0 (ix4 0 s j k) = m ((c : Thread nD τ).loc main_arg1) (ix3 s j k) := by
  entry_read
  pointwise
@[inherit_doc blk_a] theorem blk_w (c : Dev nD) (t : Fin cfg0.N) (s : Fin 4) (j : Fin 1024) (k : Fin 1408) (hs : t.val % 4 = s.val) :
    iblk m c 1 t (ix4 0 0 j k) = m ((c : Thread nD τ).loc main_arg1) (ix3 s j k) := by
  refine Eq.trans ?_ (entry_w m c s j k)
  blk_ext [iblk, idx t]

/-- A block's product is its slice's contribution to its row tile. -/
theorem part (c : Dev nD) (t : Fin cfg0.N) (s : Fin 4) (i : Fin 2) (r j : Fin 1024)
    (hs : t.val % 4 = s.val) (hi : t.val / 4 = i.val) :
    prod (iblk m c 0 t) (iblk m c 1 t) r j
      = slice (m ((c : Thread nD τ).loc main_arg0)) (m ((c : Thread nD τ).loc main_arg1)) s ⟨i.val * 1024 + r.val, by omega⟩ j :=
  Finset.sum_congr rfl fun k _ => congrArg₂ (· * ·) (blk_a m c t s i r k hs hi) (blk_w m c t s j k hs)

/-- The first of a row tile's four points keeps its product. -/
theorem step_first (c : Dev nD) (t : Fin cfg0.N) (h : t.val % 4 = 0) (r j : Fin 1024) :
    (outsAt0 m c t.val t.isLt).2 (ix2 r j) = prod (iblk m c 0 t) (iblk m c 1 t) r j := by
  rw [outsAt0_A m c t h (by omega) (by omega)]
  frame_out
  exact pay2 _ _ r j
/-- The middle two add theirs. -/
theorem step_mid (c : Dev nD) (t : Fin cfg0.N) (h : 1 ≤ t.val % 4 ∧ t.val % 4 ≤ 2) (r j : Fin 1024) :
    (outsAt0 m c t.val t.isLt).2 (ix2 r j) = (outsAt0 m c (t.val - 1) (Nat.lt_of_le_of_lt (Nat.sub_le _ _) t.isLt)).2 (ix2 r j)
      + prod (iblk m c 0 t) (iblk m c 1 t) r j := by
  rw [outsAt0_B m c t (by omega) h (by omega)]
  frame_out
  simp only [read_unread_whole]
  exact pay3 _ _ _ r j
/-- The last adds its own and gives the sum out. -/
theorem step_last (c : Dev nD) (t : Fin cfg0.N) (h : t.val % 4 = 3) (r j : Fin 1024) :
    (outsAt0 m c t.val t.isLt).1 (ix2 r j) = (outsAt0 m c (t.val - 1) (Nat.lt_of_le_of_lt (Nat.sub_le _ _) t.isLt)).2 (ix2 r j)
      + prod (iblk m c 0 t) (iblk m c 1 t) r j := by
  rw [outsAt0_C m c t (by omega) (by omega) h]
  frame_out
  simp only [read_unread_whole]
  exact pay4 _ _ _ r j

/-- What a row tile's last point gives out: the four contributions, added in order. -/
theorem total (c : Dev nD) (t : Fin cfg0.N) (h : t.val % 4 = 3) (i : Fin 2) (hi : t.val / 4 = i.val) (r j : Fin 1024) :
    (outsAt0 m c t.val t.isLt).1 (ix2 r j)
      = ∑ s : Fin 4, slice (m ((c : Thread nD τ).loc main_arg0)) (m ((c : Thread nD τ).loc main_arg1)) s ⟨i.val * 1024 + r.val, by omega⟩ j := by
  rw [step_last m c t h r j, step_mid m c ⟨t.val - 1, by omega⟩ (by dsimp only; omega) r j,
    step_mid m c ⟨t.val - 1 - 1, by omega⟩ (by dsimp only; omega) r j,
    step_first m c ⟨t.val - 1 - 1 - 1, by omega⟩ (by dsimp only; omega) r j,
    part m c t 3 i r j (by omega) hi, part m c ⟨t.val - 1, by omega⟩ 2 i r j (by dsimp only; omega) (by dsimp only; omega),
    part m c ⟨t.val - 1 - 1, by omega⟩ 1 i r j (by dsimp only; omega) (by dsimp only; omega),
    part m c ⟨t.val - 1 - 1 - 1, by omega⟩ 0 i r j (by dsimp only; omega) (by dsimp only; omega), Fin.sum_univ_four]

/-- Entry `(r, j)` of the reference's product: the same four contributions. -/
theorem spec (a : FVec Ideal S4x2048x1408 .bf16) (w : FVec Ideal S4x1024x1408 .bf16) (r : Fin 2048) (j : Fin 1024) :
    Cert.FfnDxRefIdeal.Read.val_main_v7 (F := Ideal) a w (ix2 r j) = ∑ s : Fin 4, slice a w s r j := by
  refine (show _ = ∑ k : Fin 5632, a (ix3 ⟨k.val / 1408, by omega⟩ r ⟨k.val % 1408, by omega⟩) * w (ix3 ⟨k.val / 1408, by omega⟩ j ⟨k.val % 1408, by omega⟩) from by
    pointwise [Cert.FfnDxRefIdeal.Read.val_main_v7, Cert.FfnDxRefIdeal.Read.val_main_v6, Cert.FfnDxRefIdeal.Read.val_main_v5, Cert.FfnDxRefIdeal.Read.val_main_v4,
      Cert.FfnDxRefIdeal.Read.val_main_v3, Cert.FfnDxRefIdeal.Read.val_main_v2, Cert.FfnDxRefIdeal.Read.val_main_v1, Cert.FfnDxRefIdeal.Read.val_main_v0]).trans ?_
  rw [Fin.sum_univ_tiles (N := 5632) 4 1408 (by norm_num)]
  refine Finset.sum_congr rfl fun s _ => Finset.sum_congr rfl fun k _ => ?_
  have e1 : (s.val * 1408 + k.val) / 1408 = s.val := by omega
  have e2 : (s.val * 1408 + k.val) % 1408 = k.val := by omega
  simp only [e1, e2]

/-- The array the kernel leaves is the reference's. -/
theorem final (c : Dev nD) : (dats m 0 c).arrAt 2 cfg0.N
    = Cert.FfnDxRefIdeal.Read.val_main_v7 (F := Ideal) (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  obtain ⟨r, j, rfl⟩ : ∃ (r : Fin 1024) (j : Fin 1024), y = ix2 r j := ⟨y 0, y 1, eq_ix2 y⟩
  have hN : t.val < 8 := lt_of_lt_of_eq t.isLt N_0
  have e : ((cfg0.win 2).blk t).view.emb (ix2 r j) = (ix2 ⟨t.val / 4 * 1024 + r.val, by omega⟩ j : S2048x1024.Idx) := by blk_ext [idx t]
  blk_simp
  rw [after0_2]
  refine (total m c t h3 ⟨t.val / 4, by omega⟩ rfl r j).trans
    ((spec _ _ _ _).symm.trans (congrArg (Cert.FfnDxRefIdeal.Read.val_main_v7 (F := Ideal) _ _) e.symm))

end Cert.FfnDxIdeal.Back

end

end
-- ==== Proof.Dx.GateDx.lean ====
module

public import proofs.«01_k».proof.Proof.Gen.GateDxIdeal.Value
public import proofs.«01_k».proof.Proof.Gen.GateDxRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.GateDxIdeal.Back

open Cert.GateDxIdeal Cert.GateDxIdeal.Gen
open Idealize.ShloMosaic Idealize.ShloMosaic.TcCoe Idealize.SL.Sem
open Idealize.ShloMosaic.Pipeline (Dat)

variable (m : (ℓ : Loc nD τ sig) → Buf (Elt Ideal) ℓ)

/-- Where the blocks lie at each point: row tile `t / 4`, slice `t % 4` of the four. -/
theorem idx : ∀ t : Fin cfg0.N, win0_0.index t = ![t.val % 4, t.val / 4, 0] ∧ win0_1.index t = ![0, t.val % 4, 0, 0]
    ∧ win0_2.index t = ![t.val / 4, 0] :=
  (by decide +kernel : ∀ t : Fin grid0.N, _)

/-- Entry `(r, j)` of slice `s`'s contribution: the gradient's row against the weight's row. -/
def slice (a : FVec Ideal S4x2048x1024 .bf16) (w : FVec Ideal S4x1024x1024 .bf16) (s : Fin 4) (r : Fin 2048) (j : Fin 1024) : EReal :=
  ∑ k : Fin 1024, a (ix3 s r k) * w (ix3 s j k)

/-- Entry `(r, j)` of one block's product. -/
def prod (a : Vec Ideal S1x1024x1024 .bf16) (w : Vec Ideal S1x1x1024x1024 .bf16) (r j : Fin 1024) : EReal :=
  ∑ k : Fin 1024, a (ix3 0 r k) * w (ix4 0 0 j k)

/-- What the product is at an entry, and what the three kinds of step store from it: the product alone, then added to what was kept. -/
theorem pay1 (a : Vec Ideal S1x1024x1024 .bf16) (w : Vec Ideal S1x1x1024x1024 .bf16) (r j : Fin 1024) :
    k0_pay1 a w (ix2 r j) = prod a w r j := by
  unfold prod
  pointwise [k0_pay1]
@[inherit_doc pay1] theorem pay2 (a : Vec Ideal S1x1024x1024 .bf16) (w : Vec Ideal S1x1x1024x1024 .bf16) (r j : Fin 1024) :
    k0_pay2 a w (ix2 r j) = prod a w r j := by
  pointwise [k0_pay2, pay1]
@[inherit_doc pay1] theorem pay3 (a : Vec Ideal S1x1024x1024 .bf16) (w : Vec Ideal S1x1x1024x1024 .bf16) (b : Vec Ideal S1024x1024 .f32) (r j : Fin 1024) :
    k0_pay3 a w b (ix2 r j) = b (ix2 r j) + prod a w r j := by
  pointwise [k0_pay3, pay1]
@[inherit_doc pay1] theorem pay4 (a : Vec Ideal S1x1024x1024 .bf16) (w : Vec Ideal S1x1x1024x1024 .bf16) (b : Vec Ideal S1024x1024 .f32) (r j : Fin 1024) :
    k0_pay4 a w b (ix2 r j) = b (ix2 r j) + prod a w r j := by
  pointwise [k0_pay4, pay1]

/-- The two operand blocks at a point, read off the arguments. -/
theorem blk_a (c : Dev nD) (t : Fin cfg0.N) (s : Fin 4) (i : Fin 2) (r : Fin 1024) (k : Fin 1024)
    (hs : t.val % 4 = s.val) (hi : t.val / 4 = i.val) :
    iblk m c 0 t (ix3 0 r k) = m ((c : Thread nD τ).loc main_arg0) (ix3 s ⟨i.val * 1024 + r.val, by omega⟩ k) := by
  blk_ext [iblk, V, idx t]

/-- The weight as the kernel is handed it, with a leading axis of one. -/
theorem entry_w (c : Dev nD) (s : Fin 4) (j : Fin 1024) (k : Fin 1024) :
    V m c main_v0 (ix4 0 s j k) = m ((c : Thread nD τ).loc main_arg1) (ix3 s j k) := by
  entry_read
  pointwise
@[inherit_doc blk_a] theorem blk_w (c : Dev nD) (t : Fin cfg0.N) (s : Fin 4) (j : Fin 1024) (k : Fin 1024) (hs : t.val % 4 = s.val) :
    iblk m c 1 t (ix4 0 0 j k) = m ((c : Thread nD τ).loc main_arg1) (ix3 s j k) := by
  refine Eq.trans ?_ (entry_w m c s j k)
  blk_ext [iblk, idx t]

/-- A block's product is its slice's contribution to its row tile. -/
theorem part (c : Dev nD) (t : Fin cfg0.N) (s : Fin 4) (i : Fin 2) (r j : Fin 1024)
    (hs : t.val % 4 = s.val) (hi : t.val / 4 = i.val) :
    prod (iblk m c 0 t) (iblk m c 1 t) r j
      = slice (m ((c : Thread nD τ).loc main_arg0)) (m ((c : Thread nD τ).loc main_arg1)) s ⟨i.val * 1024 + r.val, by omega⟩ j :=
  Finset.sum_congr rfl fun k _ => congrArg₂ (· * ·) (blk_a m c t s i r k hs hi) (blk_w m c t s j k hs)

/-- The first of a row tile's four points keeps its product. -/
theorem step_first (c : Dev nD) (t : Fin cfg0.N) (h : t.val % 4 = 0) (r j : Fin 1024) :
    (outsAt0 m c t.val t.isLt).2 (ix2 r j) = prod (iblk m c 0 t) (iblk m c 1 t) r j := by
  rw [outsAt0_A m c t h (by omega) (by omega)]
  frame_out
  exact pay2 _ _ r j
/-- The middle two add theirs. -/
theorem step_mid (c : Dev nD) (t : Fin cfg0.N) (h : 1 ≤ t.val % 4 ∧ t.val % 4 ≤ 2) (r j : Fin 1024) :
    (outsAt0 m c t.val t.isLt).2 (ix2 r j) = (outsAt0 m c (t.val - 1) (Nat.lt_of_le_of_lt (Nat.sub_le _ _) t.isLt)).2 (ix2 r j)
      + prod (iblk m c 0 t) (iblk m c 1 t) r j := by
  rw [outsAt0_B m c t (by omega) h (by omega)]
  frame_out
  simp only [read_unread_whole]
  exact pay3 _ _ _ r j
/-- The last adds its own and gives the sum out. -/
theorem step_last (c : Dev nD) (t : Fin cfg0.N) (h : t.val % 4 = 3) (r j : Fin 1024) :
    (outsAt0 m c t.val t.isLt).1 (ix2 r j) = (outsAt0 m c (t.val - 1) (Nat.lt_of_le_of_lt (Nat.sub_le _ _) t.isLt)).2 (ix2 r j)
      + prod (iblk m c 0 t) (iblk m c 1 t) r j := by
  rw [outsAt0_C m c t (by omega) (by omega) h]
  frame_out
  simp only [read_unread_whole]
  exact pay4 _ _ _ r j

/-- What a row tile's last point gives out: the four contributions, added in order. -/
theorem total (c : Dev nD) (t : Fin cfg0.N) (h : t.val % 4 = 3) (i : Fin 2) (hi : t.val / 4 = i.val) (r j : Fin 1024) :
    (outsAt0 m c t.val t.isLt).1 (ix2 r j)
      = ∑ s : Fin 4, slice (m ((c : Thread nD τ).loc main_arg0)) (m ((c : Thread nD τ).loc main_arg1)) s ⟨i.val * 1024 + r.val, by omega⟩ j := by
  rw [step_last m c t h r j, step_mid m c ⟨t.val - 1, by omega⟩ (by dsimp only; omega) r j,
    step_mid m c ⟨t.val - 1 - 1, by omega⟩ (by dsimp only; omega) r j,
    step_first m c ⟨t.val - 1 - 1 - 1, by omega⟩ (by dsimp only; omega) r j,
    part m c t 3 i r j (by omega) hi, part m c ⟨t.val - 1, by omega⟩ 2 i r j (by dsimp only; omega) (by dsimp only; omega),
    part m c ⟨t.val - 1 - 1, by omega⟩ 1 i r j (by dsimp only; omega) (by dsimp only; omega),
    part m c ⟨t.val - 1 - 1 - 1, by omega⟩ 0 i r j (by dsimp only; omega) (by dsimp only; omega), Fin.sum_univ_four]

/-- Entry `(r, j)` of the reference's product: the same four contributions. -/
theorem spec (a : FVec Ideal S4x2048x1024 .bf16) (w : FVec Ideal S4x1024x1024 .bf16) (r : Fin 2048) (j : Fin 1024) :
    Cert.GateDxRefIdeal.Read.val_main_v7 (F := Ideal) a w (ix2 r j) = ∑ s : Fin 4, slice a w s r j := by
  refine (show _ = ∑ k : Fin 4096, a (ix3 ⟨k.val / 1024, by omega⟩ r ⟨k.val % 1024, by omega⟩) * w (ix3 ⟨k.val / 1024, by omega⟩ j ⟨k.val % 1024, by omega⟩) from by
    pointwise [Cert.GateDxRefIdeal.Read.val_main_v7, Cert.GateDxRefIdeal.Read.val_main_v6, Cert.GateDxRefIdeal.Read.val_main_v5, Cert.GateDxRefIdeal.Read.val_main_v4,
      Cert.GateDxRefIdeal.Read.val_main_v3, Cert.GateDxRefIdeal.Read.val_main_v2, Cert.GateDxRefIdeal.Read.val_main_v1, Cert.GateDxRefIdeal.Read.val_main_v0]).trans ?_
  rw [Fin.sum_univ_tiles (N := 4096) 4 1024 (by norm_num)]
  refine Finset.sum_congr rfl fun s _ => Finset.sum_congr rfl fun k _ => ?_
  have e1 : (s.val * 1024 + k.val) / 1024 = s.val := by omega
  have e2 : (s.val * 1024 + k.val) % 1024 = k.val := by omega
  simp only [e1, e2]

/-- The array the kernel leaves is the reference's. -/
theorem final (c : Dev nD) : (dats m 0 c).arrAt 2 cfg0.N
    = Cert.GateDxRefIdeal.Read.val_main_v7 (F := Ideal) (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  obtain ⟨r, j, rfl⟩ : ∃ (r : Fin 1024) (j : Fin 1024), y = ix2 r j := ⟨y 0, y 1, eq_ix2 y⟩
  have hN : t.val < 8 := lt_of_lt_of_eq t.isLt N_0
  have e : ((cfg0.win 2).blk t).view.emb (ix2 r j) = (ix2 ⟨t.val / 4 * 1024 + r.val, by omega⟩ j : S2048x1024.Idx) := by blk_ext [idx t]
  blk_simp
  rw [after0_2]
  refine (total m c t h3 ⟨t.val / 4, by omega⟩ rfl r j).trans
    ((spec _ _ _ _).symm.trans (congrArg (Cert.GateDxRefIdeal.Read.val_main_v7 (F := Ideal) _ _) e.symm))

end Cert.GateDxIdeal.Back

end

end
-- ==== Proof.Dx.InDx.lean ====
module

public import proofs.«01_k».proof.Proof.Gen.InDxIdeal.Value
public import proofs.«01_k».proof.Proof.Gen.InDxRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.InDxIdeal.Back

open Cert.InDxIdeal Cert.InDxIdeal.Gen
open Idealize.ShloMosaic Idealize.ShloMosaic.TcCoe Idealize.SL.Sem
open Idealize.ShloMosaic.Pipeline (Dat)

variable (m : (ℓ : Loc nD τ sig) → Buf (Elt Ideal) ℓ)

/-- Where the blocks lie at each point: row tile `t / 2`, half `t % 2` of the contracted axis. -/
theorem idx : ∀ t : Fin cfg0.N, win0_0.index t = ![t.val / 2, t.val % 2] ∧ win0_1.index t = ![0, 0, 0, t.val % 2]
    ∧ win0_2.index t = ![t.val / 2, 0] :=
  (by decide +kernel : ∀ t : Fin grid0.N, _)

/-- Entry `(r, j)` of half `s`'s contribution: the gradient's row against the weight's, the weight's four slices laid side by side. -/
def half (a : FVec Ideal S2048x2304 .bf16) (w : FVec Ideal S4x1024x576 .bf16) (s : Fin 2) (r : Fin 2048) (j : Fin 1024) : EReal :=
  ∑ k : Fin 1152, a (ix2 r ⟨s.val * 1152 + k.val, by omega⟩) * w (ix3 ⟨(s.val * 1152 + k.val) / 576, by omega⟩ j ⟨(s.val * 1152 + k.val) % 576, by omega⟩)

/-- Entry `(r, j)` of one block's product. -/
def prod (a : Vec Ideal S1024x1152 .bf16) (w : Vec Ideal S1x1x1024x1152 .bf16) (r j : Fin 1024) : EReal :=
  ∑ k : Fin 1152, a (ix2 r k) * w (ix4 0 0 j k)

/-- What the product is at an entry, and what the two kinds of step store from it: the product alone, then added to what was kept. -/
theorem pay1 (a : Vec Ideal S1024x1152 .bf16) (w : Vec Ideal S1x1x1024x1152 .bf16) (r j : Fin 1024) :
    k0_pay1 a w (ix2 r j) = prod a w r j := by
  unfold prod
  pointwise [k0_pay1]
@[inherit_doc pay1] theorem pay2 (a : Vec Ideal S1024x1152 .bf16) (w : Vec Ideal S1x1x1024x1152 .bf16) (r j : Fin 1024) :
    k0_pay2 a w (ix2 r j) = prod a w r j := by
  pointwise [k0_pay2, pay1]
@[inherit_doc pay1] theorem pay4 (a : Vec Ideal S1024x1152 .bf16) (w : Vec Ideal S1x1x1024x1152 .bf16) (b : Vec Ideal S1024x1024 .f32) (r j : Fin 1024) :
    k0_pay4 a w b (ix2 r j) = b (ix2 r j) + prod a w r j := by
  pointwise [k0_pay4, pay1]

/-- The two operand blocks at a point, read off the arguments. -/
theorem blk_a (c : Dev nD) (t : Fin cfg0.N) (s i : Fin 2) (r : Fin 1024) (k : Fin 1152)
    (hs : t.val % 2 = s.val) (hi : t.val / 2 = i.val) :
    iblk m c 0 t (ix2 r k) = m ((c : Thread nD τ).loc main_arg0) (ix2 ⟨i.val * 1024 + r.val, by omega⟩ ⟨s.val * 1152 + k.val, by omega⟩) := by
  blk_ext [iblk, V, idx t]

/-- The weight as the kernel is handed it: its four slices side by side. -/
theorem entry_w (c : Dev nD) (j : Fin 1024) (k : Fin 2304) :
    V m c main_v1 (ix4 0 0 j k) = m ((c : Thread nD τ).loc main_arg1) (ix3 ⟨k.val / 576, by omega⟩ j ⟨k.val % 576, by omega⟩) := by
  entry_read
  pointwise
@[inherit_doc blk_a] theorem blk_w (c : Dev nD) (t : Fin cfg0.N) (s : Fin 2) (j : Fin 1024) (k : Fin 1152) (hs : t.val % 2 = s.val) :
    iblk m c 1 t (ix4 0 0 j k) = m ((c : Thread nD τ).loc main_arg1) (ix3 ⟨(s.val * 1152 + k.val) / 576, by omega⟩ j ⟨(s.val * 1152 + k.val) % 576, by omega⟩) := by
  refine Eq.trans ?_ (entry_w m c j ⟨s.val * 1152 + k.val, by omega⟩)
  blk_ext [iblk, idx t]

/-- A block's product is its half's contribution to its row tile. -/
theorem part (c : Dev nD) (t : Fin cfg0.N) (s i : Fin 2) (r j : Fin 1024)
    (hs : t.val % 2 = s.val) (hi : t.val / 2 = i.val) :
    prod (iblk m c 0 t) (iblk m c 1 t) r j
      = half (m ((c : Thread nD τ).loc main_arg0)) (m ((c : Thread nD τ).loc main_arg1)) s ⟨i.val * 1024 + r.val, by omega⟩ j :=
  Finset.sum_congr rfl fun k _ => congrArg₂ (· * ·) (blk_a m c t s i r k hs hi) (blk_w m c t s j k hs)

/-- The first of a row tile's two points keeps its product. -/
theorem step_first (c : Dev nD) (t : Fin cfg0.N) (h : t.val % 2 = 0) (r j : Fin 1024) :
    (outsAt0 m c t.val t.isLt).2 (ix2 r j) = prod (iblk m c 0 t) (iblk m c 1 t) r j := by
  rw [outsAt0_A m c t h (by omega)]
  frame_out
  exact pay2 _ _ r j
/-- The second adds its own and gives the sum out. -/
theorem step_last (c : Dev nD) (t : Fin cfg0.N) (h : t.val % 2 = 1) (r j : Fin 1024) :
    (outsAt0 m c t.val t.isLt).1 (ix2 r j) = (outsAt0 m c (t.val - 1) (Nat.lt_of_le_of_lt (Nat.sub_le _ _) t.isLt)).2 (ix2 r j)
      + prod (iblk m c 0 t) (iblk m c 1 t) r j := by
  rw [outsAt0_B m c t (by omega) h]
  frame_out
  simp only [read_unread_whole]
  exact pay4 _ _ _ r j

/-- What a row tile's second point gives out: the two contributions. -/
theorem total (c : Dev nD) (t : Fin cfg0.N) (h : t.val % 2 = 1) (i : Fin 2) (hi : t.val / 2 = i.val) (r j : Fin 1024) :
    (outsAt0 m c t.val t.isLt).1 (ix2 r j)
      = ∑ s : Fin 2, half (m ((c : Thread nD τ).loc main_arg0)) (m ((c : Thread nD τ).loc main_arg1)) s ⟨i.val * 1024 + r.val, by omega⟩ j := by
  rw [step_last m c t h r j, step_first m c ⟨t.val - 1, by omega⟩ (by dsimp only; omega) r j,
    part m c t 1 i r j (by omega) hi, part m c ⟨t.val - 1, by omega⟩ 0 i r j (by dsimp only; omega) (by dsimp only; omega), Fin.sum_univ_two]

/-- Entry `(r, j)` of the reference's product: the same two contributions. -/
theorem spec (a : FVec Ideal S2048x2304 .bf16) (w : FVec Ideal S4x1024x576 .bf16) (r : Fin 2048) (j : Fin 1024) :
    Cert.InDxRefIdeal.Read.val_main_v5 (F := Ideal) a w (ix2 r j) = ∑ s : Fin 2, half a w s r j := by
  refine (show _ = ∑ k : Fin 2304, a (ix2 r k) * w (ix3 ⟨k.val / 576, by omega⟩ j ⟨k.val % 576, by omega⟩) from by
    pointwise [Cert.InDxRefIdeal.Read.val_main_v5, Cert.InDxRefIdeal.Read.val_main_v4, Cert.InDxRefIdeal.Read.val_main_v3,
      Cert.InDxRefIdeal.Read.val_main_v2, Cert.InDxRefIdeal.Read.val_main_v1, Cert.InDxRefIdeal.Read.val_main_v0]).trans ?_
  rw [Fin.sum_univ_tiles (N := 2304) 2 1152 (by norm_num)]
  rfl

/-- The array the kernel leaves is the reference's. -/
theorem final (c : Dev nD) : (dats m 0 c).arrAt 2 cfg0.N
    = Cert.InDxRefIdeal.Read.val_main_v5 (F := Ideal) (m ((c : Thread nD τ).loc main_arg0)) (m ((c : Thread nD τ).loc main_arg1)) := by
  refine (dats m 0 c).arrAt_eq_of_covers 2 _ (by decide +kernel) fun t hf y => ?_
  have h1 : t.val % 2 = 1 := (flush0_2 t).mp hf
  obtain ⟨r, j, rfl⟩ : ∃ (r : Fin 1024) (j : Fin 1024), y = ix2 r j := ⟨y 0, y 1, eq_ix2 y⟩
  have hN : t.val < 4 := lt_of_lt_of_eq t.isLt N_0
  have e : ((cfg0.win 2).blk t).view.emb (ix2 r j) = (ix2 ⟨t.val / 2 * 1024 + r.val, by omega⟩ j : S2048x1024.Idx) := by blk_ext [idx t]
  blk_simp
  rw [after0_2]
  refine (total m c t h1 ⟨t.val / 2, by omega⟩ rfl r j).trans
    ((spec _ _ _ _).symm.trans (congrArg (Cert.InDxRefIdeal.Read.val_main_v5 (F := Ideal) _ _) e.symm))

end Cert.InDxIdeal.Back

end

end
-- ==== Proof.Dx.FfnOut.lean ====
module

public import proofs.«01_k».proof.Proof.Gen.FfnOutIdeal.Value
public import proofs.«01_k».proof.Proof.Gen.FfnOutRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.FfnOutIdeal.Back

open Cert.FfnOutIdeal Cert.FfnOutIdeal.Gen
open Idealize.ShloMosaic Idealize.ShloMosaic.TcCoe Idealize.SL.Sem
open Idealize.ShloMosaic.Pipeline (Dat)

variable (m : (ℓ : Loc nD τ sig) → Buf (Elt Ideal) ℓ)

/-- Where the blocks lie at each point: row tile `t / 2`, half `t % 2` of the contracted axis. -/
theorem idx : ∀ t : Fin cfg0.N, win0_0.index t = ![t.val / 2, t.val % 2] ∧ win0_1.index t = ![0, 0, t.val % 2, 0]
    ∧ win0_2.index t = ![t.val / 2, 0] ∧ win0_3.index t = ![t.val / 2, 0] :=
  (by decide +kernel : ∀ t : Fin grid0.N, _)

/-- Entry `(r, j)` of half `s`'s contribution: the unit's row against the weight's column. -/
def half (a : FVec Ideal S2048x2816 .bf16) (w : FVec Ideal S2816x1024 .bf16) (s : Fin 2) (r : Fin 2048) (j : Fin 1024) : EReal :=
  ∑ k : Fin 1408, a (ix2 r ⟨s.val * 1408 + k.val, by omega⟩) * w (ix2 ⟨s.val * 1408 + k.val, by omega⟩ j)

/-- Entry `(r, j)` of one block's product. -/
def prod (a : Vec Ideal S1024x1408 .bf16) (w : Vec Ideal S1x1x1408x1024 .bf16) (r j : Fin 1024) : EReal :=
  ∑ k : Fin 1408, a (ix2 r k) * w (ix4 0 0 k j)

/-- What the product is at an entry, and what the two kinds of step store from it: the product alone, then what was kept, the product and the stream's block added up. -/
theorem pay1 (a : Vec Ideal S1024x1408 .bf16) (w : Vec Ideal S1x1x1408x1024 .bf16) (r j : Fin 1024) :
    k0_pay1 a w (ix2 r j) = prod a w r j := by
  unfold prod
  pointwise [k0_pay1]
@[inherit_doc pay1] theorem pay2 (a : Vec Ideal S1024x1408 .bf16) (w : Vec Ideal S1x1x1408x1024 .bf16) (r j : Fin 1024) :
    k0_pay2 a w (ix2 r j) = prod a w r j := by
  pointwise [k0_pay2, pay1]
@[inherit_doc pay1] theorem pay4 (a : Vec Ideal S1024x1408 .bf16) (w : Vec Ideal S1x1x1408x1024 .bf16) (b x : Vec Ideal S1024x1024 .f32) (r j : Fin 1024) :
    k0_pay4 a w b x (ix2 r j) = b (ix2 r j) + prod a w r j + x (ix2 r j) := by
  pointwise [k0_pay4, pay1]

/-- The two operand blocks at a point, read off the arguments. -/
theorem blk_a (c : Dev nD) (t : Fin cfg0.N) (s i : Fin 2) (r : Fin 1024) (k : Fin 1408)
    (hs : t.val % 2 = s.val) (hi : t.val / 2 = i.val) :
    iblk m c 0 t (ix2 r k) = m ((c : Thread nD τ).loc main_arg0) (ix2 ⟨i.val * 1024 + r.val, by omega⟩ ⟨s.val * 1408 + k.val, by omega⟩) := by
  blk_ext [iblk, V, idx t]

@[inherit_doc blk_a] theorem blk_x (c : Dev nD) (t : Fin cfg0.N) (i : Fin 2) (r j : Fin 1024) (hi : t.val / 2 = i.val) :
    iblk m c 2 t (ix2 r j) = m ((c : Thread nD τ).loc main_arg2) (ix2 ⟨i.val * 1024 + r.val, by omega⟩ j) := by
  blk_ext [iblk, V, idx t]

/-- The weight as the kernel is handed it, with two leading axes of one. -/
theorem entry_w (c : Dev nD) (j : Fin 1024) (k : Fin 2816) :
    V m c main_v0 (ix4 0 0 k j) = m ((c : Thread nD τ).loc main_arg1) (ix2 k j) := by
  entry_read
  pointwise
@[inherit_doc blk_a] theorem blk_w (c : Dev nD) (t : Fin cfg0.N) (s : Fin 2) (j : Fin 1024) (k : Fin 1408) (hs : t.val % 2 = s.val) :
    iblk m c 1 t (ix4 0 0 k j) = m ((c : Thread nD τ).loc main_arg1) (ix2 ⟨s.val * 1408 + k.val, by omega⟩ j) := by
  refine Eq.trans ?_ (entry_w m c j ⟨s.val * 1408 + k.val, by omega⟩)
  blk_ext [iblk, idx t]

/-- A block's product is its half's contribution to its row tile. -/
theorem part (c : Dev nD) (t : Fin cfg0.N) (s i : Fin 2) (r j : Fin 1024)
    (hs : t.val % 2 = s.val) (hi : t.val / 2 = i.val) :
    prod (iblk m c 0 t) (iblk m c 1 t) r j
      = half (m ((c : Thread nD τ).loc main_arg0)) (m ((c : Thread nD τ).loc main_arg1)) s ⟨i.val * 1024 + r.val, by omega⟩ j :=
  Finset.sum_congr rfl fun k _ => congrArg₂ (· * ·) (blk_a m c t s i r k hs hi) (blk_w m c t s j k hs)

/-- The first of a row tile's two points keeps its product. -/
theorem step_first (c : Dev nD) (t : Fin cfg0.N) (h : t.val % 2 = 0) (r j : Fin 1024) :
    (outsAt0 m c t.val t.isLt).2 (ix2 r j) = prod (iblk m c 0 t) (iblk m c 1 t) r j := by
  rw [outsAt0_A m c t h (by omega)]
  frame_out
  exact pay2 _ _ r j
/-- The second adds its own and the stream's block, and gives the sum out. -/
theorem step_last (c : Dev nD) (t : Fin cfg0.N) (h : t.val % 2 = 1) (r j : Fin 1024) :
    (outsAt0 m c t.val t.isLt).1 (ix2 r j) = (outsAt0 m c (t.val - 1) (Nat.lt_of_le_of_lt (Nat.sub_le _ _) t.isLt)).2 (ix2 r j)
      + prod (iblk m c 0 t) (iblk m c 1 t) r j + (iblk m c 2 t : Vec Ideal S1024x1024 .f32) (ix2 r j) := by
  rw [outsAt0_B m c t (by omega) h]
  frame_out
  simp only [read_unread_whole]
  exact pay4 _ _ _ _ r j

/-- What a row tile's second point gives out: the two contributions and the stream's entry. -/
theorem total (c : Dev nD) (t : Fin cfg0.N) (h : t.val % 2 = 1) (i : Fin 2) (hi : t.val / 2 = i.val) (r j : Fin 1024) :
    (outsAt0 m c t.val t.isLt).1 (ix2 r j)
      = (∑ s : Fin 2, half (m ((c : Thread nD τ).loc main_arg0)) (m ((c : Thread nD τ).loc main_arg1)) s ⟨i.val * 1024 + r.val, by omega⟩ j : EReal)
        + m ((c : Thread nD τ).loc main_arg2) (ix2 ⟨i.val * 1024 + r.val, by omega⟩ j) := by
  rw [step_last m c t h r j, step_first m c ⟨t.val - 1, by omega⟩ (by dsimp only; omega) r j,
    part m c t 1 i r j (by omega) hi, part m c ⟨t.val - 1, by omega⟩ 0 i r j (by dsimp only; omega) (by dsimp only; omega), Fin.sum_univ_two, blk_x m c t i r j hi]

/-- Entry `(r, j)` of the reference's sum: the same two contributions and the stream's entry. -/
theorem spec (a : FVec Ideal S2048x2816 .bf16) (w : FVec Ideal S2816x1024 .bf16) (x : FVec Ideal S2048x1024 .f32) (r : Fin 2048) (j : Fin 1024) :
    Cert.FfnOutRefIdeal.Read.val_main_v3 (F := Ideal) a w x (ix2 r j) = (∑ s : Fin 2, half a w s r j) + x (ix2 r j) := by
  refine (show _ = x (ix2 r j) + ∑ k : Fin 2816, a (ix2 r k) * w (ix2 k j) from by
    pointwise [Cert.FfnOutRefIdeal.Read.val_main_v3, Cert.FfnOutRefIdeal.Read.val_main_v2, Cert.FfnOutRefIdeal.Read.val_main_v1, Cert.FfnOutRefIdeal.Read.val_main_v0]).trans ?_
  rw [Fin.sum_univ_tiles (N := 2816) 2 1408 (by norm_num), add_comm]
  rfl

/-- The array the kernel leaves is the reference's. -/
theorem final (c : Dev nD) : (dats m 0 c).arrAt 3 cfg0.N
    = Cert.FfnOutRefIdeal.Read.val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have h1 : t.val % 2 = 1 := (flush0_3 t).mp hf
  obtain ⟨r, j, rfl⟩ : ∃ (r : Fin 1024) (j : Fin 1024), y = ix2 r j := ⟨y 0, y 1, eq_ix2 y⟩
  have hN : t.val < 4 := lt_of_lt_of_eq t.isLt N_0
  have e : ((cfg0.win 3).blk t).view.emb (ix2 r j) = (ix2 ⟨t.val / 2 * 1024 + r.val, by omega⟩ j : S2048x1024.Idx) := by blk_ext [idx t]
  blk_simp
  rw [after0_3]
  refine (total m c t h1 ⟨t.val / 2, by omega⟩ rfl r j).trans
    ((spec _ _ _ _ _).symm.trans (congrArg (Cert.FfnOutRefIdeal.Read.val_main_v3 (F := Ideal) _ _ _) e.symm))

end Cert.FfnOutIdeal.Back

end

end
-- ==== Proof.Mix.Run.lean ====
module

public import proofs.«01_k».proof.Proof.Gen.MixIdeal.Frame

@[expose] public section

set_option maxRecDepth 16384

noncomputable section

namespace Cert.MixIdeal.Mixer

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with its memory: every buffer outside the kernels' own scopes ends as the last boundary has it. -/
theorem run_memory : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ => h)

end Cert.MixIdeal.Mixer

end
-- ==== Proof.Mix.Regions.lean ====
module

public import proofs.«01_k».proof.Proof.Gen.MixIdeal.Frame
public import Idealize.ShloMosaic.Lib.Pipeline.ValueKit
public import Idealize.ShloMosaic.Lib.Pointwise

@[expose] public section

set_option maxRecDepth 16384

noncomputable section

namespace Cert.MixIdeal.Mixer

open Cert.MixIdeal Cert.MixIdeal.Gen
open Idealize.ShloMosaic Idealize.ShloMosaic.TcCoe Idealize.SL.Sem
open Idealize.ShloMosaic.Pipeline (Dat)

/-- Entry `(r, k)` of the normalised rows: the entry over the root of its row's mean square (with the small constant added), times the gain. -/
def hid (x : FVec Ideal S2048x1024 .f32) (g : FVec Ideal S1x1024 .f32) (r : Fin 2048) (k : Fin 1024) : EReal :=
  x (ix2 r k) * Ideal.rsqrt (Ideal.div (∑ j : Fin 1024, x (ix2 r j) * x (ix2 r j)) (Ideal.ofBits .f32 0x44800000#32) + Ideal.ofBits .f32 0x358637BD#32) * g (ix2 0 k)

variable (V : (c : Dev nD) → (b : Ref sig .tc) → Buf (Elt Ideal) ((c : Thread nD τ).loc b))

/-- Where the blocks lie at each point: one statement per region. -/
theorem idx0 : ∀ t : Fin cfg0.N, win0_0.index t = ![t.val, 0] ∧ win0_1.index t = ![0, 0] ∧ win0_2.index t = ![t.val, 0] :=
  (by decide +kernel : ∀ t : Fin grid0.N, _)
@[inherit_doc idx0] theorem idx1 : ∀ t : Fin cfg1.N, win1_0.index t = ![t.val / 2, 0] ∧ win1_1.index t = ![0, 0, 0, t.val % 2]
    ∧ win1_2.index t = ![t.val / 2, t.val % 2] :=
  (by decide +kernel : ∀ t : Fin grid1.N, _)
@[inherit_doc idx0] theorem idx2 : ∀ t : Fin cfg2.N, win2_0.index t = ![t.val / 4, 0] ∧ win2_1.index t = ![0, t.val % 4, 0, 0]
    ∧ win2_2.index t = ![t.val % 4, t.val / 4, 0] :=
  (by decide +kernel : ∀ t : Fin grid2.N, _)
@[inherit_doc idx0] theorem idx3 : ∀ t : Fin cfg3.N, win3_0.index t = ![0, t.val / 4, t.val % 4] ∧ win3_1.index t = ![0, t.val / 4, 0]
    ∧ win3_2.index t = ![0, t.val % 4, 0, 0, 0] ∧ win3_3.index t = ![t.val / 4, t.val % 4] :=
  (by decide +kernel : ∀ t : Fin grid3.N, _)
@[inherit_doc idx0] theorem idx4 : ∀ t : Fin cfg4.N, win4_0.index t = ![t.val, 0] ∧ win4_1.index t = ![0, 0, 0, 0] ∧ win4_2.index t = ![t.val, 0]
    ∧ win4_3.index t = ![t.val, 0] :=
  (by decide +kernel : ∀ t : Fin grid4.N, _)
@[inherit_doc idx0] theorem idx5 : ∀ t : Fin cfg5.N, win5_0.index t = ![t.val, 0] ∧ win5_1.index t = ![0, 0, 0, 0] ∧ win5_2.index t = ![t.val, 0] :=
  (by decide +kernel : ∀ t : Fin grid5.N, _)
@[inherit_doc idx0] theorem idx6 : ∀ t : Fin cfg6.N, win6_0.index t = ![0, 0] ∧ win6_1.index t = ![0, 0] ∧ win6_2.index t = ![0, 0, 0] :=
  (by decide +kernel : ∀ t : Fin grid6.N, _)

/-- Normalising one row block. -/
theorem pay0 (x : Vec Ideal S512x1024 .f32) (g : Vec Ideal S1x1024 .f32) (r : Fin 512) (k : Fin 1024) :
    k0_pay1 x g (ix2 r k) = x (ix2 r k) * Ideal.rsqrt (Ideal.div (∑ j : Fin 1024, x (ix2 r j) * x (ix2 r j)) (Ideal.ofBits .f32 0x44800000#32) + Ideal.ofBits .f32 0x358637BD#32) * g (ix2 0 k) := by
  pointwise [k0_pay1]
/-- A row block against one block of the input weights. -/
theorem pay1 (h : Vec Ideal S1024x1024 .bf16) (w : Vec Ideal S1x1x1024x1152 .bf16) (r : Fin 1024) (d : Fin 1152) :
    k1_pay1 h w (ix2 r d) = ∑ k : Fin 1024, (h (ix2 r k) : EReal) * w (ix4 0 0 k d) := by
  pointwise [k1_pay1]
/-- A row block against one slice of the gate weights. -/
theorem pay2 (h : Vec Ideal S1024x1024 .bf16) (w : Vec Ideal S1x1x1024x1024 .bf16) (r d : Fin 1024) :
    k2_pay1 h w (ix3 0 r d) = ∑ k : Fin 1024, (h (ix2 r k) : EReal) * w (ix4 0 0 k d) := by
  pointwise [k2_pay1]
/-- The gated sum of the four branches on one block. -/
theorem pay3 (p0 p1 p2 p3 : Vec Ideal S1x1024x256 .f32) (b0 b1 b2 b3 : Vec Ideal S1x1024x256 .bf16) (w0 w1 w2 w3 : Vec Ideal S1x1x1x256x256 .bf16)
    (r : Fin 1024) (l : Fin 256) :
    k3_pay1 (k3_pay2 p0) (k3_pay3 p1) (k3_pay4 p2) (k3_pay5 p3) (k3_pay6 b0) (k3_pay7 b1) (k3_pay8 b2) (k3_pay9 b3) (k3_pay10 w0) (k3_pay11 w1) w2 w3 (ix2 r l)
      = Ideal.logistic (p0 (ix3 0 r l)) * (∑ k : Fin 256, (b0 (ix3 0 r k) : EReal) * w0 (ix5 0 0 0 k l))
        + Ideal.logistic (p1 (ix3 0 r l)) * (∑ k : Fin 256, (b1 (ix3 0 r k) : EReal) * w1 (ix5 0 0 0 k l))
        + Ideal.logistic (p2 (ix3 0 r l)) * (∑ k : Fin 256, (b2 (ix3 0 r k) : EReal) * w2 (ix5 0 0 0 k l))
        + Ideal.logistic (p3 (ix3 0 r l)) * (∑ k : Fin 256, (b3 (ix3 0 r k) : EReal) * w3 (ix5 0 0 0 k l)) := by
  pointwise [k3_pay1, k3_pay2, k3_pay3, k3_pay4, k3_pay5, k3_pay6, k3_pay7, k3_pay8, k3_pay9, k3_pay10, k3_pay11]
/-- A block of the merged branches against the output weights, the stream's block added. -/
theorem pay4 (u : Vec Ideal S1024x1024 .bf16) (w : Vec Ideal S1x1x1024x1024 .bf16) (x : Vec Ideal S1024x1024 .f32) (r d : Fin 1024) :
    k4_pay1 u w x (ix2 r d) = (∑ k : Fin 1024, (u (ix2 r k) : EReal) * w (ix4 0 0 k d)) + x (ix2 r d) := by
  pointwise [k4_pay1]
/-- A block of the incoming gradient against the output weights, across. -/
theorem pay5 (x : Vec Ideal S1024x1024 .f32) (w : Vec Ideal S1x1x1024x1024 .bf16) (r d : Fin 1024) :
    k5_pay1 x w (ix2 r d) = ∑ k : Fin 1024, (x (ix2 r k) : EReal) * w (ix4 0 0 d k) := by
  pointwise [k5_pay1]
/-- The gradient of the output weights. -/
theorem pay6 (u : Vec Ideal S2048x1024 .bf16) (x : Vec Ideal S2048x1024 .f32) (d k : Fin 1024) :
    k6_pay1 u x (ix3 0 d k) = ∑ r : Fin 2048, (u (ix2 r d) : EReal) * x (ix2 r k) := by
  pointwise [k6_pay1]

variable (c : Dev nD)

/-- The number of points of each region. -/
theorem lt0 (t : Fin cfg0.N) : t.val < 4 := lt_of_lt_of_eq t.isLt (show cfg0.N = 4 from N_0)
@[inherit_doc lt0] theorem lt1 (t : Fin cfg1.N) : t.val < 4 := lt_of_lt_of_eq t.isLt (show cfg1.N = 4 from N_1)
@[inherit_doc lt0] theorem lt2 (t : Fin cfg2.N) : t.val < 8 := lt_of_lt_of_eq t.isLt (show cfg2.N = 8 from N_2)
@[inherit_doc lt0] theorem lt3 (t : Fin cfg3.N) : t.val < 8 := lt_of_lt_of_eq t.isLt (show cfg3.N = 8 from N_3)
@[inherit_doc lt0] theorem lt4 (t : Fin cfg4.N) : t.val < 2 := lt_of_lt_of_eq t.isLt (show cfg4.N = 2 from N_4)
@[inherit_doc lt0] theorem lt5 (t : Fin cfg5.N) : t.val < 2 := lt_of_lt_of_eq t.isLt (show cfg5.N = 2 from N_5)

/-- Each input block, entry by entry: region by region, window by window. -/
theorem b0_0 (t : Fin cfg0.N) (r : Fin 512) (k : Fin 1024) : (iblk0 V c 0 t : Vec Ideal S512x1024 .f32) (ix2 r k)
    = (V c main_arg0 : FVec Ideal S2048x1024 .f32) (ix2 ⟨t.val * 512 + r.val, by have := lt0 t; omega⟩ k) := by
  blk_ext [iblk0, idx0 t]
@[inherit_doc b0_0] theorem b0_1 (t : Fin cfg0.N) (k : Fin 1024) : (iblk0 V c 1 t : Vec Ideal S1x1024 .f32) (ix2 0 k)
    = (V c main_arg1 : FVec Ideal S1x1024 .f32) (ix2 0 k) := by
  blk_ext [iblk0, idx0 t]
@[inherit_doc b0_0] theorem b1_0 (t : Fin cfg1.N) (r k : Fin 1024) : (iblk1 V c 0 t : Vec Ideal S1024x1024 .bf16) (ix2 r k)
    = (V c main_v5 : FVec Ideal S2048x1024 .bf16) (ix2 ⟨t.val / 2 * 1024 + r.val, by have := lt1 t; omega⟩ k) := by
  blk_ext [iblk1, idx1 t]
@[inherit_doc b0_0] theorem b1_1 (t : Fin cfg1.N) (k : Fin 1024) (d : Fin 1152) : (iblk1 V c 1 t : Vec Ideal S1x1x1024x1152 .bf16) (ix4 0 0 k d)
    = (V c main_v1 : FVec Ideal S1x1x1024x2304 .bf16) (ix4 0 0 k ⟨t.val % 2 * 1152 + d.val, by omega⟩) := by
  blk_ext [iblk1, idx1 t]
@[inherit_doc b0_0] theorem b2_0 (t : Fin cfg2.N) (r k : Fin 1024) : (iblk2 V c 0 t : Vec Ideal S1024x1024 .bf16) (ix2 r k)
    = (V c main_v5 : FVec Ideal S2048x1024 .bf16) (ix2 ⟨t.val / 4 * 1024 + r.val, by have := lt2 t; omega⟩ k) := by
  blk_ext [iblk2, idx2 t]
@[inherit_doc b0_0] theorem b2_1 (t : Fin cfg2.N) (k d : Fin 1024) : (iblk2 V c 1 t : Vec Ideal S1x1x1024x1024 .bf16) (ix4 0 0 k d)
    = (V c main_v2 : FVec Ideal S1x4x1024x1024 .bf16) (ix4 0 ⟨t.val % 4, by omega⟩ k d) := by
  blk_ext [iblk2, idx2 t]
@[inherit_doc b0_0] theorem b3_0 (t : Fin cfg3.N) (n : Fin 4) (r : Fin 1024) (l : Fin 256) : (iblk3 V c 0 t : Vec Ideal S4x1024x256 .f32) (ix3 n r l)
    = (V c main_v7 : FVec Ideal S4x2048x1024 .f32) (ix3 n ⟨t.val / 4 * 1024 + r.val, by have := lt3 t; omega⟩ ⟨t.val % 4 * 256 + l.val, by omega⟩) := by
  blk_ext [iblk3, idx3 t]
@[inherit_doc b0_0] theorem b3_1 (t : Fin cfg3.N) (n : Fin 4) (r : Fin 1024) (k : Fin 256) : (iblk3 V c 1 t : Vec Ideal S4x1024x256 .bf16) (ix3 n r k)
    = (V c main_v12 : FVec Ideal S4x2048x256 .bf16) (ix3 n ⟨t.val / 4 * 1024 + r.val, by have := lt3 t; omega⟩ k) := by
  blk_ext [iblk3, idx3 t]
@[inherit_doc b0_0] theorem b3_2 (t : Fin cfg3.N) (n : Fin 4) (k l : Fin 256) : (iblk3 V c 2 t : Vec Ideal S1x1x4x256x256 .bf16) (ix5 0 0 n k l)
    = (V c main_v3 : FVec Ideal S1x4x4x256x256 .bf16) (ix5 0 ⟨t.val % 4, by omega⟩ n k l) := by
  blk_ext [iblk3, idx3 t]
@[inherit_doc b0_0] theorem b4_0 (t : Fin cfg4.N) (r k : Fin 1024) : (iblk4 V c 0 t : Vec Ideal S1024x1024 .bf16) (ix2 r k)
    = (V c main_v13 : FVec Ideal S2048x1024 .bf16) (ix2 ⟨t.val * 1024 + r.val, by have := lt4 t; omega⟩ k) := by
  blk_ext [iblk4, idx4 t]
@[inherit_doc b0_0] theorem b4_1 (t : Fin cfg4.N) (k d : Fin 1024) : (iblk4 V c 1 t : Vec Ideal S1x1x1024x1024 .bf16) (ix4 0 0 k d)
    = (V c main_v4 : FVec Ideal S1x1x1024x1024 .bf16) (ix4 0 0 k d) := by
  blk_ext [iblk4, idx4 t]
@[inherit_doc b0_0] theorem b4_2 (t : Fin cfg4.N) (r k : Fin 1024) : (iblk4 V c 2 t : Vec Ideal S1024x1024 .f32) (ix2 r k)
    = (V c main_arg0 : FVec Ideal S2048x1024 .f32) (ix2 ⟨t.val * 1024 + r.val, by have := lt4 t; omega⟩ k) := by
  blk_ext [iblk4, idx4 t]
@[inherit_doc b0_0] theorem b5_0 (t : Fin cfg5.N) (r k : Fin 1024) : (iblk5 V c 0 t : Vec Ideal S1024x1024 .f32) (ix2 r k)
    = (V c main_arg10 : FVec Ideal S2048x1024 .f32) (ix2 ⟨t.val * 1024 + r.val, by have := lt5 t; omega⟩ k) := by
  blk_ext [iblk5, idx5 t]
@[inherit_doc b0_0] theorem b5_1 (t : Fin cfg5.N) (k d : Fin 1024) : (iblk5 V c 1 t : Vec Ideal S1x1x1024x1024 .bf16) (ix4 0 0 k d)
    = (V c main_v4 : FVec Ideal S1x1x1024x1024 .bf16) (ix4 0 0 k d) := by
  blk_ext [iblk5, idx5 t]
@[inherit_doc b0_0] theorem b6_0 (t : Fin cfg6.N) (r : Fin 2048) (k : Fin 1024) : (iblk6 V c 0 t : Vec Ideal S2048x1024 .bf16) (ix2 r k)
    = (V c main_v13 : FVec Ideal S2048x1024 .bf16) (ix2 r k) := by
  blk_ext [iblk6, idx6 t]
@[inherit_doc b0_0] theorem b6_1 (t : Fin cfg6.N) (r : Fin 2048) (k : Fin 1024) : (iblk6 V c 1 t : Vec Ideal S2048x1024 .f32) (ix2 r k)
    = (V c main_arg10 : FVec Ideal S2048x1024 .f32) (ix2 r k) := by
  blk_ext [iblk6, idx6 t]

/-- The normalised rows, as an array. -/
def hidArr (x : FVec Ideal S2048x1024 .f32) (g : FVec Ideal S1x1024 .f32) : FVec Ideal S2048x1024 .bf16 := fun y => hid x g (y 0) (y 1)
/-- Rows against the input weights. -/
def projArr (h : FVec Ideal S2048x1024 .bf16) (w : FVec Ideal S1x1x1024x2304 .bf16) : FVec Ideal S2048x2304 .f32 :=
  fun y => ∑ k : Fin 1024, (h (ix2 (y 0) k) : EReal) * w (ix4 0 0 k (y 1))
/-- Rows against the four slices of the gate weights. -/
def gateArr (h : FVec Ideal S2048x1024 .bf16) (w : FVec Ideal S1x4x1024x1024 .bf16) : FVec Ideal S4x2048x1024 .f32 :=
  fun y => ∑ k : Fin 1024, (h (ix2 (y 1) k) : EReal) * w (ix4 0 (y 0) k (y 2))
/-- Branch `n`'s share of column `l` of block `s` of the merged row: the branch's row against its weights, gated. -/
def gated (p : FVec Ideal S4x2048x1024 .f32) (b : FVec Ideal S4x2048x256 .bf16) (w : FVec Ideal S1x4x4x256x256 .bf16)
    (n : Fin 4) (r : Fin 2048) (s : Fin 4) (l : Fin 256) : EReal :=
  Ideal.logistic (p (ix3 n r ⟨s.val * 256 + l.val, by omega⟩)) * ∑ k : Fin 256, (b (ix3 n r k) : EReal) * w (ix5 0 s n k l)
/-- The merged rows: the four branches' shares added up. -/
def mergeArr (p : FVec Ideal S4x2048x1024 .f32) (b : FVec Ideal S4x2048x256 .bf16) (w : FVec Ideal S1x4x4x256x256 .bf16) : FVec Ideal S2048x1024 .bf16 :=
  fun y =>
    have h : (y 1).val < 1024 := (y 1).isLt
    (∑ n : Fin 4, gated p b w n (y 0) ⟨(y 1).val / 256, by omega⟩ ⟨(y 1).val % 256, by omega⟩ : EReal)
/-- The merged rows' array at column `l` of block `s`. -/
theorem mergeArr_at (p : FVec Ideal S4x2048x1024 .f32) (b : FVec Ideal S4x2048x256 .bf16) (w : FVec Ideal S1x4x4x256x256 .bf16)
    (r : Fin 2048) (s : Fin 4) (l : Fin 256) (h : s.val * 256 + l.val < 1024) :
    mergeArr p b w (ix2 r ⟨s.val * 256 + l.val, h⟩) = ∑ n : Fin 4, gated p b w n r s l := by
  have e1 : (s.val * 256 + l.val) / 256 = s.val := by omega
  have e2 : (s.val * 256 + l.val) % 256 = l.val := by omega
  unfold mergeArr
  dsimp only [ix2, Matrix.cons_val]
  simp only [e1, e2]
/-- The merged rows against the output weights, the stream added. -/
def streamArr (u : FVec Ideal S2048x1024 .bf16) (w : FVec Ideal S1x1x1024x1024 .bf16) (x : FVec Ideal S2048x1024 .f32) : FVec Ideal S2048x1024 .f32 :=
  fun y => (∑ k : Fin 1024, (u (ix2 (y 0) k) : EReal) * w (ix4 0 0 k (y 1))) + x (ix2 (y 0) (y 1))
/-- The incoming gradient against the output weights, across. -/
def backArr (x : FVec Ideal S2048x1024 .f32) (w : FVec Ideal S1x1x1024x1024 .bf16) : FVec Ideal S2048x1024 .f32 :=
  fun y => ∑ k : Fin 1024, (x (ix2 (y 0) k) : EReal) * w (ix4 0 0 (y 1) k)
/-- The gradient of the output weights. -/
def outWArr (u : FVec Ideal S2048x1024 .bf16) (x : FVec Ideal S2048x1024 .f32) : FVec Ideal S1x1024x1024 .f32 :=
  fun y => ∑ r : Fin 2048, (u (ix2 r (y 1)) : EReal) * x (ix2 r (y 2))

/-- Region 0 leaves the normalised rows. -/
theorem arr0 : (dat0 V c).arrAt 2 cfg0.N = hidArr (V c main_arg0) (V c main_arg1) := by
  refine (dat0 V c).arrAt_eq_of_covers 2 _ (by decide +kernel) fun t _ y => ?_
  blk_simp
  rw [after0_2]
  frame_out
  obtain ⟨r, k, rfl⟩ : ∃ (r : Fin 512) (k : Fin 1024), y = ix2 r k := ⟨y 0, y 1, eq_ix2 y⟩
  have e : ((cfg0.win 2).blk t).view.emb (ix2 r k) = (ix2 ⟨t.val * 512 + r.val, by have := lt0 t; omega⟩ k : S2048x1024.Idx) := by
    blk_ext [idx0 t]
  refine (pay0 _ _ r k).trans ((?_ : _ = hid _ _ _ _).trans (congrArg (hidArr _ _) e.symm))
  simp only [b0_0, b0_1, hid]; rfl

/-- Region 1 leaves the rows' products with the input weights. -/
theorem arr1 : (dat1 V c).arrAt 2 cfg1.N = projArr (V c main_v5) (V c main_v1) := by
  refine (dat1 V c).arrAt_eq_of_covers 2 _ (by decide +kernel) fun t _ y => ?_
  blk_simp
  rw [after1_2]
  frame_out
  obtain ⟨r, d, rfl⟩ : ∃ (r : Fin 1024) (d : Fin 1152), y = ix2 r d := ⟨y 0, y 1, eq_ix2 y⟩
  have e : ((cfg1.win 2).blk t).view.emb (ix2 r d) = (ix2 ⟨t.val / 2 * 1024 + r.val, by have := lt1 t; omega⟩ ⟨t.val % 2 * 1152 + d.val, by omega⟩ : S2048x2304.Idx) := by
    blk_ext [idx1 t]
  refine (pay1 _ _ r d).trans ((?_ : _ = projArr _ _ (ix2 _ _)).trans (congrArg (projArr _ _) e.symm))
  simp only [b1_0, b1_1]; rfl

/-- Region 2 leaves the rows' products with the gate weights. -/
theorem arr2 : (dat2 V c).arrAt 2 cfg2.N = gateArr (V c main_v5) (V c main_v2) := by
  refine (dat2 V c).arrAt_eq_of_covers 2 _ (by decide +kernel) fun t _ y => ?_
  blk_simp
  rw [after2_2]
  frame_out
  obtain ⟨r, d, rfl⟩ : ∃ (r d : Fin 1024), y = ix3 0 r d := ⟨y 1, y 2, by blk_ext []⟩
  have e : ((cfg2.win 2).blk t).view.emb (ix3 0 r d) = (ix3 ⟨t.val % 4, by omega⟩ ⟨t.val / 4 * 1024 + r.val, by have := lt2 t; omega⟩ d : S4x2048x1024.Idx) := by
    blk_ext [idx2 t]
  refine (pay2 _ _ r d).trans ((?_ : _ = gateArr _ _ (ix3 _ _ _)).trans (congrArg (gateArr _ _) e.symm))
  simp only [b2_0, b2_1]; rfl

/-- A row slice of the staged blocks is the slice's branch. -/
theorem ld_row {e : EltTy} (x : Vec Ideal S4x1024x256 e) (r : Fin 1024) (l : Fin 256) :
    View.ld x r3_0 (ix3 0 r l) = x (ix3 0 r l) ∧ View.ld x r3_1 (ix3 0 r l) = x (ix3 1 r l)
      ∧ View.ld x r3_2 (ix3 0 r l) = x (ix3 2 r l) ∧ View.ld x r3_3 (ix3 0 r l) = x (ix3 3 r l) :=
  ⟨View.ld_unit_apply_of _ _ _ _ _ _ fun a => by fin_cases a <;> first | rfl | exact (Nat.zero_add _).symm, View.ld_unit_apply_of _ _ _ _ _ _ fun a => by fin_cases a <;> first | rfl | exact (Nat.zero_add _).symm, View.ld_unit_apply_of _ _ _ _ _ _ fun a => by fin_cases a <;> first | rfl | exact (Nat.zero_add _).symm, View.ld_unit_apply_of _ _ _ _ _ _ fun a => by fin_cases a <;> first | rfl | exact (Nat.zero_add _).symm⟩
/-- A weight slice of the staged blocks is the slice's branch. -/
theorem ld_w {e : EltTy} (x : Vec Ideal S1x1x4x256x256 e) (k l : Fin 256) :
    View.ld x r3_4 (ix5 0 0 0 k l) = x (ix5 0 0 0 k l) ∧ View.ld x r3_5 (ix5 0 0 0 k l) = x (ix5 0 0 1 k l)
      ∧ View.ld x r3_6 (ix5 0 0 0 k l) = x (ix5 0 0 2 k l) ∧ View.ld x r3_7 (ix5 0 0 0 k l) = x (ix5 0 0 3 k l) :=
  ⟨View.ld_unit_apply_of _ _ _ _ _ _ fun a => by fin_cases a <;> first | rfl | exact (Nat.zero_add _).symm, View.ld_unit_apply_of _ _ _ _ _ _ fun a => by fin_cases a <;> first | rfl | exact (Nat.zero_add _).symm, View.ld_unit_apply_of _ _ _ _ _ _ fun a => by fin_cases a <;> first | rfl | exact (Nat.zero_add _).symm, View.ld_unit_apply_of _ _ _ _ _ _ fun a => by fin_cases a <;> first | rfl | exact (Nat.zero_add _).symm⟩

/-- One branch's share, read off the staged blocks. -/
theorem share (t : Fin cfg3.N) (n : Fin 4) (r : Fin 1024) (l : Fin 256) (p : EReal) (b w : Fin 256 → EReal)
    (hp : p = (iblk3 V c 0 t : Vec Ideal S4x1024x256 .f32) (ix3 n r l)) (hb : ∀ k, b k = (iblk3 V c 1 t : Vec Ideal S4x1024x256 .bf16) (ix3 n r k))
    (hw : ∀ k, w k = (iblk3 V c 2 t : Vec Ideal S1x1x4x256x256 .bf16) (ix5 0 0 n k l)) :
    Ideal.logistic p * (∑ k : Fin 256, b k * w k)
      = gated (V c main_v7) (V c main_v12) (V c main_v3) n ⟨t.val / 4 * 1024 + r.val, by have := lt3 t; omega⟩ ⟨t.val % 4, by omega⟩ l :=
  congrArg₂ (· * ·) (congrArg Ideal.logistic (hp.trans (b3_0 V c t n r l)))
    (Finset.sum_congr rfl fun k _ => congrArg₂ (· * ·) ((hb k).trans (b3_1 V c t n r k)) ((hw k).trans (b3_2 V c t n k l)))

/-- Region 3 leaves the merged rows. -/
theorem arr3 : (dat3 V c).arrAt 3 cfg3.N = mergeArr (V c main_v7) (V c main_v12) (V c main_v3) := by
  refine (dat3 V c).arrAt_eq_of_covers 3 _ (by decide +kernel) fun t _ y => ?_
  blk_simp
  rw [after3_3]
  frame_out
  obtain ⟨r, l, rfl⟩ : ∃ (r : Fin 1024) (l : Fin 256), y = ix2 r l := ⟨y 0, y 1, eq_ix2 y⟩
  have e : ((cfg3.win 3).blk t).view.emb (ix2 r l) = (ix2 ⟨t.val / 4 * 1024 + r.val, by have := lt3 t; omega⟩ ⟨t.val % 4 * 256 + l.val, by omega⟩ : S2048x1024.Idx) := by
    blk_ext [idx3 t]
  refine Eq.trans ?_ ((mergeArr_at _ _ _ _ ⟨t.val % 4, by omega⟩ l (by dsimp only; omega)).symm.trans (congrArg (mergeArr _ _ _) e.symm))
  refine (pay3 _ _ _ _ _ _ _ _ _ _ _ _ r l).trans ?_
  rw [Fin.sum_univ_four]
  exact congrArg₂ (· + ·) (congrArg₂ (· + ·) (congrArg₂ (· + ·)
    (share V c t 0 r l _ _ _ (ld_row _ _ _).1 (fun k => (ld_row _ _ _).1) (fun k => (ld_w _ _ _).1))
    (share V c t 1 r l _ _ _ (ld_row _ _ _).2.1 (fun k => (ld_row _ _ _).2.1) (fun k => (ld_w _ _ _).2.1)))
    (share V c t 2 r l _ _ _ (ld_row _ _ _).2.2.1 (fun k => (ld_row _ _ _).2.2.1) (fun k => (ld_w _ _ _).2.2.1)))
    (share V c t 3 r l _ _ _ (ld_row _ _ _).2.2.2 (fun k => (ld_row _ _ _).2.2.2) (fun k => (ld_w _ _ _).2.2.2))

/-- Region 4 leaves the stream with the mixer's output added. -/
theorem arr4 : (dat4 V c).arrAt 3 cfg4.N = streamArr (V c main_v13) (V c main_v4) (V c main_arg0) := by
  refine (dat4 V c).arrAt_eq_of_covers 3 _ (by decide +kernel) fun t _ y => ?_
  blk_simp
  rw [after4_3]
  frame_out
  obtain ⟨r, d, rfl⟩ : ∃ (r d : Fin 1024), y = ix2 r d := ⟨y 0, y 1, eq_ix2 y⟩
  have e : ((cfg4.win 3).blk t).view.emb (ix2 r d) = (ix2 ⟨t.val * 1024 + r.val, by have := lt4 t; omega⟩ d : S2048x1024.Idx) := by
    blk_ext [idx4 t]
  refine (pay4 _ _ _ r d).trans ((?_ : _ = streamArr _ _ _ (ix2 _ _)).trans (congrArg (streamArr _ _ _) e.symm))
  simp only [b4_0, b4_1, b4_2]; rfl

/-- Region 5 leaves the incoming gradient taken back through the output weights. -/
theorem arr5 : (dat5 V c).arrAt 2 cfg5.N = backArr (V c main_arg10) (V c main_v4) := by
  refine (dat5 V c).arrAt_eq_of_covers 2 _ (by decide +kernel) fun t _ y => ?_
  blk_simp
  rw [after5_2]
  frame_out
  obtain ⟨r, d, rfl⟩ : ∃ (r d : Fin 1024), y = ix2 r d := ⟨y 0, y 1, eq_ix2 y⟩
  have e : ((cfg5.win 2).blk t).view.emb (ix2 r d) = (ix2 ⟨t.val * 1024 + r.val, by have := lt5 t; omega⟩ d : S2048x1024.Idx) := by
    blk_ext [idx5 t]
  refine (pay5 _ _ r d).trans ((?_ : _ = backArr _ _ (ix2 _ _)).trans (congrArg (backArr _ _) e.symm))
  simp only [b5_0, b5_1]; rfl

/-- Region 6 leaves the gradient of the output weights. -/
theorem arr6 : (dat6 V c).arrAt 2 cfg6.N = outWArr (V c main_v13) (V c main_arg10) := by
  refine (dat6 V c).arrAt_eq_of_covers 2 _ (by decide +kernel) fun t _ y => ?_
  blk_simp
  rw [after6_2]
  frame_out
  obtain ⟨d, k, rfl⟩ : ∃ (d k : Fin 1024), y = ix3 0 d k := ⟨y 1, y 2, by blk_ext []⟩
  have e : ((cfg6.win 2).blk t).view.emb (ix3 0 d k) = (ix3 0 d k : S1x1024x1024.Idx) := by
    blk_ext [idx6 t]
  refine (pay6 _ _ d k).trans ((?_ : _ = outWArr _ _ (ix3 _ _ _)).trans (congrArg (outWArr _ _) e.symm))
  simp only [b6_0, b6_1]; rfl

end Cert.MixIdeal.Mixer

end

end
-- ==== Proof.Mix.Spec.lean ====
module

public import proofs.«01_k».proof.Proof.Mix.Regions
public import proofs.«01_k».proof.Proof.Gen.MixRefIdeal.Run
public import proofs.«01_k».proof.Proof.Gen.MixRefIdeal.Read

@[expose] public section

set_option maxRecDepth 16384

noncomputable section

namespace Cert.MixIdeal.Mixer

open Cert.MixIdeal Cert.MixIdeal.Gen
open Idealize.ShloMosaic Idealize.ShloMosaic.TcCoe Idealize.SL.Sem
open Cert.MixRefIdeal.Read

variable (x0 : FVec Ideal S2048x1024 .f32) (x1 : FVec Ideal S1x1024 .f32) (x2 : FVec Ideal S4x1024x576 .bf16) (x3 : FVec Ideal S4x1024x1024 .bf16)
  (x4 x5 x6 x7 : FVec Ideal S2048x256 .bf16) (x8 : FVec Ideal S4x1024x256 .bf16) (x9 : FVec Ideal S1024x1024 .bf16) (x10 : FVec Ideal S2048x1024 .f32)

/-- The weights as the regions take them. -/
abbrev wIn : FVec Ideal S1x1x1024x2304 .bf16 :=
  shapeCast S1x1x1024x2304 (transpose S1024x4x576 [1, 0, 2] x2 transposes_S4x1024x576_S1024x4x576_1_0_2) shapeCasts_S1024x4x576_S1x1x1024x2304
@[inherit_doc wIn] abbrev wGate : FVec Ideal S1x4x1024x1024 .bf16 :=
  broadcastInDim S1x4x1024x1024 ![1, 2, 3] bcast_S4x1024x1024_S1x4x1024x1024_1_2_3 x3
@[inherit_doc wIn] abbrev wBranch : FVec Ideal S1x4x4x256x256 .bf16 := shapeCast S1x4x4x256x256 x8 shapeCasts_S4x1024x256_S1x4x4x256x256
@[inherit_doc wIn] abbrev wOut : FVec Ideal S1x1x1024x1024 .bf16 := shapeCast S1x1x1024x1024 x9 shapeCasts_S1024x1024_S1x1x1024x1024
/-- One branch's rows with the branch's axis in front. -/
abbrev front (x : FVec Ideal S2048x256 .bf16) : FVec Ideal S1x2048x256 .bf16 :=
  broadcastInDim S1x2048x256 ![1, 2] bcast_S2048x256_S1x2048x256_1_2 x
/-- The four branches' rows, one after the other. -/
abbrev branches : FVec Ideal S4x2048x256 .bf16 :=
  concatenate S4x2048x256 0 [⟨S1x2048x256, front x4⟩, ⟨S1x2048x256, front x5⟩, ⟨S1x2048x256, front x6⟩, ⟨S1x2048x256, front x7⟩]
    concatenates_S1x2048x256_S1x2048x256_S1x2048x256_S1x2048x256_S4x2048x256_d0

/-- The row of branch `n`. -/
def branch (n : Fin 4) (r : Fin 2048) (k : Fin 256) : EReal := match n with
  | 0 => x4 (ix2 r k)
  | 1 => x5 (ix2 r k)
  | 2 => x6 (ix2 r k)
  | 3 => x7 (ix2 r k)
/-- Branch `n`'s gate before the logistic. -/
def pre (n : Fin 4) (r : Fin 2048) (j : Fin 1024) : EReal := ∑ k : Fin 1024, hid x0 x1 r k * x3 (ix3 n k j)
/-- Branch `n` against its weights, at column `l` of block `s`. -/
def branchOut (n : Fin 4) (r : Fin 2048) (s : Fin 4) (l : Fin 256) : EReal :=
  ∑ k : Fin 256, branch x4 x5 x6 x7 n r k * x8 (ix3 s ⟨n.val * 256 + k.val, by omega⟩ l)
/-- The merged row at column `l` of block `s`. -/
def merged (r : Fin 2048) (s : Fin 4) (l : Fin 256) : EReal :=
  ∑ n : Fin 4, Ideal.logistic (pre x0 x1 x3 n r ⟨s.val * 256 + l.val, by omega⟩) * branchOut x4 x5 x6 x7 x8 n r s l

/-- The four branches' rows, entry by entry. -/
theorem branches_at (n : Fin 4) (r : Fin 2048) (k : Fin 256) : branches x4 x5 x6 x7 (ix3 n r k) = branch x4 x5 x6 x7 n r k := by
  fin_cases n <;> pointwise [branch]

/-- The merged rows' array, entry by entry. -/
theorem merged_at (r : Fin 2048) (s : Fin 4) (l : Fin 256) (h : s.val * 256 + l.val < 1024) :
    mergeArr (gateArr (hidArr x0 x1) (wGate x3)) (branches x4 x5 x6 x7) (wBranch x8) (ix2 r ⟨s.val * 256 + l.val, h⟩)
      = merged x0 x1 x3 x4 x5 x6 x7 x8 r s l := by
  rw [mergeArr_at]
  refine Finset.sum_congr rfl fun n _ => congrArg₂ (· * ·) (congrArg Ideal.logistic ?_) (Finset.sum_congr rfl fun k _ => congrArg₂ (· * ·) (branches_at x4 x5 x6 x7 n r k) ?_)
  · show ∑ k : Fin 1024, hid x0 x1 r k * wGate x3 (ix4 0 n k ⟨s.val * 256 + l.val, h⟩) = ∑ k : Fin 1024, hid x0 x1 r k * x3 (ix3 n k ⟨s.val * 256 + l.val, h⟩)
    refine Finset.sum_congr rfl fun k _ => congrArg _ ?_
    pointwise []
  · pointwise []

/-- The reference's normalised rows. -/
theorem ref_hid (r : Fin 2048) (k : Fin 1024) : val_main_v11 (F := Ideal) x0 x1 (ix2 r k) = hid x0 x1 r k := by
  pointwise [val_main_v11, val_main_v10, val_main_v9, val_main_v8, val_main_v7, val_main_v6, val_main_v5, val_main_v4, val_main_v3, val_main_v2, val_main_v1, val_main_v0, val_main_cst, val_main_cst_0, val_main_cst_1, hid]

/-- The reference's gates before the logistic. -/
theorem ref_pre (n : Fin 4) (r : Fin 2048) (j : Fin 1024) (h : n.val * 1024 + j.val < 4096) :
    val_main_v34 (F := Ideal) x0 x1 x3 (ix2 r ⟨n.val * 1024 + j.val, h⟩) = pre x0 x1 x3 n r j := by
  pointwise [val_main_v34, val_main_v33, val_main_v32, val_main_v31, pre]
  simp only [ref_hid]

/-- The logistic of the gates. -/
theorem ref_sig (i : Cert.MixRefIdeal.S2048x4096.Idx) :
    val_main_v40 (F := Ideal) x0 x1 x3 i = Ideal.logistic (val_main_v34 (F := Ideal) x0 x1 x3 i) := by
  pointwise [val_main_v40, val_main_v39, val_main_v38, val_main_v37, val_main_v36, val_main_v35, val_main_cst_2, val_main_cst_3]
  rfl

/-- The reference's gates. -/
theorem ref_gate (n : Fin 4) (r : Fin 2048) (j : Fin 1024) :
    val_main_v41 (F := Ideal) x0 x1 x3 (ix3 r n j) = Ideal.logistic (pre x0 x1 x3 n r j) := by
  rw [← ref_pre x0 x1 x3 n r j (by omega), ← ref_sig]
  pointwise [val_main_v41]

/-- The reference's branches, one beside the other. -/
theorem ref_branches (n : Fin 4) (r : Fin 2048) (k : Fin 256) : val_main_v24 (F := Ideal) x4 x5 x6 x7 (ix3 r n k) = branch x4 x5 x6 x7 n r k := by
  fin_cases n <;> pointwise [val_main_v24, val_main_v23, val_main_v22, val_main_v21, val_main_v20, val_main_v19, val_main_v18, val_main_v17, val_main_v16, branch]

/-- The reference's weights of the branches. -/
theorem ref_weight (n s : Fin 4) (k l : Fin 256) (h : s.val * 256 + l.val < 1024) :
    val_main_v28 (F := Ideal) x8 (ix3 n k ⟨s.val * 256 + l.val, h⟩) = x8 (ix3 s ⟨n.val * 256 + k.val, by omega⟩ l) := by
  pointwise [val_main_v28, val_main_v27, val_main_v26, val_main_v25]

/-- The reference's branches against their weights. -/
theorem ref_branchOut (n : Fin 4) (r : Fin 2048) (s : Fin 4) (l : Fin 256) (h : s.val * 256 + l.val < 1024) :
    val_main_v30 (F := Ideal) x4 x5 x6 x7 x8 (ix3 r n ⟨s.val * 256 + l.val, h⟩) = branchOut x4 x5 x6 x7 x8 n r s l := by
  pointwise [val_main_v30, val_main_v29, branchOut]
  exact Finset.sum_congr rfl fun k _ => (congrArg₂ (· * ·) (ref_weight x8 n s k l h) (ref_branches x4 x5 x6 x7 n r k)).trans (mul_comm _ _)

/-- The reference's merged rows. -/
theorem ref_merged (r : Fin 2048) (s : Fin 4) (l : Fin 256) (h : s.val * 256 + l.val < 1024) :
    val_main_v43 (F := Ideal) x0 x1 x3 x4 x5 x6 x7 x8 (ix2 r ⟨s.val * 256 + l.val, h⟩) = merged x0 x1 x3 x4 x5 x6 x7 x8 r s l := by
  pointwise [val_main_v43, val_main_v42, val_main_cst_4, merged]
  simp only [ref_gate, ref_branchOut]

/-- The merged rows are the reference's. -/
theorem eq_merged (r : Fin 2048) (j : Fin 1024) :
    mergeArr (gateArr (hidArr x0 x1) (wGate x3)) (branches x4 x5 x6 x7) (wBranch x8) (ix2 r j)
      = val_main_v43 (F := Ideal) x0 x1 x3 x4 x5 x6 x7 x8 (ix2 r j) := by
  obtain ⟨s, l, h, rfl⟩ : ∃ (s : Fin 4) (l : Fin 256) (h : s.val * 256 + l.val < 1024), j = ⟨s.val * 256 + l.val, h⟩ :=
    ⟨⟨j.val / 256, by omega⟩, ⟨j.val % 256, by omega⟩, by dsimp only; omega, Fin.ext (by dsimp only; omega)⟩
  rw [merged_at, ref_merged]

/-- The first result is the reference's: the normalised rows against the input weights. -/
theorem eq_proj : projArr (hidArr x0 x1) (wIn x2) = val_main_v15 (F := Ideal) x0 x1 x2 := by
  funext y
  obtain ⟨r, j, rfl⟩ : ∃ (r : Fin 2048) (j : Fin 2304), y = ix2 r j := ⟨y 0, y 1, eq_ix2 y⟩
  refine (show _ = ∑ k : Fin 1024, val_main_v11 (F := Ideal) x0 x1 (ix2 r k) * wIn x2 (ix4 0 0 k j) from
    Finset.sum_congr rfl fun k _ => congrArg (· * wIn x2 (ix4 0 0 k j)) (ref_hid x0 x1 r k).symm).trans (Eq.symm ?_)
  pointwise [val_main_v15, val_main_v14, val_main_v13, val_main_v12]

/-- The second result is the reference's: the merged rows against the output weights, the stream added. -/
theorem eq_stream : streamArr (mergeArr (gateArr (hidArr x0 x1) (wGate x3)) (branches x4 x5 x6 x7) (wBranch x8)) (wOut x9) x0
      = val_main_v46 (F := Ideal) x0 x1 x3 x4 x5 x6 x7 x8 x9 := by
  funext y
  obtain ⟨r, j, rfl⟩ : ∃ (r : Fin 2048) (j : Fin 1024), y = ix2 r j := ⟨y 0, y 1, eq_ix2 y⟩
  refine (show _ = (∑ k : Fin 1024, val_main_v43 (F := Ideal) x0 x1 x3 x4 x5 x6 x7 x8 (ix2 r k) * wOut x9 (ix4 0 0 k j)) + x0 (ix2 r j) from
    congrArg (· + x0 (ix2 r j)) (Finset.sum_congr rfl fun k _ => congrArg (· * wOut x9 (ix4 0 0 k j)) (eq_merged x0 x1 x3 x4 x5 x6 x7 x8 r k))).trans
      ((add_comm _ _).trans (Eq.symm ?_))
  pointwise [val_main_v46, val_main_v45, val_main_v44]

/-- The third result is the reference's: the incoming gradient back through the output weights. -/
theorem eq_back : backArr x10 (wOut x9) = val_main_v49 (F := Ideal) x9 x10 := by
  funext y
  obtain ⟨r, j, rfl⟩ : ∃ (r : Fin 2048) (j : Fin 1024), y = ix2 r j := ⟨y 0, y 1, eq_ix2 y⟩
  refine (show _ = ∑ k : Fin 1024, x10 (ix2 r k) * wOut x9 (ix4 0 0 j k) from rfl).trans (Eq.symm ?_)
  pointwise [val_main_v49, val_main_v44]

/-- The fourth result is the reference's: the gradient of the output weights. -/
theorem eq_outW : outWArr (mergeArr (gateArr (hidArr x0 x1) (wGate x3)) (branches x4 x5 x6 x7) (wBranch x8)) x10
      = val_main_v50 (F := Ideal) x0 x1 x3 x4 x5 x6 x7 x8 x10 := by
  funext y
  obtain ⟨j, k, rfl⟩ : ∃ (j k : Fin 1024), y = ix3 0 j k := ⟨y 1, y 2, by blk_ext []⟩
  refine (show _ = ∑ r : Fin 2048, x10 (ix2 r k) * val_main_v43 (F := Ideal) x0 x1 x3 x4 x5 x6 x7 x8 (ix2 r j) from
    Finset.sum_congr rfl fun r _ => (congrArg (· * x10 (ix2 r k)) (eq_merged x0 x1 x3 x4 x5 x6 x7 x8 r j)).trans (mul_comm _ _)).trans (Eq.symm ?_)
  pointwise [val_main_v50, val_main_v48, val_main_v47]

end Cert.MixIdeal.Mixer

end

end
-- ==== Proof.Mix.Final.lean ====
module

public import proofs.«01_k».proof.Proof.Mix.Run
public import proofs.«01_k».proof.Proof.Mix.Spec

@[expose] public section

set_option maxRecDepth 16384

noncomputable section

namespace Cert.MixIdeal.Mixer

open Cert.MixIdeal Cert.MixIdeal.Gen
open Idealize.ShloMosaic Idealize.ShloMosaic.TcCoe Idealize.SL.Sem
open Cert.MixRefIdeal.Read

variable (m : (ℓ : Loc nD τ sig) → Buf (Elt Ideal) ℓ) (ρ : Dev nD → PrngReg) (c : Dev nD)

/-- The kernel's arguments: the rows, the gain, the input, gate weights, the four branches' rows, the branches' and the
    output weights, the incoming gradient. -/
abbrev aX : FVec Ideal S2048x1024 .f32 := m ((c : Thread nD τ).loc main_arg0)
@[inherit_doc aX] abbrev aGain : FVec Ideal S1x1024 .f32 := m ((c : Thread nD τ).loc main_arg1)
@[inherit_doc aX] abbrev aIn : FVec Ideal S4x1024x576 .bf16 := m ((c : Thread nD τ).loc main_arg2)
@[inherit_doc aX] abbrev aGate : FVec Ideal S4x1024x1024 .bf16 := m ((c : Thread nD τ).loc main_arg3)
@[inherit_doc aX] abbrev aRet : FVec Ideal S2048x256 .bf16 := m ((c : Thread nD τ).loc main_arg4)
@[inherit_doc aX] abbrev aPool : FVec Ideal S2048x256 .bf16 := m ((c : Thread nD τ).loc main_arg5)
@[inherit_doc aX] abbrev aNear : FVec Ideal S2048x256 .bf16 := m ((c : Thread nD τ).loc main_arg6)
@[inherit_doc aX] abbrev aMem : FVec Ideal S2048x256 .bf16 := m ((c : Thread nD τ).loc main_arg7)
@[inherit_doc aX] abbrev aBranch : FVec Ideal S4x1024x256 .bf16 := m ((c : Thread nD τ).loc main_arg8)
@[inherit_doc aX] abbrev aOut : FVec Ideal S1024x1024 .bf16 := m ((c : Thread nD τ).loc main_arg9)
@[inherit_doc aX] abbrev aDx : FVec Ideal S2048x1024 .f32 := m ((c : Thread nD τ).loc main_arg10)

/-- The arrays between the regions: the normalised rows, the gates' products, the branches, the merged rows. -/
abbrev rows : FVec Ideal S2048x1024 .bf16 := hidArr (aX m c) (aGain m c)
@[inherit_doc rows] abbrev gates : FVec Ideal S4x2048x1024 .f32 := gateArr (rows m c) (wGate (aGate m c))
@[inherit_doc rows] abbrev four : FVec Ideal S4x2048x256 .bf16 := branches (aRet m c) (aPool m c) (aNear m c) (aMem m c)
@[inherit_doc rows] abbrev merge : FVec Ideal S2048x1024 .bf16 := mergeArr (gates m c) (four m c) (wBranch (aBranch m c))

/-- What each boundary holds of them. -/
theorem v1_1 : (V1 m ρ c main_v1 : FVec Ideal S1x1x1024x2304 .bf16) = wIn (aIn m c) := by
  unfold V1 W1 hostOps0; after_results; rfl
@[inherit_doc v1_1] theorem v2_1 : (V1 m ρ c main_v2 : FVec Ideal S1x4x1024x1024 .bf16) = wGate (aGate m c) := by
  unfold V1 W1 hostOps0; after_results
@[inherit_doc v1_1] theorem v3_1 : (V1 m ρ c main_v3 : FVec Ideal S1x4x4x256x256 .bf16) = wBranch (aBranch m c) := by
  unfold V1 W1 hostOps0; after_results; rfl
@[inherit_doc v1_1] theorem v4_1 : (V1 m ρ c main_v4 : FVec Ideal S1x1x1024x1024 .bf16) = wOut (aOut m c) := by
  unfold V1 W1 hostOps0; after_results; rfl
@[inherit_doc v1_1] theorem v5_2 : V2 m ρ c main_v5 = rows m c :=
  ((W2_arr m ρ c 2).trans (arr0 (V1 m ρ) c)).trans (congrArg₂ hidArr (W1_args m ρ c main_arg0 (by decide)) (W1_args m ρ c main_arg1 (by decide)))
@[inherit_doc v1_1] theorem v1_2 : V2 m ρ c main_v1 = wIn (aIn m c) :=
  (W2_of m ρ c main_v1 (by decide)).trans (v1_1 m ρ c)
@[inherit_doc v1_1] theorem v6_3 : V3 m ρ c main_v6 = projArr (rows m c) (wIn (aIn m c)) :=
  ((W3_arr m ρ c 2).trans (arr1 (V2 m ρ) c)).trans (congrArg₂ projArr (v5_2 m ρ c) (v1_2 m ρ c))
@[inherit_doc v1_1] theorem v5_3 : V3 m ρ c main_v5 = rows m c :=
  (W3_of m ρ c main_v5 (by decide)).trans (v5_2 m ρ c)
@[inherit_doc v1_1] theorem v2_3 : V3 m ρ c main_v2 = wGate (aGate m c) :=
  (W3_of m ρ c main_v2 (by decide)).trans ((W2_of m ρ c main_v2 (by decide)).trans (v2_1 m ρ c))
@[inherit_doc v1_1] theorem v7_4 : V4 m ρ c main_v7 = gates m c :=
  ((W4_arr m ρ c 2).trans (arr2 (V3 m ρ) c)).trans (congrArg₂ gateArr (v5_3 m ρ c) (v2_3 m ρ c))
@[inherit_doc v1_1] theorem v12_5 : V5 m ρ c main_v12 = four m c := by
  have e : (V5 m ρ c main_v12 : FVec Ideal S4x2048x256 .bf16)
      = branches (V4 m ρ c main_arg4) (V4 m ρ c main_arg5) (V4 m ρ c main_arg6) (V4 m ρ c main_arg7) := by
    unfold V5 W5 hostOps3; after_results; rfl
  rw [e]
  exact congr (congr (congrArg₂ branches (W4_args m ρ c main_arg4 (by decide)) (W4_args m ρ c main_arg5 (by decide)))
    (W4_args m ρ c main_arg6 (by decide))) (W4_args m ρ c main_arg7 (by decide))
@[inherit_doc v1_1] theorem v7_5 : V5 m ρ c main_v7 = gates m c :=
  (W5_of m ρ c main_v7 (by decide)).trans (v7_4 m ρ c)
@[inherit_doc v1_1] theorem v3_5 : V5 m ρ c main_v3 = wBranch (aBranch m c) :=
  (W5_of m ρ c main_v3 (by decide)).trans ((W4_of m ρ c main_v3 (by decide)).trans ((W3_of m ρ c main_v3 (by decide)).trans ((W2_of m ρ c main_v3 (by decide)).trans (v3_1 m ρ c))))
@[inherit_doc v1_1] theorem v13_6 : V6 m ρ c main_v13 = merge m c :=
  ((W6_arr m ρ c 3).trans (arr3 (V5 m ρ) c)).trans (congr (congrArg₂ mergeArr (v7_5 m ρ c) (v12_5 m ρ c)) (v3_5 m ρ c))
@[inherit_doc v1_1] theorem v4_6 : V6 m ρ c main_v4 = wOut (aOut m c) :=
  (W6_of m ρ c main_v4 (by decide)).trans ((W5_of m ρ c main_v4 (by decide)).trans ((W4_of m ρ c main_v4 (by decide)).trans ((W3_of m ρ c main_v4 (by decide)).trans ((W2_of m ρ c main_v4 (by decide)).trans (v4_1 m ρ c)))))
@[inherit_doc v1_1] theorem v14_7 : V7 m ρ c main_v14 = streamArr (merge m c) (wOut (aOut m c)) (aX m c) :=
  ((W7_arr m ρ c 3).trans (arr4 (V6 m ρ) c)).trans (congr (congrArg₂ streamArr (v13_6 m ρ c) (v4_6 m ρ c)) (W6_args m ρ c main_arg0 (by decide)))
@[inherit_doc v1_1] theorem v4_7 : V7 m ρ c main_v4 = wOut (aOut m c) :=
  (W7_of m ρ c main_v4 (by decide)).trans (v4_6 m ρ c)
@[inherit_doc v1_1] theorem v15_8 : V8 m ρ c main_v15 = backArr (aDx m c) (wOut (aOut m c)) :=
  ((W8_arr m ρ c 2).trans (arr5 (V7 m ρ) c)).trans (congrArg₂ backArr (W7_args m ρ c main_arg10 (by decide)) (v4_7 m ρ c))
@[inherit_doc v1_1] theorem v13_8 : V8 m ρ c main_v13 = merge m c :=
  (W8_of m ρ c main_v13 (by decide)).trans ((W7_of m ρ c main_v13 (by decide)).trans (v13_6 m ρ c))
@[inherit_doc v1_1] theorem v16_9 : V9 m ρ c main_v16 = outWArr (merge m c) (aDx m c) :=
  ((W9_arr m ρ c 2).trans (arr6 (V8 m ρ) c)).trans (congrArg₂ outWArr (v13_8 m ρ c) (W8_args m ρ c main_arg10 (by decide)))
@[inherit_doc v1_1] theorem v6_9 : V9 m ρ c main_v6 = projArr (rows m c) (wIn (aIn m c)) :=
  (W9_of m ρ c main_v6 (by decide)).trans ((W8_of m ρ c main_v6 (by decide)).trans ((W7_of m ρ c main_v6 (by decide)).trans ((W6_of m ρ c main_v6 (by decide)).trans ((W5_of m ρ c main_v6 (by decide)).trans ((W4_of m ρ c main_v6 (by decide)).trans (v6_3 m ρ c))))))
@[inherit_doc v1_1] theorem v14_9 : V9 m ρ c main_v14 = streamArr (merge m c) (wOut (aOut m c)) (aX m c) :=
  (W9_of m ρ c main_v14 (by decide)).trans ((W8_of m ρ c main_v14 (by decide)).trans (v14_7 m ρ c))
@[inherit_doc v1_1] theorem v15_9 : V9 m ρ c main_v15 = backArr (aDx m c) (wOut (aOut m c)) :=
  (W9_of m ρ c main_v15 (by decide)).trans (v15_8 m ρ c)

/-- The run with its values: the four results are the reference's of the arguments, which end unchanged. -/
theorem run_value : θ_run defs (onTc (τ := τ) (main (F := Ideal))) ⟨m, fun _ => 0, ρ⟩ (fun r => ∀ c : Dev nD,
      r.2.mem ((c.tc : Thread nD τ).loc main_v6) = val_main_v15 (F := Ideal) (aX m c) (aGain m c) (aIn m c)
      ∧ r.2.mem ((c.tc : Thread nD τ).loc main_v14) = val_main_v46 (F := Ideal) (aX m c) (aGain m c) (aGate m c) (aRet m c) (aPool m c) (aNear m c) (aMem m c) (aBranch m c) (aOut m c)
      ∧ r.2.mem ((c.tc : Thread nD τ).loc main_v15) = val_main_v49 (F := Ideal) (aOut m c) (aDx m c)
      ∧ r.2.mem ((c.tc : Thread nD τ).loc main_v16) = val_main_v50 (F := Ideal) (aX m c) (aGain m c) (aGate m c) (aRet m c) (aPool m c) (aNear m c) (aMem m c) (aBranch m c) (aDx m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨
    (h c _ (mem_uc main_v6 (by decide))).trans ((v6_9 m ρ c).trans (eq_proj _ _ _)),
    (h c _ (mem_uc main_v14 (by decide))).trans ((v14_9 m ρ c).trans (eq_stream _ _ _ _ _ _ _ _ _)),
    (h c _ (mem_uc main_v15 (by decide))).trans ((v15_9 m ρ c).trans (eq_back _ _)),
    (h c _ (mem_uc main_v16 (by decide))).trans ((v16_9 m ρ c).trans (eq_outW _ _ _ _ _ _ _ _ _)),
    (h c _ (mem_uc main_arg0 (by decide))).trans (W9_main_arg0 m ρ c),
    (h c _ (mem_uc main_arg1 (by decide))).trans (W9_main_arg1 m ρ c),
    (h c _ (mem_uc main_arg2 (by decide))).trans (W9_main_arg2 m ρ c),
    (h c _ (mem_uc main_arg3 (by decide))).trans (W9_main_arg3 m ρ c),
    (h c _ (mem_uc main_arg4 (by decide))).trans (W9_main_arg4 m ρ c),
    (h c _ (mem_uc main_arg5 (by decide))).trans (W9_main_arg5 m ρ c),
    (h c _ (mem_uc main_arg6 (by decide))).trans (W9_main_arg6 m ρ c),
    (h c _ (mem_uc main_arg7 (by decide))).trans (W9_main_arg7 m ρ c),
    (h c _ (mem_uc main_arg8 (by decide))).trans (W9_main_arg8 m ρ c),
    (h c _ (mem_uc main_arg9 (by decide))).trans (W9_main_arg9 m ρ c),
    (h c _ (mem_uc main_arg10 (by decide))).trans (W9_main_arg10 m ρ c)⟩) (run_memory m ρ)

end Cert.MixIdeal.Mixer

end

end
-- ==== Proof.ProjDw.Regions.lean ====
module

public import proofs.«01_k».proof.Proof.Gen.ProjDwIdeal.Frame
public import Idealize.ShloMosaic.Lib.Pipeline.ValueKit
public import Idealize.ShloMosaic.Lib.Pointwise

@[expose] public section

set_option maxRecDepth 16384

noncomputable section

namespace Cert.ProjDwIdeal.Mixer

open Cert.ProjDwIdeal Cert.ProjDwIdeal.Gen
open Idealize.ShloMosaic Idealize.ShloMosaic.TcCoe Idealize.SL.Sem
open Idealize.ShloMosaic.Pipeline (Dat)

/-- Entry `(r, k)` of the normalised rows: the entry over the root of its row's mean square (with the small constant added), times the gain. -/
def hid (x : FVec Ideal S2048x1024 .f32) (g : FVec Ideal S1x1024 .f32) (r : Fin 2048) (k : Fin 1024) : EReal :=
  x (ix2 r k) * Ideal.rsqrt (Ideal.div (∑ j : Fin 1024, x (ix2 r j) * x (ix2 r j)) (Ideal.ofBits .f32 0x44800000#32) + Ideal.ofBits .f32 0x358637BD#32) * g (ix2 0 k)

variable (V : (c : Dev nD) → (b : Ref sig .tc) → Buf (Elt Ideal) ((c : Thread nD τ).loc b))

/-- Where the blocks lie at each point: one statement per region. -/
theorem idx0 : ∀ t : Fin cfg0.N, win0_0.index t = ![t.val, 0] ∧ win0_1.index t = ![0, 0] ∧ win0_2.index t = ![t.val, 0] :=
  (by decide +kernel : ∀ t : Fin grid0.N, _)
@[inherit_doc idx0] theorem idx1 : ∀ t : Fin cfg1.N, win1_0.index t = ![0, 0] ∧ win1_1.index t = ![t.val, 0, 0] ∧ win1_2.index t = ![t.val, 0, 0] :=
  (by decide +kernel : ∀ t : Fin grid1.N, _)
@[inherit_doc idx0] theorem idx2 : ∀ t : Fin cfg2.N, win2_0.index t = ![0, t.val] ∧ win2_1.index t = ![0, 0] ∧ win2_2.index t = ![0, t.val, 0] :=
  (by decide +kernel : ∀ t : Fin grid2.N, _)

/-- Normalising one row block. -/
theorem pay0 (x : Vec Ideal S512x1024 .f32) (g : Vec Ideal S1x1024 .f32) (r : Fin 512) (k : Fin 1024) :
    k0_pay1 x g (ix2 r k) = x (ix2 r k) * Ideal.rsqrt (Ideal.div (∑ j : Fin 1024, x (ix2 r j) * x (ix2 r j)) (Ideal.ofBits .f32 0x44800000#32) + Ideal.ofBits .f32 0x358637BD#32) * g (ix2 0 k) := by
  pointwise [k0_pay1]
/-- The gradient of one slice of the gate weights. -/
theorem pay1 (h : Vec Ideal S2048x1024 .bf16) (d : Vec Ideal S1x2048x1024 .bf16) (k j : Fin 1024) :
    k1_pay1 h d (ix3 0 k j) = ∑ r : Fin 2048, (h (ix2 r k) : EReal) * d (ix3 0 r j) := by
  pointwise [k1_pay1]
/-- The gradient of one block of the input weights' columns, columns first. -/
theorem pay2 (d : Vec Ideal S2048x768 .bf16) (h : Vec Ideal S2048x1024 .bf16) (j : Fin 768) (k : Fin 1024) :
    k2_pay1 d h (ix3 0 j k) = ∑ r : Fin 2048, (d (ix2 r j) : EReal) * h (ix2 r k) := by
  pointwise [k2_pay1]

variable (c : Dev nD)

/-- The number of points of each region. -/
theorem lt0 (t : Fin cfg0.N) : t.val < 4 := lt_of_lt_of_eq t.isLt (show cfg0.N = 4 from N_0)
@[inherit_doc lt0] theorem lt1 (t : Fin cfg1.N) : t.val < 4 := lt_of_lt_of_eq t.isLt (show cfg1.N = 4 from N_1)
@[inherit_doc lt0] theorem lt2 (t : Fin cfg2.N) : t.val < 3 := lt_of_lt_of_eq t.isLt (show cfg2.N = 3 from N_2)

/-- Each input block, entry by entry: region by region, window by window. -/
theorem b0_0 (t : Fin cfg0.N) (r : Fin 512) (k : Fin 1024) : (iblk0 V c 0 t : Vec Ideal S512x1024 .f32) (ix2 r k)
    = (V c main_arg0 : FVec Ideal S2048x1024 .f32) (ix2 ⟨t.val * 512 + r.val, by have := lt0 t; omega⟩ k) := by
  blk_ext [iblk0, idx0 t]
@[inherit_doc b0_0] theorem b0_1 (t : Fin cfg0.N) (k : Fin 1024) : (iblk0 V c 1 t : Vec Ideal S1x1024 .f32) (ix2 0 k)
    = (V c main_arg1 : FVec Ideal S1x1024 .f32) (ix2 0 k) := by
  blk_ext [iblk0, idx0 t]
@[inherit_doc b0_0] theorem b1_0 (t : Fin cfg1.N) (r : Fin 2048) (k : Fin 1024) : (iblk1 V c 0 t : Vec Ideal S2048x1024 .bf16) (ix2 r k)
    = (V c main_v0 : FVec Ideal S2048x1024 .bf16) (ix2 r k) := by
  blk_ext [iblk1, idx1 t]
@[inherit_doc b0_0] theorem b1_1 (t : Fin cfg1.N) (r : Fin 2048) (j : Fin 1024) : (iblk1 V c 1 t : Vec Ideal S1x2048x1024 .bf16) (ix3 0 r j)
    = (V c main_arg2 : FVec Ideal S4x2048x1024 .bf16) (ix3 ⟨t.val, lt1 t⟩ r j) := by
  blk_ext [iblk1, idx1 t]
@[inherit_doc b0_0] theorem b2_0 (t : Fin cfg2.N) (r : Fin 2048) (j : Fin 768) : (iblk2 V c 0 t : Vec Ideal S2048x768 .bf16) (ix2 r j)
    = (V c main_arg3 : FVec Ideal S2048x2304 .bf16) (ix2 r ⟨t.val * 768 + j.val, by have := lt2 t; omega⟩) := by
  blk_ext [iblk2, idx2 t]
@[inherit_doc b0_0] theorem b2_1 (t : Fin cfg2.N) (r : Fin 2048) (k : Fin 1024) : (iblk2 V c 1 t : Vec Ideal S2048x1024 .bf16) (ix2 r k)
    = (V c main_v0 : FVec Ideal S2048x1024 .bf16) (ix2 r k) := by
  blk_ext [iblk2, idx2 t]

/-- The normalised rows, as an array. -/
def hidArr (x : FVec Ideal S2048x1024 .f32) (g : FVec Ideal S1x1024 .f32) : FVec Ideal S2048x1024 .bf16 := fun y => hid x g (y 0) (y 1)
/-- The gradient of the gate weights, slice by slice. -/
def gateWArr (h : FVec Ideal S2048x1024 .bf16) (d : FVec Ideal S4x2048x1024 .bf16) : FVec Ideal S4x1024x1024 .f32 :=
  fun y => ∑ r : Fin 2048, (h (ix2 r (y 1)) : EReal) * d (ix3 (y 0) r (y 2))
/-- The gradient of the input weights, columns first. -/
def inWArr (d : FVec Ideal S2048x2304 .bf16) (h : FVec Ideal S2048x1024 .bf16) : FVec Ideal S1x2304x1024 .f32 :=
  fun y => ∑ r : Fin 2048, (d (ix2 r (y 1)) : EReal) * h (ix2 r (y 2))

/-- Region 0 leaves the normalised rows. -/
theorem arr0 : (dat0 V c).arrAt 2 cfg0.N = hidArr (V c main_arg0) (V c main_arg1) := by
  refine (dat0 V c).arrAt_eq_of_covers 2 _ (by decide +kernel) fun t _ y => ?_
  blk_simp
  rw [after0_2]
  frame_out
  obtain ⟨r, k, rfl⟩ : ∃ (r : Fin 512) (k : Fin 1024), y = ix2 r k := ⟨y 0, y 1, eq_ix2 y⟩
  have e : ((cfg0.win 2).blk t).view.emb (ix2 r k) = (ix2 ⟨t.val * 512 + r.val, by have := lt0 t; omega⟩ k : S2048x1024.Idx) := by
    blk_ext [idx0 t]
  refine (pay0 _ _ r k).trans ((?_ : _ = hid _ _ _ _).trans (congrArg (hidArr _ _) e.symm))
  simp only [b0_0, b0_1, hid]; rfl

/-- Region 1 leaves the gradient of the gate weights. -/
theorem arr1 : (dat1 V c).arrAt 2 cfg1.N = gateWArr (V c main_v0) (V c main_arg2) := by
  refine (dat1 V c).arrAt_eq_of_covers 2 _ (by decide +kernel) fun t _ y => ?_
  blk_simp
  rw [after1_2]
  frame_out
  obtain ⟨k, j, rfl⟩ : ∃ (k j : Fin 1024), y = ix3 0 k j := ⟨y 1, y 2, by blk_ext []⟩
  have e : ((cfg1.win 2).blk t).view.emb (ix3 0 k j) = (ix3 ⟨t.val, lt1 t⟩ k j : S4x1024x1024.Idx) := by
    blk_ext [idx1 t]
  refine (pay1 _ _ k j).trans ((?_ : _ = gateWArr _ _ (ix3 _ _ _)).trans (congrArg (gateWArr _ _) e.symm))
  simp only [b1_0, b1_1]; rfl

/-- Region 2 leaves the gradient of the input weights. -/
theorem arr2 : (dat2 V c).arrAt 2 cfg2.N = inWArr (V c main_arg3) (V c main_v0) := by
  refine (dat2 V c).arrAt_eq_of_covers 2 _ (by decide +kernel) fun t _ y => ?_
  blk_simp
  rw [after2_2]
  frame_out
  obtain ⟨j, k, rfl⟩ : ∃ (j : Fin 768) (k : Fin 1024), y = ix3 0 j k := ⟨y 1, y 2, by blk_ext []⟩
  have e : ((cfg2.win 2).blk t).view.emb (ix3 0 j k) = (ix3 0 ⟨t.val * 768 + j.val, by have := lt2 t; omega⟩ k : S1x2304x1024.Idx) := by
    blk_ext [idx2 t]
  refine (pay2 _ _ j k).trans ((?_ : _ = inWArr _ _ (ix3 _ _ _)).trans (congrArg (inWArr _ _) e.symm))
  simp only [b2_0, b2_1]; rfl

end Cert.ProjDwIdeal.Mixer

end

end
-- ==== Proof.ProjDw.Run.lean ====
module

public import proofs.«01_k».proof.Proof.Gen.ProjDwIdeal.Frame

@[expose] public section

set_option maxRecDepth 16384

noncomputable section

namespace Cert.ProjDwIdeal.Mixer

open Cert.ProjDwIdeal Cert.ProjDwIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with its memory: every buffer outside the kernels' own scopes ends as the last boundary has it. -/
theorem run_memory : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

end Cert.ProjDwIdeal.Mixer

end
-- ==== Proof.ProjDw.Final.lean ====
module

public import proofs.«01_k».proof.Proof.ProjDw.Regions
public import proofs.«01_k».proof.Proof.ProjDw.Run
public import proofs.«01_k».proof.Proof.Gen.ProjDwRefIdeal.Read

@[expose] public section

set_option maxRecDepth 16384

noncomputable section

namespace Cert.ProjDwIdeal.Mixer

open Cert.ProjDwIdeal Cert.ProjDwIdeal.Gen
open Idealize.ShloMosaic Idealize.ShloMosaic.TcCoe Idealize.SL.Sem
open Cert.ProjDwRefIdeal.Read

variable (m : (ℓ : Loc nD τ sig) → Buf (Elt Ideal) ℓ) (ρ : Dev nD → PrngReg) (c : Dev nD)

/-- The kernel's arguments: the rows, the gain, the gradient to the gate's product, the gradient to the input product. -/
abbrev aX : FVec Ideal S2048x1024 .f32 := m ((c : Thread nD τ).loc main_arg0)
@[inherit_doc aX] abbrev aGain : FVec Ideal S1x1024 .f32 := m ((c : Thread nD τ).loc main_arg1)
@[inherit_doc aX] abbrev aGate : FVec Ideal S4x2048x1024 .bf16 := m ((c : Thread nD τ).loc main_arg2)
@[inherit_doc aX] abbrev aProj : FVec Ideal S2048x2304 .bf16 := m ((c : Thread nD τ).loc main_arg3)

/-- The normalised rows. -/
abbrev rows : FVec Ideal S2048x1024 .bf16 := hidArr (aX m c) (aGain m c)

/-- What each boundary holds of the results. -/
theorem v0_1 : V1 m ρ c main_v0 = rows m c := (W1_arr m ρ c 2).trans (arr0 (V0 m ρ) c)
@[inherit_doc v0_1] theorem v1_2 : V2 m ρ c main_v1 = gateWArr (rows m c) (aGate m c) :=
  ((W2_arr m ρ c 2).trans (arr1 (V1 m ρ) c)).trans (congrArg₂ gateWArr (v0_1 m ρ c) (W1_args m ρ c main_arg2 (by decide)))
@[inherit_doc v0_1] theorem v0_2 : V2 m ρ c main_v0 = rows m c := (W2_of m ρ c main_v0 (by decide)).trans (v0_1 m ρ c)
@[inherit_doc v0_1] theorem v2_3 : V3 m ρ c main_v2 = inWArr (aProj m c) (rows m c) :=
  ((W3_arr m ρ c 2).trans (arr2 (V2 m ρ) c)).trans (congrArg₂ inWArr (W2_args m ρ c main_arg3 (by decide)) (v0_2 m ρ c))
@[inherit_doc v0_1] theorem v1_3 : V3 m ρ c main_v1 = gateWArr (rows m c) (aGate m c) := (W3_of m ρ c main_v1 (by decide)).trans (v1_2 m ρ c)

section Equations

variable (x0 : FVec Ideal S2048x1024 .f32) (x1 : FVec Ideal S1x1024 .f32) (x2 : FVec Ideal S4x2048x1024 .bf16) (x3 : FVec Ideal S2048x2304 .bf16)

/-- The reference's normalised rows, entry by entry. -/
theorem ref_hid (r : Fin 2048) (k : Fin 1024) : val_main_v11 (F := Ideal) x0 x1 (ix2 r k) = hid x0 x1 r k := by
  pointwise [val_main_v11, val_main_v10, val_main_v9, val_main_v8, val_main_v7, val_main_v6, val_main_v5, val_main_v4, val_main_v3, val_main_v2, val_main_v1, val_main_v0, val_main_cst, val_main_cst_0, val_main_cst_1, hid]

/-- The first result is the reference's. -/
theorem eq_gateW : gateWArr (hidArr x0 x1) x2 = val_main_v21 (F := Ideal) x0 x1 x2 := by
  funext y
  obtain ⟨s, k, j, rfl⟩ : ∃ (s : Fin 4) (k j : Fin 1024), y = ix3 s k j := ⟨y 0, y 1, y 2, eq_ix3 y⟩
  refine (show _ = ∑ r : Fin 2048, val_main_v11 (F := Ideal) x0 x1 (ix2 r k) * x2 (ix3 s r j) from
    Finset.sum_congr rfl fun r _ => congrArg (· * x2 (ix3 s r j)) (ref_hid x0 x1 r k).symm).trans (Eq.symm ?_)
  pointwise [val_main_v21, val_main_v20, val_main_v16, val_main_v15, val_main_v14, val_main_v13, val_main_v12]

/-- The second result is the reference's. -/
theorem eq_inW : inWArr x3 (hidArr x0 x1) = val_main_v23 (F := Ideal) x0 x1 x3 := by
  funext y
  obtain ⟨j, k, rfl⟩ : ∃ (j : Fin 2304) (k : Fin 1024), y = ix3 0 j k := ⟨y 1, y 2, by blk_ext []⟩
  refine (show _ = ∑ r : Fin 2048, val_main_v11 (F := Ideal) x0 x1 (ix2 r k) * x3 (ix2 r j) from
    Finset.sum_congr rfl fun r _ => (congrArg (x3 (ix2 r j) * ·) (ref_hid x0 x1 r k).symm).trans (mul_comm _ _)).trans (Eq.symm ?_)
  pointwise [val_main_v23, val_main_v22, val_main_v19, val_main_v18, val_main_v17]

end Equations

/-- The run with its values: the two results are the reference's of the arguments, which end unchanged. -/
theorem run_value : θ_run defs (onTc (τ := τ) (main (F := Ideal))) ⟨m, fun _ => 0, ρ⟩ (fun r => ∀ c : Dev nD,
      r.2.mem ((c.tc : Thread nD τ).loc main_v1) = val_main_v21 (F := Ideal) (aX m c) (aGain m c) (aGate m c)
      ∧ r.2.mem ((c.tc : Thread nD τ).loc main_v2) = val_main_v23 (F := Ideal) (aX m c) (aGain m c) (aProj m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
    (h c _ (mem_uc main_v1 (by decide))).trans ((v1_3 m ρ c).trans (eq_gateW _ _ _)),
    (h c _ (mem_uc main_v2 (by decide))).trans ((v2_3 m ρ c).trans (eq_inW _ _ _)),
    (h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c)⟩) (run_memory m ρ)

end Cert.ProjDwIdeal.Mixer

end

end
-- ==== Proof.Rms.Back.lean ====
module

public import proofs.«01_k».proof.Proof.Gen.RmsBwdIdeal.Value
public import proofs.«01_k».proof.Proof.Gen.RmsBwdRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.RmsBwdIdeal.Back

open Cert.RmsBwdIdeal Cert.RmsBwdIdeal.Gen
open Idealize.ShloMosaic Idealize.ShloMosaic.TcCoe Idealize.SL.Sem
open Idealize.ShloMosaic.Pipeline (Dat)

variable (m : (ℓ : Loc nD τ sig) → Buf (Elt Ideal) ℓ)

/-- Where the blocks lie at each of the four points: the row tiles at tile `t`, the gain and its gradient whole. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![0, 0] :=
  (by decide +kernel : ∀ t : Fin grid0.N, _)

/-- A row's mean square with the small constant added. -/
def meanSq (x : Fin 1024 → EReal) : EReal :=
  Ideal.div (∑ j : Fin 1024, x j * x j) (Ideal.ofBits .f32 0x44800000#32) + Ideal.ofBits .f32 0x358637BD#32
/-- What a row's mean square hands back to each of its entries, when `dy` is the gradient of the normalised row. -/
def pull (x dy : Fin 1024 → EReal) : EReal :=
  Ideal.div ((∑ j : Fin 1024, x j * dy j)
    * (Ideal.ofBits .f32 0xBF000000#32 * Ideal.div (Ideal.rsqrt (meanSq x)) (meanSq x))) (Ideal.ofBits .f32 0x44800000#32)
/-- Entry `k` of a row's gradient: `x` the row, `g` the gain, `d` the gradient of the row's result, `b` what is added. -/
def rowGrad (x g d b : Fin 1024 → EReal) (k : Fin 1024) : EReal :=
  d k * g k * Ideal.rsqrt (meanSq x) + x k * pull x (fun j => d j * g j) + pull x (fun j => d j * g j) * x k + b k
/-- Entry `k` of a row's contribution to the gain's gradient. -/
def rowGain (x d : Fin 1024 → EReal) (k : Fin 1024) : EReal := x k * Ideal.rsqrt (meanSq x) * d k

/-- What a point stores, at an entry: the tile's rows' gradients, and the sum of their contributions to the gain's gradient. -/
theorem pay7 (a b x : Vec Ideal S512x1024 .f32) (g : Vec Ideal S1x1024 .f32) (e : Vec Ideal S512x1024 .f32) (r : Fin 512) (k : Fin 1024) :
    k0_pay7 a b x g e (ix2 r k) = rowGrad (fun j => x (ix2 r j)) (fun j => g (ix2 0 j)) (fun j => a (ix2 r j) + b (ix2 r j)) (fun j => e (ix2 r j)) k := by
  pointwise [k0_pay7, k0_pay5, k0_pay4, k0_pay3, Finset.univ_unique, Finset.sum_singleton, rowGrad, pull, meanSq]
@[inherit_doc pay7] theorem pay6 (a b x : Vec Ideal S512x1024 .f32) (k : Fin 1024) :
    k0_pay6 a b x (ix2 0 k) = ∑ r : Fin 512, rowGain (fun j => x (ix2 r j)) (fun j => a (ix2 r j) + b (ix2 r j)) k := by
  pointwise [k0_pay6, k0_pay5, k0_pay4, k0_pay3, rowGain, meanSq]
/-- The accumulated row: zero at first, then what was kept and the tile's sum. -/
theorem pay2 (s v : Vec Ideal S1x1024 .f32) (k : Fin 1024) : k0_pay2 s v (ix2 0 k) = v (ix2 0 k) + s (ix2 0 k) := by
  pointwise [k0_pay2]
@[inherit_doc pay2] theorem pay1 (k : Fin 1024) : (k0_pay1 (F := Ideal)) (ix2 0 k) = 0 := by
  pointwise [k0_pay1]

/-- The operand blocks at a point, read off the arguments: the input row, the two gradients and the row to be added. -/
theorem blk_x (c : Dev nD) (t : Fin cfg0.N) (i : Fin 4) (r : Fin 512) (k : Fin 1024) (hi : t.val = i.val) :
    iblk m c 0 t (ix2 r k) = m ((c : Thread nD τ).loc main_arg0) (ix2 ⟨i.val * 512 + r.val, by omega⟩ k) := by
  blk_ext [iblk, V, idx t]
@[inherit_doc blk_x] theorem blk_a (c : Dev nD) (t : Fin cfg0.N) (i : Fin 4) (r : Fin 512) (k : Fin 1024) (hi : t.val = i.val) :
    iblk m c 2 t (ix2 r k) = m ((c : Thread nD τ).loc main_arg2) (ix2 ⟨i.val * 512 + r.val, by omega⟩ k) := by
  blk_ext [iblk, V, idx t]
@[inherit_doc blk_x] theorem blk_b (c : Dev nD) (t : Fin cfg0.N) (i : Fin 4) (r : Fin 512) (k : Fin 1024) (hi : t.val = i.val) :
    iblk m c 3 t (ix2 r k) = m ((c : Thread nD τ).loc main_arg3) (ix2 ⟨i.val * 512 + r.val, by omega⟩ k) := by
  blk_ext [iblk, V, idx t]
@[inherit_doc blk_x] theorem blk_e (c : Dev nD) (t : Fin cfg0.N) (i : Fin 4) (r : Fin 512) (k : Fin 1024) (hi : t.val = i.val) :
    iblk m c 4 t (ix2 r k) = m ((c : Thread nD τ).loc main_arg4) (ix2 ⟨i.val * 512 + r.val, by omega⟩ k) := by
  blk_ext [iblk, V, idx t]
/-- The gain's block is the gain. -/
theorem blk_g (c : Dev nD) (t : Fin cfg0.N) (k : Fin 1024) :
    iblk m c 1 t (ix2 0 k) = m ((c : Thread nD τ).loc main_arg1) (ix2 0 k) := by
  blk_ext [iblk, V, idx t]

/-- Row `r` of an array. -/
def row (a : FVec Ideal S2048x1024 .f32) (r : Fin 2048) : Fin 1024 → EReal := fun j => a (ix2 r j)
/-- Entry `(r, k)` of the whole gradient. -/
def grad (x : FVec Ideal S2048x1024 .f32) (g : FVec Ideal S1x1024 .f32) (a b e : FVec Ideal S2048x1024 .f32) (r : Fin 2048) (k : Fin 1024) : EReal :=
  rowGrad (row x r) (fun j => g (ix2 0 j)) (fun j => a (ix2 r j) + b (ix2 r j)) (row e r) k
/-- Row tile `i`'s contribution to entry `k` of the gain's gradient. -/
def tileGain (x a b : FVec Ideal S2048x1024 .f32) (i : Fin 4) (k : Fin 1024) : EReal :=
  ∑ r : Fin 512, rowGain (row x ⟨i.val * 512 + r.val, by omega⟩)
    (fun j => a (ix2 ⟨i.val * 512 + r.val, by omega⟩ j) + b (ix2 ⟨i.val * 512 + r.val, by omega⟩ j)) k

/-- A point's gradient rows are the whole gradient's. -/
theorem part (c : Dev nD) (t : Fin cfg0.N) (i : Fin 4) (r : Fin 512) (k : Fin 1024) (hi : t.val = i.val) :
    k0_pay7 (iblk m c 2 t) (iblk m c 3 t) (iblk m c 0 t) (iblk m c 1 t) (iblk m c 4 t) (ix2 r k)
      = grad (m ((c : Thread nD τ).loc main_arg0)) (m ((c : Thread nD τ).loc main_arg1)) (m ((c : Thread nD τ).loc main_arg2))
          (m ((c : Thread nD τ).loc main_arg3)) (m ((c : Thread nD τ).loc main_arg4)) ⟨i.val * 512 + r.val, by omega⟩ k := by
  refine (pay7 _ _ _ _ _ r k).trans ?_
  unfold grad
  congr 1
  · exact funext fun j => blk_x m c t i r j hi
  · exact funext fun j => blk_g m c t j
  · exact funext fun j => congrArg₂ (· + ·) (blk_a m c t i r j hi) (blk_b m c t i r j hi)
  · exact funext fun j => blk_e m c t i r j hi
/-- A point's sum is its tile's contribution. -/
theorem part_gain (c : Dev nD) (t : Fin cfg0.N) (i : Fin 4) (k : Fin 1024) (hi : t.val = i.val) :
    k0_pay6 (iblk m c 2 t) (iblk m c 3 t) (iblk m c 0 t) (ix2 0 k)
      = tileGain (m ((c : Thread nD τ).loc main_arg0)) (m ((c : Thread nD τ).loc main_arg2)) (m ((c : Thread nD τ).loc main_arg3)) i k := by
  refine (pay6 _ _ _ k).trans (Finset.sum_congr rfl fun r _ => ?_)
  congr 1
  · exact funext fun j => blk_x m c t i r j hi
  · exact funext fun j => congrArg₂ (· + ·) (blk_a m c t i r j hi) (blk_b m c t i r j hi)

/-- Every point leaves its rows' gradients. -/
theorem rows (c : Dev nD) (t : Fin cfg0.N) (i : Fin 4) (r : Fin 512) (k : Fin 1024) (hi : t.val = i.val) :
    (outsAt0 m c t.val t.isLt).1 (ix2 r k)
      = grad (m ((c : Thread nD τ).loc main_arg0)) (m ((c : Thread nD τ).loc main_arg1)) (m ((c : Thread nD τ).loc main_arg2))
          (m ((c : Thread nD τ).loc main_arg3)) (m ((c : Thread nD τ).loc main_arg4)) ⟨i.val * 512 + r.val, by omega⟩ k := by
  by_cases h : t.val % 4 = 0
  · rw [outsAt0_A m c t h]
    frame_out
    exact part m c t i r k hi
  · rw [outsAt0_B m c t h]
    frame_out
    exact part m c t i r k hi
/-- The first point starts the accumulated row at its tile's contribution. -/
theorem step_first (c : Dev nD) (t : Fin cfg0.N) (h : t.val = 0) (k : Fin 1024) :
    (outsAt0 m c t.val t.isLt).2 (ix2 0 k)
      = tileGain (m ((c : Thread nD τ).loc main_arg0)) (m ((c : Thread nD τ).loc main_arg2)) (m ((c : Thread nD τ).loc main_arg3)) 0 k := by
  rw [outsAt0_A m c t (by omega)]
  frame_out
  exact (pay2 _ _ k).trans ((congrArg₂ (· + ·) (pay1 k) (part_gain m c t 0 k h)).trans (zero_add _))
/-- Each later one adds its own. -/
theorem step_next (c : Dev nD) (n : ℕ) (hn : n + 1 < cfg0.N) (i : Fin 4) (hi : n + 1 = i.val) (k : Fin 1024) :
    (outsAt0 m c (n + 1) hn).2 (ix2 0 k) = (outsAt0 m c n (Nat.lt_of_succ_lt hn)).2 (ix2 0 k)
      + tileGain (m ((c : Thread nD τ).loc main_arg0)) (m ((c : Thread nD τ).loc main_arg2)) (m ((c : Thread nD τ).loc main_arg3)) i k := by
  have h : ¬ (⟨n + 1, hn⟩ : Fin cfg0.N).val % 4 = 0 := by dsimp only; omega
  rw [outsAt0_B m c ⟨n + 1, hn⟩ h]
  frame_out
  exact (pay2 _ _ k).trans (congrArg₂ (· + ·) rfl (part_gain m c _ i k hi))
attribute [local irreducible] outsAt0 in
/-- So the last leaves the four contributions' sum. -/
theorem total (c : Dev nD) (h : 3 < cfg0.N) (k : Fin 1024) :
    (outsAt0 m c 3 h).2 (ix2 0 k)
      = ∑ i : Fin 4, tileGain (m ((c : Thread nD τ).loc main_arg0)) (m ((c : Thread nD τ).loc main_arg2)) (m ((c : Thread nD τ).loc main_arg3)) i k := by
  rw [step_next m c 2 h 3 rfl k, step_next m c 1 _ 2 rfl k, step_next m c 0 _ 1 rfl k, Fin.sum_univ_four]
  exact congrArg (fun s => s + _ + _ + _) (step_first m c ⟨0, by omega⟩ rfl k)

/-- Entry `(r, k)` of the reference's first result. -/
theorem spec (x : FVec Ideal S2048x1024 .f32) (g : FVec Ideal S1x1024 .f32) (a b e : FVec Ideal S2048x1024 .f32) (r : Fin 2048) (k : Fin 1024) :
    Cert.RmsBwdRefIdeal.Read.val_main_v35 (F := Ideal) x g a b e (ix2 r k) = grad x g a b e r k := by
  open Cert.RmsBwdRefIdeal.Read in
  pointwise [val_main_v35, val_main_v34, val_main_v33, val_main_v32, val_main_v31, val_main_v30, val_main_v29, val_main_v28, val_main_v27,
    val_main_v26, val_main_v25, val_main_v24, val_main_v23, val_main_v22, val_main_v21, val_main_v20, val_main_v19, val_main_v15, val_main_v11,
    val_main_v10, val_main_v9, val_main_v8, val_main_v7, val_main_v6, val_main_v5, val_main_v4, val_main_v3, val_main_v2, val_main_v1, val_main_v0,
    val_main_cst, val_main_cst_0, val_main_cst_1, val_main_cst_2, val_main_cst_4, val_main_cst_5, val_main_cst_6, Finset.univ_unique,
    Finset.sum_singleton, grad, rowGrad, pull, meanSq, row]
/-- Entry `k` of its second: the sum over all rows, tile by tile. -/
theorem spec_gain (x a b : FVec Ideal S2048x1024 .f32) (k : Fin 1024) :
    Cert.RmsBwdRefIdeal.Read.val_main_v18 (F := Ideal) x a b (ix2 0 k) = ∑ i : Fin 4, tileGain x a b i k := by
  refine (show _ = ∑ r : Fin 2048, rowGain (row x r) (fun j => a (ix2 r j) + b (ix2 r j)) k from by
    open Cert.RmsBwdRefIdeal.Read in
    pointwise [val_main_v18, val_main_v17, val_main_v16, val_main_v15, val_main_v12, val_main_v11, val_main_v7, val_main_v6, val_main_v5, val_main_v4,
      val_main_v3, val_main_v2, val_main_v1, val_main_v0, val_main_cst, val_main_cst_0, val_main_cst_1, val_main_cst_3, rowGain, meanSq, row]).trans ?_
  rw [Fin.sum_univ_tiles (N := 2048) 4 512 (by norm_num)]
  rfl

/-- The arrays the kernel leaves are the reference's. -/
theorem final (c : Dev nD) : (dats m 0 c).arrAt 5 cfg0.N
    = Cert.RmsBwdRefIdeal.Read.val_main_v35 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t _ y => ?_
  obtain ⟨r, k, rfl⟩ : ∃ (r : Fin 512) (k : Fin 1024), y = ix2 r k := ⟨y 0, y 1, eq_ix2 y⟩
  have hN : t.val < 4 := lt_of_lt_of_eq t.isLt N_0
  have e : ((cfg0.win 5).blk t).view.emb (ix2 r k) = (ix2 ⟨t.val * 512 + r.val, by omega⟩ k : S2048x1024.Idx) := by blk_ext [idx t]
  blk_simp
  rw [after0_5]
  exact (rows m c t ⟨t.val, hN⟩ r k rfl).trans
    ((spec _ _ _ _ _ _ _).symm.trans (congrArg (Cert.RmsBwdRefIdeal.Read.val_main_v35 (F := Ideal) _ _ _ _ _) e.symm))
@[inherit_doc final] theorem final_gain (c : Dev nD) : (dats m 0 c).arrAt 6 cfg0.N
    = Cert.RmsBwdRefIdeal.Read.val_main_v18 (F := Ideal) (m ((c : Thread nD τ).loc main_arg0))
        (m ((c : Thread nD τ).loc main_arg2)) (m ((c : Thread nD τ).loc main_arg3)) := by
  refine (dats m 0 c).arrAt_eq_of_covers 6 _ (by decide +kernel) fun t hf y => ?_
  have h3 : t.val % 4 = 3 := (flush0_6 t).mp hf
  obtain ⟨z, k, rfl⟩ : ∃ (z : Fin 1) (k : Fin 1024), y = ix2 z k := ⟨y 0, y 1, eq_ix2 y⟩
  obtain rfl := Subsingleton.elim z 0
  have hN : t.val < 4 := lt_of_lt_of_eq t.isLt N_0
  have e : ((cfg0.win 6).blk t).view.emb (ix2 0 k) = (ix2 0 k : S1x1024.Idx) := by blk_ext [idx t]
  blk_simp
  rw [after0_6]
  obtain ⟨n, hn⟩ := t
  obtain rfl : n = 3 := by dsimp only at h3 hN; omega
  exact (total m c hn k).trans
    ((spec_gain _ _ _ _).symm.trans (congrArg (Cert.RmsBwdRefIdeal.Read.val_main_v18 (F := Ideal) _ _ _) e.symm))

end Cert.RmsBwdIdeal.Back

end

end
-- ==== Proof.Rms.Ffn.lean ====
module

public import proofs.«01_k».proof.Proof.Rms.Back
public import proofs.«01_k».proof.Proof.Gen.RmsFfnIdeal.Value
public import proofs.«01_k».proof.Proof.Gen.RmsFfnRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.RmsFfnIdeal.Back

open Cert.RmsFfnIdeal Cert.RmsFfnIdeal.Gen
open Cert.RmsBwdIdeal.Back (rowGrad rowGain pull meanSq)
open Idealize.ShloMosaic Idealize.ShloMosaic.TcCoe Idealize.SL.Sem
open Idealize.ShloMosaic.Pipeline (Dat)

variable (m : (ℓ : Loc nD τ sig) → Buf (Elt Ideal) ℓ)

/-- Where the blocks lie at each of the four points: the row tiles at tile `t`, the gain and its gradient whole. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] :=
  (by decide +kernel : ∀ t : Fin grid0.N, _)

/-- What a point stores, at an entry: the tile's rows' gradients, and the sum of their contributions to the gain's gradient. -/
theorem pay6 (a x : Vec Ideal S512x1024 .f32) (g : Vec Ideal S1x1024 .f32) (e : Vec Ideal S512x1024 .f32) (r : Fin 512) (k : Fin 1024) :
    k0_pay6 a x g e (ix2 r k) = rowGrad (fun j => x (ix2 r j)) (fun j => g (ix2 0 j)) (fun j => a (ix2 r j)) (fun j => e (ix2 r j)) k := by
  pointwise [k0_pay6, k0_pay4, k0_pay3, Finset.univ_unique, Finset.sum_singleton, rowGrad, pull, meanSq]
@[inherit_doc pay6] theorem pay5 (a x : Vec Ideal S512x1024 .f32) (k : Fin 1024) :
    k0_pay5 a x (ix2 0 k) = ∑ r : Fin 512, rowGain (fun j => x (ix2 r j)) (fun j => a (ix2 r j)) k := by
  pointwise [k0_pay5, k0_pay4, k0_pay3, rowGain, meanSq]
/-- The accumulated row: zero at first, then what was kept and the tile's sum. -/
theorem pay2 (s v : Vec Ideal S1x1024 .f32) (k : Fin 1024) : k0_pay2 s v (ix2 0 k) = v (ix2 0 k) + s (ix2 0 k) := by
  pointwise [k0_pay2]
@[inherit_doc pay2] theorem pay1 (k : Fin 1024) : (k0_pay1 (F := Ideal)) (ix2 0 k) = 0 := by
  pointwise [k0_pay1]

/-- The operand blocks at a point, read off the arguments: the input row, the gradient and the row to be added. -/
theorem blk_x (c : Dev nD) (t : Fin cfg0.N) (i : Fin 4) (r : Fin 512) (k : Fin 1024) (hi : t.val = i.val) :
    iblk m c 0 t (ix2 r k) = m ((c : Thread nD τ).loc main_arg0) (ix2 ⟨i.val * 512 + r.val, by omega⟩ k) := by
  blk_ext [iblk, V, idx t]
@[inherit_doc blk_x] theorem blk_a (c : Dev nD) (t : Fin cfg0.N) (i : Fin 4) (r : Fin 512) (k : Fin 1024) (hi : t.val = i.val) :
    iblk m c 2 t (ix2 r k) = m ((c : Thread nD τ).loc main_arg2) (ix2 ⟨i.val * 512 + r.val, by omega⟩ k) := by
  blk_ext [iblk, V, idx t]
@[inherit_doc blk_x] theorem blk_e (c : Dev nD) (t : Fin cfg0.N) (i : Fin 4) (r : Fin 512) (k : Fin 1024) (hi : t.val = i.val) :
    iblk m c 3 t (ix2 r k) = m ((c : Thread nD τ).loc main_arg3) (ix2 ⟨i.val * 512 + r.val, by omega⟩ k) := by
  blk_ext [iblk, V, idx t]
/-- The gain's block is the gain. -/
theorem blk_g (c : Dev nD) (t : Fin cfg0.N) (k : Fin 1024) :
    iblk m c 1 t (ix2 0 k) = m ((c : Thread nD τ).loc main_arg1) (ix2 0 k) := by
  blk_ext [iblk, V, idx t]

/-- Row `r` of an array. -/
def row (a : FVec Ideal S2048x1024 .f32) (r : Fin 2048) : Fin 1024 → EReal := fun j => a (ix2 r j)
/-- Entry `(r, k)` of the whole gradient. -/
def grad (x : FVec Ideal S2048x1024 .f32) (g : FVec Ideal S1x1024 .f32) (a e : FVec Ideal S2048x1024 .f32) (r : Fin 2048) (k : Fin 1024) : EReal :=
  rowGrad (row x r) (fun j => g (ix2 0 j)) (fun j => a (ix2 r j)) (row e r) k
/-- Row tile `i`'s contribution to entry `k` of the gain's gradient. -/
def tileGain (x a : FVec Ideal S2048x1024 .f32) (i : Fin 4) (k : Fin 1024) : EReal :=
  ∑ r : Fin 512, rowGain (row x ⟨i.val * 512 + r.val, by omega⟩)
    (fun j => a (ix2 ⟨i.val * 512 + r.val, by omega⟩ j)) k

/-- A point's gradient rows are the whole gradient's. -/
theorem part (c : Dev nD) (t : Fin cfg0.N) (i : Fin 4) (r : Fin 512) (k : Fin 1024) (hi : t.val = i.val) :
    k0_pay6 (iblk m c 2 t) (iblk m c 0 t) (iblk m c 1 t) (iblk m c 3 t) (ix2 r k)
      = grad (m ((c : Thread nD τ).loc main_arg0)) (m ((c : Thread nD τ).loc main_arg1)) (m ((c : Thread nD τ).loc main_arg2))
          (m ((c : Thread nD τ).loc main_arg3)) ⟨i.val * 512 + r.val, by omega⟩ k := by
  refine (pay6 _ _ _ _ r k).trans ?_
  unfold grad
  congr 1
  · exact funext fun j => blk_x m c t i r j hi
  · exact funext fun j => blk_g m c t j
  · exact funext fun j => blk_a m c t i r j hi
  · exact funext fun j => blk_e m c t i r j hi
/-- A point's sum is its tile's contribution. -/
theorem part_gain (c : Dev nD) (t : Fin cfg0.N) (i : Fin 4) (k : Fin 1024) (hi : t.val = i.val) :
    k0_pay5 (iblk m c 2 t) (iblk m c 0 t) (ix2 0 k)
      = tileGain (m ((c : Thread nD τ).loc main_arg0)) (m ((c : Thread nD τ).loc main_arg2)) i k := by
  refine (pay5 _ _ k).trans (Finset.sum_congr rfl fun r _ => ?_)
  congr 1
  · exact funext fun j => blk_x m c t i r j hi
  · exact funext fun j => blk_a m c t i r j hi

/-- Every point leaves its rows' gradients. -/
theorem rows (c : Dev nD) (t : Fin cfg0.N) (i : Fin 4) (r : Fin 512) (k : Fin 1024) (hi : t.val = i.val) :
    (outsAt0 m c t.val t.isLt).1 (ix2 r k)
      = grad (m ((c : Thread nD τ).loc main_arg0)) (m ((c : Thread nD τ).loc main_arg1)) (m ((c : Thread nD τ).loc main_arg2))
          (m ((c : Thread nD τ).loc main_arg3)) ⟨i.val * 512 + r.val, by omega⟩ k := by
  by_cases h : t.val % 4 = 0
  · rw [outsAt0_A m c t h]
    frame_out
    exact part m c t i r k hi
  · rw [outsAt0_B m c t h]
    frame_out
    exact part m c t i r k hi
/-- The first point starts the accumulated row at its tile's contribution. -/
theorem step_first (c : Dev nD) (t : Fin cfg0.N) (h : t.val = 0) (k : Fin 1024) :
    (outsAt0 m c t.val t.isLt).2 (ix2 0 k)
      = tileGain (m ((c : Thread nD τ).loc main_arg0)) (m ((c : Thread nD τ).loc main_arg2)) 0 k := by
  rw [outsAt0_A m c t (by omega)]
  frame_out
  exact (pay2 _ _ k).trans ((congrArg₂ (· + ·) (pay1 k) (part_gain m c t 0 k h)).trans (zero_add _))
/-- Each later one adds its own. -/
theorem step_next (c : Dev nD) (n : ℕ) (hn : n + 1 < cfg0.N) (i : Fin 4) (hi : n + 1 = i.val) (k : Fin 1024) :
    (outsAt0 m c (n + 1) hn).2 (ix2 0 k) = (outsAt0 m c n (Nat.lt_of_succ_lt hn)).2 (ix2 0 k)
      + tileGain (m ((c : Thread nD τ).loc main_arg0)) (m ((c : Thread nD τ).loc main_arg2)) i k := by
  have h : ¬ (⟨n + 1, hn⟩ : Fin cfg0.N).val % 4 = 0 := by dsimp only; omega
  rw [outsAt0_B m c ⟨n + 1, hn⟩ h]
  frame_out
  exact (pay2 _ _ k).trans (congrArg₂ (· + ·) rfl (part_gain m c _ i k hi))
attribute [local irreducible] outsAt0 in
/-- So the last leaves the four contributions' sum. -/
theorem total (c : Dev nD) (h : 3 < cfg0.N) (k : Fin 1024) :
    (outsAt0 m c 3 h).2 (ix2 0 k)
      = ∑ i : Fin 4, tileGain (m ((c : Thread nD τ).loc main_arg0)) (m ((c : Thread nD τ).loc main_arg2)) i k := by
  rw [step_next m c 2 h 3 rfl k, step_next m c 1 _ 2 rfl k, step_next m c 0 _ 1 rfl k, Fin.sum_univ_four]
  exact congrArg (fun s => s + _ + _ + _) (step_first m c ⟨0, by omega⟩ rfl k)

/-- Entry `(r, k)` of the reference's first result. -/
theorem spec (x : FVec Ideal S2048x1024 .f32) (g : FVec Ideal S1x1024 .f32) (a e : FVec Ideal S2048x1024 .f32) (r : Fin 2048) (k : Fin 1024) :
    Cert.RmsFfnRefIdeal.Read.val_main_v34 (F := Ideal) x g a e (ix2 r k) = grad x g a e r k := by
  open Cert.RmsFfnRefIdeal.Read in
  pointwise [val_main_v34, val_main_v33, val_main_v32, val_main_v31, val_main_v30, val_main_v29, val_main_v28, val_main_v27, val_main_v26,
    val_main_v25, val_main_v24, val_main_v23, val_main_v22, val_main_v21, val_main_v20, val_main_v19, val_main_v18, val_main_v14, val_main_v10,
    val_main_v9, val_main_v8, val_main_v7, val_main_v6, val_main_v5, val_main_v4, val_main_v3, val_main_v2, val_main_v1, val_main_v0,
    val_main_cst, val_main_cst_0, val_main_cst_1, val_main_cst_2, val_main_cst_4, val_main_cst_5, val_main_cst_6, Finset.univ_unique,
    Finset.sum_singleton, grad, rowGrad, pull, meanSq, row]
/-- Entry `k` of its second: the sum over all rows, tile by tile. -/
theorem spec_gain (x a : FVec Ideal S2048x1024 .f32) (k : Fin 1024) :
    Cert.RmsFfnRefIdeal.Read.val_main_v17 (F := Ideal) x a (ix2 0 k) = ∑ i : Fin 4, tileGain x a i k := by
  refine (show _ = ∑ r : Fin 2048, rowGain (row x r) (fun j => a (ix2 r j)) k from by
    open Cert.RmsFfnRefIdeal.Read in
    pointwise [val_main_v17, val_main_v16, val_main_v15, val_main_v12, val_main_v11, val_main_v7, val_main_v6, val_main_v5, val_main_v4, val_main_v3,
      val_main_v2, val_main_v1, val_main_v0, val_main_cst, val_main_cst_0, val_main_cst_1, val_main_cst_3, rowGain, meanSq, row]).trans ?_
  rw [Fin.sum_univ_tiles (N := 2048) 4 512 (by norm_num)]
  rfl

/-- The arrays the kernel leaves are the reference's. -/
theorem final (c : Dev nD) : (dats m 0 c).arrAt 4 cfg0.N
    = Cert.RmsFfnRefIdeal.Read.val_main_v34 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  obtain ⟨r, k, rfl⟩ : ∃ (r : Fin 512) (k : Fin 1024), y = ix2 r k := ⟨y 0, y 1, eq_ix2 y⟩
  have hN : t.val < 4 := lt_of_lt_of_eq t.isLt N_0
  have e : ((cfg0.win 4).blk t).view.emb (ix2 r k) = (ix2 ⟨t.val * 512 + r.val, by omega⟩ k : S2048x1024.Idx) := by blk_ext [idx t]
  blk_simp
  rw [after0_4]
  exact (rows m c t ⟨t.val, hN⟩ r k rfl).trans
    ((spec _ _ _ _ _ _).symm.trans (congrArg (Cert.RmsFfnRefIdeal.Read.val_main_v34 (F := Ideal) _ _ _ _) e.symm))
@[inherit_doc final] theorem final_gain (c : Dev nD) : (dats m 0 c).arrAt 5 cfg0.N
    = Cert.RmsFfnRefIdeal.Read.val_main_v17 (F := Ideal) (m ((c : Thread nD τ).loc main_arg0))
        (m ((c : Thread nD τ).loc main_arg2)) := by
  refine (dats m 0 c).arrAt_eq_of_covers 5 _ (by decide +kernel) fun t hf y => ?_
  have h3 : t.val % 4 = 3 := (flush0_5 t).mp hf
  obtain ⟨z, k, rfl⟩ : ∃ (z : Fin 1) (k : Fin 1024), y = ix2 z k := ⟨y 0, y 1, eq_ix2 y⟩
  obtain rfl := Subsingleton.elim z 0
  have hN : t.val < 4 := lt_of_lt_of_eq t.isLt N_0
  have e : ((cfg0.win 5).blk t).view.emb (ix2 0 k) = (ix2 0 k : S1x1024.Idx) := by blk_ext [idx t]
  blk_simp
  rw [after0_5]
  obtain ⟨n, hn⟩ := t
  obtain rfl : n = 3 := by dsimp only at h3 hN; omega
  exact (total m c hn k).trans
    ((spec_gain _ _ _).symm.trans (congrArg (Cert.RmsFfnRefIdeal.Read.val_main_v17 (F := Ideal) _ _) e.symm))

end Cert.RmsFfnIdeal.Back

end

end
-- ==== Proof.Loss.Final.lean ====
module

public import proofs.«01_k».proof.Proof.Gen.LossIdeal.Value
public import proofs.«01_k».proof.Proof.Gen.LossRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.LossIdeal.Head

open Cert.LossIdeal Cert.LossIdeal.Gen
open Idealize.ShloMosaic Idealize.ShloMosaic.TcCoe Idealize.SL.Sem
open Idealize.ShloMosaic.Pipeline (Dat)

variable (m : (ℓ : Loc nD τ sig) → Buf (Elt Ideal) ℓ)

/-- Where the blocks lie at each of the four points: the row tiles at tile `t`, the loss whole. -/
theorem idx : ∀ t : Fin cfg0.N, win0_0.index t = ![t.val, 0] ∧ win0_1.index t = ![t.val, 0] ∧ win0_2.index t = ![0, 0]
    ∧ win0_3.index t = ![t.val, 0] :=
  (by decide +kernel : ∀ t : Fin grid0.N, _)

/-- A row's mean squared error. -/
def meanErr (y z : Fin 1024 → EReal) : EReal :=
  Ideal.div (∑ j : Fin 1024, (y j - z j) * (y j - z j)) (Ideal.ofBits .f32 0x44800000#32)

/-- The constants' values: a half, and one part in 1024 as the kernel multiplies by it and as the reference divides. -/
theorem half : Ideal.ofBits .f32 0x3F000000#32 = ((2⁻¹ : ℝ) : EReal) := by
  simp [Ideal.ofBits, Ideal.ieee]; rw [← EReal.coe_mul]; norm_num
@[inherit_doc half] theorem part_mul : Ideal.ofBits .f32 0x3A800000#32 = ((1024⁻¹ : ℝ) : EReal) := by
  simp [Ideal.ofBits, Ideal.ieee]; rw [← EReal.coe_mul]; norm_num
@[inherit_doc half] theorem part_div : Ideal.div (Ideal.ofBits .f32 0x3F000000#32 * Ideal.ofBits .f32 0x3F800000#32) (Ideal.ofBits .f32 0x44800000#32)
    * Ideal.ofBits .f32 0x40000000#32 = ((1024⁻¹ : ℝ) : EReal) := by
  have a : Ideal.ofBits .f32 0x3F800000#32 = ((1 : ℝ) : EReal) := by
    simp [Ideal.ofBits, Ideal.ieee]; rw [← EReal.coe_mul]; norm_num
  have b : Ideal.ofBits .f32 0x44800000#32 = ((1024 : ℝ) : EReal) := by
    simp [Ideal.ofBits, Ideal.ieee]; rw [← EReal.coe_mul]; norm_num
  have d : Ideal.ofBits .f32 0x40000000#32 = ((2 : ℝ) : EReal) := by
    simp [Ideal.ofBits, Ideal.ieee]; rw [← EReal.coe_mul]; norm_num
  rw [half, a, b, d]
  unfold Ideal.div
  rw [if_neg (by norm_num), ← EReal.coe_mul, ← EReal.coe_inv, ← EReal.coe_mul, ← EReal.coe_mul]
  norm_num
/-- Half of a sum of four is the sum of the halves. -/
theorem half_sum (s : Fin 4 → EReal) : Ideal.ofBits .f32 0x3F000000#32 * ∑ i : Fin 4, s i = ∑ i : Fin 4, Ideal.ofBits .f32 0x3F000000#32 * s i := by
  have d : ∀ u v : EReal, ((2⁻¹ : ℝ) : EReal) * (u + v) = ((2⁻¹ : ℝ) : EReal) * u + ((2⁻¹ : ℝ) : EReal) * v :=
    EReal.left_distrib_of_nonneg_of_ne_top (by norm_num) (EReal.coe_ne_top _)
  rw [half, Fin.sum_univ_four, Fin.sum_univ_four, d, d, d]

/-- What a point stores, at an entry: the scaled error; and the loss, zero at first, then what was kept and half the
    tile's sum of mean squared errors. -/
theorem pay2 (y z : Vec Ideal S512x1024 .f32) (r : Fin 512) (k : Fin 1024) :
    k0_pay2 y z (ix2 r k) = (y (ix2 r k) - z (ix2 r k)) * Ideal.ofBits .f32 0x3A800000#32 := by
  pointwise [k0_pay2, k0_pay1]
@[inherit_doc pay2] theorem pay3 : (k0_pay3 (F := Ideal)) (ix2 0 0) = 0 := by
  pointwise [k0_pay3]
@[inherit_doc pay2] theorem pay4 (y z : Vec Ideal S512x1024 .f32) (s : Vec Ideal S1x1 .f32) :
    k0_pay4 y z s (ix2 0 0)
      = s (ix2 0 0) + Ideal.ofBits .f32 0x3F000000#32 * ∑ r : Fin 512, meanErr (fun j => y (ix2 r j)) (fun j => z (ix2 r j)) := by
  pointwise [k0_pay4, k0_pay1, meanErr]

/-- The operand blocks at a point, read off the arguments. -/
theorem blk_y (c : Dev nD) (t : Fin cfg0.N) (i : Fin 4) (r : Fin 512) (k : Fin 1024) (hi : t.val = i.val) :
    iblk m c 0 t (ix2 r k) = m ((c : Thread nD τ).loc main_arg0) (ix2 ⟨i.val * 512 + r.val, by omega⟩ k) := by
  blk_ext [iblk, V, idx t]
@[inherit_doc blk_y] theorem blk_z (c : Dev nD) (t : Fin cfg0.N) (i : Fin 4) (r : Fin 512) (k : Fin 1024) (hi : t.val = i.val) :
    iblk m c 1 t (ix2 r k) = m ((c : Thread nD τ).loc main_arg1) (ix2 ⟨i.val * 512 + r.val, by omega⟩ k) := by
  blk_ext [iblk, V, idx t]

/-- The sum of row tile `i`'s mean squared errors. -/
def tileErr (y z : FVec Ideal S2048x1024 .f32) (i : Fin 4) : EReal :=
  ∑ r : Fin 512, meanErr (fun j => y (ix2 ⟨i.val * 512 + r.val, by omega⟩ j)) (fun j => z (ix2 ⟨i.val * 512 + r.val, by omega⟩ j))
/-- What a tile adds to the loss. -/
def tileLoss (y z : FVec Ideal S2048x1024 .f32) (i : Fin 4) : EReal := Ideal.ofBits .f32 0x3F000000#32 * tileErr y z i
/-- Entry `(r, k)` of the gradient. -/
def grad (y z : FVec Ideal S2048x1024 .f32) (r : Fin 2048) (k : Fin 1024) : EReal :=
  (y (ix2 r k) - z (ix2 r k)) * Ideal.ofBits .f32 0x3A800000#32

/-- A point's gradient rows are the whole gradient's. -/
theorem part (c : Dev nD) (t : Fin cfg0.N) (i : Fin 4) (r : Fin 512) (k : Fin 1024) (hi : t.val = i.val) :
    k0_pay2 (iblk m c 0 t) (iblk m c 1 t) (ix2 r k)
      = grad (m ((c : Thread nD τ).loc main_arg0)) (m ((c : Thread nD τ).loc main_arg1)) ⟨i.val * 512 + r.val, by omega⟩ k :=
  (pay2 _ _ r k).trans (congrArg₂ (fun a b : EReal => (a - b) * _) (blk_y m c t i r k hi) (blk_z m c t i r k hi))
/-- A point adds its tile's part of the loss. -/
theorem part_loss (c : Dev nD) (t : Fin cfg0.N) (i : Fin 4) (s : Vec Ideal S1x1 .f32) (hi : t.val = i.val) :
    k0_pay4 (iblk m c 0 t) (iblk m c 1 t) s (ix2 0 0)
      = s (ix2 0 0) + tileLoss (m ((c : Thread nD τ).loc main_arg0)) (m ((c : Thread nD τ).loc main_arg1)) i :=
  (pay4 _ _ s).trans (congrArg (fun e : EReal => s (ix2 0 0) + Ideal.ofBits .f32 0x3F000000#32 * e) (Finset.sum_congr rfl fun r _ =>
    congrArg₂ meanErr (funext fun j => blk_y m c t i r j hi) (funext fun j => blk_z m c t i r j hi)))

/-- Every point leaves its rows' gradients. -/
theorem rows (c : Dev nD) (t : Fin cfg0.N) (i : Fin 4) (r : Fin 512) (k : Fin 1024) (hi : t.val = i.val) :
    (outsAt0 m c t.val t.isLt).2 (ix2 r k)
      = grad (m ((c : Thread nD τ).loc main_arg0)) (m ((c : Thread nD τ).loc main_arg1)) ⟨i.val * 512 + r.val, by omega⟩ k := by
  by_cases h : t.val % 4 = 0
  · rw [outsAt0_A m c t h]
    frame_out
    exact part m c t i r k hi
  · rw [outsAt0_B m c t h]
    frame_out
    exact part m c t i r k hi
/-- The first point starts the loss at its tile's part. -/
theorem step_first (c : Dev nD) (t : Fin cfg0.N) (h : t.val = 0) :
    (outsAt0 m c t.val t.isLt).1 (ix2 0 0) = tileLoss (m ((c : Thread nD τ).loc main_arg0)) (m ((c : Thread nD τ).loc main_arg1)) 0 := by
  rw [outsAt0_A m c t (by omega)]
  frame_out
  exact (part_loss m c t 0 _ h).trans ((congrArg (fun s : EReal => s + _) pay3).trans (zero_add _))
/-- Each later one adds its own. -/
theorem step_next (c : Dev nD) (n : ℕ) (hn : n + 1 < cfg0.N) (i : Fin 4) (hi : n + 1 = i.val) :
    (outsAt0 m c (n + 1) hn).1 (ix2 0 0) = (outsAt0 m c n (Nat.lt_of_succ_lt hn)).1 (ix2 0 0)
      + tileLoss (m ((c : Thread nD τ).loc main_arg0)) (m ((c : Thread nD τ).loc main_arg1)) i := by
  have h : ¬ (⟨n + 1, hn⟩ : Fin cfg0.N).val % 4 = 0 := by dsimp only; omega
  rw [outsAt0_B m c ⟨n + 1, hn⟩ h]
  frame_out
  exact part_loss m c _ i _ hi
attribute [local irreducible] outsAt0 in
/-- So the last leaves the four parts' sum. -/
theorem total (c : Dev nD) (h : 3 < cfg0.N) :
    (outsAt0 m c 3 h).1 (ix2 0 0) = ∑ i : Fin 4, tileLoss (m ((c : Thread nD τ).loc main_arg0)) (m ((c : Thread nD τ).loc main_arg1)) i := by
  rw [step_next m c 2 h 3 rfl, step_next m c 1 _ 2 rfl, step_next m c 0 _ 1 rfl, Fin.sum_univ_four]
  exact congrArg (fun s => s + _ + _ + _) (step_first m c ⟨0, by omega⟩ rfl)

/-- Entry `(r, k)` of the reference's gradient. -/
theorem spec (y z : FVec Ideal S2048x1024 .f32) (r : Fin 2048) (k : Fin 1024) :
    Cert.LossRefIdeal.Read.val_main_v14 (F := Ideal) y z (ix2 r k) = grad y z r k := by
  refine (show _ = Ideal.div (Ideal.ofBits .f32 0x3F000000#32 * Ideal.ofBits .f32 0x3F800000#32) (Ideal.ofBits .f32 0x44800000#32)
      * (Ideal.ofBits .f32 0x40000000#32 * (y (ix2 r k) - z (ix2 r k))) from by
    open Cert.LossRefIdeal.Read in
    pointwise [val_main_v14, val_main_v13, val_main_v12, val_main_v11, val_main_v10, val_main_v9, val_main_v3, val_main_v2, val_main_v0,
      val_main_cst, val_main_cst_4, val_main_cst_5, val_main_cst_6]).trans ?_
  rw [← mul_assoc, part_div, mul_comm, ← part_mul]
  rfl
/-- The mean squared error of a row, in the reference. -/
theorem spec_row (y z : FVec Ideal S2048x1024 .f32) (r : Fin 2048) :
    Cert.LossRefIdeal.Read.val_main_v6 (F := Ideal) y z (ix1 r) = meanErr (fun j => y (ix2 r j)) (fun j => z (ix2 r j)) := by
  open Cert.LossRefIdeal.Read in
  pointwise [val_main_v6, val_main_v5, val_main_v4, val_main_v1, val_main_v0, val_main_cst_0, val_main_cst_1, meanErr]
/-- The reference's loss: half the sum of the rows' errors, tile by tile. -/
theorem spec_loss (y z : FVec Ideal S2048x1024 .f32) :
    Cert.LossRefIdeal.Read.val_main_v15 (F := Ideal) y z (ix2 0 0) = ∑ i : Fin 4, tileLoss y z i := by
  refine (show _ = Cert.LossRefIdeal.Read.val_main_v8 (F := Ideal) y z ix0 from congrArg _ (Subsingleton.elim _ _)).trans ?_
  rw [Cert.LossRefIdeal.Read.val_main_v8_apply, Cert.LossRefIdeal.Read.val_main_v7_apply]
  have e : (∑ j : Cert.LossRefIdeal.S2048.Idx, Cert.LossRefIdeal.Read.val_main_v6 (F := Ideal) y z j) = ∑ i : Fin 4, tileErr y z i := by
    refine (show _ = ∑ r : Fin 2048, meanErr (fun j => y (ix2 r j)) (fun j => z (ix2 r j)) from ?_).trans ?_
    · exact Fintype.sum_equiv ⟨fun j => j 0, fun r => ix1 r, fun j => (eq_ix1 j).symm, fun r => rfl⟩ _ _ fun j => by
        obtain ⟨r, rfl⟩ : ∃ r, j = ix1 r := ⟨j 0, eq_ix1 j⟩
        exact spec_row y z r
    · rw [Fin.sum_univ_tiles (N := 2048) 4 512 (by norm_num)]
      rfl
  rw [e]
  refine (show _ = Ideal.ofBits .f32 0x3F000000#32 * ∑ i : Fin 4, tileErr y z i from ?_).trans (half_sum _)
  exact congrArg (fun s : EReal => Ideal.ofBits .f32 0x3F000000#32 * s) ((congrArg (fun s : EReal => s + _) (by
    open Cert.LossRefIdeal.Read in pointwise [val_main_cst_2])).trans (zero_add _))

/-- The arrays the kernel leaves are the reference's. -/
theorem final_loss (c : Dev nD) : (dats m 0 c).arrAt 2 cfg0.N
    = Cert.LossRefIdeal.Read.val_main_v15 (F := Ideal) (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  obtain ⟨u, v, rfl⟩ : ∃ (u : Fin 1) (v : Fin 1), y = ix2 u v := ⟨y 0, y 1, eq_ix2 y⟩
  obtain rfl := Subsingleton.elim u 0
  obtain rfl := Subsingleton.elim v 0
  have hN : t.val < 4 := lt_of_lt_of_eq t.isLt N_0
  have e : ((cfg0.win 2).blk t).view.emb (ix2 0 0) = (ix2 0 0 : S1x1.Idx) := by blk_ext [idx t]
  blk_simp
  rw [after0_2]
  obtain ⟨n, hn⟩ := t
  obtain rfl : n = 3 := by dsimp only at h3 hN; omega
  exact (total m c hn).trans
    ((spec_loss _ _).symm.trans (congrArg (Cert.LossRefIdeal.Read.val_main_v15 (F := Ideal) _ _) e.symm))
@[inherit_doc final_loss] theorem final (c : Dev nD) : (dats m 0 c).arrAt 3 cfg0.N
    = Cert.LossRefIdeal.Read.val_main_v14 (F := Ideal) (m ((c : Thread nD τ).loc main_arg0)) (m ((c : Thread nD τ).loc main_arg1)) := by
  refine (dats m 0 c).arrAt_eq_of_covers 3 _ (by decide +kernel) fun t _ y => ?_
  obtain ⟨r, k, rfl⟩ : ∃ (r : Fin 512) (k : Fin 1024), y = ix2 r k := ⟨y 0, y 1, eq_ix2 y⟩
  have hN : t.val < 4 := lt_of_lt_of_eq t.isLt N_0
  have e : ((cfg0.win 3).blk t).view.emb (ix2 r k) = (ix2 ⟨t.val * 512 + r.val, by omega⟩ k : S2048x1024.Idx) := by blk_ext [idx t]
  blk_simp
  rw [after0_3]
  exact (rows m c t ⟨t.val, hN⟩ r k rfl).trans
    ((spec _ _ _ _).symm.trans (congrArg (Cert.LossRefIdeal.Read.val_main_v14 (F := Ideal) _ _) e.symm))

end Cert.LossIdeal.Head

end

end
-- ==== Proof.Small.Final.lean ====
module

public import proofs.«01_k».proof.Proof.Gen.SmallIdeal.Value
public import proofs.«01_k».proof.Proof.Gen.SmallRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.SmallIdeal.Update

open Cert.SmallIdeal Cert.SmallIdeal.Gen Cert.SmallIdeal.Value
open Idealize.ShloMosaic Idealize.ShloMosaic.TcCoe Idealize.SL.Sem

variable (p : FVec Ideal S8x744x128 .f32) (w u v : FVec Ideal S744x128 .f32)

/-- The devices' gradients, added in order, are their sum. -/
theorem sum_eq : k0_pay5 (F := Ideal) p w u v = Cert.SmallRefIdeal.Read.val_main_v0 (F := Ideal) p := by
  refine funext fun y => ?_
  obtain ⟨r, k, rfl⟩ : ∃ (r : Fin 744) (k : Fin 128), y = ix2 r k := ⟨y 0, y 1, eq_ix2 y⟩
  have e : k0_pay5 (F := Ideal) p w u v (ix2 r k) = ∑ d : Fin 8, p (ix3 d r k) := by
    rw [Fin.sum_univ_eight]
    pointwise [k0_pay5, k0_pay4]
  refine e.trans ?_
  open Cert.SmallRefIdeal.Read in
  pointwise [val_main_v0, val_main_cst]

/-- The averages of the gradient and of its square, and the step. -/
theorem first_eq (g : FVec Ideal S744x128 .f32) (h : g = Cert.SmallRefIdeal.Read.val_main_v0 (F := Ideal) p) :
    k0_pay1 (F := Ideal) g u = Cert.SmallRefIdeal.Read.val_main_v5 (F := Ideal) p u := by
  subst h
  refine funext fun y => ?_
  obtain ⟨r, k, rfl⟩ : ∃ (r : Fin 744) (k : Fin 128), y = ix2 r k := ⟨y 0, y 1, eq_ix2 y⟩
  open Cert.SmallRefIdeal.Read in
  pointwise [k0_pay1, val_main_v5, val_main_v4, val_main_v3, val_main_v2, val_main_v1, val_main_cst_0, val_main_cst_1]
@[inherit_doc first_eq] theorem second_eq (g : FVec Ideal S744x128 .f32) (h : g = Cert.SmallRefIdeal.Read.val_main_v0 (F := Ideal) p) :
    k0_pay2 (F := Ideal) g v = Cert.SmallRefIdeal.Read.val_main_v11 (F := Ideal) p v := by
  subst h
  refine funext fun y => ?_
  obtain ⟨r, k, rfl⟩ : ∃ (r : Fin 744) (k : Fin 128), y = ix2 r k := ⟨y 0, y 1, eq_ix2 y⟩
  open Cert.SmallRefIdeal.Read in
  pointwise [k0_pay2, val_main_v11, val_main_v10, val_main_v9, val_main_v8, val_main_v7, val_main_v6, val_main_cst_2, val_main_cst_3]
@[inherit_doc first_eq] theorem step_eq (g : FVec Ideal S744x128 .f32) (h : g = Cert.SmallRefIdeal.Read.val_main_v0 (F := Ideal) p) :
    k0_pay3 (F := Ideal) g w u v = Cert.SmallRefIdeal.Read.val_main_v24 (F := Ideal) p w u v := by
  refine funext fun y => ?_
  obtain ⟨r, k, rfl⟩ : ∃ (r : Fin 744) (k : Fin 128), y = ix2 r k := ⟨y 0, y 1, eq_ix2 y⟩
  open Cert.SmallRefIdeal.Read in
  pointwise [k0_pay3, first_eq p u g h, second_eq p v g h, val_main_v24, val_main_v23, val_main_v22, val_main_v21, val_main_v20, val_main_v19,
    val_main_v18, val_main_v17, val_main_v16, val_main_v15, val_main_v14, val_main_v13, val_main_v12, val_main_cst_4, val_main_cst_5,
    val_main_cst_6, val_main_cst_7, val_main_cst_8]

/-- The four results are the reference's. -/
theorem G4_eq : G4 (F := Ideal) p w u v = Cert.SmallRefIdeal.Read.val_main_v0 (F := Ideal) p := sum_eq p w u v
@[inherit_doc G4_eq] theorem G5_eq : G5 (F := Ideal) p w u v = Cert.SmallRefIdeal.Read.val_main_v24 (F := Ideal) p w u v :=
  step_eq p w u v _ (sum_eq p w u v)
@[inherit_doc G4_eq] theorem G6_eq : G6 (F := Ideal) p w u v = Cert.SmallRefIdeal.Read.val_main_v5 (F := Ideal) p u :=
  first_eq p u _ (sum_eq p w u v)
@[inherit_doc G4_eq] theorem G7_eq : G7 (F := Ideal) p w u v = Cert.SmallRefIdeal.Read.val_main_v11 (F := Ideal) p v :=
  second_eq p v _ (sum_eq p w u v)

end Cert.SmallIdeal.Update

end

end
-- ==== Proof.Adam.Entry.lean ====
module

public import Idealize.ShloMosaic.PureOps.Ideal.Laws

@[expose] public section

noncomputable section

namespace Cert.AdamEntry

open Idealize.ShloMosaic

/-- One entry of the optimiser: the running averages of the gradient and of its square, and the step. -/
def first (g u : EReal) : EReal := Ideal.ofBits .f32 0x3F666666#32 * u + Ideal.ofBits .f32 0x3DCCCCCD#32 * g
@[inherit_doc first] def second (g v : EReal) : EReal :=
  Ideal.ofBits .f32 0x3F7FBE77#32 * v + Ideal.ofBits .f32 0x3A83126F#32 * (g * g)
@[inherit_doc first] def step (w g u v : EReal) : EReal :=
  Ideal.ofBits .f32 0xBA83126F#32 * (Ideal.div (Ideal.div (first g u) (Ideal.ofBits .f32 0x3F26BD02#32))
    (Ideal.sqrt (Ideal.div (second g v) (Ideal.ofBits .f32 0x3C231ACC#32)) + Ideal.ofBits .f32 0x322BCC77#32)
    + Ideal.ofBits .f32 0x3C23D70A#32 * w)

end Cert.AdamEntry

end

end
-- ==== Proof.Adam.FfnIn.lean ====
module

public import proofs.«01_k».proof.Proof.Adam.Entry
public import proofs.«01_k».proof.Proof.Gen.AdamFfnInIdeal.Value
public import proofs.«01_k».proof.Proof.Gen.AdamFfnInRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AdamFfnInIdeal.Update

open Cert.AdamFfnInIdeal Cert.AdamFfnInIdeal.Gen Cert.AdamEntry
open Idealize.ShloMosaic Idealize.ShloMosaic.TcCoe Idealize.SL.Sem

variable (m : (ℓ : Loc nD τ sig) → Buf (Elt Ideal) ℓ)

/-- Where the blocks lie at each point: all at row tile `t`. -/
theorem idx : ∀ t : Fin cfg0.N, win0_0.index t = ![0, t.val, 0] ∧ win0_1.index t = ![t.val, 0] ∧ win0_2.index t = ![0, t.val, 0]
    ∧ win0_3.index t = ![0, t.val, 0] ∧ win0_4.index t = ![0, t.val, 0] ∧ win0_5.index t = ![0, t.val, 0] ∧ win0_6.index t = ![0, t.val, 0]
    ∧ win0_7.index t = ![0, t.val, 0] :=
  (by decide +kernel : ∀ t : Fin grid0.N, _)

/-- The operand blocks at a point, read off the arguments: the weights, the gradient and the two averages. -/
theorem blk_w (c : Dev nD) (t : Fin cfg0.N) (r : Fin 512) (k : Fin 1408) (h : t.val < 2) :
    iblk m c 0 t (ix3 0 r k) = m ((c : Thread nD τ).loc main_arg0) (ix3 0 ⟨t.val * 512 + r.val, by omega⟩ k) := by
  blk_ext [iblk, V, idx t]
@[inherit_doc blk_w] theorem blk_g (c : Dev nD) (t : Fin cfg0.N) (r : Fin 512) (k : Fin 1408) (h : t.val < 2) :
    iblk m c 1 t (ix2 r k) = m ((c : Thread nD τ).loc main_arg1) (ix2 ⟨t.val * 512 + r.val, by omega⟩ k) := by
  blk_ext [iblk, V, idx t]
@[inherit_doc blk_w] theorem blk_u (c : Dev nD) (t : Fin cfg0.N) (r : Fin 512) (k : Fin 1408) (h : t.val < 2) :
    iblk m c 2 t (ix3 0 r k) = m ((c : Thread nD τ).loc main_arg2) (ix3 0 ⟨t.val * 512 + r.val, by omega⟩ k) := by
  blk_ext [iblk, V, idx t]
@[inherit_doc blk_w] theorem blk_v (c : Dev nD) (t : Fin cfg0.N) (r : Fin 512) (k : Fin 1408) (h : t.val < 2) :
    iblk m c 3 t (ix3 0 r k) = m ((c : Thread nD τ).loc main_arg3) (ix3 0 ⟨t.val * 512 + r.val, by omega⟩ k) := by
  blk_ext [iblk, V, idx t]

/-- What a point leaves in its four results, at an entry. -/
theorem out_g (c : Dev nD) (t : Fin cfg0.N) (r : Fin 512) (k : Fin 1408) :
    (outsAt0 m c t).1 (ix3 0 r k) = iblk m c 1 t (ix2 r k) := by
  unfold outsAt0
  frame_out
  pointwise [k0_pay4]
@[inherit_doc out_g] theorem out_d (c : Dev nD) (t : Fin cfg0.N) (r : Fin 512) (k : Fin 1408) :
    (outsAt0 m c t).2.1 (ix3 0 r k)
      = step (iblk m c 0 t (ix3 0 r k)) (iblk m c 1 t (ix2 r k)) (iblk m c 2 t (ix3 0 r k)) (iblk m c 3 t (ix3 0 r k)) := by
  unfold outsAt0
  frame_out
  pointwise [k0_pay1, k0_pay5, k0_pay6, k0_pay7, step, first, second]
@[inherit_doc out_g] theorem out_u (c : Dev nD) (t : Fin cfg0.N) (r : Fin 512) (k : Fin 1408) :
    (outsAt0 m c t).2.2.1 (ix3 0 r k) = first (iblk m c 1 t (ix2 r k)) (iblk m c 2 t (ix3 0 r k)) := by
  unfold outsAt0
  frame_out
  pointwise [k0_pay2, k0_pay5, first]
@[inherit_doc out_g] theorem out_v (c : Dev nD) (t : Fin cfg0.N) (r : Fin 512) (k : Fin 1408) :
    (outsAt0 m c t).2.2.2 (ix3 0 r k) = second (iblk m c 1 t (ix2 r k)) (iblk m c 3 t (ix3 0 r k)) := by
  unfold outsAt0
  frame_out
  pointwise [k0_pay3, k0_pay6, second]

variable (w u v : FVec Ideal S1x1024x1408 .f32) (g : FVec Ideal S1024x1408 .f32) (r : Fin 1024) (k : Fin 1408)

/-- The reference's results, at an entry. -/
theorem ref_g : Cert.AdamFfnInRefIdeal.Read.val_main_v0 (F := Ideal) g (ix3 0 r k) = g (ix2 r k) := by
  open Cert.AdamFfnInRefIdeal.Read in pointwise [val_main_v0]
@[inherit_doc ref_g] theorem ref_u : Cert.AdamFfnInRefIdeal.Read.val_main_v6 (F := Ideal) g u (ix3 0 r k) = first (g (ix2 r k)) (u (ix3 0 r k)) := by
  open Cert.AdamFfnInRefIdeal.Read in
  pointwise [val_main_v6, val_main_v5, val_main_v4, val_main_v3, val_main_v2, val_main_v1, val_main_cst, val_main_cst_0, first]
@[inherit_doc ref_g] theorem ref_v : Cert.AdamFfnInRefIdeal.Read.val_main_v12 (F := Ideal) g v (ix3 0 r k) = second (g (ix2 r k)) (v (ix3 0 r k)) := by
  open Cert.AdamFfnInRefIdeal.Read in
  pointwise [val_main_v12, val_main_v11, val_main_v10, val_main_v9, val_main_v8, val_main_v7, val_main_v1, val_main_cst_1, val_main_cst_2, second]
@[inherit_doc ref_g] theorem ref_d : Cert.AdamFfnInRefIdeal.Read.val_main_v25 (F := Ideal) w g u v (ix3 0 r k)
    = step (w (ix3 0 r k)) (g (ix2 r k)) (u (ix3 0 r k)) (v (ix3 0 r k)) := by
  open Cert.AdamFfnInRefIdeal.Read in
  pointwise [val_main_v25, val_main_v24, val_main_v23, val_main_v22, val_main_v21, val_main_v20, val_main_v19, val_main_v18, val_main_v17,
    val_main_v16, val_main_v15, val_main_v14, val_main_v13, ref_u u g r k, ref_v v g r k, val_main_cst_3, val_main_cst_4, val_main_cst_5,
    val_main_cst_6, val_main_cst_7, step]

/-- The arrays the kernel leaves are the reference's. -/
theorem final_g (c : Dev nD) : (dats m 0 c).arrAt 4 cfg0.N
    = Cert.AdamFfnInRefIdeal.Read.val_main_v0 (F := Ideal) (m ((c : Thread nD τ).loc main_arg1)) := by
  refine (dats m 0 c).arrAt_eq_of_covers 4 _ (by decide +kernel) fun t _ y => ?_
  obtain ⟨z, r, k, rfl⟩ : ∃ (z : Fin 1) (r : Fin 512) (k : Fin 1408), y = ix3 z r k := ⟨y 0, y 1, y 2, eq_ix3 y⟩
  obtain rfl := Subsingleton.elim z 0
  have hN : t.val < 2 := lt_of_lt_of_eq t.isLt N_0
  have e : ((cfg0.win 4).blk t).view.emb (ix3 0 r k) = (ix3 0 ⟨t.val * 512 + r.val, by omega⟩ k : S1x1024x1408.Idx) := by blk_ext [idx t]
  blk_simp
  rw [after0_4]
  exact (out_g m c t r k).trans ((blk_g m c t r k hN).trans
    ((ref_g _ _ _).symm.trans (congrArg (Cert.AdamFfnInRefIdeal.Read.val_main_v0 (F := Ideal) _) e.symm)))
@[inherit_doc final_g] theorem final_d (c : Dev nD) : (dats m 0 c).arrAt 5 cfg0.N
    = Cert.AdamFfnInRefIdeal.Read.val_main_v25 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t _ y => ?_
  obtain ⟨z, r, k, rfl⟩ : ∃ (z : Fin 1) (r : Fin 512) (k : Fin 1408), y = ix3 z r k := ⟨y 0, y 1, y 2, eq_ix3 y⟩
  obtain rfl := Subsingleton.elim z 0
  have hN : t.val < 2 := lt_of_lt_of_eq t.isLt N_0
  have e : ((cfg0.win 5).blk t).view.emb (ix3 0 r k) = (ix3 0 ⟨t.val * 512 + r.val, by omega⟩ k : S1x1024x1408.Idx) := by blk_ext [idx t]
  blk_simp
  rw [after0_5]
  refine (out_d m c t r k).trans (Eq.trans ?_ ((ref_d _ _ _ _ _ _).symm.trans
    (congrArg (Cert.AdamFfnInRefIdeal.Read.val_main_v25 (F := Ideal) _ _ _ _) e.symm)))
  rw [blk_w m c t r k hN, blk_g m c t r k hN, blk_u m c t r k hN, blk_v m c t r k hN]
@[inherit_doc final_g] theorem final_u (c : Dev nD) : (dats m 0 c).arrAt 6 cfg0.N
    = Cert.AdamFfnInRefIdeal.Read.val_main_v6 (F := Ideal) (m ((c : Thread nD τ).loc main_arg1)) (m ((c : Thread nD τ).loc main_arg2)) := by
  refine (dats m 0 c).arrAt_eq_of_covers 6 _ (by decide +kernel) fun t _ y => ?_
  obtain ⟨z, r, k, rfl⟩ : ∃ (z : Fin 1) (r : Fin 512) (k : Fin 1408), y = ix3 z r k := ⟨y 0, y 1, y 2, eq_ix3 y⟩
  obtain rfl := Subsingleton.elim z 0
  have hN : t.val < 2 := lt_of_lt_of_eq t.isLt N_0
  have e : ((cfg0.win 6).blk t).view.emb (ix3 0 r k) = (ix3 0 ⟨t.val * 512 + r.val, by omega⟩ k : S1x1024x1408.Idx) := by blk_ext [idx t]
  blk_simp
  rw [after0_6]
  exact (out_u m c t r k).trans ((congrArg₂ first (blk_g m c t r k hN) (blk_u m c t r k hN)).trans
    ((ref_u _ _ _ _).symm.trans (congrArg (Cert.AdamFfnInRefIdeal.Read.val_main_v6 (F := Ideal) _ _) e.symm)))
@[inherit_doc final_g] theorem final_v (c : Dev nD) : (dats m 0 c).arrAt 7 cfg0.N
    = Cert.AdamFfnInRefIdeal.Read.val_main_v12 (F := Ideal) (m ((c : Thread nD τ).loc main_arg1)) (m ((c : Thread nD τ).loc main_arg3)) := by
  refine (dats m 0 c).arrAt_eq_of_covers 7 _ (by decide +kernel) fun t _ y => ?_
  obtain ⟨z, r, k, rfl⟩ : ∃ (z : Fin 1) (r : Fin 512) (k : Fin 1408), y = ix3 z r k := ⟨y 0, y 1, y 2, eq_ix3 y⟩
  obtain rfl := Subsingleton.elim z 0
  have hN : t.val < 2 := lt_of_lt_of_eq t.isLt N_0
  have e : ((cfg0.win 7).blk t).view.emb (ix3 0 r k) = (ix3 0 ⟨t.val * 512 + r.val, by omega⟩ k : S1x1024x1408.Idx) := by blk_ext [idx t]
  blk_simp
  rw [after0_7]
  exact (out_v m c t r k).trans ((congrArg₂ second (blk_g m c t r k hN) (blk_v m c t r k hN)).trans
    ((ref_v _ _ _ _).symm.trans (congrArg (Cert.AdamFfnInRefIdeal.Read.val_main_v12 (F := Ideal) _ _) e.symm)))

end Cert.AdamFfnInIdeal.Update

end

end
-- ==== Proof.Adam.In.lean ====
module

public import proofs.«01_k».proof.Proof.Adam.Entry
public import proofs.«01_k».proof.Proof.Gen.AdamInIdeal.Value
public import proofs.«01_k».proof.Proof.Gen.AdamInRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AdamInIdeal.Update

open Cert.AdamInIdeal Cert.AdamInIdeal.Gen Cert.AdamEntry
open Idealize.ShloMosaic Idealize.ShloMosaic.TcCoe Idealize.SL.Sem

variable (m : (ℓ : Loc nD τ sig) → Buf (Elt Ideal) ℓ)

/-- Where the blocks lie at each point: all at row tile `t`. -/
theorem idx : ∀ t : Fin cfg0.N, win0_0.index t = ![0, t.val, 0] ∧ win0_1.index t = ![t.val, 0] ∧ win0_2.index t = ![0, t.val, 0]
    ∧ win0_3.index t = ![0, t.val, 0] ∧ win0_4.index t = ![0, t.val, 0] ∧ win0_5.index t = ![0, t.val, 0] ∧ win0_6.index t = ![0, t.val, 0]
    ∧ win0_7.index t = ![0, t.val, 0] :=
  (by decide +kernel : ∀ t : Fin grid0.N, _)

/-- The operand blocks at a point, read off the arguments: the weights, the gradient and the two averages. -/
theorem blk_w (c : Dev nD) (t : Fin cfg0.N) (r : Fin 64) (k : Fin 1024) (h : t.val < 9) :
    iblk m c 0 t (ix3 0 r k) = m ((c : Thread nD τ).loc main_arg0) (ix3 0 ⟨t.val * 64 + r.val, by omega⟩ k) := by
  blk_ext [iblk, V, idx t]
@[inherit_doc blk_w] theorem blk_g (c : Dev nD) (t : Fin cfg0.N) (r : Fin 64) (k : Fin 1024) (h : t.val < 9) :
    iblk m c 1 t (ix2 r k) = m ((c : Thread nD τ).loc main_arg1) (ix2 ⟨t.val * 64 + r.val, by omega⟩ k) := by
  blk_ext [iblk, V, idx t]
@[inherit_doc blk_w] theorem blk_u (c : Dev nD) (t : Fin cfg0.N) (r : Fin 64) (k : Fin 1024) (h : t.val < 9) :
    iblk m c 2 t (ix3 0 r k) = m ((c : Thread nD τ).loc main_arg2) (ix3 0 ⟨t.val * 64 + r.val, by omega⟩ k) := by
  blk_ext [iblk, V, idx t]
@[inherit_doc blk_w] theorem blk_v (c : Dev nD) (t : Fin cfg0.N) (r : Fin 64) (k : Fin 1024) (h : t.val < 9) :
    iblk m c 3 t (ix3 0 r k) = m ((c : Thread nD τ).loc main_arg3) (ix3 0 ⟨t.val * 64 + r.val, by omega⟩ k) := by
  blk_ext [iblk, V, idx t]

/-- What a point leaves in its four results, at an entry. -/
theorem out_g (c : Dev nD) (t : Fin cfg0.N) (r : Fin 64) (k : Fin 1024) :
    (outsAt0 m c t).1 (ix3 0 r k) = iblk m c 1 t (ix2 r k) := by
  unfold outsAt0
  frame_out
  pointwise [k0_pay4]
@[inherit_doc out_g] theorem out_d (c : Dev nD) (t : Fin cfg0.N) (r : Fin 64) (k : Fin 1024) :
    (outsAt0 m c t).2.1 (ix3 0 r k)
      = step (iblk m c 0 t (ix3 0 r k)) (iblk m c 1 t (ix2 r k)) (iblk m c 2 t (ix3 0 r k)) (iblk m c 3 t (ix3 0 r k)) := by
  unfold outsAt0
  frame_out
  pointwise [k0_pay1, k0_pay5, k0_pay6, k0_pay7, step, first, second]
@[inherit_doc out_g] theorem out_u (c : Dev nD) (t : Fin cfg0.N) (r : Fin 64) (k : Fin 1024) :
    (outsAt0 m c t).2.2.1 (ix3 0 r k) = first (iblk m c 1 t (ix2 r k)) (iblk m c 2 t (ix3 0 r k)) := by
  unfold outsAt0
  frame_out
  pointwise [k0_pay2, k0_pay5, first]
@[inherit_doc out_g] theorem out_v (c : Dev nD) (t : Fin cfg0.N) (r : Fin 64) (k : Fin 1024) :
    (outsAt0 m c t).2.2.2 (ix3 0 r k) = second (iblk m c 1 t (ix2 r k)) (iblk m c 3 t (ix3 0 r k)) := by
  unfold outsAt0
  frame_out
  pointwise [k0_pay3, k0_pay6, second]

variable (w u v : FVec Ideal S1x576x1024 .f32) (g : FVec Ideal S576x1024 .f32) (r : Fin 576) (k : Fin 1024)

/-- The reference's results, at an entry. -/
theorem ref_g : Cert.AdamInRefIdeal.Read.val_main_v0 (F := Ideal) g (ix3 0 r k) = g (ix2 r k) := by
  open Cert.AdamInRefIdeal.Read in pointwise [val_main_v0]
@[inherit_doc ref_g] theorem ref_u : Cert.AdamInRefIdeal.Read.val_main_v6 (F := Ideal) g u (ix3 0 r k) = first (g (ix2 r k)) (u (ix3 0 r k)) := by
  open Cert.AdamInRefIdeal.Read in
  pointwise [val_main_v6, val_main_v5, val_main_v4, val_main_v3, val_main_v2, val_main_v1, val_main_cst, val_main_cst_0, first]
@[inherit_doc ref_g] theorem ref_v : Cert.AdamInRefIdeal.Read.val_main_v12 (F := Ideal) g v (ix3 0 r k) = second (g (ix2 r k)) (v (ix3 0 r k)) := by
  open Cert.AdamInRefIdeal.Read in
  pointwise [val_main_v12, val_main_v11, val_main_v10, val_main_v9, val_main_v8, val_main_v7, val_main_v1, val_main_cst_1, val_main_cst_2, second]
@[inherit_doc ref_g] theorem ref_d : Cert.AdamInRefIdeal.Read.val_main_v25 (F := Ideal) w g u v (ix3 0 r k)
    = step (w (ix3 0 r k)) (g (ix2 r k)) (u (ix3 0 r k)) (v (ix3 0 r k)) := by
  open Cert.AdamInRefIdeal.Read in
  pointwise [val_main_v25, val_main_v24, val_main_v23, val_main_v22, val_main_v21, val_main_v20, val_main_v19, val_main_v18, val_main_v17,
    val_main_v16, val_main_v15, val_main_v14, val_main_v13, ref_u u g r k, ref_v v g r k, val_main_cst_3, val_main_cst_4, val_main_cst_5,
    val_main_cst_6, val_main_cst_7, step]

/-- The arrays the kernel leaves are the reference's. -/
theorem final_g (c : Dev nD) : (dats m 0 c).arrAt 4 cfg0.N
    = Cert.AdamInRefIdeal.Read.val_main_v0 (F := Ideal) (m ((c : Thread nD τ).loc main_arg1)) := by
  refine (dats m 0 c).arrAt_eq_of_covers 4 _ (by decide +kernel) fun t _ y => ?_
  obtain ⟨z, r, k, rfl⟩ : ∃ (z : Fin 1) (r : Fin 64) (k : Fin 1024), y = ix3 z r k := ⟨y 0, y 1, y 2, eq_ix3 y⟩
  obtain rfl := Subsingleton.elim z 0
  have hN : t.val < 9 := lt_of_lt_of_eq t.isLt N_0
  have e : ((cfg0.win 4).blk t).view.emb (ix3 0 r k) = (ix3 0 ⟨t.val * 64 + r.val, by omega⟩ k : S1x576x1024.Idx) := by blk_ext [idx t]
  blk_simp
  rw [after0_4]
  exact (out_g m c t r k).trans ((blk_g m c t r k hN).trans
    ((ref_g _ _ _).symm.trans (congrArg (Cert.AdamInRefIdeal.Read.val_main_v0 (F := Ideal) _) e.symm)))
@[inherit_doc final_g] theorem final_d (c : Dev nD) : (dats m 0 c).arrAt 5 cfg0.N
    = Cert.AdamInRefIdeal.Read.val_main_v25 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t _ y => ?_
  obtain ⟨z, r, k, rfl⟩ : ∃ (z : Fin 1) (r : Fin 64) (k : Fin 1024), y = ix3 z r k := ⟨y 0, y 1, y 2, eq_ix3 y⟩
  obtain rfl := Subsingleton.elim z 0
  have hN : t.val < 9 := lt_of_lt_of_eq t.isLt N_0
  have e : ((cfg0.win 5).blk t).view.emb (ix3 0 r k) = (ix3 0 ⟨t.val * 64 + r.val, by omega⟩ k : S1x576x1024.Idx) := by blk_ext [idx t]
  blk_simp
  rw [after0_5]
  refine (out_d m c t r k).trans (Eq.trans ?_ ((ref_d _ _ _ _ _ _).symm.trans
    (congrArg (Cert.AdamInRefIdeal.Read.val_main_v25 (F := Ideal) _ _ _ _) e.symm)))
  rw [blk_w m c t r k hN, blk_g m c t r k hN, blk_u m c t r k hN, blk_v m c t r k hN]
@[inherit_doc final_g] theorem final_u (c : Dev nD) : (dats m 0 c).arrAt 6 cfg0.N
    = Cert.AdamInRefIdeal.Read.val_main_v6 (F := Ideal) (m ((c : Thread nD τ).loc main_arg1)) (m ((c : Thread nD τ).loc main_arg2)) := by
  refine (dats m 0 c).arrAt_eq_of_covers 6 _ (by decide +kernel) fun t _ y => ?_
  obtain ⟨z, r, k, rfl⟩ : ∃ (z : Fin 1) (r : Fin 64) (k : Fin 1024), y = ix3 z r k := ⟨y 0, y 1, y 2, eq_ix3 y⟩
  obtain rfl := Subsingleton.elim z 0
  have hN : t.val < 9 := lt_of_lt_of_eq t.isLt N_0
  have e : ((cfg0.win 6).blk t).view.emb (ix3 0 r k) = (ix3 0 ⟨t.val * 64 + r.val, by omega⟩ k : S1x576x1024.Idx) := by blk_ext [idx t]
  blk_simp
  rw [after0_6]
  exact (out_u m c t r k).trans ((congrArg₂ first (blk_g m c t r k hN) (blk_u m c t r k hN)).trans
    ((ref_u _ _ _ _).symm.trans (congrArg (Cert.AdamInRefIdeal.Read.val_main_v6 (F := Ideal) _ _) e.symm)))
@[inherit_doc final_g] theorem final_v (c : Dev nD) : (dats m 0 c).arrAt 7 cfg0.N
    = Cert.AdamInRefIdeal.Read.val_main_v12 (F := Ideal) (m ((c : Thread nD τ).loc main_arg1)) (m ((c : Thread nD τ).loc main_arg3)) := by
  refine (dats m 0 c).arrAt_eq_of_covers 7 _ (by decide +kernel) fun t _ y => ?_
  obtain ⟨z, r, k, rfl⟩ : ∃ (z : Fin 1) (r : Fin 64) (k : Fin 1024), y = ix3 z r k := ⟨y 0, y 1, y 2, eq_ix3 y⟩
  obtain rfl := Subsingleton.elim z 0
  have hN : t.val < 9 := lt_of_lt_of_eq t.isLt N_0
  have e : ((cfg0.win 7).blk t).view.emb (ix3 0 r k) = (ix3 0 ⟨t.val * 64 + r.val, by omega⟩ k : S1x576x1024.Idx) := by blk_ext [idx t]
  blk_simp
  rw [after0_7]
  exact (out_v m c t r k).trans ((congrArg₂ second (blk_g m c t r k hN) (blk_v m c t r k hN)).trans
    ((ref_v _ _ _ _).symm.trans (congrArg (Cert.AdamInRefIdeal.Read.val_main_v12 (F := Ideal) _ _) e.symm)))

end Cert.AdamInIdeal.Update

end

end
-- ==== Proof.Adam.Gate.lean ====
module

public import proofs.«01_k».proof.Proof.Adam.Entry
public import proofs.«01_k».proof.Proof.Gen.AdamGateIdeal.Value
public import proofs.«01_k».proof.Proof.Gen.AdamGateRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AdamGateIdeal.Update

open Cert.AdamGateIdeal Cert.AdamGateIdeal.Gen Cert.AdamEntry
open Idealize.ShloMosaic Idealize.ShloMosaic.TcCoe Idealize.SL.Sem

variable (m : (ℓ : Loc nD τ sig) → Buf (Elt Ideal) ℓ)

/-- Where the blocks lie at each point: all at row tile `t`. -/
theorem idx : ∀ t : Fin cfg0.N, win0_0.index t = ![0, t.val, 0] ∧ win0_1.index t = ![t.val, 0] ∧ win0_2.index t = ![0, t.val, 0]
    ∧ win0_3.index t = ![0, t.val, 0] ∧ win0_4.index t = ![0, t.val, 0] ∧ win0_5.index t = ![0, t.val, 0] ∧ win0_6.index t = ![0, t.val, 0]
    ∧ win0_7.index t = ![0, t.val, 0] :=
  (by decide +kernel : ∀ t : Fin grid0.N, _)

/-- The operand blocks at a point, read off the arguments: the weights, the gradient and the two averages. -/
theorem blk_w (c : Dev nD) (t : Fin cfg0.N) (r : Fin 512) (k : Fin 1024) (h : t.val < 2) :
    iblk m c 0 t (ix3 0 r k) = m ((c : Thread nD τ).loc main_arg0) (ix3 0 ⟨t.val * 512 + r.val, by omega⟩ k) := by
  blk_ext [iblk, V, idx t]
@[inherit_doc blk_w] theorem blk_g (c : Dev nD) (t : Fin cfg0.N) (r : Fin 512) (k : Fin 1024) (h : t.val < 2) :
    iblk m c 1 t (ix2 r k) = m ((c : Thread nD τ).loc main_arg1) (ix2 ⟨t.val * 512 + r.val, by omega⟩ k) := by
  blk_ext [iblk, V, idx t]
@[inherit_doc blk_w] theorem blk_u (c : Dev nD) (t : Fin cfg0.N) (r : Fin 512) (k : Fin 1024) (h : t.val < 2) :
    iblk m c 2 t (ix3 0 r k) = m ((c : Thread nD τ).loc main_arg2) (ix3 0 ⟨t.val * 512 + r.val, by omega⟩ k) := by
  blk_ext [iblk, V, idx t]
@[inherit_doc blk_w] theorem blk_v (c : Dev nD) (t : Fin cfg0.N) (r : Fin 512) (k : Fin 1024) (h : t.val < 2) :
    iblk m c 3 t (ix3 0 r k) = m ((c : Thread nD τ).loc main_arg3) (ix3 0 ⟨t.val * 512 + r.val, by omega⟩ k) := by
  blk_ext [iblk, V, idx t]

/-- What a point leaves in its four results, at an entry. -/
theorem out_g (c : Dev nD) (t : Fin cfg0.N) (r : Fin 512) (k : Fin 1024) :
    (outsAt0 m c t).1 (ix3 0 r k) = iblk m c 1 t (ix2 r k) := by
  unfold outsAt0
  frame_out
  pointwise [k0_pay4]
@[inherit_doc out_g] theorem out_d (c : Dev nD) (t : Fin cfg0.N) (r : Fin 512) (k : Fin 1024) :
    (outsAt0 m c t).2.1 (ix3 0 r k)
      = step (iblk m c 0 t (ix3 0 r k)) (iblk m c 1 t (ix2 r k)) (iblk m c 2 t (ix3 0 r k)) (iblk m c 3 t (ix3 0 r k)) := by
  unfold outsAt0
  frame_out
  pointwise [k0_pay1, k0_pay5, k0_pay6, k0_pay7, step, first, second]
@[inherit_doc out_g] theorem out_u (c : Dev nD) (t : Fin cfg0.N) (r : Fin 512) (k : Fin 1024) :
    (outsAt0 m c t).2.2.1 (ix3 0 r k) = first (iblk m c 1 t (ix2 r k)) (iblk m c 2 t (ix3 0 r k)) := by
  unfold outsAt0
  frame_out
  pointwise [k0_pay2, k0_pay5, first]
@[inherit_doc out_g] theorem out_v (c : Dev nD) (t : Fin cfg0.N) (r : Fin 512) (k : Fin 1024) :
    (outsAt0 m c t).2.2.2 (ix3 0 r k) = second (iblk m c 1 t (ix2 r k)) (iblk m c 3 t (ix3 0 r k)) := by
  unfold outsAt0
  frame_out
  pointwise [k0_pay3, k0_pay6, second]

variable (w u v : FVec Ideal S1x1024x1024 .f32) (g : FVec Ideal S1024x1024 .f32) (r : Fin 1024) (k : Fin 1024)

/-- The reference's results, at an entry. -/
theorem ref_g : Cert.AdamGateRefIdeal.Read.val_main_v0 (F := Ideal) g (ix3 0 r k) = g (ix2 r k) := by
  open Cert.AdamGateRefIdeal.Read in pointwise [val_main_v0]
@[inherit_doc ref_g] theorem ref_u : Cert.AdamGateRefIdeal.Read.val_main_v6 (F := Ideal) g u (ix3 0 r k) = first (g (ix2 r k)) (u (ix3 0 r k)) := by
  open Cert.AdamGateRefIdeal.Read in
  pointwise [val_main_v6, val_main_v5, val_main_v4, val_main_v3, val_main_v2, val_main_v1, val_main_cst, val_main_cst_0, first]
@[inherit_doc ref_g] theorem ref_v : Cert.AdamGateRefIdeal.Read.val_main_v12 (F := Ideal) g v (ix3 0 r k) = second (g (ix2 r k)) (v (ix3 0 r k)) := by
  open Cert.AdamGateRefIdeal.Read in
  pointwise [val_main_v12, val_main_v11, val_main_v10, val_main_v9, val_main_v8, val_main_v7, val_main_v1, val_main_cst_1, val_main_cst_2, second]
@[inherit_doc ref_g] theorem ref_d : Cert.AdamGateRefIdeal.Read.val_main_v25 (F := Ideal) w g u v (ix3 0 r k)
    = step (w (ix3 0 r k)) (g (ix2 r k)) (u (ix3 0 r k)) (v (ix3 0 r k)) := by
  open Cert.AdamGateRefIdeal.Read in
  pointwise [val_main_v25, val_main_v24, val_main_v23, val_main_v22, val_main_v21, val_main_v20, val_main_v19, val_main_v18, val_main_v17,
    val_main_v16, val_main_v15, val_main_v14, val_main_v13, ref_u u g r k, ref_v v g r k, val_main_cst_3, val_main_cst_4, val_main_cst_5,
    val_main_cst_6, val_main_cst_7, step]

/-- The arrays the kernel leaves are the reference's. -/
theorem final_g (c : Dev nD) : (dats m 0 c).arrAt 4 cfg0.N
    = Cert.AdamGateRefIdeal.Read.val_main_v0 (F := Ideal) (m ((c : Thread nD τ).loc main_arg1)) := by
  refine (dats m 0 c).arrAt_eq_of_covers 4 _ (by decide +kernel) fun t _ y => ?_
  obtain ⟨z, r, k, rfl⟩ : ∃ (z : Fin 1) (r : Fin 512) (k : Fin 1024), y = ix3 z r k := ⟨y 0, y 1, y 2, eq_ix3 y⟩
  obtain rfl := Subsingleton.elim z 0
  have hN : t.val < 2 := lt_of_lt_of_eq t.isLt N_0
  have e : ((cfg0.win 4).blk t).view.emb (ix3 0 r k) = (ix3 0 ⟨t.val * 512 + r.val, by omega⟩ k : S1x1024x1024.Idx) := by blk_ext [idx t]
  blk_simp
  rw [after0_4]
  exact (out_g m c t r k).trans ((blk_g m c t r k hN).trans
    ((ref_g _ _ _).symm.trans (congrArg (Cert.AdamGateRefIdeal.Read.val_main_v0 (F := Ideal) _) e.symm)))
@[inherit_doc final_g] theorem final_d (c : Dev nD) : (dats m 0 c).arrAt 5 cfg0.N
    = Cert.AdamGateRefIdeal.Read.val_main_v25 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t _ y => ?_
  obtain ⟨z, r, k, rfl⟩ : ∃ (z : Fin 1) (r : Fin 512) (k : Fin 1024), y = ix3 z r k := ⟨y 0, y 1, y 2, eq_ix3 y⟩
  obtain rfl := Subsingleton.elim z 0
  have hN : t.val < 2 := lt_of_lt_of_eq t.isLt N_0
  have e : ((cfg0.win 5).blk t).view.emb (ix3 0 r k) = (ix3 0 ⟨t.val * 512 + r.val, by omega⟩ k : S1x1024x1024.Idx) := by blk_ext [idx t]
  blk_simp
  rw [after0_5]
  refine (out_d m c t r k).trans (Eq.trans ?_ ((ref_d _ _ _ _ _ _).symm.trans
    (congrArg (Cert.AdamGateRefIdeal.Read.val_main_v25 (F := Ideal) _ _ _ _) e.symm)))
  rw [blk_w m c t r k hN, blk_g m c t r k hN, blk_u m c t r k hN, blk_v m c t r k hN]
@[inherit_doc final_g] theorem final_u (c : Dev nD) : (dats m 0 c).arrAt 6 cfg0.N
    = Cert.AdamGateRefIdeal.Read.val_main_v6 (F := Ideal) (m ((c : Thread nD τ).loc main_arg1)) (m ((c : Thread nD τ).loc main_arg2)) := by
  refine (dats m 0 c).arrAt_eq_of_covers 6 _ (by decide +kernel) fun t _ y => ?_
  obtain ⟨z, r, k, rfl⟩ : ∃ (z : Fin 1) (r : Fin 512) (k : Fin 1024), y = ix3 z r k := ⟨y 0, y 1, y 2, eq_ix3 y⟩
  obtain rfl := Subsingleton.elim z 0
  have hN : t.val < 2 := lt_of_lt_of_eq t.isLt N_0
  have e : ((cfg0.win 6).blk t).view.emb (ix3 0 r k) = (ix3 0 ⟨t.val * 512 + r.val, by omega⟩ k : S1x1024x1024.Idx) := by blk_ext [idx t]
  blk_simp
  rw [after0_6]
  exact (out_u m c t r k).trans ((congrArg₂ first (blk_g m c t r k hN) (blk_u m c t r k hN)).trans
    ((ref_u _ _ _ _).symm.trans (congrArg (Cert.AdamGateRefIdeal.Read.val_main_v6 (F := Ideal) _ _) e.symm)))
@[inherit_doc final_g] theorem final_v (c : Dev nD) : (dats m 0 c).arrAt 7 cfg0.N
    = Cert.AdamGateRefIdeal.Read.val_main_v12 (F := Ideal) (m ((c : Thread nD τ).loc main_arg1)) (m ((c : Thread nD τ).loc main_arg3)) := by
  refine (dats m 0 c).arrAt_eq_of_covers 7 _ (by decide +kernel) fun t _ y => ?_
  obtain ⟨z, r, k, rfl⟩ : ∃ (z : Fin 1) (r : Fin 512) (k : Fin 1024), y = ix3 z r k := ⟨y 0, y 1, y 2, eq_ix3 y⟩
  obtain rfl := Subsingleton.elim z 0
  have hN : t.val < 2 := lt_of_lt_of_eq t.isLt N_0
  have e : ((cfg0.win 7).blk t).view.emb (ix3 0 r k) = (ix3 0 ⟨t.val * 512 + r.val, by omega⟩ k : S1x1024x1024.Idx) := by blk_ext [idx t]
  blk_simp
  rw [after0_7]
  exact (out_v m c t r k).trans ((congrArg₂ second (blk_g m c t r k hN) (blk_v m c t r k hN)).trans
    ((ref_v _ _ _ _).symm.trans (congrArg (Cert.AdamGateRefIdeal.Read.val_main_v12 (F := Ideal) _ _) e.symm)))

end Cert.AdamGateIdeal.Update

end

end
-- ==== Proof.Adam.MemKv.lean ====
module

public import proofs.«01_k».proof.Proof.Adam.Entry
public import proofs.«01_k».proof.Proof.Gen.AdamMemKvIdeal.Value
public import proofs.«01_k».proof.Proof.Gen.AdamMemKvRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AdamMemKvIdeal.Update

open Cert.AdamMemKvIdeal Cert.AdamMemKvIdeal.Gen Cert.AdamEntry
open Idealize.ShloMosaic Idealize.ShloMosaic.TcCoe Idealize.SL.Sem

variable (m : (ℓ : Loc nD τ sig) → Buf (Elt Ideal) ℓ)

/-- Where the blocks lie at each point: all at row tile `t`. -/
theorem idx : ∀ t : Fin cfg0.N, win0_0.index t = ![0, t.val, 0] ∧ win0_1.index t = ![t.val, 0] ∧ win0_2.index t = ![0, t.val, 0]
    ∧ win0_3.index t = ![0, t.val, 0] ∧ win0_4.index t = ![0, t.val, 0] ∧ win0_5.index t = ![0, t.val, 0] ∧ win0_6.index t = ![0, t.val, 0]
    ∧ win0_7.index t = ![0, t.val, 0] :=
  (by decide +kernel : ∀ t : Fin grid0.N, _)

/-- The operand blocks at a point, read off the arguments: the weights, the gradient and the two averages. -/
theorem blk_w (c : Dev nD) (t : Fin cfg0.N) (r : Fin 256) (k : Fin 512) (h : t.val < 1) :
    iblk m c 0 t (ix3 0 r k) = m ((c : Thread nD τ).loc main_arg0) (ix3 0 ⟨t.val * 256 + r.val, by omega⟩ k) := by
  blk_ext [iblk, V, idx t]
@[inherit_doc blk_w] theorem blk_g (c : Dev nD) (t : Fin cfg0.N) (r : Fin 256) (k : Fin 512) (h : t.val < 1) :
    iblk m c 1 t (ix2 r k) = m ((c : Thread nD τ).loc main_arg1) (ix2 ⟨t.val * 256 + r.val, by omega⟩ k) := by
  blk_ext [iblk, V, idx t]
@[inherit_doc blk_w] theorem blk_u (c : Dev nD) (t : Fin cfg0.N) (r : Fin 256) (k : Fin 512) (h : t.val < 1) :
    iblk m c 2 t (ix3 0 r k) = m ((c : Thread nD τ).loc main_arg2) (ix3 0 ⟨t.val * 256 + r.val, by omega⟩ k) := by
  blk_ext [iblk, V, idx t]
@[inherit_doc blk_w] theorem blk_v (c : Dev nD) (t : Fin cfg0.N) (r : Fin 256) (k : Fin 512) (h : t.val < 1) :
    iblk m c 3 t (ix3 0 r k) = m ((c : Thread nD τ).loc main_arg3) (ix3 0 ⟨t.val * 256 + r.val, by omega⟩ k) := by
  blk_ext [iblk, V, idx t]

/-- What a point leaves in its four results, at an entry. -/
theorem out_g (c : Dev nD) (t : Fin cfg0.N) (r : Fin 256) (k : Fin 512) :
    (outsAt0 m c t).1 (ix3 0 r k) = iblk m c 1 t (ix2 r k) := by
  unfold outsAt0
  frame_out
  pointwise [k0_pay4]
@[inherit_doc out_g] theorem out_d (c : Dev nD) (t : Fin cfg0.N) (r : Fin 256) (k : Fin 512) :
    (outsAt0 m c t).2.1 (ix3 0 r k)
      = step (iblk m c 0 t (ix3 0 r k)) (iblk m c 1 t (ix2 r k)) (iblk m c 2 t (ix3 0 r k)) (iblk m c 3 t (ix3 0 r k)) := by
  unfold outsAt0
  frame_out
  pointwise [k0_pay1, k0_pay5, k0_pay6, k0_pay7, step, first, second]
@[inherit_doc out_g] theorem out_u (c : Dev nD) (t : Fin cfg0.N) (r : Fin 256) (k : Fin 512) :
    (outsAt0 m c t).2.2.1 (ix3 0 r k) = first (iblk m c 1 t (ix2 r k)) (iblk m c 2 t (ix3 0 r k)) := by
  unfold outsAt0
  frame_out
  pointwise [k0_pay2, k0_pay5, first]
@[inherit_doc out_g] theorem out_v (c : Dev nD) (t : Fin cfg0.N) (r : Fin 256) (k : Fin 512) :
    (outsAt0 m c t).2.2.2 (ix3 0 r k) = second (iblk m c 1 t (ix2 r k)) (iblk m c 3 t (ix3 0 r k)) := by
  unfold outsAt0
  frame_out
  pointwise [k0_pay3, k0_pay6, second]

variable (w u v : FVec Ideal S1x256x512 .f32) (g : FVec Ideal S256x512 .f32) (r : Fin 256) (k : Fin 512)

/-- The reference's results, at an entry. -/
theorem ref_g : Cert.AdamMemKvRefIdeal.Read.val_main_v0 (F := Ideal) g (ix3 0 r k) = g (ix2 r k) := by
  open Cert.AdamMemKvRefIdeal.Read in pointwise [val_main_v0]
@[inherit_doc ref_g] theorem ref_u : Cert.AdamMemKvRefIdeal.Read.val_main_v6 (F := Ideal) g u (ix3 0 r k) = first (g (ix2 r k)) (u (ix3 0 r k)) := by
  open Cert.AdamMemKvRefIdeal.Read in
  pointwise [val_main_v6, val_main_v5, val_main_v4, val_main_v3, val_main_v2, val_main_v1, val_main_cst, val_main_cst_0, first]
@[inherit_doc ref_g] theorem ref_v : Cert.AdamMemKvRefIdeal.Read.val_main_v12 (F := Ideal) g v (ix3 0 r k) = second (g (ix2 r k)) (v (ix3 0 r k)) := by
  open Cert.AdamMemKvRefIdeal.Read in
  pointwise [val_main_v12, val_main_v11, val_main_v10, val_main_v9, val_main_v8, val_main_v7, val_main_v1, val_main_cst_1, val_main_cst_2, second]
@[inherit_doc ref_g] theorem ref_d : Cert.AdamMemKvRefIdeal.Read.val_main_v25 (F := Ideal) w g u v (ix3 0 r k)
    = step (w (ix3 0 r k)) (g (ix2 r k)) (u (ix3 0 r k)) (v (ix3 0 r k)) := by
  open Cert.AdamMemKvRefIdeal.Read in
  pointwise [val_main_v25, val_main_v24, val_main_v23, val_main_v22, val_main_v21, val_main_v20, val_main_v19, val_main_v18, val_main_v17,
    val_main_v16, val_main_v15, val_main_v14, val_main_v13, ref_u u g r k, ref_v v g r k, val_main_cst_3, val_main_cst_4, val_main_cst_5,
    val_main_cst_6, val_main_cst_7, step]

/-- The arrays the kernel leaves are the reference's. -/
theorem final_g (c : Dev nD) : (dats m 0 c).arrAt 4 cfg0.N
    = Cert.AdamMemKvRefIdeal.Read.val_main_v0 (F := Ideal) (m ((c : Thread nD τ).loc main_arg1)) := by
  refine (dats m 0 c).arrAt_eq_of_covers 4 _ (by decide +kernel) fun t _ y => ?_
  obtain ⟨z, r, k, rfl⟩ : ∃ (z : Fin 1) (r : Fin 256) (k : Fin 512), y = ix3 z r k := ⟨y 0, y 1, y 2, eq_ix3 y⟩
  obtain rfl := Subsingleton.elim z 0
  have hN : t.val < 1 := lt_of_lt_of_eq t.isLt N_0
  have e : ((cfg0.win 4).blk t).view.emb (ix3 0 r k) = (ix3 0 ⟨t.val * 256 + r.val, by omega⟩ k : S1x256x512.Idx) := by blk_ext [idx t]
  blk_simp
  rw [after0_4]
  exact (out_g m c t r k).trans ((blk_g m c t r k hN).trans
    ((ref_g _ _ _).symm.trans (congrArg (Cert.AdamMemKvRefIdeal.Read.val_main_v0 (F := Ideal) _) e.symm)))
@[inherit_doc final_g] theorem final_d (c : Dev nD) : (dats m 0 c).arrAt 5 cfg0.N
    = Cert.AdamMemKvRefIdeal.Read.val_main_v25 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t _ y => ?_
  obtain ⟨z, r, k, rfl⟩ : ∃ (z : Fin 1) (r : Fin 256) (k : Fin 512), y = ix3 z r k := ⟨y 0, y 1, y 2, eq_ix3 y⟩
  obtain rfl := Subsingleton.elim z 0
  have hN : t.val < 1 := lt_of_lt_of_eq t.isLt N_0
  have e : ((cfg0.win 5).blk t).view.emb (ix3 0 r k) = (ix3 0 ⟨t.val * 256 + r.val, by omega⟩ k : S1x256x512.Idx) := by blk_ext [idx t]
  blk_simp
  rw [after0_5]
  refine (out_d m c t r k).trans (Eq.trans ?_ ((ref_d _ _ _ _ _ _).symm.trans
    (congrArg (Cert.AdamMemKvRefIdeal.Read.val_main_v25 (F := Ideal) _ _ _ _) e.symm)))
  rw [blk_w m c t r k hN, blk_g m c t r k hN, blk_u m c t r k hN, blk_v m c t r k hN]
@[inherit_doc final_g] theorem final_u (c : Dev nD) : (dats m 0 c).arrAt 6 cfg0.N
    = Cert.AdamMemKvRefIdeal.Read.val_main_v6 (F := Ideal) (m ((c : Thread nD τ).loc main_arg1)) (m ((c : Thread nD τ).loc main_arg2)) := by
  refine (dats m 0 c).arrAt_eq_of_covers 6 _ (by decide +kernel) fun t _ y => ?_
  obtain ⟨z, r, k, rfl⟩ : ∃ (z : Fin 1) (r : Fin 256) (k : Fin 512), y = ix3 z r k := ⟨y 0, y 1, y 2, eq_ix3 y⟩
  obtain rfl := Subsingleton.elim z 0
  have hN : t.val < 1 := lt_of_lt_of_eq t.isLt N_0
  have e : ((cfg0.win 6).blk t).view.emb (ix3 0 r k) = (ix3 0 ⟨t.val * 256 + r.val, by omega⟩ k : S1x256x512.Idx) := by blk_ext [idx t]
  blk_simp
  rw [after0_6]
  exact (out_u m c t r k).trans ((congrArg₂ first (blk_g m c t r k hN) (blk_u m c t r k hN)).trans
    ((ref_u _ _ _ _).symm.trans (congrArg (Cert.AdamMemKvRefIdeal.Read.val_main_v6 (F := Ideal) _ _) e.symm)))
@[inherit_doc final_g] theorem final_v (c : Dev nD) : (dats m 0 c).arrAt 7 cfg0.N
    = Cert.AdamMemKvRefIdeal.Read.val_main_v12 (F := Ideal) (m ((c : Thread nD τ).loc main_arg1)) (m ((c : Thread nD τ).loc main_arg3)) := by
  refine (dats m 0 c).arrAt_eq_of_covers 7 _ (by decide +kernel) fun t _ y => ?_
  obtain ⟨z, r, k, rfl⟩ : ∃ (z : Fin 1) (r : Fin 256) (k : Fin 512), y = ix3 z r k := ⟨y 0, y 1, y 2, eq_ix3 y⟩
  obtain rfl := Subsingleton.elim z 0
  have hN : t.val < 1 := lt_of_lt_of_eq t.isLt N_0
  have e : ((cfg0.win 7).blk t).view.emb (ix3 0 r k) = (ix3 0 ⟨t.val * 256 + r.val, by omega⟩ k : S1x256x512.Idx) := by blk_ext [idx t]
  blk_simp
  rw [after0_7]
  exact (out_v m c t r k).trans ((congrArg₂ second (blk_g m c t r k hN) (blk_v m c t r k hN)).trans
    ((ref_v _ _ _ _).symm.trans (congrArg (Cert.AdamMemKvRefIdeal.Read.val_main_v12 (F := Ideal) _ _) e.symm)))

end Cert.AdamMemKvIdeal.Update

end

end
-- ==== Proof.Adam.Branch.lean ====
module

public import proofs.«01_k».proof.Proof.Adam.Entry
public import proofs.«01_k».proof.Proof.Gen.AdamBranchIdeal.Value
public import proofs.«01_k».proof.Proof.Gen.AdamBranchRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AdamBranchIdeal.Update

open Cert.AdamBranchIdeal Cert.AdamBranchIdeal.Gen Cert.AdamEntry
open Idealize.ShloMosaic Idealize.ShloMosaic.TcCoe Idealize.SL.Sem

variable (m : (ℓ : Loc nD τ sig) → Buf (Elt Ideal) ℓ)

/-- Where the blocks lie at each point: all at row tile `t`. -/
theorem idx : ∀ t : Fin cfg0.N, win0_0.index t = ![0, t.val, 0] ∧ win0_1.index t = ![t.val, 0] ∧ win0_2.index t = ![0, t.val, 0]
    ∧ win0_3.index t = ![0, t.val, 0] ∧ win0_4.index t = ![0, t.val, 0] ∧ win0_5.index t = ![0, t.val, 0] ∧ win0_6.index t = ![0, t.val, 0]
    ∧ win0_7.index t = ![0, t.val, 0] :=
  (by decide +kernel : ∀ t : Fin grid0.N, _)

/-- The operand blocks at a point, read off the arguments: the weights, the gradient and the two averages. -/
theorem blk_w (c : Dev nD) (t : Fin cfg0.N) (r : Fin 512) (k : Fin 256) (h : t.val < 2) :
    iblk m c 0 t (ix3 0 r k) = m ((c : Thread nD τ).loc main_arg0) (ix3 0 ⟨t.val * 512 + r.val, by omega⟩ k) := by
  blk_ext [iblk, V, idx t]
@[inherit_doc blk_w] theorem blk_g (c : Dev nD) (t : Fin cfg0.N) (r : Fin 512) (k : Fin 256) (h : t.val < 2) :
    iblk m c 1 t (ix2 r k) = m ((c : Thread nD τ).loc main_arg1) (ix2 ⟨t.val * 512 + r.val, by omega⟩ k) := by
  blk_ext [iblk, V, idx t]
@[inherit_doc blk_w] theorem blk_u (c : Dev nD) (t : Fin cfg0.N) (r : Fin 512) (k : Fin 256) (h : t.val < 2) :
    iblk m c 2 t (ix3 0 r k) = m ((c : Thread nD τ).loc main_arg2) (ix3 0 ⟨t.val * 512 + r.val, by omega⟩ k) := by
  blk_ext [iblk, V, idx t]
@[inherit_doc blk_w] theorem blk_v (c : Dev nD) (t : Fin cfg0.N) (r : Fin 512) (k : Fin 256) (h : t.val < 2) :
    iblk m c 3 t (ix3 0 r k) = m ((c : Thread nD τ).loc main_arg3) (ix3 0 ⟨t.val * 512 + r.val, by omega⟩ k) := by
  blk_ext [iblk, V, idx t]

/-- What a point leaves in its four results, at an entry. -/
theorem out_g (c : Dev nD) (t : Fin cfg0.N) (r : Fin 512) (k : Fin 256) :
    (outsAt0 m c t).1 (ix3 0 r k) = iblk m c 1 t (ix2 r k) := by
  unfold outsAt0
  frame_out
  pointwise [k0_pay4]
@[inherit_doc out_g] theorem out_d (c : Dev nD) (t : Fin cfg0.N) (r : Fin 512) (k : Fin 256) :
    (outsAt0 m c t).2.1 (ix3 0 r k)
      = step (iblk m c 0 t (ix3 0 r k)) (iblk m c 1 t (ix2 r k)) (iblk m c 2 t (ix3 0 r k)) (iblk m c 3 t (ix3 0 r k)) := by
  unfold outsAt0
  frame_out
  pointwise [k0_pay1, k0_pay5, k0_pay6, k0_pay7, step, first, second]
@[inherit_doc out_g] theorem out_u (c : Dev nD) (t : Fin cfg0.N) (r : Fin 512) (k : Fin 256) :
    (outsAt0 m c t).2.2.1 (ix3 0 r k) = first (iblk m c 1 t (ix2 r k)) (iblk m c 2 t (ix3 0 r k)) := by
  unfold outsAt0
  frame_out
  pointwise [k0_pay2, k0_pay5, first]
@[inherit_doc out_g] theorem out_v (c : Dev nD) (t : Fin cfg0.N) (r : Fin 512) (k : Fin 256) :
    (outsAt0 m c t).2.2.2 (ix3 0 r k) = second (iblk m c 1 t (ix2 r k)) (iblk m c 3 t (ix3 0 r k)) := by
  unfold outsAt0
  frame_out
  pointwise [k0_pay3, k0_pay6, second]

variable (w u v : FVec Ideal S1x1024x256 .f32) (g : FVec Ideal S1024x256 .f32) (r : Fin 1024) (k : Fin 256)

/-- The reference's results, at an entry. -/
theorem ref_g : Cert.AdamBranchRefIdeal.Read.val_main_v0 (F := Ideal) g (ix3 0 r k) = g (ix2 r k) := by
  open Cert.AdamBranchRefIdeal.Read in pointwise [val_main_v0]
@[inherit_doc ref_g] theorem ref_u : Cert.AdamBranchRefIdeal.Read.val_main_v6 (F := Ideal) g u (ix3 0 r k) = first (g (ix2 r k)) (u (ix3 0 r k)) := by
  open Cert.AdamBranchRefIdeal.Read in
  pointwise [val_main_v6, val_main_v5, val_main_v4, val_main_v3, val_main_v2, val_main_v1, val_main_cst, val_main_cst_0, first]
@[inherit_doc ref_g] theorem ref_v : Cert.AdamBranchRefIdeal.Read.val_main_v12 (F := Ideal) g v (ix3 0 r k) = second (g (ix2 r k)) (v (ix3 0 r k)) := by
  open Cert.AdamBranchRefIdeal.Read in
  pointwise [val_main_v12, val_main_v11, val_main_v10, val_main_v9, val_main_v8, val_main_v7, val_main_v1, val_main_cst_1, val_main_cst_2, second]
@[inherit_doc ref_g] theorem ref_d : Cert.AdamBranchRefIdeal.Read.val_main_v25 (F := Ideal) w g u v (ix3 0 r k)
    = step (w (ix3 0 r k)) (g (ix2 r k)) (u (ix3 0 r k)) (v (ix3 0 r k)) := by
  open Cert.AdamBranchRefIdeal.Read in
  pointwise [val_main_v25, val_main_v24, val_main_v23, val_main_v22, val_main_v21, val_main_v20, val_main_v19, val_main_v18, val_main_v17,
    val_main_v16, val_main_v15, val_main_v14, val_main_v13, ref_u u g r k, ref_v v g r k, val_main_cst_3, val_main_cst_4, val_main_cst_5,
    val_main_cst_6, val_main_cst_7, step]

/-- The arrays the kernel leaves are the reference's. -/
theorem final_g (c : Dev nD) : (dats m 0 c).arrAt 4 cfg0.N
    = Cert.AdamBranchRefIdeal.Read.val_main_v0 (F := Ideal) (m ((c : Thread nD τ).loc main_arg1)) := by
  refine (dats m 0 c).arrAt_eq_of_covers 4 _ (by decide +kernel) fun t _ y => ?_
  obtain ⟨z, r, k, rfl⟩ : ∃ (z : Fin 1) (r : Fin 512) (k : Fin 256), y = ix3 z r k := ⟨y 0, y 1, y 2, eq_ix3 y⟩
  obtain rfl := Subsingleton.elim z 0
  have hN : t.val < 2 := lt_of_lt_of_eq t.isLt N_0
  have e : ((cfg0.win 4).blk t).view.emb (ix3 0 r k) = (ix3 0 ⟨t.val * 512 + r.val, by omega⟩ k : S1x1024x256.Idx) := by blk_ext [idx t]
  blk_simp
  rw [after0_4]
  exact (out_g m c t r k).trans ((blk_g m c t r k hN).trans
    ((ref_g _ _ _).symm.trans (congrArg (Cert.AdamBranchRefIdeal.Read.val_main_v0 (F := Ideal) _) e.symm)))
@[inherit_doc final_g] theorem final_d (c : Dev nD) : (dats m 0 c).arrAt 5 cfg0.N
    = Cert.AdamBranchRefIdeal.Read.val_main_v25 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t _ y => ?_
  obtain ⟨z, r, k, rfl⟩ : ∃ (z : Fin 1) (r : Fin 512) (k : Fin 256), y = ix3 z r k := ⟨y 0, y 1, y 2, eq_ix3 y⟩
  obtain rfl := Subsingleton.elim z 0
  have hN : t.val < 2 := lt_of_lt_of_eq t.isLt N_0
  have e : ((cfg0.win 5).blk t).view.emb (ix3 0 r k) = (ix3 0 ⟨t.val * 512 + r.val, by omega⟩ k : S1x1024x256.Idx) := by blk_ext [idx t]
  blk_simp
  rw [after0_5]
  refine (out_d m c t r k).trans (Eq.trans ?_ ((ref_d _ _ _ _ _ _).symm.trans
    (congrArg (Cert.AdamBranchRefIdeal.Read.val_main_v25 (F := Ideal) _ _ _ _) e.symm)))
  rw [blk_w m c t r k hN, blk_g m c t r k hN, blk_u m c t r k hN, blk_v m c t r k hN]
@[inherit_doc final_g] theorem final_u (c : Dev nD) : (dats m 0 c).arrAt 6 cfg0.N
    = Cert.AdamBranchRefIdeal.Read.val_main_v6 (F := Ideal) (m ((c : Thread nD τ).loc main_arg1)) (m ((c : Thread nD τ).loc main_arg2)) := by
  refine (dats m 0 c).arrAt_eq_of_covers 6 _ (by decide +kernel) fun t _ y => ?_
  obtain ⟨z, r, k, rfl⟩ : ∃ (z : Fin 1) (r : Fin 512) (k : Fin 256), y = ix3 z r k := ⟨y 0, y 1, y 2, eq_ix3 y⟩
  obtain rfl := Subsingleton.elim z 0
  have hN : t.val < 2 := lt_of_lt_of_eq t.isLt N_0
  have e : ((cfg0.win 6).blk t).view.emb (ix3 0 r k) = (ix3 0 ⟨t.val * 512 + r.val, by omega⟩ k : S1x1024x256.Idx) := by blk_ext [idx t]
  blk_simp
  rw [after0_6]
  exact (out_u m c t r k).trans ((congrArg₂ first (blk_g m c t r k hN) (blk_u m c t r k hN)).trans
    ((ref_u _ _ _ _).symm.trans (congrArg (Cert.AdamBranchRefIdeal.Read.val_main_v6 (F := Ideal) _ _) e.symm)))
@[inherit_doc final_g] theorem final_v (c : Dev nD) : (dats m 0 c).arrAt 7 cfg0.N
    = Cert.AdamBranchRefIdeal.Read.val_main_v12 (F := Ideal) (m ((c : Thread nD τ).loc main_arg1)) (m ((c : Thread nD τ).loc main_arg3)) := by
  refine (dats m 0 c).arrAt_eq_of_covers 7 _ (by decide +kernel) fun t _ y => ?_
  obtain ⟨z, r, k, rfl⟩ : ∃ (z : Fin 1) (r : Fin 512) (k : Fin 256), y = ix3 z r k := ⟨y 0, y 1, y 2, eq_ix3 y⟩
  obtain rfl := Subsingleton.elim z 0
  have hN : t.val < 2 := lt_of_lt_of_eq t.isLt N_0
  have e : ((cfg0.win 7).blk t).view.emb (ix3 0 r k) = (ix3 0 ⟨t.val * 512 + r.val, by omega⟩ k : S1x1024x256.Idx) := by blk_ext [idx t]
  blk_simp
  rw [after0_7]
  exact (out_v m c t r k).trans ((congrArg₂ second (blk_g m c t r k hN) (blk_v m c t r k hN)).trans
    ((ref_v _ _ _ _).symm.trans (congrArg (Cert.AdamBranchRefIdeal.Read.val_main_v12 (F := Ideal) _ _) e.symm)))

end Cert.AdamBranchIdeal.Update

end

end
-- ==== Proof.Adam.Out.lean ====
module

public import proofs.«01_k».proof.Proof.Adam.Entry
public import proofs.«01_k».proof.Proof.Gen.AdamOutIdeal.Value
public import proofs.«01_k».proof.Proof.Gen.AdamOutRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AdamOutIdeal.Update

open Cert.AdamOutIdeal Cert.AdamOutIdeal.Gen Cert.AdamEntry
open Idealize.ShloMosaic Idealize.ShloMosaic.TcCoe Idealize.SL.Sem

variable (m : (ℓ : Loc nD τ sig) → Buf (Elt Ideal) ℓ)

/-- Where the blocks lie at each point: all at row tile `t`. -/
theorem idx : ∀ t : Fin cfg0.N, win0_0.index t = ![0, t.val, 0] ∧ win0_1.index t = ![t.val, 0] ∧ win0_2.index t = ![0, t.val, 0]
    ∧ win0_3.index t = ![0, t.val, 0] ∧ win0_4.index t = ![0, t.val, 0] ∧ win0_5.index t = ![0, t.val, 0] ∧ win0_6.index t = ![0, t.val, 0]
    ∧ win0_7.index t = ![0, t.val, 0] :=
  (by decide +kernel : ∀ t : Fin grid0.N, _)

/-- The operand blocks at a point, read off the arguments: the weights, the gradient and the two averages. -/
theorem blk_w (c : Dev nD) (t : Fin cfg0.N) (r : Fin 256) (k : Fin 1024) (h : t.val < 1) :
    iblk m c 0 t (ix3 0 r k) = m ((c : Thread nD τ).loc main_arg0) (ix3 0 ⟨t.val * 256 + r.val, by omega⟩ k) := by
  blk_ext [iblk, V, idx t]
@[inherit_doc blk_w] theorem blk_g (c : Dev nD) (t : Fin cfg0.N) (r : Fin 256) (k : Fin 1024) (h : t.val < 1) :
    iblk m c 1 t (ix2 r k) = m ((c : Thread nD τ).loc main_arg1) (ix2 ⟨t.val * 256 + r.val, by omega⟩ k) := by
  blk_ext [iblk, V, idx t]
@[inherit_doc blk_w] theorem blk_u (c : Dev nD) (t : Fin cfg0.N) (r : Fin 256) (k : Fin 1024) (h : t.val < 1) :
    iblk m c 2 t (ix3 0 r k) = m ((c : Thread nD τ).loc main_arg2) (ix3 0 ⟨t.val * 256 + r.val, by omega⟩ k) := by
  blk_ext [iblk, V, idx t]
@[inherit_doc blk_w] theorem blk_v (c : Dev nD) (t : Fin cfg0.N) (r : Fin 256) (k : Fin 1024) (h : t.val < 1) :
    iblk m c 3 t (ix3 0 r k) = m ((c : Thread nD τ).loc main_arg3) (ix3 0 ⟨t.val * 256 + r.val, by omega⟩ k) := by
  blk_ext [iblk, V, idx t]

/-- What a point leaves in its four results, at an entry. -/
theorem out_g (c : Dev nD) (t : Fin cfg0.N) (r : Fin 256) (k : Fin 1024) :
    (outsAt0 m c t).1 (ix3 0 r k) = iblk m c 1 t (ix2 r k) := by
  unfold outsAt0
  frame_out
  pointwise [k0_pay4]
@[inherit_doc out_g] theorem out_d (c : Dev nD) (t : Fin cfg0.N) (r : Fin 256) (k : Fin 1024) :
    (outsAt0 m c t).2.1 (ix3 0 r k)
      = step (iblk m c 0 t (ix3 0 r k)) (iblk m c 1 t (ix2 r k)) (iblk m c 2 t (ix3 0 r k)) (iblk m c 3 t (ix3 0 r k)) := by
  unfold outsAt0
  frame_out
  pointwise [k0_pay1, k0_pay5, k0_pay6, k0_pay7, step, first, second]
@[inherit_doc out_g] theorem out_u (c : Dev nD) (t : Fin cfg0.N) (r : Fin 256) (k : Fin 1024) :
    (outsAt0 m c t).2.2.1 (ix3 0 r k) = first (iblk m c 1 t (ix2 r k)) (iblk m c 2 t (ix3 0 r k)) := by
  unfold outsAt0
  frame_out
  pointwise [k0_pay2, k0_pay5, first]
@[inherit_doc out_g] theorem out_v (c : Dev nD) (t : Fin cfg0.N) (r : Fin 256) (k : Fin 1024) :
    (outsAt0 m c t).2.2.2 (ix3 0 r k) = second (iblk m c 1 t (ix2 r k)) (iblk m c 3 t (ix3 0 r k)) := by
  unfold outsAt0
  frame_out
  pointwise [k0_pay3, k0_pay6, second]

variable (w u v : FVec Ideal S1x256x1024 .f32) (g : FVec Ideal S256x1024 .f32) (r : Fin 256) (k : Fin 1024)

/-- The reference's results, at an entry. -/
theorem ref_g : Cert.AdamOutRefIdeal.Read.val_main_v0 (F := Ideal) g (ix3 0 r k) = g (ix2 r k) := by
  open Cert.AdamOutRefIdeal.Read in pointwise [val_main_v0]
@[inherit_doc ref_g] theorem ref_u : Cert.AdamOutRefIdeal.Read.val_main_v6 (F := Ideal) g u (ix3 0 r k) = first (g (ix2 r k)) (u (ix3 0 r k)) := by
  open Cert.AdamOutRefIdeal.Read in
  pointwise [val_main_v6, val_main_v5, val_main_v4, val_main_v3, val_main_v2, val_main_v1, val_main_cst, val_main_cst_0, first]
@[inherit_doc ref_g] theorem ref_v : Cert.AdamOutRefIdeal.Read.val_main_v12 (F := Ideal) g v (ix3 0 r k) = second (g (ix2 r k)) (v (ix3 0 r k)) := by
  open Cert.AdamOutRefIdeal.Read in
  pointwise [val_main_v12, val_main_v11, val_main_v10, val_main_v9, val_main_v8, val_main_v7, val_main_v1, val_main_cst_1, val_main_cst_2, second]
@[inherit_doc ref_g] theorem ref_d : Cert.AdamOutRefIdeal.Read.val_main_v25 (F := Ideal) w g u v (ix3 0 r k)
    = step (w (ix3 0 r k)) (g (ix2 r k)) (u (ix3 0 r k)) (v (ix3 0 r k)) := by
  open Cert.AdamOutRefIdeal.Read in
  pointwise [val_main_v25, val_main_v24, val_main_v23, val_main_v22, val_main_v21, val_main_v20, val_main_v19, val_main_v18, val_main_v17,
    val_main_v16, val_main_v15, val_main_v14, val_main_v13, ref_u u g r k, ref_v v g r k, val_main_cst_3, val_main_cst_4, val_main_cst_5,
    val_main_cst_6, val_main_cst_7, step]

/-- The arrays the kernel leaves are the reference's. -/
theorem final_g (c : Dev nD) : (dats m 0 c).arrAt 4 cfg0.N
    = Cert.AdamOutRefIdeal.Read.val_main_v0 (F := Ideal) (m ((c : Thread nD τ).loc main_arg1)) := by
  refine (dats m 0 c).arrAt_eq_of_covers 4 _ (by decide +kernel) fun t _ y => ?_
  obtain ⟨z, r, k, rfl⟩ : ∃ (z : Fin 1) (r : Fin 256) (k : Fin 1024), y = ix3 z r k := ⟨y 0, y 1, y 2, eq_ix3 y⟩
  obtain rfl := Subsingleton.elim z 0
  have hN : t.val < 1 := lt_of_lt_of_eq t.isLt N_0
  have e : ((cfg0.win 4).blk t).view.emb (ix3 0 r k) = (ix3 0 ⟨t.val * 256 + r.val, by omega⟩ k : S1x256x1024.Idx) := by blk_ext [idx t]
  blk_simp
  rw [after0_4]
  exact (out_g m c t r k).trans ((blk_g m c t r k hN).trans
    ((ref_g _ _ _).symm.trans (congrArg (Cert.AdamOutRefIdeal.Read.val_main_v0 (F := Ideal) _) e.symm)))
@[inherit_doc final_g] theorem final_d (c : Dev nD) : (dats m 0 c).arrAt 5 cfg0.N
    = Cert.AdamOutRefIdeal.Read.val_main_v25 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t _ y => ?_
  obtain ⟨z, r, k, rfl⟩ : ∃ (z : Fin 1) (r : Fin 256) (k : Fin 1024), y = ix3 z r k := ⟨y 0, y 1, y 2, eq_ix3 y⟩
  obtain rfl := Subsingleton.elim z 0
  have hN : t.val < 1 := lt_of_lt_of_eq t.isLt N_0
  have e : ((cfg0.win 5).blk t).view.emb (ix3 0 r k) = (ix3 0 ⟨t.val * 256 + r.val, by omega⟩ k : S1x256x1024.Idx) := by blk_ext [idx t]
  blk_simp
  rw [after0_5]
  refine (out_d m c t r k).trans (Eq.trans ?_ ((ref_d _ _ _ _ _ _).symm.trans
    (congrArg (Cert.AdamOutRefIdeal.Read.val_main_v25 (F := Ideal) _ _ _ _) e.symm)))
  rw [blk_w m c t r k hN, blk_g m c t r k hN, blk_u m c t r k hN, blk_v m c t r k hN]
@[inherit_doc final_g] theorem final_u (c : Dev nD) : (dats m 0 c).arrAt 6 cfg0.N
    = Cert.AdamOutRefIdeal.Read.val_main_v6 (F := Ideal) (m ((c : Thread nD τ).loc main_arg1)) (m ((c : Thread nD τ).loc main_arg2)) := by
  refine (dats m 0 c).arrAt_eq_of_covers 6 _ (by decide +kernel) fun t _ y => ?_
  obtain ⟨z, r, k, rfl⟩ : ∃ (z : Fin 1) (r : Fin 256) (k : Fin 1024), y = ix3 z r k := ⟨y 0, y 1, y 2, eq_ix3 y⟩
  obtain rfl := Subsingleton.elim z 0
  have hN : t.val < 1 := lt_of_lt_of_eq t.isLt N_0
  have e : ((cfg0.win 6).blk t).view.emb (ix3 0 r k) = (ix3 0 ⟨t.val * 256 + r.val, by omega⟩ k : S1x256x1024.Idx) := by blk_ext [idx t]
  blk_simp
  rw [after0_6]
  exact (out_u m c t r k).trans ((congrArg₂ first (blk_g m c t r k hN) (blk_u m c t r k hN)).trans
    ((ref_u _ _ _ _).symm.trans (congrArg (Cert.AdamOutRefIdeal.Read.val_main_v6 (F := Ideal) _ _) e.symm)))
@[inherit_doc final_g] theorem final_v (c : Dev nD) : (dats m 0 c).arrAt 7 cfg0.N
    = Cert.AdamOutRefIdeal.Read.val_main_v12 (F := Ideal) (m ((c : Thread nD τ).loc main_arg1)) (m ((c : Thread nD τ).loc main_arg3)) := by
  refine (dats m 0 c).arrAt_eq_of_covers 7 _ (by decide +kernel) fun t _ y => ?_
  obtain ⟨z, r, k, rfl⟩ : ∃ (z : Fin 1) (r : Fin 256) (k : Fin 1024), y = ix3 z r k := ⟨y 0, y 1, y 2, eq_ix3 y⟩
  obtain rfl := Subsingleton.elim z 0
  have hN : t.val < 1 := lt_of_lt_of_eq t.isLt N_0
  have e : ((cfg0.win 7).blk t).view.emb (ix3 0 r k) = (ix3 0 ⟨t.val * 256 + r.val, by omega⟩ k : S1x256x1024.Idx) := by blk_ext [idx t]
  blk_simp
  rw [after0_7]
  exact (out_v m c t r k).trans ((congrArg₂ second (blk_g m c t r k hN) (blk_v m c t r k hN)).trans
    ((ref_v _ _ _ _).symm.trans (congrArg (Cert.AdamOutRefIdeal.Read.val_main_v12 (F := Ideal) _ _) e.symm)))

end Cert.AdamOutIdeal.Update

end

end
-- ==== Proof.Adam.FfnOut.lean ====
module

public import proofs.«01_k».proof.Proof.Adam.Entry
public import proofs.«01_k».proof.Proof.Gen.AdamFfnOutIdeal.Value
public import proofs.«01_k».proof.Proof.Gen.AdamFfnOutRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AdamFfnOutIdeal.Update

open Cert.AdamFfnOutIdeal Cert.AdamFfnOutIdeal.Gen Cert.AdamEntry
open Idealize.ShloMosaic Idealize.ShloMosaic.TcCoe Idealize.SL.Sem

variable (m : (ℓ : Loc nD τ sig) → Buf (Elt Ideal) ℓ)

/-- Where the blocks lie at each point: all at row tile `t`. -/
theorem idx : ∀ t : Fin cfg0.N, win0_0.index t = ![0, t.val, 0] ∧ win0_1.index t = ![t.val, 0] ∧ win0_2.index t = ![0, t.val, 0]
    ∧ win0_3.index t = ![0, t.val, 0] ∧ win0_4.index t = ![0, t.val, 0] ∧ win0_5.index t = ![0, t.val, 0] ∧ win0_6.index t = ![0, t.val, 0]
    ∧ win0_7.index t = ![0, t.val, 0] :=
  (by decide +kernel : ∀ t : Fin grid0.N, _)

/-- The operand blocks at a point, read off the arguments: the weights, the gradient and the two averages. -/
theorem blk_w (c : Dev nD) (t : Fin cfg0.N) (r : Fin 352) (k : Fin 1024) (h : t.val < 2) :
    iblk m c 0 t (ix3 0 r k) = m ((c : Thread nD τ).loc main_arg0) (ix3 0 ⟨t.val * 352 + r.val, by omega⟩ k) := by
  blk_ext [iblk, V, idx t]
@[inherit_doc blk_w] theorem blk_g (c : Dev nD) (t : Fin cfg0.N) (r : Fin 352) (k : Fin 1024) (h : t.val < 2) :
    iblk m c 1 t (ix2 r k) = m ((c : Thread nD τ).loc main_arg1) (ix2 ⟨t.val * 352 + r.val, by omega⟩ k) := by
  blk_ext [iblk, V, idx t]
@[inherit_doc blk_w] theorem blk_u (c : Dev nD) (t : Fin cfg0.N) (r : Fin 352) (k : Fin 1024) (h : t.val < 2) :
    iblk m c 2 t (ix3 0 r k) = m ((c : Thread nD τ).loc main_arg2) (ix3 0 ⟨t.val * 352 + r.val, by omega⟩ k) := by
  blk_ext [iblk, V, idx t]
@[inherit_doc blk_w] theorem blk_v (c : Dev nD) (t : Fin cfg0.N) (r : Fin 352) (k : Fin 1024) (h : t.val < 2) :
    iblk m c 3 t (ix3 0 r k) = m ((c : Thread nD τ).loc main_arg3) (ix3 0 ⟨t.val * 352 + r.val, by omega⟩ k) := by
  blk_ext [iblk, V, idx t]

/-- What a point leaves in its four results, at an entry. -/
theorem out_g (c : Dev nD) (t : Fin cfg0.N) (r : Fin 352) (k : Fin 1024) :
    (outsAt0 m c t).1 (ix3 0 r k) = iblk m c 1 t (ix2 r k) := by
  unfold outsAt0
  frame_out
  pointwise [k0_pay4]
@[inherit_doc out_g] theorem out_d (c : Dev nD) (t : Fin cfg0.N) (r : Fin 352) (k : Fin 1024) :
    (outsAt0 m c t).2.1 (ix3 0 r k)
      = step (iblk m c 0 t (ix3 0 r k)) (iblk m c 1 t (ix2 r k)) (iblk m c 2 t (ix3 0 r k)) (iblk m c 3 t (ix3 0 r k)) := by
  unfold outsAt0
  frame_out
  pointwise [k0_pay1, k0_pay5, k0_pay6, k0_pay7, step, first, second]
@[inherit_doc out_g] theorem out_u (c : Dev nD) (t : Fin cfg0.N) (r : Fin 352) (k : Fin 1024) :
    (outsAt0 m c t).2.2.1 (ix3 0 r k) = first (iblk m c 1 t (ix2 r k)) (iblk m c 2 t (ix3 0 r k)) := by
  unfold outsAt0
  frame_out
  pointwise [k0_pay2, k0_pay5, first]
@[inherit_doc out_g] theorem out_v (c : Dev nD) (t : Fin cfg0.N) (r : Fin 352) (k : Fin 1024) :
    (outsAt0 m c t).2.2.2 (ix3 0 r k) = second (iblk m c 1 t (ix2 r k)) (iblk m c 3 t (ix3 0 r k)) := by
  unfold outsAt0
  frame_out
  pointwise [k0_pay3, k0_pay6, second]

variable (w u v : FVec Ideal S1x704x1024 .f32) (g : FVec Ideal S704x1024 .f32) (r : Fin 704) (k : Fin 1024)

/-- The reference's results, at an entry. -/
theorem ref_g : Cert.AdamFfnOutRefIdeal.Read.val_main_v0 (F := Ideal) g (ix3 0 r k) = g (ix2 r k) := by
  open Cert.AdamFfnOutRefIdeal.Read in pointwise [val_main_v0]
@[inherit_doc ref_g] theorem ref_u : Cert.AdamFfnOutRefIdeal.Read.val_main_v6 (F := Ideal) g u (ix3 0 r k) = first (g (ix2 r k)) (u (ix3 0 r k)) := by
  open Cert.AdamFfnOutRefIdeal.Read in
  pointwise [val_main_v6, val_main_v5, val_main_v4, val_main_v3, val_main_v2, val_main_v1, val_main_cst, val_main_cst_0, first]
@[inherit_doc ref_g] theorem ref_v : Cert.AdamFfnOutRefIdeal.Read.val_main_v12 (F := Ideal) g v (ix3 0 r k) = second (g (ix2 r k)) (v (ix3 0 r k)) := by
  open Cert.AdamFfnOutRefIdeal.Read in
  pointwise [val_main_v12, val_main_v11, val_main_v10, val_main_v9, val_main_v8, val_main_v7, val_main_v1, val_main_cst_1, val_main_cst_2, second]
@[inherit_doc ref_g] theorem ref_d : Cert.AdamFfnOutRefIdeal.Read.val_main_v25 (F := Ideal) w g u v (ix3 0 r k)
    = step (w (ix3 0 r k)) (g (ix2 r k)) (u (ix3 0 r k)) (v (ix3 0 r k)) := by
  open Cert.AdamFfnOutRefIdeal.Read in
  pointwise [val_main_v25, val_main_v24, val_main_v23, val_main_v22, val_main_v21, val_main_v20, val_main_v19, val_main_v18, val_main_v17,
    val_main_v16, val_main_v15, val_main_v14, val_main_v13, ref_u u g r k, ref_v v g r k, val_main_cst_3, val_main_cst_4, val_main_cst_5,
    val_main_cst_6, val_main_cst_7, step]

/-- The arrays the kernel leaves are the reference's. -/
theorem final_g (c : Dev nD) : (dats m 0 c).arrAt 4 cfg0.N
    = Cert.AdamFfnOutRefIdeal.Read.val_main_v0 (F := Ideal) (m ((c : Thread nD τ).loc main_arg1)) := by
  refine (dats m 0 c).arrAt_eq_of_covers 4 _ (by decide +kernel) fun t _ y => ?_
  obtain ⟨z, r, k, rfl⟩ : ∃ (z : Fin 1) (r : Fin 352) (k : Fin 1024), y = ix3 z r k := ⟨y 0, y 1, y 2, eq_ix3 y⟩
  obtain rfl := Subsingleton.elim z 0
  have hN : t.val < 2 := lt_of_lt_of_eq t.isLt N_0
  have e : ((cfg0.win 4).blk t).view.emb (ix3 0 r k) = (ix3 0 ⟨t.val * 352 + r.val, by omega⟩ k : S1x704x1024.Idx) := by blk_ext [idx t]
  blk_simp
  rw [after0_4]
  exact (out_g m c t r k).trans ((blk_g m c t r k hN).trans
    ((ref_g _ _ _).symm.trans (congrArg (Cert.AdamFfnOutRefIdeal.Read.val_main_v0 (F := Ideal) _) e.symm)))
@[inherit_doc final_g] theorem final_d (c : Dev nD) : (dats m 0 c).arrAt 5 cfg0.N
    = Cert.AdamFfnOutRefIdeal.Read.val_main_v25 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t _ y => ?_
  obtain ⟨z, r, k, rfl⟩ : ∃ (z : Fin 1) (r : Fin 352) (k : Fin 1024), y = ix3 z r k := ⟨y 0, y 1, y 2, eq_ix3 y⟩
  obtain rfl := Subsingleton.elim z 0
  have hN : t.val < 2 := lt_of_lt_of_eq t.isLt N_0
  have e : ((cfg0.win 5).blk t).view.emb (ix3 0 r k) = (ix3 0 ⟨t.val * 352 + r.val, by omega⟩ k : S1x704x1024.Idx) := by blk_ext [idx t]
  blk_simp
  rw [after0_5]
  refine (out_d m c t r k).trans (Eq.trans ?_ ((ref_d _ _ _ _ _ _).symm.trans
    (congrArg (Cert.AdamFfnOutRefIdeal.Read.val_main_v25 (F := Ideal) _ _ _ _) e.symm)))
  rw [blk_w m c t r k hN, blk_g m c t r k hN, blk_u m c t r k hN, blk_v m c t r k hN]
@[inherit_doc final_g] theorem final_u (c : Dev nD) : (dats m 0 c).arrAt 6 cfg0.N
    = Cert.AdamFfnOutRefIdeal.Read.val_main_v6 (F := Ideal) (m ((c : Thread nD τ).loc main_arg1)) (m ((c : Thread nD τ).loc main_arg2)) := by
  refine (dats m 0 c).arrAt_eq_of_covers 6 _ (by decide +kernel) fun t _ y => ?_
  obtain ⟨z, r, k, rfl⟩ : ∃ (z : Fin 1) (r : Fin 352) (k : Fin 1024), y = ix3 z r k := ⟨y 0, y 1, y 2, eq_ix3 y⟩
  obtain rfl := Subsingleton.elim z 0
  have hN : t.val < 2 := lt_of_lt_of_eq t.isLt N_0
  have e : ((cfg0.win 6).blk t).view.emb (ix3 0 r k) = (ix3 0 ⟨t.val * 352 + r.val, by omega⟩ k : S1x704x1024.Idx) := by blk_ext [idx t]
  blk_simp
  rw [after0_6]
  exact (out_u m c t r k).trans ((congrArg₂ first (blk_g m c t r k hN) (blk_u m c t r k hN)).trans
    ((ref_u _ _ _ _).symm.trans (congrArg (Cert.AdamFfnOutRefIdeal.Read.val_main_v6 (F := Ideal) _ _) e.symm)))
@[inherit_doc final_g] theorem final_v (c : Dev nD) : (dats m 0 c).arrAt 7 cfg0.N
    = Cert.AdamFfnOutRefIdeal.Read.val_main_v12 (F := Ideal) (m ((c : Thread nD τ).loc main_arg1)) (m ((c : Thread nD τ).loc main_arg3)) := by
  refine (dats m 0 c).arrAt_eq_of_covers 7 _ (by decide +kernel) fun t _ y => ?_
  obtain ⟨z, r, k, rfl⟩ : ∃ (z : Fin 1) (r : Fin 352) (k : Fin 1024), y = ix3 z r k := ⟨y 0, y 1, y 2, eq_ix3 y⟩
  obtain rfl := Subsingleton.elim z 0
  have hN : t.val < 2 := lt_of_lt_of_eq t.isLt N_0
  have e : ((cfg0.win 7).blk t).view.emb (ix3 0 r k) = (ix3 0 ⟨t.val * 352 + r.val, by omega⟩ k : S1x704x1024.Idx) := by blk_ext [idx t]
  blk_simp
  rw [after0_7]
  exact (out_v m c t r k).trans ((congrArg₂ second (blk_g m c t r k hN) (blk_v m c t r k hN)).trans
    ((ref_v _ _ _ _).symm.trans (congrArg (Cert.AdamFfnOutRefIdeal.Read.val_main_v12 (F := Ideal) _ _) e.symm)))

end Cert.AdamFfnOutIdeal.Update

end

end
-- ==== Proof.Mem.Run.lean ====
module

public import proofs.«01_k».proof.Proof.Gen.MemAttnIdeal.Frame

@[expose] public section

set_option maxRecDepth 16384

noncomputable section

namespace Cert.MemAttnIdeal.Mem

open Cert.MemAttnIdeal Cert.MemAttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with its memory: every buffer outside the kernels' own scopes ends as the last boundary has it. -/
theorem run_memory : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

end Cert.MemAttnIdeal.Mem

end
-- ==== Proof.Mem.Tile.lean ====
module

public import proofs.«01_k».proof.Proof.Gen.MemAttnIdeal.Skeleton
public import Idealize.ShloMosaic.Lib.Pointwise

@[expose] public section

set_option maxRecDepth 16384

noncomputable section

namespace Cert.MemAttnIdeal.Mem

open Cert.MemAttnIdeal Cert.MemAttnIdeal.Gen
open Idealize.ShloMosaic Idealize.ShloMosaic.TcCoe Idealize.SL.Sem

/-- The head a lane belongs to. -/
def hd (l : Fin 256) : Fin 4 := ⟨l.val / 64, by omega⟩
/-- The lane of entry `d` of head `h`. -/
def lane (h : Fin 4) (d : Fin 64) : Fin 256 := ⟨h.val * 64 + d.val, by omega⟩

theorem hd_lane (h : Fin 4) (d : Fin 64) : hd (lane h d) = h := by
  apply Fin.ext; show (h.val * 64 + d.val) / 64 = h.val; omega
/-- Every lane is some head's. -/
theorem lane_of (l : Fin 256) : ∃ d, l = lane (hd l) d :=
  ⟨⟨l.val % 64, by omega⟩, Fin.ext (by show l.val = l.val / 64 * 64 + l.val % 64; omega)⟩

/-- A sum over the lanes masked to one head is the sum over that head's entries. -/
theorem sum_head (h : Fin 4) (f : Fin 256 → EReal) : ∑ l : Fin 256, (if hd l = h then f l else 0) = ∑ d : Fin 64, f (lane h d) := by
  rw [← Finset.sum_filter]
  refine Finset.sum_nbij' (fun l => ⟨l.val % 64, by omega⟩) (lane h) (fun _ _ => Finset.mem_univ _) (fun d _ => ?_) (fun l hl => ?_) (fun d _ => ?_) (fun l hl => ?_)
  · exact Finset.mem_filter.2 ⟨Finset.mem_univ _, hd_lane h d⟩
  · have e : l.val / 64 = h.val := congrArg Fin.val (Finset.mem_filter.1 hl).2
    apply Fin.ext; show h.val * 64 + l.val % 64 = l.val; omega
  · apply Fin.ext; show (h.val * 64 + d.val) % 64 = d.val; omega
  · have e : l.val / 64 = h.val := congrArg Fin.val (Finset.mem_filter.1 hl).2
    refine congrArg f (Fin.ext ?_); show l.val = h.val * 64 + l.val % 64; omega

/-- Choosing by a bit that says whether `p` holds. -/
theorem select_bit {p : Prop} [Decidable p] (a b : EReal) : Scalar.select (if p then 1#1 else 0#1) a b = if p then a else b := by
  by_cases h : p <;> simp [h, Scalar.select]

/-- `m` says of each lane whether it is one of head `h`'s. -/
def IsHead (m : IVec S1x256 1) (h : Fin 4) : Prop := ∀ l, m (ix2 0 l) = if hd l = h then 1#1 else 0#1

/-- A comparison of the lane's number with a head's first lane and the next head's. -/
theorem bit (h : Fin 4) (l : Fin 256) (a b : BitVec 32) (ha : a = BitVec.ofNat 32 (h.val * 64)) (hb : b = BitVec.ofNat 32 (h.val * 64 + 64)) :
    IntOp.andi (IntOp.cmpi .sge (BitVec.ofNat 32 l.val) a) (IntOp.cmpi .slt (BitVec.ofNat 32 l.val) b) = if hd l = h then 1#1 else 0#1 := by
  subst ha hb; revert h l; decide +kernel

/-- The masks the kernel makes. -/
theorem m13 : IsHead k1_pay13 0 := fun l => by pointwise [k1_pay13]; exact bit 0 l _ _ rfl rfl
@[inherit_doc m13] theorem m14 : IsHead k1_pay14 1 := fun l => by pointwise [k1_pay14]; exact bit 1 l _ _ rfl rfl
@[inherit_doc m13] theorem m15 : IsHead k1_pay15 2 := fun l => by pointwise [k1_pay15]; exact bit 2 l _ _ rfl rfl
@[inherit_doc m13] theorem m16 : IsHead k1_pay16 3 := fun l => by pointwise [k1_pay16]; exact bit 3 l _ _ rfl rfl
/-- The lanes' numbers. -/
abbrev lanes : IVec S1x256 32 := iota .tc S1x256 32 [1] iota_S1x256_d1_w32
@[inherit_doc m13] theorem m44 : IsHead k1_pay44 0 := fun l => by pointwise [k1_pay44]; exact bit 0 l _ _ rfl rfl
@[inherit_doc m13] theorem m45 : IsHead (k1_pay45 lanes 64#32) 1 := fun l => by pointwise [k1_pay45, lanes]; exact bit 1 l _ _ rfl rfl
@[inherit_doc m13] theorem m46 : IsHead (k1_pay46 lanes) 2 := fun l => by pointwise [k1_pay46, lanes]; exact bit 2 l _ _ rfl rfl
@[inherit_doc m13] theorem m47 : IsHead (k1_pay47 lanes) 3 := fun l => by pointwise [k1_pay47, lanes]; exact bit 3 l _ _ rfl rfl

/-- The mean square of head `h` of a row, and the reciprocal root of it. -/
def ms (x : Fin 256 → EReal) (h : Fin 4) : EReal :=
  (∑ d : Fin 64, x (lane h d) * x (lane h d)) * Ideal.ofBits .f32 0x3C800000#32 + Ideal.ofBits .f32 0x358637BD#32
@[inherit_doc ms] def rs (x : Fin 256 → EReal) (h : Fin 4) : EReal := Ideal.rsqrt (ms x h)
/-- A row normalised head by head, and scaled by the gain. -/
def nrm (x : Fin 256 → EReal) (l : Fin 256) : EReal := x l * rs x (hd l)
@[inherit_doc nrm] def unit (x g : Fin 256 → EReal) (l : Fin 256) : EReal := nrm x l * g l

variable (X K V D : Vec Ideal S256x256 .f32) (G H : Vec Ideal S1x256 .f32)

/-- Row `r` of a tile. -/
abbrev row (X : Vec Ideal S256x256 .f32) (r : Fin 256) : Fin 256 → EReal := fun l => X (ix2 r l)
/-- The one row of a gain. -/
abbrev gain (G : Vec Ideal S1x256 .f32) : Fin 256 → EReal := fun l => G (ix2 0 l)

/-- The queries' reciprocal roots, as the kernel takes them for each head. -/
theorem q0_at (r : Fin 256) : k1_pay21 (k1_pay17 X) k1_pay18 (k1_pay19 (F := Ideal)) (ix2 r 0) = rs (row X r) 0 := by
  pointwise [k1_pay21, k1_pay20, k1_pay17, k1_pay18, k1_pay19]
  simp only [m13 _, select_bit, sum_head]; rfl
@[inherit_doc q0_at] theorem q1_at {m : IVec S1x256 1} {h : Fin 4} (e : IsHead m h) (r : Fin 256) : k1_pay26 X m (ix2 r 0) = rs (row X r) h := by
  pointwise [k1_pay26, k1_pay25, k1_pay24]
  simp only [e _, select_bit, sum_head]; rfl
@[inherit_doc q0_at] theorem q2_at {m : IVec S1x256 1} {h : Fin 4} (e : IsHead m h) (r : Fin 256) : k1_pay33 (k1_pay31 X m) (ix2 r 0) = rs (row X r) h := by
  pointwise [k1_pay33, k1_pay32, k1_pay31, k1_pay30]
  simp only [e _, select_bit, sum_head]; rfl
@[inherit_doc q0_at] theorem q3_at {m : IVec S1x256 1} {h : Fin 4} (e : IsHead m h) (r : Fin 256) : k1_pay38 X m (ix2 r 0) = rs (row X r) h := by
  pointwise [k1_pay38, k1_pay37, k1_pay36]
  simp only [e _, select_bit, sum_head]; rfl

/-- Exactly one of four terms that are zero outside their head is left. -/
theorem pick (l : Fin 256) (a : Fin 4 → EReal) :
    (((if hd l = 0 then a 0 else 0) + if hd l = 1 then a 1 else 0) + if hd l = 2 then a 2 else 0) + (if hd l = 3 then a 3 else 0) = a (hd l) := by
  generalize hd l = h
  fin_cases h <;> simp

/-- The same with the terms in the other order. -/
theorem pick' (l : Fin 256) (a : Fin 4 → EReal) :
    (((if hd l = 3 then a 3 else 0) + if hd l = 2 then a 2 else 0) + if hd l = 1 then a 1 else 0) + (if hd l = 0 then a 0 else 0) = a (hd l) := by
  generalize hd l = h
  fin_cases h <;> simp

/-- The queries normalised, and with the gain. -/
def qTwo := k1_pay29 X (k1_pay12 (F := Ideal)) k1_pay13 k1_pay14 (k1_pay17 X) k1_pay18 (k1_pay19 (F := Ideal))
@[inherit_doc qTwo] def qNrm := k1_pay41 X k1_pay15 k1_pay16 (qTwo X) (k1_pay31 X k1_pay15)
@[inherit_doc qTwo] def qUnit := k1_pay42 X (k1_pay10 G) k1_pay15 k1_pay16 (qTwo X) (k1_pay31 X k1_pay15)

theorem qNrm_at (r l : Fin 256) : qNrm X (ix2 r l) = nrm (row X r) l := by
  pointwise [qNrm, qTwo, k1_pay41, k1_pay29, k1_pay35, k1_pay40, k1_pay23, k1_pay28, k1_pay12]
  simp only [q0_at, q1_at X m14, q2_at X m15, q3_at X m16, m13 _, m14 _, m15 _, m16 _, select_bit]
  exact pick l fun h => X (ix2 r l) * rs (row X r) h
theorem qUnit_at (r l : Fin 256) : qUnit X G (ix2 r l) = unit (row X r) (gain G) l := by
  show k1_pay42 X (k1_pay10 G) k1_pay15 k1_pay16 (qTwo X) (k1_pay31 X k1_pay15) (ix2 r l) = _
  have e : k1_pay42 X (k1_pay10 G) k1_pay15 k1_pay16 (qTwo X) (k1_pay31 X k1_pay15) (ix2 r l) = qNrm X (ix2 r l) * G (ix2 0 l) := by
    pointwise [k1_pay42, k1_pay10]; rfl
  rw [e, qNrm_at]; rfl

/-- The keys normalised, and with the gain. -/
theorem k0_at {m : IVec S1x256 1} {h : Fin 4} (e : IsHead m h) (r : Fin 256) : k1_pay50 K m (ix2 r 0) = rs (row K r) h := by
  pointwise [k1_pay50, k1_pay49, k1_pay48]
  simp only [e _, select_bit, sum_head]; rfl
@[inherit_doc k0_at] theorem k1_at {h : Fin 4} (e : IsHead (k1_pay45 lanes 64#32) h) (r : Fin 256) : k1_pay57 (k1_pay55 K lanes 64#32) (ix2 r 0) = rs (row K r) h := by
  pointwise [k1_pay57, k1_pay56, k1_pay55, k1_pay54]
  simp only [e _, select_bit, sum_head]; rfl
@[inherit_doc k0_at] theorem k2_at {m : IVec S1x256 1} {h : Fin 4} (e : IsHead m h) (r : Fin 256) : k1_pay62 K m (ix2 r 0) = rs (row K r) h := by
  pointwise [k1_pay62, k1_pay61, k1_pay60]
  simp only [e _, select_bit, sum_head]; rfl
@[inherit_doc k0_at] theorem k3_at {m : IVec S1x256 1} {h : Fin 4} (e : IsHead m h) (r : Fin 256) : k1_pay68 K m (ix2 r 0) = rs (row K r) h := by
  pointwise [k1_pay68, k1_pay67, k1_pay66]
  simp only [e _, select_bit, sum_head]; rfl
def kThree := k1_pay65 K (k1_pay45 lanes 64#32) (k1_pay46 lanes) (k1_pay53 K (k1_pay43 (F := Ideal)) k1_pay44) (k1_pay55 K lanes 64#32)
def kUnit := k1_pay72 K (k1_pay11 H) (k1_pay47 lanes) (kThree K) (k1_pay68 K (k1_pay47 lanes))
theorem kUnit_at (r l : Fin 256) : kUnit K H (ix2 r l) = unit (row K r) (gain H) l := by
  pointwise [kUnit, kThree, k1_pay72, k1_pay71, k1_pay70, k1_pay65, k1_pay64, k1_pay59, k1_pay53, k1_pay52, k1_pay43, k1_pay11]
  simp only [k0_at K m44, k1_at K m45, k2_at K m46, k3_at K m47, m44 _, m45 _, m46 _, m47 _, select_bit]
  exact congrArg (· * _) (pick l fun h => K (ix2 r l) * rs (row K r) h)

/-- The score of a query against key `m` in head `h`, its largest, and its softmax. -/
def sc (q : Fin 256 → EReal) (k : Fin 256 → Fin 256 → EReal) (h : Fin 4) (m : Fin 256) : EReal :=
  (∑ d : Fin 64, q (lane h d) * k m (lane h d)) * Ideal.ofBits .f32 0x3E000000#32
@[inherit_doc sc] def top (q : Fin 256 → EReal) (k : Fin 256 → Fin 256 → EReal) (h : Fin 4) : EReal :=
  (Finset.univ : Finset (Fin 256)).fold max (Ideal.ofBits .f32 0xFF800000#32) (sc q k h)
@[inherit_doc sc] def ex (q : Fin 256 → EReal) (k : Fin 256 → Fin 256 → EReal) (h : Fin 4) (m : Fin 256) : EReal :=
  Ideal.exp (sc q k h m - top q k h)
@[inherit_doc sc] def tot (q : Fin 256 → EReal) (k : Fin 256 → Fin 256 → EReal) (h : Fin 4) : EReal := ∑ m, ex q k h m
@[inherit_doc sc] def pr (q : Fin 256 → EReal) (k : Fin 256 → Fin 256 → EReal) (h : Fin 4) (m : Fin 256) : EReal :=
  Ideal.div (ex q k h m) (tot q k h)

/-- Row `r` of head `h` in the heads' rows laid one head after the other. -/
def hrow (h : Fin 4) (r : Fin 256) : Fin 1024 := ⟨h.val * 256 + r.val, by omega⟩

/-- The zero the kernel fills with. -/
abbrev nought : Ideal .f32 := Scalar.ofBits .f32 0x00000000#32
variable (Q N : FVec Ideal S256x256 .f32)
/-- The heads' rows, one head after the other, each zero outside its lanes. -/
def qRows := k1_pay81 Q (k1_pay74 Q) (k1_pay76 Q) (k1_pay78 Q) nought k1_pay79
theorem qRows_at (h : Fin 4) (r l : Fin 256) : qRows Q (ix2 (hrow h r) l) = if hd l = h then Q (ix2 r l) else 0 := by
  have b0 := bit 0 l 0#32 64#32 rfl rfl
  have b1 := bit 1 l 64#32 128#32 rfl rfl
  have b2 := bit 2 l 128#32 192#32 rfl rfl
  have b3 := bit 3 l 192#32 256#32 rfl rfl
  fin_cases h <;> pointwise [qRows, hrow, k1_pay81, k1_pay74, k1_pay76, k1_pay78, k1_pay80, k1_pay73, k1_pay75, k1_pay77, k1_pay79]
  all_goals simp only [b0, b1, b2, b3, select_bit]
  · have a : ¬ 512 + r.val < 256 := by omega
    have b : ¬ 512 + r.val - 256 < 256 := by omega
    have c : 512 + r.val - 256 - 256 < 256 := by omega
    have e : (⟨512 + r.val - 256 - 256, c⟩ : Fin 256) = r := Fin.ext (by show 512 + r.val - 256 - 256 = r.val; omega)
    rw [dif_neg a, dif_neg b, dif_pos c, e]
  · have a : ¬ 768 + r.val < 256 := by omega
    have b : ¬ 768 + r.val - 256 < 256 := by omega
    have c : ¬ 768 + r.val - 256 - 256 < 256 := by omega
    have e : (⟨768 + r.val - 256 - 256 - 256, by omega⟩ : Fin 256) = r := Fin.ext (by show 768 + r.val - 256 - 256 - 256 = r.val; omega)
    rw [dif_neg a, dif_neg b, dif_neg c, e]

/-- A sum against rows that are zero outside head `h`'s lanes. -/
theorem sum_masked (h : Fin 4) (f g : Fin 256 → EReal) : ∑ l : Fin 256, (if hd l = h then f l else 0) * g l = ∑ d : Fin 64, f (lane h d) * g (lane h d) := by
  rw [← sum_head h fun l => f l * g l]
  refine Finset.sum_congr rfl fun l _ => ?_
  split <;> simp
@[inherit_doc sum_masked] theorem sum_masked' (h : Fin 4) (f g : Fin 256 → EReal) : ∑ l : Fin 256, g l * (if hd l = h then f l else 0) = ∑ d : Fin 64, g (lane h d) * f (lane h d) := by
  rw [← sum_head h fun l => g l * f l]
  refine Finset.sum_congr rfl fun l _ => ?_
  split <;> simp

/-- The exponentials of the scores, their sums, and the softmax. -/
def exps := k1_pay82 Q N (k1_pay74 Q) (k1_pay76 Q) (k1_pay78 Q) nought k1_pay79
@[inherit_doc exps] def sums := k1_pay83 Q N (k1_pay74 Q) (k1_pay76 Q) (k1_pay78 Q) nought k1_pay79
@[inherit_doc exps] def soft := k1_pay84 Q N (k1_pay74 Q) (k1_pay76 Q) (k1_pay78 Q) nought k1_pay79
@[inherit_doc exps] def invs := k1_pay85 Q N (k1_pay74 Q) (k1_pay76 Q) (k1_pay78 Q) nought k1_pay79

/-- The rows of a tile, by number. -/
abbrev rows (N : FVec Ideal S256x256 .f32) : Fin 256 → Fin 256 → EReal := fun m l => N (ix2 m l)

theorem nought_eq : nought = (0 : EReal) := by simp [Scalar.ofBits, Ideal.ofBits, Ideal.ieee]
@[inherit_doc qRows_at] theorem qRows_zero (h : Fin 4) (r l : Fin 256) :
    k1_pay81 Q (k1_pay74 Q) (k1_pay76 Q) (k1_pay78 Q) (0 : EReal) k1_pay79 (ix2 (hrow h r) l) = if hd l = h then Q (ix2 r l) else 0 :=
  (congrArg (fun z : EReal => k1_pay81 Q (k1_pay74 Q) (k1_pay76 Q) (k1_pay78 Q) z k1_pay79 (ix2 (hrow h r) l)) nought_eq.symm).trans (qRows_at Q h r l)

theorem exps_at (h : Fin 4) (r m : Fin 256) : exps Q N (ix2 (hrow h r) m) = ex (row Q r) (rows N) h m := by
  pointwise [exps, k1_pay82]
  simp only [qRows_zero, sum_masked]; rfl
theorem sums_at (h : Fin 4) (r : Fin 256) : sums Q N (ix2 (hrow h r) 0) = tot (row Q r) (rows N) h := by
  have e : sums Q N (ix2 (hrow h r) 0) = ∑ m : Fin 256, exps Q N (ix2 (hrow h r) m) := by
    show k1_pay83 Q N (k1_pay74 Q) (k1_pay76 Q) (k1_pay78 Q) nought k1_pay79 (ix2 (hrow h r) 0) = ∑ m : Fin 256, k1_pay82 Q N (k1_pay74 Q) (k1_pay76 Q) (k1_pay78 Q) nought k1_pay79 (ix2 (hrow h r) m)
    generalize nought = z
    pointwise [k1_pay83]
  rw [e]; exact Finset.sum_congr rfl fun m _ => exps_at Q N h r m
theorem soft_at (h : Fin 4) (r m : Fin 256) : soft Q N (ix2 (hrow h r) m) = pr (row Q r) (rows N) h m := by
  have e : soft Q N (ix2 (hrow h r) m) = Ideal.div (exps Q N (ix2 (hrow h r) m)) (sums Q N (ix2 (hrow h r) 0)) := by
    show k1_pay84 Q N (k1_pay74 Q) (k1_pay76 Q) (k1_pay78 Q) nought k1_pay79 (ix2 (hrow h r) m) = Ideal.div (k1_pay82 Q N (k1_pay74 Q) (k1_pay76 Q) (k1_pay78 Q) nought k1_pay79 (ix2 (hrow h r) m)) (k1_pay83 Q N (k1_pay74 Q) (k1_pay76 Q) (k1_pay78 Q) nought k1_pay79 (ix2 (hrow h r) 0))
    generalize nought = z
    pointwise [k1_pay84]
  rw [e, exps_at, sums_at]; rfl
theorem invs_at (h : Fin 4) (r : Fin 256) : invs Q N (ix2 (hrow h r) 0) = Ideal.div (Ideal.ofBits .f32 0x3F800000#32) (tot (row Q r) (rows N) h * tot (row Q r) (rows N) h) := by
  have e : invs Q N (ix2 (hrow h r) 0) = Ideal.div (Ideal.ofBits .f32 0x3F800000#32) (sums Q N (ix2 (hrow h r) 0) * sums Q N (ix2 (hrow h r) 0)) := by
    show k1_pay85 Q N (k1_pay74 Q) (k1_pay76 Q) (k1_pay78 Q) nought k1_pay79 (ix2 (hrow h r) 0) = Ideal.div _ (k1_pay83 Q N (k1_pay74 Q) (k1_pay76 Q) (k1_pay78 Q) nought k1_pay79 (ix2 (hrow h r) 0) * k1_pay83 Q N (k1_pay74 Q) (k1_pay76 Q) (k1_pay78 Q) nought k1_pay79 (ix2 (hrow h r) 0))
    generalize nought = z
    pointwise [k1_pay85]
  rw [e, sums_at]

/-- The heads' rows of the gradient handed down, one head after the other, each zero outside its lanes. -/
def dRows := k1_pay90 k1_pay86 k1_pay87 k1_pay88 k1_pay89 D
theorem dRows_at (h : Fin 4) (r l : Fin 256) : dRows D (ix2 (hrow h r) l) = if hd l = h then D (ix2 r l) else 0 := by
  have b0 := bit 0 l 0#32 64#32 rfl rfl
  have b1 := bit 1 l 64#32 128#32 rfl rfl
  have b2 := bit 2 l 128#32 192#32 rfl rfl
  have b3 := bit 3 l 192#32 256#32 rfl rfl
  fin_cases h <;> pointwise [dRows, hrow, k1_pay90, k1_pay86, k1_pay87, k1_pay88, k1_pay89]
  all_goals simp only [b0, b1, b2, b3, select_bit]
  all_goals split_ifs <;> first | (exfalso; omega) | simp

/-- The gradient of the softmax in head `h`: `d` is the row handed down, `v` the values. -/
def dp (v : Fin 256 → Fin 256 → EReal) (d : Fin 256 → EReal) (h : Fin 4) (m : Fin 256) : EReal := ∑ i : Fin 64, d (lane h i) * v m (lane h i)
/-- What the softmax's sum sends back to each exponential. -/
def back (q : Fin 256 → EReal) (k v : Fin 256 → Fin 256 → EReal) (d : Fin 256 → EReal) (h : Fin 4) : EReal :=
  -∑ m : Fin 256, dp v d h m * Ideal.div (Ideal.ofBits .f32 0x3F800000#32) (tot q k h * tot q k h) * ex q k h m
/-- The gradient of the score against key `m`. -/
def ds (q : Fin 256 → EReal) (k v : Fin 256 → Fin 256 → EReal) (d : Fin 256 → EReal) (h : Fin 4) (m : Fin 256) : EReal :=
  (Ideal.div (dp v d h m) (tot q k h) + back q k v d h) * ex q k h m * Ideal.ofBits .f32 0x3E000000#32
/-- The gradient of the query with its gain. -/
def dq (q : Fin 256 → EReal) (k v : Fin 256 → Fin 256 → EReal) (d : Fin 256 → EReal) (l : Fin 256) : EReal := ∑ m : Fin 256, ds q k v d (hd l) m * k m l

/-- The gradients of the weights, one head's rows after the other's. -/
def dps := k1_pay91 V k1_pay86 k1_pay87 k1_pay88 k1_pay89 D
theorem dps_at (h : Fin 4) (r m : Fin 256) : dps V D (ix2 (hrow h r) m) = dp (rows V) (row D r) h m := by
  have e : dps V D (ix2 (hrow h r) m) = ∑ l : Fin 256, dRows D (ix2 (hrow h r) l) * V (ix2 m l) := by
    pointwise [dps, k1_pay91]; rfl
  rw [e]; simp only [dRows_at, sum_masked]; rfl

/-- The values' gradient one tile adds. -/
def dvs := k1_pay92 (soft Q N) k1_pay86 k1_pay87 k1_pay88 k1_pay89 D
theorem dvs_at (m l : Fin 256) : dvs D Q N (ix2 m l) = ∑ r : Fin 256, pr (row Q r) (rows N) (hd l) m * D (ix2 r l) := by
  have e : dvs D Q N (ix2 m l) = ∑ x : Fin 1024, soft Q N (ix2 x m) * dRows D (ix2 x l) := by
    pointwise [dvs, k1_pay92]; rfl
  have t (h : Fin 4) (r : Fin 256) : soft Q N (ix2 (hrow h r) m) * dRows D (ix2 (hrow h r) l) = if h = hd l then pr (row Q r) (rows N) (hd l) m * D (ix2 r l) else 0 := by
    rw [soft_at, dRows_at]
    by_cases g : hd l = h
    · subst g; simp
    · rw [if_neg g, if_neg fun h => g h.symm]; simp
  rw [e, Fin.sum_univ_tiles (N := 1024) 4 256 (by norm_num)]
  refine (Finset.sum_congr rfl fun h _ => Finset.sum_congr rfl fun r _ => (?_ : _ = if h = hd l then pr (row Q r) (rows N) (hd l) m * D (ix2 r l) else 0)).trans ?_
  · exact t h r
  · rw [Finset.sum_eq_single (hd l) (fun h _ g => by simp [g]) (by simp)]; simp

/-- The scores' gradients. -/
def divs := k1_pay93 V (sums Q N) k1_pay86 k1_pay87 k1_pay88 k1_pay89 D
@[inherit_doc divs] def negs := k1_pay94 V (exps Q N) (invs Q N) k1_pay86 k1_pay87 k1_pay88 k1_pay89 D
@[inherit_doc divs] def dss := k1_pay95 (exps Q N) (divs V D Q N) (negs V D Q N)
theorem divs_at (h : Fin 4) (r m : Fin 256) : divs V D Q N (ix2 (hrow h r) m) = Ideal.div (dp (rows V) (row D r) h m) (tot (row Q r) (rows N) h) := by
  have e : divs V D Q N (ix2 (hrow h r) m) = Ideal.div (dps V D (ix2 (hrow h r) m)) (sums Q N (ix2 (hrow h r) 0)) := by
    pointwise [divs, k1_pay93]; rfl
  rw [e, dps_at, sums_at]
theorem negs_at (h : Fin 4) (r : Fin 256) : negs V D Q N (ix1 (hrow h r)) = back (row Q r) (rows N) (rows V) (row D r) h := by
  have e : negs V D Q N (ix1 (hrow h r)) = 0 - ∑ m : Fin 256, dps V D (ix2 (hrow h r) m) * invs Q N (ix2 (hrow h r) 0) * exps Q N (ix2 (hrow h r) m) := by
    pointwise [negs, k1_pay94, Finset.univ_unique, Finset.sum_singleton]
    rfl
  rw [e]; simp only [dps_at, invs_at, exps_at, zero_sub]; rfl
theorem dss_at (h : Fin 4) (r m : Fin 256) : dss V D Q N (ix2 (hrow h r) m) = ds (row Q r) (rows N) (rows V) (row D r) h m := by
  have e : dss V D Q N (ix2 (hrow h r) m) = (divs V D Q N (ix2 (hrow h r) m) + negs V D Q N (ix1 (hrow h r))) * exps Q N (ix2 (hrow h r) m) * Ideal.ofBits .f32 0x3E000000#32 := by
    pointwise [dss, k1_pay95]
  rw [e, divs_at, negs_at, exps_at]; rfl

/-- The gradient of the queries with their gain. -/
def dqs := k1_pay97 N k1_pay73 k1_pay75 k1_pay77 (k1_pay80 k1_pay79) (exps Q N) (divs V D Q N) (negs V D Q N)
theorem dqs_at (r l : Fin 256) : dqs V D Q N (ix2 r l) = dq (row Q r) (rows N) (rows V) (row D r) l := by
  have b0 := bit 0 l 0#32 64#32 rfl rfl
  have b1 := bit 1 l 64#32 128#32 rfl rfl
  have b2 := bit 2 l 128#32 192#32 rfl rfl
  have b3 := bit 3 l 192#32 256#32 rfl rfl
  have z : hrow 0 r = ⟨r.val, by omega⟩ := Fin.ext (by show 0 * 256 + r.val = r.val; omega)
  have e (h : Fin 4) : ∑ m : Fin 256, k1_pay95 (exps Q N) (divs V D Q N) (negs V D Q N) (ix2 (hrow h r) m) * N (ix2 m l)
      = ∑ m : Fin 256, ds (row Q r) (rows N) (rows V) (row D r) h m * N (ix2 m l) :=
    Finset.sum_congr rfl fun m _ => congrArg (· * N (ix2 m l)) (dss_at V D Q N h r m)
  pointwise [dqs, k1_pay97, k1_pay73, k1_pay75, k1_pay77, k1_pay80, k1_pay79]
  simp only [b0, b1, b2, b3, select_bit]
  rw [← z]
  exact (pick' l fun h => ∑ m : Fin 256, k1_pay95 (exps Q N) (divs V D Q N) (negs V D Q N) (ix2 (hrow h r) m) * N (ix2 m l)).trans (e (hd l))

/-- The gain's gradient one tile adds. -/
def dgs := k1_pay107 (qNrm X) D
theorem dgs_at (l : Fin 256) : dgs X D (ix2 0 l) = ∑ r : Fin 256, nrm (row X r) l * D (ix2 r l) := by
  pointwise [dgs, k1_pay107]
  simp only [qNrm_at]

/-- What the mean square sends back to each entry of a head, and the gradient of a normalised row: `y` is the gradient of the normalised row. -/
def cf (x y : Fin 256 → EReal) (h : Fin 4) : EReal :=
  (∑ d : Fin 64, x (lane h d) * y (lane h d)) * (Ideal.ofBits .f32 0xBF000000#32 * Ideal.div (rs x h) (ms x h)) * Ideal.ofBits .f32 0x3C800000#32
@[inherit_doc cf] def dx (x y : Fin 256 → EReal) (l : Fin 256) : EReal := y l * rs x (hd l) + x l * cf x y (hd l) + cf x y (hd l) * x l

/-- The factors of the mean squares' gradients, head by head. -/
theorem w0_at (r : Fin 256) : k1_pay22 (k1_pay17 X) k1_pay18 (k1_pay19 (F := Ideal)) (ix2 r 0) = Ideal.ofBits .f32 0xBF000000#32 * Ideal.div (rs (row X r) 0) (ms (row X r) 0) := by
  pointwise [k1_pay22, k1_pay21, k1_pay20, k1_pay17, k1_pay18, k1_pay19]
  simp only [m13 _, select_bit, sum_head]; rfl
@[inherit_doc w0_at] theorem w1_at {m : IVec S1x256 1} {h : Fin 4} (e : IsHead m h) (r : Fin 256) : k1_pay27 X m (ix2 r 0) = Ideal.ofBits .f32 0xBF000000#32 * Ideal.div (rs (row X r) h) (ms (row X r) h) := by
  pointwise [k1_pay27, k1_pay26, k1_pay25, k1_pay24]
  simp only [e _, select_bit, sum_head]; rfl
@[inherit_doc w0_at] theorem w2_at {m : IVec S1x256 1} {h : Fin 4} (e : IsHead m h) (r : Fin 256) : k1_pay34 (k1_pay31 X m) (ix2 r 0) = Ideal.ofBits .f32 0xBF000000#32 * Ideal.div (rs (row X r) h) (ms (row X r) h) := by
  pointwise [k1_pay34, k1_pay33, k1_pay32, k1_pay31, k1_pay30]
  simp only [e _, select_bit, sum_head]; rfl
@[inherit_doc w0_at] theorem w3_at {m : IVec S1x256 1} {h : Fin 4} (e : IsHead m h) (r : Fin 256) : k1_pay39 X m (ix2 r 0) = Ideal.ofBits .f32 0xBF000000#32 * Ideal.div (rs (row X r) h) (ms (row X r) h) := by
  pointwise [k1_pay39, k1_pay38, k1_pay37, k1_pay36]
  simp only [e _, select_bit, sum_head]; rfl

/-- The gradient of the normalised queries. -/
def dns := k1_pay108 (k1_pay10 G) D
/-- The queries' gradient, as the kernel adds it up from the last head to the first. -/
def dx3 := k1_pay110 X (k1_pay10 G) (k1_pay33 (k1_pay31 X k1_pay15)) (k1_pay35 k1_pay15) (k1_pay36 k1_pay16) (k1_pay38 X k1_pay16) (k1_pay39 X k1_pay16) (k1_pay40 k1_pay16) D
@[inherit_doc dx3] def dx2 := k1_pay111 X (k1_pay10 G) (k1_pay34 (k1_pay31 X k1_pay15)) (k1_pay35 k1_pay15) D
@[inherit_doc dx3] def dx1 := k1_pay113 X (k1_pay21 (k1_pay17 X) k1_pay18 (k1_pay19 (F := Ideal))) (k1_pay23 k1_pay13) (k1_pay24 k1_pay14) (k1_pay26 X k1_pay14)
  (k1_pay27 X k1_pay14) (k1_pay28 k1_pay14) (k1_pay30 k1_pay15) (dns D G) (dx3 X D G) (dx2 X D G)
@[inherit_doc dx3] def dx0 := k1_pay114 X k1_pay18 (k1_pay22 (k1_pay17 X) k1_pay18 (k1_pay19 (F := Ideal))) (k1_pay23 k1_pay13) (dns D G)
@[inherit_doc dx3] def dxs := k1_pay1 X (dx1 X D G) (dx0 X D G)

theorem m18 (r l : Fin 256) : k1_pay18 (ix2 r l) = if hd l = 0 then 1#1 else 0#1 := by
  pointwise [k1_pay18]; exact m13 l
/-- Of the terms of the four heads only those of the lane's own head are left. -/
theorem pick3 (l : Fin 256) (a b c : Fin 4 → EReal) :
    (if hd l = 3 then a 3 else 0) + (if hd l = 3 then b 3 else 0) + (if hd l = 3 then c 3 else 0)
      + (if hd l = 2 then a 2 else 0) + (if hd l = 2 then b 2 else 0) + (if hd l = 2 then c 2 else 0)
      + (if hd l = 1 then a 1 else 0) + (if hd l = 1 then b 1 else 0) + (if hd l = 1 then c 1 else 0)
      + (if hd l = 0 then a 0 else 0) + (if hd l = 0 then b 0 else 0) + (if hd l = 0 then c 0 else 0) = a (hd l) + b (hd l) + c (hd l) := by
  generalize hd l = h
  fin_cases h <;> simp

theorem dxs_at (r l : Fin 256) : dxs X D G (ix2 r l) = dx (row X r) (fun l => D (ix2 r l) * G (ix2 0 l)) l := by
  have z : (default : Fin 1) = 0 := rfl
  pointwise [dxs, dx0, dx1, dx2, dx3, dns, k1_pay1, k1_pay114, k1_pay113, k1_pay112, k1_pay111, k1_pay110, k1_pay109, k1_pay108, k1_pay10, k1_pay23, k1_pay24, k1_pay28, k1_pay30, k1_pay35, k1_pay36, k1_pay40,
    Finset.univ_unique, Finset.sum_singleton]
  simp only [z, m18, m13 _, m14 _, m15 _, m16 _, select_bit, q0_at, q1_at X m14, q2_at X m15, q3_at X m16, w0_at, w1_at X m14, w2_at X m15, w3_at X m16, sum_head]
  exact pick3 l (fun h => D (ix2 r l) * G (ix2 0 l) * rs (row X r) h) (fun h => X (ix2 r l) * cf (row X r) (fun l => D (ix2 r l) * G (ix2 0 l)) h)
    fun h => cf (row X r) (fun l => D (ix2 r l) * G (ix2 0 l)) h * X (ix2 r l)

end Cert.MemAttnIdeal.Mem

end

end
-- ==== Proof.Mem.Fwd.lean ====
module

public import proofs.«01_k».proof.Proof.Mem.Tile

@[expose] public section

set_option maxRecDepth 16384

noncomputable section

namespace Cert.MemAttnIdeal.Mem

open Cert.MemAttnIdeal Cert.MemAttnIdeal.Gen
open Idealize.ShloMosaic Idealize.ShloMosaic.TcCoe Idealize.SL.Sem

variable (X K V : Vec Ideal S256x256 .f32) (G H : Vec Ideal S1x256 .f32)

/-- The forward call's normalised queries and keys: the same operations as the backward call's. -/
def fq := k0_pay13 X (k0_pay2 G) k0_pay8 (k0_pay11 X (k0_pay4 (F := Ideal)) k0_pay5 k0_pay6 (k0_pay9 X) (k0_pay10 (F := Ideal))) (k0_pay12 X k0_pay7)
@[inherit_doc fq] def fk := k0_pay23 K (k0_pay3 H) k0_pay17 k0_pay18 (k0_pay20 K (k0_pay14 (F := Ideal)) k0_pay15 k0_pay16 (k0_pay19 K) nought) (k0_pay21 K k0_pay17) (k0_pay22 (F := Ideal))
theorem fq_eq : fq X G = qUnit X G := rfl
theorem fk_eq : fk K H = kUnit K H := rfl

variable (Q N : FVec Ideal S256x256 .f32)
/-- The heads' outputs, one head's rows after the other's, and the call's output. -/
def fouts := k0_pay28 V Q N lanes k0_pay24 k0_pay25 k0_pay26 k0_pay27
@[inherit_doc fouts] def fout := k0_pay1 (fouts V Q N) lanes k0_pay29 k0_pay30 128#32
theorem fouts_at (x : Fin 1024) (l : Fin 256) : fouts V Q N (ix2 x l) = ∑ m : Fin 256, soft Q N (ix2 x m) * V (ix2 m l) := by
  have e : fouts V Q N = matmul dot_S1024x256_S256x256_S1024x256_1_0_0_1_n_n none (truncf .bf16 (soft Q N) bitsLt_bf16_f32) (truncf .bf16 V bitsLt_bf16_f32) (constant S1024x256 .f32 0x00000000#32) := rfl
  rw [e]; generalize soft Q N = s
  pointwise []
theorem fout_at (r l : Fin 256) : fout V Q N (ix2 r l) = ∑ m : Fin 256, pr (row Q r) (rows N) (hd l) m * V (ix2 m l) := by
  have b0 := bit 0 l 0#32 64#32 rfl rfl
  have b1 := bit 1 l 64#32 128#32 rfl rfl
  have b2 := bit 2 l 128#32 192#32 rfl rfl
  have b3 := bit 3 l 192#32 256#32 rfl rfl
  have z : hrow 0 r = ⟨r.val, by omega⟩ := Fin.ext (by show 0 * 256 + r.val = r.val; omega)
  pointwise [fout, k0_pay1, k0_pay29, k0_pay30]
  simp only [b0, b1, b2, b3, select_bit]
  rw [← z]
  refine (pick l fun h => fouts V Q N (ix2 (hrow h r) l)).trans ((fouts_at V Q N _ l).trans (Finset.sum_congr rfl fun m _ => ?_))
  rw [soft_at]

end Cert.MemAttnIdeal.Mem

end

end
-- ==== Proof.Mem.Regions.lean ====
module

public import proofs.«01_k».proof.Proof.Mem.Fwd
public import proofs.«01_k».proof.Proof.Gen.MemAttnIdeal.Frame
public import Idealize.ShloMosaic.Lib.Pipeline.ValueKit
public import Idealize.ShloMosaic.Lib.Pipeline.ReadBack

@[expose] public section

set_option maxRecDepth 16384

noncomputable section

namespace Cert.MemAttnIdeal.Mem

open Cert.MemAttnIdeal Cert.MemAttnIdeal.Gen
open Idealize.ShloMosaic Idealize.ShloMosaic.TcCoe Idealize.SL.Sem
open Idealize.ShloMosaic.Pipeline (Dat)

/-- The memory queries of row `r`, and the memory keys and values of row `m`. -/
def qx (P : FVec Ideal S2048x2304 .f32) (r : Fin 2048) (l : Fin 256) : EReal := P (ix2 r ⟨2048 + l.val, by omega⟩)
@[inherit_doc qx] def kx (M : FVec Ideal S256x512 .f32) (m l : Fin 256) : EReal := M (ix2 m ⟨l.val, by omega⟩)
@[inherit_doc qx] def vx (M : FVec Ideal S256x512 .f32) (m l : Fin 256) : EReal := M (ix2 m ⟨256 + l.val, by omega⟩)

section Formulas
variable (P : FVec Ideal S2048x2304 .f32) (M : FVec Ideal S256x512 .f32) (G H : FVec Ideal S1x256 .f32) (D : FVec Ideal S2048x256 .f32)

/-- The queries and keys normalised. -/
abbrev qu (r : Fin 2048) : Fin 256 → EReal := unit (qx P r) (gain G)
@[inherit_doc qu] abbrev ku (m : Fin 256) : Fin 256 → EReal := unit (kx M m) (gain H)
/-- The attention's weights. -/
def wt (r : Fin 2048) (h : Fin 4) (m : Fin 256) : EReal := pr (qu P G r) (ku M H) h m
/-- The forward result. -/
def mo (r : Fin 2048) (l : Fin 256) : EReal := ∑ m : Fin 256, wt P M G H r (hd l) m * vx M m l
/-- The gradient of the normalised queries with their gain. -/
def dqu (r : Fin 2048) (l : Fin 256) : EReal := dq (qu P G r) (ku M H) (vx M) (fun l => D (ix2 r l)) l
/-- The queries' gradient. -/
def dmq (r : Fin 2048) (l : Fin 256) : EReal := dx (qx P r) (fun l => dqu P M G H D r l * G (ix2 0 l)) l
/-- Row `r` of tile `i`. -/
abbrev at8 (i : Fin 8) (r : Fin 256) : Fin 2048 := ⟨i.val * 256 + r.val, by omega⟩
/-- What tile `i` adds to the values' gradient, and to the gain's. -/
def dvTile (i : Fin 8) (m l : Fin 256) : EReal := ∑ r : Fin 256, wt P M G H (at8 i r) (hd l) m * D (ix2 (at8 i r) l)
@[inherit_doc dvTile] def dgTile (i : Fin 8) (l : Fin 256) : EReal := ∑ r : Fin 256, nrm (qx P (at8 i r)) l * dqu P M G H D (at8 i r) l

/-- The results as arrays. -/
def moArr : FVec Ideal S2048x256 .bf16 := fun y => mo P M G H (y 0) (y 1)
@[inherit_doc moArr] def dmqArr : FVec Ideal S2048x256 .bf16 := fun y => dmq P M G H D (y 0) (y 1)
@[inherit_doc moArr] def dvArr : FVec Ideal S256x256 .f32 := fun y => ∑ i : Fin 8, dvTile P M G H D i (y 0) (y 1)
@[inherit_doc moArr] def dgArr : FVec Ideal S1x256 .f32 := fun y => ∑ i : Fin 8, dgTile P M G H D i (y 1)
end Formulas

variable (V : (c : Dev nD) → (b : Ref sig .tc) → Buf (Elt Ideal) ((c : Thread nD τ).loc b))

/-- Where the blocks lie at each point: one statement per region. -/
theorem idx0 : ∀ t : Fin cfg0.N, win0_0.index t = ![t.val, 8] ∧ win0_1.index t = ![0, 0] ∧ win0_2.index t = ![0, 1] ∧ win0_3.index t = ![0, 0]
    ∧ win0_4.index t = ![0, 0] ∧ win0_5.index t = ![t.val, 0] :=
  (by decide +kernel : ∀ t : Fin grid0.N, _)
@[inherit_doc idx0] theorem idx1 : ∀ t : Fin cfg1.N, win1_0.index t = ![t.val, 8] ∧ win1_1.index t = ![0, 0] ∧ win1_2.index t = ![0, 1] ∧ win1_3.index t = ![0, 0]
    ∧ win1_4.index t = ![0, 0] ∧ win1_5.index t = ![t.val, 0] ∧ win1_6.index t = ![t.val, 0] ∧ win1_8.index t = ![0, 0] ∧ win1_9.index t = ![0, 0] :=
  (by decide +kernel : ∀ t : Fin grid1.N, _)

variable (c : Dev nD)

/-- The number of points of each region. -/
theorem lt0 (t : Fin cfg0.N) : t.val < 8 := lt_of_lt_of_eq t.isLt (show cfg0.N = 8 from N_0)
@[inherit_doc lt0] theorem lt1 (t : Fin cfg1.N) : t.val < 8 := lt_of_lt_of_eq t.isLt (show cfg1.N = 8 from N_1)

/-- The arguments as the regions take them. -/
abbrev aP : FVec Ideal S2048x2304 .f32 := V c main_arg0
@[inherit_doc aP] abbrev aM : FVec Ideal S256x512 .f32 := V c main_arg1
@[inherit_doc aP] abbrev aG : FVec Ideal S1x256 .f32 := V c main_v3
@[inherit_doc aP] abbrev aH : FVec Ideal S1x256 .f32 := V c main_v7
@[inherit_doc aP] abbrev aD : FVec Ideal S2048x256 .f32 := V c main_arg4

/-- Each input block, row by row: region by region, window by window. -/
theorem b0_0 (t : Fin cfg0.N) (r : Fin 256) : row (iblk0 V c 0 t) r = qx (aP V c) (at8 ⟨t.val, lt0 t⟩ r) := by
  funext l
  refine (?_ : (iblk0 V c 0 t : Vec Ideal S256x256 .f32) (ix2 r l) = (V c main_arg0 : FVec Ideal S2048x2304 .f32) (ix2 ⟨t.val * 256 + r.val, by have := lt0 t; omega⟩ ⟨2048 + l.val, by omega⟩))
  blk_ext [iblk0, idx0 t]
@[inherit_doc b0_0] theorem b0_1 (t : Fin cfg0.N) (r : Fin 256) : row (iblk0 V c 1 t) r = kx (aM V c) r := by
  funext l
  refine (?_ : (iblk0 V c 1 t : Vec Ideal S256x256 .f32) (ix2 r l) = (V c main_arg1 : FVec Ideal S256x512 .f32) (ix2 r ⟨l.val, by omega⟩))
  blk_ext [iblk0, idx0 t]
@[inherit_doc b0_0] theorem b0_2 (t : Fin cfg0.N) (r : Fin 256) : row (iblk0 V c 2 t) r = vx (aM V c) r := by
  funext l
  refine (?_ : (iblk0 V c 2 t : Vec Ideal S256x256 .f32) (ix2 r l) = (V c main_arg1 : FVec Ideal S256x512 .f32) (ix2 r ⟨256 + l.val, by omega⟩))
  blk_ext [iblk0, idx0 t]
@[inherit_doc b0_0] theorem b0_3 (t : Fin cfg0.N) : gain (iblk0 V c 3 t) = gain (aG V c) := by
  funext l
  refine (?_ : (iblk0 V c 3 t : Vec Ideal S1x256 .f32) (ix2 0 l) = (V c main_v3 : FVec Ideal S1x256 .f32) (ix2 0 l))
  blk_ext [iblk0, idx0 t]
@[inherit_doc b0_0] theorem b0_4 (t : Fin cfg0.N) : gain (iblk0 V c 4 t) = gain (aH V c) := by
  funext l
  refine (?_ : (iblk0 V c 4 t : Vec Ideal S1x256 .f32) (ix2 0 l) = (V c main_v7 : FVec Ideal S1x256 .f32) (ix2 0 l))
  blk_ext [iblk0, idx0 t]
@[inherit_doc b0_0] theorem b1_0 (t : Fin cfg1.N) (r : Fin 256) : row (iblk1 V c 0 t) r = qx (aP V c) (at8 ⟨t.val, lt1 t⟩ r) := by
  funext l
  refine (?_ : (iblk1 V c 0 t : Vec Ideal S256x256 .f32) (ix2 r l) = (V c main_arg0 : FVec Ideal S2048x2304 .f32) (ix2 ⟨t.val * 256 + r.val, by have := lt1 t; omega⟩ ⟨2048 + l.val, by omega⟩))
  blk_ext [iblk1, idx1 t]
@[inherit_doc b0_0] theorem b1_1 (t : Fin cfg1.N) (r : Fin 256) : row (iblk1 V c 1 t) r = kx (aM V c) r := by
  funext l
  refine (?_ : (iblk1 V c 1 t : Vec Ideal S256x256 .f32) (ix2 r l) = (V c main_arg1 : FVec Ideal S256x512 .f32) (ix2 r ⟨l.val, by omega⟩))
  blk_ext [iblk1, idx1 t]
@[inherit_doc b0_0] theorem b1_2 (t : Fin cfg1.N) (r : Fin 256) : row (iblk1 V c 2 t) r = vx (aM V c) r := by
  funext l
  refine (?_ : (iblk1 V c 2 t : Vec Ideal S256x256 .f32) (ix2 r l) = (V c main_arg1 : FVec Ideal S256x512 .f32) (ix2 r ⟨256 + l.val, by omega⟩))
  blk_ext [iblk1, idx1 t]
@[inherit_doc b0_0] theorem b1_3 (t : Fin cfg1.N) : gain (iblk1 V c 3 t) = gain (aG V c) := by
  funext l
  refine (?_ : (iblk1 V c 3 t : Vec Ideal S1x256 .f32) (ix2 0 l) = (V c main_v3 : FVec Ideal S1x256 .f32) (ix2 0 l))
  blk_ext [iblk1, idx1 t]
@[inherit_doc b0_0] theorem b1_4 (t : Fin cfg1.N) : gain (iblk1 V c 4 t) = gain (aH V c) := by
  funext l
  refine (?_ : (iblk1 V c 4 t : Vec Ideal S1x256 .f32) (ix2 0 l) = (V c main_v7 : FVec Ideal S1x256 .f32) (ix2 0 l))
  blk_ext [iblk1, idx1 t]
@[inherit_doc b0_0] theorem b1_5 (t : Fin cfg1.N) (r : Fin 256) : row (iblk1 V c 5 t) r = fun l => aD V c (ix2 (at8 ⟨t.val, lt1 t⟩ r) l) := by
  funext l
  refine (?_ : (iblk1 V c 5 t : Vec Ideal S256x256 .f32) (ix2 r l) = (V c main_arg4 : FVec Ideal S2048x256 .f32) (ix2 ⟨t.val * 256 + r.val, by have := lt1 t; omega⟩ l))
  blk_ext [iblk1, idx1 t]

theorem row_unit (X : Vec Ideal S256x256 .f32) (G : Vec Ideal S1x256 .f32) (r : Fin 256) : row (qUnit X G) r = unit (row X r) (gain G) :=
  funext fun l => qUnit_at X G r l
theorem rows_unit (K : Vec Ideal S256x256 .f32) (H : Vec Ideal S1x256 .f32) : rows (kUnit K H) = fun m => unit (row K m) (gain H) :=
  funext fun m => funext fun l => kUnit_at K H m l

/-- Region 0 leaves the forward result. -/
theorem arr0 : (dat0 V c).arrAt 5 cfg0.N = moArr (aP V c) (aM V c) (aG V c) (aH V c) := by
  refine (dat0 V c).arrAt_eq_of_covers 5 _ (by decide +kernel) fun t _ y => ?_
  blk_simp
  rw [after0_5]
  frame_out
  obtain ⟨r, l, rfl⟩ : ∃ (r l : Fin 256), y = ix2 r l := ⟨y 0, y 1, eq_ix2 y⟩
  have e : ((cfg0.win 5).blk t).view.emb (ix2 r l) = (ix2 (at8 ⟨t.val, lt0 t⟩ r) l : S2048x256.Idx) := by
    blk_ext [idx0 t]
  refine (show _ = fout (iblk0 V c 2 t) (qUnit (iblk0 V c 0 t) (iblk0 V c 3 t)) (kUnit (iblk0 V c 1 t) (iblk0 V c 4 t)) (ix2 r l) from rfl).trans ?_
  refine (fout_at _ _ _ r l).trans ((?_ : _ = mo _ _ _ _ _ _).trans (congrArg (moArr _ _ _ _) e.symm))
  rw [row_unit, rows_unit, b0_0, b0_3, b0_4]
  refine Finset.sum_congr rfl fun m _ => congrArg₂ (· * ·) ?_ (congrFun (b0_2 V c t m) l)
  simp only [b0_1]; rfl

end Cert.MemAttnIdeal.Mem

end

end
-- ==== Proof.Mem.Back.lean ====
module

public import proofs.«01_k».proof.Proof.Mem.Regions

@[expose] public section

set_option maxRecDepth 16384

noncomputable section

namespace Cert.MemAttnIdeal.Mem

open Cert.MemAttnIdeal Cert.MemAttnIdeal.Gen
open Idealize.ShloMosaic Idealize.ShloMosaic.TcCoe Idealize.SL.Sem
open Idealize.ShloMosaic.Pipeline (Dat)

/-- The accumulating stores: the earlier sum and the new term, over a start at zero. -/
theorem pay3 (a b : FVec Ideal S256x256 .f32) (r l : Fin 256) : k1_pay3 a b (ix2 r l) = b (ix2 r l) + a (ix2 r l) := by
  pointwise [k1_pay3]
@[inherit_doc pay3] theorem pay4 (a b : FVec Ideal S1x256 .f32) (l : Fin 256) : k1_pay4 a b (ix2 0 l) = b (ix2 0 l) + a (ix2 0 l) := by
  pointwise [k1_pay4]
@[inherit_doc pay3] theorem pay7 (r l : Fin 256) : k1_pay7 (F := Ideal) (ix2 r l) = 0 := by
  pointwise [k1_pay7]
@[inherit_doc pay3] theorem pay8 (l : Fin 256) : k1_pay8 (F := Ideal) (ix2 0 l) = 0 := by
  pointwise [k1_pay8]

variable (V : (c : Dev nD) → (b : Ref sig .tc) → Buf (Elt Ideal) ((c : Thread nD τ).loc b)) (c : Dev nD)

/-- A point's gradient of the normalised queries. -/
abbrev dqp (t : Fin cfg1.N) : FVec Ideal S256x256 .f32 :=
  dqs (iblk1 V c 2 t) (iblk1 V c 5 t) (qUnit (iblk1 V c 0 t) (iblk1 V c 3 t)) (kUnit (iblk1 V c 1 t) (iblk1 V c 4 t))

theorem part_q (t : Fin cfg1.N) (r l : Fin 256) :
    dqp V c t (ix2 r l) = dqu (aP V c) (aM V c) (aG V c) (aH V c) (aD V c) (at8 ⟨t.val, lt1 t⟩ r) l := by
  refine (dqs_at _ _ _ _ r l).trans ?_
  have hk : rows (kUnit (iblk1 V c 1 t) (iblk1 V c 4 t)) = ku (aM V c) (aH V c) := by
    rw [rows_unit, b1_4]; exact funext fun m => congrArg (unit · _) (b1_1 V c t m)
  have hv : rows (iblk1 V c 2 t) = vx (aM V c) := funext fun m => b1_2 V c t m
  rw [row_unit, hk, hv, b1_0, b1_3, b1_5]; rfl
/-- What a point leaves of the queries' gradient, and adds to the values' and the gain's. -/
theorem part_x (t : Fin cfg1.N) (r l : Fin 256) : dxs (iblk1 V c 0 t) (dqp V c t) (iblk1 V c 3 t) (ix2 r l)
    = dmq (aP V c) (aM V c) (aG V c) (aH V c) (aD V c) (at8 ⟨t.val, lt1 t⟩ r) l := by
  refine (dxs_at _ _ _ r l).trans ?_
  rw [b1_0]
  exact congrArg (dx _ · l) (funext fun l => congrArg₂ (· * ·) (part_q V c t r l) (congrFun (b1_3 V c t) l))
@[inherit_doc part_x] theorem part_v (t : Fin cfg1.N) (m l : Fin 256) :
    dvs (iblk1 V c 5 t) (qUnit (iblk1 V c 0 t) (iblk1 V c 3 t)) (kUnit (iblk1 V c 1 t) (iblk1 V c 4 t)) (ix2 m l)
      = dvTile (aP V c) (aM V c) (aG V c) (aH V c) (aD V c) ⟨t.val, lt1 t⟩ m l := by
  refine (dvs_at _ _ _ m l).trans (Finset.sum_congr rfl fun r _ => congrArg₂ (· * ·) ?_ (congrFun (b1_5 V c t r) l))
  have hk : rows (kUnit (iblk1 V c 1 t) (iblk1 V c 4 t)) = ku (aM V c) (aH V c) := by
    rw [rows_unit, b1_4]; exact funext fun m => congrArg (unit · _) (b1_1 V c t m)
  rw [row_unit, hk, b1_0, b1_3]; rfl
@[inherit_doc part_x] theorem part_g (t : Fin cfg1.N) (l : Fin 256) : dgs (iblk1 V c 0 t) (dqp V c t) (ix2 0 l)
    = dgTile (aP V c) (aM V c) (aG V c) (aH V c) (aD V c) ⟨t.val, lt1 t⟩ l := by
  refine (dgs_at _ _ l).trans (Finset.sum_congr rfl fun r _ => ?_)
  rw [b1_0]; exact congrArg _ (part_q V c t r l)

/-- Every point leaves its rows' gradients. -/
theorem left_x (t : Fin cfg1.N) (r l : Fin 256) : (outsAt1 V c t.val t.isLt).1 (ix2 r l)
    = dmq (aP V c) (aM V c) (aG V c) (aH V c) (aD V c) (at8 ⟨t.val, lt1 t⟩ r) l := by
  by_cases h : t.val % 8 = 0
  · rw [outsAt1_A V c t h]
    frame_out
    exact part_x V c t r l
  · rw [outsAt1_B V c t h]
    frame_out
    exact part_x V c t r l
/-- The first point starts the sums at its tile's terms. -/
theorem first_v (t : Fin cfg1.N) (h : t.val = 0) (m l : Fin 256) : (outsAt1 V c t.val t.isLt).2.2.1 (ix2 m l)
    = dvTile (aP V c) (aM V c) (aG V c) (aH V c) (aD V c) ⟨t.val, lt1 t⟩ m l := by
  rw [outsAt1_A V c t (by omega)]
  frame_out
  exact (pay3 _ _ m l).trans ((congrArg₂ (· + ·) (pay7 m l) (part_v V c t m l)).trans (zero_add _))
@[inherit_doc first_v] theorem first_g (t : Fin cfg1.N) (h : t.val = 0) (l : Fin 256) : (outsAt1 V c t.val t.isLt).2.2.2.1 (ix2 0 l)
    = dgTile (aP V c) (aM V c) (aG V c) (aH V c) (aD V c) ⟨t.val, lt1 t⟩ l := by
  rw [outsAt1_A V c t (by omega)]
  frame_out
  exact (pay4 _ _ l).trans ((congrArg₂ (· + ·) (pay8 l) (part_g V c t l)).trans (zero_add _))
/-- Each later one adds its own. -/
theorem next_v (n : ℕ) (hn : n + 1 < cfg1.N) (m l : Fin 256) : (outsAt1 V c (n + 1) hn).2.2.1 (ix2 m l)
    = (outsAt1 V c n (Nat.lt_of_succ_lt hn)).2.2.1 (ix2 m l)
      + dvTile (aP V c) (aM V c) (aG V c) (aH V c) (aD V c) ⟨n + 1, lt1 ⟨n + 1, hn⟩⟩ m l := by
  have h : ¬ (⟨n + 1, hn⟩ : Fin cfg1.N).val % 8 = 0 := by have := lt1 ⟨n + 1, hn⟩; dsimp only at this ⊢; omega
  rw [outsAt1_B V c ⟨n + 1, hn⟩ h]
  frame_out
  exact (pay3 _ _ m l).trans (congrArg₂ (· + ·) rfl (part_v V c _ m l))
@[inherit_doc next_v] theorem next_g (n : ℕ) (hn : n + 1 < cfg1.N) (l : Fin 256) : (outsAt1 V c (n + 1) hn).2.2.2.1 (ix2 0 l)
    = (outsAt1 V c n (Nat.lt_of_succ_lt hn)).2.2.2.1 (ix2 0 l)
      + dgTile (aP V c) (aM V c) (aG V c) (aH V c) (aD V c) ⟨n + 1, lt1 ⟨n + 1, hn⟩⟩ l := by
  have h : ¬ (⟨n + 1, hn⟩ : Fin cfg1.N).val % 8 = 0 := by have := lt1 ⟨n + 1, hn⟩; dsimp only at this ⊢; omega
  rw [outsAt1_B V c ⟨n + 1, hn⟩ h]
  frame_out
  exact (pay4 _ _ l).trans (congrArg₂ (· + ·) rfl (part_g V c _ l))

attribute [local irreducible] outsAt1 in
/-- So the last leaves the eight tiles' sum. -/
theorem total_v (h : 7 < cfg1.N) (m l : Fin 256) : (outsAt1 V c 7 h).2.2.1 (ix2 m l)
    = dvArr (aP V c) (aM V c) (aG V c) (aH V c) (aD V c) (ix2 m l) := by
  rw [next_v V c 6 h m l, next_v V c 5 _ m l, next_v V c 4 _ m l, next_v V c 3 _ m l, next_v V c 2 _ m l, next_v V c 1 _ m l, next_v V c 0 _ m l]
  refine .trans ?_ (Fin.sum_univ_eight _).symm
  exact congrArg (fun s => s + _ + _ + _ + _ + _ + _ + _) (first_v V c ⟨0, by omega⟩ rfl m l)
attribute [local irreducible] outsAt1 in
@[inherit_doc total_v] theorem total_g (h : 7 < cfg1.N) (l : Fin 256) : (outsAt1 V c 7 h).2.2.2.1 (ix2 0 l)
    = dgArr (aP V c) (aM V c) (aG V c) (aH V c) (aD V c) (ix2 0 l) := by
  rw [next_g V c 6 h l, next_g V c 5 _ l, next_g V c 4 _ l, next_g V c 3 _ l, next_g V c 2 _ l, next_g V c 1 _ l, next_g V c 0 _ l]
  refine .trans ?_ (Fin.sum_univ_eight _).symm
  exact congrArg (fun s => s + _ + _ + _ + _ + _ + _ + _) (first_g V c ⟨0, by omega⟩ rfl l)

/-- An array that agrees with what the points leave is the one region 1 leaves: window by window. -/
theorem arr_6 (A : FVec Ideal S2048x256 .bf16)
    (hA : ∀ (t : Fin cfg1.N) (r l : Fin 256), (outsAt1 V c t.val t.isLt).1 (ix2 r l) = A (ix2 (at8 ⟨t.val, lt1 t⟩ r) l)) :
    (dat1 V c).arrAt 6 cfg1.N = A := by
  refine (dat1 V c).arrAt_eq_of_covers 6 _ (by decide +kernel) fun t _ y => ?_
  obtain ⟨r, l, rfl⟩ : ∃ (r l : Fin 256), y = ix2 r l := ⟨y 0, y 1, eq_ix2 y⟩
  have e : ((cfg1.win 6).blk t).view.emb (ix2 r l) = (ix2 (at8 ⟨t.val, lt1 t⟩ r) l : S2048x256.Idx) := by blk_ext [idx1 t]
  blk_simp
  rw [after1_6]
  exact (hA t r l).trans (congrArg A e.symm)
attribute [local irreducible] outsAt1 in
@[inherit_doc arr_6] theorem arr_8 (A : FVec Ideal S256x256 .f32)
    (hA : ∀ (h : 7 < cfg1.N) (r l : Fin 256), (outsAt1 V c 7 h).2.2.1 (ix2 r l) = A (ix2 r l)) : (dat1 V c).arrAt 8 cfg1.N = A := by
  refine (dat1 V c).arrAt_eq_of_covers 8 _ (by decide +kernel) fun t hf y => ?_
  have h7 : t.val % 8 = 7 := (flush1_8 t).mp hf
  obtain ⟨r, l, rfl⟩ : ∃ (r l : Fin 256), y = ix2 r l := ⟨y 0, y 1, eq_ix2 y⟩
  have hN := lt1 t
  have e : ((cfg1.win 8).blk t).view.emb (ix2 r l) = (ix2 r l : S256x256.Idx) := by blk_ext [idx1 t]
  blk_simp
  rw [after1_8]
  obtain ⟨n, hn⟩ := t
  obtain rfl : n = 7 := by dsimp only at h7 hN; omega
  exact (hA hn r l).trans (congrArg A e.symm)
attribute [local irreducible] outsAt1 in
@[inherit_doc arr_6] theorem arr_9 (A : FVec Ideal S1x256 .f32)
    (hA : ∀ (h : 7 < cfg1.N) (l : Fin 256), (outsAt1 V c 7 h).2.2.2.1 (ix2 0 l) = A (ix2 0 l)) : (dat1 V c).arrAt 9 cfg1.N = A := by
  refine (dat1 V c).arrAt_eq_of_covers 9 _ (by decide +kernel) fun t hf y => ?_
  have h7 : t.val % 8 = 7 := (flush1_9 t).mp hf
  obtain ⟨z, l, rfl⟩ : ∃ (z : Fin 1) (l : Fin 256), y = ix2 z l := ⟨y 0, y 1, eq_ix2 y⟩
  obtain rfl := Subsingleton.elim z 0
  have hN := lt1 t
  have e : ((cfg1.win 9).blk t).view.emb (ix2 0 l) = (ix2 0 l : S1x256.Idx) := by blk_ext [idx1 t]
  blk_simp
  rw [after1_9]
  obtain ⟨n, hn⟩ := t
  obtain rfl : n = 7 := by dsimp only at h7 hN; omega
  exact (hA hn l).trans (congrArg A e.symm)

/-- The arrays region 1 leaves. -/
theorem arr1_6 : (dat1 V c).arrAt 6 cfg1.N = dmqArr (aP V c) (aM V c) (aG V c) (aH V c) (aD V c) := arr_6 V c _ (left_x V c)
@[inherit_doc arr1_6] theorem arr1_8 : (dat1 V c).arrAt 8 cfg1.N = dvArr (aP V c) (aM V c) (aG V c) (aH V c) (aD V c) := arr_8 V c _ (total_v V c)
@[inherit_doc arr1_6] theorem arr1_9 : (dat1 V c).arrAt 9 cfg1.N = dgArr (aP V c) (aM V c) (aG V c) (aH V c) (aD V c) := arr_9 V c _ (total_g V c)

end Cert.MemAttnIdeal.Mem

end

end
-- ==== Proof.Mem.Spec.lean ====
module

public import proofs.«01_k».proof.Proof.Mem.Back
public import proofs.«01_k».proof.Proof.Gen.MemAttnRefIdeal.Read
public import Idealize.ShloMosaic.Lib.KernelVsHost

@[expose] public section

set_option maxRecDepth 16384

noncomputable section

namespace Cert.MemAttnIdeal.Mem

open Idealize.ShloMosaic Idealize.ShloMosaic.TcCoe
open Cert.MemAttnRefIdeal.Read

/-- A quotient by 64 is a product with its inverse. -/
theorem div64 (x : EReal) : Ideal.div x (Ideal.ofBits .f32 0x42800000#32) = x * Ideal.ofBits .f32 0x3C800000#32 := by
  have a : Ideal.ofBits .f32 0x42800000#32 = ((64 : ℝ) : EReal) := by
    simp [Ideal.ofBits, Ideal.ieee]; rw [← EReal.coe_mul]; norm_num
  have b : Ideal.ofBits .f32 0x3C800000#32 = ((64⁻¹ : ℝ) : EReal) := by
    simp [Ideal.ofBits, Ideal.ieee]; rw [← EReal.coe_mul]; norm_num
  rw [a, b]
  have h : ((64 : ℝ) : EReal) ≠ 0 := by norm_num
  unfold Ideal.div
  rw [if_neg h, ← EReal.coe_inv]

/-- The word of one. -/
theorem word_one : Ideal.ofBits .f32 0x3F800000#32 = 1 := by
  simp [Ideal.ofBits, Ideal.ieee]; rw [← EReal.coe_mul]; norm_num

/-- A host sum over the first two of three axes. -/
theorem sum01 {a b n : ℕ} (h : (⟨3, ![a, b, n]⟩ : Shape).ReducesTo [0, 1] ⟨1, ![n]⟩) (x : (⟨3, ![a, b, n]⟩ : Shape).Idx → EReal) (init : EReal) (j : Fin n) :
    Ideal.hostReduceAdd h x init (ix1 j) = init + ∑ p : Fin a, ∑ q : Fin b, x (ix3 p q j) := by
  unfold Ideal.hostReduceAdd
  refine congrArg (init + ·) (.trans ?_ (Fintype.sum_prod_type fun y : Fin a × Fin b => x (ix3 y.1 y.2 j)))
  have k : ∀ i, h.drop i = ix1 j ↔ i = ix3 (i 0) (i 1) j := fun i => by
    have v : (h.drop i 0).val = (i 2).val := rfl
    constructor
    · intro e
      rw [e] at v
      refine (eq_ix3 i).trans (congrArg (ix3 (i 0) (i 1)) (Fin.ext v.symm))
    · intro e
      refine (eq_ix1 _).trans (congrArg ix1 (Fin.ext (v.trans ?_)))
      rw [e]; rfl
  refine Finset.sum_nbij' (fun i => (i 0, i 1)) (fun y => ix3 y.1 y.2 j) (fun _ _ => Finset.mem_univ _)
    (fun y _ => Finset.mem_filter.mpr ⟨Finset.mem_univ _, (k _).mpr rfl⟩) (fun i hi => ((k i).mp (Finset.mem_filter.mp hi).2).symm) (fun _ _ => rfl)
    (fun i hi => congrArg x ((k i).mp (Finset.mem_filter.mp hi).2))

variable (x0 : FVec Ideal S2048x2304 .f32) (x1 : FVec Ideal S256x512 .f32) (x2 x3 : FVec Ideal S64 .f32) (x4 : FVec Ideal S2048x256 .f32)

/-- The arguments split into heads. -/
theorem ref_q (h : Fin 4) (s : Fin 2048) (d : Fin 64) : val_main_v19 (F := Ideal) x0 (ix3 h s d) = qx x0 s (lane h d) := by
  pointwise [val_main_v19, val_main_v18, val_main_v16, qx, lane]
@[inherit_doc ref_q] theorem ref_k (h : Fin 4) (m : Fin 256) (d : Fin 64) : val_main_v2 (F := Ideal) x1 (ix3 h m d) = kx x1 m (lane h d) := by
  pointwise [val_main_v2, val_main_v1, val_main_v0, kx, lane]
@[inherit_doc ref_q] theorem ref_v (h : Fin 4) (m : Fin 256) (d : Fin 64) : val_main_v57 (F := Ideal) x1 (ix3 h m d) = vx x1 m (lane h d) := by
  pointwise [val_main_v57, val_main_v56, val_main_v17, vx, lane]
@[inherit_doc ref_q] theorem ref_d (h : Fin 4) (s : Fin 2048) (d : Fin 64) : val_main_v62 (F := Ideal) x4 (ix3 h s d) = x4 (ix2 s (lane h d)) := by
  pointwise [val_main_v62, val_main_v61, lane]

/-- The mean squares, and the normalised queries and keys. -/
theorem ref_ms (h : Fin 4) (s : Fin 2048) (z : Fin 1) : val_main_v26 (F := Ideal) x0 (ix3 h s z) = ms (qx x0 s) h := by
  pointwise [val_main_v26, val_main_v25, val_main_v24, val_main_v23, val_main_v22, val_main_v21, val_main_v20, val_main_cst_2, val_main_cst_3, val_main_cst_4]
  simp only [ref_q, div64]; rfl
@[inherit_doc ref_ms] theorem ref_msk (h : Fin 4) (m : Fin 256) (z : Fin 1) : val_main_v9 (F := Ideal) x1 (ix3 h m z) = ms (kx x1 m) h := by
  pointwise [val_main_v9, val_main_v8, val_main_v7, val_main_v6, val_main_v5, val_main_v4, val_main_v3, val_main_cst, val_main_cst_0, val_main_cst_1]
  simp only [ref_k, div64]; rfl
@[inherit_doc ref_ms] theorem ref_nrm (h : Fin 4) (s : Fin 2048) (d : Fin 64) : val_main_v32 (F := Ideal) x0 (ix3 h s d) = nrm (qx x0 s) (lane h d) := by
  pointwise [val_main_v32, val_main_v31, val_main_v27]
  simp only [ref_q, ref_ms, nrm, hd_lane]; rfl
variable {x2 x3} {G H : FVec Ideal S1x256 .f32} (hG : ∀ h d, G (ix2 0 (lane h d)) = x2 (ix1 d)) (hH : ∀ h d, H (ix2 0 (lane h d)) = x3 (ix1 d))
include hG in
@[inherit_doc ref_ms] theorem ref_unit (h : Fin 4) (s : Fin 2048) (d : Fin 64) : val_main_v35 (F := Ideal) x0 x2 (ix3 h s d) = qu x0 G s (lane h d) := by
  pointwise [val_main_v35, val_main_v34, val_main_v33]
  rw [ref_nrm, ← hG h d]; rfl
include hH in
@[inherit_doc ref_ms] theorem ref_unitk (h : Fin 4) (m : Fin 256) (d : Fin 64) : val_main_v15 (F := Ideal) x1 x3 (ix3 h m d) = ku x1 H m (lane h d) := by
  pointwise [val_main_v15, val_main_v14, val_main_v13, val_main_v12, val_main_v11, val_main_v10]
  simp only [ref_k, ref_msk, ← hH h d, unit, nrm, hd_lane]; rfl

include hG hH
/-- The scores, their maximum, the exponentials, their sum, the weights. -/
theorem ref_sc (h : Fin 4) (s : Fin 2048) (m : Fin 256) : val_main_v38 (F := Ideal) x0 x1 x2 x3 (ix3 h s m) = sc (qu x0 G s) (ku x1 H) h m := by
  pointwise [val_main_v38, val_main_v37, val_main_v36, val_main_cst_6]
  simp only [ref_unit x0 hG, ref_unitk x1 hH]; rfl
@[inherit_doc ref_sc] theorem ref_top (h : Fin 4) (s : Fin 2048) : val_main_v39 (F := Ideal) x0 x1 x2 x3 (ix2 h s) = top (qu x0 G s) (ku x1 H) h := by
  unfold val_main_v39
  refine (congrFun (hostReduce_maximumf_eq_multiReduction _ _ _ _ (by decide) (.inl rfl) rfl) _).trans ?_
  refine (Ideal.multiReduction_maximumf_single _ _ _ _ _ _).trans (Finset.fold_congr fun m _ => ?_)
  refine .trans (congrArg (val_main_v38 (F := Ideal) x0 x1 x2 x3) ?_) (ref_sc x0 x1 hG hH h s m)
  exact eq_ix3 _
@[inherit_doc ref_sc] theorem ref_ex (h : Fin 4) (s : Fin 2048) (m : Fin 256) : val_main_v48 (F := Ideal) x0 x1 x2 x3 (ix3 h s m) = ex (qu x0 G s) (ku x1 H) h m := by
  pointwise [val_main_v48, val_main_v47, val_main_v46, val_main_v45]
  rw [ref_sc x0 x1 hG hH, ref_top x0 x1 hG hH]; rfl
@[inherit_doc ref_sc] theorem ref_tot (h : Fin 4) (s : Fin 2048) : val_main_v49 (F := Ideal) x0 x1 x2 x3 (ix2 h s) = tot (qu x0 G s) (ku x1 H) h := by
  pointwise [val_main_v49, val_main_cst_9]
  simp only [ref_ex x0 x1 hG hH]; rfl
@[inherit_doc ref_sc] theorem ref_pr (h : Fin 4) (s : Fin 2048) (m : Fin 256) : val_main_v52 (F := Ideal) x0 x1 x2 x3 (ix3 h s m) = wt x0 x1 G H s h m := by
  pointwise [val_main_v52, val_main_v51, val_main_v50]
  rw [ref_ex x0 x1 hG hH, ref_tot x0 x1 hG hH]; rfl

/-- The forward result. -/
theorem ref_mo (h : Fin 4) (s : Fin 2048) (d : Fin 64) : val_main_v58 (F := Ideal) x0 x1 x2 x3 (ix3 h s d) = mo x0 x1 G H s (lane h d) := by
  pointwise [val_main_v58]
  simp only [ref_pr x0 x1 hG hH, ref_v, mo, hd_lane]
theorem spec_mo : moArr x0 x1 G H = val_main_v105 (F := Ideal) x0 x1 x2 x3 := by
  funext y
  obtain ⟨s, l, rfl⟩ : ∃ (s : Fin 2048) (l : Fin 256), y = ix2 s l := ⟨y 0, y 1, eq_ix2 y⟩
  obtain ⟨d, e⟩ := lane_of l
  generalize hd l = h at e
  subst e
  refine (ref_mo x0 x1 hG hH h s d).symm.trans ?_
  pointwise [val_main_v105, val_main_v60, val_main_v59, lane]

/-- The gradients of the weights, the exponentials, the scores, the normalised queries. -/
theorem ref_dp (h : Fin 4) (s : Fin 2048) (m : Fin 256) : val_main_v65 (F := Ideal) x1 x4 (ix3 h s m) = dp (vx x1) (fun l => x4 (ix2 s l)) h m := by
  pointwise [val_main_v65]
  simp only [ref_d, ref_v]; rfl
@[inherit_doc ref_dp] theorem ref_back (h : Fin 4) (s : Fin 2048) : val_main_v76 (F := Ideal) x0 x1 x2 x3 x4 (ix2 h s)
    = back (qu x0 G s) (ku x1 H) (vx x1) (fun l => x4 (ix2 s l)) h := by
  pointwise [val_main_v76, val_main_v73, val_main_v72, val_main_v71, val_main_v70, val_main_v69, val_main_v68, val_main_v55, val_main_v54, val_main_v53,
    val_main_v50, val_main_cst_10, val_main_cst_11, val_main_cst_12, Finset.univ_unique, Finset.sum_singleton]
  simp only [ref_dp x1 x4 hG hH, ref_ex x0 x1 hG hH, ref_tot x0 x1 hG hH, back, word_one]
@[inherit_doc ref_dp] theorem ref_ds (h : Fin 4) (s : Fin 2048) (m : Fin 256) : val_main_v81 (F := Ideal) x0 x1 x2 x3 x4 (ix3 h s m)
    = ds (qu x0 G s) (ku x1 H) (vx x1) (fun l => x4 (ix2 s l)) h m := by
  pointwise [val_main_v81, val_main_v80, val_main_v79, val_main_v78, val_main_v77, val_main_v75, val_main_v74, val_main_v50, val_main_cst_13]
  rw [ref_dp x1 x4 hG hH, ref_ex x0 x1 hG hH, ref_tot x0 x1 hG hH, ref_back x0 x1 x4 hG hH]; rfl
@[inherit_doc ref_dp] theorem ref_dq (h : Fin 4) (s : Fin 2048) (d : Fin 64) : val_main_v82 (F := Ideal) x0 x1 x2 x3 x4 (ix3 h s d)
    = dqu x0 x1 G H x4 s (lane h d) := by
  pointwise [val_main_v82]
  simp only [ref_ds x0 x1 x4 hG hH, ref_unitk x1 hH, dqu, dq, hd_lane]
/-- The queries' gradient. -/
theorem ref_dy (h : Fin 4) (s : Fin 2048) (d : Fin 64) : val_main_v87 (F := Ideal) x0 x1 x2 x3 x4 (ix3 h s d)
    = dqu x0 x1 G H x4 s (lane h d) * G (ix2 0 (lane h d)) := by
  pointwise [val_main_v87, val_main_v86, val_main_v33]
  rw [ref_dq x0 x1 x4 hG hH, hG]
@[inherit_doc ref_dy] theorem ref_cf (h : Fin 4) (s : Fin 2048) : val_main_v97 (F := Ideal) x0 x1 x2 x3 x4 (ix2 h s)
    = cf (qx x0 s) (fun l => dqu x0 x1 G H x4 s l * G (ix2 0 l)) h := by
  pointwise [val_main_v97, val_main_v96, val_main_v95, val_main_v94, val_main_v91, val_main_v90, val_main_v89, val_main_v30, val_main_v29, val_main_v28, val_main_v27,
    val_main_cst_5, val_main_cst_16, val_main_cst_17, val_main_cst_18, Finset.univ_unique, Finset.sum_singleton]
  simp only [ref_dy x0 x1 x4 hG hH, ref_q, ref_ms, div64]; rfl
@[inherit_doc ref_dy] theorem ref_dx (h : Fin 4) (s : Fin 2048) (d : Fin 64) : val_main_v102 (F := Ideal) x0 x1 x2 x3 x4 (ix3 h s d)
    = dmq x0 x1 G H x4 s (lane h d) := by
  pointwise [val_main_v102, val_main_v101, val_main_v100, val_main_v99, val_main_v98, val_main_v93, val_main_v92, val_main_v27]
  simp only [ref_dy x0 x1 x4 hG hH, ref_cf x0 x1 x4 hG hH, ref_q, ref_ms, dmq, dx, hd_lane]; rfl
theorem spec_dmq : dmqArr x0 x1 G H x4 = val_main_v106 (F := Ideal) x0 x1 x2 x3 x4 := by
  funext y
  obtain ⟨s, l, rfl⟩ : ∃ (s : Fin 2048) (l : Fin 256), y = ix2 s l := ⟨y 0, y 1, eq_ix2 y⟩
  obtain ⟨d, e⟩ := lane_of l
  generalize hd l = h at e
  subst e
  refine (ref_dx x0 x1 x4 hG hH h s d).symm.trans ?_
  pointwise [val_main_v106, val_main_v104, val_main_v103, lane]
/-- The values' gradient. -/
theorem ref_dv (h : Fin 4) (m : Fin 256) (d : Fin 64) : val_main_v64 (F := Ideal) x0 x1 x2 x3 x4 (ix3 h m d) = ∑ i : Fin 8, dvTile x0 x1 G H x4 i m (lane h d) := by
  refine (show _ = ∑ s : Fin 2048, wt x0 x1 G H s h m * x4 (ix2 s (lane h d)) from ?_).trans ?_
  · pointwise [val_main_v64, val_main_v63]
    simp only [ref_d, ref_pr x0 x1 hG hH]
    exact Finset.sum_congr rfl fun s _ => mul_comm _ _
  · rw [Fin.sum_univ_tiles (N := 2048) 8 256 (by norm_num)]
    simp only [dvTile, hd_lane]
theorem spec_dv : dvArr x0 x1 G H x4 = val_main_v67 (F := Ideal) x0 x1 x2 x3 x4 := by
  funext y
  obtain ⟨m, l, rfl⟩ : ∃ (m l : Fin 256), y = ix2 m l := ⟨y 0, y 1, eq_ix2 y⟩
  obtain ⟨d, e⟩ := lane_of l
  generalize hd l = h at e
  subst e
  refine (ref_dv x0 x1 x4 hG hH h m d).symm.trans ?_
  pointwise [val_main_v67, val_main_v66, lane]
/-- The gain's gradient: the sum over the heads of the rows' sums. -/
theorem spec_dg (d : Fin 64) : ∑ h : Fin 4, dgArr x0 x1 G H x4 (ix2 0 (lane h d)) = val_main_v88 (F := Ideal) x0 x1 x2 x3 x4 (ix1 d) := by
  refine .symm ((show _ = Ideal.hostReduceAdd _ _ _ (ix1 d) from rfl).trans ((sum01 _ _ _ d).trans ?_))
  pointwise [val_main_cst_15, val_main_v85, Finset.univ_unique, Finset.sum_singleton]
  refine (show _ = Ideal.hostReduceAdd _ _ _ (ix1 d) from rfl).trans ((sum01 _ _ _ d).trans ?_)
  pointwise [val_main_cst_14, val_main_v83]
  refine Finset.sum_congr rfl fun h _ => ?_
  rw [Fin.sum_univ_tiles (N := 2048) 8 256 (by norm_num)]
  simp only [ref_nrm, ref_dq x0 x1 x4 hG hH]; rfl

end Cert.MemAttnIdeal.Mem

end

end
-- ==== Proof.Mem.Final.lean ====
module

public import proofs.«01_k».proof.Proof.Mem.Run
public import proofs.«01_k».proof.Proof.Mem.Spec

@[expose] public section

set_option maxRecDepth 16384

noncomputable section

namespace Cert.MemAttnIdeal.Mem

open Cert.MemAttnIdeal Cert.MemAttnIdeal.Gen
open Idealize.ShloMosaic Idealize.ShloMosaic.TcCoe Idealize.SL.Sem
open Cert.MemAttnRefIdeal.Read

variable (m : (ℓ : Loc nD τ sig) → Buf (Elt Ideal) ℓ) (ρ : Dev nD → PrngReg) (c : Dev nD)

/-- The kernel's arguments: the projected rows, the memory's keys and values, the two gains, the incoming gradient. -/
abbrev tP : FVec Ideal S2048x2304 .f32 := m ((c : Thread nD τ).loc main_arg0)
@[inherit_doc tP] abbrev tM : FVec Ideal S256x512 .f32 := m ((c : Thread nD τ).loc main_arg1)
@[inherit_doc tP] abbrev tG : FVec Ideal S64 .f32 := m ((c : Thread nD τ).loc main_arg2)
@[inherit_doc tP] abbrev tH : FVec Ideal S64 .f32 := m ((c : Thread nD τ).loc main_arg3)
@[inherit_doc tP] abbrev tD : FVec Ideal S2048x256 .f32 := m ((c : Thread nD τ).loc main_arg4)

/-- An entry of row 0 is at some head's lane. -/
theorem row_lane (y : S1x256.Idx) : ∃ (h : Fin 4) (d : Fin 64), y = ix2 0 (lane h d) := by
  obtain ⟨z, l, rfl⟩ : ∃ (z : Fin 1) (l : Fin 256), y = ix2 z l := ⟨y 0, y 1, eq_ix2 y⟩
  obtain rfl := Subsingleton.elim z 0
  obtain ⟨d, e⟩ := lane_of l
  exact ⟨hd l, d, congrArg (ix2 0) e⟩
/-- The gains laid out once per head. -/
def gains (g : FVec Ideal S64 .f32) : FVec Ideal S1x256 .f32 := fun y => g (ix1 ⟨(y 1).val % 64, Nat.mod_lt _ (by norm_num)⟩)
theorem gains_at (g : FVec Ideal S64 .f32) (h : Fin 4) (d : Fin 64) : gains g (ix2 0 (lane h d)) = g (ix1 d) := by
  refine congrArg (fun e => g (ix1 e)) (Fin.ext (?_ : (h.val * 64 + d.val) % 64 = d.val))
  omega
theorem v3_1 : (V1 m ρ c main_v3 : FVec Ideal S1x256 .f32) = gains (tG m c) := by
  unfold V1 W1 hostOps0; after_results
  funext y
  obtain ⟨h, d, rfl⟩ := row_lane y
  rw [gains_at]
  pointwise [lane]
  exact congrArg (fun e => tG m c (ix1 e)) (Fin.ext (by dsimp only; omega))
@[inherit_doc gains] theorem v7_1 : (V1 m ρ c main_v7 : FVec Ideal S1x256 .f32) = gains (tH m c) := by
  unfold V1 W1 hostOps0; after_results
  funext y
  obtain ⟨h, d, rfl⟩ := row_lane y
  rw [gains_at]
  pointwise [lane]
  exact congrArg (fun e => tH m c (ix1 e)) (Fin.ext (by dsimp only; omega))

/-- What each boundary holds. -/
theorem v8_2 : W2 m ρ c main_v8 = moArr (tP m c) (tM m c) (gains (tG m c)) (gains (tH m c)) := by
  refine ((W2_arr m ρ c 5).trans (arr0 (V1 m ρ) c)).trans ?_
  exact congr (congr (congrArg₂ moArr (W1_args m ρ c main_arg0 (by decide)) (W1_args m ρ c main_arg1 (by decide))) (v3_1 m ρ c)) (v7_1 m ρ c)
@[inherit_doc v8_2] theorem v8_4 : W4 m ρ c main_v8 = moArr (tP m c) (tM m c) (gains (tG m c)) (gains (tH m c)) :=
  (W4_of m ρ c main_v8 (by decide)).trans ((W3_of m ρ c main_v8 (by decide)).trans (v8_2 m ρ c))
/-- Region 1's arguments. -/
theorem args1 : aP (V2 m ρ) c = tP m c ∧ aM (V2 m ρ) c = tM m c ∧ aG (V2 m ρ) c = gains (tG m c) ∧ aH (V2 m ρ) c = gains (tH m c) ∧ aD (V2 m ρ) c = tD m c :=
  ⟨W2_args m ρ c main_arg0 (by decide), W2_args m ρ c main_arg1 (by decide), (W2_of m ρ c main_v3 (by decide)).trans (v3_1 m ρ c),
    (W2_of m ρ c main_v7 (by decide)).trans (v7_1 m ρ c), W2_args m ρ c main_arg4 (by decide)⟩
@[inherit_doc v8_2] theorem v9_4 : W4 m ρ c main_v9_0 = dmqArr (tP m c) (tM m c) (gains (tG m c)) (gains (tH m c)) (tD m c) := by
  refine (W4_of m ρ c main_v9_0 (by decide)).trans (((W3_arr m ρ c 6).trans (arr1_6 (V2 m ρ) c)).trans ?_)
  obtain ⟨e0, e1, e2, e3, e4⟩ := args1 m ρ c
  rw [e0, e1, e2, e3, e4]
@[inherit_doc v8_2] theorem v92_3 : W3 m ρ c main_v9_2 = dvArr (tP m c) (tM m c) (gains (tG m c)) (gains (tH m c)) (tD m c) := by
  refine ((W3_arr m ρ c 8).trans (arr1_8 (V2 m ρ) c)).trans ?_
  obtain ⟨e0, e1, e2, e3, e4⟩ := args1 m ρ c
  rw [e0, e1, e2, e3, e4]
@[inherit_doc v8_2] theorem v93_3 : W3 m ρ c main_v9_3 = dgArr (tP m c) (tM m c) (gains (tG m c)) (gains (tH m c)) (tD m c) := by
  refine ((W3_arr m ρ c 9).trans (arr1_9 (V2 m ρ) c)).trans ?_
  obtain ⟨e0, e1, e2, e3, e4⟩ := args1 m ρ c
  rw [e0, e1, e2, e3, e4]
@[inherit_doc v8_2] theorem v11_4 : W4 m ρ c main_v11 = dvArr (tP m c) (tM m c) (gains (tG m c)) (gains (tH m c)) (tD m c) := by
  refine .trans ?_ (v92_3 m ρ c)
  unfold W4 hostOps2; after_results
  funext y
  obtain ⟨r, l, rfl⟩ : ∃ (r l : Fin 256), y = ix2 r l := ⟨y 0, y 1, eq_ix2 y⟩
  pointwise []
@[inherit_doc v8_2] theorem v13_4 : (W4 m ρ c main_v13 : FVec Ideal S64 .f32)
    = fun y => ∑ h : Fin 4, dgArr (tP m c) (tM m c) (gains (tG m c)) (gains (tH m c)) (tD m c) (ix2 0 (lane h (y 0))) := by
  rw [← v93_3 m ρ c]
  unfold W4 hostOps2; after_results
  funext y
  obtain ⟨d, rfl⟩ : ∃ d : Fin 64, y = ix1 d := ⟨y 0, eq_ix1 y⟩
  pointwise [lane]

/-- The run with its values: the four results are the reference's of the arguments, which end unchanged. -/
theorem run_value : θ_run defs (onTc (τ := τ) (main (F := Ideal))) ⟨m, fun _ => 0, ρ⟩ (fun r => ∀ c : Dev nD,
      r.2.mem ((c.tc : Thread nD τ).loc main_v8) = val_main_v105 (F := Ideal) (tP m c) (tM m c) (tG m c) (tH m c)
      ∧ r.2.mem ((c.tc : Thread nD τ).loc main_v9_0) = val_main_v106 (F := Ideal) (tP m c) (tM m c) (tG m c) (tH m c) (tD m c)
      ∧ r.2.mem ((c.tc : Thread nD τ).loc main_v11) = val_main_v67 (F := Ideal) (tP m c) (tM m c) (tG m c) (tH m c) (tD m c)
      ∧ r.2.mem ((c.tc : Thread nD τ).loc main_v13) = val_main_v88 (F := Ideal) (tP m c) (tM m c) (tG m c) (tH m c) (tD m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
    (h c _ (mem_uc main_v8 (by decide))).trans ((v8_4 m ρ c).trans (spec_mo _ _ (gains_at _) (gains_at _))),
    (h c _ (mem_uc main_v9_0 (by decide))).trans ((v9_4 m ρ c).trans (spec_dmq _ _ _ (gains_at _) (gains_at _))),
    (h c _ (mem_uc main_v11 (by decide))).trans ((v11_4 m ρ c).trans (spec_dv _ _ _ (gains_at _) (gains_at _))),
    (h c _ (mem_uc main_v13 (by decide))).trans ((v13_4 m ρ c).trans (funext fun y =>
      (spec_dg _ _ _ (gains_at _) (gains_at _) (y 0)).trans (congrArg (val_main_v88 (F := Ideal) _ _ _ _ _) (eq_ix1 y).symm))),
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c)⟩) (run_memory m ρ)

end Cert.MemAttnIdeal.Mem

end

end
-- ==== Proof.Ret.Run.lean ====
module

public import proofs.«01_k».proof.Proof.Gen.RetIdeal.Frame

@[expose] public section

set_option maxRecDepth 16384

noncomputable section

namespace Cert.RetIdeal.Ret

open Cert.RetIdeal Cert.RetIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with its memory: every buffer outside the kernels' own scopes ends as the last boundary has it. -/
theorem run_memory : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

end Cert.RetIdeal.Ret

end
-- ==== Proof.Ret.Tile.lean ====
module

public import proofs.«01_k».proof.Proof.Gen.RetIdeal.Skeleton
public import proofs.«01_k».proof.Proof.Mem.Tile
public import Idealize.ShloMosaic.Lib.Pointwise

@[expose] public section

set_option maxRecDepth 16384

noncomputable section

namespace Cert.RetIdeal.Ret

open Cert.RetIdeal Cert.RetIdeal.Gen
open Cert.MemAttnIdeal.Mem (hd lane hd_lane lane_of sum_head select_bit bit IsHead pick pick' pick3 sum_masked sum_masked' rs ms)
open Idealize.ShloMosaic Idealize.ShloMosaic.TcCoe Idealize.SL.Sem

/-- The lane a rotation pairs a lane with: the other half of its head's entries. -/
def sw (l : Fin 256) : Fin 256 := if h : l.val % 64 < 32 then ⟨l.val + 32, by omega⟩ else ⟨l.val - 32, by omega⟩
/-- A row rotated by the angles whose cosines and signed sines are `c` and `s`. -/
def rot (x c s : Fin 256 → EReal) (l : Fin 256) : EReal := x l * c l + x (sw l) * s l

/-- The zero the kernel writes. -/
theorem zero_eq : (Scalar.ofBits .f32 0x00000000#32 : Ideal .f32) = (0 : EReal) := by simp [Scalar.ofBits, Ideal.ofBits, Ideal.ieee]

/-- The logarithm of the logistic function. -/
def ls (x : EReal) : EReal := 0 - (max (0 - x) 0 + Ideal.log1p (Ideal.exp (0 - max (0 - x) (-(0 - x)))))

variable (X C S : Vec Ideal S128x256 .f32) (f : Vec Ideal S1x256 .f32)

theorem lgf_at (l : Fin 256) : k0_pay5 f (ix2 0 l) = ls (f (ix2 0 l)) := by
  pointwise [k0_pay5]
  simp [ls, Ideal.absf_def]
theorem lgb_at (l : Fin 256) : k0_pay12 (k0_pay7 f) (k0_pay9 f) (k0_pay10 f) (k0_pay11 f) (ix2 0 l) = ls (f (ix2 0 l)) := by
  pointwise [k0_pay12, k0_pay7, k0_pay9, k0_pay10, k0_pay11, k0_pay8, k0_pay6]
  simp [ls, Ideal.absf_def]

/-- Whether a lane lies in the first half of its head. -/
theorem half_bit (l : Fin 256) : IntOp.cmpi .eq (IntOp.andi (BitVec.ofNat 32 l.val) 32#32) 0#32 = if l.val % 64 < 32 then 1#1 else 0#1 := by
  revert l; decide +kernel
/-- The choice between the two shifted rows is the lane of the other half. -/
theorem swap_eq (x : Fin 256 → EReal) (l : Fin 256) (a b : Fin 256) (ha : a.val = (l.val + 256 - 224) % 256) (hb : b.val = (l.val + 256 - 32) % 256) :
    Scalar.select (IntOp.cmpi .eq (IntOp.andi (BitVec.ofNat 32 l.val) 32#32) 0#32) (x a) (x b) = x (sw l) := by
  rw [half_bit, select_bit]
  split
  · refine congrArg x (Fin.ext ?_); simp [sw, *]; omega
  · refine congrArg x (Fin.ext ?_); simp [sw, *]; omega

theorem rot_at (r : Fin 128) (l : Fin 256) : k0_pay13 X (k0_pay3 C) (k0_pay4 S) (ix2 r l) = rot (fun l => X (ix2 r l)) (fun l => C (ix2 r l)) (fun l => S (ix2 r l)) l := by
  pointwise [k0_pay13, k0_pay3, k0_pay4]
  exact congrArg (X (ix2 r l) * C (ix2 r l) + · * S (ix2 r l)) (swap_eq (fun l => X (ix2 r l)) l _ _ rfl rfl)

/-- A lane's number divided by a head's width, rounded down. -/
theorem quot (d : Fin 256) : (Scalar.select
        (IntOp.andi
          (IntOp.cmpi .ne
            (IntOp.subi (BitVec.setWidth 32 (IntOp.cmpi .sgt (BitVec.ofNat 32 d.val) 0#32))
              (BitVec.setWidth 32 (IntOp.cmpi .slt (BitVec.ofNat 32 d.val) 0#32)))
            (Scalar.subi (Scalar.extui (Scalar.cmpi .sgt 64#32 0#32))
              (Scalar.extui (Scalar.cmpi .slt 64#32 0#32))))
          (IntOp.cmpi .ne (IntOp.remsi .vector (BitVec.ofNat 32 d.val) 64#32) 0#32))
        (IntOp.subi (IntOp.divsi .vector (BitVec.ofNat 32 d.val) 64#32) 1#32)
        (IntOp.divsi .vector (BitVec.ofNat 32 d.val) 64#32)) = BitVec.ofNat 32 (hd d).val := by
  revert d; decide +kernel

/-- Whether two lanes are of the same head. -/
theorem same_head (d e : Fin 256) : k0_pay16 k0_pay15 (iota .tc S256x256 32 [1] iota_S256x256_d1_w32) 64#32 (ix2 d e) = if hd d = hd e then 1#1 else 0#1 := by
  have t : ∀ a b : Fin 4, IntOp.cmpi .eq (BitVec.ofNat 32 a.val) (BitVec.ofNat 32 b.val) = if a = b then 1#1 else 0#1 := by decide
  pointwise [k0_pay15, k0_pay16]
  rw [quot d, quot e]; exact t _ _

/-- The number of a row as a number. -/
def num (r : Nat) : EReal := ((r : ℝ) : EReal)
theorem num_eq (r : Fin 128) : FloatOps.sitofp (F := Ideal) .f32 (BitVec.ofNat 32 r.val) = num r.val := by
  have e : (BitVec.ofNat 32 r.val).toInt = (r.val : Int) := by revert r; decide +kernel
  show (((BitVec.ofNat 32 r.val).toInt : ℝ) : EReal) = _
  rw [e]; rfl

variable (V : Vec Ideal S128x256 .f32) (g : FVec Ideal S1x256 .f32)
/-- What a chunk adds to the running products of keys and values, in each direction. -/
def kvF := k0_pay17 V g X k0_pay14 k0_pay15 (iota .tc S256x256 32 [1] iota_S256x256_d1_w32) 64#32
@[inherit_doc kvF] def kvB := k0_pay18 V g X k0_pay14 k0_pay15 (iota .tc S256x256 32 [1] iota_S256x256_d1_w32) 64#32
theorem kvF_at (d e : Fin 256) : kvF X V g (ix2 d e) = if hd d = hd e then ∑ r : Fin 128, X (ix2 r d) * Ideal.exp ((Ideal.ofBits .f32 0x42FE0000#32 - num r.val) * g (ix2 0 d)) * V (ix2 r e) else 0 := by
  pointwise [kvF, k0_pay17, k0_pay14]
  rw [same_head, select_bit]; simp only [num_eq]
theorem kvB_at (d e : Fin 256) : kvB X V g (ix2 d e) = if hd d = hd e then ∑ r : Fin 128, X (ix2 r d) * Ideal.exp (num r.val * g (ix2 0 d)) * V (ix2 r e) else 0 := by
  pointwise [kvB, k0_pay18, k0_pay14]
  rw [same_head, select_bit]; simp only [num_eq]

end Cert.RetIdeal.Ret
-- ==== Proof.Ret.Out.lean ====
module

public import proofs.«01_k».proof.Proof.Ret.Tile

@[expose] public section

set_option maxRecDepth 16384

noncomputable section

namespace Cert.RetIdeal.Ret

open Cert.RetIdeal Cert.RetIdeal.Gen
open Cert.MemAttnIdeal.Mem (hd lane hd_lane lane_of sum_head select_bit bit IsHead pick pick' pick3 sum_masked sum_masked' rs ms nrm)
open Idealize.ShloMosaic Idealize.ShloMosaic.TcCoe Idealize.SL.Sem

variable (X C S : Vec Ideal S128x256 .f32) (f : Vec Ideal S1x256 .f32)

theorem lgf2_at (l : Fin 256) : k2_pay14 (k2_pay9 f) (k2_pay11 f) (k2_pay12 f) (k2_pay13 f) (ix2 0 l) = ls (f (ix2 0 l)) := by
  pointwise [k2_pay14, k2_pay9, k2_pay11, k2_pay12, k2_pay13, k2_pay8, k2_pay10]
  simp [ls, Ideal.absf_def]
theorem lgb2_at (l : Fin 256) : k2_pay15 (k2_pay6 f) (ix2 0 l) = ls (f (ix2 0 l)) := by
  pointwise [k2_pay15, k2_pay6]
  simp [ls, Ideal.absf_def]

/-- A row of a tile. -/
abbrev row (X : FVec Ideal S128x256 .f32) (r : Fin 128) : Fin 256 → EReal := fun l => X (ix2 r l)

theorem q2_at (r : Fin 128) (l : Fin 256) : k2_pay16 X (k2_pay2 C) (k2_pay3 S) (ix2 r l) = rot (row X r) (row C r) (row S r) l * Ideal.ofBits .f32 0x3E000000#32 := by
  pointwise [k2_pay16, k2_pay2, k2_pay3]
  exact congrArg (fun z => (X (ix2 r l) * C (ix2 r l) + z * S (ix2 r l)) * _) (swap_eq (row X r) l _ _ rfl rfl)
theorem k2_at (r : Fin 128) (l : Fin 256) : k2_pay21 (k2_pay3 S) (k2_pay17 X (k2_pay2 C)) (k2_pay18 X) (k2_pay19 X) k2_pay20 (ix2 r l) = rot (row X r) (row C r) (row S r) l := by
  pointwise [k2_pay21, k2_pay17, k2_pay18, k2_pay19, k2_pay20, k2_pay2, k2_pay3]
  exact congrArg (fun z => X (ix2 r l) * C (ix2 r l) + z * S (ix2 r l)) (swap_eq (row X r) l _ _ rfl rfl)

/-- How far a row is past another. -/
def gap (i m : Fin 128) : EReal := (((i.val : ℤ) - (m.val : ℤ) : ℤ) : ℝ)
theorem gap_eq (i m : Fin 128) : FloatOps.sitofp (F := Ideal) .f32 (IntOp.subi (BitVec.ofNat 32 i.val) (BitVec.ofNat 32 m.val)) = gap i m := by
  have e : (IntOp.subi (BitVec.ofNat 32 i.val) (BitVec.ofNat 32 m.val)).toInt = (i.val : ℤ) - (m.val : ℤ) := by revert i m; decide +kernel
  show (((IntOp.subi (BitVec.ofNat 32 i.val) (BitVec.ofNat 32 m.val)).toInt : ℝ) : EReal) = _
  rw [e]; rfl

/-- The mean of a row over a head's entries. -/
def avg (x : Fin 256 → EReal) (h : Fin 4) : EReal := (∑ d : Fin 64, x (lane h d)) * Ideal.ofBits .f32 0x3C800000#32
/-- How much of row `m` is left at row `i` of a chunk, forwards from it or backwards. -/
def dec (a b : EReal) (i m : Fin 128) : EReal := Ideal.exp (if 0 ≤ gap i m then gap i m * a else (0 - gap i m) * b)

theorem m23 : IsHead k2_pay23 0 := fun l => by pointwise [k2_pay23]; exact bit 0 l _ _ rfl rfl
theorem m24 : IsHead k2_pay24 1 := fun l => by pointwise [k2_pay24]; exact bit 1 l _ _ rfl rfl
theorem m25 : IsHead k2_pay25 2 := fun l => by pointwise [k2_pay25]; exact bit 2 l _ _ rfl rfl
theorem m26 : IsHead k2_pay26 3 := fun l => by pointwise [k2_pay26]; exact bit 3 l _ _ rfl rfl
theorem m48 : IsHead k2_pay48 1 := fun l => by pointwise [k2_pay48]; exact bit 1 l _ _ rfl rfl
theorem m49 : IsHead k2_pay49 2 := fun l => by pointwise [k2_pay49]; exact bit 2 l _ _ rfl rfl
theorem m50 : IsHead k2_pay50 3 := fun l => by pointwise [k2_pay50]; exact bit 3 l _ _ rfl rfl

variable (G B : FVec Ideal S1x256 .f32)
/-- The decay inside a chunk for head `h`, from the lanes' logarithms. -/
def decs (h : Fin 4) (i m : Fin 128) : EReal := dec (avg (fun l => G (ix2 0 l)) h) (avg (fun l => B (ix2 0 l)) h) i m

theorem dec0_at (i m : Fin 128) : k2_pay30 k2_pay22 (k2_pay27 B) (k2_pay28 (F := Ideal)) (k2_pay29 G) (ix2 i m) = decs G B 0 i m := by
  pointwise [k2_pay30, k2_pay22, k2_pay27, k2_pay28, k2_pay29]
  simp only [m23 _, select_bit, sum_head, gap_eq]; rfl
theorem dec1_at (i m : Fin 128) : k2_pay31 G B k2_pay22 k2_pay24 (ix2 i m) = decs G B 1 i m := by
  pointwise [k2_pay31, k2_pay22]
  simp only [m24 _, select_bit, sum_head, gap_eq]; rfl
theorem dec2_at (i m : Fin 128) : k2_pay35 k2_pay22 (k2_pay32 B k2_pay25) (k2_pay33 (k2_pay22 (F := Ideal))) (k2_pay34 G k2_pay22 k2_pay25) (ix2 i m) = decs G B 2 i m := by
  pointwise [k2_pay35, k2_pay22, k2_pay32, k2_pay33, k2_pay34]
  simp only [m25 _, select_bit, sum_head, gap_eq]; rfl
theorem dec3_at (i m : Fin 128) : k2_pay36 G B k2_pay22 k2_pay26 (ix2 i m) = decs G B 3 i m := by
  pointwise [k2_pay36, k2_pay22]
  simp only [m26 _, select_bit, sum_head, gap_eq]; rfl

/-- Row `r` of head `h` in the heads' rows laid one head after the other. -/
def hrow (h : Fin 4) (r : Fin 128) : Fin 512 := ⟨h.val * 128 + r.val, by omega⟩
/-- The lanes' numbers. -/
abbrev lanes : IVec S1x256 32 := iota .tc S1x256 32 [1] iota_S1x256_d1_w32

variable (V Q K : FVec Ideal S128x256 .f32) (D : Fin 4 → FVec Ideal S128x128 .f32)
/-- What the chunk's own rows give, one head's rows after the other's. -/
def own := k2_pay40 V Q K (D 0) (D 1) (D 2) (D 3) lanes k2_pay37 k2_pay38 k2_pay39 192#32
theorem own_at (h : Fin 4) (r : Fin 128) (l : Fin 256) : own V Q K D (ix2 (hrow h r) l)
    = ∑ m : Fin 128, (∑ d : Fin 64, Q (ix2 r (lane h d)) * K (ix2 m (lane h d))) * D h (ix2 r m) * V (ix2 m l) := by
  have b0 l := bit 0 l 0#32 64#32 rfl rfl
  have b1 l := bit 1 l 64#32 128#32 rfl rfl
  have b2 l := bit 2 l 128#32 192#32 rfl rfl
  have b3 l := bit 3 l 192#32 256#32 rfl rfl
  fin_cases h <;> pointwise [own, hrow, k2_pay40, k2_pay37, k2_pay38, k2_pay39, lanes]
  all_goals simp only [b0, b1, b2, b3, select_bit]
  · simp only [sum_head]
  · simp only [sum_head]
  · have a : ¬ 256 + r.val < 128 := by omega
    have b : ¬ 256 + r.val - 128 < 128 := by omega
    have c : 256 + r.val - 128 - 128 < 128 := by omega
    have e : (⟨256 + r.val - 128 - 128, c⟩ : Fin 128) = r := Fin.ext (by show 256 + r.val - 128 - 128 = r.val; omega)
    simp only [dif_neg a, dif_neg b, dif_pos c, e, sum_masked]
  · have a : ¬ 384 + r.val < 128 := by omega
    have b : ¬ 384 + r.val - 128 < 128 := by omega
    have c : ¬ 384 + r.val - 128 - 128 < 128 := by omega
    have e : (⟨384 + r.val - 128 - 128 - 128, by omega⟩ : Fin 128) = r := Fin.ext (by show 384 + r.val - 128 - 128 - 128 = r.val; omega)
    simp only [dif_neg a, dif_neg b, dif_neg c, e, sum_masked]

/-- The chunk's rows against the states before and after it, and the whole output. -/
def fore (T : FVec Ideal S256x256 .f32) := k2_pay45 T G Q (own V Q K D) lanes k2_pay41 k2_pay42 k2_pay43 192#32
theorem fore_at (T : FVec Ideal S256x256 .f32) (r : Fin 128) (l : Fin 256) : fore G V Q K D T (ix2 r l)
    = own V Q K D (ix2 (hrow (hd l) r) l) + ∑ b : Fin 256, Q (ix2 r b) * Ideal.exp ((num r.val + Ideal.ofBits .f32 0x3F800000#32) * G (ix2 0 b)) * T (ix2 b l) := by
  have b0 := bit 0 l 0#32 64#32 rfl rfl
  have b1 := bit 1 l 64#32 128#32 rfl rfl
  have b2 := bit 2 l 128#32 192#32 rfl rfl
  have b3 := bit 3 l 192#32 256#32 rfl rfl
  have z : hrow 0 r = ⟨r.val, by omega⟩ := Fin.ext (by show 0 * 128 + r.val = r.val; omega)
  unfold fore
  generalize own V Q K D = A
  pointwise [k2_pay45, k2_pay41, k2_pay42, k2_pay43, k2_pay44, lanes]
  simp only [b0, b1, b2, b3, select_bit, num_eq]
  rw [← z]
  exact congrArg (· + _) (pick l fun h => A (ix2 (hrow h r) l))
theorem back_at (T : FVec Ideal S256x256 .f32) (r : Fin 128) (l : Fin 256) : k2_pay46 T B Q (ix2 r l)
    = ∑ b : Fin 256, Q (ix2 r b) * Ideal.exp ((Ideal.ofBits .f32 0x43000000#32 - num r.val) * B (ix2 0 b)) * T (ix2 b l) := by
  pointwise [k2_pay46, k2_pay44]
  simp only [num_eq]

/-- The output normalised head by head, times the gain and the gate's logistic. -/
theorem out_at (P R g : FVec Ideal S128x256 .f32) (gn : Vec Ideal S1x256 .f32) (r : Fin 128) (l : Fin 256) :
    k2_pay1 g (k2_pay7 gn) (k2_pay47 P R) k2_pay50 (k2_pay54 (k2_pay47 P R) k2_pay48 k2_pay49 (k2_pay51 P R) (k2_pay52 P R) (Scalar.ofBits .f32 0x00000000#32) k2_pay53) (k2_pay55 (k2_pay47 P R) k2_pay50) (ix2 r l)
      = nrm (row (k2_pay47 P R) r) l * gn (ix2 0 l) * (g (ix2 r l) * Ideal.logistic (g (ix2 r l))) := by
  have b0 l := bit 0 l 0#32 64#32 rfl rfl
  unfold k2_pay51 k2_pay52
  generalize k2_pay47 P R = O
  pointwise [k2_pay1, k2_pay7, k2_pay54, k2_pay53, k2_pay55]
  simp only [b0, m48 _, m49 _, m50 _, select_bit, sum_head, zero_add]
  exact congrArg (fun z => z * gn (ix2 0 l) * (g (ix2 r l) * Ideal.logistic (g (ix2 r l)))) (pick l fun h => O (ix2 r l) * rs (row O r) h)

end Cert.RetIdeal.Ret
-- ==== Proof.Ret.Scan.lean ====
module

public import proofs.«01_k».proof.Proof.Gen.RetIdeal.Frame
public import proofs.«01_k».proof.Proof.Ret.Tile
public import Idealize.ShloMosaic.Lib.Pipeline.ValueKit

@[expose] public section

set_option maxRecDepth 16384

noncomputable section

namespace Cert.RetIdeal.Ret

open Cert.RetIdeal Cert.RetIdeal.Gen
open Idealize.ShloMosaic Idealize.ShloMosaic.TcCoe Idealize.SL.Sem

/-- A state after so many steps: it decays by `c` and what the step brings is added. -/
def scan (c : EReal) (u : ℕ → EReal) : ℕ → EReal
  | 0 => 0
  | n + 1 => c * scan c u n + u n

/-- Entry `(d, e)` of chunk `n`, nothing past the last chunk. -/
def chunk (x : Vec Ideal S16x256x256 .f32) (d e : Fin 256) (n : ℕ) : EReal := if h : n < 16 then x (ix3 ⟨n, h⟩ d e) else 0

theorem slot (i : S1x256x256.Idx) (d e : Fin 256) (h1 : d.val = (i 1).val) (h2 : e.val = (i 2).val) : i = ix3 0 d e := by
  funext b
  fin_cases b
  · exact Subsingleton.elim (α := Fin 1) _ _
  · exact Fin.ext h1.symm
  · exact Fin.ext h2.symm

theorem chunk_lit (x : Vec Ideal S16x256x256 .f32) (d e : Fin 256) (n : ℕ) (h : n < 16) : chunk x d e n = x (ix3 ⟨n, h⟩ d e) := dif_pos h

variable (x0 x1 : Vec Ideal S16x256x256 .f32) (x2 x3 : Vec Ideal S1x256 .f32)

/-- How much of a state is left a chunk later. -/
def left (x : EReal) : EReal := Ideal.exp (Ideal.ofBits .f32 0x43000000#32 * ls x)

theorem lgF_at (l : Fin 256) : k1_pay39 x2 (ix2 0 l) = ls (x2 (ix2 0 l)) := by
  pointwise [k1_pay39]
  simp [ls, Ideal.absf_def]
theorem leftF_at (l : Fin 256) : k1_pay40 (k1_pay39 x2) (ix2 0 l) = left (x2 (ix2 0 l)) := by
  pointwise [k1_pay40]; rw [lgF_at]; rfl
theorem leftB_at (l : Fin 256) : k1_pay41 (k1_pay38 x2) (ix2 0 l) = left (x2 (ix2 0 l)) := by
  pointwise [k1_pay41, k1_pay38]
  simp [left, ls, Ideal.absf_def]

/-- The scan over the chunks leaves each chunk the state before it, forwards and backwards. -/
theorem scanF_at (a : Fin 16) (d e : Fin 256) :
    out1_4 x0 x1 x2 x3 (ix3 a d e) = scan (left (x2 (ix2 0 e))) (chunk x0 d e) a.val := by
  have hz (i : S1x256x256.Idx) : (i 0).val = 0 := congrArg Fin.val (Subsingleton.elim (α := Fin 1) (i 0) 0)
  have hl : View.ld x2 r1_16 = x2 := by simp (disch := decide) only [View.ld_unit_lit']
  unfold_out out1_4
  rw [hl]
  canon_tiles i h
  all_goals
    obtain rfl := slot i d e h1 h2
    replace h0 : a.val = _ := h0
    rw [hz] at h0
    rw [h0]
    pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98]
    try simp only [leftF_at, scan]
    try simp (disch := decide) only [chunk_lit]
    try rfl
@[inherit_doc scanF_at] theorem scanB_at (a : Fin 16) (d e : Fin 256) :
    out1_5 x0 x1 x2 x3 (ix3 a d e) = scan (left (x3 (ix2 0 e))) (fun n => chunk x1 d e (15 - n)) (15 - a.val) := by
  have hz (i : S1x256x256.Idx) : (i 0).val = 0 := congrArg Fin.val (Subsingleton.elim (α := Fin 1) (i 0) 0)
  have hl : View.ld x3 r1_16 = x3 := by simp (disch := decide) only [View.ld_unit_lit']
  unfold_out out1_5
  rw [hl]
  canon_tiles i h
  all_goals
    obtain rfl := slot i d e h1 h2
    replace h0 : a.val = _ := h0
    rw [hz] at h0
    rw [h0]
    pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98]
    try simp only [leftB_at, scan]
    try simp (disch := decide) only [chunk_lit]
    try rfl
end Cert.RetIdeal.Ret
-- ==== Proof.Ret.Ref.lean ====
module

public import proofs.«01_k».proof.Proof.Ret.Out
public import proofs.«01_k».proof.Proof.Ret.Scan
public import proofs.«01_k».proof.Proof.Gen.RetRefIdeal.Read
public import proofs.«01_k».proof.Proof.Mem.Spec
public import Idealize.ShloMosaic.Lib.KernelVsHost

@[expose] public section

set_option maxRecDepth 16384

noncomputable section

namespace Cert.RetIdeal.Ret

open Idealize.ShloMosaic Idealize.ShloMosaic.TcCoe
open Cert.MemAttnIdeal.Mem (hd lane hd_lane lane_of div64 word_one rs ms nrm)
open Cert.RetRefIdeal.Read

/-- Row `i` of chunk `n`. -/
def place (n : Fin 16) (i : Fin 128) : Fin 2048 := ⟨n.val * 128 + i.val, by omega⟩
/-- The entry of a head that a lane holds. -/
def ent (l : Fin 256) : Fin 64 := ⟨l.val % 64, by omega⟩
theorem lane_ent (l : Fin 256) : lane (hd l) (ent l) = l := Fin.ext (by show l.val / 64 * 64 + l.val % 64 = l.val; omega)
theorem ent_lane (h : Fin 4) (d : Fin 64) : ent (lane h d) = d := Fin.ext (by show (h.val * 64 + d.val) % 64 = d.val; omega)
theorem place_rev (n : Fin 16) (i : Fin 128) (hh : n.val * 128 + i.val < 2048) : (⟨n.val * 128 + i.val, hh⟩ : Fin 2048).rev = place n.rev i.rev :=
  Fin.ext (by simp only [Fin.val_rev, place]; omega)
theorem place_div (n : Fin 16) (i : Fin 128) : (place n i).val / 128 = n.val := by show (n.val * 128 + i.val) / 128 = _; omega
theorem place_mod (n : Fin 16) (i : Fin 128) : (place n i).val % 128 = i.val := by show (n.val * 128 + i.val) % 128 = _; omega

/-- The angle of a position at a frequency. -/
def ang (t : Fin 2048) (j : Fin 32) : EReal :=
  FloatOps.sitofp (F := Ideal) .f32 (BitVec.ofNat 32 t.val) * Ideal.pow (Ideal.ofBits .f32 0x461C4000#32)
    (Ideal.div (-FloatOps.sitofp (F := Ideal) .f32 (BitVec.ofNat 32 j.val)) (Ideal.ofBits .f32 0x42000000#32))
/-- The frequency of a lane. -/
def freq (l : Fin 256) : Fin 32 := ⟨l.val % 32, by omega⟩
/-- The cosines and the signed sines of a position, lane by lane. -/
def cosL (t : Fin 2048) (l : Fin 256) : EReal := Ideal.cos (ang t (freq l))
@[inherit_doc cosL] def sinL (t : Fin 2048) (l : Fin 256) : EReal := if l.val % 64 < 32 then -Ideal.sin (ang t (freq l)) else Ideal.sin (ang t (freq l))

variable (x0 : FVec Ideal S2048x2304 .f32) (x1 x2 : FVec Ideal S4 .f32) (x3 : FVec Ideal S256 .f32)
/-- Group `k` of the projections. -/
def pj (k : Fin 4) (t : Fin 2048) (l : Fin 256) : EReal := x0 (ix2 t ⟨k.val * 256 + l.val, by omega⟩)
/-- The queries and keys rotated, the queries scaled. -/
def qx (t : Fin 2048) (l : Fin 256) : EReal := rot (pj x0 0 t) (cosL t) (sinL t) l * Ideal.ofBits .f32 0x3E000000#32
@[inherit_doc qx] def kx (t : Fin 2048) (l : Fin 256) : EReal := rot (pj x0 1 t) (cosL t) (sinL t) l

variable (h : Fin 4) (t : Fin 2048) (d e : Fin 64) (j : Fin 32) (n : Fin 16) (i m : Fin 128)
/-- What a chunk adds to the states, forwards and backwards. -/
def kvf : EReal := ∑ r : Fin 128, kx x0 (place n r) (lane h d) * Ideal.exp ((Ideal.ofBits .f32 0x42FE0000#32 - num r.val) * ls (x1 (ix1 h))) * pj x0 2 (place n r) (lane h e)
@[inherit_doc kvf] def kvb : EReal := ∑ r : Fin 128, kx x0 (place n r) (lane h d) * Ideal.exp (num r.val * ls (x2 (ix1 h))) * pj x0 2 (place n r) (lane h e)
/-- The states before a chunk and after it. -/
def sf : EReal := scan (left (x1 (ix1 h))) (fun k => if hk : k < 16 then kvf x0 x1 h d e ⟨k, hk⟩ else 0) n.val
@[inherit_doc sf] def sb : EReal := scan (left (x2 (ix1 h))) (fun k => if hk : k < 16 then kvb x0 x2 h d e (Fin.rev ⟨k, hk⟩) else 0) (15 - n.val)
/-- The score of row `i` of a chunk against row `m` of it. -/
def score : EReal := ∑ d : Fin 64, qx x0 (place n i) (lane h d) * kx x0 (place n m) (lane h d)
/-- The retention of row `i` of chunk `n`: its own chunk, what came before and what comes after. -/
def oo : EReal := (∑ m : Fin 128, score x0 h n i m * dec (ls (x1 (ix1 h))) (ls (x2 (ix1 h))) i m * pj x0 2 (place n m) (lane h e))
  + (∑ d : Fin 64, qx x0 (place n i) (lane h d) * Ideal.exp ((num i.val + Ideal.ofBits .f32 0x3F800000#32) * ls (x1 (ix1 h))) * sf x0 x1 h d e n)
  + ∑ d : Fin 64, qx x0 (place n i) (lane h d) * Ideal.exp ((Ideal.ofBits .f32 0x43000000#32 - num i.val) * ls (x2 (ix1 h))) * sb x0 x2 h d e n

/-- The reference's angles, rotated queries and keys, and values. -/
theorem ref_ang : val_main_v17 (F := Ideal) (ix2 t j) = ang t j := by
  pointwise [val_main_v17, val_main_v16, val_main_v15, val_main_v14, val_main_v13, val_main_v12, val_main_v11, val_main_v10, val_main_v9, val_main_v8, val_main_v7, val_main_v6, val_main_cst_0, val_main_cst]; rfl
@[inherit_doc ref_ang] theorem ref_ang' : val_main_v52 (F := Ideal) (ix2 t j) = ang t j := by
  pointwise [val_main_v52, val_main_v51, val_main_v50, val_main_v49, val_main_v48, val_main_v47, val_main_v46, val_main_v45, val_main_v44, val_main_v43, val_main_v42, val_main_v41, val_main_cst_3, val_main_cst_2]; rfl
/-- One half of a rotation written with a difference and the other with a sum is the rotation of the lanes. -/
theorem rot_halves (x : Fin 256 → EReal) : rot x (cosL t) (sinL t) (lane h d) =
    if d.val < 32 then x (lane h d) * Ideal.cos (ang t (freq (lane h d))) - x (sw (lane h d)) * Ideal.sin (ang t (freq (lane h d)))
    else x (sw (lane h d)) * Ideal.sin (ang t (freq (lane h d))) + x (lane h d) * Ideal.cos (ang t (freq (lane h d))) := by
  have e : (lane h d).val % 64 = d.val := by show (h.val * 64 + d.val) % 64 = d.val; omega
  unfold rot cosL sinL
  rw [e]
  split
  · rw [mul_neg, sub_eq_add_neg]
  · rw [add_comm]
/-- Lanes, partners and frequencies as the two halves name them. -/
theorem pj_lane (k : Fin 4) (a : Fin 2304) (ha : a.val = k.val * 256 + (h.val * 64 + d.val)) : x0 (ix2 t a) = pj x0 k t (lane h d) :=
  congrArg x0 (congrArg (ix2 t) (Fin.ext ha))
@[inherit_doc pj_lane] theorem pj_sw (k : Fin 4) (a : Fin 2304) (ha : a.val = k.val * 256 + (h.val * 64 + (d.val + 32) % 64)) : x0 (ix2 t a) = pj x0 k t (sw (lane h d)) := by
  refine congrArg x0 (congrArg (ix2 t) (Fin.ext (ha.trans ?_)))
  have e : (lane h d).val = h.val * 64 + d.val := rfl
  unfold sw; split <;> (dsimp only; omega)
@[inherit_doc pj_lane] theorem freq_lane (a : Fin 32) (ha : a.val = d.val % 32) : a = freq (lane h d) :=
  Fin.ext (ha.trans (by show _ = (h.val * 64 + d.val) % 32; omega))
theorem ref_q : val_main_v38 (F := Ideal) x0 (ix3 h t d) = qx x0 t (lane h d) := by
  have e : val_main_v38 (F := Ideal) x0 (ix3 h t d) = val_main_v36 (F := Ideal) x0 (ix3 h t d) * Ideal.ofBits .f32 0x3E000000#32 := by
    pointwise [val_main_v38, val_main_v37, val_main_cst_1]
  rw [e]
  unfold qx
  refine congrArg (· * _) ((?_ : _ = _).trans (rot_halves h t d (pj x0 0 t)).symm)
  pointwise [val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v5, val_main_v4, val_main_v0]
  simp only [ref_ang]
  split
  · exact congrArg₂ (· - ·) (congrArg₂ (· * ·) (pj_lane x0 h t d 0 _ (by dsimp only; omega)) (congrArg (fun a => Ideal.cos (ang t a)) (freq_lane h d _ (by dsimp only; omega))))
      (congrArg₂ (· * ·) (pj_sw x0 h t d 0 _ (by dsimp only; omega)) (congrArg (fun a => Ideal.sin (ang t a)) (freq_lane h d _ (by dsimp only; omega))))
  · exact congrArg₂ (· + ·) (congrArg₂ (· * ·) (pj_sw x0 h t d 0 _ (by dsimp only; omega)) (congrArg (fun a => Ideal.sin (ang t a)) (freq_lane h d _ (by dsimp only; omega))))
      (congrArg₂ (· * ·) (pj_lane x0 h t d 0 _ (by dsimp only; omega)) (congrArg (fun a => Ideal.cos (ang t a)) (freq_lane h d _ (by dsimp only; omega))))
theorem ref_k : val_main_v71 (F := Ideal) x0 (ix3 h t d) = kx x0 t (lane h d) := by
  refine (?_ : _ = _).trans (rot_halves h t d (pj x0 1 t)).symm
  pointwise [val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v40, val_main_v39, val_main_v1]
  simp only [ref_ang']
  split
  · exact congrArg₂ (· - ·) (congrArg₂ (· * ·) (pj_lane x0 h t d 1 _ (by dsimp only; omega)) (congrArg (fun a => Ideal.cos (ang t a)) (freq_lane h d _ (by dsimp only; omega))))
      (congrArg₂ (· * ·) (pj_sw x0 h t d 1 _ (by dsimp only; omega)) (congrArg (fun a => Ideal.sin (ang t a)) (freq_lane h d _ (by dsimp only; omega))))
  · exact congrArg₂ (· + ·) (congrArg₂ (· * ·) (pj_sw x0 h t d 1 _ (by dsimp only; omega)) (congrArg (fun a => Ideal.sin (ang t a)) (freq_lane h d _ (by dsimp only; omega))))
      (congrArg₂ (· * ·) (pj_lane x0 h t d 1 _ (by dsimp only; omega)) (congrArg (fun a => Ideal.cos (ang t a)) (freq_lane h d _ (by dsimp only; omega))))
theorem ref_v : val_main_v73 (F := Ideal) x0 (ix3 h t d) = pj x0 2 t (lane h d) := by
  pointwise [val_main_v73, val_main_v72, val_main_v2, pj, lane]

/-- The reference's logarithms of the decays. -/
theorem ref_f : val_main_v74 (F := Ideal) x1 (ix1 h) = ls (x1 (ix1 h)) := by
  pointwise [val_main_v74, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0]
  simp [ls, Ideal.absf_def]
@[inherit_doc ref_f] theorem ref_b : val_main_v229 (F := Ideal) x2 (ix1 h) = ls (x2 (ix1 h)) := by
  pointwise [val_main_v229, val_main_call6_v1, val_main_call6_call0_v11, val_main_call6_call0_v10, val_main_call6_call0_v9, val_main_call6_call0_v8, val_main_call6_call0_v7, val_main_call6_call0_v6, val_main_call6_call0_v5, val_main_call6_call0_v4, val_main_call6_call0_v3, val_main_call6_call0_v2, val_main_call6_call0_v1, val_main_call6_call0_v0, val_main_call6_call0_cst, val_main_call6_v0]
  simp [ls, Ideal.absf_def]

/-- Cut into chunks, and the same on the reversed sequence. -/
theorem ref_qc : val_main_v75 (F := Ideal) x0 (ix4 h n i d) = qx x0 (place n i) (lane h d) := by
  pointwise [val_main_v75]; exact ref_q x0 h _ d
@[inherit_doc ref_qc] theorem ref_kc : val_main_v76 (F := Ideal) x0 (ix4 h n i d) = kx x0 (place n i) (lane h d) := by
  pointwise [val_main_v76]; exact ref_k x0 h _ d
@[inherit_doc ref_qc] theorem ref_vc : val_main_v77 (F := Ideal) x0 (ix4 h n i d) = pj x0 2 (place n i) (lane h d) := by
  pointwise [val_main_v77]; exact ref_v x0 h _ d
@[inherit_doc ref_qc] theorem ref_qr : val_main_v230 (F := Ideal) x0 (ix4 h n i d) = qx x0 (place n.rev i.rev) (lane h d) := by
  pointwise [val_main_v230, val_main_v226]
  rw [← place_rev n i (by omega)]; exact ref_q x0 h _ d
@[inherit_doc ref_qc] theorem ref_kr : val_main_v231 (F := Ideal) x0 (ix4 h n i d) = kx x0 (place n.rev i.rev) (lane h d) := by
  pointwise [val_main_v231, val_main_v227]
  rw [← place_rev n i (by omega)]; exact ref_k x0 h _ d
@[inherit_doc ref_qc] theorem ref_vr : val_main_v232 (F := Ideal) x0 (ix4 h n i d) = pj x0 2 (place n.rev i.rev) (lane h d) := by
  pointwise [val_main_v232, val_main_v228]
  rw [← place_rev n i (by omega)]; exact ref_v x0 h _ d

theorem num_sub : num i.val - num m.val = gap i m := by
  unfold num gap; rw [← EReal.coe_sub]; push_cast; rfl
/-- The decays inside a chunk, forwards with the row itself and backwards without. -/
theorem ref_decf : val_main_v95 (F := Ideal) x1 (ix3 h i m) = if 0 ≤ gap i m then Ideal.exp (gap i m * ls (x1 (ix1 h))) else 0 := by
  have z : id (constant (F := Ideal) Cert.RetRefIdeal.S_ .f32 0x00000000#32) ix0 = 0 := zero_eq
  pointwise [val_main_v95, val_main_call2_v0, val_main_call2_v1, val_main_call2_v2, val_main_cst_6, val_main_v94, val_main_v93, val_main_v92, val_main_v91, val_main_v90, val_main_v89, val_main_v88, val_main_v87, val_main_v86, val_main_call1_v0, val_main_call1_v1, val_main_cst_5, val_main_v85, val_main_v84, val_main_cst_4, val_main_v83, val_main_v82, val_main_v81, val_main_v80, val_main_v79, val_main_v78]
  simp only [num_eq, num_sub, ref_f, z]
  split <;> simp [*]
@[inherit_doc ref_decf] theorem ref_decb : val_main_v250 (F := Ideal) x2 (ix3 h i m) = if 0 < gap i m then Ideal.exp (gap i m * ls (x2 (ix1 h))) else 0 := by
  have z : id (constant (F := Ideal) Cert.RetRefIdeal.S_ .f32 0x00000000#32) ix0 = 0 := zero_eq
  pointwise [val_main_v250, val_main_call8_v0, val_main_call8_v1, val_main_call8_v2, val_main_cst_13, val_main_v249, val_main_v248, val_main_v247, val_main_v246, val_main_v245, val_main_v244, val_main_v243, val_main_v242, val_main_v241, val_main_call7_v0, val_main_call7_v1, val_main_cst_12, val_main_v240, val_main_v239, val_main_cst_11, val_main_v238, val_main_v237, val_main_v236, val_main_v235, val_main_v234, val_main_v233]
  simp only [num_eq, num_sub, ref_b, z]
  split <;> simp [*]

/-- What the rows of the chunk itself give. -/
theorem ref_ownf : val_main_v100 (F := Ideal) x0 x1 (ix4 h n i e) = ∑ m : Fin 128, score x0 h n i m * (if 0 ≤ gap i m then Ideal.exp (gap i m * ls (x1 (ix1 h))) else 0) * pj x0 2 (place n m) (lane h e) := by
  pointwise [val_main_v100, val_main_v99, val_main_v98, val_main_v97, val_main_v96]
  simp only [ref_qc, ref_kc, ref_vc, ref_decf]; rfl
theorem gap_rev (i m : Fin 128) : gap i.rev m.rev = gap m i := by
  unfold gap; simp only [Fin.val_rev]; congr 2; omega
@[inherit_doc ref_ownf] theorem ref_ownb : val_main_v255 (F := Ideal) x0 x2 (ix4 h n.rev i.rev e) = ∑ m : Fin 128, score x0 h n i m * (if 0 < gap m i then Ideal.exp (gap m i * ls (x2 (ix1 h))) else 0) * pj x0 2 (place n m) (lane h e) := by
  pointwise [val_main_v255, val_main_v254, val_main_v253, val_main_v252, val_main_v251]
  simp only [ref_qr, ref_kr, ref_vr, ref_decb, Fin.rev_rev]
  refine Fintype.sum_equiv Fin.revPerm _ _ fun m => ?_
  simp only [Fin.revPerm_apply, ← gap_rev i, Fin.rev_rev]; rfl

/-- The products of keys and values. -/
theorem ref_kvf : val_main_v111 (F := Ideal) x0 x1 (ix4 n h d e) = kvf x0 x1 h d e n := by
  pointwise [val_main_v111, val_main_v110, val_main_v109, val_main_v108, val_main_v107, val_main_v106, val_main_v105, val_main_v104, val_main_v103, val_main_v102, val_main_v101, val_main_cst_7, val_main_v86, val_main_v78]
  simp only [ref_kc, ref_vc, ref_f, num_eq]; rfl
theorem num_rev (r : Fin 128) : Ideal.ofBits .f32 0x42FE0000#32 - num r.val = num r.rev.val := by
  have a : Ideal.ofBits .f32 0x42FE0000#32 = ((127 : ℝ) : EReal) := by
    simp [Ideal.ofBits, Ideal.ieee]; rw [← EReal.coe_mul]; norm_num
  rw [a]; unfold num; rw [← EReal.coe_sub, Fin.val_rev]
  congr 1
  rw [Nat.cast_sub (by omega)]; push_cast; ring
@[inherit_doc ref_kvf] theorem ref_kvb : val_main_v266 (F := Ideal) x0 x2 (ix4 n h d e) = kvb x0 x2 h d e n.rev := by
  pointwise [val_main_v266, val_main_v265, val_main_v264, val_main_v263, val_main_v262, val_main_v261, val_main_v260, val_main_v259, val_main_v258, val_main_v257, val_main_v256, val_main_cst_14, val_main_v241, val_main_v233]
  simp only [ref_kr, ref_vr, ref_b, num_eq, num_rev]
  exact Fintype.sum_equiv Fin.revPerm _ _ fun m => rfl

end Cert.RetIdeal.Ret
-- ==== Proof.Ret.Regions.lean ====
module

public import proofs.«01_k».proof.Proof.Ret.Ref
public import proofs.«01_k».proof.Proof.Gen.RetIdeal.Frame
public import Idealize.ShloMosaic.Lib.Pipeline.ValueKit
public import Idealize.ShloMosaic.Lib.Pipeline.ReadBack

@[expose] public section

set_option maxRecDepth 16384

noncomputable section

namespace Cert.RetIdeal.Ret

open Cert.RetIdeal Cert.RetIdeal.Gen
open Idealize.ShloMosaic Idealize.ShloMosaic.TcCoe Idealize.SL.Sem
open Idealize.ShloMosaic.Pipeline (Dat)
open Cert.MemAttnIdeal.Mem (hd lane nrm)

section Formulas
variable (P : FVec Ideal S2048x2304 .f32) (C S : FVec Ideal S2048x256 .f32) (f b g : FVec Ideal S1x256 .f32) (KV SF SB : FVec Ideal S16x256x256 .f32)

/-- Row `t` of a table. -/
abbrev tab (C : FVec Ideal S2048x256 .f32) (t : Fin 2048) : Fin 256 → EReal := fun l => C (ix2 t l)
/-- The logarithms of the decays, lane by lane. -/
abbrev lgs (f : FVec Ideal S1x256 .f32) : Fin 256 → EReal := fun l => ls (f (ix2 0 l))
/-- The keys and the queries rotated by the tables, the queries scaled. -/
def kr (t : Fin 2048) : Fin 256 → EReal := rot (pj P 1 t) (tab C t) (tab S t)
@[inherit_doc kr] def qr (t : Fin 2048) (l : Fin 256) : EReal := rot (pj P 0 t) (tab C t) (tab S t) l * Ideal.ofBits .f32 0x3E000000#32

/-- The products of keys and values, chunk by chunk. -/
def kvfArr : FVec Ideal S16x256x256 .f32 := fun y => if hd (y 1) = hd (y 2) then
  ∑ r : Fin 128, kr P C S (place (y 0) r) (y 1) * Ideal.exp ((Ideal.ofBits .f32 0x42FE0000#32 - num r.val) * lgs f (y 1)) * pj P 2 (place (y 0) r) (y 2) else 0
@[inherit_doc kvfArr] def kvbArr : FVec Ideal S16x256x256 .f32 := fun y => if hd (y 1) = hd (y 2) then
  ∑ r : Fin 128, kr P C S (place (y 0) r) (y 1) * Ideal.exp (num r.val * lgs b (y 1)) * pj P 2 (place (y 0) r) (y 2) else 0
/-- The states, chunk by chunk. -/
def sfArr : FVec Ideal S16x256x256 .f32 := fun y => scan (left (f (ix2 0 (y 2)))) (chunk KV (y 1) (y 2)) (y 0).val
@[inherit_doc sfArr] def sbArr : FVec Ideal S16x256x256 .f32 := fun y => scan (left (b (ix2 0 (y 2)))) (fun n => chunk KV (y 1) (y 2) (15 - n)) (15 - (y 0).val)

variable (n : Fin 16) (i : Fin 128)
/-- A row of the retention. -/
def ko (l : Fin 256) : EReal :=
  (∑ m : Fin 128, (∑ d : Fin 64, qr P C S (place n i) (lane (hd l) d) * kr P C S (place n m) (lane (hd l) d)) * dec (avg (lgs f) (hd l)) (avg (lgs b) (hd l)) i m * pj P 2 (place n m) l)
  + (∑ d : Fin 256, qr P C S (place n i) d * Ideal.exp ((num i.val + Ideal.ofBits .f32 0x3F800000#32) * lgs f d) * SF (ix3 n d l))
  + ∑ d : Fin 256, qr P C S (place n i) d * Ideal.exp ((Ideal.ofBits .f32 0x43000000#32 - num i.val) * lgs b d) * SB (ix3 n d l)
/-- The result's entry. -/
def kret (l : Fin 256) : EReal := nrm (ko P C S f b SF SB n i) l * g (ix2 0 l) * (pj P 3 (place n i) l * Ideal.logistic (pj P 3 (place n i) l))
/-- The result as an array. -/
def retArr : FVec Ideal S2048x256 .bf16 := fun y => kret P C S f b g SF SB ⟨(y 0).val / 128, by have := (y 0).isLt; have : (y 0).val < 2048 := this; omega⟩ ⟨(y 0).val % 128, Nat.mod_lt _ (by norm_num)⟩ (y 1)
theorem retArr_at (l : Fin 256) : retArr P C S f b g SF SB (ix2 (place n i) l) = kret P C S f b g SF SB n i l :=
  congrArg₂ (fun n i => kret P C S f b g SF SB n i l) (Fin.ext (place_div n i)) (Fin.ext (place_mod n i))
end Formulas

variable (V : (c : Dev nD) → (b : Ref sig .tc) → Buf (Elt Ideal) ((c : Thread nD τ).loc b))

/-- Where the blocks lie at each point: one statement per region. -/
theorem idx0 : ∀ t : Fin cfg0.N, win0_0.index t = ![t.val, 1] ∧ win0_1.index t = ![t.val, 2] ∧ win0_2.index t = ![t.val, 0] ∧ win0_3.index t = ![t.val, 0]
    ∧ win0_4.index t = ![0, 0] ∧ win0_5.index t = ![0, 0] ∧ win0_6.index t = ![t.val, 0, 0] ∧ win0_7.index t = ![t.val, 0, 0] :=
  (by decide +kernel : ∀ t : Fin grid0.N, _)
@[inherit_doc idx0] theorem idx1 : ∀ t : Fin cfg1.N, win1_0.index t = ![0, 0, 0] ∧ win1_1.index t = ![0, 0, 0] ∧ win1_2.index t = ![0, 0] ∧ win1_3.index t = ![0, 0]
    ∧ win1_4.index t = ![0, 0, 0] ∧ win1_5.index t = ![0, 0, 0] :=
  (by decide +kernel : ∀ t : Fin grid1.N, _)
@[inherit_doc idx0] theorem idx2 : ∀ t : Fin cfg2.N, win2_0.index t = ![t.val, 0] ∧ win2_1.index t = ![t.val, 1] ∧ win2_2.index t = ![t.val, 2] ∧ win2_3.index t = ![t.val, 3]
    ∧ win2_4.index t = ![t.val, 0] ∧ win2_5.index t = ![t.val, 0] ∧ win2_6.index t = ![t.val, 0, 0] ∧ win2_7.index t = ![t.val, 0, 0]
    ∧ win2_8.index t = ![0, 0] ∧ win2_9.index t = ![0, 0] ∧ win2_10.index t = ![0, 0] ∧ win2_11.index t = ![t.val, 0] :=
  (by decide +kernel : ∀ t : Fin grid2.N, _)

variable (c : Dev nD)

/-- The chunk of each point. -/
def at0 (t : Fin cfg0.N) : Fin 16 := ⟨t.val, lt_of_lt_of_eq t.isLt (show cfg0.N = 16 from N_0)⟩
@[inherit_doc at0] def at2 (t : Fin cfg2.N) : Fin 16 := ⟨t.val, lt_of_lt_of_eq t.isLt (show cfg2.N = 16 from N_2)⟩

/-- The arguments as the regions take them. -/
abbrev aP : FVec Ideal S2048x2304 .f32 := V c main_arg0
@[inherit_doc aP] abbrev aC : FVec Ideal S2048x256 .f32 := V c main_v17
@[inherit_doc aP] abbrev aS : FVec Ideal S2048x256 .f32 := V c main_v22
@[inherit_doc aP] abbrev aF : FVec Ideal S1x256 .f32 := V c main_v25
@[inherit_doc aP] abbrev aB : FVec Ideal S1x256 .f32 := V c main_v28
@[inherit_doc aP] abbrev aG : FVec Ideal S1x256 .f32 := V c main_v29
@[inherit_doc aP] abbrev aKF : FVec Ideal S16x256x256 .f32 := V c main_v30_0
@[inherit_doc aP] abbrev aKB : FVec Ideal S16x256x256 .f32 := V c main_v30_1
@[inherit_doc aP] abbrev aSF : FVec Ideal S16x256x256 .f32 := V c main_v31_0
@[inherit_doc aP] abbrev aSB : FVec Ideal S16x256x256 .f32 := V c main_v31_1

/-- Each input block: region by region, window by window. -/
theorem b0_0 (t : Fin cfg0.N) (r : Fin 128) : row (iblk0 V c 0 t) r = pj (aP V c) 1 (place (at0 t) r) := by
  funext l
  refine (?_ : (iblk0 V c 0 t : Vec Ideal S128x256 .f32) (ix2 r l) = (V c main_arg0 : FVec Ideal S2048x2304 .f32) (ix2 ⟨t.val * 128 + r.val, by have := (at0 t).isLt; have e : (at0 t).val = t.val := rfl; omega⟩ ⟨1 * 256 + l.val, by omega⟩))
  blk_ext [iblk0, idx0 t]
@[inherit_doc b0_0] theorem b0_1 (t : Fin cfg0.N) (r : Fin 128) : row (iblk0 V c 1 t) r = pj (aP V c) 2 (place (at0 t) r) := by
  funext l
  refine (?_ : (iblk0 V c 1 t : Vec Ideal S128x256 .f32) (ix2 r l) = (V c main_arg0 : FVec Ideal S2048x2304 .f32) (ix2 ⟨t.val * 128 + r.val, by have := (at0 t).isLt; have e : (at0 t).val = t.val := rfl; omega⟩ ⟨2 * 256 + l.val, by omega⟩))
  blk_ext [iblk0, idx0 t]
@[inherit_doc b0_0] theorem b0_2 (t : Fin cfg0.N) (r : Fin 128) : row (iblk0 V c 2 t) r = tab (aC V c) (place (at0 t) r) := by
  funext l
  refine (?_ : (iblk0 V c 2 t : Vec Ideal S128x256 .f32) (ix2 r l) = (V c main_v17 : FVec Ideal S2048x256 .f32) (ix2 ⟨t.val * 128 + r.val, by have := (at0 t).isLt; have e : (at0 t).val = t.val := rfl; omega⟩ l))
  blk_ext [iblk0, idx0 t]
@[inherit_doc b0_0] theorem b0_3 (t : Fin cfg0.N) (r : Fin 128) : row (iblk0 V c 3 t) r = tab (aS V c) (place (at0 t) r) := by
  funext l
  refine (?_ : (iblk0 V c 3 t : Vec Ideal S128x256 .f32) (ix2 r l) = (V c main_v22 : FVec Ideal S2048x256 .f32) (ix2 ⟨t.val * 128 + r.val, by have := (at0 t).isLt; have e : (at0 t).val = t.val := rfl; omega⟩ l))
  blk_ext [iblk0, idx0 t]
@[inherit_doc b0_0] theorem b0_4 (t : Fin cfg0.N) (l : Fin 256) : (iblk0 V c 4 t : Vec Ideal S1x256 .f32) (ix2 0 l) = aF V c (ix2 0 l) := by
  refine (?_ : (iblk0 V c 4 t : Vec Ideal S1x256 .f32) (ix2 0 l) = (V c main_v25 : FVec Ideal S1x256 .f32) (ix2 0 l))
  blk_ext [iblk0, idx0 t]
@[inherit_doc b0_0] theorem b0_5 (t : Fin cfg0.N) (l : Fin 256) : (iblk0 V c 5 t : Vec Ideal S1x256 .f32) (ix2 0 l) = aB V c (ix2 0 l) := by
  refine (?_ : (iblk0 V c 5 t : Vec Ideal S1x256 .f32) (ix2 0 l) = (V c main_v28 : FVec Ideal S1x256 .f32) (ix2 0 l))
  blk_ext [iblk0, idx0 t]
@[inherit_doc b0_0] theorem b1_0 (t : Fin cfg1.N) : (iblk1 V c 0 t : Vec Ideal S16x256x256 .f32) = aKF V c := by
  funext y
  obtain ⟨a, d, e, rfl⟩ : ∃ (a : Fin 16) (d e : Fin 256), y = ix3 a d e := ⟨y 0, y 1, y 2, eq_ix3 y⟩
  refine (?_ : (iblk1 V c 0 t : Vec Ideal S16x256x256 .f32) (ix3 a d e) = (V c main_v30_0 : FVec Ideal S16x256x256 .f32) (ix3 a d e))
  blk_ext [iblk1, idx1 t]
@[inherit_doc b0_0] theorem b1_1 (t : Fin cfg1.N) : (iblk1 V c 1 t : Vec Ideal S16x256x256 .f32) = aKB V c := by
  funext y
  obtain ⟨a, d, e, rfl⟩ : ∃ (a : Fin 16) (d e : Fin 256), y = ix3 a d e := ⟨y 0, y 1, y 2, eq_ix3 y⟩
  refine (?_ : (iblk1 V c 1 t : Vec Ideal S16x256x256 .f32) (ix3 a d e) = (V c main_v30_1 : FVec Ideal S16x256x256 .f32) (ix3 a d e))
  blk_ext [iblk1, idx1 t]
@[inherit_doc b0_0] theorem b1_2 (t : Fin cfg1.N) (l : Fin 256) : (iblk1 V c 2 t : Vec Ideal S1x256 .f32) (ix2 0 l) = aF V c (ix2 0 l) := by
  refine (?_ : (iblk1 V c 2 t : Vec Ideal S1x256 .f32) (ix2 0 l) = (V c main_v25 : FVec Ideal S1x256 .f32) (ix2 0 l))
  blk_ext [iblk1, idx1 t]
@[inherit_doc b0_0] theorem b1_3 (t : Fin cfg1.N) (l : Fin 256) : (iblk1 V c 3 t : Vec Ideal S1x256 .f32) (ix2 0 l) = aB V c (ix2 0 l) := by
  refine (?_ : (iblk1 V c 3 t : Vec Ideal S1x256 .f32) (ix2 0 l) = (V c main_v28 : FVec Ideal S1x256 .f32) (ix2 0 l))
  blk_ext [iblk1, idx1 t]
@[inherit_doc b0_0] theorem b2_0 (t : Fin cfg2.N) (r : Fin 128) : row (iblk2 V c 0 t) r = pj (aP V c) 0 (place (at2 t) r) := by
  funext l
  refine (?_ : (iblk2 V c 0 t : Vec Ideal S128x256 .f32) (ix2 r l) = (V c main_arg0 : FVec Ideal S2048x2304 .f32) (ix2 ⟨t.val * 128 + r.val, by have := (at2 t).isLt; have e : (at2 t).val = t.val := rfl; omega⟩ ⟨0 * 256 + l.val, by omega⟩))
  blk_ext [iblk2, idx2 t]
@[inherit_doc b0_0] theorem b2_1 (t : Fin cfg2.N) (r : Fin 128) : row (iblk2 V c 1 t) r = pj (aP V c) 1 (place (at2 t) r) := by
  funext l
  refine (?_ : (iblk2 V c 1 t : Vec Ideal S128x256 .f32) (ix2 r l) = (V c main_arg0 : FVec Ideal S2048x2304 .f32) (ix2 ⟨t.val * 128 + r.val, by have := (at2 t).isLt; have e : (at2 t).val = t.val := rfl; omega⟩ ⟨1 * 256 + l.val, by omega⟩))
  blk_ext [iblk2, idx2 t]
@[inherit_doc b0_0] theorem b2_2 (t : Fin cfg2.N) (r : Fin 128) : row (iblk2 V c 2 t) r = pj (aP V c) 2 (place (at2 t) r) := by
  funext l
  refine (?_ : (iblk2 V c 2 t : Vec Ideal S128x256 .f32) (ix2 r l) = (V c main_arg0 : FVec Ideal S2048x2304 .f32) (ix2 ⟨t.val * 128 + r.val, by have := (at2 t).isLt; have e : (at2 t).val = t.val := rfl; omega⟩ ⟨2 * 256 + l.val, by omega⟩))
  blk_ext [iblk2, idx2 t]
@[inherit_doc b0_0] theorem b2_3 (t : Fin cfg2.N) (r : Fin 128) : row (iblk2 V c 3 t) r = pj (aP V c) 3 (place (at2 t) r) := by
  funext l
  refine (?_ : (iblk2 V c 3 t : Vec Ideal S128x256 .f32) (ix2 r l) = (V c main_arg0 : FVec Ideal S2048x2304 .f32) (ix2 ⟨t.val * 128 + r.val, by have := (at2 t).isLt; have e : (at2 t).val = t.val := rfl; omega⟩ ⟨3 * 256 + l.val, by omega⟩))
  blk_ext [iblk2, idx2 t]
@[inherit_doc b0_0] theorem b2_4 (t : Fin cfg2.N) (r : Fin 128) : row (iblk2 V c 4 t) r = tab (aC V c) (place (at2 t) r) := by
  funext l
  refine (?_ : (iblk2 V c 4 t : Vec Ideal S128x256 .f32) (ix2 r l) = (V c main_v17 : FVec Ideal S2048x256 .f32) (ix2 ⟨t.val * 128 + r.val, by have := (at2 t).isLt; have e : (at2 t).val = t.val := rfl; omega⟩ l))
  blk_ext [iblk2, idx2 t]
@[inherit_doc b0_0] theorem b2_5 (t : Fin cfg2.N) (r : Fin 128) : row (iblk2 V c 5 t) r = tab (aS V c) (place (at2 t) r) := by
  funext l
  refine (?_ : (iblk2 V c 5 t : Vec Ideal S128x256 .f32) (ix2 r l) = (V c main_v22 : FVec Ideal S2048x256 .f32) (ix2 ⟨t.val * 128 + r.val, by have := (at2 t).isLt; have e : (at2 t).val = t.val := rfl; omega⟩ l))
  blk_ext [iblk2, idx2 t]
@[inherit_doc b0_0] theorem b2_6 (t : Fin cfg2.N) (d e : Fin 256) : (iblk2 V c 6 t : Vec Ideal S1x256x256 .f32) (ix3 0 d e) = aSF V c (ix3 (at2 t) d e) := by
  refine (?_ : (iblk2 V c 6 t : Vec Ideal S1x256x256 .f32) (ix3 0 d e) = (V c main_v31_0 : FVec Ideal S16x256x256 .f32) (ix3 ⟨t.val, (at2 t).isLt⟩ d e))
  blk_ext [iblk2, idx2 t]
@[inherit_doc b0_0] theorem b2_7 (t : Fin cfg2.N) (d e : Fin 256) : (iblk2 V c 7 t : Vec Ideal S1x256x256 .f32) (ix3 0 d e) = aSB V c (ix3 (at2 t) d e) := by
  refine (?_ : (iblk2 V c 7 t : Vec Ideal S1x256x256 .f32) (ix3 0 d e) = (V c main_v31_1 : FVec Ideal S16x256x256 .f32) (ix3 ⟨t.val, (at2 t).isLt⟩ d e))
  blk_ext [iblk2, idx2 t]
@[inherit_doc b0_0] theorem b2_8 (t : Fin cfg2.N) (l : Fin 256) : (iblk2 V c 8 t : Vec Ideal S1x256 .f32) (ix2 0 l) = aF V c (ix2 0 l) := by
  refine (?_ : (iblk2 V c 8 t : Vec Ideal S1x256 .f32) (ix2 0 l) = (V c main_v25 : FVec Ideal S1x256 .f32) (ix2 0 l))
  blk_ext [iblk2, idx2 t]
@[inherit_doc b0_0] theorem b2_9 (t : Fin cfg2.N) (l : Fin 256) : (iblk2 V c 9 t : Vec Ideal S1x256 .f32) (ix2 0 l) = aB V c (ix2 0 l) := by
  refine (?_ : (iblk2 V c 9 t : Vec Ideal S1x256 .f32) (ix2 0 l) = (V c main_v28 : FVec Ideal S1x256 .f32) (ix2 0 l))
  blk_ext [iblk2, idx2 t]
@[inherit_doc b0_0] theorem b2_10 (t : Fin cfg2.N) (l : Fin 256) : (iblk2 V c 10 t : Vec Ideal S1x256 .f32) (ix2 0 l) = aG V c (ix2 0 l) := by
  refine (?_ : (iblk2 V c 10 t : Vec Ideal S1x256 .f32) (ix2 0 l) = (V c main_v29 : FVec Ideal S1x256 .f32) (ix2 0 l))
  blk_ext [iblk2, idx2 t]

/-- Region 0 leaves the products of keys and values. -/
theorem arr0_6 : (dat0 V c).arrAt 6 cfg0.N = kvfArr (aP V c) (aC V c) (aS V c) (aF V c) := by
  refine (dat0 V c).arrAt_eq_of_covers 6 _ (by decide +kernel) fun t _ y => ?_
  blk_simp
  rw [after0_6]
  unfold_out out0_6
  frame_out
  obtain ⟨z, d, e, rfl⟩ : ∃ (z : Fin 1) (d e : Fin 256), y = ix3 z d e := ⟨y 0, y 1, y 2, eq_ix3 y⟩
  obtain rfl := Subsingleton.elim z 0
  have k : ((cfg0.win 6).blk t).view.emb (ix3 0 d e) = (ix3 (at0 t) d e : S16x256x256.Idx) := by
    blk_ext [idx0 t, at0]
  refine (?_ : _ = kvfArr _ _ _ _ (ix3 (at0 t) d e)).trans (congrArg (kvfArr _ _ _ _) k.symm)
  refine (show _ = kvF (k0_pay13 (iblk0 V c 0 t) (k0_pay3 (iblk0 V c 2 t)) (k0_pay4 (iblk0 V c 3 t))) (iblk0 V c 1 t) (k0_pay5 (iblk0 V c 4 t)) (ix2 d e) from by pointwise [k0_pay1]; rfl).trans ?_
  rw [kvF_at]
  refine if_congr Iff.rfl (Finset.sum_congr rfl fun r _ => congrArg₂ (· * ·) (congrArg₂ (· * ·) ?_ ?_) (congrFun (b0_1 V c t r) e)) rfl
  · rw [rot_at]
    exact congrFun (congr (congrArg₂ rot (b0_0 V c t r) (b0_2 V c t r)) (b0_3 V c t r)) d
  · rw [lgf_at, b0_4]; rfl

@[inherit_doc arr0_6]
theorem arr0_7 : (dat0 V c).arrAt 7 cfg0.N = kvbArr (aP V c) (aC V c) (aS V c) (aB V c) := by
  refine (dat0 V c).arrAt_eq_of_covers 7 _ (by decide +kernel) fun t _ y => ?_
  blk_simp
  rw [after0_7]
  unfold_out out0_7
  frame_out
  obtain ⟨z, d, e, rfl⟩ : ∃ (z : Fin 1) (d e : Fin 256), y = ix3 z d e := ⟨y 0, y 1, y 2, eq_ix3 y⟩
  obtain rfl := Subsingleton.elim z 0
  have k : ((cfg0.win 7).blk t).view.emb (ix3 0 d e) = (ix3 (at0 t) d e : S16x256x256.Idx) := by
    blk_ext [idx0 t, at0]
  refine (?_ : _ = kvbArr _ _ _ _ (ix3 (at0 t) d e)).trans (congrArg (kvbArr _ _ _ _) k.symm)
  refine (show _ = kvB (k0_pay13 (iblk0 V c 0 t) (k0_pay3 (iblk0 V c 2 t)) (k0_pay4 (iblk0 V c 3 t))) (iblk0 V c 1 t) (k0_pay12 (k0_pay7 (iblk0 V c 5 t)) (k0_pay9 (iblk0 V c 5 t)) (k0_pay10 (iblk0 V c 5 t)) (k0_pay11 (iblk0 V c 5 t))) (ix2 d e) from by pointwise [k0_pay2]; rfl).trans ?_
  rw [kvB_at]
  refine if_congr Iff.rfl (Finset.sum_congr rfl fun r _ => congrArg₂ (· * ·) (congrArg₂ (· * ·) ?_ ?_) (congrFun (b0_1 V c t r) e)) rfl
  · rw [rot_at]
    exact congrFun (congr (congrArg₂ rot (b0_0 V c t r) (b0_2 V c t r)) (b0_3 V c t r)) d
  · rw [lgb_at, b0_5]; rfl

end Cert.RetIdeal.Ret

end

end
-- ==== Proof.Ret.Arrays.lean ====
module

public import proofs.«01_k».proof.Proof.Ret.Regions
public import proofs.«01_k».proof.Proof.Gen.RetIdeal.Frame
public import Idealize.ShloMosaic.Lib.Pipeline.ValueKit
public import Idealize.ShloMosaic.Lib.Pipeline.ReadBack

@[expose] public section

set_option maxRecDepth 16384

noncomputable section

namespace Cert.RetIdeal.Ret

open Cert.RetIdeal Cert.RetIdeal.Gen
open Idealize.ShloMosaic Idealize.ShloMosaic.TcCoe Idealize.SL.Sem
open Idealize.ShloMosaic.Pipeline (Dat)
open Cert.MemAttnIdeal.Mem (hd lane nrm)

variable (V : (c : Dev nD) → (b : Ref sig .tc) → Buf (Elt Ideal) ((c : Thread nD τ).loc b)) (c : Dev nD)

/-- Region 1 leaves the states. -/
theorem arr1_4 : (dat1 V c).arrAt 4 cfg1.N = sfArr (aF V c) (aKF V c) := by
  refine (dat1 V c).arrAt_eq_of_covers 4 _ (by decide +kernel) fun t _ y => ?_
  blk_simp
  rw [after1_4]
  obtain ⟨a, d, e, rfl⟩ : ∃ (a : Fin 16) (d e : Fin 256), y = ix3 a d e := ⟨y 0, y 1, y 2, eq_ix3 y⟩
  have k : ((cfg1.win 4).blk t).view.emb (ix3 a d e) = (ix3 a d e : S16x256x256.Idx) := by
    blk_ext [idx1 t]
  refine (?_ : _ = sfArr _ _ (ix3 a d e)).trans (congrArg (sfArr _ _) k.symm)
  refine (scanF_at _ _ _ _ a d e).trans ?_
  rw [b1_0, b1_2]; rfl
@[inherit_doc arr1_4] theorem arr1_5 : (dat1 V c).arrAt 5 cfg1.N = sbArr (aB V c) (aKB V c) := by
  refine (dat1 V c).arrAt_eq_of_covers 5 _ (by decide +kernel) fun t _ y => ?_
  blk_simp
  rw [after1_5]
  obtain ⟨a, d, e, rfl⟩ : ∃ (a : Fin 16) (d e : Fin 256), y = ix3 a d e := ⟨y 0, y 1, y 2, eq_ix3 y⟩
  have k : ((cfg1.win 5).blk t).view.emb (ix3 a d e) = (ix3 a d e : S16x256x256.Idx) := by
    blk_ext [idx1 t]
  refine (?_ : _ = sbArr _ _ (ix3 a d e)).trans (congrArg (sbArr _ _) k.symm)
  refine (scanB_at _ _ _ _ a d e).trans ?_
  rw [b1_1, b1_3]; rfl

/-- The four heads' decays as region 2 lays them out. -/
def dmat (G B : FVec Ideal S1x256 .f32) : Fin 4 → FVec Ideal S128x128 .f32
  | 0 => k2_pay30 k2_pay22 (k2_pay27 B) (k2_pay28 (F := Ideal)) (k2_pay29 G)
  | 1 => k2_pay31 G B k2_pay22 k2_pay24
  | 2 => k2_pay35 k2_pay22 (k2_pay32 B k2_pay25) (k2_pay33 (k2_pay22 (F := Ideal))) (k2_pay34 G k2_pay22 k2_pay25)
  | 3 => k2_pay36 G B k2_pay22 k2_pay26
theorem dmat_at (G B : FVec Ideal S1x256 .f32) (h : Fin 4) (i m : Fin 128) : dmat G B h (ix2 i m) = decs G B h i m := by
  fin_cases h
  exacts [dec0_at G B i m, dec1_at G B i m, dec2_at G B i m, dec3_at G B i m]

/-- The blocks of region 2 as its operations first read them. -/
abbrev dF (t : Fin cfg2.N) : FVec Ideal S1x256 .f32 := k2_pay14 (k2_pay9 (iblk2 V c 8 t)) (k2_pay11 (iblk2 V c 8 t)) (k2_pay12 (iblk2 V c 8 t)) (k2_pay13 (iblk2 V c 8 t))
@[inherit_doc dF] abbrev dB (t : Fin cfg2.N) : FVec Ideal S1x256 .f32 := k2_pay15 (k2_pay6 (iblk2 V c 9 t))
@[inherit_doc dF] abbrev bQ (t : Fin cfg2.N) : FVec Ideal S128x256 .f32 := k2_pay16 (iblk2 V c 0 t) (k2_pay2 (iblk2 V c 4 t)) (k2_pay3 (iblk2 V c 5 t))
@[inherit_doc dF] abbrev bK (t : Fin cfg2.N) : FVec Ideal S128x256 .f32 := k2_pay21 (k2_pay3 (iblk2 V c 5 t)) (k2_pay17 (iblk2 V c 1 t) (k2_pay2 (iblk2 V c 4 t))) (k2_pay18 (iblk2 V c 1 t)) (k2_pay19 (iblk2 V c 1 t)) k2_pay20
@[inherit_doc dF] abbrev bO (t : Fin cfg2.N) : FVec Ideal S128x256 .f32 :=
  k2_pay47 (fore (dF V c t) (iblk2 V c 2 t) (bQ V c t) (bK V c t) (dmat (dF V c t) (dB V c t)) (k2_pay4 (iblk2 V c 6 t))) (k2_pay46 (k2_pay5 (iblk2 V c 7 t)) (dB V c t) (bQ V c t))

theorem dF_at (t : Fin cfg2.N) (l : Fin 256) : dF V c t (ix2 0 l) = lgs (aF V c) l :=
  (lgf2_at _ l).trans (congrArg ls (b2_8 V c t l))
@[inherit_doc dF_at] theorem dB_at (t : Fin cfg2.N) (l : Fin 256) : dB V c t (ix2 0 l) = lgs (aB V c) l :=
  (lgb2_at _ l).trans (congrArg ls (b2_9 V c t l))
@[inherit_doc dF_at] theorem bQ_at (t : Fin cfg2.N) (r : Fin 128) (l : Fin 256) : bQ V c t (ix2 r l) = qr (aP V c) (aC V c) (aS V c) (place (at2 t) r) l := by
  refine (q2_at _ _ _ r l).trans ?_
  rw [b2_0, b2_4, b2_5]; rfl
@[inherit_doc dF_at] theorem bK_at (t : Fin cfg2.N) (r : Fin 128) (l : Fin 256) : bK V c t (ix2 r l) = kr (aP V c) (aC V c) (aS V c) (place (at2 t) r) l := by
  refine (k2_at _ _ _ r l).trans ?_
  rw [b2_1, b2_4, b2_5]; rfl
@[inherit_doc dF_at] theorem bV_at (t : Fin cfg2.N) (r : Fin 128) (l : Fin 256) : (iblk2 V c 2 t : Vec Ideal S128x256 .f32) (ix2 r l) = pj (aP V c) 2 (place (at2 t) r) l :=
  congrFun (b2_2 V c t r) l
@[inherit_doc dF_at] theorem tF_at (t : Fin cfg2.N) (d l : Fin 256) : k2_pay4 (iblk2 V c 6 t) (ix2 d l) = aSF V c (ix3 (at2 t) d l) := by
  rw [← b2_6 V c t d l]; pointwise [k2_pay4]
@[inherit_doc dF_at] theorem tB_at (t : Fin cfg2.N) (d l : Fin 256) : k2_pay5 (iblk2 V c 7 t) (ix2 d l) = aSB V c (ix3 (at2 t) d l) := by
  rw [← b2_7 V c t d l]; pointwise [k2_pay5]
theorem bO_row (t : Fin cfg2.N) (r : Fin 128) : row (bO V c t) r = ko (aP V c) (aC V c) (aS V c) (aF V c) (aB V c) (aSF V c) (aSB V c) (at2 t) r := by
  funext l
  refine (show bO V c t (ix2 r l) = _ + _ from rfl).trans ?_
  rw [fore_at, own_at, back_at]
  simp only [dmat_at, decs, dF_at, dB_at, bQ_at, bK_at, bV_at, tF_at, tB_at]
  rfl

/-- Region 2 leaves the result. -/
theorem arr2 : (dat2 V c).arrAt 11 cfg2.N = retArr (aP V c) (aC V c) (aS V c) (aF V c) (aB V c) (aG V c) (aSF V c) (aSB V c) := by
  refine (dat2 V c).arrAt_eq_of_covers 11 _ (by decide +kernel) fun t _ y => ?_
  blk_simp
  rw [after2_11]
  unfold_out out2_11
  frame_out
  obtain ⟨r, l, rfl⟩ : ∃ (r : Fin 128) (l : Fin 256), y = ix2 r l := ⟨y 0, y 1, eq_ix2 y⟩
  have k : ((cfg2.win 11).blk t).view.emb (ix2 r l) = (ix2 (place (at2 t) r) l : S2048x256.Idx) := by
    blk_ext [idx2 t, at2, place]
  refine (?_ : _ = retArr _ _ _ _ _ _ _ _ (ix2 (place (at2 t) r) l)).trans (congrArg (retArr _ _ _ _ _ _ _ _) k.symm)
  rw [retArr_at]
  refine (out_at (fore (dF V c t) (iblk2 V c 2 t) (bQ V c t) (bK V c t) (dmat (dF V c t) (dB V c t)) (k2_pay4 (iblk2 V c 6 t))) (k2_pay46 (k2_pay5 (iblk2 V c 7 t)) (dB V c t) (bQ V c t))
    (iblk2 V c 3 t) (iblk2 V c 10 t) r l).trans ?_
  rw [bO_row, b2_10, show (iblk2 V c 3 t : Vec Ideal S128x256 .f32) (ix2 r l) = pj (aP V c) 3 (place (at2 t) r) l from congrFun (b2_3 V c t r) l]
  rfl

end Cert.RetIdeal.Ret

end

end
-- ==== Proof.Ret.Spec.lean ====
module

public import proofs.«01_k».proof.Proof.Ret.Ref

@[expose] public section

set_option maxRecDepth 16384

noncomputable section

namespace Cert.RetIdeal.Ret

open Idealize.ShloMosaic Idealize.ShloMosaic.TcCoe
open Cert.MemAttnIdeal.Mem (hd lane hd_lane lane_of div64 word_one rs ms nrm)
open Cert.RetRefIdeal.Read

variable (x0 : FVec Ideal S2048x2304 .f32) (x1 x2 : FVec Ideal S4 .f32) (x3 : FVec Ideal S256 .f32)
variable (h : Fin 4) (t : Fin 2048) (d e : Fin 64) (j : Fin 32) (n : Fin 16) (i m : Fin 128)

/-- A state loses the same part from chunk to chunk. -/
theorem ref_leftf : val_main_v115 (F := Ideal) x1 (ix1 h) = left (x1 (ix1 h)) := by
  pointwise [val_main_v115, val_main_v114, val_main_v113, val_main_v112, val_main_v86, val_main_cst_8]; rw [ref_f]; rfl
@[inherit_doc ref_leftf] theorem ref_leftb : val_main_v270 (F := Ideal) x2 (ix1 h) = left (x2 (ix1 h)) := by
  pointwise [val_main_v270, val_main_v269, val_main_v268, val_main_v267, val_main_v241, val_main_cst_15]; rw [ref_b]; rfl
/-- The reference's states, before each chunk. -/
theorem ref_sf : val_main_v222 (F := Ideal) x0 x1 (ix4 n h d e) = sf x0 x1 h d e n := by
  unfold sf
  fin_cases n <;> (
    pointwise [val_main_v222, val_main_v221, val_main_v220, val_main_v219, val_main_v218, val_main_v217, val_main_v216, val_main_v215, val_main_v214, val_main_v213, val_main_v212, val_main_v211, val_main_v210, val_main_v209, val_main_v208, val_main_v207, val_main_v206, val_main_v195, val_main_v194, val_main_v193, val_main_v192, val_main_v191, val_main_v190, val_main_v189, val_main_v188, val_main_v187, val_main_v186, val_main_v185, val_main_v184, val_main_v183, val_main_v182, val_main_v181, val_main_v180, val_main_v179, val_main_v178, val_main_v177, val_main_v176, val_main_v175, val_main_v174, val_main_v173, val_main_v172, val_main_v171, val_main_v170, val_main_v169, val_main_v168, val_main_v167, val_main_v166, val_main_v165, val_main_v164, val_main_v163, val_main_v162, val_main_v161, val_main_v160, val_main_v159, val_main_v158, val_main_v157, val_main_v156, val_main_v155, val_main_v154, val_main_v153, val_main_v152, val_main_v151, val_main_v150, val_main_v149, val_main_v148, val_main_v147, val_main_v146, val_main_v145, val_main_v144, val_main_v143, val_main_v142, val_main_v141, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_cst_9]
    simp [scan, ref_kvf, ref_leftf, zero_eq])
@[inherit_doc ref_sf] theorem ref_sb : val_main_v377 (F := Ideal) x0 x2 (ix4 n.rev h d e) = sb x0 x2 h d e n := by
  have k : val_main_v377 (F := Ideal) x0 x2 (ix4 n.rev h d e) = scan (left (x2 (ix1 h))) (fun k => if hk : k < 16 then kvb x0 x2 h d e (Fin.rev ⟨k, hk⟩) else 0) n.rev.val := by
    generalize n.rev = a
    fin_cases a <;> (
      pointwise [val_main_v377, val_main_v376, val_main_v375, val_main_v374, val_main_v373, val_main_v372, val_main_v371, val_main_v370, val_main_v369, val_main_v368, val_main_v367, val_main_v366, val_main_v365, val_main_v364, val_main_v363, val_main_v362, val_main_v361, val_main_v350, val_main_v349, val_main_v348, val_main_v347, val_main_v346, val_main_v345, val_main_v344, val_main_v343, val_main_v342, val_main_v341, val_main_v340, val_main_v339, val_main_v338, val_main_v337, val_main_v336, val_main_v335, val_main_v334, val_main_v333, val_main_v332, val_main_v331, val_main_v330, val_main_v329, val_main_v328, val_main_v327, val_main_v326, val_main_v325, val_main_v324, val_main_v323, val_main_v322, val_main_v321, val_main_v320, val_main_v319, val_main_v318, val_main_v317, val_main_v316, val_main_v315, val_main_v314, val_main_v313, val_main_v312, val_main_v311, val_main_v310, val_main_v309, val_main_v308, val_main_v307, val_main_v306, val_main_v305, val_main_v304, val_main_v303, val_main_v302, val_main_v301, val_main_v300, val_main_v299, val_main_v298, val_main_v297, val_main_v296, val_main_v295, val_main_v294, val_main_v293, val_main_v292, val_main_v291, val_main_v290, val_main_v289, val_main_v288, val_main_v287, val_main_v286, val_main_v285, val_main_v284, val_main_v283, val_main_v282, val_main_v281, val_main_v280, val_main_v279, val_main_v278, val_main_v277, val_main_v276, val_main_v275, val_main_v274, val_main_v273, val_main_v272, val_main_v271, val_main_cst_16]
      simp [scan, ref_kvb, ref_leftb, zero_eq])
  rw [k, Fin.val_rev]; unfold sb; congr 1; omega

/-- What the chunks before give, and those after. -/
theorem ref_crossf : val_main_v223 (F := Ideal) x0 x1 (ix4 h n i e) =
    ∑ d : Fin 64, qx x0 (place n i) (lane h d) * Ideal.exp ((num i.val + Ideal.ofBits .f32 0x3F800000#32) * ls (x1 (ix1 h))) * sf x0 x1 h d e n := by
  pointwise [val_main_v223, val_main_v205, val_main_v204, val_main_v203, val_main_v202, val_main_v201, val_main_v200, val_main_v199, val_main_v198, val_main_v197, val_main_v196, val_main_cst_10, val_main_v86, val_main_v78]
  simp only [ref_qc, ref_f, num_eq, ref_sf]
theorem num_back : num i.rev.val + 1 = Ideal.ofBits .f32 0x43000000#32 - num i.val := by
  have a : Ideal.ofBits .f32 0x43000000#32 = ((128 : ℝ) : EReal) := by
    simp [Ideal.ofBits, Ideal.ieee]; rw [← EReal.coe_mul]; norm_num
  rw [a]; unfold num
  rw [← EReal.coe_sub, ← EReal.coe_one, ← EReal.coe_add, Fin.val_rev]
  congr 1
  rw [Nat.cast_sub (by omega)]; push_cast; ring
@[inherit_doc ref_crossf] theorem ref_crossb : val_main_v378 (F := Ideal) x0 x2 (ix4 h n.rev i.rev e) =
    ∑ d : Fin 64, qx x0 (place n i) (lane h d) * Ideal.exp ((Ideal.ofBits .f32 0x43000000#32 - num i.val) * ls (x2 (ix1 h))) * sb x0 x2 h d e n := by
  pointwise [val_main_v378, val_main_v360, val_main_v359, val_main_v358, val_main_v357, val_main_v356, val_main_v355, val_main_v354, val_main_v353, val_main_v352, val_main_v351, val_main_cst_17, val_main_v241, val_main_v233]
  simp only [ref_qr, ref_b, num_eq, ref_sb, num_back, Fin.rev_rev]

/-- The two masked decays of a pair of rows, one of them nothing, are the pair's decay. -/
theorem dec_split (a b s v : EReal) : s * (if 0 ≤ gap i m then Ideal.exp (gap i m * a) else 0) * v + s * (if 0 < gap m i then Ideal.exp (gap m i * b) else 0) * v
    = s * dec a b i m * v := by
  have e : gap m i = 0 - gap i m := by
    unfold gap; rw [zero_sub, ← EReal.coe_neg]; congr 1; push_cast; ring
  have c : 0 < gap m i ↔ ¬ 0 ≤ gap i m := by
    simp only [gap, EReal.coe_pos, EReal.coe_nonneg, Int.cast_pos, Int.cast_nonneg_iff]; omega
  unfold dec
  by_cases z : 0 ≤ gap i m
  · rw [if_pos z, if_neg (fun y => c.mp y z), if_pos z]; simp
  · rw [if_neg z, if_pos (c.mpr z), if_neg z, e]; simp

/-- The retention of the two directions. -/
theorem ref_out : val_main_v382 (F := Ideal) x0 x1 x2 (ix3 h (place n i) e) = oo x0 x1 x2 h e n i := by
  have f : val_main_v225 (F := Ideal) x0 x1 (ix3 h (place n i) e) = val_main_v224 (F := Ideal) x0 x1 (ix4 h n i e) := by
    pointwise [val_main_v225]
    simp only [place_div, place_mod]
  have b : val_main_v381 (F := Ideal) x0 x2 (ix3 h (place n i) e) = val_main_v379 (F := Ideal) x0 x2 (ix4 h n.rev i.rev e) := by
    have p : (place n i).rev = place n.rev i.rev := place_rev n i (by omega)
    pointwise [val_main_v381, val_main_v380]
    rw [p]
    refine congrArg₂ (fun a b => val_main_v379 (F := Ideal) x0 x2 (ix4 h a b e)) (Fin.ext (place_div _ _)) (Fin.ext (place_mod _ _))
  have g : val_main_v382 (F := Ideal) x0 x1 x2 (ix3 h (place n i) e) = val_main_v224 (F := Ideal) x0 x1 (ix4 h n i e) + val_main_v379 (F := Ideal) x0 x2 (ix4 h n.rev i.rev e) :=
    congrArg₂ (· + ·) f b
  rw [g]
  pointwise [val_main_v224, val_main_v379]
  rw [ref_ownf, ref_ownb, ref_crossf, ref_crossb, add_add_add_comm, ← Finset.sum_add_distrib]
  simp only [dec_split]
  exact (add_assoc _ _ _).symm

/-- A row of the retention, lane by lane. -/
def orow (l : Fin 256) : EReal := oo x0 x1 x2 (hd l) (ent l) n i
/-- The result's entry. -/
def ret (l : Fin 256) : EReal := nrm (orow x0 x1 x2 n i) l * x3 (ix1 l) * (pj x0 3 (place n i) l * Ideal.logistic (pj x0 3 (place n i) l))

theorem ref_ms (z : Fin 1) : val_main_v390 (F := Ideal) x0 x1 x2 (ix3 h (place n i) z) = ms (orow x0 x1 x2 n i) h := by
  pointwise [val_main_v390, val_main_v389, val_main_v388, val_main_v387, val_main_v386, val_main_v385, val_main_v384, val_main_cst_18, val_main_cst_19, val_main_cst_20]
  simp only [ref_out, div64, zero_eq, zero_add, ms, orow, hd_lane, ent_lane]
theorem ref_silu (l : Fin 256) : val_main_v398 (F := Ideal) x0 (ix2 t l) = pj x0 3 t l * Ideal.logistic (pj x0 3 t l) := by
  pointwise [val_main_v398, val_main_call10_v5, val_main_call10_v4, val_main_call10_cst_0, val_main_call10_v3, val_main_call10_v2, val_main_call10_cst, val_main_call10_v1, val_main_call10_v0, val_main_v3, pj]
  simp only [word_one, Ideal.logistic]
/-- The reference's result. -/
theorem ref_ret (l : Fin 256) : val_main_v400 (F := Ideal) x0 x1 x2 x3 (ix2 (place n i) l) = ret x0 x1 x2 x3 n i l := by
  have a : val_main_v397 (F := Ideal) x0 x1 x2 x3 (ix2 (place n i) l) = nrm (orow x0 x1 x2 n i) l * x3 (ix1 l) := by
    pointwise [val_main_v397, val_main_v396, val_main_v395, val_main_v394, val_main_v393, val_main_v392, val_main_v391, val_main_v383]
    exact congrArg₂ (fun a b => a * Ideal.rsqrt b * x3 (ix1 l)) (ref_out x0 x1 x2 (hd l) (ent l) n i) (ref_ms x0 x1 x2 (hd l) n i 0)
  exact congrArg₂ (· * ·) a (ref_silu x0 _ l)

end Cert.RetIdeal.Ret
-- ==== Proof.Ret.Join.lean ====
module

public import proofs.«01_k».proof.Proof.Ret.Regions
public import proofs.«01_k».proof.Proof.Ret.Spec
public import Idealize.ShloMosaic.Lib.Pipeline.ValueKit
public import Idealize.ShloMosaic.Lib.Pipeline.ReadBack

@[expose] public section

set_option maxRecDepth 16384

noncomputable section

namespace Cert.RetIdeal.Ret

open Cert.RetIdeal Cert.RetIdeal.Gen
open Idealize.ShloMosaic Idealize.ShloMosaic.TcCoe Idealize.SL.Sem
open Idealize.ShloMosaic.Pipeline (Dat)
open Cert.MemAttnIdeal.Mem (hd lane hd_lane lane_of nrm sum_head)

variable (x0 : FVec Ideal S2048x2304 .f32) (x1 x2 : FVec Ideal S4 .f32) (x3 : FVec Ideal S256 .f32)

/-- The tables, the decays and the gain as the host lays them out. -/
def cosArr : FVec Ideal S2048x256 .f32 := fun y => cosL (y 0) (y 1)
@[inherit_doc cosArr] def sinArr : FVec Ideal S2048x256 .f32 := fun y => sinL (y 0) (y 1)
@[inherit_doc cosArr] def decArr (x : FVec Ideal S4 .f32) : FVec Ideal S1x256 .f32 := fun y => x (ix1 (hd (y 1)))
@[inherit_doc cosArr] def gnArr : FVec Ideal S1x256 .f32 := fun y => x3 (ix1 (y 1))

/-- The mean of a row that is the same on every lane of a head. -/
theorem avg_hd (f : Fin 4 → EReal) (h : Fin 4) : avg (fun l => f (hd l)) h = f h := by
  unfold avg
  simp only [hd_lane]
  have a : Ideal.ofBits .f32 0x3C800000#32 = ((64⁻¹ : ℝ) : EReal) := by
    simp [Ideal.ofBits, Ideal.ieee]; rw [← EReal.coe_mul]; norm_num
  have b : ((64 : ℕ) : EReal) = ((64 : ℝ) : EReal) := by norm_cast
  rw [Finset.sum_const, Finset.card_univ, Fintype.card_fin, a, EReal.nsmul_eq_mul, b, mul_comm, ← mul_assoc, ← EReal.coe_mul]
  norm_num
/-- A scan of nothing is nothing. -/
theorem scan_zero (c : EReal) (u : ℕ → EReal) (hu : ∀ k, u k = 0) (n : ℕ) : scan c u n = 0 := by
  induction n with
  | zero => rfl
  | succ n ih => rw [scan, ih, hu]; simp
theorem scan_congr (c : EReal) (u v : ℕ → EReal) (n : ℕ) (e : ∀ k < n, u k = v k) : scan c u n = scan c v n := by
  induction n with
  | zero => rfl
  | succ n ih => rw [scan, scan, ih fun k hk => e k (by omega), e n (by omega)]

variable (n : Fin 16) (i : Fin 128) (d e l : Fin 256)

/-- The states the kernel keeps are the heads' states, and nothing between two heads. -/
theorem sfArr_at : sfArr (decArr x1) (kvfArr x0 cosArr sinArr (decArr x1)) (ix3 n d e) = if hd d = hd e then sf x0 x1 (hd e) (ent d) (ent e) n else 0 := by
  refine (show _ = scan (left (x1 (ix1 (hd e)))) (chunk (kvfArr x0 cosArr sinArr (decArr x1)) d e) n.val from rfl).trans ?_
  split
  · rename_i z
    unfold sf
    congr 1
    funext k
    unfold chunk
    refine dite_congr rfl (fun hk => ?_) fun _ => rfl
    refine (if_pos z).trans ?_
    unfold kvf
    rw [← z, lane_ent, z, lane_ent, ← z]; rfl
  · rename_i z
    refine scan_zero _ _ (fun k => ?_) _
    unfold chunk; split
    · exact if_neg z
    · rfl
@[inherit_doc sfArr_at] theorem sbArr_at : sbArr (decArr x2) (kvbArr x0 cosArr sinArr (decArr x2)) (ix3 n d e) = if hd d = hd e then sb x0 x2 (hd e) (ent d) (ent e) n else 0 := by
  refine (show _ = scan (left (x2 (ix1 (hd e)))) (fun k => chunk (kvbArr x0 cosArr sinArr (decArr x2)) d e (15 - k)) (15 - n.val) from rfl).trans ?_
  split
  · rename_i z
    unfold sb
    refine scan_congr _ _ _ _ fun k hk => ?_
    unfold chunk
    rw [dif_pos (by omega : 15 - k < 16), dif_pos (by omega : k < 16)]
    refine (if_pos z).trans ?_
    unfold kvb
    rw [← z, lane_ent, z, lane_ent, ← z]
    have v : (⟨15 - k, by omega⟩ : Fin 16) = Fin.rev ⟨k, by omega⟩ := Fin.ext (by simp only [Fin.val_rev]; omega)
    rw [← v]; rfl
  · rename_i z
    refine scan_zero _ _ (fun k => ?_) _
    unfold chunk; split
    · exact if_neg z
    · rfl

/-- A sum over all lanes against a state sees the lanes of one head. -/
theorem sum_state (q : Fin 256 → EReal) (s : Fin 64 → EReal) : (∑ d : Fin 256, q d * (if hd d = hd l then s (ent d) else 0)) = ∑ d : Fin 64, q (lane (hd l) d) * s d := by
  refine (Cert.MemAttnIdeal.Mem.sum_masked' (hd l) (fun d => s (ent d)) q).trans ?_
  simp only [ent_lane]

/-- The kernel's rows are the reference's. -/
theorem ko_eq : ko x0 cosArr sinArr (decArr x1) (decArr x2) (sfArr (decArr x1) (kvfArr x0 cosArr sinArr (decArr x1))) (sbArr (decArr x2) (kvbArr x0 cosArr sinArr (decArr x2))) n i
    = orow x0 x1 x2 n i := by
  funext l
  unfold ko orow oo
  simp only [sfArr_at, sbArr_at, lane_ent]
  have f (x : FVec Ideal S4 .f32) (h : Fin 4) : avg (lgs (decArr x)) h = ls (x (ix1 h)) := avg_hd (fun h => ls (x (ix1 h))) h
  have g (x : FVec Ideal S4 .f32) (d : Fin 64) : lgs (decArr x) (lane (hd l) d) = ls (x (ix1 (hd l))) := congrArg (fun h => ls (x (ix1 h))) (hd_lane _ _)
  rw [f, f]
  refine congrArg₂ (· + ·) (congrArg₂ (· + ·) rfl ?_) ?_
  · refine (sum_state l (fun d => qr x0 cosArr sinArr (place n i) d * Ideal.exp ((num i.val + Ideal.ofBits .f32 0x3F800000#32) * lgs (decArr x1) d)) fun d => sf x0 x1 (hd l) d (ent l) n).trans ?_
    refine Finset.sum_congr rfl fun d _ => ?_
    exact congrArg (fun z => qx x0 (place n i) (lane (hd l) d) * Ideal.exp ((num i.val + Ideal.ofBits .f32 0x3F800000#32) * z) * sf x0 x1 (hd l) d (ent l) n) (g x1 d)
  · refine (sum_state l (fun d => qr x0 cosArr sinArr (place n i) d * Ideal.exp ((Ideal.ofBits .f32 0x43000000#32 - num i.val) * lgs (decArr x2) d)) fun d => sb x0 x2 (hd l) d (ent l) n).trans ?_
    refine Finset.sum_congr rfl fun d _ => ?_
    exact congrArg (fun z => qx x0 (place n i) (lane (hd l) d) * Ideal.exp ((Ideal.ofBits .f32 0x43000000#32 - num i.val) * z) * sb x0 x2 (hd l) d (ent l) n) (g x2 d)
/-- The kernel's array is the reference's result. -/
theorem ret_eq : retArr x0 cosArr sinArr (decArr x1) (decArr x2) (gnArr x3) (sfArr (decArr x1) (kvfArr x0 cosArr sinArr (decArr x1))) (sbArr (decArr x2) (kvbArr x0 cosArr sinArr (decArr x2)))
    = Cert.RetRefIdeal.Read.val_main_v400 (F := Ideal) x0 x1 x2 x3 := by
  funext y
  obtain ⟨t, l, rfl⟩ : ∃ (t : Fin 2048) (l : Fin 256), y = ix2 t l := ⟨y 0, y 1, eq_ix2 y⟩
  obtain ⟨n, i, rfl⟩ : ∃ (n : Fin 16) (i : Fin 128), t = place n i :=
    ⟨⟨t.val / 128, by omega⟩, ⟨t.val % 128, by omega⟩, Fin.ext (by show t.val = t.val / 128 * 128 + t.val % 128; omega)⟩
  rw [retArr_at]
  refine .trans ?_ (ref_ret x0 x1 x2 x3 n i l).symm
  unfold kret ret
  rw [ko_eq]; rfl

end Cert.RetIdeal.Ret

end

end
-- ==== Proof.Ret.Final.lean ====
module

public import proofs.«01_k».proof.Proof.Ret.Run
public import proofs.«01_k».proof.Proof.Ret.Arrays
public import proofs.«01_k».proof.Proof.Ret.Join

@[expose] public section

set_option maxRecDepth 16384

noncomputable section

namespace Cert.RetIdeal.Ret

open Cert.RetIdeal Cert.RetIdeal.Gen
open Idealize.ShloMosaic Idealize.ShloMosaic.TcCoe Idealize.SL.Sem
open Cert.MemAttnIdeal.Mem (hd lane)

variable (m : (ℓ : Loc nD τ sig) → Buf (Elt Ideal) ℓ) (ρ : Dev nD → PrngReg) (c : Dev nD)

/-- The kernel's arguments: the projected rows, the two directions' decays, the gain. -/
abbrev tP : FVec Ideal S2048x2304 .f32 := m ((c : Thread nD τ).loc main_arg0)
@[inherit_doc tP] abbrev tF : FVec Ideal S4 .f32 := m ((c : Thread nD τ).loc main_arg1)
@[inherit_doc tP] abbrev tB : FVec Ideal S4 .f32 := m ((c : Thread nD τ).loc main_arg2)
@[inherit_doc tP] abbrev tG : FVec Ideal S256 .f32 := m ((c : Thread nD τ).loc main_arg3)

/-- The angle of a lane's frequency, however that is named. -/
theorem angle (t : Fin 2048) (l : Fin 256) (a : ℕ) (ha : a = l.val % 32) : FloatOps.sitofp (F := Ideal) .f32 (BitVec.ofNat 32 t.val) * Ideal.pow (Ideal.ofBits .f32 0x461C4000#32)
    (Ideal.div (-FloatOps.sitofp (F := Ideal) .f32 (BitVec.ofNat 32 a)) (Ideal.ofBits .f32 0x42000000#32)) = ang t (freq l) := by
  subst ha; rfl

/-- What the host lays out before the first region. -/
theorem v17_1 : (V1 m ρ c main_v17 : FVec Ideal S2048x256 .f32) = cosArr := by
  unfold V1 W1 hostOps0; after_results
  funext y
  obtain ⟨t, l, rfl⟩ : ∃ (t : Fin 2048) (l : Fin 256), y = ix2 t l := ⟨y 0, y 1, eq_ix2 y⟩
  pointwise []
  split
  · refine (congrArg (fun z => Ideal.cos z) (angle t l (l.val % 64) (by omega))).trans ?_
    rfl
  · refine (congrArg (fun z => Ideal.cos z) (angle t l (l.val % 64 - 32) (by omega))).trans ?_
    rfl
@[inherit_doc v17_1] theorem v22_1 : (V1 m ρ c main_v22 : FVec Ideal S2048x256 .f32) = sinArr := by
  unfold V1 W1 hostOps0; after_results
  funext y
  obtain ⟨t, l, rfl⟩ : ∃ (t : Fin 2048) (l : Fin 256), y = ix2 t l := ⟨y 0, y 1, eq_ix2 y⟩
  pointwise []
  split
  · refine (congrArg (fun z => -Ideal.sin z) (angle t l (l.val % 64) (by omega))).trans ?_
    exact (if_pos (by assumption)).symm
  · refine (congrArg (fun z => Ideal.sin z) (angle t l (l.val % 64 - 32) (by omega))).trans ?_
    exact (if_neg (by assumption)).symm
@[inherit_doc v17_1] theorem v25_1 : (V1 m ρ c main_v25 : FVec Ideal S1x256 .f32) = decArr (tF m c) := by
  unfold V1 W1 hostOps0; after_results
  funext y
  obtain ⟨z, l, rfl⟩ : ∃ (z : Fin 1) (l : Fin 256), y = ix2 z l := ⟨y 0, y 1, eq_ix2 y⟩
  pointwise []
  rfl
@[inherit_doc v17_1] theorem v28_1 : (V1 m ρ c main_v28 : FVec Ideal S1x256 .f32) = decArr (tB m c) := by
  unfold V1 W1 hostOps0; after_results
  funext y
  obtain ⟨z, l, rfl⟩ : ∃ (z : Fin 1) (l : Fin 256), y = ix2 z l := ⟨y 0, y 1, eq_ix2 y⟩
  pointwise []
  rfl
@[inherit_doc v17_1] theorem v29_1 : (V1 m ρ c main_v29 : FVec Ideal S1x256 .f32) = gnArr (tG m c) := by
  unfold V1 W1 hostOps0; after_results
  funext y
  obtain ⟨z, l, rfl⟩ : ∃ (z : Fin 1) (l : Fin 256), y = ix2 z l := ⟨y 0, y 1, eq_ix2 y⟩
  pointwise []
  rfl

/-- What each boundary holds. -/
theorem v300_2 : W2 m ρ c main_v30_0 = kvfArr (tP m c) cosArr sinArr (decArr (tF m c)) := by
  refine ((W2_arr m ρ c 6).trans (arr0_6 (V1 m ρ) c)).trans ?_
  exact congr (congr (congrArg₂ kvfArr (W1_args m ρ c main_arg0 (by decide)) (v17_1 m ρ c)) (v22_1 m ρ c)) (v25_1 m ρ c)
@[inherit_doc v300_2] theorem v301_2 : W2 m ρ c main_v30_1 = kvbArr (tP m c) cosArr sinArr (decArr (tB m c)) := by
  refine ((W2_arr m ρ c 7).trans (arr0_7 (V1 m ρ) c)).trans ?_
  exact congr (congr (congrArg₂ kvbArr (W1_args m ρ c main_arg0 (by decide)) (v17_1 m ρ c)) (v22_1 m ρ c)) (v28_1 m ρ c)
@[inherit_doc v300_2] theorem v310_3 : W3 m ρ c main_v31_0 = sfArr (decArr (tF m c)) (kvfArr (tP m c) cosArr sinArr (decArr (tF m c))) := by
  refine ((W3_arr m ρ c 4).trans (arr1_4 (V2 m ρ) c)).trans ?_
  exact congrArg₂ sfArr ((W2_of m ρ c main_v25 (by decide)).trans (v25_1 m ρ c)) (v300_2 m ρ c)
@[inherit_doc v300_2] theorem v311_3 : W3 m ρ c main_v31_1 = sbArr (decArr (tB m c)) (kvbArr (tP m c) cosArr sinArr (decArr (tB m c))) := by
  refine ((W3_arr m ρ c 5).trans (arr1_5 (V2 m ρ) c)).trans ?_
  exact congrArg₂ sbArr ((W2_of m ρ c main_v28 (by decide)).trans (v28_1 m ρ c)) (v301_2 m ρ c)
/-- A buffer the first two regions leave alone. -/
theorem keep (r : Ref sig .tc) (h0 : ∀ w : Fin cfg0.W, Pipeline.arrRef spec0 w = r → (cfg0.win w).isOut = false)
    (h1 : ∀ w : Fin cfg1.W, Pipeline.arrRef spec1 w = r → (cfg1.win w).isOut = false) : W3 m ρ c (Proc.devRef .tc r) = W1 m ρ c (Proc.devRef .tc r) :=
  (W3_of m ρ c r h1).trans (W2_of m ρ c r h0)
@[inherit_doc v300_2] theorem v32_4 : W4 m ρ c main_v32 = Cert.RetRefIdeal.Read.val_main_v400 (F := Ideal) (tP m c) (tF m c) (tB m c) (tG m c) := by
  refine ((W4_arr m ρ c 11).trans (arr2 (V3 m ρ) c)).trans (.trans ?_ (ret_eq (tP m c) (tF m c) (tB m c) (tG m c)))
  exact congr (congr (congr (congr (congr (congr (congrArg₂ retArr (W3_args m ρ c main_arg0 (by decide)) ((keep m ρ c main_v17 (by decide) (by decide)).trans (v17_1 m ρ c)))
    ((keep m ρ c main_v22 (by decide) (by decide)).trans (v22_1 m ρ c))) ((keep m ρ c main_v25 (by decide) (by decide)).trans (v25_1 m ρ c)))
    ((keep m ρ c main_v28 (by decide) (by decide)).trans (v28_1 m ρ c))) ((keep m ρ c main_v29 (by decide) (by decide)).trans (v29_1 m ρ c)))
    (v310_3 m ρ c)) (v311_3 m ρ c)

/-- The run with its value: the result is the reference's of the arguments, which end unchanged. -/
theorem run_value : θ_run defs (onTc (τ := τ) (main (F := Ideal))) ⟨m, fun _ => 0, ρ⟩ (fun r => ∀ c : Dev nD,
      r.2.mem ((c.tc : Thread nD τ).loc main_v32) = Cert.RetRefIdeal.Read.val_main_v400 (F := Ideal) (tP m c) (tF m c) (tB m c) (tG m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
    (h c _ (mem_uc main_v32 (by decide))).trans (v32_4 m ρ c),
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c)⟩) (run_memory m ρ)

end Cert.RetIdeal.Ret

end

end
-- ==== Proof.MemProj.Regions.lean ====
module

public import proofs.«01_k».proof.Proof.Gen.MemProjIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.MemProjIdeal.Back

open Cert.MemProjIdeal Cert.MemProjIdeal.Gen
open Idealize.ShloMosaic Idealize.ShloMosaic.TcCoe Idealize.SL.Sem
open Idealize.ShloMosaic.Pipeline (Dat)

/-- One over the root of row `r`'s mean square, the small constant added. -/
def inv (x : FVec Ideal S256x1024 .f32) (r : Fin 256) : EReal :=
  Ideal.rsqrt (Ideal.div (∑ j : Fin 1024, x (ix2 r j) * x (ix2 r j)) (Ideal.ofBits .f32 0x44800000#32) + Ideal.ofBits .f32 0x358637BD#32)

/-- The normalised memory, the memory's projection, the gradient of the weights, the gradient of the normalised memory and that
    of the gain: each from the arrays that its call is given. -/
def hidArr (x : FVec Ideal S256x1024 .f32) (g : FVec Ideal S1x1024 .f32) : FVec Ideal S256x1024 .bf16 :=
  fun y => x (ix2 (y 0) (y 1)) * inv x (y 0) * g (ix2 0 (y 1))
@[inherit_doc hidArr] def projArr (h : FVec Ideal S256x1024 .bf16) (w : FVec Ideal S1x1x1024x512 .bf16) : FVec Ideal S256x512 .f32 :=
  fun y => ∑ k : Fin 1024, (h (ix2 (y 0) k) : EReal) * w (ix4 0 0 k (y 1))
@[inherit_doc hidArr] def gradWArr (h : FVec Ideal S256x1024 .bf16) (d : FVec Ideal S256x512 .f32) : FVec Ideal S1x1024x512 .f32 :=
  fun y => ∑ r : Fin 256, (h (ix2 r (y 1)) : EReal) * d (ix2 r (y 2))
@[inherit_doc hidArr] def gradHidArr (d : FVec Ideal S256x512 .f32) (w : FVec Ideal S1x1x1024x512 .bf16) : FVec Ideal S256x1024 .f32 :=
  fun y => ∑ j : Fin 512, (d (ix2 (y 0) j) : EReal) * w (ix4 0 0 (y 1) j)
@[inherit_doc hidArr] def gradGainArr (x dh : FVec Ideal S256x1024 .f32) : FVec Ideal S1x1024 .f32 :=
  fun y => ∑ r : Fin 256, x (ix2 r (y 1)) * inv x r * dh (ix2 r (y 1))

/-- What each call stores, entry by entry. -/
theorem pay0 (x : Vec Ideal S256x1024 .f32) (g : Vec Ideal S1x1024 .f32) (r : Fin 256) (k : Fin 1024) :
    k0_pay1 x g (ix2 r k) = hidArr x g (ix2 r k) := by
  pointwise [k0_pay1, hidArr, inv]
@[inherit_doc pay0] theorem pay1 (h : Vec Ideal S256x1024 .bf16) (w : Vec Ideal S1x1x1024x512 .bf16) (r : Fin 256) (j : Fin 512) :
    k1_pay1 h w (ix2 r j) = projArr h w (ix2 r j) := by
  pointwise [k1_pay1, projArr]
@[inherit_doc pay0] theorem pay2 (h : Vec Ideal S256x1024 .bf16) (d : Vec Ideal S256x512 .f32) (k : Fin 1024) (j : Fin 512) :
    k2_pay1 h d (ix3 0 k j) = gradWArr h d (ix3 0 k j) := by
  pointwise [k2_pay1, gradWArr]
@[inherit_doc pay0] theorem pay3 (d : Vec Ideal S256x512 .f32) (w : Vec Ideal S1x1x1024x512 .bf16) (r : Fin 256) (k : Fin 1024) :
    k3_pay1 d w (ix2 r k) = gradHidArr d w (ix2 r k) := by
  pointwise [k3_pay1, gradHidArr]
@[inherit_doc pay0] theorem pay4 (dh x : Vec Ideal S256x1024 .f32) (k : Fin 1024) :
    k4_pay2 (k4_pay6 dh x) (k4_pay1 (F := Ideal)) (ix2 0 k) = gradGainArr x dh (ix2 0 k) := by
  refine (show _ = 0 + gradGainArr x dh (ix2 0 k) from ?_).trans (zero_add _)
  pointwise [k4_pay1, k4_pay2, k4_pay3, k4_pay4, k4_pay5, k4_pay6, gradGainArr, inv]

variable (V : (c : Dev nD) → (b : Ref sig .tc) → Buf (Elt Ideal) ((c : Thread nD τ).loc b)) (c : Dev nD)

/-- Each call has one point, whose blocks are the whole arrays. -/
theorem idx0 : ∀ t : Fin cfg0.N, win0_0.index t = ![0, 0] ∧ win0_1.index t = ![0, 0] ∧ win0_2.index t = ![0, 0] :=
  (by decide +kernel : ∀ t : Fin grid0.N, _)
@[inherit_doc idx0] theorem idx1 : ∀ t : Fin cfg1.N, win1_0.index t = ![0, 0] ∧ win1_1.index t = ![0, 0, 0, 0] ∧ win1_2.index t = ![0, 0] :=
  (by decide +kernel : ∀ t : Fin grid1.N, _)
@[inherit_doc idx0] theorem idx2 : ∀ t : Fin cfg2.N, win2_0.index t = ![0, 0] ∧ win2_1.index t = ![0, 0] ∧ win2_2.index t = ![0, 0, 0] :=
  (by decide +kernel : ∀ t : Fin grid2.N, _)
@[inherit_doc idx0] theorem idx3 : ∀ t : Fin cfg3.N, win3_0.index t = ![0, 0] ∧ win3_1.index t = ![0, 0, 0, 0] ∧ win3_2.index t = ![0, 0] :=
  (by decide +kernel : ∀ t : Fin grid3.N, _)
@[inherit_doc idx0] theorem idx4 : ∀ t : Fin cfg4.N, win4_0.index t = ![0, 0] ∧ win4_2.index t = ![0, 0] ∧ win4_4.index t = ![0, 0] :=
  (by decide +kernel : ∀ t : Fin grid4.N, _)

/-- The blocks: call by call, operand by operand. -/
theorem b0_0 (t : Fin cfg0.N) : (iblk0 V c 0 t : Vec Ideal S256x1024 .f32) = (V c main_arg0 : FVec Ideal S256x1024 .f32) := by
  funext y; obtain ⟨r, k, rfl⟩ : ∃ (r : Fin 256) (k : Fin 1024), y = ix2 r k := ⟨y 0, y 1, eq_ix2 y⟩
  blk_ext [iblk0, idx0 t]
@[inherit_doc b0_0] theorem b0_1 (t : Fin cfg0.N) : (iblk0 V c 1 t : Vec Ideal S1x1024 .f32) = (V c main_arg1 : FVec Ideal S1x1024 .f32) := by
  funext y; obtain ⟨r, k, rfl⟩ : ∃ (r : Fin 1) (k : Fin 1024), y = ix2 r k := ⟨y 0, y 1, eq_ix2 y⟩
  blk_ext [iblk0, idx0 t]
@[inherit_doc b0_0] theorem b1_0 (t : Fin cfg1.N) : (iblk1 V c 0 t : Vec Ideal S256x1024 .bf16) = (V c main_v1 : FVec Ideal S256x1024 .bf16) := by
  funext y; obtain ⟨r, k, rfl⟩ : ∃ (r : Fin 256) (k : Fin 1024), y = ix2 r k := ⟨y 0, y 1, eq_ix2 y⟩
  blk_ext [iblk1, idx1 t]
@[inherit_doc b0_0] theorem b1_1 (t : Fin cfg1.N) : (iblk1 V c 1 t : Vec Ideal S1x1x1024x512 .bf16) = (V c main_v0 : FVec Ideal S1x1x1024x512 .bf16) := by
  funext y; obtain ⟨k, j, rfl⟩ : ∃ (k : Fin 1024) (j : Fin 512), y = ix4 0 0 k j := ⟨y 2, y 3, by blk_ext []⟩
  blk_ext [iblk1, idx1 t]
@[inherit_doc b0_0] theorem b2_0 (t : Fin cfg2.N) : (iblk2 V c 0 t : Vec Ideal S256x1024 .bf16) = (V c main_v1 : FVec Ideal S256x1024 .bf16) := by
  funext y; obtain ⟨r, k, rfl⟩ : ∃ (r : Fin 256) (k : Fin 1024), y = ix2 r k := ⟨y 0, y 1, eq_ix2 y⟩
  blk_ext [iblk2, idx2 t]
@[inherit_doc b0_0] theorem b2_1 (t : Fin cfg2.N) : (iblk2 V c 1 t : Vec Ideal S256x512 .f32) = (V c main_arg3 : FVec Ideal S256x512 .f32) := by
  funext y; obtain ⟨r, j, rfl⟩ : ∃ (r : Fin 256) (j : Fin 512), y = ix2 r j := ⟨y 0, y 1, eq_ix2 y⟩
  blk_ext [iblk2, idx2 t]
@[inherit_doc b0_0] theorem b3_0 (t : Fin cfg3.N) : (iblk3 V c 0 t : Vec Ideal S256x512 .f32) = (V c main_arg3 : FVec Ideal S256x512 .f32) := by
  funext y; obtain ⟨r, j, rfl⟩ : ∃ (r : Fin 256) (j : Fin 512), y = ix2 r j := ⟨y 0, y 1, eq_ix2 y⟩
  blk_ext [iblk3, idx3 t]
@[inherit_doc b0_0] theorem b3_1 (t : Fin cfg3.N) : (iblk3 V c 1 t : Vec Ideal S1x1x1024x512 .bf16) = (V c main_v0 : FVec Ideal S1x1x1024x512 .bf16) := by
  funext y; obtain ⟨k, j, rfl⟩ : ∃ (k : Fin 1024) (j : Fin 512), y = ix4 0 0 k j := ⟨y 2, y 3, by blk_ext []⟩
  blk_ext [iblk3, idx3 t]
@[inherit_doc b0_0] theorem b4_0 (t : Fin cfg4.N) : (iblk4 V c 0 t : Vec Ideal S256x1024 .f32) = (V c main_arg0 : FVec Ideal S256x1024 .f32) := by
  funext y; obtain ⟨r, k, rfl⟩ : ∃ (r : Fin 256) (k : Fin 1024), y = ix2 r k := ⟨y 0, y 1, eq_ix2 y⟩
  blk_ext [iblk4, idx4 t]
@[inherit_doc b0_0] theorem b4_2 (t : Fin cfg4.N) : (iblk4 V c 2 t : Vec Ideal S256x1024 .f32) = (V c main_v4 : FVec Ideal S256x1024 .f32) := by
  funext y; obtain ⟨r, k, rfl⟩ : ∃ (r : Fin 256) (k : Fin 1024), y = ix2 r k := ⟨y 0, y 1, eq_ix2 y⟩
  blk_ext [iblk4, idx4 t]

/-- What each call leaves in its result. -/
theorem arr0 : (dat0 V c).arrAt 2 cfg0.N = hidArr (V c main_arg0) (V c main_arg1) := by
  refine (dat0 V c).arrAt_eq_of_covers 2 _ (by decide +kernel) fun t _ y => ?_
  blk_simp
  rw [after0_2]
  frame_out
  obtain ⟨r, k, rfl⟩ : ∃ (r : Fin 256) (k : Fin 1024), y = ix2 r k := ⟨y 0, y 1, eq_ix2 y⟩
  have e : ((cfg0.win 2).blk t).view.emb (ix2 r k) = (ix2 r k : S256x1024.Idx) := by blk_ext [idx0 t]
  refine (pay0 _ _ r k).trans (Eq.trans ?_ (congrArg (hidArr _ _) e.symm))
  rw [b0_0, b0_1]
@[inherit_doc arr0] theorem arr1 : (dat1 V c).arrAt 2 cfg1.N = projArr (V c main_v1) (V c main_v0) := by
  refine (dat1 V c).arrAt_eq_of_covers 2 _ (by decide +kernel) fun t _ y => ?_
  blk_simp
  rw [after1_2]
  frame_out
  obtain ⟨r, j, rfl⟩ : ∃ (r : Fin 256) (j : Fin 512), y = ix2 r j := ⟨y 0, y 1, eq_ix2 y⟩
  have e : ((cfg1.win 2).blk t).view.emb (ix2 r j) = (ix2 r j : S256x512.Idx) := by blk_ext [idx1 t]
  refine (pay1 _ _ r j).trans (Eq.trans ?_ (congrArg (projArr _ _) e.symm))
  rw [b1_0, b1_1]
@[inherit_doc arr0] theorem arr2 : (dat2 V c).arrAt 2 cfg2.N = gradWArr (V c main_v1) (V c main_arg3) := by
  refine (dat2 V c).arrAt_eq_of_covers 2 _ (by decide +kernel) fun t _ y => ?_
  blk_simp
  rw [after2_2]
  frame_out
  obtain ⟨k, j, rfl⟩ : ∃ (k : Fin 1024) (j : Fin 512), y = ix3 0 k j := ⟨y 1, y 2, by blk_ext []⟩
  have e : ((cfg2.win 2).blk t).view.emb (ix3 0 k j) = (ix3 0 k j : S1x1024x512.Idx) := by blk_ext [idx2 t]
  refine (pay2 _ _ k j).trans (Eq.trans ?_ (congrArg (gradWArr _ _) e.symm))
  rw [b2_0, b2_1]
@[inherit_doc arr0] theorem arr3 : (dat3 V c).arrAt 2 cfg3.N = gradHidArr (V c main_arg3) (V c main_v0) := by
  refine (dat3 V c).arrAt_eq_of_covers 2 _ (by decide +kernel) fun t _ y => ?_
  blk_simp
  rw [after3_2]
  frame_out
  obtain ⟨r, k, rfl⟩ : ∃ (r : Fin 256) (k : Fin 1024), y = ix2 r k := ⟨y 0, y 1, eq_ix2 y⟩
  have e : ((cfg3.win 2).blk t).view.emb (ix2 r k) = (ix2 r k : S256x1024.Idx) := by blk_ext [idx3 t]
  refine (pay3 _ _ r k).trans (Eq.trans ?_ (congrArg (gradHidArr _ _) e.symm))
  rw [b3_0, b3_1]
/-- What the last call leaves in the gain's gradient. -/
theorem last (t : Fin cfg4.N) (k : Fin 1024) : (outsAt4 V c t).2 (ix2 0 k) = gradGainArr (V c main_arg0) (V c main_v4) (ix2 0 k) := by
  unfold outsAt4
  frame_out
  refine (pay4 _ _ k).trans ?_
  rw [b4_0, b4_2]
attribute [local irreducible] outsAt4 in
@[inherit_doc last] theorem arr4 : (dat4 V c).arrAt 4 cfg4.N = gradGainArr (V c main_arg0) (V c main_v4) := by
  refine (dat4 V c).arrAt_eq_of_covers 4 _ (by decide +kernel) fun t _ y => ?_
  obtain ⟨z, k, rfl⟩ : ∃ (z : Fin 1) (k : Fin 1024), y = ix2 z k := ⟨y 0, y 1, eq_ix2 y⟩
  obtain rfl := Subsingleton.elim z 0
  have e : ((cfg4.win 4).blk t).view.emb (ix2 0 k) = (ix2 0 k : S1x1024.Idx) := by blk_ext [idx4 t]
  blk_simp
  rw [after4_4]
  exact (last V c t k).trans (congrArg (gradGainArr _ _) e.symm)

end Cert.MemProjIdeal.Back

end

end
-- ==== Proof.MemProj.Run.lean ====
module

public import proofs.«01_k».proof.Proof.Gen.MemProjIdeal.Frame

@[expose] public section

set_option maxRecDepth 16384

noncomputable section

namespace Cert.MemProjIdeal.Back

open Cert.MemProjIdeal Cert.MemProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with its memory: every buffer outside the kernels' own scopes ends as the last boundary has it. -/
theorem run_memory : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => h)

end Cert.MemProjIdeal.Back

end
-- ==== Proof.MemProj.Final.lean ====
module

public import proofs.«01_k».proof.Proof.MemProj.Regions
public import proofs.«01_k».proof.Proof.MemProj.Run
public import proofs.«01_k».proof.Proof.Gen.MemProjRefIdeal.Read

@[expose] public section

set_option maxRecDepth 16384

noncomputable section

namespace Cert.MemProjIdeal.Back

open Cert.MemProjIdeal Cert.MemProjIdeal.Gen
open Idealize.ShloMosaic Idealize.ShloMosaic.TcCoe Idealize.SL.Sem
open Cert.MemProjRefIdeal.Read

section Equations

variable (x0 : FVec Ideal S256x1024 .f32) (x1 : FVec Ideal S1x1024 .f32) (x2 : FVec Ideal S4x256x512 .bf16) (x3 : FVec Ideal S256x512 .f32)

/-- The weights as the calls are handed them: the four row blocks one below the other. -/
abbrev wKv : FVec Ideal S1x1x1024x512 .bf16 := shapeCast S1x1x1024x512 x2 shapeCasts_S4x256x512_S1x1x1024x512

/-- The reference's normalised memory and its weights, entry by entry. -/
theorem ref_hid (r : Fin 256) (k : Fin 1024) : val_main_v13 (F := Ideal) x0 x1 (ix2 r k) = hidArr x0 x1 (ix2 r k) := by
  pointwise [val_main_v13, val_main_v12, val_main_v11, val_main_v10, val_main_v9, val_main_v8, val_main_v7, val_main_v6, val_main_v5, val_main_v4,
    val_main_v3, val_main_v2, val_main_cst, val_main_cst_0, val_main_cst_1, hidArr, inv]
@[inherit_doc ref_hid] theorem ref_w (k : Fin 1024) (j : Fin 512) : val_main_v1 (F := Ideal) x2 (ix2 k j) = wKv x2 (ix4 0 0 k j) := by
  pointwise [val_main_v1, val_main_v0]

/-- The first result is the reference's: the memory's projection. -/
theorem eq_proj : projArr (hidArr x0 x1) (wKv x2) = val_main_v14 (F := Ideal) x0 x1 x2 := by
  funext y
  obtain ⟨r, j, rfl⟩ : ∃ (r : Fin 256) (j : Fin 512), y = ix2 r j := ⟨y 0, y 1, eq_ix2 y⟩
  refine (show _ = ∑ k : Fin 1024, val_main_v13 (F := Ideal) x0 x1 (ix2 r k) * val_main_v1 (F := Ideal) x2 (ix2 k j) from
    Finset.sum_congr rfl fun k _ => (congrArg₂ (· * ·) (ref_hid x0 x1 r k) (ref_w x2 k j)).symm).trans (Eq.symm ?_)
  pointwise [val_main_v14]

/-- The second is: the gradient of its weights. -/
theorem eq_gradW : gradWArr (hidArr x0 x1) x3 = val_main_v21 (F := Ideal) x0 x1 x3 := by
  funext y
  obtain ⟨k, j, rfl⟩ : ∃ (k : Fin 1024) (j : Fin 512), y = ix3 0 k j := ⟨y 1, y 2, by blk_ext []⟩
  refine (show _ = ∑ r : Fin 256, x3 (ix2 r j) * val_main_v13 (F := Ideal) x0 x1 (ix2 r k) from
    Finset.sum_congr rfl fun r _ => (congrArg (· * x3 (ix2 r j)) (ref_hid x0 x1 r k).symm).trans (mul_comm _ _)).trans (Eq.symm ?_)
  pointwise [val_main_v21, val_main_v16, val_main_v15]

/-- The gradient of the normalised memory is the reference's, entry by entry. -/
theorem ref_gradHid (r : Fin 256) (k : Fin 1024) : val_main_v17 (F := Ideal) x2 x3 (ix2 r k) = gradHidArr x3 (wKv x2) (ix2 r k) := by
  refine (show _ = ∑ j : Fin 512, x3 (ix2 r j) * val_main_v1 (F := Ideal) x2 (ix2 k j) from ?_).trans
    (Finset.sum_congr rfl fun j _ => congrArg (x3 (ix2 r j) * ·) (ref_w x2 k j))
  pointwise [val_main_v17]

/-- The third result is the reference's: the gradient of the gain. -/
theorem eq_gradGain : gradGainArr x0 (gradHidArr x3 (wKv x2)) = val_main_v20 (F := Ideal) x0 x2 x3 := by
  funext y
  obtain ⟨z, k, rfl⟩ : ∃ (z : Fin 1) (k : Fin 1024), y = ix2 z k := ⟨y 0, y 1, eq_ix2 y⟩
  obtain rfl := Subsingleton.elim z 0
  refine (show _ = ∑ r : Fin 256, x0 (ix2 r k) * inv x0 r * val_main_v17 (F := Ideal) x2 x3 (ix2 r k) from
    Finset.sum_congr rfl fun r _ => congrArg (x0 (ix2 r k) * inv x0 r * ·) (ref_gradHid x2 x3 r k).symm).trans (Eq.symm ?_)
  pointwise [val_main_v20, val_main_v19, val_main_v18, val_main_v11, val_main_v10, val_main_v9, val_main_v8, val_main_v7, val_main_v6,
    val_main_v5, val_main_v4, val_main_v3, val_main_v2, val_main_cst, val_main_cst_0, val_main_cst_1, val_main_cst_2, inv]

end Equations

variable (m : (ℓ : Loc nD τ sig) → Buf (Elt Ideal) ℓ) (ρ : Dev nD → PrngReg) (c : Dev nD)

/-- The kernels' arguments: the memory, the gain, the weights, the gradient of the projection. -/
abbrev aMem : FVec Ideal S256x1024 .f32 := m ((c : Thread nD τ).loc main_arg0)
@[inherit_doc aMem] abbrev aGain : FVec Ideal S1x1024 .f32 := m ((c : Thread nD τ).loc main_arg1)
@[inherit_doc aMem] abbrev aW : FVec Ideal S4x256x512 .bf16 := m ((c : Thread nD τ).loc main_arg2)
@[inherit_doc aMem] abbrev aGrad : FVec Ideal S256x512 .f32 := m ((c : Thread nD τ).loc main_arg3)

/-- The normalised memory and its gradient. -/
abbrev rows : FVec Ideal S256x1024 .bf16 := hidArr (aMem m c) (aGain m c)
@[inherit_doc rows] abbrev gradRows : FVec Ideal S256x1024 .f32 := gradHidArr (aGrad m c) (wKv (aW m c))

/-- What each boundary holds. -/
theorem v0_1 : (V1 m ρ c main_v0 : FVec Ideal S1x1x1024x512 .bf16) = wKv (aW m c) := by
  unfold V1 W1 hostOps0; after_results; rfl
@[inherit_doc v0_1] theorem v1_2 : V2 m ρ c main_v1 = rows m c :=
  ((W2_arr m ρ c 2).trans (arr0 (V1 m ρ) c)).trans (congrArg₂ hidArr (W1_args m ρ c main_arg0 (by decide)) (W1_args m ρ c main_arg1 (by decide)))
@[inherit_doc v0_1] theorem v0_2 : V2 m ρ c main_v0 = wKv (aW m c) := (W2_of m ρ c main_v0 (by decide)).trans (v0_1 m ρ c)
@[inherit_doc v0_1] theorem v2_3 : V3 m ρ c main_v2 = projArr (rows m c) (wKv (aW m c)) :=
  ((W3_arr m ρ c 2).trans (arr1 (V2 m ρ) c)).trans (congrArg₂ projArr (v1_2 m ρ c) (v0_2 m ρ c))
@[inherit_doc v0_1] theorem v1_3 : V3 m ρ c main_v1 = rows m c := (W3_of m ρ c main_v1 (by decide)).trans (v1_2 m ρ c)
@[inherit_doc v0_1] theorem v3_4 : V4 m ρ c main_v3 = gradWArr (rows m c) (aGrad m c) :=
  ((W4_arr m ρ c 2).trans (arr2 (V3 m ρ) c)).trans (congrArg₂ gradWArr (v1_3 m ρ c) (W3_args m ρ c main_arg3 (by decide)))
@[inherit_doc v0_1] theorem v0_4 : V4 m ρ c main_v0 = wKv (aW m c) :=
  (W4_of m ρ c main_v0 (by decide)).trans ((W3_of m ρ c main_v0 (by decide)).trans (v0_2 m ρ c))
@[inherit_doc v0_1] theorem v4_5 : V5 m ρ c main_v4 = gradRows m c :=
  ((W5_arr m ρ c 2).trans (arr3 (V4 m ρ) c)).trans (congrArg₂ gradHidArr (W4_args m ρ c main_arg3 (by decide)) (v0_4 m ρ c))
@[inherit_doc v0_1] theorem v5_6 : V6 m ρ c main_v5_1 = gradGainArr (aMem m c) (gradRows m c) :=
  ((W6_arr m ρ c 4).trans (arr4 (V5 m ρ) c)).trans (congrArg₂ gradGainArr (W5_args m ρ c main_arg0 (by decide)) (v4_5 m ρ c))
@[inherit_doc v0_1] theorem v2_6 : V6 m ρ c main_v2 = projArr (rows m c) (wKv (aW m c)) :=
  (W6_of m ρ c main_v2 (by decide)).trans ((W5_of m ρ c main_v2 (by decide)).trans ((W4_of m ρ c main_v2 (by decide)).trans (v2_3 m ρ c)))
@[inherit_doc v0_1] theorem v3_6 : V6 m ρ c main_v3 = gradWArr (rows m c) (aGrad m c) :=
  (W6_of m ρ c main_v3 (by decide)).trans ((W5_of m ρ c main_v3 (by decide)).trans (v3_4 m ρ c))

/-- The run with its values: the three results are the reference's of the arguments, which end unchanged. -/
theorem run_value : θ_run defs (onTc (τ := τ) (main (F := Ideal))) ⟨m, fun _ => 0, ρ⟩ (fun r => ∀ c : Dev nD,
      r.2.mem ((c.tc : Thread nD τ).loc main_v2) = val_main_v14 (F := Ideal) (aMem m c) (aGain m c) (aW m c)
      ∧ r.2.mem ((c.tc : Thread nD τ).loc main_v3) = val_main_v21 (F := Ideal) (aMem m c) (aGain m c) (aGrad m c)
      ∧ r.2.mem ((c.tc : Thread nD τ).loc main_v5_1) = val_main_v20 (F := Ideal) (aMem m c) (aW m c) (aGrad m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
    (h c _ (mem_uc main_v2 (by decide))).trans ((v2_6 m ρ c).trans (eq_proj _ _ _)),
    (h c _ (mem_uc main_v3 (by decide))).trans ((v3_6 m ρ c).trans (eq_gradW _ _ _)),
    (h c _ (mem_uc main_v5_1 (by decide))).trans ((v5_6 m ρ c).trans (eq_gradGain _ _ _)),
    (h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c)⟩) (run_memory m ρ)

end Cert.MemProjIdeal.Back

end

end
-- ==== Proof.lean ====
module

public import proofs.«01_k».proof.Defs
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateRefIdeal
public import proofs.«01_k».proof.Proof.Gen.GateRefIdeal.Run
public import proofs.«01_k».proof.Proof.Gen.GateRefIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.FfnDx.Frame
public import proofs.«01_k».proof.Proof.Gen.FfnDxIdeal.Value
public import proofs.«01_k».proof.Proof.Gen.FfnDxRefIdeal.Read
public import proofs.«01_k».proof.Proof.Gen.GateDx.Frame
public import proofs.«01_k».proof.Proof.Gen.GateDxIdeal.Value
public import proofs.«01_k».proof.Proof.Gen.GateDxRefIdeal.Read
public import proofs.«01_k».proof.Proof.Gen.InDx.Frame
public import proofs.«01_k».proof.Proof.Gen.InDxIdeal.Value
public import proofs.«01_k».proof.Proof.Gen.InDxRefIdeal.Read
public import proofs.«01_k».proof.Proof.Gen.FfnOut.Frame
public import proofs.«01_k».proof.Proof.Gen.FfnOutIdeal.Value
public import proofs.«01_k».proof.Proof.Gen.FfnOutRefIdeal.Read
public import proofs.«01_k».proof.Proof.Gen.Mix.Frame
public import proofs.«01_k».proof.Proof.Gen.MixIdeal.Frame
public import proofs.«01_k».proof.Proof.Gen.MixRefIdeal.Read
public import proofs.«01_k».proof.Proof.Gen.ProjDw.Frame
public import proofs.«01_k».proof.Proof.Gen.ProjDwIdeal.Frame
public import proofs.«01_k».proof.Proof.Gen.ProjDwRefIdeal.Read
public import proofs.«01_k».proof.Proof.Gen.RmsBwd.Frame
public import proofs.«01_k».proof.Proof.Gen.RmsBwdIdeal.Value
public import proofs.«01_k».proof.Proof.Gen.RmsBwdRefIdeal.Read
public import proofs.«01_k».proof.Proof.Gen.MemAttn.Frame
public import proofs.«01_k».proof.Proof.Gen.MemAttnIdeal.Frame
public import proofs.«01_k».proof.Proof.Gen.MemAttnRefIdeal.Read
public import proofs.«01_k».proof.Proof.Gen.Ret.Frame
public import proofs.«01_k».proof.Proof.Gen.RetIdeal.Frame
public import proofs.«01_k».proof.Proof.Gen.RetRefIdeal.Read
public import proofs.«01_k».proof.Proof.Gen.MemProj.Frame
public import proofs.«01_k».proof.Proof.Gen.MemProjIdeal.Frame
public import proofs.«01_k».proof.Proof.Gen.MemProjRefIdeal.Read
public import proofs.«01_k».proof.Proof.Gen.RmsFfn.Frame
public import proofs.«01_k».proof.Proof.Gen.RmsFfnIdeal.Value
public import proofs.«01_k».proof.Proof.Gen.RmsFfnRefIdeal.Read
public import proofs.«01_k».proof.Proof.Gen.Loss.Frame
public import proofs.«01_k».proof.Proof.Gen.LossIdeal.Value
public import proofs.«01_k».proof.Proof.Gen.LossRefIdeal.Read
public import proofs.«01_k».proof.Proof.Gen.Small.Frame
public import proofs.«01_k».proof.Proof.Gen.SmallIdeal.Value
public import proofs.«01_k».proof.Proof.Gen.SmallRefIdeal.Read
public import proofs.«01_k».proof.Proof.Gen.AdamFfnIn.Frame
public import proofs.«01_k».proof.Proof.Gen.AdamFfnInIdeal.Value
public import proofs.«01_k».proof.Proof.Gen.AdamFfnInRefIdeal.Read
public import proofs.«01_k».proof.Proof.Gen.AdamFfnOut.Frame
public import proofs.«01_k».proof.Proof.Gen.AdamFfnOutIdeal.Value
public import proofs.«01_k».proof.Proof.Gen.AdamFfnOutRefIdeal.Read
public import proofs.«01_k».proof.Proof.Gen.AdamOut.Frame
public import proofs.«01_k».proof.Proof.Gen.AdamOutIdeal.Value
public import proofs.«01_k».proof.Proof.Gen.AdamOutRefIdeal.Read
public import proofs.«01_k».proof.Proof.Gen.AdamBranch.Frame
public import proofs.«01_k».proof.Proof.Gen.AdamBranchIdeal.Value
public import proofs.«01_k».proof.Proof.Gen.AdamBranchRefIdeal.Read
public import proofs.«01_k».proof.Proof.Gen.AdamMemKv.Frame
public import proofs.«01_k».proof.Proof.Gen.AdamMemKvIdeal.Value
public import proofs.«01_k».proof.Proof.Gen.AdamMemKvRefIdeal.Read
public import proofs.«01_k».proof.Proof.Gen.AdamGate.Frame
public import proofs.«01_k».proof.Proof.Gen.AdamGateIdeal.Value
public import proofs.«01_k».proof.Proof.Gen.AdamGateRefIdeal.Read
public import proofs.«01_k».proof.Proof.Gen.AdamIn.Frame
public import proofs.«01_k».proof.Proof.Gen.AdamInIdeal.Value
public import proofs.«01_k».proof.Proof.Gen.AdamInRefIdeal.Read
public import proofs.«01_k».proof.Proof.Gate.Final
public import proofs.«01_k».proof.Proof.Ffn.Final
public import proofs.«01_k».proof.Proof.Dx.FfnDx
public import proofs.«01_k».proof.Proof.Dx.GateDx
public import proofs.«01_k».proof.Proof.Dx.InDx
public import proofs.«01_k».proof.Proof.Dx.FfnOut
public import proofs.«01_k».proof.Proof.Mix.Final
public import proofs.«01_k».proof.Proof.ProjDw.Final
public import proofs.«01_k».proof.Proof.Rms.Back
public import proofs.«01_k».proof.Proof.Rms.Ffn
public import proofs.«01_k».proof.Proof.Loss.Final
public import proofs.«01_k».proof.Proof.Small.Final
public import proofs.«01_k».proof.Proof.Adam.FfnIn
public import proofs.«01_k».proof.Proof.Adam.In
public import proofs.«01_k».proof.Proof.Adam.Gate
public import proofs.«01_k».proof.Proof.Adam.MemKv
public import proofs.«01_k».proof.Proof.Adam.Branch
public import proofs.«01_k».proof.Proof.Adam.Out
public import proofs.«01_k».proof.Proof.Adam.FfnOut
public import proofs.«01_k».proof.Proof.Mem.Final
public import proofs.«01_k».proof.Proof.Ret.Final
public import proofs.«01_k».proof.Proof.MemProj.Final
public import Idealize.ShloMosaic.Adequacy
public import Idealize.ShloMosaic.Init
public import Idealize.ShloMosaic.Lib.Claim

@[expose] public section

noncomputable section

namespace Cert.Proof

open Idealize.ShloMosaic Idealize.SL.Sem

/-- The kernels' body tables of the two programs agree over words: at the one label the bodies are the same text. -/
theorem table_eq : Cert.Gate.defs₀ (F := Bits) = Cert.GateIdeal.defs₀ (F := Bits) := by
  funext u ℓ a
  cases u with
  | tc =>
    match ℓ, a with
    | 0, (t, s) => rfl
  | scScalar _ => rfl
  | scVector _ _ => rfl

/-- So do the tables of the whole programs, each with its pipeline. -/
theorem defs_eq : Cert.Gate.defs (F := Bits) = Cert.GateIdeal.defs (F := Bits) :=
  congrArg (Pipeline.defs (Cert.GateIdeal.pcfgs (F := Bits))) table_eq

/-- The kernel of the gated merge's backward pass, over words: the same text as over the extended reals, so the run for
    any float values is its run too. -/
theorem frame_gate : @Cert.quiescent_Gate Cert.Gate.Gen.facts := by
  intro m g _
  rw [defs_eq]
  exact Cert.GateIdeal.Merge.frame (F := Bits) m g

/-- The reference of the gated merge's backward pass ends, its arguments unchanged and every counter at zero. -/
theorem frame_gateRef : @Cert.quiescent_GateRefIdeal Cert.GateRefIdeal.Gen.facts := fun m g _ =>
  θ_run_mono (Cert.GateRefIdeal.Value.run (F := Ideal) m g)
    fun r h => ⟨fun c => (h c).2.2.2, sem_eq_zero_of_no_sems (by decide) r.2⟩

/-- The kernel of the gated merge's backward pass leaves in its three results what the reference computes: the gradients
    of the gates' pre-activations, of the four branches, and of the branch weights. -/
theorem value_gate : @Cert.algebraic_GateIdeal_GateRefIdeal Cert.GateIdeal.Gen.facts Cert.GateRefIdeal.Gen.facts := by
  intro m g m' g' _ hagree
  refine ⟨_, _, _, Cert.GateIdeal.Merge.run_value m g, ?_⟩
  refine θ_run_mono (Cert.GateRefIdeal.Value.run (F := Ideal) m' g') fun r h c => ?_
  obtain ⟨e0, e1, e2, e3, e4, e5, e6⟩ := hagree c
  obtain ⟨h0, h1, h2, h3⟩ := h c
  refine ⟨h0.trans ?_, h1.trans ?_, h2.trans ?_, h3⟩
  · rw [Cert.GateRefIdeal.Read.val_main_v41_eq, e0, e1, e2, e3, e4, e5, e6]
  · rw [Cert.GateRefIdeal.Read.val_main_v42_eq, e0, e5, e6]
  · rw [Cert.GateRefIdeal.Read.val_main_v44_eq, e0, e1, e2, e3, e4, e6]

/-- The reference of the feed-forward block's backward pass ends, its arguments unchanged and every counter at zero. -/
theorem frame_ffnRef : @Cert.quiescent_FfnRefIdeal Cert.FfnRefIdeal.Gen.facts := fun m g _ =>
  θ_run_mono (Cert.FfnRefIdeal.Value.run (F := Ideal) m g)
    fun r h => ⟨fun c => (h c).2.2.2, sem_eq_zero_of_no_sems (by decide) r.2⟩

/-- The kernels of the feed-forward block leave in their three results what the reference computes: the gradient of the
    first product, of the input weights and of the output weights. -/
theorem value_ffn : @Cert.algebraic_FfnIdeal_FfnRefIdeal Cert.FfnIdeal.Gen.facts Cert.FfnRefIdeal.Gen.facts := by
  intro m g m' g' _ hagree
  refine ⟨_, _, _, Cert.FfnIdeal.Mixer.run_value m g, ?_⟩
  refine θ_run_mono (Cert.FfnRefIdeal.Value.run (F := Ideal) m' g') fun r h c => ?_
  obtain ⟨e0, e1, e2, e3, e4⟩ := hagree c
  obtain ⟨h0, h1, h2, h3⟩ := h c
  refine ⟨h0.trans ?_, h1.trans ?_, h2.trans ?_, h3⟩
  · rw [Cert.FfnRefIdeal.Read.val_main_v33_eq, e0, e1, e2, e3, e4]
  · rw [Cert.FfnRefIdeal.Read.val_main_v35_eq, e0, e1, e2, e3, e4]
  · rw [Cert.FfnRefIdeal.Read.val_main_v36_eq, e0, e1, e2, e4]

/-- The reference of the gradient of the rows through the feed-forward block's input weights ends, its arguments unchanged and every counter at zero. -/
theorem frame_ffnDxRef : @Cert.quiescent_FfnDxRefIdeal Cert.FfnDxRefIdeal.Gen.facts := fun m g _ =>
  θ_run_mono (Cert.FfnDxRefIdeal.Value.run (F := Ideal) m g)
    fun r h => ⟨fun c => (h c).2, sem_eq_zero_of_no_sems (by decide) r.2⟩

/-- The kernel of the gradient of the rows through the feed-forward block's input weights computes it. -/
theorem value_ffnDx : @Cert.algebraic_FfnDxIdeal_FfnDxRefIdeal Cert.FfnDxIdeal.Gen.facts Cert.FfnDxRefIdeal.Gen.facts := by
  intro m g m' g' _ hagree
  refine ⟨_, θ_run_mono (Cert.FfnDxIdeal.Value.run_blocks m g) fun r h c => ⟨(h c).1.trans (Cert.FfnDxIdeal.Back.final m c), (h c).2⟩, ?_⟩
  refine θ_run_mono (Cert.FfnDxRefIdeal.Value.run (F := Ideal) m' g') fun r h c => ?_
  obtain ⟨e0, e1⟩ := hagree c
  obtain ⟨h0, hk⟩ := h c
  refine ⟨h0.trans ?_, hk⟩
  · rw [Cert.FfnDxRefIdeal.Read.val_main_v7_eq, e0, e1]

/-- The reference of the gradient of the rows through the gate weights ends, its arguments unchanged and every counter at zero. -/
theorem frame_gateDxRef : @Cert.quiescent_GateDxRefIdeal Cert.GateDxRefIdeal.Gen.facts := fun m g _ =>
  θ_run_mono (Cert.GateDxRefIdeal.Value.run (F := Ideal) m g)
    fun r h => ⟨fun c => (h c).2, sem_eq_zero_of_no_sems (by decide) r.2⟩

/-- The kernel of the gradient of the rows through the gate weights computes it. -/
theorem value_gateDx : @Cert.algebraic_GateDxIdeal_GateDxRefIdeal Cert.GateDxIdeal.Gen.facts Cert.GateDxRefIdeal.Gen.facts := by
  intro m g m' g' _ hagree
  refine ⟨_, θ_run_mono (Cert.GateDxIdeal.Value.run_blocks m g) fun r h c => ⟨(h c).1.trans (Cert.GateDxIdeal.Back.final m c), (h c).2⟩, ?_⟩
  refine θ_run_mono (Cert.GateDxRefIdeal.Value.run (F := Ideal) m' g') fun r h c => ?_
  obtain ⟨e0, e1⟩ := hagree c
  obtain ⟨h0, hk⟩ := h c
  refine ⟨h0.trans ?_, hk⟩
  · rw [Cert.GateDxRefIdeal.Read.val_main_v7_eq, e0, e1]

/-- The reference of the gradient of the rows through the input weights ends, its arguments unchanged and every counter at zero. -/
theorem frame_inDxRef : @Cert.quiescent_InDxRefIdeal Cert.InDxRefIdeal.Gen.facts := fun m g _ =>
  θ_run_mono (Cert.InDxRefIdeal.Value.run (F := Ideal) m g)
    fun r h => ⟨fun c => (h c).2, sem_eq_zero_of_no_sems (by decide) r.2⟩

/-- The kernel of the gradient of the rows through the input weights computes it. -/
theorem value_inDx : @Cert.algebraic_InDxIdeal_InDxRefIdeal Cert.InDxIdeal.Gen.facts Cert.InDxRefIdeal.Gen.facts := by
  intro m g m' g' _ hagree
  refine ⟨_, θ_run_mono (Cert.InDxIdeal.Value.run_blocks m g) fun r h c => ⟨(h c).1.trans (Cert.InDxIdeal.Back.final m c), (h c).2⟩, ?_⟩
  refine θ_run_mono (Cert.InDxRefIdeal.Value.run (F := Ideal) m' g') fun r h c => ?_
  obtain ⟨e0, e1⟩ := hagree c
  obtain ⟨h0, hk⟩ := h c
  refine ⟨h0.trans ?_, hk⟩
  · rw [Cert.InDxRefIdeal.Read.val_main_v5_eq, e0, e1]

/-- The reference of the feed-forward block's output product ends, its arguments unchanged and every counter at zero. -/
theorem frame_ffnOutRef : @Cert.quiescent_FfnOutRefIdeal Cert.FfnOutRefIdeal.Gen.facts := fun m g _ =>
  θ_run_mono (Cert.FfnOutRefIdeal.Value.run (F := Ideal) m g)
    fun r h => ⟨fun c => (h c).2, sem_eq_zero_of_no_sems (by decide) r.2⟩

/-- The kernel of the feed-forward block's output product leaves the stream with the product added. -/
theorem value_ffnOut : @Cert.algebraic_FfnOutIdeal_FfnOutRefIdeal Cert.FfnOutIdeal.Gen.facts Cert.FfnOutRefIdeal.Gen.facts := by
  intro m g m' g' _ hagree
  refine ⟨_, θ_run_mono (Cert.FfnOutIdeal.Value.run_blocks m g) fun r h c => ⟨(h c).1.trans (Cert.FfnOutIdeal.Back.final m c), (h c).2⟩, ?_⟩
  refine θ_run_mono (Cert.FfnOutRefIdeal.Value.run (F := Ideal) m' g') fun r h c => ?_
  obtain ⟨e0, e1, e2⟩ := hagree c
  obtain ⟨h0, hk⟩ := h c
  refine ⟨h0.trans ?_, hk⟩
  · rw [Cert.FfnOutRefIdeal.Read.val_main_v3_eq, e0, e1, e2]

/-- The reference of the mixing block ends, its arguments unchanged and every counter at zero. -/
theorem frame_mixRef : @Cert.quiescent_MixRefIdeal Cert.MixRefIdeal.Gen.facts := fun m g _ =>
  θ_run_mono (Cert.MixRefIdeal.Value.run (F := Ideal) m g)
    fun r h => ⟨fun c => (h c).2.2.2.2, sem_eq_zero_of_no_sems (by decide) r.2⟩

/-- The kernels of the mixing block leave in their four results what the reference computes: the input product, the new
    stream, the gradient of the merged rows, and of the output weights. -/
theorem value_mix : @Cert.algebraic_MixIdeal_MixRefIdeal Cert.MixIdeal.Gen.facts Cert.MixRefIdeal.Gen.facts := by
  intro m g m' g' _ hagree
  refine ⟨_, _, _, _, Cert.MixIdeal.Mixer.run_value m g, ?_⟩
  refine θ_run_mono (Cert.MixRefIdeal.Value.run (F := Ideal) m' g') fun r h c => ?_
  obtain ⟨e0, e1, e2, e3, e4, e5, e6, e7, e8, e9, e10⟩ := hagree c
  obtain ⟨h0, h1, h2, h3, hk⟩ := h c
  refine ⟨h0.trans ?_, h1.trans ?_, h2.trans ?_, h3.trans ?_, hk⟩
  · rw [Cert.MixRefIdeal.Read.val_main_v15_eq, e0, e1, e2]
  · rw [Cert.MixRefIdeal.Read.val_main_v46_eq, e0, e1, e3, e4, e5, e6, e7, e8, e9]
  · rw [Cert.MixRefIdeal.Read.val_main_v49_eq, e9, e10]
  · rw [Cert.MixRefIdeal.Read.val_main_v50_eq, e0, e1, e3, e4, e5, e6, e7, e8, e10]

/-- The reference of the gradients of the input and gate weights ends, its arguments unchanged and every counter at zero. -/
theorem frame_projDwRef : @Cert.quiescent_ProjDwRefIdeal Cert.ProjDwRefIdeal.Gen.facts := fun m g _ =>
  θ_run_mono (Cert.ProjDwRefIdeal.Value.run (F := Ideal) m g)
    fun r h => ⟨fun c => (h c).2.2, sem_eq_zero_of_no_sems (by decide) r.2⟩

/-- The kernels of the gradients of the gate and input weights compute them. -/
theorem value_projDw : @Cert.algebraic_ProjDwIdeal_ProjDwRefIdeal Cert.ProjDwIdeal.Gen.facts Cert.ProjDwRefIdeal.Gen.facts := by
  intro m g m' g' _ hagree
  refine ⟨_, _, Cert.ProjDwIdeal.Mixer.run_value m g, ?_⟩
  refine θ_run_mono (Cert.ProjDwRefIdeal.Value.run (F := Ideal) m' g') fun r h c => ?_
  obtain ⟨e0, e1, e2, e3⟩ := hagree c
  obtain ⟨h0, h1, hk⟩ := h c
  refine ⟨h0.trans ?_, h1.trans ?_, hk⟩
  · rw [Cert.ProjDwRefIdeal.Read.val_main_v21_eq, e0, e1, e2]
  · rw [Cert.ProjDwRefIdeal.Read.val_main_v23_eq, e0, e1, e3]

/-- The reference of the norm's gradient ends, its arguments unchanged and every counter at zero. -/
theorem frame_rmsBwdRef : @Cert.quiescent_RmsBwdRefIdeal Cert.RmsBwdRefIdeal.Gen.facts := fun m g _ =>
  θ_run_mono (Cert.RmsBwdRefIdeal.Value.run (F := Ideal) m g)
    fun r h => ⟨fun c => (h c).2.2, sem_eq_zero_of_no_sems (by decide) r.2⟩

/-- The kernel of the norm's gradient leaves the gradient of the rows, with the stream's added, and of the gain. -/
theorem value_rmsBwd : @Cert.algebraic_RmsBwdIdeal_RmsBwdRefIdeal Cert.RmsBwdIdeal.Gen.facts Cert.RmsBwdRefIdeal.Gen.facts := by
  intro m g m' g' _ hagree
  refine ⟨_, _, θ_run_mono (Cert.RmsBwdIdeal.Value.run_blocks m g) fun r h c => ⟨(h c).1.trans (Cert.RmsBwdIdeal.Back.final m c), (h c).2.1.trans (Cert.RmsBwdIdeal.Back.final_gain m c), (h c).2.2⟩, ?_⟩
  refine θ_run_mono (Cert.RmsBwdRefIdeal.Value.run (F := Ideal) m' g') fun r h c => ?_
  obtain ⟨e0, e1, e2, e3, e4⟩ := hagree c
  obtain ⟨h0, h1, hk⟩ := h c
  refine ⟨h0.trans ?_, h1.trans ?_, hk⟩
  · rw [Cert.RmsBwdRefIdeal.Read.val_main_v35_eq, e0, e1, e2, e3, e4]
  · rw [Cert.RmsBwdRefIdeal.Read.val_main_v18_eq, e0, e2, e3]

/-- The reference of the attention over the memory ends, its arguments unchanged and every counter at zero. -/
theorem frame_memAttnRef : @Cert.quiescent_MemAttnRefIdeal Cert.MemAttnRefIdeal.Gen.facts := fun m g _ =>
  θ_run_mono (Cert.MemAttnRefIdeal.Value.run (F := Ideal) m g)
    fun r h => ⟨fun c => (h c).2.2.2.2, sem_eq_zero_of_no_sems (by decide) r.2⟩

/-- The kernels of the attention over the memory leave in their four results what the reference computes: the rows read,
    and the gradients of the queries, of the values, and of the queries' gain. -/
theorem value_memAttn : @Cert.algebraic_MemAttnIdeal_MemAttnRefIdeal Cert.MemAttnIdeal.Gen.facts Cert.MemAttnRefIdeal.Gen.facts := by
  intro m g m' g' _ hagree
  refine ⟨_, _, _, _, Cert.MemAttnIdeal.Mem.run_value m g, ?_⟩
  refine θ_run_mono (Cert.MemAttnRefIdeal.Value.run (F := Ideal) m' g') fun r h c => ?_
  obtain ⟨e0, e1, e2, e3, e4⟩ := hagree c
  obtain ⟨h0, h1, h2, h3, hk⟩ := h c
  refine ⟨h0.trans ?_, h1.trans ?_, h2.trans ?_, h3.trans ?_, hk⟩
  · exact (Cert.MemAttnRefIdeal.Read.val_main_v105_eq _).trans (congr (congr (congrArg₂ (Cert.MemAttnRefIdeal.Read.val_main_v105 (F := Ideal)) e0 e1) e2) e3)
  · exact (Cert.MemAttnRefIdeal.Read.val_main_v106_eq _).trans (congr (congr (congr (congrArg₂ (Cert.MemAttnRefIdeal.Read.val_main_v106 (F := Ideal)) e0 e1) e2) e3) e4)
  · exact (Cert.MemAttnRefIdeal.Read.val_main_v67_eq _).trans (congr (congr (congr (congrArg₂ (Cert.MemAttnRefIdeal.Read.val_main_v67 (F := Ideal)) e0 e1) e2) e3) e4)
  · exact (Cert.MemAttnRefIdeal.Read.val_main_v88_eq _).trans (congr (congr (congr (congrArg₂ (Cert.MemAttnRefIdeal.Read.val_main_v88 (F := Ideal)) e0 e1) e2) e3) e4)

/-- The reference of the retention ends, its arguments unchanged and every counter at zero. -/
theorem frame_retRef : @Cert.quiescent_RetRefIdeal Cert.RetRefIdeal.Gen.facts := fun m g _ =>
  θ_run_mono (Cert.RetRefIdeal.Value.run (F := Ideal) m g)
    fun r h => ⟨fun c => (h c).2, sem_eq_zero_of_no_sems (by decide) r.2⟩

/-- The kernels of the retention leave in their result what the reference computes: the rows retained
    in both directions, normalised and gated. -/
theorem value_ret : @Cert.algebraic_RetIdeal_RetRefIdeal Cert.RetIdeal.Gen.facts Cert.RetRefIdeal.Gen.facts := by
  intro m g m' g' _ hagree
  refine ⟨_, Cert.RetIdeal.Ret.run_value m g, ?_⟩
  refine θ_run_mono (Cert.RetRefIdeal.Value.run (F := Ideal) m' g') fun r h c => ?_
  obtain ⟨e0, e1, e2, e3⟩ := hagree c
  obtain ⟨h0, hk⟩ := h c
  refine ⟨h0.trans ?_, hk⟩
  · exact (Cert.RetRefIdeal.Read.val_main_v400_eq _).trans (congr (congr (congrArg₂ (Cert.RetRefIdeal.Read.val_main_v400 (F := Ideal)) e0 e1) e2) e3)

/-- The reference of the memory's projection ends, its arguments unchanged and every counter at zero. -/
theorem frame_memProjRef : @Cert.quiescent_MemProjRefIdeal Cert.MemProjRefIdeal.Gen.facts := fun m g _ =>
  θ_run_mono (Cert.MemProjRefIdeal.Value.run (F := Ideal) m g)
    fun r h => ⟨fun c => (h c).2.2.2, sem_eq_zero_of_no_sems (by decide) r.2⟩

/-- The kernels of the memory's projection leave in their three results what the reference computes: the projection of
    the normalised memory, and the gradients of its weights and of the norm's gain. -/
theorem value_memProj : @Cert.algebraic_MemProjIdeal_MemProjRefIdeal Cert.MemProjIdeal.Gen.facts Cert.MemProjRefIdeal.Gen.facts := by
  intro m g m' g' _ hagree
  refine ⟨_, _, _, Cert.MemProjIdeal.Back.run_value m g, ?_⟩
  refine θ_run_mono (Cert.MemProjRefIdeal.Value.run (F := Ideal) m' g') fun r h c => ?_
  obtain ⟨e0, e1, e2, e3⟩ := hagree c
  obtain ⟨h0, h1, h2, hk⟩ := h c
  refine ⟨h0.trans ?_, h1.trans ?_, h2.trans ?_, hk⟩
  · exact (Cert.MemProjRefIdeal.Read.val_main_v14_eq _ _ _).trans (congr (congrArg₂ (Cert.MemProjRefIdeal.Read.val_main_v14 (F := Ideal)) e0 e1) e2)
  · exact (Cert.MemProjRefIdeal.Read.val_main_v21_eq _ _ _).trans (congr (congrArg₂ (Cert.MemProjRefIdeal.Read.val_main_v21 (F := Ideal)) e0 e1) e3)
  · exact (Cert.MemProjRefIdeal.Read.val_main_v20_eq _ _ _).trans (congr (congrArg₂ (Cert.MemProjRefIdeal.Read.val_main_v20 (F := Ideal)) e0 e2) e3)

/-- The reference of the gradient of the feed-forward block's norm ends, its arguments unchanged and every counter at zero. -/
theorem frame_rmsFfnRef : @Cert.quiescent_RmsFfnRefIdeal Cert.RmsFfnRefIdeal.Gen.facts := fun m g _ =>
  θ_run_mono (Cert.RmsFfnRefIdeal.Value.run (F := Ideal) m g)
    fun r h => ⟨fun c => (h c).2.2, sem_eq_zero_of_no_sems (by decide) r.2⟩

/-- The kernel of the gradient of the feed-forward block's norm leaves the gradient of the rows, with the output's added, and
    of the gain. -/
theorem value_rmsFfn : @Cert.algebraic_RmsFfnIdeal_RmsFfnRefIdeal Cert.RmsFfnIdeal.Gen.facts Cert.RmsFfnRefIdeal.Gen.facts := by
  intro m g m' g' _ hagree
  refine ⟨_, _, θ_run_mono (Cert.RmsFfnIdeal.Value.run_blocks m g) fun r h c => ⟨(h c).1.trans (Cert.RmsFfnIdeal.Back.final m c), (h c).2.1.trans (Cert.RmsFfnIdeal.Back.final_gain m c), (h c).2.2⟩, ?_⟩
  refine θ_run_mono (Cert.RmsFfnRefIdeal.Value.run (F := Ideal) m' g') fun r h c => ?_
  obtain ⟨e0, e1, e2, e3⟩ := hagree c
  obtain ⟨h0, h1, hk⟩ := h c
  refine ⟨h0.trans ?_, h1.trans ?_, hk⟩
  · rw [Cert.RmsFfnRefIdeal.Read.val_main_v34_eq, e0, e1, e2, e3]
  · rw [Cert.RmsFfnRefIdeal.Read.val_main_v17_eq, e0, e2]

/-- The reference of the loss ends, its arguments unchanged and every counter at zero. -/
theorem frame_lossRef : @Cert.quiescent_LossRefIdeal Cert.LossRefIdeal.Gen.facts := fun m g _ =>
  θ_run_mono (Cert.LossRefIdeal.Value.run (F := Ideal) m g)
    fun r h => ⟨fun c => (h c).2.2, sem_eq_zero_of_no_sems (by decide) r.2⟩

/-- The kernel of the loss leaves the loss and its gradient. -/
theorem value_loss : @Cert.algebraic_LossIdeal_LossRefIdeal Cert.LossIdeal.Gen.facts Cert.LossRefIdeal.Gen.facts := by
  intro m g m' g' _ hagree
  refine ⟨_, _, θ_run_mono (Cert.LossIdeal.Value.run_blocks m g) fun r h c => ⟨(h c).1.trans (Cert.LossIdeal.Head.final_loss m c), (h c).2.1.trans (Cert.LossIdeal.Head.final m c), (h c).2.2⟩, ?_⟩
  refine θ_run_mono (Cert.LossRefIdeal.Value.run (F := Ideal) m' g') fun r h c => ?_
  obtain ⟨e0, e1⟩ := hagree c
  obtain ⟨h0, h1, hk⟩ := h c
  refine ⟨h0.trans ?_, h1.trans ?_, hk⟩
  · rw [Cert.LossRefIdeal.Read.val_main_v15_eq, e0, e1]
  · rw [Cert.LossRefIdeal.Read.val_main_v14_eq, e0, e1]

/-- The reference of the small parameters' update ends, its arguments unchanged and every counter at zero. -/
theorem frame_smallRef : @Cert.quiescent_SmallRefIdeal Cert.SmallRefIdeal.Gen.facts := fun m g _ =>
  θ_run_mono (Cert.SmallRefIdeal.Value.run (F := Ideal) m g)
    fun r h => ⟨fun c => (h c).2.2.2.2, sem_eq_zero_of_no_sems (by decide) r.2⟩

open Cert.SmallIdeal.Update in
/-- The kernel of the small parameters' update leaves the summed gradient, the step and the two new averages. -/
theorem value_small : @Cert.algebraic_SmallIdeal_SmallRefIdeal Cert.SmallIdeal.Gen.facts Cert.SmallRefIdeal.Gen.facts := by
  intro m g m' g' _ hagree
  refine ⟨_, _, _, _, θ_run_mono (Cert.SmallIdeal.Value.run m g) fun r h c => ⟨(h c).1.trans (G4_eq _ _ _ _), (h c).2.1.trans (G5_eq _ _ _ _), (h c).2.2.1.trans (G6_eq _ _ _ _), (h c).2.2.2.1.trans (G7_eq _ _ _ _), (h c).2.2.2.2⟩, ?_⟩
  refine θ_run_mono (Cert.SmallRefIdeal.Value.run (F := Ideal) m' g') fun r h c => ?_
  obtain ⟨e0, e1, e2, e3⟩ := hagree c
  obtain ⟨h0, h1, h2, h3, hk⟩ := h c
  refine ⟨h0.trans ?_, h1.trans ?_, h2.trans ?_, h3.trans ?_, hk⟩
  · rw [Cert.SmallRefIdeal.Read.val_main_v0_eq, e0]
  · rw [Cert.SmallRefIdeal.Read.val_main_v24_eq, e0, e1, e2, e3]
  · rw [Cert.SmallRefIdeal.Read.val_main_v5_eq, e0, e2]
  · rw [Cert.SmallRefIdeal.Read.val_main_v11_eq, e0, e3]

/-- The reference of the update of w_ffn_in ends, its arguments unchanged and every counter at zero. -/
theorem frame_adamFfnInRef : @Cert.quiescent_AdamFfnInRefIdeal Cert.AdamFfnInRefIdeal.Gen.facts := fun m g _ =>
  θ_run_mono (Cert.AdamFfnInRefIdeal.Value.run (F := Ideal) m g)
    fun r h => ⟨fun c => (h c).2.2.2.2, sem_eq_zero_of_no_sems (by decide) r.2⟩

open Cert.AdamFfnInIdeal.Update in
/-- The kernel of the update of w_ffn_in leaves the gradient, the step and the two new averages. -/
theorem value_adamFfnIn : @Cert.algebraic_AdamFfnInIdeal_AdamFfnInRefIdeal Cert.AdamFfnInIdeal.Gen.facts Cert.AdamFfnInRefIdeal.Gen.facts := by
  intro m g m' g' _ hagree
  refine ⟨_, _, _, _, θ_run_mono (Cert.AdamFfnInIdeal.Value.run_blocks m g) fun r h c => ⟨(h c).1.trans (final_g m c), (h c).2.1.trans (final_d m c), (h c).2.2.1.trans (final_u m c), (h c).2.2.2.1.trans (final_v m c), (h c).2.2.2.2⟩, ?_⟩
  refine θ_run_mono (Cert.AdamFfnInRefIdeal.Value.run (F := Ideal) m' g') fun r h c => ?_
  obtain ⟨e0, e1, e2, e3, -⟩ := hagree c
  obtain ⟨h0, h1, h2, h3, hk⟩ := h c
  refine ⟨h0.trans ?_, h1.trans ?_, h2.trans ?_, h3.trans ?_, hk⟩
  · rw [Cert.AdamFfnInRefIdeal.Read.val_main_v0_eq, e1]
  · rw [Cert.AdamFfnInRefIdeal.Read.val_main_v25_eq, e0, e1, e2, e3]
  · rw [Cert.AdamFfnInRefIdeal.Read.val_main_v6_eq, e1, e2]
  · rw [Cert.AdamFfnInRefIdeal.Read.val_main_v12_eq, e1, e3]

/-- The reference of the update of w_in ends, its arguments unchanged and every counter at zero. -/
theorem frame_adamInRef : @Cert.quiescent_AdamInRefIdeal Cert.AdamInRefIdeal.Gen.facts := fun m g _ =>
  θ_run_mono (Cert.AdamInRefIdeal.Value.run (F := Ideal) m g)
    fun r h => ⟨fun c => (h c).2.2.2.2, sem_eq_zero_of_no_sems (by decide) r.2⟩

open Cert.AdamInIdeal.Update in
/-- The kernel of the update of w_in leaves the gradient, the step and the two new averages. -/
theorem value_adamIn : @Cert.algebraic_AdamInIdeal_AdamInRefIdeal Cert.AdamInIdeal.Gen.facts Cert.AdamInRefIdeal.Gen.facts := by
  intro m g m' g' _ hagree
  refine ⟨_, _, _, _, θ_run_mono (Cert.AdamInIdeal.Value.run_blocks m g) fun r h c => ⟨(h c).1.trans (final_g m c), (h c).2.1.trans (final_d m c), (h c).2.2.1.trans (final_u m c), (h c).2.2.2.1.trans (final_v m c), (h c).2.2.2.2⟩, ?_⟩
  refine θ_run_mono (Cert.AdamInRefIdeal.Value.run (F := Ideal) m' g') fun r h c => ?_
  obtain ⟨e0, e1, e2, e3, -⟩ := hagree c
  obtain ⟨h0, h1, h2, h3, hk⟩ := h c
  refine ⟨h0.trans ?_, h1.trans ?_, h2.trans ?_, h3.trans ?_, hk⟩
  · rw [Cert.AdamInRefIdeal.Read.val_main_v0_eq, e1]
  · rw [Cert.AdamInRefIdeal.Read.val_main_v25_eq, e0, e1, e2, e3]
  · rw [Cert.AdamInRefIdeal.Read.val_main_v6_eq, e1, e2]
  · rw [Cert.AdamInRefIdeal.Read.val_main_v12_eq, e1, e3]

/-- The reference of the update of w_gate ends, its arguments unchanged and every counter at zero. -/
theorem frame_adamGateRef : @Cert.quiescent_AdamGateRefIdeal Cert.AdamGateRefIdeal.Gen.facts := fun m g _ =>
  θ_run_mono (Cert.AdamGateRefIdeal.Value.run (F := Ideal) m g)
    fun r h => ⟨fun c => (h c).2.2.2.2, sem_eq_zero_of_no_sems (by decide) r.2⟩

open Cert.AdamGateIdeal.Update in
/-- The kernel of the update of w_gate leaves the gradient, the step and the two new averages. -/
theorem value_adamGate : @Cert.algebraic_AdamGateIdeal_AdamGateRefIdeal Cert.AdamGateIdeal.Gen.facts Cert.AdamGateRefIdeal.Gen.facts := by
  intro m g m' g' _ hagree
  refine ⟨_, _, _, _, θ_run_mono (Cert.AdamGateIdeal.Value.run_blocks m g) fun r h c => ⟨(h c).1.trans (final_g m c), (h c).2.1.trans (final_d m c), (h c).2.2.1.trans (final_u m c), (h c).2.2.2.1.trans (final_v m c), (h c).2.2.2.2⟩, ?_⟩
  refine θ_run_mono (Cert.AdamGateRefIdeal.Value.run (F := Ideal) m' g') fun r h c => ?_
  obtain ⟨e0, e1, e2, e3, -⟩ := hagree c
  obtain ⟨h0, h1, h2, h3, hk⟩ := h c
  refine ⟨h0.trans ?_, h1.trans ?_, h2.trans ?_, h3.trans ?_, hk⟩
  · rw [Cert.AdamGateRefIdeal.Read.val_main_v0_eq, e1]
  · rw [Cert.AdamGateRefIdeal.Read.val_main_v25_eq, e0, e1, e2, e3]
  · rw [Cert.AdamGateRefIdeal.Read.val_main_v6_eq, e1, e2]
  · rw [Cert.AdamGateRefIdeal.Read.val_main_v12_eq, e1, e3]

/-- The reference of the update of w_mem_kv ends, its arguments unchanged and every counter at zero. -/
theorem frame_adamMemKvRef : @Cert.quiescent_AdamMemKvRefIdeal Cert.AdamMemKvRefIdeal.Gen.facts := fun m g _ =>
  θ_run_mono (Cert.AdamMemKvRefIdeal.Value.run (F := Ideal) m g)
    fun r h => ⟨fun c => (h c).2.2.2.2, sem_eq_zero_of_no_sems (by decide) r.2⟩

open Cert.AdamMemKvIdeal.Update in
/-- The kernel of the update of w_mem_kv leaves the gradient, the step and the two new averages. -/
theorem value_adamMemKv : @Cert.algebraic_AdamMemKvIdeal_AdamMemKvRefIdeal Cert.AdamMemKvIdeal.Gen.facts Cert.AdamMemKvRefIdeal.Gen.facts := by
  intro m g m' g' _ hagree
  refine ⟨_, _, _, _, θ_run_mono (Cert.AdamMemKvIdeal.Value.run_blocks m g) fun r h c => ⟨(h c).1.trans (final_g m c), (h c).2.1.trans (final_d m c), (h c).2.2.1.trans (final_u m c), (h c).2.2.2.1.trans (final_v m c), (h c).2.2.2.2⟩, ?_⟩
  refine θ_run_mono (Cert.AdamMemKvRefIdeal.Value.run (F := Ideal) m' g') fun r h c => ?_
  obtain ⟨e0, e1, e2, e3, -⟩ := hagree c
  obtain ⟨h0, h1, h2, h3, hk⟩ := h c
  refine ⟨h0.trans ?_, h1.trans ?_, h2.trans ?_, h3.trans ?_, hk⟩
  · rw [Cert.AdamMemKvRefIdeal.Read.val_main_v0_eq, e1]
  · rw [Cert.AdamMemKvRefIdeal.Read.val_main_v25_eq, e0, e1, e2, e3]
  · rw [Cert.AdamMemKvRefIdeal.Read.val_main_v6_eq, e1, e2]
  · rw [Cert.AdamMemKvRefIdeal.Read.val_main_v12_eq, e1, e3]

/-- The reference of the update of w_branch ends, its arguments unchanged and every counter at zero. -/
theorem frame_adamBranchRef : @Cert.quiescent_AdamBranchRefIdeal Cert.AdamBranchRefIdeal.Gen.facts := fun m g _ =>
  θ_run_mono (Cert.AdamBranchRefIdeal.Value.run (F := Ideal) m g)
    fun r h => ⟨fun c => (h c).2.2.2.2, sem_eq_zero_of_no_sems (by decide) r.2⟩

open Cert.AdamBranchIdeal.Update in
/-- The kernel of the update of w_branch leaves the gradient, the step and the two new averages. -/
theorem value_adamBranch : @Cert.algebraic_AdamBranchIdeal_AdamBranchRefIdeal Cert.AdamBranchIdeal.Gen.facts Cert.AdamBranchRefIdeal.Gen.facts := by
  intro m g m' g' _ hagree
  refine ⟨_, _, _, _, θ_run_mono (Cert.AdamBranchIdeal.Value.run_blocks m g) fun r h c => ⟨(h c).1.trans (final_g m c), (h c).2.1.trans (final_d m c), (h c).2.2.1.trans (final_u m c), (h c).2.2.2.1.trans (final_v m c), (h c).2.2.2.2⟩, ?_⟩
  refine θ_run_mono (Cert.AdamBranchRefIdeal.Value.run (F := Ideal) m' g') fun r h c => ?_
  obtain ⟨e0, e1, e2, e3, -⟩ := hagree c
  obtain ⟨h0, h1, h2, h3, hk⟩ := h c
  refine ⟨h0.trans ?_, h1.trans ?_, h2.trans ?_, h3.trans ?_, hk⟩
  · rw [Cert.AdamBranchRefIdeal.Read.val_main_v0_eq, e1]
  · rw [Cert.AdamBranchRefIdeal.Read.val_main_v25_eq, e0, e1, e2, e3]
  · rw [Cert.AdamBranchRefIdeal.Read.val_main_v6_eq, e1, e2]
  · rw [Cert.AdamBranchRefIdeal.Read.val_main_v12_eq, e1, e3]

/-- The reference of the update of w_out ends, its arguments unchanged and every counter at zero. -/
theorem frame_adamOutRef : @Cert.quiescent_AdamOutRefIdeal Cert.AdamOutRefIdeal.Gen.facts := fun m g _ =>
  θ_run_mono (Cert.AdamOutRefIdeal.Value.run (F := Ideal) m g)
    fun r h => ⟨fun c => (h c).2.2.2.2, sem_eq_zero_of_no_sems (by decide) r.2⟩

open Cert.AdamOutIdeal.Update in
/-- The kernel of the update of w_out leaves the gradient, the step and the two new averages. -/
theorem value_adamOut : @Cert.algebraic_AdamOutIdeal_AdamOutRefIdeal Cert.AdamOutIdeal.Gen.facts Cert.AdamOutRefIdeal.Gen.facts := by
  intro m g m' g' _ hagree
  refine ⟨_, _, _, _, θ_run_mono (Cert.AdamOutIdeal.Value.run_blocks m g) fun r h c => ⟨(h c).1.trans (final_g m c), (h c).2.1.trans (final_d m c), (h c).2.2.1.trans (final_u m c), (h c).2.2.2.1.trans (final_v m c), (h c).2.2.2.2⟩, ?_⟩
  refine θ_run_mono (Cert.AdamOutRefIdeal.Value.run (F := Ideal) m' g') fun r h c => ?_
  obtain ⟨e0, e1, e2, e3, -⟩ := hagree c
  obtain ⟨h0, h1, h2, h3, hk⟩ := h c
  refine ⟨h0.trans ?_, h1.trans ?_, h2.trans ?_, h3.trans ?_, hk⟩
  · rw [Cert.AdamOutRefIdeal.Read.val_main_v0_eq, e1]
  · rw [Cert.AdamOutRefIdeal.Read.val_main_v25_eq, e0, e1, e2, e3]
  · rw [Cert.AdamOutRefIdeal.Read.val_main_v6_eq, e1, e2]
  · rw [Cert.AdamOutRefIdeal.Read.val_main_v12_eq, e1, e3]

/-- The reference of the update of w_ffn_out ends, its arguments unchanged and every counter at zero. -/
theorem frame_adamFfnOutRef : @Cert.quiescent_AdamFfnOutRefIdeal Cert.AdamFfnOutRefIdeal.Gen.facts := fun m g _ =>
  θ_run_mono (Cert.AdamFfnOutRefIdeal.Value.run (F := Ideal) m g)
    fun r h => ⟨fun c => (h c).2.2.2.2, sem_eq_zero_of_no_sems (by decide) r.2⟩

open Cert.AdamFfnOutIdeal.Update in
/-- The kernel of the update of w_ffn_out leaves the gradient, the step and the two new averages. -/
theorem value_adamFfnOut : @Cert.algebraic_AdamFfnOutIdeal_AdamFfnOutRefIdeal Cert.AdamFfnOutIdeal.Gen.facts Cert.AdamFfnOutRefIdeal.Gen.facts := by
  intro m g m' g' _ hagree
  refine ⟨_, _, _, _, θ_run_mono (Cert.AdamFfnOutIdeal.Value.run_blocks m g) fun r h c => ⟨(h c).1.trans (final_g m c), (h c).2.1.trans (final_d m c), (h c).2.2.1.trans (final_u m c), (h c).2.2.2.1.trans (final_v m c), (h c).2.2.2.2⟩, ?_⟩
  refine θ_run_mono (Cert.AdamFfnOutRefIdeal.Value.run (F := Ideal) m' g') fun r h c => ?_
  obtain ⟨e0, e1, e2, e3, -⟩ := hagree c
  obtain ⟨h0, h1, h2, h3, hk⟩ := h c
  refine ⟨h0.trans ?_, h1.trans ?_, h2.trans ?_, h3.trans ?_, hk⟩
  · rw [Cert.AdamFfnOutRefIdeal.Read.val_main_v0_eq, e1]
  · rw [Cert.AdamFfnOutRefIdeal.Read.val_main_v25_eq, e0, e1, e2, e3]
  · rw [Cert.AdamFfnOutRefIdeal.Read.val_main_v6_eq, e1, e2]
  · rw [Cert.AdamFfnOutRefIdeal.Read.val_main_v12_eq, e1, e3]

/-- The claims. -/
theorem claim : Cert.Claim := ⟨Cert.Gate.Gen.facts, Cert.GateIdeal.Gen.facts, Cert.GateRefIdeal.Gen.facts,
  Cert.Ffn.Gen.facts, Cert.FfnIdeal.Gen.facts, Cert.FfnRefIdeal.Gen.facts,
  Cert.FfnDx.Gen.facts, Cert.FfnDxIdeal.Gen.facts, Cert.FfnDxRefIdeal.Gen.facts,
  Cert.GateDx.Gen.facts, Cert.GateDxIdeal.Gen.facts, Cert.GateDxRefIdeal.Gen.facts,
  Cert.InDx.Gen.facts, Cert.InDxIdeal.Gen.facts, Cert.InDxRefIdeal.Gen.facts,
  Cert.FfnOut.Gen.facts, Cert.FfnOutIdeal.Gen.facts, Cert.FfnOutRefIdeal.Gen.facts,
  Cert.Mix.Gen.facts, Cert.MixIdeal.Gen.facts, Cert.MixRefIdeal.Gen.facts,
  Cert.ProjDw.Gen.facts, Cert.ProjDwIdeal.Gen.facts, Cert.ProjDwRefIdeal.Gen.facts,
  Cert.RmsBwd.Gen.facts, Cert.RmsBwdIdeal.Gen.facts, Cert.RmsBwdRefIdeal.Gen.facts,
  Cert.MemAttn.Gen.facts, Cert.MemAttnIdeal.Gen.facts, Cert.MemAttnRefIdeal.Gen.facts,
  Cert.Ret.Gen.facts, Cert.RetIdeal.Gen.facts, Cert.RetRefIdeal.Gen.facts,
  Cert.MemProj.Gen.facts, Cert.MemProjIdeal.Gen.facts, Cert.MemProjRefIdeal.Gen.facts,
  Cert.RmsFfn.Gen.facts, Cert.RmsFfnIdeal.Gen.facts, Cert.RmsFfnRefIdeal.Gen.facts,
  Cert.Loss.Gen.facts, Cert.LossIdeal.Gen.facts, Cert.LossRefIdeal.Gen.facts,
  Cert.Small.Gen.facts, Cert.SmallIdeal.Gen.facts, Cert.SmallRefIdeal.Gen.facts,
  Cert.AdamFfnIn.Gen.facts, Cert.AdamFfnInIdeal.Gen.facts, Cert.AdamFfnInRefIdeal.Gen.facts,
  Cert.AdamIn.Gen.facts, Cert.AdamInIdeal.Gen.facts, Cert.AdamInRefIdeal.Gen.facts,
  Cert.AdamGate.Gen.facts, Cert.AdamGateIdeal.Gen.facts, Cert.AdamGateRefIdeal.Gen.facts,
  Cert.AdamMemKv.Gen.facts, Cert.AdamMemKvIdeal.Gen.facts, Cert.AdamMemKvRefIdeal.Gen.facts,
  Cert.AdamBranch.Gen.facts, Cert.AdamBranchIdeal.Gen.facts, Cert.AdamBranchRefIdeal.Gen.facts,
  Cert.AdamOut.Gen.facts, Cert.AdamOutIdeal.Gen.facts, Cert.AdamOutRefIdeal.Gen.facts,
  Cert.AdamFfnOut.Gen.facts, Cert.AdamFfnOutIdeal.Gen.facts, Cert.AdamFfnOutRefIdeal.Gen.facts,
  frame_gate, fun m ρ _ => Cert.GateIdeal.Merge.frame m ρ, frame_gateRef,
  fun m ρ _ => Cert.Ffn.Gen.frame m ρ, fun m ρ _ => Cert.FfnIdeal.Gen.frame m ρ, frame_ffnRef,
  fun m ρ _ => Cert.FfnDx.Gen.frame m ρ, fun m ρ _ => Cert.FfnDxIdeal.Gen.frame m ρ, frame_ffnDxRef,
  fun m ρ _ => Cert.GateDx.Gen.frame m ρ, fun m ρ _ => Cert.GateDxIdeal.Gen.frame m ρ, frame_gateDxRef,
  fun m ρ _ => Cert.InDx.Gen.frame m ρ, fun m ρ _ => Cert.InDxIdeal.Gen.frame m ρ, frame_inDxRef,
  fun m ρ _ => Cert.FfnOut.Gen.frame m ρ, fun m ρ _ => Cert.FfnOutIdeal.Gen.frame m ρ, frame_ffnOutRef,
  fun m ρ _ => Cert.Mix.Gen.frame m ρ, fun m ρ _ => Cert.MixIdeal.Gen.frame m ρ, frame_mixRef,
  fun m ρ _ => Cert.ProjDw.Gen.frame m ρ, fun m ρ _ => Cert.ProjDwIdeal.Gen.frame m ρ, frame_projDwRef,
  fun m ρ _ => Cert.RmsBwd.Gen.frame m ρ, fun m ρ _ => Cert.RmsBwdIdeal.Gen.frame m ρ, frame_rmsBwdRef,
  fun m ρ _ => Cert.MemAttn.Gen.frame m ρ, fun m ρ _ => Cert.MemAttnIdeal.Gen.frame m ρ, frame_memAttnRef,
  fun m ρ _ => Cert.Ret.Gen.frame m ρ, fun m ρ _ => Cert.RetIdeal.Gen.frame m ρ, frame_retRef,
  fun m ρ _ => Cert.MemProj.Gen.frame m ρ, fun m ρ _ => Cert.MemProjIdeal.Gen.frame m ρ, frame_memProjRef,
  fun m ρ _ => Cert.RmsFfn.Gen.frame m ρ, fun m ρ _ => Cert.RmsFfnIdeal.Gen.frame m ρ, frame_rmsFfnRef,
  fun m ρ _ => Cert.Loss.Gen.frame m ρ, fun m ρ _ => Cert.LossIdeal.Gen.frame m ρ, frame_lossRef,
  fun m ρ _ => Cert.Small.Gen.frame m ρ, fun m ρ _ => Cert.SmallIdeal.Gen.frame m ρ, frame_smallRef,
  fun m ρ _ => Cert.AdamFfnIn.Gen.frame m ρ, fun m ρ _ => Cert.AdamFfnInIdeal.Gen.frame m ρ, frame_adamFfnInRef,
  fun m ρ _ => Cert.AdamIn.Gen.frame m ρ, fun m ρ _ => Cert.AdamInIdeal.Gen.frame m ρ, frame_adamInRef,
  fun m ρ _ => Cert.AdamGate.Gen.frame m ρ, fun m ρ _ => Cert.AdamGateIdeal.Gen.frame m ρ, frame_adamGateRef,
  fun m ρ _ => Cert.AdamMemKv.Gen.frame m ρ, fun m ρ _ => Cert.AdamMemKvIdeal.Gen.frame m ρ, frame_adamMemKvRef,
  fun m ρ _ => Cert.AdamBranch.Gen.frame m ρ, fun m ρ _ => Cert.AdamBranchIdeal.Gen.frame m ρ, frame_adamBranchRef,
  fun m ρ _ => Cert.AdamOut.Gen.frame m ρ, fun m ρ _ => Cert.AdamOutIdeal.Gen.frame m ρ, frame_adamOutRef,
  fun m ρ _ => Cert.AdamFfnOut.Gen.frame m ρ, fun m ρ _ => Cert.AdamFfnOutIdeal.Gen.frame m ρ, frame_adamFfnOutRef,
  trivial, value_gate, trivial, value_ffn, trivial, value_ffnDx, trivial, value_gateDx, trivial, value_inDx, trivial, value_ffnOut, trivial, value_mix, trivial, value_projDw, trivial, value_rmsBwd, trivial, value_memAttn, trivial, value_ret, trivial, value_memProj, trivial, value_rmsFfn, trivial, value_loss,
  trivial, value_small, trivial, value_adamFfnIn, trivial, value_adamIn, trivial, value_adamGate, trivial, value_adamMemKv, trivial, value_adamBranch, trivial, value_adamOut, trivial, value_adamFfnOut⟩

end Cert.Proof

end
